-- ==== Defs.lean ====
def Pre_Kernel [hPre_rows_permuted : Cert.Pre_rows_permuted.Facts] (m : (ℓ : Loc Cert.Kernel.nD Cert.Kernel.τ Cert.Kernel.sig) → Buf (Elt Bits) ℓ) : Prop :=
  ∀ c : Dev Cert.Kernel.nD,
    (Cert.Pre_rows_permuted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_rows_permuted : Cert.Pre_rows_permuted.Facts] (m : (ℓ : Loc Cert.KernelIdeal.nD Cert.KernelIdeal.τ Cert.KernelIdeal.sig) → Buf (Elt Ideal) ℓ) : Prop :=
  ∀ c : Dev Cert.KernelIdeal.nD,
    (Cert.Pre_rows_permuted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_permuted [hPre_rows_permuted : Cert.Pre_rows_permuted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_permuted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_exist [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_rows_exist : Cert.Pre_rows_exist.Facts] (m : (ℓ : Loc Cert.Kernel3.nD Cert.Kernel3.τ Cert.Kernel3.sig) → Buf (Elt Bits) ℓ) : Prop :=
  ∀ c : Dev Cert.Kernel3.nD,
    (Cert.Pre_rows_exist.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_rows_exist : Cert.Pre_rows_exist.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_rows_exist [hPre_rows_exist : Cert.Pre_rows_exist.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_rows_permuted : Cert.Pre_rows_permuted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_rows_permuted : Cert.Pre_rows_permuted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_permuted [hReferenceIdeal : Cert.ReferenceIdeal.Facts] [hPre_rows_permuted : Cert.Pre_rows_permuted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_permuted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_exist [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_exist m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_rows_exist : Cert.Pre_rows_exist.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_rows_exist : Cert.Pre_rows_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_rows_exist [hReference3Ideal : Cert.Reference3Ideal.Facts] [hPre_rows_exist : Cert.Pre_rows_exist.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_rows_exist m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_permuted : Cert.Pre_rows_permuted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v137) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_rows_exist : Cert.Pre_rows_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v59_0)) (v1 : (c : Dev Cert.Kernel5Ideal.nD) → Buf (Elt Ideal) ((c.tc : Thread Cert.Kernel5Ideal.nD Cert.Kernel5Ideal.τ).loc Cert.Kernel5Ideal.main_v59_1)) (v2 : (c : Dev Cert.Kernel5Ideal.nD) → Buf (Elt Ideal) ((c.tc : Thread Cert.Kernel5Ideal.nD Cert.Kernel5Ideal.τ).loc Cert.Kernel5Ideal.main_v59_2)) (v3 : (c : Dev Cert.Kernel5Ideal.nD) → Buf (Elt Ideal) ((c.tc : Thread Cert.Kernel5Ideal.nD Cert.Kernel5Ideal.τ).loc Cert.Kernel5Ideal.main_v59_3)) (v4 : (c : Dev Cert.Kernel5Ideal.nD) → Buf (Elt Ideal) ((c.tc : Thread Cert.Kernel5Ideal.nD Cert.Kernel5Ideal.τ).loc Cert.Kernel5Ideal.main_v59_4)) (v5 : (c : Dev Cert.Kernel5Ideal.nD) → Buf (Elt Ideal) ((c.tc : Thread Cert.Kernel5Ideal.nD Cert.Kernel5Ideal.τ).loc Cert.Kernel5Ideal.main_v59_5)) (v6 : (c : Dev Cert.Kernel5Ideal.nD) → Buf (Elt Ideal) ((c.tc : Thread Cert.Kernel5Ideal.nD Cert.Kernel5Ideal.τ).loc Cert.Kernel5Ideal.main_v59_6)) (v7 : (c : Dev Cert.Kernel5Ideal.nD) → Buf (Elt Ideal) ((c.tc : Thread Cert.Kernel5Ideal.nD Cert.Kernel5Ideal.τ).loc Cert.Kernel5Ideal.main_v59_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v59_0) = v0 c
          ∧ r.2.mem ((c.tc : Thread Cert.Kernel5Ideal.nD Cert.Kernel5Ideal.τ).loc Cert.Kernel5Ideal.main_v59_1) = v1 c
          ∧ r.2.mem ((c.tc : Thread Cert.Kernel5Ideal.nD Cert.Kernel5Ideal.τ).loc Cert.Kernel5Ideal.main_v59_2) = v2 c
          ∧ r.2.mem ((c.tc : Thread Cert.Kernel5Ideal.nD Cert.Kernel5Ideal.τ).loc Cert.Kernel5Ideal.main_v59_3) = v3 c
          ∧ r.2.mem ((c.tc : Thread Cert.Kernel5Ideal.nD Cert.Kernel5Ideal.τ).loc Cert.Kernel5Ideal.main_v59_4) = v4 c
          ∧ r.2.mem ((c.tc : Thread Cert.Kernel5Ideal.nD Cert.Kernel5Ideal.τ).loc Cert.Kernel5Ideal.main_v59_5) = v5 c
          ∧ r.2.mem ((c.tc : Thread Cert.Kernel5Ideal.nD Cert.Kernel5Ideal.τ).loc Cert.Kernel5Ideal.main_v59_6) = v6 c
          ∧ r.2.mem ((c.tc : Thread Cert.Kernel5Ideal.nD Cert.Kernel5Ideal.τ).loc Cert.Kernel5Ideal.main_v59_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v146) = v0 c
          ∧ r.2.mem ((c.tc : Thread Cert.Reference5Ideal.nD Cert.Reference5Ideal.τ).loc Cert.Reference5Ideal.main_v150) = v1 c
          ∧ r.2.mem ((c.tc : Thread Cert.Reference5Ideal.nD Cert.Reference5Ideal.τ).loc Cert.Reference5Ideal.main_v152) = v2 c
          ∧ r.2.mem ((c.tc : Thread Cert.Reference5Ideal.nD Cert.Reference5Ideal.τ).loc Cert.Reference5Ideal.main_v154) = v3 c
          ∧ r.2.mem ((c.tc : Thread Cert.Reference5Ideal.nD Cert.Reference5Ideal.τ).loc Cert.Reference5Ideal.main_v157) = v4 c
          ∧ r.2.mem ((c.tc : Thread Cert.Reference5Ideal.nD Cert.Reference5Ideal.τ).loc Cert.Reference5Ideal.main_v135) = v5 c
          ∧ r.2.mem ((c.tc : Thread Cert.Reference5Ideal.nD Cert.Reference5Ideal.τ).loc Cert.Reference5Ideal.main_v140) = v6 c
          ∧ r.2.mem ((c.tc : Thread Cert.Reference5Ideal.nD Cert.Reference5Ideal.τ).loc Cert.Reference5Ideal.main_v159) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_rows_permuted : Cert.Pre_rows_permuted.Facts) (hPre_experts_exist : Cert.Pre_experts_exist.Facts) (hPre_rows_exist : Cert.Pre_rows_exist.Facts),
    quiescent_Kernel (hKernel := hKernel) (hPre_rows_permuted := hPre_rows_permuted)
    ∧ quiescent_KernelIdeal (hKernelIdeal := hKernelIdeal) (hPre_rows_permuted := hPre_rows_permuted)
    ∧ quiescent_ReferenceIdeal (hReferenceIdeal := hReferenceIdeal)
    ∧ quiescent_ReferenceIdeal_pre_rows_permuted (hReferenceIdeal := hReferenceIdeal) (hPre_rows_permuted := hPre_rows_permuted)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal)
    ∧ quiescent_Reference2Ideal_pre_experts_exist (hReference2Ideal := hReference2Ideal) (hPre_experts_exist := hPre_experts_exist)
    ∧ quiescent_Kernel3 (hKernel3 := hKernel3) (hPre_rows_exist := hPre_rows_exist)
    ∧ quiescent_Kernel3Ideal (hKernel3Ideal := hKernel3Ideal) (hPre_rows_exist := hPre_rows_exist)
    ∧ quiescent_Reference3Ideal (hReference3Ideal := hReference3Ideal)
    ∧ quiescent_Reference3Ideal_pre_rows_exist (hReference3Ideal := hReference3Ideal) (hPre_rows_exist := hPre_rows_exist)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_rows_permuted := hPre_rows_permuted)
    ∧ preserves_Kernel2_Kernel2Ideal
    ∧ algebraic_Kernel2Ideal_Reference2Ideal (hKernel2Ideal := hKernel2Ideal) (hReference2Ideal := hReference2Ideal) (hPre_experts_exist := hPre_experts_exist)
    ∧ preserves_Kernel3_Kernel3Ideal
    ∧ algebraic_Kernel3Ideal_Reference3Ideal (hKernel3Ideal := hKernel3Ideal) (hReference3Ideal := hReference3Ideal) (hPre_rows_exist := hPre_rows_exist)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts_exist.lean ====
abbrev S72 : Shape := ⟨1, ![72]⟩
abbrev S1 : Shape := ⟨1, ![1]⟩
abbrev S294912x128 : Shape := ⟨2, ![294912, 128]⟩
abbrev S1x8x1024x2816 : Shape := ⟨4, ![1, 8, 1024, 2816]⟩
abbrev S1x8x2816x1024 : Shape := ⟨4, ![1, 8, 2816, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S72 32) (main_arg1 : IVec S1 32) (main_arg2 : FVec F S294912x128 .f32) (main_arg3 : FVec F S1x8x1024x2816 .f32) (main_arg4 : FVec F S1x8x1024x2816 .f32) (main_arg5 : FVec F S1x8x2816x1024 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_rows_exist.lean ====
abbrev S32768 : Shape := ⟨1, ![32768]⟩
abbrev S294912x128 : Shape := ⟨2, ![294912, 128]⟩
abbrev S8x16384 : Shape := ⟨2, ![8, 16384]⟩
abbrev S16384x1024 : Shape := ⟨2, ![16384, 1024]⟩
abbrev S8x6144 : Shape := ⟨2, ![8, 6144]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : FVec F S294912x128 .f32) (main_arg2 : FVec F S8x16384 .f32) (main_arg3 : FVec F S16384x1024 .f32) (main_arg4 : FVec F S8x6144 .f32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 36864#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Pre_rows_permuted.lean ====
abbrev S32768 : Shape := ⟨1, ![32768]⟩
abbrev S4096 : Shape := ⟨1, ![4096]⟩
abbrev S16384x1024 : Shape := ⟨2, ![16384, 1024]⟩
abbrev S8x6144 : Shape := ⟨2, ![8, 6144]⟩
abbrev S1x1024 : Shape := ⟨2, ![1, 1024]⟩
abbrev S36864 : Shape := ⟨1, ![36864]⟩
abbrev S_ : Shape := ⟨0, ![]⟩

class Facts : Prop where
  concatenates_S32768_S4096_S36864_d0 : Shape.Concatenates [S32768, S4096] S36864 0
  reducesTo_S36864_S_d0 : S36864.ReducesTo [0] S_
  h_S_ : 0 < S_.numel

variable [Facts]

def comparator_i32_d0 : BitVec 32 → BitVec 32 → BitVec 1 :=
  fun l r =>
    let v5 := IntOp.cmpi .slt l r
    v5
def fn {F : FTy → Type} [FloatOps F] (main_arg0 : IVec S32768 32) (main_arg1 : IVec S4096 32) (main_arg2 : FVec F S16384x1024 .f32) (main_arg3 : FVec F S8x6144 .f32) (main_arg4 : FVec F S1x1024 .f32) : IVec S_ 1 :=
  let main_v0 : IVec S36864 32 := (fun a b => concatenate S36864 0 [⟨S32768, a⟩, ⟨S4096, b⟩] concatenates_S32768_S4096_S36864_d0) main_arg0 main_arg1
  let main_v1 : IVec S36864 32 := (fun x => Host.sort S36864 0 comparator_i32_d0 x) main_v0
  let main_v2 : IVec S36864 32 := iotaInDim S36864 32 0
  let main_v3 : IVec S36864 1 := cmpi .eq main_v1 main_v2
  let main_c : IVec S_ 1 := constantI S_ 1 1#1
  let main_v4 : IVec S_ 1 := (fun x v => Host.reduce IntOp.andi x v reducesTo_S36864_S_d0 h_S_) main_v3 main_c
  main_v4
-- ==== Kernel.lean ====
abbrev S32768 : Shape := ⟨1, ![32768]⟩
abbrev S4096 : Shape := ⟨1, ![4096]⟩
abbrev S16384x1024 : Shape := ⟨2, ![16384, 1024]⟩
abbrev S8x6144 : Shape := ⟨2, ![8, 6144]⟩
abbrev S1x1024 : Shape := ⟨2, ![1, 1024]⟩
abbrev S294912x128 : Shape := ⟨2, ![294912, 128]⟩
abbrev S512x1024 : Shape := ⟨2, ![512, 1024]⟩
abbrev S4096x128 : Shape := ⟨2, ![4096, 128]⟩
abbrev S8x128 : Shape := ⟨2, ![8, 128]⟩
abbrev S_ : Shape := ⟨0, ![]⟩
abbrev S512 : Shape := ⟨1, ![512]⟩
abbrev S512x1 : Shape := ⟨2, ![512, 1]⟩
abbrev S512x128 : Shape := ⟨2, ![512, 128]⟩
abbrev S1 : Shape := ⟨1, ![1]⟩

abbrev nBuf : Space → Nat
  | .hbm => 4
  | .vmem => 6
  | .smem => 2
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1x1024, .f32⟩
  | .hbm, ⟨3, _⟩ => ⟨S294912x128, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S4096x128, .f32⟩
  | .local _ .vmem, ⟨5, _⟩ => ⟨S8x128, .f32⟩
  | .local _ .smem, ⟨0, _⟩ => ⟨S32768, .i32⟩
  | .local _ .smem, ⟨1, _⟩ => ⟨S4096, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : Index := Scalar.indexCast v16
  let c3072 : Index := 3072#32
  ![v17.toNat, 3072]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v19 : Index := Scalar.indexCast v16
  let c4096 : Index := 4096#32
  ![v19.toNat, 4096]
def k0_cond1 (i : grid0.Coords) : BitVec 1 :=
  let arg0 : BitVec 32 := BitVec.ofNat 32 (i 0).val
  let c0_i32_19 : BitVec 32 := 0#32
  let v73 : BitVec 1 := Scalar.cmpi .eq arg0 c0_i32_19
  let v74 : BitVec 32 := Scalar.extui v73
  let c0_i32_20 : BitVec 32 := 0#32
  let v75 : BitVec 1 := Scalar.cmpi .ne v74 c0_i32_20
  v75

@[reducible] def k0_t1_loop : Scf.Loop 32 :=
  let c0_i32_41 : BitVec 32 := 0#32
  let c256_i32 : BitVec 32 := 256#32
  let v87 : BitVec 32 := Scalar.addi c0_i32_41 c256_i32
  let c1_i32_42 : BitVec 32 := 1#32
  ⟨c0_i32_41, v87, c1_i32_42⟩
def k0_off3 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_44 : BitVec 32 := 16#32
  let v88 : BitVec 32 := Scalar.muli arg11 c16_i32_44
  let c0_i32_45 : BitVec 32 := 0#32
  let v89 : BitVec 32 := Scalar.addi v88 c0_i32_45
  let v90 : Index := Scalar.indexCast v89
  ![v90.toNat]
def k0_mult1 (v91 : BitVec 32) : BitVec 32 :=
  let c8_i32 : BitVec 32 := 8#32
  let v92 : BitVec 32 := Scalar.muli v91 c8_i32
  v92

def k0_off4 (v91 : BitVec 32) : Fin 2 → Nat :=
  let c8_i32 : BitVec 32 := 8#32
  let v92 : BitVec 32 := Scalar.muli v91 c8_i32
  let v93 : BitVec 32 := v92
  let c0_i32_46 : BitVec 32 := 0#32
  ![v93.toNat, 0]

def k0_chk1 (i : grid0.Coords) (v91 : BitVec 32) : Prop :=
  (∀ (k0_h1 : k0_cond1 i = 1#1), 8 ∣ (k0_mult1 v91).toNat) ∧
  (∀ (k0_h1 : k0_cond1 i = 1#1), ∀ a, (k0_off4 v91) a + S8x128.size a ≤ S294912x128.size a)
theorem k0_mult1_dvd : ∀ (i : grid0.Coords) (v91 : BitVec 32) (k0_hw1 : k0_chk1 i v91), ∀ (k0_h1 : k0_cond1 i = 1#1), 8 ∣ (k0_mult1 v91).toNat := fun i v91 k0_hw1 k0_h1 => k0_hw1.1 k0_h1
theorem k0_off4_inb : ∀ (i : grid0.Coords) (v91 : BitVec 32) (k0_hw1 : k0_chk1 i v91), ∀ (k0_h1 : k0_cond1 i = 1#1), ∀ a, (k0_off4 v91) a + S8x128.size a ≤ S294912x128.size a := fun i v91 k0_hw1 k0_h1 => k0_hw1.2 k0_h1

def k0_off5 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_47 : BitVec 32 := 16#32
  let v95 : BitVec 32 := Scalar.muli arg11 c16_i32_47
  let c1_i32_48 : BitVec 32 := 1#32
  let v96 : BitVec 32 := Scalar.addi v95 c1_i32_48
  let v97 : Index := Scalar.indexCast v96
  ![v97.toNat]
def k0_mult2 (v98 : BitVec 32) : BitVec 32 :=
  let c8_i32_49 : BitVec 32 := 8#32
  let v99 : BitVec 32 := Scalar.muli v98 c8_i32_49
  v99

def k0_off6 (v98 : BitVec 32) : Fin 2 → Nat :=
  let c8_i32_49 : BitVec 32 := 8#32
  let v99 : BitVec 32 := Scalar.muli v98 c8_i32_49
  let v100 : BitVec 32 := v99
  let c0_i32_50 : BitVec 32 := 0#32
  ![v100.toNat, 0]

def k0_chk2 (i : grid0.Coords) (v98 : BitVec 32) : Prop :=
  (∀ (k0_h1 : k0_cond1 i = 1#1), 8 ∣ (k0_mult2 v98).toNat) ∧
  (∀ (k0_h1 : k0_cond1 i = 1#1), ∀ a, (k0_off6 v98) a + S8x128.size a ≤ S294912x128.size a)
theorem k0_mult2_dvd : ∀ (i : grid0.Coords) (v98 : BitVec 32) (k0_hw2 : k0_chk2 i v98), ∀ (k0_h1 : k0_cond1 i = 1#1), 8 ∣ (k0_mult2 v98).toNat := fun i v98 k0_hw2 k0_h1 => k0_hw2.1 k0_h1
theorem k0_off6_inb : ∀ (i : grid0.Coords) (v98 : BitVec 32) (k0_hw2 : k0_chk2 i v98), ∀ (k0_h1 : k0_cond1 i = 1#1), ∀ a, (k0_off6 v98) a + S8x128.size a ≤ S294912x128.size a := fun i v98 k0_hw2 k0_h1 => k0_hw2.2 k0_h1

def k0_off7 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_51 : BitVec 32 := 16#32
  let v102 : BitVec 32 := Scalar.muli arg11 c16_i32_51
  let c2_i32 : BitVec 32 := 2#32
  let v103 : BitVec 32 := Scalar.addi v102 c2_i32
  let v104 : Index := Scalar.indexCast v103
  ![v104.toNat]
def k0_mult3 (v105 : BitVec 32) : BitVec 32 :=
  let c8_i32_52 : BitVec 32 := 8#32
  let v106 : BitVec 32 := Scalar.muli v105 c8_i32_52
  v106

def k0_off8 (v105 : BitVec 32) : Fin 2 → Nat :=
  let c8_i32_52 : BitVec 32 := 8#32
  let v106 : BitVec 32 := Scalar.muli v105 c8_i32_52
  let v107 : BitVec 32 := v106
  let c0_i32_53 : BitVec 32 := 0#32
  ![v107.toNat, 0]

def k0_chk3 (i : grid0.Coords) (v105 : BitVec 32) : Prop :=
  (∀ (k0_h1 : k0_cond1 i = 1#1), 8 ∣ (k0_mult3 v105).toNat) ∧
  (∀ (k0_h1 : k0_cond1 i = 1#1), ∀ a, (k0_off8 v105) a + S8x128.size a ≤ S294912x128.size a)
theorem k0_mult3_dvd : ∀ (i : grid0.Coords) (v105 : BitVec 32) (k0_hw3 : k0_chk3 i v105), ∀ (k0_h1 : k0_cond1 i = 1#1), 8 ∣ (k0_mult3 v105).toNat := fun i v105 k0_hw3 k0_h1 => k0_hw3.1 k0_h1
theorem k0_off8_inb : ∀ (i : grid0.Coords) (v105 : BitVec 32) (k0_hw3 : k0_chk3 i v105), ∀ (k0_h1 : k0_cond1 i = 1#1), ∀ a, (k0_off8 v105) a + S8x128.size a ≤ S294912x128.size a := fun i v105 k0_hw3 k0_h1 => k0_hw3.2 k0_h1

def k0_off9 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_54 : BitVec 32 := 16#32
  let v109 : BitVec 32 := Scalar.muli arg11 c16_i32_54
  let c3_i32 : BitVec 32 := 3#32
  let v110 : BitVec 32 := Scalar.addi v109 c3_i32
  let v111 : Index := Scalar.indexCast v110
  ![v111.toNat]
def k0_mult4 (v112 : BitVec 32) : BitVec 32 :=
  let c8_i32_55 : BitVec 32 := 8#32
  let v113 : BitVec 32 := Scalar.muli v112 c8_i32_55
  v113

def k0_off10 (v112 : BitVec 32) : Fin 2 → Nat :=
  let c8_i32_55 : BitVec 32 := 8#32
  let v113 : BitVec 32 := Scalar.muli v112 c8_i32_55
  let v114 : BitVec 32 := v113
  let c0_i32_56 : BitVec 32 := 0#32
  ![v114.toNat, 0]

def k0_chk4 (i : grid0.Coords) (v112 : BitVec 32) : Prop :=
  (∀ (k0_h1 : k0_cond1 i = 1#1), 8 ∣ (k0_mult4 v112).toNat) ∧
  (∀ (k0_h1 : k0_cond1 i = 1#1), ∀ a, (k0_off10 v112) a + S8x128.size a ≤ S294912x128.size a)
theorem k0_mult4_dvd : ∀ (i : grid0.Coords) (v112 : BitVec 32) (k0_hw4 : k0_chk4 i v112), ∀ (k0_h1 : k0_cond1 i = 1#1), 8 ∣ (k0_mult4 v112).toNat := fun i v112 k0_hw4 k0_h1 => k0_hw4.1 k0_h1
theorem k0_off10_inb : ∀ (i : grid0.Coords) (v112 : BitVec 32) (k0_hw4 : k0_chk4 i v112), ∀ (k0_h1 : k0_cond1 i = 1#1), ∀ a, (k0_off10 v112) a + S8x128.size a ≤ S294912x128.size a := fun i v112 k0_hw4 k0_h1 => k0_hw4.2 k0_h1

def k0_off11 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_57 : BitVec 32 := 16#32
  let v116 : BitVec 32 := Scalar.muli arg11 c16_i32_57
  let c4_i32 : BitVec 32 := 4#32
  let v117 : BitVec 32 := Scalar.addi v116 c4_i32
  let v118 : Index := Scalar.indexCast v117
  ![v118.toNat]
def k0_mult5 (v119 : BitVec 32) : BitVec 32 :=
  let c8_i32_58 : BitVec 32 := 8#32
  let v120 : BitVec 32 := Scalar.muli v119 c8_i32_58
  v120

def k0_off12 (v119 : BitVec 32) : Fin 2 → Nat :=
  let c8_i32_58 : BitVec 32 := 8#32
  let v120 : BitVec 32 := Scalar.muli v119 c8_i32_58
  let v121 : BitVec 32 := v120
  let c0_i32_59 : BitVec 32 := 0#32
  ![v121.toNat, 0]

def k0_chk5 (i : grid0.Coords) (v119 : BitVec 32) : Prop :=
  (∀ (k0_h1 : k0_cond1 i = 1#1), 8 ∣ (k0_mult5 v119).toNat) ∧
  (∀ (k0_h1 : k0_cond1 i = 1#1), ∀ a, (k0_off12 v119) a + S8x128.size a ≤ S294912x128.size a)
theorem k0_mult5_dvd : ∀ (i : grid0.Coords) (v119 : BitVec 32) (k0_hw5 : k0_chk5 i v119), ∀ (k0_h1 : k0_cond1 i = 1#1), 8 ∣ (k0_mult5 v119).toNat := fun i v119 k0_hw5 k0_h1 => k0_hw5.1 k0_h1
theorem k0_off12_inb : ∀ (i : grid0.Coords) (v119 : BitVec 32) (k0_hw5 : k0_chk5 i v119), ∀ (k0_h1 : k0_cond1 i = 1#1), ∀ a, (k0_off12 v119) a + S8x128.size a ≤ S294912x128.size a := fun i v119 k0_hw5 k0_h1 => k0_hw5.2 k0_h1

def k0_off13 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_60 : BitVec 32 := 16#32
  let v123 : BitVec 32 := Scalar.muli arg11 c16_i32_60
  let c5_i32 : BitVec 32 := 5#32
  let v124 : BitVec 32 := Scalar.addi v123 c5_i32
  let v125 : Index := Scalar.indexCast v124
  ![v125.toNat]
def k0_mult6 (v126 : BitVec 32) : BitVec 32 :=
  let c8_i32_61 : BitVec 32 := 8#32
  let v127 : BitVec 32 := Scalar.muli v126 c8_i32_61
  v127

def k0_off14 (v126 : BitVec 32) : Fin 2 → Nat :=
  let c8_i32_61 : BitVec 32 := 8#32
  let v127 : BitVec 32 := Scalar.muli v126 c8_i32_61
  let v128 : BitVec 32 := v127
  let c0_i32_62 : BitVec 32 := 0#32
  ![v128.toNat, 0]

def k0_chk6 (i : grid0.Coords) (v126 : BitVec 32) : Prop :=
  (∀ (k0_h1 : k0_cond1 i = 1#1), 8 ∣ (k0_mult6 v126).toNat) ∧
  (∀ (k0_h1 : k0_cond1 i = 1#1), ∀ a, (k0_off14 v126) a + S8x128.size a ≤ S294912x128.size a)
theorem k0_mult6_dvd : ∀ (i : grid0.Coords) (v126 : BitVec 32) (k0_hw6 : k0_chk6 i v126), ∀ (k0_h1 : k0_cond1 i = 1#1), 8 ∣ (k0_mult6 v126).toNat := fun i v126 k0_hw6 k0_h1 => k0_hw6.1 k0_h1
theorem k0_off14_inb : ∀ (i : grid0.Coords) (v126 : BitVec 32) (k0_hw6 : k0_chk6 i v126), ∀ (k0_h1 : k0_cond1 i = 1#1), ∀ a, (k0_off14 v126) a + S8x128.size a ≤ S294912x128.size a := fun i v126 k0_hw6 k0_h1 => k0_hw6.2 k0_h1

def k0_off15 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_63 : BitVec 32 := 16#32
  let v130 : BitVec 32 := Scalar.muli arg11 c16_i32_63
  let c6_i32 : BitVec 32 := 6#32
  let v131 : BitVec 32 := Scalar.addi v130 c6_i32
  let v132 : Index := Scalar.indexCast v131
  ![v132.toNat]
def k0_mult7 (v133 : BitVec 32) : BitVec 32 :=
  let c8_i32_64 : BitVec 32 := 8#32
  let v134 : BitVec 32 := Scalar.muli v133 c8_i32_64
  v134

def k0_off16 (v133 : BitVec 32) : Fin 2 → Nat :=
  let c8_i32_64 : BitVec 32 := 8#32
  let v134 : BitVec 32 := Scalar.muli v133 c8_i32_64
  let v135 : BitVec 32 := v134
  let c0_i32_65 : BitVec 32 := 0#32
  ![v135.toNat, 0]

def k0_chk7 (i : grid0.Coords) (v133 : BitVec 32) : Prop :=
  (∀ (k0_h1 : k0_cond1 i = 1#1), 8 ∣ (k0_mult7 v133).toNat) ∧
  (∀ (k0_h1 : k0_cond1 i = 1#1), ∀ a, (k0_off16 v133) a + S8x128.size a ≤ S294912x128.size a)
theorem k0_mult7_dvd : ∀ (i : grid0.Coords) (v133 : BitVec 32) (k0_hw7 : k0_chk7 i v133), ∀ (k0_h1 : k0_cond1 i = 1#1), 8 ∣ (k0_mult7 v133).toNat := fun i v133 k0_hw7 k0_h1 => k0_hw7.1 k0_h1
theorem k0_off16_inb : ∀ (i : grid0.Coords) (v133 : BitVec 32) (k0_hw7 : k0_chk7 i v133), ∀ (k0_h1 : k0_cond1 i = 1#1), ∀ a, (k0_off16 v133) a + S8x128.size a ≤ S294912x128.size a := fun i v133 k0_hw7 k0_h1 => k0_hw7.2 k0_h1

def k0_off17 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_66 : BitVec 32 := 16#32
  let v137 : BitVec 32 := Scalar.muli arg11 c16_i32_66
  let c7_i32 : BitVec 32 := 7#32
  let v138 : BitVec 32 := Scalar.addi v137 c7_i32
  let v139 : Index := Scalar.indexCast v138
  ![v139.toNat]
def k0_mult8 (v140 : BitVec 32) : BitVec 32 :=
  let c8_i32_67 : BitVec 32 := 8#32
  let v141 : BitVec 32 := Scalar.muli v140 c8_i32_67
  v141

def k0_off18 (v140 : BitVec 32) : Fin 2 → Nat :=
  let c8_i32_67 : BitVec 32 := 8#32
  let v141 : BitVec 32 := Scalar.muli v140 c8_i32_67
  let v142 : BitVec 32 := v141
  let c0_i32_68 : BitVec 32 := 0#32
  ![v142.toNat, 0]

def k0_chk8 (i : grid0.Coords) (v140 : BitVec 32) : Prop :=
  (∀ (k0_h1 : k0_cond1 i = 1#1), 8 ∣ (k0_mult8 v140).toNat) ∧
  (∀ (k0_h1 : k0_cond1 i = 1#1), ∀ a, (k0_off18 v140) a + S8x128.size a ≤ S294912x128.size a)
theorem k0_mult8_dvd : ∀ (i : grid0.Coords) (v140 : BitVec 32) (k0_hw8 : k0_chk8 i v140), ∀ (k0_h1 : k0_cond1 i = 1#1), 8 ∣ (k0_mult8 v140).toNat := fun i v140 k0_hw8 k0_h1 => k0_hw8.1 k0_h1
theorem k0_off18_inb : ∀ (i : grid0.Coords) (v140 : BitVec 32) (k0_hw8 : k0_chk8 i v140), ∀ (k0_h1 : k0_cond1 i = 1#1), ∀ a, (k0_off18 v140) a + S8x128.size a ≤ S294912x128.size a := fun i v140 k0_hw8 k0_h1 => k0_hw8.2 k0_h1

def k0_off19 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_69 : BitVec 32 := 16#32
  let v144 : BitVec 32 := Scalar.muli arg11 c16_i32_69
  let c8_i32_70 : BitVec 32 := 8#32
  let v145 : BitVec 32 := Scalar.addi v144 c8_i32_70
  let v146 : Index := Scalar.indexCast v145
  ![v146.toNat]
def k0_mult9 (v147 : BitVec 32) : BitVec 32 :=
  let c8_i32_71 : BitVec 32 := 8#32
  let v148 : BitVec 32 := Scalar.muli v147 c8_i32_71
  v148

def k0_off20 (v147 : BitVec 32) : Fin 2 → Nat :=
  let c8_i32_71 : BitVec 32 := 8#32
  let v148 : BitVec 32 := Scalar.muli v147 c8_i32_71
  let v149 : BitVec 32 := v148
  let c0_i32_72 : BitVec 32 := 0#32
  ![v149.toNat, 0]

def k0_chk9 (i : grid0.Coords) (v147 : BitVec 32) : Prop :=
  (∀ (k0_h1 : k0_cond1 i = 1#1), 8 ∣ (k0_mult9 v147).toNat) ∧
  (∀ (k0_h1 : k0_cond1 i = 1#1), ∀ a, (k0_off20 v147) a + S8x128.size a ≤ S294912x128.size a)
theorem k0_mult9_dvd : ∀ (i : grid0.Coords) (v147 : BitVec 32) (k0_hw9 : k0_chk9 i v147), ∀ (k0_h1 : k0_cond1 i = 1#1), 8 ∣ (k0_mult9 v147).toNat := fun i v147 k0_hw9 k0_h1 => k0_hw9.1 k0_h1
theorem k0_off20_inb : ∀ (i : grid0.Coords) (v147 : BitVec 32) (k0_hw9 : k0_chk9 i v147), ∀ (k0_h1 : k0_cond1 i = 1#1), ∀ a, (k0_off20 v147) a + S8x128.size a ≤ S294912x128.size a := fun i v147 k0_hw9 k0_h1 => k0_hw9.2 k0_h1

def k0_off21 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_73 : BitVec 32 := 16#32
  let v151 : BitVec 32 := Scalar.muli arg11 c16_i32_73
  let c9_i32 : BitVec 32 := 9#32
  let v152 : BitVec 32 := Scalar.addi v151 c9_i32
  let v153 : Index := Scalar.indexCast v152
  ![v153.toNat]
def k0_mult10 (v154 : BitVec 32) : BitVec 32 :=
  let c8_i32_74 : BitVec 32 := 8#32
  let v155 : BitVec 32 := Scalar.muli v154 c8_i32_74
  v155

def k0_off22 (v154 : BitVec 32) : Fin 2 → Nat :=
  let c8_i32_74 : BitVec 32 := 8#32
  let v155 : BitVec 32 := Scalar.muli v154 c8_i32_74
  let v156 : BitVec 32 := v155
  let c0_i32_75 : BitVec 32 := 0#32
  ![v156.toNat, 0]

def k0_chk10 (i : grid0.Coords) (v154 : BitVec 32) : Prop :=
  (∀ (k0_h1 : k0_cond1 i = 1#1), 8 ∣ (k0_mult10 v154).toNat) ∧
  (∀ (k0_h1 : k0_cond1 i = 1#1), ∀ a, (k0_off22 v154) a + S8x128.size a ≤ S294912x128.size a)
theorem k0_mult10_dvd : ∀ (i : grid0.Coords) (v154 : BitVec 32) (k0_hw10 : k0_chk10 i v154), ∀ (k0_h1 : k0_cond1 i = 1#1), 8 ∣ (k0_mult10 v154).toNat := fun i v154 k0_hw10 k0_h1 => k0_hw10.1 k0_h1
theorem k0_off22_inb : ∀ (i : grid0.Coords) (v154 : BitVec 32) (k0_hw10 : k0_chk10 i v154), ∀ (k0_h1 : k0_cond1 i = 1#1), ∀ a, (k0_off22 v154) a + S8x128.size a ≤ S294912x128.size a := fun i v154 k0_hw10 k0_h1 => k0_hw10.2 k0_h1

def k0_off23 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_76 : BitVec 32 := 16#32
  let v158 : BitVec 32 := Scalar.muli arg11 c16_i32_76
  let c10_i32 : BitVec 32 := 10#32
  let v159 : BitVec 32 := Scalar.addi v158 c10_i32
  let v160 : Index := Scalar.indexCast v159
  ![v160.toNat]
def k0_mult11 (v161 : BitVec 32) : BitVec 32 :=
  let c8_i32_77 : BitVec 32 := 8#32
  let v162 : BitVec 32 := Scalar.muli v161 c8_i32_77
  v162

def k0_off24 (v161 : BitVec 32) : Fin 2 → Nat :=
  let c8_i32_77 : BitVec 32 := 8#32
  let v162 : BitVec 32 := Scalar.muli v161 c8_i32_77
  let v163 : BitVec 32 := v162
  let c0_i32_78 : BitVec 32 := 0#32
  ![v163.toNat, 0]

def k0_chk11 (i : grid0.Coords) (v161 : BitVec 32) : Prop :=
  (∀ (k0_h1 : k0_cond1 i = 1#1), 8 ∣ (k0_mult11 v161).toNat) ∧
  (∀ (k0_h1 : k0_cond1 i = 1#1), ∀ a, (k0_off24 v161) a + S8x128.size a ≤ S294912x128.size a)
theorem k0_mult11_dvd : ∀ (i : grid0.Coords) (v161 : BitVec 32) (k0_hw11 : k0_chk11 i v161), ∀ (k0_h1 : k0_cond1 i = 1#1), 8 ∣ (k0_mult11 v161).toNat := fun i v161 k0_hw11 k0_h1 => k0_hw11.1 k0_h1
theorem k0_off24_inb : ∀ (i : grid0.Coords) (v161 : BitVec 32) (k0_hw11 : k0_chk11 i v161), ∀ (k0_h1 : k0_cond1 i = 1#1), ∀ a, (k0_off24 v161) a + S8x128.size a ≤ S294912x128.size a := fun i v161 k0_hw11 k0_h1 => k0_hw11.2 k0_h1

def k0_off25 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_79 : BitVec 32 := 16#32
  let v165 : BitVec 32 := Scalar.muli arg11 c16_i32_79
  let c11_i32 : BitVec 32 := 11#32
  let v166 : BitVec 32 := Scalar.addi v165 c11_i32
  let v167 : Index := Scalar.indexCast v166
  ![v167.toNat]
def k0_mult12 (v168 : BitVec 32) : BitVec 32 :=
  let c8_i32_80 : BitVec 32 := 8#32
  let v169 : BitVec 32 := Scalar.muli v168 c8_i32_80
  v169

def k0_off26 (v168 : BitVec 32) : Fin 2 → Nat :=
  let c8_i32_80 : BitVec 32 := 8#32
  let v169 : BitVec 32 := Scalar.muli v168 c8_i32_80
  let v170 : BitVec 32 := v169
  let c0_i32_81 : BitVec 32 := 0#32
  ![v170.toNat, 0]

def k0_chk12 (i : grid0.Coords) (v168 : BitVec 32) : Prop :=
  (∀ (k0_h1 : k0_cond1 i = 1#1), 8 ∣ (k0_mult12 v168).toNat) ∧
  (∀ (k0_h1 : k0_cond1 i = 1#1), ∀ a, (k0_off26 v168) a + S8x128.size a ≤ S294912x128.size a)
theorem k0_mult12_dvd : ∀ (i : grid0.Coords) (v168 : BitVec 32) (k0_hw12 : k0_chk12 i v168), ∀ (k0_h1 : k0_cond1 i = 1#1), 8 ∣ (k0_mult12 v168).toNat := fun i v168 k0_hw12 k0_h1 => k0_hw12.1 k0_h1
theorem k0_off26_inb : ∀ (i : grid0.Coords) (v168 : BitVec 32) (k0_hw12 : k0_chk12 i v168), ∀ (k0_h1 : k0_cond1 i = 1#1), ∀ a, (k0_off26 v168) a + S8x128.size a ≤ S294912x128.size a := fun i v168 k0_hw12 k0_h1 => k0_hw12.2 k0_h1

def k0_off27 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_82 : BitVec 32 := 16#32
  let v172 : BitVec 32 := Scalar.muli arg11 c16_i32_82
  let c12_i32 : BitVec 32 := 12#32
  let v173 : BitVec 32 := Scalar.addi v172 c12_i32
  let v174 : Index := Scalar.indexCast v173
  ![v174.toNat]
def k0_mult13 (v175 : BitVec 32) : BitVec 32 :=
  let c8_i32_83 : BitVec 32 := 8#32
  let v176 : BitVec 32 := Scalar.muli v175 c8_i32_83
  v176

def k0_off28 (v175 : BitVec 32) : Fin 2 → Nat :=
  let c8_i32_83 : BitVec 32 := 8#32
  let v176 : BitVec 32 := Scalar.muli v175 c8_i32_83
  let v177 : BitVec 32 := v176
  let c0_i32_84 : BitVec 32 := 0#32
  ![v177.toNat, 0]

def k0_chk13 (i : grid0.Coords) (v175 : BitVec 32) : Prop :=
  (∀ (k0_h1 : k0_cond1 i = 1#1), 8 ∣ (k0_mult13 v175).toNat) ∧
  (∀ (k0_h1 : k0_cond1 i = 1#1), ∀ a, (k0_off28 v175) a + S8x128.size a ≤ S294912x128.size a)
theorem k0_mult13_dvd : ∀ (i : grid0.Coords) (v175 : BitVec 32) (k0_hw13 : k0_chk13 i v175), ∀ (k0_h1 : k0_cond1 i = 1#1), 8 ∣ (k0_mult13 v175).toNat := fun i v175 k0_hw13 k0_h1 => k0_hw13.1 k0_h1
theorem k0_off28_inb : ∀ (i : grid0.Coords) (v175 : BitVec 32) (k0_hw13 : k0_chk13 i v175), ∀ (k0_h1 : k0_cond1 i = 1#1), ∀ a, (k0_off28 v175) a + S8x128.size a ≤ S294912x128.size a := fun i v175 k0_hw13 k0_h1 => k0_hw13.2 k0_h1

def k0_off29 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_85 : BitVec 32 := 16#32
  let v179 : BitVec 32 := Scalar.muli arg11 c16_i32_85
  let c13_i32 : BitVec 32 := 13#32
  let v180 : BitVec 32 := Scalar.addi v179 c13_i32
  let v181 : Index := Scalar.indexCast v180
  ![v181.toNat]
def k0_mult14 (v182 : BitVec 32) : BitVec 32 :=
  let c8_i32_86 : BitVec 32 := 8#32
  let v183 : BitVec 32 := Scalar.muli v182 c8_i32_86
  v183

def k0_off30 (v182 : BitVec 32) : Fin 2 → Nat :=
  let c8_i32_86 : BitVec 32 := 8#32
  let v183 : BitVec 32 := Scalar.muli v182 c8_i32_86
  let v184 : BitVec 32 := v183
  let c0_i32_87 : BitVec 32 := 0#32
  ![v184.toNat, 0]

def k0_chk14 (i : grid0.Coords) (v182 : BitVec 32) : Prop :=
  (∀ (k0_h1 : k0_cond1 i = 1#1), 8 ∣ (k0_mult14 v182).toNat) ∧
  (∀ (k0_h1 : k0_cond1 i = 1#1), ∀ a, (k0_off30 v182) a + S8x128.size a ≤ S294912x128.size a)
theorem k0_mult14_dvd : ∀ (i : grid0.Coords) (v182 : BitVec 32) (k0_hw14 : k0_chk14 i v182), ∀ (k0_h1 : k0_cond1 i = 1#1), 8 ∣ (k0_mult14 v182).toNat := fun i v182 k0_hw14 k0_h1 => k0_hw14.1 k0_h1
theorem k0_off30_inb : ∀ (i : grid0.Coords) (v182 : BitVec 32) (k0_hw14 : k0_chk14 i v182), ∀ (k0_h1 : k0_cond1 i = 1#1), ∀ a, (k0_off30 v182) a + S8x128.size a ≤ S294912x128.size a := fun i v182 k0_hw14 k0_h1 => k0_hw14.2 k0_h1

def k0_off31 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_88 : BitVec 32 := 16#32
  let v186 : BitVec 32 := Scalar.muli arg11 c16_i32_88
  let c14_i32 : BitVec 32 := 14#32
  let v187 : BitVec 32 := Scalar.addi v186 c14_i32
  let v188 : Index := Scalar.indexCast v187
  ![v188.toNat]
def k0_mult15 (v189 : BitVec 32) : BitVec 32 :=
  let c8_i32_89 : BitVec 32 := 8#32
  let v190 : BitVec 32 := Scalar.muli v189 c8_i32_89
  v190

def k0_off32 (v189 : BitVec 32) : Fin 2 → Nat :=
  let c8_i32_89 : BitVec 32 := 8#32
  let v190 : BitVec 32 := Scalar.muli v189 c8_i32_89
  let v191 : BitVec 32 := v190
  let c0_i32_90 : BitVec 32 := 0#32
  ![v191.toNat, 0]

def k0_chk15 (i : grid0.Coords) (v189 : BitVec 32) : Prop :=
  (∀ (k0_h1 : k0_cond1 i = 1#1), 8 ∣ (k0_mult15 v189).toNat) ∧
  (∀ (k0_h1 : k0_cond1 i = 1#1), ∀ a, (k0_off32 v189) a + S8x128.size a ≤ S294912x128.size a)
theorem k0_mult15_dvd : ∀ (i : grid0.Coords) (v189 : BitVec 32) (k0_hw15 : k0_chk15 i v189), ∀ (k0_h1 : k0_cond1 i = 1#1), 8 ∣ (k0_mult15 v189).toNat := fun i v189 k0_hw15 k0_h1 => k0_hw15.1 k0_h1
theorem k0_off32_inb : ∀ (i : grid0.Coords) (v189 : BitVec 32) (k0_hw15 : k0_chk15 i v189), ∀ (k0_h1 : k0_cond1 i = 1#1), ∀ a, (k0_off32 v189) a + S8x128.size a ≤ S294912x128.size a := fun i v189 k0_hw15 k0_h1 => k0_hw15.2 k0_h1

def k0_off33 (k0_t1 : Fin k0_t1_loop.trips) : Fin 1 → Nat :=
  let c0_i32_41 : BitVec 32 := 0#32
  let c1_i32_42 : BitVec 32 := 1#32
  let arg11 : BitVec 32 := Scf.iv c0_i32_41 c1_i32_42 k0_t1
  let c16_i32_91 : BitVec 32 := 16#32
  let v193 : BitVec 32 := Scalar.muli arg11 c16_i32_91
  let c15_i32 : BitVec 32 := 15#32
  let v194 : BitVec 32 := Scalar.addi v193 c15_i32
  let v195 : Index := Scalar.indexCast v194
  ![v195.toNat]
def k0_mult16 (v196 : BitVec 32) : BitVec 32 :=
  let c8_i32_92 : BitVec 32 := 8#32
  let v197 : BitVec 32 := Scalar.muli v196 c8_i32_92
  v197

def k0_off34 (v196 : BitVec 32) : Fin 2 → Nat :=
  let c8_i32_92 : BitVec 32 := 8#32
  let v197 : BitVec 32 := Scalar.muli v196 c8_i32_92
  let v198 : BitVec 32 := v197
  let c0_i32_93 : BitVec 32 := 0#32
  ![v198.toNat, 0]

def k0_chk16 (i : grid0.Coords) (v196 : BitVec 32) : Prop :=
  (∀ (k0_h1 : k0_cond1 i = 1#1), 8 ∣ (k0_mult16 v196).toNat) ∧
  (∀ (k0_h1 : k0_cond1 i = 1#1), ∀ a, (k0_off34 v196) a + S8x128.size a ≤ S294912x128.size a)
theorem k0_mult16_dvd : ∀ (i : grid0.Coords) (v196 : BitVec 32) (k0_hw16 : k0_chk16 i v196), ∀ (k0_h1 : k0_cond1 i = 1#1), 8 ∣ (k0_mult16 v196).toNat := fun i v196 k0_hw16 k0_h1 => k0_hw16.1 k0_h1
theorem k0_off34_inb : ∀ (i : grid0.Coords) (v196 : BitVec 32) (k0_hw16 : k0_chk16 i v196), ∀ (k0_h1 : k0_cond1 i = 1#1), ∀ a, (k0_off34 v196) a + S8x128.size a ≤ S294912x128.size a := fun i v196 k0_hw16 k0_h1 => k0_hw16.2 k0_h1

@[reducible] def k0_t2_loop : Scf.Loop 32 :=
  let c0_i32_21 : BitVec 32 := 0#32
  let c32_i32 : BitVec 32 := 32#32
  let v76 : BitVec 32 := Scalar.addi c0_i32_21 c32_i32
  let c1_i32_22 : BitVec 32 := 1#32
  ⟨c0_i32_21, v76, c1_i32_22⟩
def k0_off35 (i : grid0.Coords) (k0_t2 : Fin k0_t2_loop.trips) : Fin 1 → Nat :=
  let c0_i32_40 : BitVec 32 := 0#32
  let arg0 : BitVec 32 := BitVec.ofNat 32 (i 0).val
  let c512_i32 : BitVec 32 := 512#32
  let v85 : BitVec 32 := Scalar.muli arg0 c512_i32
  let v86 : BitVec 32 := Scalar.addi c0_i32_40 v85
  let c0_i32_21 : BitVec 32 := 0#32
  let c1_i32_22 : BitVec 32 := 1#32
  let arg11 : BitVec 32 := Scf.iv c0_i32_21 c1_i32_22 k0_t2
  let c16_i32_38 : BitVec 32 := 16#32
  let v83 : BitVec 32 := Scalar.muli arg11 c16_i32_38
  let c0_i32_39 : BitVec 32 := 0#32
  let v84 : BitVec 32 := Scalar.addi v83 c0_i32_39
  let v87 : BitVec 32 := Scalar.addi v86 v84
  let v88 : Index := Scalar.indexCast v87
  ![v88.toNat]
def k0_mult17 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_38 : BitVec 32 := 16#32
  let v83 : BitVec 32 := Scalar.muli arg11 c16_i32_38
  let c0_i32_39 : BitVec 32 := 0#32
  let v84 : BitVec 32 := Scalar.addi v83 c0_i32_39
  let c8_i32 : BitVec 32 := 8#32
  let v90 : BitVec 32 := Scalar.muli v84 c8_i32
  v90
def k0_mult18 (v89 : BitVec 32) : BitVec 32 :=
  let c8_i32_41 : BitVec 32 := 8#32
  let v92 : BitVec 32 := Scalar.muli v89 c8_i32_41
  v92

def k0_off36 (v89 : BitVec 32) : Fin 2 → Nat :=
  let c8_i32_41 : BitVec 32 := 8#32
  let v92 : BitVec 32 := Scalar.muli v89 c8_i32_41
  let v93 : BitVec 32 := v92
  let c0_i32_42 : BitVec 32 := 0#32
  ![v93.toNat, 0]

def k0_chk17 (v89 : BitVec 32) : Prop :=
  (8 ∣ (k0_mult18 v89).toNat) ∧
  (∀ a, (k0_off36 v89) a + S8x128.size a ≤ S294912x128.size a)
theorem k0_mult18_dvd : ∀ (v89 : BitVec 32) (k0_hw17 : k0_chk17 v89), 8 ∣ (k0_mult18 v89).toNat := fun v89 k0_hw17 => k0_hw17.1
theorem k0_off36_inb : ∀ (v89 : BitVec 32) (k0_hw17 : k0_chk17 v89), ∀ a, (k0_off36 v89) a + S8x128.size a ≤ S294912x128.size a := fun v89 k0_hw17 => k0_hw17.2

def k0_off37 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_38 : BitVec 32 := 16#32
  let v83 : BitVec 32 := Scalar.muli arg11 c16_i32_38
  let c0_i32_39 : BitVec 32 := 0#32
  let v84 : BitVec 32 := Scalar.addi v83 c0_i32_39
  let c8_i32 : BitVec 32 := 8#32
  let v90 : BitVec 32 := Scalar.muli v84 c8_i32
  let v91 : BitVec 32 := v90
  let c0_i32_43 : BitVec 32 := 0#32
  ![v91.toNat, 0]
def k0_off38 (i : grid0.Coords) (k0_t2 : Fin k0_t2_loop.trips) : Fin 1 → Nat :=
  let c0_i32_47 : BitVec 32 := 0#32
  let arg0 : BitVec 32 := BitVec.ofNat 32 (i 0).val
  let c512_i32_46 : BitVec 32 := 512#32
  let v98 : BitVec 32 := Scalar.muli arg0 c512_i32_46
  let v99 : BitVec 32 := Scalar.addi c0_i32_47 v98
  let c0_i32_21 : BitVec 32 := 0#32
  let c1_i32_22 : BitVec 32 := 1#32
  let arg11 : BitVec 32 := Scf.iv c0_i32_21 c1_i32_22 k0_t2
  let c16_i32_44 : BitVec 32 := 16#32
  let v96 : BitVec 32 := Scalar.muli arg11 c16_i32_44
  let c1_i32_45 : BitVec 32 := 1#32
  let v97 : BitVec 32 := Scalar.addi v96 c1_i32_45
  let v100 : BitVec 32 := Scalar.addi v99 v97
  let v101 : Index := Scalar.indexCast v100
  ![v101.toNat]
def k0_mult19 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_44 : BitVec 32 := 16#32
  let v96 : BitVec 32 := Scalar.muli arg11 c16_i32_44
  let c1_i32_45 : BitVec 32 := 1#32
  let v97 : BitVec 32 := Scalar.addi v96 c1_i32_45
  let c8_i32_48 : BitVec 32 := 8#32
  let v103 : BitVec 32 := Scalar.muli v97 c8_i32_48
  v103
def k0_mult20 (v102 : BitVec 32) : BitVec 32 :=
  let c8_i32_49 : BitVec 32 := 8#32
  let v105 : BitVec 32 := Scalar.muli v102 c8_i32_49
  v105

def k0_off39 (v102 : BitVec 32) : Fin 2 → Nat :=
  let c8_i32_49 : BitVec 32 := 8#32
  let v105 : BitVec 32 := Scalar.muli v102 c8_i32_49
  let v106 : BitVec 32 := v105
  let c0_i32_50 : BitVec 32 := 0#32
  ![v106.toNat, 0]

def k0_chk18 (v102 : BitVec 32) : Prop :=
  (8 ∣ (k0_mult20 v102).toNat) ∧
  (∀ a, (k0_off39 v102) a + S8x128.size a ≤ S294912x128.size a)
theorem k0_mult20_dvd : ∀ (v102 : BitVec 32) (k0_hw18 : k0_chk18 v102), 8 ∣ (k0_mult20 v102).toNat := fun v102 k0_hw18 => k0_hw18.1
theorem k0_off39_inb : ∀ (v102 : BitVec 32) (k0_hw18 : k0_chk18 v102), ∀ a, (k0_off39 v102) a + S8x128.size a ≤ S294912x128.size a := fun v102 k0_hw18 => k0_hw18.2

def k0_off40 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_44 : BitVec 32 := 16#32
  let v96 : BitVec 32 := Scalar.muli arg11 c16_i32_44
  let c1_i32_45 : BitVec 32 := 1#32
  let v97 : BitVec 32 := Scalar.addi v96 c1_i32_45
  let c8_i32_48 : BitVec 32 := 8#32
  let v103 : BitVec 32 := Scalar.muli v97 c8_i32_48
  let v104 : BitVec 32 := v103
  let c0_i32_51 : BitVec 32 := 0#32
  ![v104.toNat, 0]
def k0_off41 (i : grid0.Coords) (k0_t2 : Fin k0_t2_loop.trips) : Fin 1 → Nat :=
  let c0_i32_54 : BitVec 32 := 0#32
  let arg0 : BitVec 32 := BitVec.ofNat 32 (i 0).val
  let c512_i32_53 : BitVec 32 := 512#32
  let v111 : BitVec 32 := Scalar.muli arg0 c512_i32_53
  let v112 : BitVec 32 := Scalar.addi c0_i32_54 v111
  let c0_i32_21 : BitVec 32 := 0#32
  let c1_i32_22 : BitVec 32 := 1#32
  let arg11 : BitVec 32 := Scf.iv c0_i32_21 c1_i32_22 k0_t2
  let c16_i32_52 : BitVec 32 := 16#32
  let v109 : BitVec 32 := Scalar.muli arg11 c16_i32_52
  let c2_i32 : BitVec 32 := 2#32
  let v110 : BitVec 32 := Scalar.addi v109 c2_i32
  let v113 : BitVec 32 := Scalar.addi v112 v110
  let v114 : Index := Scalar.indexCast v113
  ![v114.toNat]
def k0_mult21 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_52 : BitVec 32 := 16#32
  let v109 : BitVec 32 := Scalar.muli arg11 c16_i32_52
  let c2_i32 : BitVec 32 := 2#32
  let v110 : BitVec 32 := Scalar.addi v109 c2_i32
  let c8_i32_55 : BitVec 32 := 8#32
  let v116 : BitVec 32 := Scalar.muli v110 c8_i32_55
  v116
def k0_mult22 (v115 : BitVec 32) : BitVec 32 :=
  let c8_i32_56 : BitVec 32 := 8#32
  let v118 : BitVec 32 := Scalar.muli v115 c8_i32_56
  v118

def k0_off42 (v115 : BitVec 32) : Fin 2 → Nat :=
  let c8_i32_56 : BitVec 32 := 8#32
  let v118 : BitVec 32 := Scalar.muli v115 c8_i32_56
  let v119 : BitVec 32 := v118
  let c0_i32_57 : BitVec 32 := 0#32
  ![v119.toNat, 0]

def k0_chk19 (v115 : BitVec 32) : Prop :=
  (8 ∣ (k0_mult22 v115).toNat) ∧
  (∀ a, (k0_off42 v115) a + S8x128.size a ≤ S294912x128.size a)
theorem k0_mult22_dvd : ∀ (v115 : BitVec 32) (k0_hw19 : k0_chk19 v115), 8 ∣ (k0_mult22 v115).toNat := fun v115 k0_hw19 => k0_hw19.1
theorem k0_off42_inb : ∀ (v115 : BitVec 32) (k0_hw19 : k0_chk19 v115), ∀ a, (k0_off42 v115) a + S8x128.size a ≤ S294912x128.size a := fun v115 k0_hw19 => k0_hw19.2

def k0_off43 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_52 : BitVec 32 := 16#32
  let v109 : BitVec 32 := Scalar.muli arg11 c16_i32_52
  let c2_i32 : BitVec 32 := 2#32
  let v110 : BitVec 32 := Scalar.addi v109 c2_i32
  let c8_i32_55 : BitVec 32 := 8#32
  let v116 : BitVec 32 := Scalar.muli v110 c8_i32_55
  let v117 : BitVec 32 := v116
  let c0_i32_58 : BitVec 32 := 0#32
  ![v117.toNat, 0]
def k0_off44 (i : grid0.Coords) (k0_t2 : Fin k0_t2_loop.trips) : Fin 1 → Nat :=
  let c0_i32_61 : BitVec 32 := 0#32
  let arg0 : BitVec 32 := BitVec.ofNat 32 (i 0).val
  let c512_i32_60 : BitVec 32 := 512#32
  let v124 : BitVec 32 := Scalar.muli arg0 c512_i32_60
  let v125 : BitVec 32 := Scalar.addi c0_i32_61 v124
  let c0_i32_21 : BitVec 32 := 0#32
  let c1_i32_22 : BitVec 32 := 1#32
  let arg11 : BitVec 32 := Scf.iv c0_i32_21 c1_i32_22 k0_t2
  let c16_i32_59 : BitVec 32 := 16#32
  let v122 : BitVec 32 := Scalar.muli arg11 c16_i32_59
  let c3_i32 : BitVec 32 := 3#32
  let v123 : BitVec 32 := Scalar.addi v122 c3_i32
  let v126 : BitVec 32 := Scalar.addi v125 v123
  let v127 : Index := Scalar.indexCast v126
  ![v127.toNat]
def k0_mult23 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_59 : BitVec 32 := 16#32
  let v122 : BitVec 32 := Scalar.muli arg11 c16_i32_59
  let c3_i32 : BitVec 32 := 3#32
  let v123 : BitVec 32 := Scalar.addi v122 c3_i32
  let c8_i32_62 : BitVec 32 := 8#32
  let v129 : BitVec 32 := Scalar.muli v123 c8_i32_62
  v129
def k0_mult24 (v128 : BitVec 32) : BitVec 32 :=
  let c8_i32_63 : BitVec 32 := 8#32
  let v131 : BitVec 32 := Scalar.muli v128 c8_i32_63
  v131

def k0_off45 (v128 : BitVec 32) : Fin 2 → Nat :=
  let c8_i32_63 : BitVec 32 := 8#32
  let v131 : BitVec 32 := Scalar.muli v128 c8_i32_63
  let v132 : BitVec 32 := v131
  let c0_i32_64 : BitVec 32 := 0#32
  ![v132.toNat, 0]

def k0_chk20 (v128 : BitVec 32) : Prop :=
  (8 ∣ (k0_mult24 v128).toNat) ∧
  (∀ a, (k0_off45 v128) a + S8x128.size a ≤ S294912x128.size a)
theorem k0_mult24_dvd : ∀ (v128 : BitVec 32) (k0_hw20 : k0_chk20 v128), 8 ∣ (k0_mult24 v128).toNat := fun v128 k0_hw20 => k0_hw20.1
theorem k0_off45_inb : ∀ (v128 : BitVec 32) (k0_hw20 : k0_chk20 v128), ∀ a, (k0_off45 v128) a + S8x128.size a ≤ S294912x128.size a := fun v128 k0_hw20 => k0_hw20.2

def k0_off46 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_59 : BitVec 32 := 16#32
  let v122 : BitVec 32 := Scalar.muli arg11 c16_i32_59
  let c3_i32 : BitVec 32 := 3#32
  let v123 : BitVec 32 := Scalar.addi v122 c3_i32
  let c8_i32_62 : BitVec 32 := 8#32
  let v129 : BitVec 32 := Scalar.muli v123 c8_i32_62
  let v130 : BitVec 32 := v129
  let c0_i32_65 : BitVec 32 := 0#32
  ![v130.toNat, 0]
def k0_off47 (i : grid0.Coords) (k0_t2 : Fin k0_t2_loop.trips) : Fin 1 → Nat :=
  let c0_i32_68 : BitVec 32 := 0#32
  let arg0 : BitVec 32 := BitVec.ofNat 32 (i 0).val
  let c512_i32_67 : BitVec 32 := 512#32
  let v137 : BitVec 32 := Scalar.muli arg0 c512_i32_67
  let v138 : BitVec 32 := Scalar.addi c0_i32_68 v137
  let c0_i32_21 : BitVec 32 := 0#32
  let c1_i32_22 : BitVec 32 := 1#32
  let arg11 : BitVec 32 := Scf.iv c0_i32_21 c1_i32_22 k0_t2
  let c16_i32_66 : BitVec 32 := 16#32
  let v135 : BitVec 32 := Scalar.muli arg11 c16_i32_66
  let c4_i32 : BitVec 32 := 4#32
  let v136 : BitVec 32 := Scalar.addi v135 c4_i32
  let v139 : BitVec 32 := Scalar.addi v138 v136
  let v140 : Index := Scalar.indexCast v139
  ![v140.toNat]
def k0_mult25 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_66 : BitVec 32 := 16#32
  let v135 : BitVec 32 := Scalar.muli arg11 c16_i32_66
  let c4_i32 : BitVec 32 := 4#32
  let v136 : BitVec 32 := Scalar.addi v135 c4_i32
  let c8_i32_69 : BitVec 32 := 8#32
  let v142 : BitVec 32 := Scalar.muli v136 c8_i32_69
  v142
def k0_mult26 (v141 : BitVec 32) : BitVec 32 :=
  let c8_i32_70 : BitVec 32 := 8#32
  let v144 : BitVec 32 := Scalar.muli v141 c8_i32_70
  v144

def k0_off48 (v141 : BitVec 32) : Fin 2 → Nat :=
  let c8_i32_70 : BitVec 32 := 8#32
  let v144 : BitVec 32 := Scalar.muli v141 c8_i32_70
  let v145 : BitVec 32 := v144
  let c0_i32_71 : BitVec 32 := 0#32
  ![v145.toNat, 0]

def k0_chk21 (v141 : BitVec 32) : Prop :=
  (8 ∣ (k0_mult26 v141).toNat) ∧
  (∀ a, (k0_off48 v141) a + S8x128.size a ≤ S294912x128.size a)
theorem k0_mult26_dvd : ∀ (v141 : BitVec 32) (k0_hw21 : k0_chk21 v141), 8 ∣ (k0_mult26 v141).toNat := fun v141 k0_hw21 => k0_hw21.1
theorem k0_off48_inb : ∀ (v141 : BitVec 32) (k0_hw21 : k0_chk21 v141), ∀ a, (k0_off48 v141) a + S8x128.size a ≤ S294912x128.size a := fun v141 k0_hw21 => k0_hw21.2

def k0_off49 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_66 : BitVec 32 := 16#32
  let v135 : BitVec 32 := Scalar.muli arg11 c16_i32_66
  let c4_i32 : BitVec 32 := 4#32
  let v136 : BitVec 32 := Scalar.addi v135 c4_i32
  let c8_i32_69 : BitVec 32 := 8#32
  let v142 : BitVec 32 := Scalar.muli v136 c8_i32_69
  let v143 : BitVec 32 := v142
  let c0_i32_72 : BitVec 32 := 0#32
  ![v143.toNat, 0]
def k0_off50 (i : grid0.Coords) (k0_t2 : Fin k0_t2_loop.trips) : Fin 1 → Nat :=
  let c0_i32_75 : BitVec 32 := 0#32
  let arg0 : BitVec 32 := BitVec.ofNat 32 (i 0).val
  let c512_i32_74 : BitVec 32 := 512#32
  let v150 : BitVec 32 := Scalar.muli arg0 c512_i32_74
  let v151 : BitVec 32 := Scalar.addi c0_i32_75 v150
  let c0_i32_21 : BitVec 32 := 0#32
  let c1_i32_22 : BitVec 32 := 1#32
  let arg11 : BitVec 32 := Scf.iv c0_i32_21 c1_i32_22 k0_t2
  let c16_i32_73 : BitVec 32 := 16#32
  let v148 : BitVec 32 := Scalar.muli arg11 c16_i32_73
  let c5_i32 : BitVec 32 := 5#32
  let v149 : BitVec 32 := Scalar.addi v148 c5_i32
  let v152 : BitVec 32 := Scalar.addi v151 v149
  let v153 : Index := Scalar.indexCast v152
  ![v153.toNat]
def k0_mult27 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_73 : BitVec 32 := 16#32
  let v148 : BitVec 32 := Scalar.muli arg11 c16_i32_73
  let c5_i32 : BitVec 32 := 5#32
  let v149 : BitVec 32 := Scalar.addi v148 c5_i32
  let c8_i32_76 : BitVec 32 := 8#32
  let v155 : BitVec 32 := Scalar.muli v149 c8_i32_76
  v155
def k0_mult28 (v154 : BitVec 32) : BitVec 32 :=
  let c8_i32_77 : BitVec 32 := 8#32
  let v157 : BitVec 32 := Scalar.muli v154 c8_i32_77
  v157

def k0_off51 (v154 : BitVec 32) : Fin 2 → Nat :=
  let c8_i32_77 : BitVec 32 := 8#32
  let v157 : BitVec 32 := Scalar.muli v154 c8_i32_77
  let v158 : BitVec 32 := v157
  let c0_i32_78 : BitVec 32 := 0#32
  ![v158.toNat, 0]

def k0_chk22 (v154 : BitVec 32) : Prop :=
  (8 ∣ (k0_mult28 v154).toNat) ∧
  (∀ a, (k0_off51 v154) a + S8x128.size a ≤ S294912x128.size a)
theorem k0_mult28_dvd : ∀ (v154 : BitVec 32) (k0_hw22 : k0_chk22 v154), 8 ∣ (k0_mult28 v154).toNat := fun v154 k0_hw22 => k0_hw22.1
theorem k0_off51_inb : ∀ (v154 : BitVec 32) (k0_hw22 : k0_chk22 v154), ∀ a, (k0_off51 v154) a + S8x128.size a ≤ S294912x128.size a := fun v154 k0_hw22 => k0_hw22.2

def k0_off52 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_73 : BitVec 32 := 16#32
  let v148 : BitVec 32 := Scalar.muli arg11 c16_i32_73
  let c5_i32 : BitVec 32 := 5#32
  let v149 : BitVec 32 := Scalar.addi v148 c5_i32
  let c8_i32_76 : BitVec 32 := 8#32
  let v155 : BitVec 32 := Scalar.muli v149 c8_i32_76
  let v156 : BitVec 32 := v155
  let c0_i32_79 : BitVec 32 := 0#32
  ![v156.toNat, 0]
def k0_off53 (i : grid0.Coords) (k0_t2 : Fin k0_t2_loop.trips) : Fin 1 → Nat :=
  let c0_i32_82 : BitVec 32 := 0#32
  let arg0 : BitVec 32 := BitVec.ofNat 32 (i 0).val
  let c512_i32_81 : BitVec 32 := 512#32
  let v163 : BitVec 32 := Scalar.muli arg0 c512_i32_81
  let v164 : BitVec 32 := Scalar.addi c0_i32_82 v163
  let c0_i32_21 : BitVec 32 := 0#32
  let c1_i32_22 : BitVec 32 := 1#32
  let arg11 : BitVec 32 := Scf.iv c0_i32_21 c1_i32_22 k0_t2
  let c16_i32_80 : BitVec 32 := 16#32
  let v161 : BitVec 32 := Scalar.muli arg11 c16_i32_80
  let c6_i32 : BitVec 32 := 6#32
  let v162 : BitVec 32 := Scalar.addi v161 c6_i32
  let v165 : BitVec 32 := Scalar.addi v164 v162
  let v166 : Index := Scalar.indexCast v165
  ![v166.toNat]
def k0_mult29 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_80 : BitVec 32 := 16#32
  let v161 : BitVec 32 := Scalar.muli arg11 c16_i32_80
  let c6_i32 : BitVec 32 := 6#32
  let v162 : BitVec 32 := Scalar.addi v161 c6_i32
  let c8_i32_83 : BitVec 32 := 8#32
  let v168 : BitVec 32 := Scalar.muli v162 c8_i32_83
  v168
def k0_mult30 (v167 : BitVec 32) : BitVec 32 :=
  let c8_i32_84 : BitVec 32 := 8#32
  let v170 : BitVec 32 := Scalar.muli v167 c8_i32_84
  v170

def k0_off54 (v167 : BitVec 32) : Fin 2 → Nat :=
  let c8_i32_84 : BitVec 32 := 8#32
  let v170 : BitVec 32 := Scalar.muli v167 c8_i32_84
  let v171 : BitVec 32 := v170
  let c0_i32_85 : BitVec 32 := 0#32
  ![v171.toNat, 0]

def k0_chk23 (v167 : BitVec 32) : Prop :=
  (8 ∣ (k0_mult30 v167).toNat) ∧
  (∀ a, (k0_off54 v167) a + S8x128.size a ≤ S294912x128.size a)
theorem k0_mult30_dvd : ∀ (v167 : BitVec 32) (k0_hw23 : k0_chk23 v167), 8 ∣ (k0_mult30 v167).toNat := fun v167 k0_hw23 => k0_hw23.1
theorem k0_off54_inb : ∀ (v167 : BitVec 32) (k0_hw23 : k0_chk23 v167), ∀ a, (k0_off54 v167) a + S8x128.size a ≤ S294912x128.size a := fun v167 k0_hw23 => k0_hw23.2

def k0_off55 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_80 : BitVec 32 := 16#32
  let v161 : BitVec 32 := Scalar.muli arg11 c16_i32_80
  let c6_i32 : BitVec 32 := 6#32
  let v162 : BitVec 32 := Scalar.addi v161 c6_i32
  let c8_i32_83 : BitVec 32 := 8#32
  let v168 : BitVec 32 := Scalar.muli v162 c8_i32_83
  let v169 : BitVec 32 := v168
  let c0_i32_86 : BitVec 32 := 0#32
  ![v169.toNat, 0]
def k0_off56 (i : grid0.Coords) (k0_t2 : Fin k0_t2_loop.trips) : Fin 1 → Nat :=
  let c0_i32_89 : BitVec 32 := 0#32
  let arg0 : BitVec 32 := BitVec.ofNat 32 (i 0).val
  let c512_i32_88 : BitVec 32 := 512#32
  let v176 : BitVec 32 := Scalar.muli arg0 c512_i32_88
  let v177 : BitVec 32 := Scalar.addi c0_i32_89 v176
  let c0_i32_21 : BitVec 32 := 0#32
  let c1_i32_22 : BitVec 32 := 1#32
  let arg11 : BitVec 32 := Scf.iv c0_i32_21 c1_i32_22 k0_t2
  let c16_i32_87 : BitVec 32 := 16#32
  let v174 : BitVec 32 := Scalar.muli arg11 c16_i32_87
  let c7_i32 : BitVec 32 := 7#32
  let v175 : BitVec 32 := Scalar.addi v174 c7_i32
  let v178 : BitVec 32 := Scalar.addi v177 v175
  let v179 : Index := Scalar.indexCast v178
  ![v179.toNat]
def k0_mult31 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_87 : BitVec 32 := 16#32
  let v174 : BitVec 32 := Scalar.muli arg11 c16_i32_87
  let c7_i32 : BitVec 32 := 7#32
  let v175 : BitVec 32 := Scalar.addi v174 c7_i32
  let c8_i32_90 : BitVec 32 := 8#32
  let v181 : BitVec 32 := Scalar.muli v175 c8_i32_90
  v181
def k0_mult32 (v180 : BitVec 32) : BitVec 32 :=
  let c8_i32_91 : BitVec 32 := 8#32
  let v183 : BitVec 32 := Scalar.muli v180 c8_i32_91
  v183

def k0_off57 (v180 : BitVec 32) : Fin 2 → Nat :=
  let c8_i32_91 : BitVec 32 := 8#32
  let v183 : BitVec 32 := Scalar.muli v180 c8_i32_91
  let v184 : BitVec 32 := v183
  let c0_i32_92 : BitVec 32 := 0#32
  ![v184.toNat, 0]

def k0_chk24 (v180 : BitVec 32) : Prop :=
  (8 ∣ (k0_mult32 v180).toNat) ∧
  (∀ a, (k0_off57 v180) a + S8x128.size a ≤ S294912x128.size a)
theorem k0_mult32_dvd : ∀ (v180 : BitVec 32) (k0_hw24 : k0_chk24 v180), 8 ∣ (k0_mult32 v180).toNat := fun v180 k0_hw24 => k0_hw24.1
theorem k0_off57_inb : ∀ (v180 : BitVec 32) (k0_hw24 : k0_chk24 v180), ∀ a, (k0_off57 v180) a + S8x128.size a ≤ S294912x128.size a := fun v180 k0_hw24 => k0_hw24.2

def k0_off58 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_87 : BitVec 32 := 16#32
  let v174 : BitVec 32 := Scalar.muli arg11 c16_i32_87
  let c7_i32 : BitVec 32 := 7#32
  let v175 : BitVec 32 := Scalar.addi v174 c7_i32
  let c8_i32_90 : BitVec 32 := 8#32
  let v181 : BitVec 32 := Scalar.muli v175 c8_i32_90
  let v182 : BitVec 32 := v181
  let c0_i32_93 : BitVec 32 := 0#32
  ![v182.toNat, 0]
def k0_off59 (i : grid0.Coords) (k0_t2 : Fin k0_t2_loop.trips) : Fin 1 → Nat :=
  let c0_i32_97 : BitVec 32 := 0#32
  let arg0 : BitVec 32 := BitVec.ofNat 32 (i 0).val
  let c512_i32_96 : BitVec 32 := 512#32
  let v189 : BitVec 32 := Scalar.muli arg0 c512_i32_96
  let v190 : BitVec 32 := Scalar.addi c0_i32_97 v189
  let c0_i32_21 : BitVec 32 := 0#32
  let c1_i32_22 : BitVec 32 := 1#32
  let arg11 : BitVec 32 := Scf.iv c0_i32_21 c1_i32_22 k0_t2
  let c16_i32_94 : BitVec 32 := 16#32
  let v187 : BitVec 32 := Scalar.muli arg11 c16_i32_94
  let c8_i32_95 : BitVec 32 := 8#32
  let v188 : BitVec 32 := Scalar.addi v187 c8_i32_95
  let v191 : BitVec 32 := Scalar.addi v190 v188
  let v192 : Index := Scalar.indexCast v191
  ![v192.toNat]
def k0_mult33 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_94 : BitVec 32 := 16#32
  let v187 : BitVec 32 := Scalar.muli arg11 c16_i32_94
  let c8_i32_95 : BitVec 32 := 8#32
  let v188 : BitVec 32 := Scalar.addi v187 c8_i32_95
  let c8_i32_98 : BitVec 32 := 8#32
  let v194 : BitVec 32 := Scalar.muli v188 c8_i32_98
  v194
def k0_mult34 (v193 : BitVec 32) : BitVec 32 :=
  let c8_i32_99 : BitVec 32 := 8#32
  let v196 : BitVec 32 := Scalar.muli v193 c8_i32_99
  v196

def k0_off60 (v193 : BitVec 32) : Fin 2 → Nat :=
  let c8_i32_99 : BitVec 32 := 8#32
  let v196 : BitVec 32 := Scalar.muli v193 c8_i32_99
  let v197 : BitVec 32 := v196
  let c0_i32_100 : BitVec 32 := 0#32
  ![v197.toNat, 0]

def k0_chk25 (v193 : BitVec 32) : Prop :=
  (8 ∣ (k0_mult34 v193).toNat) ∧
  (∀ a, (k0_off60 v193) a + S8x128.size a ≤ S294912x128.size a)
theorem k0_mult34_dvd : ∀ (v193 : BitVec 32) (k0_hw25 : k0_chk25 v193), 8 ∣ (k0_mult34 v193).toNat := fun v193 k0_hw25 => k0_hw25.1
theorem k0_off60_inb : ∀ (v193 : BitVec 32) (k0_hw25 : k0_chk25 v193), ∀ a, (k0_off60 v193) a + S8x128.size a ≤ S294912x128.size a := fun v193 k0_hw25 => k0_hw25.2

def k0_off61 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_94 : BitVec 32 := 16#32
  let v187 : BitVec 32 := Scalar.muli arg11 c16_i32_94
  let c8_i32_95 : BitVec 32 := 8#32
  let v188 : BitVec 32 := Scalar.addi v187 c8_i32_95
  let c8_i32_98 : BitVec 32 := 8#32
  let v194 : BitVec 32 := Scalar.muli v188 c8_i32_98
  let v195 : BitVec 32 := v194
  let c0_i32_101 : BitVec 32 := 0#32
  ![v195.toNat, 0]
def k0_off62 (i : grid0.Coords) (k0_t2 : Fin k0_t2_loop.trips) : Fin 1 → Nat :=
  let c0_i32_104 : BitVec 32 := 0#32
  let arg0 : BitVec 32 := BitVec.ofNat 32 (i 0).val
  let c512_i32_103 : BitVec 32 := 512#32
  let v202 : BitVec 32 := Scalar.muli arg0 c512_i32_103
  let v203 : BitVec 32 := Scalar.addi c0_i32_104 v202
  let c0_i32_21 : BitVec 32 := 0#32
  let c1_i32_22 : BitVec 32 := 1#32
  let arg11 : BitVec 32 := Scf.iv c0_i32_21 c1_i32_22 k0_t2
  let c16_i32_102 : BitVec 32 := 16#32
  let v200 : BitVec 32 := Scalar.muli arg11 c16_i32_102
  let c9_i32 : BitVec 32 := 9#32
  let v201 : BitVec 32 := Scalar.addi v200 c9_i32
  let v204 : BitVec 32 := Scalar.addi v203 v201
  let v205 : Index := Scalar.indexCast v204
  ![v205.toNat]
def k0_mult35 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_102 : BitVec 32 := 16#32
  let v200 : BitVec 32 := Scalar.muli arg11 c16_i32_102
  let c9_i32 : BitVec 32 := 9#32
  let v201 : BitVec 32 := Scalar.addi v200 c9_i32
  let c8_i32_105 : BitVec 32 := 8#32
  let v207 : BitVec 32 := Scalar.muli v201 c8_i32_105
  v207
def k0_mult36 (v206 : BitVec 32) : BitVec 32 :=
  let c8_i32_106 : BitVec 32 := 8#32
  let v209 : BitVec 32 := Scalar.muli v206 c8_i32_106
  v209

def k0_off63 (v206 : BitVec 32) : Fin 2 → Nat :=
  let c8_i32_106 : BitVec 32 := 8#32
  let v209 : BitVec 32 := Scalar.muli v206 c8_i32_106
  let v210 : BitVec 32 := v209
  let c0_i32_107 : BitVec 32 := 0#32
  ![v210.toNat, 0]

def k0_chk26 (v206 : BitVec 32) : Prop :=
  (8 ∣ (k0_mult36 v206).toNat) ∧
  (∀ a, (k0_off63 v206) a + S8x128.size a ≤ S294912x128.size a)
theorem k0_mult36_dvd : ∀ (v206 : BitVec 32) (k0_hw26 : k0_chk26 v206), 8 ∣ (k0_mult36 v206).toNat := fun v206 k0_hw26 => k0_hw26.1
theorem k0_off63_inb : ∀ (v206 : BitVec 32) (k0_hw26 : k0_chk26 v206), ∀ a, (k0_off63 v206) a + S8x128.size a ≤ S294912x128.size a := fun v206 k0_hw26 => k0_hw26.2

def k0_off64 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_102 : BitVec 32 := 16#32
  let v200 : BitVec 32 := Scalar.muli arg11 c16_i32_102
  let c9_i32 : BitVec 32 := 9#32
  let v201 : BitVec 32 := Scalar.addi v200 c9_i32
  let c8_i32_105 : BitVec 32 := 8#32
  let v207 : BitVec 32 := Scalar.muli v201 c8_i32_105
  let v208 : BitVec 32 := v207
  let c0_i32_108 : BitVec 32 := 0#32
  ![v208.toNat, 0]
def k0_off65 (i : grid0.Coords) (k0_t2 : Fin k0_t2_loop.trips) : Fin 1 → Nat :=
  let c0_i32_111 : BitVec 32 := 0#32
  let arg0 : BitVec 32 := BitVec.ofNat 32 (i 0).val
  let c512_i32_110 : BitVec 32 := 512#32
  let v215 : BitVec 32 := Scalar.muli arg0 c512_i32_110
  let v216 : BitVec 32 := Scalar.addi c0_i32_111 v215
  let c0_i32_21 : BitVec 32 := 0#32
  let c1_i32_22 : BitVec 32 := 1#32
  let arg11 : BitVec 32 := Scf.iv c0_i32_21 c1_i32_22 k0_t2
  let c16_i32_109 : BitVec 32 := 16#32
  let v213 : BitVec 32 := Scalar.muli arg11 c16_i32_109
  let c10_i32 : BitVec 32 := 10#32
  let v214 : BitVec 32 := Scalar.addi v213 c10_i32
  let v217 : BitVec 32 := Scalar.addi v216 v214
  let v218 : Index := Scalar.indexCast v217
  ![v218.toNat]
def k0_mult37 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_109 : BitVec 32 := 16#32
  let v213 : BitVec 32 := Scalar.muli arg11 c16_i32_109
  let c10_i32 : BitVec 32 := 10#32
  let v214 : BitVec 32 := Scalar.addi v213 c10_i32
  let c8_i32_112 : BitVec 32 := 8#32
  let v220 : BitVec 32 := Scalar.muli v214 c8_i32_112
  v220
def k0_mult38 (v219 : BitVec 32) : BitVec 32 :=
  let c8_i32_113 : BitVec 32 := 8#32
  let v222 : BitVec 32 := Scalar.muli v219 c8_i32_113
  v222

def k0_off66 (v219 : BitVec 32) : Fin 2 → Nat :=
  let c8_i32_113 : BitVec 32 := 8#32
  let v222 : BitVec 32 := Scalar.muli v219 c8_i32_113
  let v223 : BitVec 32 := v222
  let c0_i32_114 : BitVec 32 := 0#32
  ![v223.toNat, 0]

def k0_chk27 (v219 : BitVec 32) : Prop :=
  (8 ∣ (k0_mult38 v219).toNat) ∧
  (∀ a, (k0_off66 v219) a + S8x128.size a ≤ S294912x128.size a)
theorem k0_mult38_dvd : ∀ (v219 : BitVec 32) (k0_hw27 : k0_chk27 v219), 8 ∣ (k0_mult38 v219).toNat := fun v219 k0_hw27 => k0_hw27.1
theorem k0_off66_inb : ∀ (v219 : BitVec 32) (k0_hw27 : k0_chk27 v219), ∀ a, (k0_off66 v219) a + S8x128.size a ≤ S294912x128.size a := fun v219 k0_hw27 => k0_hw27.2

def k0_off67 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_109 : BitVec 32 := 16#32
  let v213 : BitVec 32 := Scalar.muli arg11 c16_i32_109
  let c10_i32 : BitVec 32 := 10#32
  let v214 : BitVec 32 := Scalar.addi v213 c10_i32
  let c8_i32_112 : BitVec 32 := 8#32
  let v220 : BitVec 32 := Scalar.muli v214 c8_i32_112
  let v221 : BitVec 32 := v220
  let c0_i32_115 : BitVec 32 := 0#32
  ![v221.toNat, 0]
def k0_off68 (i : grid0.Coords) (k0_t2 : Fin k0_t2_loop.trips) : Fin 1 → Nat :=
  let c0_i32_118 : BitVec 32 := 0#32
  let arg0 : BitVec 32 := BitVec.ofNat 32 (i 0).val
  let c512_i32_117 : BitVec 32 := 512#32
  let v228 : BitVec 32 := Scalar.muli arg0 c512_i32_117
  let v229 : BitVec 32 := Scalar.addi c0_i32_118 v228
  let c0_i32_21 : BitVec 32 := 0#32
  let c1_i32_22 : BitVec 32 := 1#32
  let arg11 : BitVec 32 := Scf.iv c0_i32_21 c1_i32_22 k0_t2
  let c16_i32_116 : BitVec 32 := 16#32
  let v226 : BitVec 32 := Scalar.muli arg11 c16_i32_116
  let c11_i32 : BitVec 32 := 11#32
  let v227 : BitVec 32 := Scalar.addi v226 c11_i32
  let v230 : BitVec 32 := Scalar.addi v229 v227
  let v231 : Index := Scalar.indexCast v230
  ![v231.toNat]
def k0_mult39 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_116 : BitVec 32 := 16#32
  let v226 : BitVec 32 := Scalar.muli arg11 c16_i32_116
  let c11_i32 : BitVec 32 := 11#32
  let v227 : BitVec 32 := Scalar.addi v226 c11_i32
  let c8_i32_119 : BitVec 32 := 8#32
  let v233 : BitVec 32 := Scalar.muli v227 c8_i32_119
  v233
def k0_mult40 (v232 : BitVec 32) : BitVec 32 :=
  let c8_i32_120 : BitVec 32 := 8#32
  let v235 : BitVec 32 := Scalar.muli v232 c8_i32_120
  v235

def k0_off69 (v232 : BitVec 32) : Fin 2 → Nat :=
  let c8_i32_120 : BitVec 32 := 8#32
  let v235 : BitVec 32 := Scalar.muli v232 c8_i32_120
  let v236 : BitVec 32 := v235
  let c0_i32_121 : BitVec 32 := 0#32
  ![v236.toNat, 0]

def k0_chk28 (v232 : BitVec 32) : Prop :=
  (8 ∣ (k0_mult40 v232).toNat) ∧
  (∀ a, (k0_off69 v232) a + S8x128.size a ≤ S294912x128.size a)
theorem k0_mult40_dvd : ∀ (v232 : BitVec 32) (k0_hw28 : k0_chk28 v232), 8 ∣ (k0_mult40 v232).toNat := fun v232 k0_hw28 => k0_hw28.1
theorem k0_off69_inb : ∀ (v232 : BitVec 32) (k0_hw28 : k0_chk28 v232), ∀ a, (k0_off69 v232) a + S8x128.size a ≤ S294912x128.size a := fun v232 k0_hw28 => k0_hw28.2

def k0_off70 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_116 : BitVec 32 := 16#32
  let v226 : BitVec 32 := Scalar.muli arg11 c16_i32_116
  let c11_i32 : BitVec 32 := 11#32
  let v227 : BitVec 32 := Scalar.addi v226 c11_i32
  let c8_i32_119 : BitVec 32 := 8#32
  let v233 : BitVec 32 := Scalar.muli v227 c8_i32_119
  let v234 : BitVec 32 := v233
  let c0_i32_122 : BitVec 32 := 0#32
  ![v234.toNat, 0]
def k0_off71 (i : grid0.Coords) (k0_t2 : Fin k0_t2_loop.trips) : Fin 1 → Nat :=
  let c0_i32_125 : BitVec 32 := 0#32
  let arg0 : BitVec 32 := BitVec.ofNat 32 (i 0).val
  let c512_i32_124 : BitVec 32 := 512#32
  let v241 : BitVec 32 := Scalar.muli arg0 c512_i32_124
  let v242 : BitVec 32 := Scalar.addi c0_i32_125 v241
  let c0_i32_21 : BitVec 32 := 0#32
  let c1_i32_22 : BitVec 32 := 1#32
  let arg11 : BitVec 32 := Scf.iv c0_i32_21 c1_i32_22 k0_t2
  let c16_i32_123 : BitVec 32 := 16#32
  let v239 : BitVec 32 := Scalar.muli arg11 c16_i32_123
  let c12_i32 : BitVec 32 := 12#32
  let v240 : BitVec 32 := Scalar.addi v239 c12_i32
  let v243 : BitVec 32 := Scalar.addi v242 v240
  let v244 : Index := Scalar.indexCast v243
  ![v244.toNat]
def k0_mult41 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_123 : BitVec 32 := 16#32
  let v239 : BitVec 32 := Scalar.muli arg11 c16_i32_123
  let c12_i32 : BitVec 32 := 12#32
  let v240 : BitVec 32 := Scalar.addi v239 c12_i32
  let c8_i32_126 : BitVec 32 := 8#32
  let v246 : BitVec 32 := Scalar.muli v240 c8_i32_126
  v246
def k0_mult42 (v245 : BitVec 32) : BitVec 32 :=
  let c8_i32_127 : BitVec 32 := 8#32
  let v248 : BitVec 32 := Scalar.muli v245 c8_i32_127
  v248

def k0_off72 (v245 : BitVec 32) : Fin 2 → Nat :=
  let c8_i32_127 : BitVec 32 := 8#32
  let v248 : BitVec 32 := Scalar.muli v245 c8_i32_127
  let v249 : BitVec 32 := v248
  let c0_i32_128 : BitVec 32 := 0#32
  ![v249.toNat, 0]

def k0_chk29 (v245 : BitVec 32) : Prop :=
  (8 ∣ (k0_mult42 v245).toNat) ∧
  (∀ a, (k0_off72 v245) a + S8x128.size a ≤ S294912x128.size a)
theorem k0_mult42_dvd : ∀ (v245 : BitVec 32) (k0_hw29 : k0_chk29 v245), 8 ∣ (k0_mult42 v245).toNat := fun v245 k0_hw29 => k0_hw29.1
theorem k0_off72_inb : ∀ (v245 : BitVec 32) (k0_hw29 : k0_chk29 v245), ∀ a, (k0_off72 v245) a + S8x128.size a ≤ S294912x128.size a := fun v245 k0_hw29 => k0_hw29.2

def k0_off73 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_123 : BitVec 32 := 16#32
  let v239 : BitVec 32 := Scalar.muli arg11 c16_i32_123
  let c12_i32 : BitVec 32 := 12#32
  let v240 : BitVec 32 := Scalar.addi v239 c12_i32
  let c8_i32_126 : BitVec 32 := 8#32
  let v246 : BitVec 32 := Scalar.muli v240 c8_i32_126
  let v247 : BitVec 32 := v246
  let c0_i32_129 : BitVec 32 := 0#32
  ![v247.toNat, 0]
def k0_off74 (i : grid0.Coords) (k0_t2 : Fin k0_t2_loop.trips) : Fin 1 → Nat :=
  let c0_i32_132 : BitVec 32 := 0#32
  let arg0 : BitVec 32 := BitVec.ofNat 32 (i 0).val
  let c512_i32_131 : BitVec 32 := 512#32
  let v254 : BitVec 32 := Scalar.muli arg0 c512_i32_131
  let v255 : BitVec 32 := Scalar.addi c0_i32_132 v254
  let c0_i32_21 : BitVec 32 := 0#32
  let c1_i32_22 : BitVec 32 := 1#32
  let arg11 : BitVec 32 := Scf.iv c0_i32_21 c1_i32_22 k0_t2
  let c16_i32_130 : BitVec 32 := 16#32
  let v252 : BitVec 32 := Scalar.muli arg11 c16_i32_130
  let c13_i32 : BitVec 32 := 13#32
  let v253 : BitVec 32 := Scalar.addi v252 c13_i32
  let v256 : BitVec 32 := Scalar.addi v255 v253
  let v257 : Index := Scalar.indexCast v256
  ![v257.toNat]
def k0_mult43 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_130 : BitVec 32 := 16#32
  let v252 : BitVec 32 := Scalar.muli arg11 c16_i32_130
  let c13_i32 : BitVec 32 := 13#32
  let v253 : BitVec 32 := Scalar.addi v252 c13_i32
  let c8_i32_133 : BitVec 32 := 8#32
  let v259 : BitVec 32 := Scalar.muli v253 c8_i32_133
  v259
def k0_mult44 (v258 : BitVec 32) : BitVec 32 :=
  let c8_i32_134 : BitVec 32 := 8#32
  let v261 : BitVec 32 := Scalar.muli v258 c8_i32_134
  v261

def k0_off75 (v258 : BitVec 32) : Fin 2 → Nat :=
  let c8_i32_134 : BitVec 32 := 8#32
  let v261 : BitVec 32 := Scalar.muli v258 c8_i32_134
  let v262 : BitVec 32 := v261
  let c0_i32_135 : BitVec 32 := 0#32
  ![v262.toNat, 0]

def k0_chk30 (v258 : BitVec 32) : Prop :=
  (8 ∣ (k0_mult44 v258).toNat) ∧
  (∀ a, (k0_off75 v258) a + S8x128.size a ≤ S294912x128.size a)
theorem k0_mult44_dvd : ∀ (v258 : BitVec 32) (k0_hw30 : k0_chk30 v258), 8 ∣ (k0_mult44 v258).toNat := fun v258 k0_hw30 => k0_hw30.1
theorem k0_off75_inb : ∀ (v258 : BitVec 32) (k0_hw30 : k0_chk30 v258), ∀ a, (k0_off75 v258) a + S8x128.size a ≤ S294912x128.size a := fun v258 k0_hw30 => k0_hw30.2

def k0_off76 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_130 : BitVec 32 := 16#32
  let v252 : BitVec 32 := Scalar.muli arg11 c16_i32_130
  let c13_i32 : BitVec 32 := 13#32
  let v253 : BitVec 32 := Scalar.addi v252 c13_i32
  let c8_i32_133 : BitVec 32 := 8#32
  let v259 : BitVec 32 := Scalar.muli v253 c8_i32_133
  let v260 : BitVec 32 := v259
  let c0_i32_136 : BitVec 32 := 0#32
  ![v260.toNat, 0]
def k0_off77 (i : grid0.Coords) (k0_t2 : Fin k0_t2_loop.trips) : Fin 1 → Nat :=
  let c0_i32_139 : BitVec 32 := 0#32
  let arg0 : BitVec 32 := BitVec.ofNat 32 (i 0).val
  let c512_i32_138 : BitVec 32 := 512#32
  let v267 : BitVec 32 := Scalar.muli arg0 c512_i32_138
  let v268 : BitVec 32 := Scalar.addi c0_i32_139 v267
  let c0_i32_21 : BitVec 32 := 0#32
  let c1_i32_22 : BitVec 32 := 1#32
  let arg11 : BitVec 32 := Scf.iv c0_i32_21 c1_i32_22 k0_t2
  let c16_i32_137 : BitVec 32 := 16#32
  let v265 : BitVec 32 := Scalar.muli arg11 c16_i32_137
  let c14_i32 : BitVec 32 := 14#32
  let v266 : BitVec 32 := Scalar.addi v265 c14_i32
  let v269 : BitVec 32 := Scalar.addi v268 v266
  let v270 : Index := Scalar.indexCast v269
  ![v270.toNat]
def k0_mult45 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_137 : BitVec 32 := 16#32
  let v265 : BitVec 32 := Scalar.muli arg11 c16_i32_137
  let c14_i32 : BitVec 32 := 14#32
  let v266 : BitVec 32 := Scalar.addi v265 c14_i32
  let c8_i32_140 : BitVec 32 := 8#32
  let v272 : BitVec 32 := Scalar.muli v266 c8_i32_140
  v272
def k0_mult46 (v271 : BitVec 32) : BitVec 32 :=
  let c8_i32_141 : BitVec 32 := 8#32
  let v274 : BitVec 32 := Scalar.muli v271 c8_i32_141
  v274

def k0_off78 (v271 : BitVec 32) : Fin 2 → Nat :=
  let c8_i32_141 : BitVec 32 := 8#32
  let v274 : BitVec 32 := Scalar.muli v271 c8_i32_141
  let v275 : BitVec 32 := v274
  let c0_i32_142 : BitVec 32 := 0#32
  ![v275.toNat, 0]

def k0_chk31 (v271 : BitVec 32) : Prop :=
  (8 ∣ (k0_mult46 v271).toNat) ∧
  (∀ a, (k0_off78 v271) a + S8x128.size a ≤ S294912x128.size a)
theorem k0_mult46_dvd : ∀ (v271 : BitVec 32) (k0_hw31 : k0_chk31 v271), 8 ∣ (k0_mult46 v271).toNat := fun v271 k0_hw31 => k0_hw31.1
theorem k0_off78_inb : ∀ (v271 : BitVec 32) (k0_hw31 : k0_chk31 v271), ∀ a, (k0_off78 v271) a + S8x128.size a ≤ S294912x128.size a := fun v271 k0_hw31 => k0_hw31.2

def k0_off79 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_137 : BitVec 32 := 16#32
  let v265 : BitVec 32 := Scalar.muli arg11 c16_i32_137
  let c14_i32 : BitVec 32 := 14#32
  let v266 : BitVec 32 := Scalar.addi v265 c14_i32
  let c8_i32_140 : BitVec 32 := 8#32
  let v272 : BitVec 32 := Scalar.muli v266 c8_i32_140
  let v273 : BitVec 32 := v272
  let c0_i32_143 : BitVec 32 := 0#32
  ![v273.toNat, 0]
def k0_off80 (i : grid0.Coords) (k0_t2 : Fin k0_t2_loop.trips) : Fin 1 → Nat :=
  let c0_i32_146 : BitVec 32 := 0#32
  let arg0 : BitVec 32 := BitVec.ofNat 32 (i 0).val
  let c512_i32_145 : BitVec 32 := 512#32
  let v280 : BitVec 32 := Scalar.muli arg0 c512_i32_145
  let v281 : BitVec 32 := Scalar.addi c0_i32_146 v280
  let c0_i32_21 : BitVec 32 := 0#32
  let c1_i32_22 : BitVec 32 := 1#32
  let arg11 : BitVec 32 := Scf.iv c0_i32_21 c1_i32_22 k0_t2
  let c16_i32_144 : BitVec 32 := 16#32
  let v278 : BitVec 32 := Scalar.muli arg11 c16_i32_144
  let c15_i32 : BitVec 32 := 15#32
  let v279 : BitVec 32 := Scalar.addi v278 c15_i32
  let v282 : BitVec 32 := Scalar.addi v281 v279
  let v283 : Index := Scalar.indexCast v282
  ![v283.toNat]
def k0_mult47 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c16_i32_144 : BitVec 32 := 16#32
  let v278 : BitVec 32 := Scalar.muli arg11 c16_i32_144
  let c15_i32 : BitVec 32 := 15#32
  let v279 : BitVec 32 := Scalar.addi v278 c15_i32
  let c8_i32_147 : BitVec 32 := 8#32
  let v285 : BitVec 32 := Scalar.muli v279 c8_i32_147
  v285
def k0_mult48 (v284 : BitVec 32) : BitVec 32 :=
  let c8_i32_148 : BitVec 32 := 8#32
  let v287 : BitVec 32 := Scalar.muli v284 c8_i32_148
  v287

def k0_off81 (v284 : BitVec 32) : Fin 2 → Nat :=
  let c8_i32_148 : BitVec 32 := 8#32
  let v287 : BitVec 32 := Scalar.muli v284 c8_i32_148
  let v288 : BitVec 32 := v287
  let c0_i32_149 : BitVec 32 := 0#32
  ![v288.toNat, 0]

def k0_chk32 (v284 : BitVec 32) : Prop :=
  (8 ∣ (k0_mult48 v284).toNat) ∧
  (∀ a, (k0_off81 v284) a + S8x128.size a ≤ S294912x128.size a)
theorem k0_mult48_dvd : ∀ (v284 : BitVec 32) (k0_hw32 : k0_chk32 v284), 8 ∣ (k0_mult48 v284).toNat := fun v284 k0_hw32 => k0_hw32.1
theorem k0_off81_inb : ∀ (v284 : BitVec 32) (k0_hw32 : k0_chk32 v284), ∀ a, (k0_off81 v284) a + S8x128.size a ≤ S294912x128.size a := fun v284 k0_hw32 => k0_hw32.2

def k0_off82 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c16_i32_144 : BitVec 32 := 16#32
  let v278 : BitVec 32 := Scalar.muli arg11 c16_i32_144
  let c15_i32 : BitVec 32 := 15#32
  let v279 : BitVec 32 := Scalar.addi v278 c15_i32
  let c8_i32_147 : BitVec 32 := 8#32
  let v285 : BitVec 32 := Scalar.muli v279 c8_i32_147
  let v286 : BitVec 32 := v285
  let c0_i32_150 : BitVec 32 := 0#32
  ![v286.toNat, 0]
@[reducible] def k0_t3_loop : Scf.Loop 32 :=
  let c0_i32_24 : BitVec 32 := 0#32
  let c32_i32_25 : BitVec 32 := 32#32
  let v77 : BitVec 32 := Scalar.addi c0_i32_24 c32_i32_25
  let c1_i32_26 : BitVec 32 := 1#32
  ⟨c0_i32_24, v77, c1_i32_26⟩
def k0_off83 (i : grid0.Coords) (k0_t3 : Fin k0_t3_loop.trips) : Fin 1 → Nat :=
  let c16384_i32 : BitVec 32 := 16384#32
  let arg0 : BitVec 32 := BitVec.ofNat 32 (i 0).val
  let c512_i32 : BitVec 32 := 512#32
  let v85 : BitVec 32 := Scalar.muli arg0 c512_i32
  let v86 : BitVec 32 := Scalar.addi c16384_i32 v85
  let c0_i32_24 : BitVec 32 := 0#32
  let c1_i32_26 : BitVec 32 := 1#32
  let arg11 : BitVec 32 := Scf.iv c0_i32_24 c1_i32_26 k0_t3
  let c16_i32_38 : BitVec 32 := 16#32
  let v83 : BitVec 32 := Scalar.muli arg11 c16_i32_38
  let c0_i32_39 : BitVec 32 := 0#32
  let v84 : BitVec 32 := Scalar.addi v83 c0_i32_39
  let v87 : BitVec 32 := Scalar.addi v86 v84
  let v88 : Index := Scalar.indexCast v87
  ![v88.toNat]
def k0_mult49 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_38 : BitVec 32 := 16#32
  let v83 : BitVec 32 := Scalar.muli arg11 c16_i32_38
  let c0_i32_39 : BitVec 32 := 0#32
  let v84 : BitVec 32 := Scalar.addi v83 c0_i32_39
  let c8_i32 : BitVec 32 := 8#32
  let v90 : BitVec 32 := Scalar.muli v84 c8_i32
  v90
def k0_mult50 (v89 : BitVec 32) : BitVec 32 :=
  let c8_i32_40 : BitVec 32 := 8#32
  let v92 : BitVec 32 := Scalar.muli v89 c8_i32_40
  v92

def k0_off84 (v89 : BitVec 32) : Fin 2 → Nat :=
  let c8_i32_40 : BitVec 32 := 8#32
  let v92 : BitVec 32 := Scalar.muli v89 c8_i32_40
  let v93 : BitVec 32 := v92
  let c0_i32_41 : BitVec 32 := 0#32
  ![v93.toNat, 0]

def k0_chk33 (v89 : BitVec 32) : Prop :=
  (8 ∣ (k0_mult50 v89).toNat) ∧
  (∀ a, (k0_off84 v89) a + S8x128.size a ≤ S294912x128.size a)
theorem k0_mult50_dvd : ∀ (v89 : BitVec 32) (k0_hw33 : k0_chk33 v89), 8 ∣ (k0_mult50 v89).toNat := fun v89 k0_hw33 => k0_hw33.1
theorem k0_off84_inb : ∀ (v89 : BitVec 32) (k0_hw33 : k0_chk33 v89), ∀ a, (k0_off84 v89) a + S8x128.size a ≤ S294912x128.size a := fun v89 k0_hw33 => k0_hw33.2

def k0_off85 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_38 : BitVec 32 := 16#32
  let v83 : BitVec 32 := Scalar.muli arg11 c16_i32_38
  let c0_i32_39 : BitVec 32 := 0#32
  let v84 : BitVec 32 := Scalar.addi v83 c0_i32_39
  let c8_i32 : BitVec 32 := 8#32
  let v90 : BitVec 32 := Scalar.muli v84 c8_i32
  let v91 : BitVec 32 := v90
  let c0_i32_42 : BitVec 32 := 0#32
  ![v91.toNat, 0]
def k0_off86 (i : grid0.Coords) (k0_t3 : Fin k0_t3_loop.trips) : Fin 1 → Nat :=
  let c16384_i32_46 : BitVec 32 := 16384#32
  let arg0 : BitVec 32 := BitVec.ofNat 32 (i 0).val
  let c512_i32_45 : BitVec 32 := 512#32
  let v98 : BitVec 32 := Scalar.muli arg0 c512_i32_45
  let v99 : BitVec 32 := Scalar.addi c16384_i32_46 v98
  let c0_i32_24 : BitVec 32 := 0#32
  let c1_i32_26 : BitVec 32 := 1#32
  let arg11 : BitVec 32 := Scf.iv c0_i32_24 c1_i32_26 k0_t3
  let c16_i32_43 : BitVec 32 := 16#32
  let v96 : BitVec 32 := Scalar.muli arg11 c16_i32_43
  let c1_i32_44 : BitVec 32 := 1#32
  let v97 : BitVec 32 := Scalar.addi v96 c1_i32_44
  let v100 : BitVec 32 := Scalar.addi v99 v97
  let v101 : Index := Scalar.indexCast v100
  ![v101.toNat]
def k0_mult51 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_43 : BitVec 32 := 16#32
  let v96 : BitVec 32 := Scalar.muli arg11 c16_i32_43
  let c1_i32_44 : BitVec 32 := 1#32
  let v97 : BitVec 32 := Scalar.addi v96 c1_i32_44
  let c8_i32_47 : BitVec 32 := 8#32
  let v103 : BitVec 32 := Scalar.muli v97 c8_i32_47
  v103
def k0_mult52 (v102 : BitVec 32) : BitVec 32 :=
  let c8_i32_48 : BitVec 32 := 8#32
  let v105 : BitVec 32 := Scalar.muli v102 c8_i32_48
  v105

def k0_off87 (v102 : BitVec 32) : Fin 2 → Nat :=
  let c8_i32_48 : BitVec 32 := 8#32
  let v105 : BitVec 32 := Scalar.muli v102 c8_i32_48
  let v106 : BitVec 32 := v105
  let c0_i32_49 : BitVec 32 := 0#32
  ![v106.toNat, 0]

def k0_chk34 (v102 : BitVec 32) : Prop :=
  (8 ∣ (k0_mult52 v102).toNat) ∧
  (∀ a, (k0_off87 v102) a + S8x128.size a ≤ S294912x128.size a)
theorem k0_mult52_dvd : ∀ (v102 : BitVec 32) (k0_hw34 : k0_chk34 v102), 8 ∣ (k0_mult52 v102).toNat := fun v102 k0_hw34 => k0_hw34.1
theorem k0_off87_inb : ∀ (v102 : BitVec 32) (k0_hw34 : k0_chk34 v102), ∀ a, (k0_off87 v102) a + S8x128.size a ≤ S294912x128.size a := fun v102 k0_hw34 => k0_hw34.2

def k0_off88 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_43 : BitVec 32 := 16#32
  let v96 : BitVec 32 := Scalar.muli arg11 c16_i32_43
  let c1_i32_44 : BitVec 32 := 1#32
  let v97 : BitVec 32 := Scalar.addi v96 c1_i32_44
  let c8_i32_47 : BitVec 32 := 8#32
  let v103 : BitVec 32 := Scalar.muli v97 c8_i32_47
  let v104 : BitVec 32 := v103
  let c0_i32_50 : BitVec 32 := 0#32
  ![v104.toNat, 0]
def k0_off89 (i : grid0.Coords) (k0_t3 : Fin k0_t3_loop.trips) : Fin 1 → Nat :=
  let c16384_i32_53 : BitVec 32 := 16384#32
  let arg0 : BitVec 32 := BitVec.ofNat 32 (i 0).val
  let c512_i32_52 : BitVec 32 := 512#32
  let v111 : BitVec 32 := Scalar.muli arg0 c512_i32_52
  let v112 : BitVec 32 := Scalar.addi c16384_i32_53 v111
  let c0_i32_24 : BitVec 32 := 0#32
  let c1_i32_26 : BitVec 32 := 1#32
  let arg11 : BitVec 32 := Scf.iv c0_i32_24 c1_i32_26 k0_t3
  let c16_i32_51 : BitVec 32 := 16#32
  let v109 : BitVec 32 := Scalar.muli arg11 c16_i32_51
  let c2_i32 : BitVec 32 := 2#32
  let v110 : BitVec 32 := Scalar.addi v109 c2_i32
  let v113 : BitVec 32 := Scalar.addi v112 v110
  let v114 : Index := Scalar.indexCast v113
  ![v114.toNat]
def k0_mult53 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_51 : BitVec 32 := 16#32
  let v109 : BitVec 32 := Scalar.muli arg11 c16_i32_51
  let c2_i32 : BitVec 32 := 2#32
  let v110 : BitVec 32 := Scalar.addi v109 c2_i32
  let c8_i32_54 : BitVec 32 := 8#32
  let v116 : BitVec 32 := Scalar.muli v110 c8_i32_54
  v116
def k0_mult54 (v115 : BitVec 32) : BitVec 32 :=
  let c8_i32_55 : BitVec 32 := 8#32
  let v118 : BitVec 32 := Scalar.muli v115 c8_i32_55
  v118

def k0_off90 (v115 : BitVec 32) : Fin 2 → Nat :=
  let c8_i32_55 : BitVec 32 := 8#32
  let v118 : BitVec 32 := Scalar.muli v115 c8_i32_55
  let v119 : BitVec 32 := v118
  let c0_i32_56 : BitVec 32 := 0#32
  ![v119.toNat, 0]

def k0_chk35 (v115 : BitVec 32) : Prop :=
  (8 ∣ (k0_mult54 v115).toNat) ∧
  (∀ a, (k0_off90 v115) a + S8x128.size a ≤ S294912x128.size a)
theorem k0_mult54_dvd : ∀ (v115 : BitVec 32) (k0_hw35 : k0_chk35 v115), 8 ∣ (k0_mult54 v115).toNat := fun v115 k0_hw35 => k0_hw35.1
theorem k0_off90_inb : ∀ (v115 : BitVec 32) (k0_hw35 : k0_chk35 v115), ∀ a, (k0_off90 v115) a + S8x128.size a ≤ S294912x128.size a := fun v115 k0_hw35 => k0_hw35.2

def k0_off91 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_51 : BitVec 32 := 16#32
  let v109 : BitVec 32 := Scalar.muli arg11 c16_i32_51
  let c2_i32 : BitVec 32 := 2#32
  let v110 : BitVec 32 := Scalar.addi v109 c2_i32
  let c8_i32_54 : BitVec 32 := 8#32
  let v116 : BitVec 32 := Scalar.muli v110 c8_i32_54
  let v117 : BitVec 32 := v116
  let c0_i32_57 : BitVec 32 := 0#32
  ![v117.toNat, 0]
def k0_off92 (i : grid0.Coords) (k0_t3 : Fin k0_t3_loop.trips) : Fin 1 → Nat :=
  let c16384_i32_60 : BitVec 32 := 16384#32
  let arg0 : BitVec 32 := BitVec.ofNat 32 (i 0).val
  let c512_i32_59 : BitVec 32 := 512#32
  let v124 : BitVec 32 := Scalar.muli arg0 c512_i32_59
  let v125 : BitVec 32 := Scalar.addi c16384_i32_60 v124
  let c0_i32_24 : BitVec 32 := 0#32
  let c1_i32_26 : BitVec 32 := 1#32
  let arg11 : BitVec 32 := Scf.iv c0_i32_24 c1_i32_26 k0_t3
  let c16_i32_58 : BitVec 32 := 16#32
  let v122 : BitVec 32 := Scalar.muli arg11 c16_i32_58
  let c3_i32 : BitVec 32 := 3#32
  let v123 : BitVec 32 := Scalar.addi v122 c3_i32
  let v126 : BitVec 32 := Scalar.addi v125 v123
  let v127 : Index := Scalar.indexCast v126
  ![v127.toNat]
def k0_mult55 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_58 : BitVec 32 := 16#32
  let v122 : BitVec 32 := Scalar.muli arg11 c16_i32_58
  let c3_i32 : BitVec 32 := 3#32
  let v123 : BitVec 32 := Scalar.addi v122 c3_i32
  let c8_i32_61 : BitVec 32 := 8#32
  let v129 : BitVec 32 := Scalar.muli v123 c8_i32_61
  v129
def k0_mult56 (v128 : BitVec 32) : BitVec 32 :=
  let c8_i32_62 : BitVec 32 := 8#32
  let v131 : BitVec 32 := Scalar.muli v128 c8_i32_62
  v131

def k0_off93 (v128 : BitVec 32) : Fin 2 → Nat :=
  let c8_i32_62 : BitVec 32 := 8#32
  let v131 : BitVec 32 := Scalar.muli v128 c8_i32_62
  let v132 : BitVec 32 := v131
  let c0_i32_63 : BitVec 32 := 0#32
  ![v132.toNat, 0]

def k0_chk36 (v128 : BitVec 32) : Prop :=
  (8 ∣ (k0_mult56 v128).toNat) ∧
  (∀ a, (k0_off93 v128) a + S8x128.size a ≤ S294912x128.size a)
theorem k0_mult56_dvd : ∀ (v128 : BitVec 32) (k0_hw36 : k0_chk36 v128), 8 ∣ (k0_mult56 v128).toNat := fun v128 k0_hw36 => k0_hw36.1
theorem k0_off93_inb : ∀ (v128 : BitVec 32) (k0_hw36 : k0_chk36 v128), ∀ a, (k0_off93 v128) a + S8x128.size a ≤ S294912x128.size a := fun v128 k0_hw36 => k0_hw36.2

def k0_off94 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_58 : BitVec 32 := 16#32
  let v122 : BitVec 32 := Scalar.muli arg11 c16_i32_58
  let c3_i32 : BitVec 32 := 3#32
  let v123 : BitVec 32 := Scalar.addi v122 c3_i32
  let c8_i32_61 : BitVec 32 := 8#32
  let v129 : BitVec 32 := Scalar.muli v123 c8_i32_61
  let v130 : BitVec 32 := v129
  let c0_i32_64 : BitVec 32 := 0#32
  ![v130.toNat, 0]
def k0_off95 (i : grid0.Coords) (k0_t3 : Fin k0_t3_loop.trips) : Fin 1 → Nat :=
  let c16384_i32_67 : BitVec 32 := 16384#32
  let arg0 : BitVec 32 := BitVec.ofNat 32 (i 0).val
  let c512_i32_66 : BitVec 32 := 512#32
  let v137 : BitVec 32 := Scalar.muli arg0 c512_i32_66
  let v138 : BitVec 32 := Scalar.addi c16384_i32_67 v137
  let c0_i32_24 : BitVec 32 := 0#32
  let c1_i32_26 : BitVec 32 := 1#32
  let arg11 : BitVec 32 := Scf.iv c0_i32_24 c1_i32_26 k0_t3
  let c16_i32_65 : BitVec 32 := 16#32
  let v135 : BitVec 32 := Scalar.muli arg11 c16_i32_65
  let c4_i32 : BitVec 32 := 4#32
  let v136 : BitVec 32 := Scalar.addi v135 c4_i32
  let v139 : BitVec 32 := Scalar.addi v138 v136
  let v140 : Index := Scalar.indexCast v139
  ![v140.toNat]
def k0_mult57 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_65 : BitVec 32 := 16#32
  let v135 : BitVec 32 := Scalar.muli arg11 c16_i32_65
  let c4_i32 : BitVec 32 := 4#32
  let v136 : BitVec 32 := Scalar.addi v135 c4_i32
  let c8_i32_68 : BitVec 32 := 8#32
  let v142 : BitVec 32 := Scalar.muli v136 c8_i32_68
  v142
def k0_mult58 (v141 : BitVec 32) : BitVec 32 :=
  let c8_i32_69 : BitVec 32 := 8#32
  let v144 : BitVec 32 := Scalar.muli v141 c8_i32_69
  v144

def k0_off96 (v141 : BitVec 32) : Fin 2 → Nat :=
  let c8_i32_69 : BitVec 32 := 8#32
  let v144 : BitVec 32 := Scalar.muli v141 c8_i32_69
  let v145 : BitVec 32 := v144
  let c0_i32_70 : BitVec 32 := 0#32
  ![v145.toNat, 0]

def k0_chk37 (v141 : BitVec 32) : Prop :=
  (8 ∣ (k0_mult58 v141).toNat) ∧
  (∀ a, (k0_off96 v141) a + S8x128.size a ≤ S294912x128.size a)
theorem k0_mult58_dvd : ∀ (v141 : BitVec 32) (k0_hw37 : k0_chk37 v141), 8 ∣ (k0_mult58 v141).toNat := fun v141 k0_hw37 => k0_hw37.1
theorem k0_off96_inb : ∀ (v141 : BitVec 32) (k0_hw37 : k0_chk37 v141), ∀ a, (k0_off96 v141) a + S8x128.size a ≤ S294912x128.size a := fun v141 k0_hw37 => k0_hw37.2

def k0_off97 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_65 : BitVec 32 := 16#32
  let v135 : BitVec 32 := Scalar.muli arg11 c16_i32_65
  let c4_i32 : BitVec 32 := 4#32
  let v136 : BitVec 32 := Scalar.addi v135 c4_i32
  let c8_i32_68 : BitVec 32 := 8#32
  let v142 : BitVec 32 := Scalar.muli v136 c8_i32_68
  let v143 : BitVec 32 := v142
  let c0_i32_71 : BitVec 32 := 0#32
  ![v143.toNat, 0]
def k0_off98 (i : grid0.Coords) (k0_t3 : Fin k0_t3_loop.trips) : Fin 1 → Nat :=
  let c16384_i32_74 : BitVec 32 := 16384#32
  let arg0 : BitVec 32 := BitVec.ofNat 32 (i 0).val
  let c512_i32_73 : BitVec 32 := 512#32
  let v150 : BitVec 32 := Scalar.muli arg0 c512_i32_73
  let v151 : BitVec 32 := Scalar.addi c16384_i32_74 v150
  let c0_i32_24 : BitVec 32 := 0#32
  let c1_i32_26 : BitVec 32 := 1#32
  let arg11 : BitVec 32 := Scf.iv c0_i32_24 c1_i32_26 k0_t3
  let c16_i32_72 : BitVec 32 := 16#32
  let v148 : BitVec 32 := Scalar.muli arg11 c16_i32_72
  let c5_i32 : BitVec 32 := 5#32
  let v149 : BitVec 32 := Scalar.addi v148 c5_i32
  let v152 : BitVec 32 := Scalar.addi v151 v149
  let v153 : Index := Scalar.indexCast v152
  ![v153.toNat]
def k0_mult59 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_72 : BitVec 32 := 16#32
  let v148 : BitVec 32 := Scalar.muli arg11 c16_i32_72
  let c5_i32 : BitVec 32 := 5#32
  let v149 : BitVec 32 := Scalar.addi v148 c5_i32
  let c8_i32_75 : BitVec 32 := 8#32
  let v155 : BitVec 32 := Scalar.muli v149 c8_i32_75
  v155
def k0_mult60 (v154 : BitVec 32) : BitVec 32 :=
  let c8_i32_76 : BitVec 32 := 8#32
  let v157 : BitVec 32 := Scalar.muli v154 c8_i32_76
  v157

def k0_off99 (v154 : BitVec 32) : Fin 2 → Nat :=
  let c8_i32_76 : BitVec 32 := 8#32
  let v157 : BitVec 32 := Scalar.muli v154 c8_i32_76
  let v158 : BitVec 32 := v157
  let c0_i32_77 : BitVec 32 := 0#32
  ![v158.toNat, 0]

def k0_chk38 (v154 : BitVec 32) : Prop :=
  (8 ∣ (k0_mult60 v154).toNat) ∧
  (∀ a, (k0_off99 v154) a + S8x128.size a ≤ S294912x128.size a)
theorem k0_mult60_dvd : ∀ (v154 : BitVec 32) (k0_hw38 : k0_chk38 v154), 8 ∣ (k0_mult60 v154).toNat := fun v154 k0_hw38 => k0_hw38.1
theorem k0_off99_inb : ∀ (v154 : BitVec 32) (k0_hw38 : k0_chk38 v154), ∀ a, (k0_off99 v154) a + S8x128.size a ≤ S294912x128.size a := fun v154 k0_hw38 => k0_hw38.2

def k0_off100 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_72 : BitVec 32 := 16#32
  let v148 : BitVec 32 := Scalar.muli arg11 c16_i32_72
  let c5_i32 : BitVec 32 := 5#32
  let v149 : BitVec 32 := Scalar.addi v148 c5_i32
  let c8_i32_75 : BitVec 32 := 8#32
  let v155 : BitVec 32 := Scalar.muli v149 c8_i32_75
  let v156 : BitVec 32 := v155
  let c0_i32_78 : BitVec 32 := 0#32
  ![v156.toNat, 0]
def k0_off101 (i : grid0.Coords) (k0_t3 : Fin k0_t3_loop.trips) : Fin 1 → Nat :=
  let c16384_i32_81 : BitVec 32 := 16384#32
  let arg0 : BitVec 32 := BitVec.ofNat 32 (i 0).val
  let c512_i32_80 : BitVec 32 := 512#32
  let v163 : BitVec 32 := Scalar.muli arg0 c512_i32_80
  let v164 : BitVec 32 := Scalar.addi c16384_i32_81 v163
  let c0_i32_24 : BitVec 32 := 0#32
  let c1_i32_26 : BitVec 32 := 1#32
  let arg11 : BitVec 32 := Scf.iv c0_i32_24 c1_i32_26 k0_t3
  let c16_i32_79 : BitVec 32 := 16#32
  let v161 : BitVec 32 := Scalar.muli arg11 c16_i32_79
  let c6_i32 : BitVec 32 := 6#32
  let v162 : BitVec 32 := Scalar.addi v161 c6_i32
  let v165 : BitVec 32 := Scalar.addi v164 v162
  let v166 : Index := Scalar.indexCast v165
  ![v166.toNat]
def k0_mult61 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_79 : BitVec 32 := 16#32
  let v161 : BitVec 32 := Scalar.muli arg11 c16_i32_79
  let c6_i32 : BitVec 32 := 6#32
  let v162 : BitVec 32 := Scalar.addi v161 c6_i32
  let c8_i32_82 : BitVec 32 := 8#32
  let v168 : BitVec 32 := Scalar.muli v162 c8_i32_82
  v168
def k0_mult62 (v167 : BitVec 32) : BitVec 32 :=
  let c8_i32_83 : BitVec 32 := 8#32
  let v170 : BitVec 32 := Scalar.muli v167 c8_i32_83
  v170

def k0_off102 (v167 : BitVec 32) : Fin 2 → Nat :=
  let c8_i32_83 : BitVec 32 := 8#32
  let v170 : BitVec 32 := Scalar.muli v167 c8_i32_83
  let v171 : BitVec 32 := v170
  let c0_i32_84 : BitVec 32 := 0#32
  ![v171.toNat, 0]

def k0_chk39 (v167 : BitVec 32) : Prop :=
  (8 ∣ (k0_mult62 v167).toNat) ∧
  (∀ a, (k0_off102 v167) a + S8x128.size a ≤ S294912x128.size a)
theorem k0_mult62_dvd : ∀ (v167 : BitVec 32) (k0_hw39 : k0_chk39 v167), 8 ∣ (k0_mult62 v167).toNat := fun v167 k0_hw39 => k0_hw39.1
theorem k0_off102_inb : ∀ (v167 : BitVec 32) (k0_hw39 : k0_chk39 v167), ∀ a, (k0_off102 v167) a + S8x128.size a ≤ S294912x128.size a := fun v167 k0_hw39 => k0_hw39.2

def k0_off103 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_79 : BitVec 32 := 16#32
  let v161 : BitVec 32 := Scalar.muli arg11 c16_i32_79
  let c6_i32 : BitVec 32 := 6#32
  let v162 : BitVec 32 := Scalar.addi v161 c6_i32
  let c8_i32_82 : BitVec 32 := 8#32
  let v168 : BitVec 32 := Scalar.muli v162 c8_i32_82
  let v169 : BitVec 32 := v168
  let c0_i32_85 : BitVec 32 := 0#32
  ![v169.toNat, 0]
def k0_off104 (i : grid0.Coords) (k0_t3 : Fin k0_t3_loop.trips) : Fin 1 → Nat :=
  let c16384_i32_88 : BitVec 32 := 16384#32
  let arg0 : BitVec 32 := BitVec.ofNat 32 (i 0).val
  let c512_i32_87 : BitVec 32 := 512#32
  let v176 : BitVec 32 := Scalar.muli arg0 c512_i32_87
  let v177 : BitVec 32 := Scalar.addi c16384_i32_88 v176
  let c0_i32_24 : BitVec 32 := 0#32
  let c1_i32_26 : BitVec 32 := 1#32
  let arg11 : BitVec 32 := Scf.iv c0_i32_24 c1_i32_26 k0_t3
  let c16_i32_86 : BitVec 32 := 16#32
  let v174 : BitVec 32 := Scalar.muli arg11 c16_i32_86
  let c7_i32 : BitVec 32 := 7#32
  let v175 : BitVec 32 := Scalar.addi v174 c7_i32
  let v178 : BitVec 32 := Scalar.addi v177 v175
  let v179 : Index := Scalar.indexCast v178
  ![v179.toNat]
def k0_mult63 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_86 : BitVec 32 := 16#32
  let v174 : BitVec 32 := Scalar.muli arg11 c16_i32_86
  let c7_i32 : BitVec 32 := 7#32
  let v175 : BitVec 32 := Scalar.addi v174 c7_i32
  let c8_i32_89 : BitVec 32 := 8#32
  let v181 : BitVec 32 := Scalar.muli v175 c8_i32_89
  v181
def k0_mult64 (v180 : BitVec 32) : BitVec 32 :=
  let c8_i32_90 : BitVec 32 := 8#32
  let v183 : BitVec 32 := Scalar.muli v180 c8_i32_90
  v183

def k0_off105 (v180 : BitVec 32) : Fin 2 → Nat :=
  let c8_i32_90 : BitVec 32 := 8#32
  let v183 : BitVec 32 := Scalar.muli v180 c8_i32_90
  let v184 : BitVec 32 := v183
  let c0_i32_91 : BitVec 32 := 0#32
  ![v184.toNat, 0]

def k0_chk40 (v180 : BitVec 32) : Prop :=
  (8 ∣ (k0_mult64 v180).toNat) ∧
  (∀ a, (k0_off105 v180) a + S8x128.size a ≤ S294912x128.size a)
theorem k0_mult64_dvd : ∀ (v180 : BitVec 32) (k0_hw40 : k0_chk40 v180), 8 ∣ (k0_mult64 v180).toNat := fun v180 k0_hw40 => k0_hw40.1
theorem k0_off105_inb : ∀ (v180 : BitVec 32) (k0_hw40 : k0_chk40 v180), ∀ a, (k0_off105 v180) a + S8x128.size a ≤ S294912x128.size a := fun v180 k0_hw40 => k0_hw40.2

def k0_off106 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_86 : BitVec 32 := 16#32
  let v174 : BitVec 32 := Scalar.muli arg11 c16_i32_86
  let c7_i32 : BitVec 32 := 7#32
  let v175 : BitVec 32 := Scalar.addi v174 c7_i32
  let c8_i32_89 : BitVec 32 := 8#32
  let v181 : BitVec 32 := Scalar.muli v175 c8_i32_89
  let v182 : BitVec 32 := v181
  let c0_i32_92 : BitVec 32 := 0#32
  ![v182.toNat, 0]
def k0_off107 (i : grid0.Coords) (k0_t3 : Fin k0_t3_loop.trips) : Fin 1 → Nat :=
  let c16384_i32_96 : BitVec 32 := 16384#32
  let arg0 : BitVec 32 := BitVec.ofNat 32 (i 0).val
  let c512_i32_95 : BitVec 32 := 512#32
  let v189 : BitVec 32 := Scalar.muli arg0 c512_i32_95
  let v190 : BitVec 32 := Scalar.addi c16384_i32_96 v189
  let c0_i32_24 : BitVec 32 := 0#32
  let c1_i32_26 : BitVec 32 := 1#32
  let arg11 : BitVec 32 := Scf.iv c0_i32_24 c1_i32_26 k0_t3
  let c16_i32_93 : BitVec 32 := 16#32
  let v187 : BitVec 32 := Scalar.muli arg11 c16_i32_93
  let c8_i32_94 : BitVec 32 := 8#32
  let v188 : BitVec 32 := Scalar.addi v187 c8_i32_94
  let v191 : BitVec 32 := Scalar.addi v190 v188
  let v192 : Index := Scalar.indexCast v191
  ![v192.toNat]
def k0_mult65 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_93 : BitVec 32 := 16#32
  let v187 : BitVec 32 := Scalar.muli arg11 c16_i32_93
  let c8_i32_94 : BitVec 32 := 8#32
  let v188 : BitVec 32 := Scalar.addi v187 c8_i32_94
  let c8_i32_97 : BitVec 32 := 8#32
  let v194 : BitVec 32 := Scalar.muli v188 c8_i32_97
  v194
def k0_mult66 (v193 : BitVec 32) : BitVec 32 :=
  let c8_i32_98 : BitVec 32 := 8#32
  let v196 : BitVec 32 := Scalar.muli v193 c8_i32_98
  v196

def k0_off108 (v193 : BitVec 32) : Fin 2 → Nat :=
  let c8_i32_98 : BitVec 32 := 8#32
  let v196 : BitVec 32 := Scalar.muli v193 c8_i32_98
  let v197 : BitVec 32 := v196
  let c0_i32_99 : BitVec 32 := 0#32
  ![v197.toNat, 0]

def k0_chk41 (v193 : BitVec 32) : Prop :=
  (8 ∣ (k0_mult66 v193).toNat) ∧
  (∀ a, (k0_off108 v193) a + S8x128.size a ≤ S294912x128.size a)
theorem k0_mult66_dvd : ∀ (v193 : BitVec 32) (k0_hw41 : k0_chk41 v193), 8 ∣ (k0_mult66 v193).toNat := fun v193 k0_hw41 => k0_hw41.1
theorem k0_off108_inb : ∀ (v193 : BitVec 32) (k0_hw41 : k0_chk41 v193), ∀ a, (k0_off108 v193) a + S8x128.size a ≤ S294912x128.size a := fun v193 k0_hw41 => k0_hw41.2

def k0_off109 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_93 : BitVec 32 := 16#32
  let v187 : BitVec 32 := Scalar.muli arg11 c16_i32_93
  let c8_i32_94 : BitVec 32 := 8#32
  let v188 : BitVec 32 := Scalar.addi v187 c8_i32_94
  let c8_i32_97 : BitVec 32 := 8#32
  let v194 : BitVec 32 := Scalar.muli v188 c8_i32_97
  let v195 : BitVec 32 := v194
  let c0_i32_100 : BitVec 32 := 0#32
  ![v195.toNat, 0]
def k0_off110 (i : grid0.Coords) (k0_t3 : Fin k0_t3_loop.trips) : Fin 1 → Nat :=
  let c16384_i32_103 : BitVec 32 := 16384#32
  let arg0 : BitVec 32 := BitVec.ofNat 32 (i 0).val
  let c512_i32_102 : BitVec 32 := 512#32
  let v202 : BitVec 32 := Scalar.muli arg0 c512_i32_102
  let v203 : BitVec 32 := Scalar.addi c16384_i32_103 v202
  let c0_i32_24 : BitVec 32 := 0#32
  let c1_i32_26 : BitVec 32 := 1#32
  let arg11 : BitVec 32 := Scf.iv c0_i32_24 c1_i32_26 k0_t3
  let c16_i32_101 : BitVec 32 := 16#32
  let v200 : BitVec 32 := Scalar.muli arg11 c16_i32_101
  let c9_i32 : BitVec 32 := 9#32
  let v201 : BitVec 32 := Scalar.addi v200 c9_i32
  let v204 : BitVec 32 := Scalar.addi v203 v201
  let v205 : Index := Scalar.indexCast v204
  ![v205.toNat]
def k0_mult67 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_101 : BitVec 32 := 16#32
  let v200 : BitVec 32 := Scalar.muli arg11 c16_i32_101
  let c9_i32 : BitVec 32 := 9#32
  let v201 : BitVec 32 := Scalar.addi v200 c9_i32
  let c8_i32_104 : BitVec 32 := 8#32
  let v207 : BitVec 32 := Scalar.muli v201 c8_i32_104
  v207
def k0_mult68 (v206 : BitVec 32) : BitVec 32 :=
  let c8_i32_105 : BitVec 32 := 8#32
  let v209 : BitVec 32 := Scalar.muli v206 c8_i32_105
  v209

def k0_off111 (v206 : BitVec 32) : Fin 2 → Nat :=
  let c8_i32_105 : BitVec 32 := 8#32
  let v209 : BitVec 32 := Scalar.muli v206 c8_i32_105
  let v210 : BitVec 32 := v209
  let c0_i32_106 : BitVec 32 := 0#32
  ![v210.toNat, 0]

def k0_chk42 (v206 : BitVec 32) : Prop :=
  (8 ∣ (k0_mult68 v206).toNat) ∧
  (∀ a, (k0_off111 v206) a + S8x128.size a ≤ S294912x128.size a)
theorem k0_mult68_dvd : ∀ (v206 : BitVec 32) (k0_hw42 : k0_chk42 v206), 8 ∣ (k0_mult68 v206).toNat := fun v206 k0_hw42 => k0_hw42.1
theorem k0_off111_inb : ∀ (v206 : BitVec 32) (k0_hw42 : k0_chk42 v206), ∀ a, (k0_off111 v206) a + S8x128.size a ≤ S294912x128.size a := fun v206 k0_hw42 => k0_hw42.2

def k0_off112 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_101 : BitVec 32 := 16#32
  let v200 : BitVec 32 := Scalar.muli arg11 c16_i32_101
  let c9_i32 : BitVec 32 := 9#32
  let v201 : BitVec 32 := Scalar.addi v200 c9_i32
  let c8_i32_104 : BitVec 32 := 8#32
  let v207 : BitVec 32 := Scalar.muli v201 c8_i32_104
  let v208 : BitVec 32 := v207
  let c0_i32_107 : BitVec 32 := 0#32
  ![v208.toNat, 0]
def k0_off113 (i : grid0.Coords) (k0_t3 : Fin k0_t3_loop.trips) : Fin 1 → Nat :=
  let c16384_i32_110 : BitVec 32 := 16384#32
  let arg0 : BitVec 32 := BitVec.ofNat 32 (i 0).val
  let c512_i32_109 : BitVec 32 := 512#32
  let v215 : BitVec 32 := Scalar.muli arg0 c512_i32_109
  let v216 : BitVec 32 := Scalar.addi c16384_i32_110 v215
  let c0_i32_24 : BitVec 32 := 0#32
  let c1_i32_26 : BitVec 32 := 1#32
  let arg11 : BitVec 32 := Scf.iv c0_i32_24 c1_i32_26 k0_t3
  let c16_i32_108 : BitVec 32 := 16#32
  let v213 : BitVec 32 := Scalar.muli arg11 c16_i32_108
  let c10_i32 : BitVec 32 := 10#32
  let v214 : BitVec 32 := Scalar.addi v213 c10_i32
  let v217 : BitVec 32 := Scalar.addi v216 v214
  let v218 : Index := Scalar.indexCast v217
  ![v218.toNat]
def k0_mult69 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_108 : BitVec 32 := 16#32
  let v213 : BitVec 32 := Scalar.muli arg11 c16_i32_108
  let c10_i32 : BitVec 32 := 10#32
  let v214 : BitVec 32 := Scalar.addi v213 c10_i32
  let c8_i32_111 : BitVec 32 := 8#32
  let v220 : BitVec 32 := Scalar.muli v214 c8_i32_111
  v220
def k0_mult70 (v219 : BitVec 32) : BitVec 32 :=
  let c8_i32_112 : BitVec 32 := 8#32
  let v222 : BitVec 32 := Scalar.muli v219 c8_i32_112
  v222

def k0_off114 (v219 : BitVec 32) : Fin 2 → Nat :=
  let c8_i32_112 : BitVec 32 := 8#32
  let v222 : BitVec 32 := Scalar.muli v219 c8_i32_112
  let v223 : BitVec 32 := v222
  let c0_i32_113 : BitVec 32 := 0#32
  ![v223.toNat, 0]

def k0_chk43 (v219 : BitVec 32) : Prop :=
  (8 ∣ (k0_mult70 v219).toNat) ∧
  (∀ a, (k0_off114 v219) a + S8x128.size a ≤ S294912x128.size a)
theorem k0_mult70_dvd : ∀ (v219 : BitVec 32) (k0_hw43 : k0_chk43 v219), 8 ∣ (k0_mult70 v219).toNat := fun v219 k0_hw43 => k0_hw43.1
theorem k0_off114_inb : ∀ (v219 : BitVec 32) (k0_hw43 : k0_chk43 v219), ∀ a, (k0_off114 v219) a + S8x128.size a ≤ S294912x128.size a := fun v219 k0_hw43 => k0_hw43.2

def k0_off115 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_108 : BitVec 32 := 16#32
  let v213 : BitVec 32 := Scalar.muli arg11 c16_i32_108
  let c10_i32 : BitVec 32 := 10#32
  let v214 : BitVec 32 := Scalar.addi v213 c10_i32
  let c8_i32_111 : BitVec 32 := 8#32
  let v220 : BitVec 32 := Scalar.muli v214 c8_i32_111
  let v221 : BitVec 32 := v220
  let c0_i32_114 : BitVec 32 := 0#32
  ![v221.toNat, 0]
def k0_off116 (i : grid0.Coords) (k0_t3 : Fin k0_t3_loop.trips) : Fin 1 → Nat :=
  let c16384_i32_117 : BitVec 32 := 16384#32
  let arg0 : BitVec 32 := BitVec.ofNat 32 (i 0).val
  let c512_i32_116 : BitVec 32 := 512#32
  let v228 : BitVec 32 := Scalar.muli arg0 c512_i32_116
  let v229 : BitVec 32 := Scalar.addi c16384_i32_117 v228
  let c0_i32_24 : BitVec 32 := 0#32
  let c1_i32_26 : BitVec 32 := 1#32
  let arg11 : BitVec 32 := Scf.iv c0_i32_24 c1_i32_26 k0_t3
  let c16_i32_115 : BitVec 32 := 16#32
  let v226 : BitVec 32 := Scalar.muli arg11 c16_i32_115
  let c11_i32 : BitVec 32 := 11#32
  let v227 : BitVec 32 := Scalar.addi v226 c11_i32
  let v230 : BitVec 32 := Scalar.addi v229 v227
  let v231 : Index := Scalar.indexCast v230
  ![v231.toNat]
def k0_mult71 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_115 : BitVec 32 := 16#32
  let v226 : BitVec 32 := Scalar.muli arg11 c16_i32_115
  let c11_i32 : BitVec 32 := 11#32
  let v227 : BitVec 32 := Scalar.addi v226 c11_i32
  let c8_i32_118 : BitVec 32 := 8#32
  let v233 : BitVec 32 := Scalar.muli v227 c8_i32_118
  v233
def k0_mult72 (v232 : BitVec 32) : BitVec 32 :=
  let c8_i32_119 : BitVec 32 := 8#32
  let v235 : BitVec 32 := Scalar.muli v232 c8_i32_119
  v235

def k0_off117 (v232 : BitVec 32) : Fin 2 → Nat :=
  let c8_i32_119 : BitVec 32 := 8#32
  let v235 : BitVec 32 := Scalar.muli v232 c8_i32_119
  let v236 : BitVec 32 := v235
  let c0_i32_120 : BitVec 32 := 0#32
  ![v236.toNat, 0]

def k0_chk44 (v232 : BitVec 32) : Prop :=
  (8 ∣ (k0_mult72 v232).toNat) ∧
  (∀ a, (k0_off117 v232) a + S8x128.size a ≤ S294912x128.size a)
theorem k0_mult72_dvd : ∀ (v232 : BitVec 32) (k0_hw44 : k0_chk44 v232), 8 ∣ (k0_mult72 v232).toNat := fun v232 k0_hw44 => k0_hw44.1
theorem k0_off117_inb : ∀ (v232 : BitVec 32) (k0_hw44 : k0_chk44 v232), ∀ a, (k0_off117 v232) a + S8x128.size a ≤ S294912x128.size a := fun v232 k0_hw44 => k0_hw44.2

def k0_off118 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_115 : BitVec 32 := 16#32
  let v226 : BitVec 32 := Scalar.muli arg11 c16_i32_115
  let c11_i32 : BitVec 32 := 11#32
  let v227 : BitVec 32 := Scalar.addi v226 c11_i32
  let c8_i32_118 : BitVec 32 := 8#32
  let v233 : BitVec 32 := Scalar.muli v227 c8_i32_118
  let v234 : BitVec 32 := v233
  let c0_i32_121 : BitVec 32 := 0#32
  ![v234.toNat, 0]
def k0_off119 (i : grid0.Coords) (k0_t3 : Fin k0_t3_loop.trips) : Fin 1 → Nat :=
  let c16384_i32_124 : BitVec 32 := 16384#32
  let arg0 : BitVec 32 := BitVec.ofNat 32 (i 0).val
  let c512_i32_123 : BitVec 32 := 512#32
  let v241 : BitVec 32 := Scalar.muli arg0 c512_i32_123
  let v242 : BitVec 32 := Scalar.addi c16384_i32_124 v241
  let c0_i32_24 : BitVec 32 := 0#32
  let c1_i32_26 : BitVec 32 := 1#32
  let arg11 : BitVec 32 := Scf.iv c0_i32_24 c1_i32_26 k0_t3
  let c16_i32_122 : BitVec 32 := 16#32
  let v239 : BitVec 32 := Scalar.muli arg11 c16_i32_122
  let c12_i32 : BitVec 32 := 12#32
  let v240 : BitVec 32 := Scalar.addi v239 c12_i32
  let v243 : BitVec 32 := Scalar.addi v242 v240
  let v244 : Index := Scalar.indexCast v243
  ![v244.toNat]
def k0_mult73 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_122 : BitVec 32 := 16#32
  let v239 : BitVec 32 := Scalar.muli arg11 c16_i32_122
  let c12_i32 : BitVec 32 := 12#32
  let v240 : BitVec 32 := Scalar.addi v239 c12_i32
  let c8_i32_125 : BitVec 32 := 8#32
  let v246 : BitVec 32 := Scalar.muli v240 c8_i32_125
  v246
def k0_mult74 (v245 : BitVec 32) : BitVec 32 :=
  let c8_i32_126 : BitVec 32 := 8#32
  let v248 : BitVec 32 := Scalar.muli v245 c8_i32_126
  v248

def k0_off120 (v245 : BitVec 32) : Fin 2 → Nat :=
  let c8_i32_126 : BitVec 32 := 8#32
  let v248 : BitVec 32 := Scalar.muli v245 c8_i32_126
  let v249 : BitVec 32 := v248
  let c0_i32_127 : BitVec 32 := 0#32
  ![v249.toNat, 0]

def k0_chk45 (v245 : BitVec 32) : Prop :=
  (8 ∣ (k0_mult74 v245).toNat) ∧
  (∀ a, (k0_off120 v245) a + S8x128.size a ≤ S294912x128.size a)
theorem k0_mult74_dvd : ∀ (v245 : BitVec 32) (k0_hw45 : k0_chk45 v245), 8 ∣ (k0_mult74 v245).toNat := fun v245 k0_hw45 => k0_hw45.1
theorem k0_off120_inb : ∀ (v245 : BitVec 32) (k0_hw45 : k0_chk45 v245), ∀ a, (k0_off120 v245) a + S8x128.size a ≤ S294912x128.size a := fun v245 k0_hw45 => k0_hw45.2

def k0_off121 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_122 : BitVec 32 := 16#32
  let v239 : BitVec 32 := Scalar.muli arg11 c16_i32_122
  let c12_i32 : BitVec 32 := 12#32
  let v240 : BitVec 32 := Scalar.addi v239 c12_i32
  let c8_i32_125 : BitVec 32 := 8#32
  let v246 : BitVec 32 := Scalar.muli v240 c8_i32_125
  let v247 : BitVec 32 := v246
  let c0_i32_128 : BitVec 32 := 0#32
  ![v247.toNat, 0]
def k0_off122 (i : grid0.Coords) (k0_t3 : Fin k0_t3_loop.trips) : Fin 1 → Nat :=
  let c16384_i32_131 : BitVec 32 := 16384#32
  let arg0 : BitVec 32 := BitVec.ofNat 32 (i 0).val
  let c512_i32_130 : BitVec 32 := 512#32
  let v254 : BitVec 32 := Scalar.muli arg0 c512_i32_130
  let v255 : BitVec 32 := Scalar.addi c16384_i32_131 v254
  let c0_i32_24 : BitVec 32 := 0#32
  let c1_i32_26 : BitVec 32 := 1#32
  let arg11 : BitVec 32 := Scf.iv c0_i32_24 c1_i32_26 k0_t3
  let c16_i32_129 : BitVec 32 := 16#32
  let v252 : BitVec 32 := Scalar.muli arg11 c16_i32_129
  let c13_i32 : BitVec 32 := 13#32
  let v253 : BitVec 32 := Scalar.addi v252 c13_i32
  let v256 : BitVec 32 := Scalar.addi v255 v253
  let v257 : Index := Scalar.indexCast v256
  ![v257.toNat]
def k0_mult75 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_129 : BitVec 32 := 16#32
  let v252 : BitVec 32 := Scalar.muli arg11 c16_i32_129
  let c13_i32 : BitVec 32 := 13#32
  let v253 : BitVec 32 := Scalar.addi v252 c13_i32
  let c8_i32_132 : BitVec 32 := 8#32
  let v259 : BitVec 32 := Scalar.muli v253 c8_i32_132
  v259
def k0_mult76 (v258 : BitVec 32) : BitVec 32 :=
  let c8_i32_133 : BitVec 32 := 8#32
  let v261 : BitVec 32 := Scalar.muli v258 c8_i32_133
  v261

def k0_off123 (v258 : BitVec 32) : Fin 2 → Nat :=
  let c8_i32_133 : BitVec 32 := 8#32
  let v261 : BitVec 32 := Scalar.muli v258 c8_i32_133
  let v262 : BitVec 32 := v261
  let c0_i32_134 : BitVec 32 := 0#32
  ![v262.toNat, 0]

def k0_chk46 (v258 : BitVec 32) : Prop :=
  (8 ∣ (k0_mult76 v258).toNat) ∧
  (∀ a, (k0_off123 v258) a + S8x128.size a ≤ S294912x128.size a)
theorem k0_mult76_dvd : ∀ (v258 : BitVec 32) (k0_hw46 : k0_chk46 v258), 8 ∣ (k0_mult76 v258).toNat := fun v258 k0_hw46 => k0_hw46.1
theorem k0_off123_inb : ∀ (v258 : BitVec 32) (k0_hw46 : k0_chk46 v258), ∀ a, (k0_off123 v258) a + S8x128.size a ≤ S294912x128.size a := fun v258 k0_hw46 => k0_hw46.2

def k0_off124 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_129 : BitVec 32 := 16#32
  let v252 : BitVec 32 := Scalar.muli arg11 c16_i32_129
  let c13_i32 : BitVec 32 := 13#32
  let v253 : BitVec 32 := Scalar.addi v252 c13_i32
  let c8_i32_132 : BitVec 32 := 8#32
  let v259 : BitVec 32 := Scalar.muli v253 c8_i32_132
  let v260 : BitVec 32 := v259
  let c0_i32_135 : BitVec 32 := 0#32
  ![v260.toNat, 0]
def k0_off125 (i : grid0.Coords) (k0_t3 : Fin k0_t3_loop.trips) : Fin 1 → Nat :=
  let c16384_i32_138 : BitVec 32 := 16384#32
  let arg0 : BitVec 32 := BitVec.ofNat 32 (i 0).val
  let c512_i32_137 : BitVec 32 := 512#32
  let v267 : BitVec 32 := Scalar.muli arg0 c512_i32_137
  let v268 : BitVec 32 := Scalar.addi c16384_i32_138 v267
  let c0_i32_24 : BitVec 32 := 0#32
  let c1_i32_26 : BitVec 32 := 1#32
  let arg11 : BitVec 32 := Scf.iv c0_i32_24 c1_i32_26 k0_t3
  let c16_i32_136 : BitVec 32 := 16#32
  let v265 : BitVec 32 := Scalar.muli arg11 c16_i32_136
  let c14_i32 : BitVec 32 := 14#32
  let v266 : BitVec 32 := Scalar.addi v265 c14_i32
  let v269 : BitVec 32 := Scalar.addi v268 v266
  let v270 : Index := Scalar.indexCast v269
  ![v270.toNat]
def k0_mult77 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_136 : BitVec 32 := 16#32
  let v265 : BitVec 32 := Scalar.muli arg11 c16_i32_136
  let c14_i32 : BitVec 32 := 14#32
  let v266 : BitVec 32 := Scalar.addi v265 c14_i32
  let c8_i32_139 : BitVec 32 := 8#32
  let v272 : BitVec 32 := Scalar.muli v266 c8_i32_139
  v272
def k0_mult78 (v271 : BitVec 32) : BitVec 32 :=
  let c8_i32_140 : BitVec 32 := 8#32
  let v274 : BitVec 32 := Scalar.muli v271 c8_i32_140
  v274

def k0_off126 (v271 : BitVec 32) : Fin 2 → Nat :=
  let c8_i32_140 : BitVec 32 := 8#32
  let v274 : BitVec 32 := Scalar.muli v271 c8_i32_140
  let v275 : BitVec 32 := v274
  let c0_i32_141 : BitVec 32 := 0#32
  ![v275.toNat, 0]

def k0_chk47 (v271 : BitVec 32) : Prop :=
  (8 ∣ (k0_mult78 v271).toNat) ∧
  (∀ a, (k0_off126 v271) a + S8x128.size a ≤ S294912x128.size a)
theorem k0_mult78_dvd : ∀ (v271 : BitVec 32) (k0_hw47 : k0_chk47 v271), 8 ∣ (k0_mult78 v271).toNat := fun v271 k0_hw47 => k0_hw47.1
theorem k0_off126_inb : ∀ (v271 : BitVec 32) (k0_hw47 : k0_chk47 v271), ∀ a, (k0_off126 v271) a + S8x128.size a ≤ S294912x128.size a := fun v271 k0_hw47 => k0_hw47.2

def k0_off127 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_136 : BitVec 32 := 16#32
  let v265 : BitVec 32 := Scalar.muli arg11 c16_i32_136
  let c14_i32 : BitVec 32 := 14#32
  let v266 : BitVec 32 := Scalar.addi v265 c14_i32
  let c8_i32_139 : BitVec 32 := 8#32
  let v272 : BitVec 32 := Scalar.muli v266 c8_i32_139
  let v273 : BitVec 32 := v272
  let c0_i32_142 : BitVec 32 := 0#32
  ![v273.toNat, 0]
def k0_off128 (i : grid0.Coords) (k0_t3 : Fin k0_t3_loop.trips) : Fin 1 → Nat :=
  let c16384_i32_145 : BitVec 32 := 16384#32
  let arg0 : BitVec 32 := BitVec.ofNat 32 (i 0).val
  let c512_i32_144 : BitVec 32 := 512#32
  let v280 : BitVec 32 := Scalar.muli arg0 c512_i32_144
  let v281 : BitVec 32 := Scalar.addi c16384_i32_145 v280
  let c0_i32_24 : BitVec 32 := 0#32
  let c1_i32_26 : BitVec 32 := 1#32
  let arg11 : BitVec 32 := Scf.iv c0_i32_24 c1_i32_26 k0_t3
  let c16_i32_143 : BitVec 32 := 16#32
  let v278 : BitVec 32 := Scalar.muli arg11 c16_i32_143
  let c15_i32 : BitVec 32 := 15#32
  let v279 : BitVec 32 := Scalar.addi v278 c15_i32
  let v282 : BitVec 32 := Scalar.addi v281 v279
  let v283 : Index := Scalar.indexCast v282
  ![v283.toNat]
def k0_mult79 (k0_t3 : Fin k0_t3_loop.trips) : BitVec 32 :=
  let c0_i32_24 : BitVec 32 := 0#32
  let c1_i32_26 : BitVec 32 := 1#32
  let arg11 : BitVec 32 := Scf.iv c0_i32_24 c1_i32_26 k0_t3
  let c16_i32_143 : BitVec 32 := 16#32
  let v278 : BitVec 32 := Scalar.muli arg11 c16_i32_143
  let c15_i32 : BitVec 32 := 15#32
  let v279 : BitVec 32 := Scalar.addi v278 c15_i32
  let c8_i32_146 : BitVec 32 := 8#32
  let v285 : BitVec 32 := Scalar.muli v279 c8_i32_146
  v285
def k0_mult80 (v284 : BitVec 32) : BitVec 32 :=
  let c8_i32_147 : BitVec 32 := 8#32
  let v287 : BitVec 32 := Scalar.muli v284 c8_i32_147
  v287

def k0_off129 (v284 : BitVec 32) : Fin 2 → Nat :=
  let c8_i32_147 : BitVec 32 := 8#32
  let v287 : BitVec 32 := Scalar.muli v284 c8_i32_147
  let v288 : BitVec 32 := v287
  let c0_i32_148 : BitVec 32 := 0#32
  ![v288.toNat, 0]

def k0_chk48 (v284 : BitVec 32) : Prop :=
  (8 ∣ (k0_mult80 v284).toNat) ∧
  (∀ a, (k0_off129 v284) a + S8x128.size a ≤ S294912x128.size a)
theorem k0_mult80_dvd : ∀ (v284 : BitVec 32) (k0_hw48 : k0_chk48 v284), 8 ∣ (k0_mult80 v284).toNat := fun v284 k0_hw48 => k0_hw48.1
theorem k0_off129_inb : ∀ (v284 : BitVec 32) (k0_hw48 : k0_chk48 v284), ∀ a, (k0_off129 v284) a + S8x128.size a ≤ S294912x128.size a := fun v284 k0_hw48 => k0_hw48.2

def k0_off130 (k0_t3 : Fin k0_t3_loop.trips) : Fin 2 → Nat :=
  let c0_i32_24 : BitVec 32 := 0#32
  let c1_i32_26 : BitVec 32 := 1#32
  let arg11 : BitVec 32 := Scf.iv c0_i32_24 c1_i32_26 k0_t3
  let c16_i32_143 : BitVec 32 := 16#32
  let v278 : BitVec 32 := Scalar.muli arg11 c16_i32_143
  let c15_i32 : BitVec 32 := 15#32
  let v279 : BitVec 32 := Scalar.addi v278 c15_i32
  let c8_i32_146 : BitVec 32 := 8#32
  let v285 : BitVec 32 := Scalar.muli v279 c8_i32_146
  let v286 : BitVec 32 := v285
  let c0_i32_149 : BitVec 32 := 0#32
  ![v286.toNat, 0]
def k0_cond2 (i : grid0.Coords) : BitVec 1 :=
  let arg0 : BitVec 32 := BitVec.ofNat 32 (i 0).val
  let c0_i32_28 : BitVec 32 := 0#32
  let v78 : BitVec 1 := Scalar.cmpi .eq arg0 c0_i32_28
  let v79 : BitVec 32 := Scalar.extui v78
  let c0_i32_29 : BitVec 32 := 0#32
  let v80 : BitVec 1 := Scalar.cmpi .ne v79 c0_i32_29
  v80

@[reducible] def k0_t4_loop : Scf.Loop 32 :=
  let c0_i32_38 : BitVec 32 := 0#32
  let c256_i32 : BitVec 32 := 256#32
  let v83 : BitVec 32 := Scalar.addi c0_i32_38 c256_i32
  let c1_i32_39 : BitVec 32 := 1#32
  ⟨c0_i32_38, v83, c1_i32_39⟩
def k0_off131 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_41 : BitVec 32 := 16#32
  let v84 : BitVec 32 := Scalar.muli arg11 c16_i32_41
  let c0_i32_42 : BitVec 32 := 0#32
  let v85 : BitVec 32 := Scalar.addi v84 c0_i32_42
  let v86 : Index := Scalar.indexCast v85
  ![v86.toNat]
def k0_mult81 (v87 : BitVec 32) : BitVec 32 :=
  let c8_i32 : BitVec 32 := 8#32
  let v88 : BitVec 32 := Scalar.muli v87 c8_i32
  v88

def k0_off132 (v87 : BitVec 32) : Fin 2 → Nat :=
  let c8_i32 : BitVec 32 := 8#32
  let v88 : BitVec 32 := Scalar.muli v87 c8_i32
  let v89 : BitVec 32 := v88
  let c0_i32_43 : BitVec 32 := 0#32
  ![v89.toNat, 0]

def k0_chk49 (i : grid0.Coords) (v87 : BitVec 32) : Prop :=
  (∀ (k0_h2 : k0_cond2 i = 1#1), 8 ∣ (k0_mult81 v87).toNat) ∧
  (∀ (k0_h2 : k0_cond2 i = 1#1), ∀ a, (k0_off132 v87) a + S8x128.size a ≤ S294912x128.size a)
theorem k0_mult81_dvd : ∀ (i : grid0.Coords) (v87 : BitVec 32) (k0_hw49 : k0_chk49 i v87), ∀ (k0_h2 : k0_cond2 i = 1#1), 8 ∣ (k0_mult81 v87).toNat := fun i v87 k0_hw49 k0_h2 => k0_hw49.1 k0_h2
theorem k0_off132_inb : ∀ (i : grid0.Coords) (v87 : BitVec 32) (k0_hw49 : k0_chk49 i v87), ∀ (k0_h2 : k0_cond2 i = 1#1), ∀ a, (k0_off132 v87) a + S8x128.size a ≤ S294912x128.size a := fun i v87 k0_hw49 k0_h2 => k0_hw49.2 k0_h2

def k0_off133 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_44 : BitVec 32 := 16#32
  let v91 : BitVec 32 := Scalar.muli arg11 c16_i32_44
  let c1_i32_45 : BitVec 32 := 1#32
  let v92 : BitVec 32 := Scalar.addi v91 c1_i32_45
  let v93 : Index := Scalar.indexCast v92
  ![v93.toNat]
def k0_mult82 (v94 : BitVec 32) : BitVec 32 :=
  let c8_i32_46 : BitVec 32 := 8#32
  let v95 : BitVec 32 := Scalar.muli v94 c8_i32_46
  v95

def k0_off134 (v94 : BitVec 32) : Fin 2 → Nat :=
  let c8_i32_46 : BitVec 32 := 8#32
  let v95 : BitVec 32 := Scalar.muli v94 c8_i32_46
  let v96 : BitVec 32 := v95
  let c0_i32_47 : BitVec 32 := 0#32
  ![v96.toNat, 0]

def k0_chk50 (i : grid0.Coords) (v94 : BitVec 32) : Prop :=
  (∀ (k0_h2 : k0_cond2 i = 1#1), 8 ∣ (k0_mult82 v94).toNat) ∧
  (∀ (k0_h2 : k0_cond2 i = 1#1), ∀ a, (k0_off134 v94) a + S8x128.size a ≤ S294912x128.size a)
theorem k0_mult82_dvd : ∀ (i : grid0.Coords) (v94 : BitVec 32) (k0_hw50 : k0_chk50 i v94), ∀ (k0_h2 : k0_cond2 i = 1#1), 8 ∣ (k0_mult82 v94).toNat := fun i v94 k0_hw50 k0_h2 => k0_hw50.1 k0_h2
theorem k0_off134_inb : ∀ (i : grid0.Coords) (v94 : BitVec 32) (k0_hw50 : k0_chk50 i v94), ∀ (k0_h2 : k0_cond2 i = 1#1), ∀ a, (k0_off134 v94) a + S8x128.size a ≤ S294912x128.size a := fun i v94 k0_hw50 k0_h2 => k0_hw50.2 k0_h2

def k0_off135 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_48 : BitVec 32 := 16#32
  let v98 : BitVec 32 := Scalar.muli arg11 c16_i32_48
  let c2_i32 : BitVec 32 := 2#32
  let v99 : BitVec 32 := Scalar.addi v98 c2_i32
  let v100 : Index := Scalar.indexCast v99
  ![v100.toNat]
def k0_mult83 (v101 : BitVec 32) : BitVec 32 :=
  let c8_i32_49 : BitVec 32 := 8#32
  let v102 : BitVec 32 := Scalar.muli v101 c8_i32_49
  v102

def k0_off136 (v101 : BitVec 32) : Fin 2 → Nat :=
  let c8_i32_49 : BitVec 32 := 8#32
  let v102 : BitVec 32 := Scalar.muli v101 c8_i32_49
  let v103 : BitVec 32 := v102
  let c0_i32_50 : BitVec 32 := 0#32
  ![v103.toNat, 0]

def k0_chk51 (i : grid0.Coords) (v101 : BitVec 32) : Prop :=
  (∀ (k0_h2 : k0_cond2 i = 1#1), 8 ∣ (k0_mult83 v101).toNat) ∧
  (∀ (k0_h2 : k0_cond2 i = 1#1), ∀ a, (k0_off136 v101) a + S8x128.size a ≤ S294912x128.size a)
theorem k0_mult83_dvd : ∀ (i : grid0.Coords) (v101 : BitVec 32) (k0_hw51 : k0_chk51 i v101), ∀ (k0_h2 : k0_cond2 i = 1#1), 8 ∣ (k0_mult83 v101).toNat := fun i v101 k0_hw51 k0_h2 => k0_hw51.1 k0_h2
theorem k0_off136_inb : ∀ (i : grid0.Coords) (v101 : BitVec 32) (k0_hw51 : k0_chk51 i v101), ∀ (k0_h2 : k0_cond2 i = 1#1), ∀ a, (k0_off136 v101) a + S8x128.size a ≤ S294912x128.size a := fun i v101 k0_hw51 k0_h2 => k0_hw51.2 k0_h2

def k0_off137 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_51 : BitVec 32 := 16#32
  let v105 : BitVec 32 := Scalar.muli arg11 c16_i32_51
  let c3_i32 : BitVec 32 := 3#32
  let v106 : BitVec 32 := Scalar.addi v105 c3_i32
  let v107 : Index := Scalar.indexCast v106
  ![v107.toNat]
def k0_mult84 (v108 : BitVec 32) : BitVec 32 :=
  let c8_i32_52 : BitVec 32 := 8#32
  let v109 : BitVec 32 := Scalar.muli v108 c8_i32_52
  v109

def k0_off138 (v108 : BitVec 32) : Fin 2 → Nat :=
  let c8_i32_52 : BitVec 32 := 8#32
  let v109 : BitVec 32 := Scalar.muli v108 c8_i32_52
  let v110 : BitVec 32 := v109
  let c0_i32_53 : BitVec 32 := 0#32
  ![v110.toNat, 0]

def k0_chk52 (i : grid0.Coords) (v108 : BitVec 32) : Prop :=
  (∀ (k0_h2 : k0_cond2 i = 1#1), 8 ∣ (k0_mult84 v108).toNat) ∧
  (∀ (k0_h2 : k0_cond2 i = 1#1), ∀ a, (k0_off138 v108) a + S8x128.size a ≤ S294912x128.size a)
theorem k0_mult84_dvd : ∀ (i : grid0.Coords) (v108 : BitVec 32) (k0_hw52 : k0_chk52 i v108), ∀ (k0_h2 : k0_cond2 i = 1#1), 8 ∣ (k0_mult84 v108).toNat := fun i v108 k0_hw52 k0_h2 => k0_hw52.1 k0_h2
theorem k0_off138_inb : ∀ (i : grid0.Coords) (v108 : BitVec 32) (k0_hw52 : k0_chk52 i v108), ∀ (k0_h2 : k0_cond2 i = 1#1), ∀ a, (k0_off138 v108) a + S8x128.size a ≤ S294912x128.size a := fun i v108 k0_hw52 k0_h2 => k0_hw52.2 k0_h2

def k0_off139 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_54 : BitVec 32 := 16#32
  let v112 : BitVec 32 := Scalar.muli arg11 c16_i32_54
  let c4_i32 : BitVec 32 := 4#32
  let v113 : BitVec 32 := Scalar.addi v112 c4_i32
  let v114 : Index := Scalar.indexCast v113
  ![v114.toNat]
def k0_mult85 (v115 : BitVec 32) : BitVec 32 :=
  let c8_i32_55 : BitVec 32 := 8#32
  let v116 : BitVec 32 := Scalar.muli v115 c8_i32_55
  v116

def k0_off140 (v115 : BitVec 32) : Fin 2 → Nat :=
  let c8_i32_55 : BitVec 32 := 8#32
  let v116 : BitVec 32 := Scalar.muli v115 c8_i32_55
  let v117 : BitVec 32 := v116
  let c0_i32_56 : BitVec 32 := 0#32
  ![v117.toNat, 0]

def k0_chk53 (i : grid0.Coords) (v115 : BitVec 32) : Prop :=
  (∀ (k0_h2 : k0_cond2 i = 1#1), 8 ∣ (k0_mult85 v115).toNat) ∧
  (∀ (k0_h2 : k0_cond2 i = 1#1), ∀ a, (k0_off140 v115) a + S8x128.size a ≤ S294912x128.size a)
theorem k0_mult85_dvd : ∀ (i : grid0.Coords) (v115 : BitVec 32) (k0_hw53 : k0_chk53 i v115), ∀ (k0_h2 : k0_cond2 i = 1#1), 8 ∣ (k0_mult85 v115).toNat := fun i v115 k0_hw53 k0_h2 => k0_hw53.1 k0_h2
theorem k0_off140_inb : ∀ (i : grid0.Coords) (v115 : BitVec 32) (k0_hw53 : k0_chk53 i v115), ∀ (k0_h2 : k0_cond2 i = 1#1), ∀ a, (k0_off140 v115) a + S8x128.size a ≤ S294912x128.size a := fun i v115 k0_hw53 k0_h2 => k0_hw53.2 k0_h2

def k0_off141 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_57 : BitVec 32 := 16#32
  let v119 : BitVec 32 := Scalar.muli arg11 c16_i32_57
  let c5_i32 : BitVec 32 := 5#32
  let v120 : BitVec 32 := Scalar.addi v119 c5_i32
  let v121 : Index := Scalar.indexCast v120
  ![v121.toNat]
def k0_mult86 (v122 : BitVec 32) : BitVec 32 :=
  let c8_i32_58 : BitVec 32 := 8#32
  let v123 : BitVec 32 := Scalar.muli v122 c8_i32_58
  v123

def k0_off142 (v122 : BitVec 32) : Fin 2 → Nat :=
  let c8_i32_58 : BitVec 32 := 8#32
  let v123 : BitVec 32 := Scalar.muli v122 c8_i32_58
  let v124 : BitVec 32 := v123
  let c0_i32_59 : BitVec 32 := 0#32
  ![v124.toNat, 0]

def k0_chk54 (i : grid0.Coords) (v122 : BitVec 32) : Prop :=
  (∀ (k0_h2 : k0_cond2 i = 1#1), 8 ∣ (k0_mult86 v122).toNat) ∧
  (∀ (k0_h2 : k0_cond2 i = 1#1), ∀ a, (k0_off142 v122) a + S8x128.size a ≤ S294912x128.size a)
theorem k0_mult86_dvd : ∀ (i : grid0.Coords) (v122 : BitVec 32) (k0_hw54 : k0_chk54 i v122), ∀ (k0_h2 : k0_cond2 i = 1#1), 8 ∣ (k0_mult86 v122).toNat := fun i v122 k0_hw54 k0_h2 => k0_hw54.1 k0_h2
theorem k0_off142_inb : ∀ (i : grid0.Coords) (v122 : BitVec 32) (k0_hw54 : k0_chk54 i v122), ∀ (k0_h2 : k0_cond2 i = 1#1), ∀ a, (k0_off142 v122) a + S8x128.size a ≤ S294912x128.size a := fun i v122 k0_hw54 k0_h2 => k0_hw54.2 k0_h2

def k0_off143 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_60 : BitVec 32 := 16#32
  let v126 : BitVec 32 := Scalar.muli arg11 c16_i32_60
  let c6_i32 : BitVec 32 := 6#32
  let v127 : BitVec 32 := Scalar.addi v126 c6_i32
  let v128 : Index := Scalar.indexCast v127
  ![v128.toNat]
def k0_mult87 (v129 : BitVec 32) : BitVec 32 :=
  let c8_i32_61 : BitVec 32 := 8#32
  let v130 : BitVec 32 := Scalar.muli v129 c8_i32_61
  v130

def k0_off144 (v129 : BitVec 32) : Fin 2 → Nat :=
  let c8_i32_61 : BitVec 32 := 8#32
  let v130 : BitVec 32 := Scalar.muli v129 c8_i32_61
  let v131 : BitVec 32 := v130
  let c0_i32_62 : BitVec 32 := 0#32
  ![v131.toNat, 0]

def k0_chk55 (i : grid0.Coords) (v129 : BitVec 32) : Prop :=
  (∀ (k0_h2 : k0_cond2 i = 1#1), 8 ∣ (k0_mult87 v129).toNat) ∧
  (∀ (k0_h2 : k0_cond2 i = 1#1), ∀ a, (k0_off144 v129) a + S8x128.size a ≤ S294912x128.size a)
theorem k0_mult87_dvd : ∀ (i : grid0.Coords) (v129 : BitVec 32) (k0_hw55 : k0_chk55 i v129), ∀ (k0_h2 : k0_cond2 i = 1#1), 8 ∣ (k0_mult87 v129).toNat := fun i v129 k0_hw55 k0_h2 => k0_hw55.1 k0_h2
theorem k0_off144_inb : ∀ (i : grid0.Coords) (v129 : BitVec 32) (k0_hw55 : k0_chk55 i v129), ∀ (k0_h2 : k0_cond2 i = 1#1), ∀ a, (k0_off144 v129) a + S8x128.size a ≤ S294912x128.size a := fun i v129 k0_hw55 k0_h2 => k0_hw55.2 k0_h2

def k0_off145 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_63 : BitVec 32 := 16#32
  let v133 : BitVec 32 := Scalar.muli arg11 c16_i32_63
  let c7_i32 : BitVec 32 := 7#32
  let v134 : BitVec 32 := Scalar.addi v133 c7_i32
  let v135 : Index := Scalar.indexCast v134
  ![v135.toNat]
def k0_mult88 (v136 : BitVec 32) : BitVec 32 :=
  let c8_i32_64 : BitVec 32 := 8#32
  let v137 : BitVec 32 := Scalar.muli v136 c8_i32_64
  v137

def k0_off146 (v136 : BitVec 32) : Fin 2 → Nat :=
  let c8_i32_64 : BitVec 32 := 8#32
  let v137 : BitVec 32 := Scalar.muli v136 c8_i32_64
  let v138 : BitVec 32 := v137
  let c0_i32_65 : BitVec 32 := 0#32
  ![v138.toNat, 0]

def k0_chk56 (i : grid0.Coords) (v136 : BitVec 32) : Prop :=
  (∀ (k0_h2 : k0_cond2 i = 1#1), 8 ∣ (k0_mult88 v136).toNat) ∧
  (∀ (k0_h2 : k0_cond2 i = 1#1), ∀ a, (k0_off146 v136) a + S8x128.size a ≤ S294912x128.size a)
theorem k0_mult88_dvd : ∀ (i : grid0.Coords) (v136 : BitVec 32) (k0_hw56 : k0_chk56 i v136), ∀ (k0_h2 : k0_cond2 i = 1#1), 8 ∣ (k0_mult88 v136).toNat := fun i v136 k0_hw56 k0_h2 => k0_hw56.1 k0_h2
theorem k0_off146_inb : ∀ (i : grid0.Coords) (v136 : BitVec 32) (k0_hw56 : k0_chk56 i v136), ∀ (k0_h2 : k0_cond2 i = 1#1), ∀ a, (k0_off146 v136) a + S8x128.size a ≤ S294912x128.size a := fun i v136 k0_hw56 k0_h2 => k0_hw56.2 k0_h2

def k0_off147 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_66 : BitVec 32 := 16#32
  let v140 : BitVec 32 := Scalar.muli arg11 c16_i32_66
  let c8_i32_67 : BitVec 32 := 8#32
  let v141 : BitVec 32 := Scalar.addi v140 c8_i32_67
  let v142 : Index := Scalar.indexCast v141
  ![v142.toNat]
def k0_mult89 (v143 : BitVec 32) : BitVec 32 :=
  let c8_i32_68 : BitVec 32 := 8#32
  let v144 : BitVec 32 := Scalar.muli v143 c8_i32_68
  v144

def k0_off148 (v143 : BitVec 32) : Fin 2 → Nat :=
  let c8_i32_68 : BitVec 32 := 8#32
  let v144 : BitVec 32 := Scalar.muli v143 c8_i32_68
  let v145 : BitVec 32 := v144
  let c0_i32_69 : BitVec 32 := 0#32
  ![v145.toNat, 0]

def k0_chk57 (i : grid0.Coords) (v143 : BitVec 32) : Prop :=
  (∀ (k0_h2 : k0_cond2 i = 1#1), 8 ∣ (k0_mult89 v143).toNat) ∧
  (∀ (k0_h2 : k0_cond2 i = 1#1), ∀ a, (k0_off148 v143) a + S8x128.size a ≤ S294912x128.size a)
theorem k0_mult89_dvd : ∀ (i : grid0.Coords) (v143 : BitVec 32) (k0_hw57 : k0_chk57 i v143), ∀ (k0_h2 : k0_cond2 i = 1#1), 8 ∣ (k0_mult89 v143).toNat := fun i v143 k0_hw57 k0_h2 => k0_hw57.1 k0_h2
theorem k0_off148_inb : ∀ (i : grid0.Coords) (v143 : BitVec 32) (k0_hw57 : k0_chk57 i v143), ∀ (k0_h2 : k0_cond2 i = 1#1), ∀ a, (k0_off148 v143) a + S8x128.size a ≤ S294912x128.size a := fun i v143 k0_hw57 k0_h2 => k0_hw57.2 k0_h2

def k0_off149 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_70 : BitVec 32 := 16#32
  let v147 : BitVec 32 := Scalar.muli arg11 c16_i32_70
  let c9_i32 : BitVec 32 := 9#32
  let v148 : BitVec 32 := Scalar.addi v147 c9_i32
  let v149 : Index := Scalar.indexCast v148
  ![v149.toNat]
def k0_mult90 (v150 : BitVec 32) : BitVec 32 :=
  let c8_i32_71 : BitVec 32 := 8#32
  let v151 : BitVec 32 := Scalar.muli v150 c8_i32_71
  v151

def k0_off150 (v150 : BitVec 32) : Fin 2 → Nat :=
  let c8_i32_71 : BitVec 32 := 8#32
  let v151 : BitVec 32 := Scalar.muli v150 c8_i32_71
  let v152 : BitVec 32 := v151
  let c0_i32_72 : BitVec 32 := 0#32
  ![v152.toNat, 0]

def k0_chk58 (i : grid0.Coords) (v150 : BitVec 32) : Prop :=
  (∀ (k0_h2 : k0_cond2 i = 1#1), 8 ∣ (k0_mult90 v150).toNat) ∧
  (∀ (k0_h2 : k0_cond2 i = 1#1), ∀ a, (k0_off150 v150) a + S8x128.size a ≤ S294912x128.size a)
theorem k0_mult90_dvd : ∀ (i : grid0.Coords) (v150 : BitVec 32) (k0_hw58 : k0_chk58 i v150), ∀ (k0_h2 : k0_cond2 i = 1#1), 8 ∣ (k0_mult90 v150).toNat := fun i v150 k0_hw58 k0_h2 => k0_hw58.1 k0_h2
theorem k0_off150_inb : ∀ (i : grid0.Coords) (v150 : BitVec 32) (k0_hw58 : k0_chk58 i v150), ∀ (k0_h2 : k0_cond2 i = 1#1), ∀ a, (k0_off150 v150) a + S8x128.size a ≤ S294912x128.size a := fun i v150 k0_hw58 k0_h2 => k0_hw58.2 k0_h2

def k0_off151 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_73 : BitVec 32 := 16#32
  let v154 : BitVec 32 := Scalar.muli arg11 c16_i32_73
  let c10_i32 : BitVec 32 := 10#32
  let v155 : BitVec 32 := Scalar.addi v154 c10_i32
  let v156 : Index := Scalar.indexCast v155
  ![v156.toNat]
def k0_mult91 (v157 : BitVec 32) : BitVec 32 :=
  let c8_i32_74 : BitVec 32 := 8#32
  let v158 : BitVec 32 := Scalar.muli v157 c8_i32_74
  v158

def k0_off152 (v157 : BitVec 32) : Fin 2 → Nat :=
  let c8_i32_74 : BitVec 32 := 8#32
  let v158 : BitVec 32 := Scalar.muli v157 c8_i32_74
  let v159 : BitVec 32 := v158
  let c0_i32_75 : BitVec 32 := 0#32
  ![v159.toNat, 0]

def k0_chk59 (i : grid0.Coords) (v157 : BitVec 32) : Prop :=
  (∀ (k0_h2 : k0_cond2 i = 1#1), 8 ∣ (k0_mult91 v157).toNat) ∧
  (∀ (k0_h2 : k0_cond2 i = 1#1), ∀ a, (k0_off152 v157) a + S8x128.size a ≤ S294912x128.size a)
theorem k0_mult91_dvd : ∀ (i : grid0.Coords) (v157 : BitVec 32) (k0_hw59 : k0_chk59 i v157), ∀ (k0_h2 : k0_cond2 i = 1#1), 8 ∣ (k0_mult91 v157).toNat := fun i v157 k0_hw59 k0_h2 => k0_hw59.1 k0_h2
theorem k0_off152_inb : ∀ (i : grid0.Coords) (v157 : BitVec 32) (k0_hw59 : k0_chk59 i v157), ∀ (k0_h2 : k0_cond2 i = 1#1), ∀ a, (k0_off152 v157) a + S8x128.size a ≤ S294912x128.size a := fun i v157 k0_hw59 k0_h2 => k0_hw59.2 k0_h2

def k0_off153 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_76 : BitVec 32 := 16#32
  let v161 : BitVec 32 := Scalar.muli arg11 c16_i32_76
  let c11_i32 : BitVec 32 := 11#32
  let v162 : BitVec 32 := Scalar.addi v161 c11_i32
  let v163 : Index := Scalar.indexCast v162
  ![v163.toNat]
def k0_mult92 (v164 : BitVec 32) : BitVec 32 :=
  let c8_i32_77 : BitVec 32 := 8#32
  let v165 : BitVec 32 := Scalar.muli v164 c8_i32_77
  v165

def k0_off154 (v164 : BitVec 32) : Fin 2 → Nat :=
  let c8_i32_77 : BitVec 32 := 8#32
  let v165 : BitVec 32 := Scalar.muli v164 c8_i32_77
  let v166 : BitVec 32 := v165
  let c0_i32_78 : BitVec 32 := 0#32
  ![v166.toNat, 0]

def k0_chk60 (i : grid0.Coords) (v164 : BitVec 32) : Prop :=
  (∀ (k0_h2 : k0_cond2 i = 1#1), 8 ∣ (k0_mult92 v164).toNat) ∧
  (∀ (k0_h2 : k0_cond2 i = 1#1), ∀ a, (k0_off154 v164) a + S8x128.size a ≤ S294912x128.size a)
theorem k0_mult92_dvd : ∀ (i : grid0.Coords) (v164 : BitVec 32) (k0_hw60 : k0_chk60 i v164), ∀ (k0_h2 : k0_cond2 i = 1#1), 8 ∣ (k0_mult92 v164).toNat := fun i v164 k0_hw60 k0_h2 => k0_hw60.1 k0_h2
theorem k0_off154_inb : ∀ (i : grid0.Coords) (v164 : BitVec 32) (k0_hw60 : k0_chk60 i v164), ∀ (k0_h2 : k0_cond2 i = 1#1), ∀ a, (k0_off154 v164) a + S8x128.size a ≤ S294912x128.size a := fun i v164 k0_hw60 k0_h2 => k0_hw60.2 k0_h2

def k0_off155 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_79 : BitVec 32 := 16#32
  let v168 : BitVec 32 := Scalar.muli arg11 c16_i32_79
  let c12_i32 : BitVec 32 := 12#32
  let v169 : BitVec 32 := Scalar.addi v168 c12_i32
  let v170 : Index := Scalar.indexCast v169
  ![v170.toNat]
def k0_mult93 (v171 : BitVec 32) : BitVec 32 :=
  let c8_i32_80 : BitVec 32 := 8#32
  let v172 : BitVec 32 := Scalar.muli v171 c8_i32_80
  v172

def k0_off156 (v171 : BitVec 32) : Fin 2 → Nat :=
  let c8_i32_80 : BitVec 32 := 8#32
  let v172 : BitVec 32 := Scalar.muli v171 c8_i32_80
  let v173 : BitVec 32 := v172
  let c0_i32_81 : BitVec 32 := 0#32
  ![v173.toNat, 0]

def k0_chk61 (i : grid0.Coords) (v171 : BitVec 32) : Prop :=
  (∀ (k0_h2 : k0_cond2 i = 1#1), 8 ∣ (k0_mult93 v171).toNat) ∧
  (∀ (k0_h2 : k0_cond2 i = 1#1), ∀ a, (k0_off156 v171) a + S8x128.size a ≤ S294912x128.size a)
theorem k0_mult93_dvd : ∀ (i : grid0.Coords) (v171 : BitVec 32) (k0_hw61 : k0_chk61 i v171), ∀ (k0_h2 : k0_cond2 i = 1#1), 8 ∣ (k0_mult93 v171).toNat := fun i v171 k0_hw61 k0_h2 => k0_hw61.1 k0_h2
theorem k0_off156_inb : ∀ (i : grid0.Coords) (v171 : BitVec 32) (k0_hw61 : k0_chk61 i v171), ∀ (k0_h2 : k0_cond2 i = 1#1), ∀ a, (k0_off156 v171) a + S8x128.size a ≤ S294912x128.size a := fun i v171 k0_hw61 k0_h2 => k0_hw61.2 k0_h2

def k0_off157 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_82 : BitVec 32 := 16#32
  let v175 : BitVec 32 := Scalar.muli arg11 c16_i32_82
  let c13_i32 : BitVec 32 := 13#32
  let v176 : BitVec 32 := Scalar.addi v175 c13_i32
  let v177 : Index := Scalar.indexCast v176
  ![v177.toNat]
def k0_mult94 (v178 : BitVec 32) : BitVec 32 :=
  let c8_i32_83 : BitVec 32 := 8#32
  let v179 : BitVec 32 := Scalar.muli v178 c8_i32_83
  v179

def k0_off158 (v178 : BitVec 32) : Fin 2 → Nat :=
  let c8_i32_83 : BitVec 32 := 8#32
  let v179 : BitVec 32 := Scalar.muli v178 c8_i32_83
  let v180 : BitVec 32 := v179
  let c0_i32_84 : BitVec 32 := 0#32
  ![v180.toNat, 0]

def k0_chk62 (i : grid0.Coords) (v178 : BitVec 32) : Prop :=
  (∀ (k0_h2 : k0_cond2 i = 1#1), 8 ∣ (k0_mult94 v178).toNat) ∧
  (∀ (k0_h2 : k0_cond2 i = 1#1), ∀ a, (k0_off158 v178) a + S8x128.size a ≤ S294912x128.size a)
theorem k0_mult94_dvd : ∀ (i : grid0.Coords) (v178 : BitVec 32) (k0_hw62 : k0_chk62 i v178), ∀ (k0_h2 : k0_cond2 i = 1#1), 8 ∣ (k0_mult94 v178).toNat := fun i v178 k0_hw62 k0_h2 => k0_hw62.1 k0_h2
theorem k0_off158_inb : ∀ (i : grid0.Coords) (v178 : BitVec 32) (k0_hw62 : k0_chk62 i v178), ∀ (k0_h2 : k0_cond2 i = 1#1), ∀ a, (k0_off158 v178) a + S8x128.size a ≤ S294912x128.size a := fun i v178 k0_hw62 k0_h2 => k0_hw62.2 k0_h2

def k0_off159 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_85 : BitVec 32 := 16#32
  let v182 : BitVec 32 := Scalar.muli arg11 c16_i32_85
  let c14_i32 : BitVec 32 := 14#32
  let v183 : BitVec 32 := Scalar.addi v182 c14_i32
  let v184 : Index := Scalar.indexCast v183
  ![v184.toNat]
def k0_mult95 (v185 : BitVec 32) : BitVec 32 :=
  let c8_i32_86 : BitVec 32 := 8#32
  let v186 : BitVec 32 := Scalar.muli v185 c8_i32_86
  v186

def k0_off160 (v185 : BitVec 32) : Fin 2 → Nat :=
  let c8_i32_86 : BitVec 32 := 8#32
  let v186 : BitVec 32 := Scalar.muli v185 c8_i32_86
  let v187 : BitVec 32 := v186
  let c0_i32_87 : BitVec 32 := 0#32
  ![v187.toNat, 0]

def k0_chk63 (i : grid0.Coords) (v185 : BitVec 32) : Prop :=
  (∀ (k0_h2 : k0_cond2 i = 1#1), 8 ∣ (k0_mult95 v185).toNat) ∧
  (∀ (k0_h2 : k0_cond2 i = 1#1), ∀ a, (k0_off160 v185) a + S8x128.size a ≤ S294912x128.size a)
theorem k0_mult95_dvd : ∀ (i : grid0.Coords) (v185 : BitVec 32) (k0_hw63 : k0_chk63 i v185), ∀ (k0_h2 : k0_cond2 i = 1#1), 8 ∣ (k0_mult95 v185).toNat := fun i v185 k0_hw63 k0_h2 => k0_hw63.1 k0_h2
theorem k0_off160_inb : ∀ (i : grid0.Coords) (v185 : BitVec 32) (k0_hw63 : k0_chk63 i v185), ∀ (k0_h2 : k0_cond2 i = 1#1), ∀ a, (k0_off160 v185) a + S8x128.size a ≤ S294912x128.size a := fun i v185 k0_hw63 k0_h2 => k0_hw63.2 k0_h2

def k0_off161 (k0_t4 : Fin k0_t4_loop.trips) : Fin 1 → Nat :=
  let c0_i32_38 : BitVec 32 := 0#32
  let c1_i32_39 : BitVec 32 := 1#32
  let arg11 : BitVec 32 := Scf.iv c0_i32_38 c1_i32_39 k0_t4
  let c16_i32_88 : BitVec 32 := 16#32
  let v189 : BitVec 32 := Scalar.muli arg11 c16_i32_88
  let c15_i32 : BitVec 32 := 15#32
  let v190 : BitVec 32 := Scalar.addi v189 c15_i32
  let v191 : Index := Scalar.indexCast v190
  ![v191.toNat]
def k0_mult96 (v192 : BitVec 32) : BitVec 32 :=
  let c8_i32_89 : BitVec 32 := 8#32
  let v193 : BitVec 32 := Scalar.muli v192 c8_i32_89
  v193

def k0_off162 (v192 : BitVec 32) : Fin 2 → Nat :=
  let c8_i32_89 : BitVec 32 := 8#32
  let v193 : BitVec 32 := Scalar.muli v192 c8_i32_89
  let v194 : BitVec 32 := v193
  let c0_i32_90 : BitVec 32 := 0#32
  ![v194.toNat, 0]

def k0_chk64 (i : grid0.Coords) (v192 : BitVec 32) : Prop :=
  (∀ (k0_h2 : k0_cond2 i = 1#1), 8 ∣ (k0_mult96 v192).toNat) ∧
  (∀ (k0_h2 : k0_cond2 i = 1#1), ∀ a, (k0_off162 v192) a + S8x128.size a ≤ S294912x128.size a)
theorem k0_mult96_dvd : ∀ (i : grid0.Coords) (v192 : BitVec 32) (k0_hw64 : k0_chk64 i v192), ∀ (k0_h2 : k0_cond2 i = 1#1), 8 ∣ (k0_mult96 v192).toNat := fun i v192 k0_hw64 k0_h2 => k0_hw64.1 k0_h2
theorem k0_off162_inb : ∀ (i : grid0.Coords) (v192 : BitVec 32) (k0_hw64 : k0_chk64 i v192), ∀ (k0_h2 : k0_cond2 i = 1#1), ∀ a, (k0_off162 v192) a + S8x128.size a ≤ S294912x128.size a := fun i v192 k0_hw64 k0_h2 => k0_hw64.2 k0_h2

@[reducible] def k0_t5_loop : Scf.Loop 32 :=
  let c0_i32_30 : BitVec 32 := 0#32
  let c32_i32_31 : BitVec 32 := 32#32
  let v81 : BitVec 32 := Scalar.addi c0_i32_30 c32_i32_31
  let c1_i32_32 : BitVec 32 := 1#32
  ⟨c0_i32_30, v81, c1_i32_32⟩
def k0_off163 (i : grid0.Coords) (k0_t5 : Fin k0_t5_loop.trips) : Fin 1 → Nat :=
  let c0_i32_40 : BitVec 32 := 0#32
  let arg0 : BitVec 32 := BitVec.ofNat 32 (i 0).val
  let c512_i32 : BitVec 32 := 512#32
  let v85 : BitVec 32 := Scalar.muli arg0 c512_i32
  let v86 : BitVec 32 := Scalar.addi c0_i32_40 v85
  let c0_i32_30 : BitVec 32 := 0#32
  let c1_i32_32 : BitVec 32 := 1#32
  let arg11 : BitVec 32 := Scf.iv c0_i32_30 c1_i32_32 k0_t5
  let c16_i32_38 : BitVec 32 := 16#32
  let v83 : BitVec 32 := Scalar.muli arg11 c16_i32_38
  let c0_i32_39 : BitVec 32 := 0#32
  let v84 : BitVec 32 := Scalar.addi v83 c0_i32_39
  let v87 : BitVec 32 := Scalar.addi v86 v84
  let v88 : Index := Scalar.indexCast v87
  ![v88.toNat]
def k0_mult97 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_38 : BitVec 32 := 16#32
  let v83 : BitVec 32 := Scalar.muli arg11 c16_i32_38
  let c0_i32_39 : BitVec 32 := 0#32
  let v84 : BitVec 32 := Scalar.addi v83 c0_i32_39
  let c8_i32 : BitVec 32 := 8#32
  let v90 : BitVec 32 := Scalar.muli v84 c8_i32
  v90
def k0_mult98 (v89 : BitVec 32) : BitVec 32 :=
  let c8_i32_41 : BitVec 32 := 8#32
  let v92 : BitVec 32 := Scalar.muli v89 c8_i32_41
  v92

def k0_off164 (v89 : BitVec 32) : Fin 2 → Nat :=
  let c8_i32_41 : BitVec 32 := 8#32
  let v92 : BitVec 32 := Scalar.muli v89 c8_i32_41
  let v93 : BitVec 32 := v92
  let c0_i32_42 : BitVec 32 := 0#32
  ![v93.toNat, 0]

def k0_chk65 (v89 : BitVec 32) : Prop :=
  (8 ∣ (k0_mult98 v89).toNat) ∧
  (∀ a, (k0_off164 v89) a + S8x128.size a ≤ S294912x128.size a)
theorem k0_mult98_dvd : ∀ (v89 : BitVec 32) (k0_hw65 : k0_chk65 v89), 8 ∣ (k0_mult98 v89).toNat := fun v89 k0_hw65 => k0_hw65.1
theorem k0_off164_inb : ∀ (v89 : BitVec 32) (k0_hw65 : k0_chk65 v89), ∀ a, (k0_off164 v89) a + S8x128.size a ≤ S294912x128.size a := fun v89 k0_hw65 => k0_hw65.2

def k0_off165 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_38 : BitVec 32 := 16#32
  let v83 : BitVec 32 := Scalar.muli arg11 c16_i32_38
  let c0_i32_39 : BitVec 32 := 0#32
  let v84 : BitVec 32 := Scalar.addi v83 c0_i32_39
  let c8_i32 : BitVec 32 := 8#32
  let v90 : BitVec 32 := Scalar.muli v84 c8_i32
  let v91 : BitVec 32 := v90
  let c0_i32_43 : BitVec 32 := 0#32
  ![v91.toNat, 0]
def k0_off166 (i : grid0.Coords) (k0_t5 : Fin k0_t5_loop.trips) : Fin 1 → Nat :=
  let c0_i32_47 : BitVec 32 := 0#32
  let arg0 : BitVec 32 := BitVec.ofNat 32 (i 0).val
  let c512_i32_46 : BitVec 32 := 512#32
  let v98 : BitVec 32 := Scalar.muli arg0 c512_i32_46
  let v99 : BitVec 32 := Scalar.addi c0_i32_47 v98
  let c0_i32_30 : BitVec 32 := 0#32
  let c1_i32_32 : BitVec 32 := 1#32
  let arg11 : BitVec 32 := Scf.iv c0_i32_30 c1_i32_32 k0_t5
  let c16_i32_44 : BitVec 32 := 16#32
  let v96 : BitVec 32 := Scalar.muli arg11 c16_i32_44
  let c1_i32_45 : BitVec 32 := 1#32
  let v97 : BitVec 32 := Scalar.addi v96 c1_i32_45
  let v100 : BitVec 32 := Scalar.addi v99 v97
  let v101 : Index := Scalar.indexCast v100
  ![v101.toNat]
def k0_mult99 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_44 : BitVec 32 := 16#32
  let v96 : BitVec 32 := Scalar.muli arg11 c16_i32_44
  let c1_i32_45 : BitVec 32 := 1#32
  let v97 : BitVec 32 := Scalar.addi v96 c1_i32_45
  let c8_i32_48 : BitVec 32 := 8#32
  let v103 : BitVec 32 := Scalar.muli v97 c8_i32_48
  v103
def k0_mult100 (v102 : BitVec 32) : BitVec 32 :=
  let c8_i32_49 : BitVec 32 := 8#32
  let v105 : BitVec 32 := Scalar.muli v102 c8_i32_49
  v105

def k0_off167 (v102 : BitVec 32) : Fin 2 → Nat :=
  let c8_i32_49 : BitVec 32 := 8#32
  let v105 : BitVec 32 := Scalar.muli v102 c8_i32_49
  let v106 : BitVec 32 := v105
  let c0_i32_50 : BitVec 32 := 0#32
  ![v106.toNat, 0]

def k0_chk66 (v102 : BitVec 32) : Prop :=
  (8 ∣ (k0_mult100 v102).toNat) ∧
  (∀ a, (k0_off167 v102) a + S8x128.size a ≤ S294912x128.size a)
theorem k0_mult100_dvd : ∀ (v102 : BitVec 32) (k0_hw66 : k0_chk66 v102), 8 ∣ (k0_mult100 v102).toNat := fun v102 k0_hw66 => k0_hw66.1
theorem k0_off167_inb : ∀ (v102 : BitVec 32) (k0_hw66 : k0_chk66 v102), ∀ a, (k0_off167 v102) a + S8x128.size a ≤ S294912x128.size a := fun v102 k0_hw66 => k0_hw66.2

def k0_off168 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_44 : BitVec 32 := 16#32
  let v96 : BitVec 32 := Scalar.muli arg11 c16_i32_44
  let c1_i32_45 : BitVec 32 := 1#32
  let v97 : BitVec 32 := Scalar.addi v96 c1_i32_45
  let c8_i32_48 : BitVec 32 := 8#32
  let v103 : BitVec 32 := Scalar.muli v97 c8_i32_48
  let v104 : BitVec 32 := v103
  let c0_i32_51 : BitVec 32 := 0#32
  ![v104.toNat, 0]
def k0_off169 (i : grid0.Coords) (k0_t5 : Fin k0_t5_loop.trips) : Fin 1 → Nat :=
  let c0_i32_54 : BitVec 32 := 0#32
  let arg0 : BitVec 32 := BitVec.ofNat 32 (i 0).val
  let c512_i32_53 : BitVec 32 := 512#32
  let v111 : BitVec 32 := Scalar.muli arg0 c512_i32_53
  let v112 : BitVec 32 := Scalar.addi c0_i32_54 v111
  let c0_i32_30 : BitVec 32 := 0#32
  let c1_i32_32 : BitVec 32 := 1#32
  let arg11 : BitVec 32 := Scf.iv c0_i32_30 c1_i32_32 k0_t5
  let c16_i32_52 : BitVec 32 := 16#32
  let v109 : BitVec 32 := Scalar.muli arg11 c16_i32_52
  let c2_i32 : BitVec 32 := 2#32
  let v110 : BitVec 32 := Scalar.addi v109 c2_i32
  let v113 : BitVec 32 := Scalar.addi v112 v110
  let v114 : Index := Scalar.indexCast v113
  ![v114.toNat]
def k0_mult101 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_52 : BitVec 32 := 16#32
  let v109 : BitVec 32 := Scalar.muli arg11 c16_i32_52
  let c2_i32 : BitVec 32 := 2#32
  let v110 : BitVec 32 := Scalar.addi v109 c2_i32
  let c8_i32_55 : BitVec 32 := 8#32
  let v116 : BitVec 32 := Scalar.muli v110 c8_i32_55
  v116
def k0_mult102 (v115 : BitVec 32) : BitVec 32 :=
  let c8_i32_56 : BitVec 32 := 8#32
  let v118 : BitVec 32 := Scalar.muli v115 c8_i32_56
  v118

def k0_off170 (v115 : BitVec 32) : Fin 2 → Nat :=
  let c8_i32_56 : BitVec 32 := 8#32
  let v118 : BitVec 32 := Scalar.muli v115 c8_i32_56
  let v119 : BitVec 32 := v118
  let c0_i32_57 : BitVec 32 := 0#32
  ![v119.toNat, 0]

def k0_chk67 (v115 : BitVec 32) : Prop :=
  (8 ∣ (k0_mult102 v115).toNat) ∧
  (∀ a, (k0_off170 v115) a + S8x128.size a ≤ S294912x128.size a)
theorem k0_mult102_dvd : ∀ (v115 : BitVec 32) (k0_hw67 : k0_chk67 v115), 8 ∣ (k0_mult102 v115).toNat := fun v115 k0_hw67 => k0_hw67.1
theorem k0_off170_inb : ∀ (v115 : BitVec 32) (k0_hw67 : k0_chk67 v115), ∀ a, (k0_off170 v115) a + S8x128.size a ≤ S294912x128.size a := fun v115 k0_hw67 => k0_hw67.2

def k0_off171 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_52 : BitVec 32 := 16#32
  let v109 : BitVec 32 := Scalar.muli arg11 c16_i32_52
  let c2_i32 : BitVec 32 := 2#32
  let v110 : BitVec 32 := Scalar.addi v109 c2_i32
  let c8_i32_55 : BitVec 32 := 8#32
  let v116 : BitVec 32 := Scalar.muli v110 c8_i32_55
  let v117 : BitVec 32 := v116
  let c0_i32_58 : BitVec 32 := 0#32
  ![v117.toNat, 0]
def k0_off172 (i : grid0.Coords) (k0_t5 : Fin k0_t5_loop.trips) : Fin 1 → Nat :=
  let c0_i32_61 : BitVec 32 := 0#32
  let arg0 : BitVec 32 := BitVec.ofNat 32 (i 0).val
  let c512_i32_60 : BitVec 32 := 512#32
  let v124 : BitVec 32 := Scalar.muli arg0 c512_i32_60
  let v125 : BitVec 32 := Scalar.addi c0_i32_61 v124
  let c0_i32_30 : BitVec 32 := 0#32
  let c1_i32_32 : BitVec 32 := 1#32
  let arg11 : BitVec 32 := Scf.iv c0_i32_30 c1_i32_32 k0_t5
  let c16_i32_59 : BitVec 32 := 16#32
  let v122 : BitVec 32 := Scalar.muli arg11 c16_i32_59
  let c3_i32 : BitVec 32 := 3#32
  let v123 : BitVec 32 := Scalar.addi v122 c3_i32
  let v126 : BitVec 32 := Scalar.addi v125 v123
  let v127 : Index := Scalar.indexCast v126
  ![v127.toNat]
def k0_mult103 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_59 : BitVec 32 := 16#32
  let v122 : BitVec 32 := Scalar.muli arg11 c16_i32_59
  let c3_i32 : BitVec 32 := 3#32
  let v123 : BitVec 32 := Scalar.addi v122 c3_i32
  let c8_i32_62 : BitVec 32 := 8#32
  let v129 : BitVec 32 := Scalar.muli v123 c8_i32_62
  v129
def k0_mult104 (v128 : BitVec 32) : BitVec 32 :=
  let c8_i32_63 : BitVec 32 := 8#32
  let v131 : BitVec 32 := Scalar.muli v128 c8_i32_63
  v131

def k0_off173 (v128 : BitVec 32) : Fin 2 → Nat :=
  let c8_i32_63 : BitVec 32 := 8#32
  let v131 : BitVec 32 := Scalar.muli v128 c8_i32_63
  let v132 : BitVec 32 := v131
  let c0_i32_64 : BitVec 32 := 0#32
  ![v132.toNat, 0]

def k0_chk68 (v128 : BitVec 32) : Prop :=
  (8 ∣ (k0_mult104 v128).toNat) ∧
  (∀ a, (k0_off173 v128) a + S8x128.size a ≤ S294912x128.size a)
theorem k0_mult104_dvd : ∀ (v128 : BitVec 32) (k0_hw68 : k0_chk68 v128), 8 ∣ (k0_mult104 v128).toNat := fun v128 k0_hw68 => k0_hw68.1
theorem k0_off173_inb : ∀ (v128 : BitVec 32) (k0_hw68 : k0_chk68 v128), ∀ a, (k0_off173 v128) a + S8x128.size a ≤ S294912x128.size a := fun v128 k0_hw68 => k0_hw68.2

def k0_off174 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_59 : BitVec 32 := 16#32
  let v122 : BitVec 32 := Scalar.muli arg11 c16_i32_59
  let c3_i32 : BitVec 32 := 3#32
  let v123 : BitVec 32 := Scalar.addi v122 c3_i32
  let c8_i32_62 : BitVec 32 := 8#32
  let v129 : BitVec 32 := Scalar.muli v123 c8_i32_62
  let v130 : BitVec 32 := v129
  let c0_i32_65 : BitVec 32 := 0#32
  ![v130.toNat, 0]
def k0_off175 (i : grid0.Coords) (k0_t5 : Fin k0_t5_loop.trips) : Fin 1 → Nat :=
  let c0_i32_68 : BitVec 32 := 0#32
  let arg0 : BitVec 32 := BitVec.ofNat 32 (i 0).val
  let c512_i32_67 : BitVec 32 := 512#32
  let v137 : BitVec 32 := Scalar.muli arg0 c512_i32_67
  let v138 : BitVec 32 := Scalar.addi c0_i32_68 v137
  let c0_i32_30 : BitVec 32 := 0#32
  let c1_i32_32 : BitVec 32 := 1#32
  let arg11 : BitVec 32 := Scf.iv c0_i32_30 c1_i32_32 k0_t5
  let c16_i32_66 : BitVec 32 := 16#32
  let v135 : BitVec 32 := Scalar.muli arg11 c16_i32_66
  let c4_i32 : BitVec 32 := 4#32
  let v136 : BitVec 32 := Scalar.addi v135 c4_i32
  let v139 : BitVec 32 := Scalar.addi v138 v136
  let v140 : Index := Scalar.indexCast v139
  ![v140.toNat]
def k0_mult105 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_66 : BitVec 32 := 16#32
  let v135 : BitVec 32 := Scalar.muli arg11 c16_i32_66
  let c4_i32 : BitVec 32 := 4#32
  let v136 : BitVec 32 := Scalar.addi v135 c4_i32
  let c8_i32_69 : BitVec 32 := 8#32
  let v142 : BitVec 32 := Scalar.muli v136 c8_i32_69
  v142
def k0_mult106 (v141 : BitVec 32) : BitVec 32 :=
  let c8_i32_70 : BitVec 32 := 8#32
  let v144 : BitVec 32 := Scalar.muli v141 c8_i32_70
  v144

def k0_off176 (v141 : BitVec 32) : Fin 2 → Nat :=
  let c8_i32_70 : BitVec 32 := 8#32
  let v144 : BitVec 32 := Scalar.muli v141 c8_i32_70
  let v145 : BitVec 32 := v144
  let c0_i32_71 : BitVec 32 := 0#32
  ![v145.toNat, 0]

def k0_chk69 (v141 : BitVec 32) : Prop :=
  (8 ∣ (k0_mult106 v141).toNat) ∧
  (∀ a, (k0_off176 v141) a + S8x128.size a ≤ S294912x128.size a)
theorem k0_mult106_dvd : ∀ (v141 : BitVec 32) (k0_hw69 : k0_chk69 v141), 8 ∣ (k0_mult106 v141).toNat := fun v141 k0_hw69 => k0_hw69.1
theorem k0_off176_inb : ∀ (v141 : BitVec 32) (k0_hw69 : k0_chk69 v141), ∀ a, (k0_off176 v141) a + S8x128.size a ≤ S294912x128.size a := fun v141 k0_hw69 => k0_hw69.2

def k0_off177 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_66 : BitVec 32 := 16#32
  let v135 : BitVec 32 := Scalar.muli arg11 c16_i32_66
  let c4_i32 : BitVec 32 := 4#32
  let v136 : BitVec 32 := Scalar.addi v135 c4_i32
  let c8_i32_69 : BitVec 32 := 8#32
  let v142 : BitVec 32 := Scalar.muli v136 c8_i32_69
  let v143 : BitVec 32 := v142
  let c0_i32_72 : BitVec 32 := 0#32
  ![v143.toNat, 0]
def k0_off178 (i : grid0.Coords) (k0_t5 : Fin k0_t5_loop.trips) : Fin 1 → Nat :=
  let c0_i32_75 : BitVec 32 := 0#32
  let arg0 : BitVec 32 := BitVec.ofNat 32 (i 0).val
  let c512_i32_74 : BitVec 32 := 512#32
  let v150 : BitVec 32 := Scalar.muli arg0 c512_i32_74
  let v151 : BitVec 32 := Scalar.addi c0_i32_75 v150
  let c0_i32_30 : BitVec 32 := 0#32
  let c1_i32_32 : BitVec 32 := 1#32
  let arg11 : BitVec 32 := Scf.iv c0_i32_30 c1_i32_32 k0_t5
  let c16_i32_73 : BitVec 32 := 16#32
  let v148 : BitVec 32 := Scalar.muli arg11 c16_i32_73
  let c5_i32 : BitVec 32 := 5#32
  let v149 : BitVec 32 := Scalar.addi v148 c5_i32
  let v152 : BitVec 32 := Scalar.addi v151 v149
  let v153 : Index := Scalar.indexCast v152
  ![v153.toNat]
def k0_mult107 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_73 : BitVec 32 := 16#32
  let v148 : BitVec 32 := Scalar.muli arg11 c16_i32_73
  let c5_i32 : BitVec 32 := 5#32
  let v149 : BitVec 32 := Scalar.addi v148 c5_i32
  let c8_i32_76 : BitVec 32 := 8#32
  let v155 : BitVec 32 := Scalar.muli v149 c8_i32_76
  v155
def k0_mult108 (v154 : BitVec 32) : BitVec 32 :=
  let c8_i32_77 : BitVec 32 := 8#32
  let v157 : BitVec 32 := Scalar.muli v154 c8_i32_77
  v157

def k0_off179 (v154 : BitVec 32) : Fin 2 → Nat :=
  let c8_i32_77 : BitVec 32 := 8#32
  let v157 : BitVec 32 := Scalar.muli v154 c8_i32_77
  let v158 : BitVec 32 := v157
  let c0_i32_78 : BitVec 32 := 0#32
  ![v158.toNat, 0]

def k0_chk70 (v154 : BitVec 32) : Prop :=
  (8 ∣ (k0_mult108 v154).toNat) ∧
  (∀ a, (k0_off179 v154) a + S8x128.size a ≤ S294912x128.size a)
theorem k0_mult108_dvd : ∀ (v154 : BitVec 32) (k0_hw70 : k0_chk70 v154), 8 ∣ (k0_mult108 v154).toNat := fun v154 k0_hw70 => k0_hw70.1
theorem k0_off179_inb : ∀ (v154 : BitVec 32) (k0_hw70 : k0_chk70 v154), ∀ a, (k0_off179 v154) a + S8x128.size a ≤ S294912x128.size a := fun v154 k0_hw70 => k0_hw70.2

def k0_off180 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_73 : BitVec 32 := 16#32
  let v148 : BitVec 32 := Scalar.muli arg11 c16_i32_73
  let c5_i32 : BitVec 32 := 5#32
  let v149 : BitVec 32 := Scalar.addi v148 c5_i32
  let c8_i32_76 : BitVec 32 := 8#32
  let v155 : BitVec 32 := Scalar.muli v149 c8_i32_76
  let v156 : BitVec 32 := v155
  let c0_i32_79 : BitVec 32 := 0#32
  ![v156.toNat, 0]
def k0_off181 (i : grid0.Coords) (k0_t5 : Fin k0_t5_loop.trips) : Fin 1 → Nat :=
  let c0_i32_82 : BitVec 32 := 0#32
  let arg0 : BitVec 32 := BitVec.ofNat 32 (i 0).val
  let c512_i32_81 : BitVec 32 := 512#32
  let v163 : BitVec 32 := Scalar.muli arg0 c512_i32_81
  let v164 : BitVec 32 := Scalar.addi c0_i32_82 v163
  let c0_i32_30 : BitVec 32 := 0#32
  let c1_i32_32 : BitVec 32 := 1#32
  let arg11 : BitVec 32 := Scf.iv c0_i32_30 c1_i32_32 k0_t5
  let c16_i32_80 : BitVec 32 := 16#32
  let v161 : BitVec 32 := Scalar.muli arg11 c16_i32_80
  let c6_i32 : BitVec 32 := 6#32
  let v162 : BitVec 32 := Scalar.addi v161 c6_i32
  let v165 : BitVec 32 := Scalar.addi v164 v162
  let v166 : Index := Scalar.indexCast v165
  ![v166.toNat]
def k0_mult109 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_80 : BitVec 32 := 16#32
  let v161 : BitVec 32 := Scalar.muli arg11 c16_i32_80
  let c6_i32 : BitVec 32 := 6#32
  let v162 : BitVec 32 := Scalar.addi v161 c6_i32
  let c8_i32_83 : BitVec 32 := 8#32
  let v168 : BitVec 32 := Scalar.muli v162 c8_i32_83
  v168
def k0_mult110 (v167 : BitVec 32) : BitVec 32 :=
  let c8_i32_84 : BitVec 32 := 8#32
  let v170 : BitVec 32 := Scalar.muli v167 c8_i32_84
  v170

def k0_off182 (v167 : BitVec 32) : Fin 2 → Nat :=
  let c8_i32_84 : BitVec 32 := 8#32
  let v170 : BitVec 32 := Scalar.muli v167 c8_i32_84
  let v171 : BitVec 32 := v170
  let c0_i32_85 : BitVec 32 := 0#32
  ![v171.toNat, 0]

def k0_chk71 (v167 : BitVec 32) : Prop :=
  (8 ∣ (k0_mult110 v167).toNat) ∧
  (∀ a, (k0_off182 v167) a + S8x128.size a ≤ S294912x128.size a)
theorem k0_mult110_dvd : ∀ (v167 : BitVec 32) (k0_hw71 : k0_chk71 v167), 8 ∣ (k0_mult110 v167).toNat := fun v167 k0_hw71 => k0_hw71.1
theorem k0_off182_inb : ∀ (v167 : BitVec 32) (k0_hw71 : k0_chk71 v167), ∀ a, (k0_off182 v167) a + S8x128.size a ≤ S294912x128.size a := fun v167 k0_hw71 => k0_hw71.2

def k0_off183 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_80 : BitVec 32 := 16#32
  let v161 : BitVec 32 := Scalar.muli arg11 c16_i32_80
  let c6_i32 : BitVec 32 := 6#32
  let v162 : BitVec 32 := Scalar.addi v161 c6_i32
  let c8_i32_83 : BitVec 32 := 8#32
  let v168 : BitVec 32 := Scalar.muli v162 c8_i32_83
  let v169 : BitVec 32 := v168
  let c0_i32_86 : BitVec 32 := 0#32
  ![v169.toNat, 0]
def k0_off184 (i : grid0.Coords) (k0_t5 : Fin k0_t5_loop.trips) : Fin 1 → Nat :=
  let c0_i32_89 : BitVec 32 := 0#32
  let arg0 : BitVec 32 := BitVec.ofNat 32 (i 0).val
  let c512_i32_88 : BitVec 32 := 512#32
  let v176 : BitVec 32 := Scalar.muli arg0 c512_i32_88
  let v177 : BitVec 32 := Scalar.addi c0_i32_89 v176
  let c0_i32_30 : BitVec 32 := 0#32
  let c1_i32_32 : BitVec 32 := 1#32
  let arg11 : BitVec 32 := Scf.iv c0_i32_30 c1_i32_32 k0_t5
  let c16_i32_87 : BitVec 32 := 16#32
  let v174 : BitVec 32 := Scalar.muli arg11 c16_i32_87
  let c7_i32 : BitVec 32 := 7#32
  let v175 : BitVec 32 := Scalar.addi v174 c7_i32
  let v178 : BitVec 32 := Scalar.addi v177 v175
  let v179 : Index := Scalar.indexCast v178
  ![v179.toNat]
def k0_mult111 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_87 : BitVec 32 := 16#32
  let v174 : BitVec 32 := Scalar.muli arg11 c16_i32_87
  let c7_i32 : BitVec 32 := 7#32
  let v175 : BitVec 32 := Scalar.addi v174 c7_i32
  let c8_i32_90 : BitVec 32 := 8#32
  let v181 : BitVec 32 := Scalar.muli v175 c8_i32_90
  v181
def k0_mult112 (v180 : BitVec 32) : BitVec 32 :=
  let c8_i32_91 : BitVec 32 := 8#32
  let v183 : BitVec 32 := Scalar.muli v180 c8_i32_91
  v183

def k0_off185 (v180 : BitVec 32) : Fin 2 → Nat :=
  let c8_i32_91 : BitVec 32 := 8#32
  let v183 : BitVec 32 := Scalar.muli v180 c8_i32_91
  let v184 : BitVec 32 := v183
  let c0_i32_92 : BitVec 32 := 0#32
  ![v184.toNat, 0]

def k0_chk72 (v180 : BitVec 32) : Prop :=
  (8 ∣ (k0_mult112 v180).toNat) ∧
  (∀ a, (k0_off185 v180) a + S8x128.size a ≤ S294912x128.size a)
theorem k0_mult112_dvd : ∀ (v180 : BitVec 32) (k0_hw72 : k0_chk72 v180), 8 ∣ (k0_mult112 v180).toNat := fun v180 k0_hw72 => k0_hw72.1
theorem k0_off185_inb : ∀ (v180 : BitVec 32) (k0_hw72 : k0_chk72 v180), ∀ a, (k0_off185 v180) a + S8x128.size a ≤ S294912x128.size a := fun v180 k0_hw72 => k0_hw72.2

def k0_off186 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_87 : BitVec 32 := 16#32
  let v174 : BitVec 32 := Scalar.muli arg11 c16_i32_87
  let c7_i32 : BitVec 32 := 7#32
  let v175 : BitVec 32 := Scalar.addi v174 c7_i32
  let c8_i32_90 : BitVec 32 := 8#32
  let v181 : BitVec 32 := Scalar.muli v175 c8_i32_90
  let v182 : BitVec 32 := v181
  let c0_i32_93 : BitVec 32 := 0#32
  ![v182.toNat, 0]
def k0_off187 (i : grid0.Coords) (k0_t5 : Fin k0_t5_loop.trips) : Fin 1 → Nat :=
  let c0_i32_97 : BitVec 32 := 0#32
  let arg0 : BitVec 32 := BitVec.ofNat 32 (i 0).val
  let c512_i32_96 : BitVec 32 := 512#32
  let v189 : BitVec 32 := Scalar.muli arg0 c512_i32_96
  let v190 : BitVec 32 := Scalar.addi c0_i32_97 v189
  let c0_i32_30 : BitVec 32 := 0#32
  let c1_i32_32 : BitVec 32 := 1#32
  let arg11 : BitVec 32 := Scf.iv c0_i32_30 c1_i32_32 k0_t5
  let c16_i32_94 : BitVec 32 := 16#32
  let v187 : BitVec 32 := Scalar.muli arg11 c16_i32_94
  let c8_i32_95 : BitVec 32 := 8#32
  let v188 : BitVec 32 := Scalar.addi v187 c8_i32_95
  let v191 : BitVec 32 := Scalar.addi v190 v188
  let v192 : Index := Scalar.indexCast v191
  ![v192.toNat]
def k0_mult113 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_94 : BitVec 32 := 16#32
  let v187 : BitVec 32 := Scalar.muli arg11 c16_i32_94
  let c8_i32_95 : BitVec 32 := 8#32
  let v188 : BitVec 32 := Scalar.addi v187 c8_i32_95
  let c8_i32_98 : BitVec 32 := 8#32
  let v194 : BitVec 32 := Scalar.muli v188 c8_i32_98
  v194
def k0_mult114 (v193 : BitVec 32) : BitVec 32 :=
  let c8_i32_99 : BitVec 32 := 8#32
  let v196 : BitVec 32 := Scalar.muli v193 c8_i32_99
  v196

def k0_off188 (v193 : BitVec 32) : Fin 2 → Nat :=
  let c8_i32_99 : BitVec 32 := 8#32
  let v196 : BitVec 32 := Scalar.muli v193 c8_i32_99
  let v197 : BitVec 32 := v196
  let c0_i32_100 : BitVec 32 := 0#32
  ![v197.toNat, 0]

def k0_chk73 (v193 : BitVec 32) : Prop :=
  (8 ∣ (k0_mult114 v193).toNat) ∧
  (∀ a, (k0_off188 v193) a + S8x128.size a ≤ S294912x128.size a)
theorem k0_mult114_dvd : ∀ (v193 : BitVec 32) (k0_hw73 : k0_chk73 v193), 8 ∣ (k0_mult114 v193).toNat := fun v193 k0_hw73 => k0_hw73.1
theorem k0_off188_inb : ∀ (v193 : BitVec 32) (k0_hw73 : k0_chk73 v193), ∀ a, (k0_off188 v193) a + S8x128.size a ≤ S294912x128.size a := fun v193 k0_hw73 => k0_hw73.2

def k0_off189 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_94 : BitVec 32 := 16#32
  let v187 : BitVec 32 := Scalar.muli arg11 c16_i32_94
  let c8_i32_95 : BitVec 32 := 8#32
  let v188 : BitVec 32 := Scalar.addi v187 c8_i32_95
  let c8_i32_98 : BitVec 32 := 8#32
  let v194 : BitVec 32 := Scalar.muli v188 c8_i32_98
  let v195 : BitVec 32 := v194
  let c0_i32_101 : BitVec 32 := 0#32
  ![v195.toNat, 0]
def k0_off190 (i : grid0.Coords) (k0_t5 : Fin k0_t5_loop.trips) : Fin 1 → Nat :=
  let c0_i32_104 : BitVec 32 := 0#32
  let arg0 : BitVec 32 := BitVec.ofNat 32 (i 0).val
  let c512_i32_103 : BitVec 32 := 512#32
  let v202 : BitVec 32 := Scalar.muli arg0 c512_i32_103
  let v203 : BitVec 32 := Scalar.addi c0_i32_104 v202
  let c0_i32_30 : BitVec 32 := 0#32
  let c1_i32_32 : BitVec 32 := 1#32
  let arg11 : BitVec 32 := Scf.iv c0_i32_30 c1_i32_32 k0_t5
  let c16_i32_102 : BitVec 32 := 16#32
  let v200 : BitVec 32 := Scalar.muli arg11 c16_i32_102
  let c9_i32 : BitVec 32 := 9#32
  let v201 : BitVec 32 := Scalar.addi v200 c9_i32
  let v204 : BitVec 32 := Scalar.addi v203 v201
  let v205 : Index := Scalar.indexCast v204
  ![v205.toNat]
def k0_mult115 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_102 : BitVec 32 := 16#32
  let v200 : BitVec 32 := Scalar.muli arg11 c16_i32_102
  let c9_i32 : BitVec 32 := 9#32
  let v201 : BitVec 32 := Scalar.addi v200 c9_i32
  let c8_i32_105 : BitVec 32 := 8#32
  let v207 : BitVec 32 := Scalar.muli v201 c8_i32_105
  v207
def k0_mult116 (v206 : BitVec 32) : BitVec 32 :=
  let c8_i32_106 : BitVec 32 := 8#32
  let v209 : BitVec 32 := Scalar.muli v206 c8_i32_106
  v209

def k0_off191 (v206 : BitVec 32) : Fin 2 → Nat :=
  let c8_i32_106 : BitVec 32 := 8#32
  let v209 : BitVec 32 := Scalar.muli v206 c8_i32_106
  let v210 : BitVec 32 := v209
  let c0_i32_107 : BitVec 32 := 0#32
  ![v210.toNat, 0]

def k0_chk74 (v206 : BitVec 32) : Prop :=
  (8 ∣ (k0_mult116 v206).toNat) ∧
  (∀ a, (k0_off191 v206) a + S8x128.size a ≤ S294912x128.size a)
theorem k0_mult116_dvd : ∀ (v206 : BitVec 32) (k0_hw74 : k0_chk74 v206), 8 ∣ (k0_mult116 v206).toNat := fun v206 k0_hw74 => k0_hw74.1
theorem k0_off191_inb : ∀ (v206 : BitVec 32) (k0_hw74 : k0_chk74 v206), ∀ a, (k0_off191 v206) a + S8x128.size a ≤ S294912x128.size a := fun v206 k0_hw74 => k0_hw74.2

def k0_off192 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_102 : BitVec 32 := 16#32
  let v200 : BitVec 32 := Scalar.muli arg11 c16_i32_102
  let c9_i32 : BitVec 32 := 9#32
  let v201 : BitVec 32 := Scalar.addi v200 c9_i32
  let c8_i32_105 : BitVec 32 := 8#32
  let v207 : BitVec 32 := Scalar.muli v201 c8_i32_105
  let v208 : BitVec 32 := v207
  let c0_i32_108 : BitVec 32 := 0#32
  ![v208.toNat, 0]
def k0_off193 (i : grid0.Coords) (k0_t5 : Fin k0_t5_loop.trips) : Fin 1 → Nat :=
  let c0_i32_111 : BitVec 32 := 0#32
  let arg0 : BitVec 32 := BitVec.ofNat 32 (i 0).val
  let c512_i32_110 : BitVec 32 := 512#32
  let v215 : BitVec 32 := Scalar.muli arg0 c512_i32_110
  let v216 : BitVec 32 := Scalar.addi c0_i32_111 v215
  let c0_i32_30 : BitVec 32 := 0#32
  let c1_i32_32 : BitVec 32 := 1#32
  let arg11 : BitVec 32 := Scf.iv c0_i32_30 c1_i32_32 k0_t5
  let c16_i32_109 : BitVec 32 := 16#32
  let v213 : BitVec 32 := Scalar.muli arg11 c16_i32_109
  let c10_i32 : BitVec 32 := 10#32
  let v214 : BitVec 32 := Scalar.addi v213 c10_i32
  let v217 : BitVec 32 := Scalar.addi v216 v214
  let v218 : Index := Scalar.indexCast v217
  ![v218.toNat]
def k0_mult117 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_109 : BitVec 32 := 16#32
  let v213 : BitVec 32 := Scalar.muli arg11 c16_i32_109
  let c10_i32 : BitVec 32 := 10#32
  let v214 : BitVec 32 := Scalar.addi v213 c10_i32
  let c8_i32_112 : BitVec 32 := 8#32
  let v220 : BitVec 32 := Scalar.muli v214 c8_i32_112
  v220
def k0_mult118 (v219 : BitVec 32) : BitVec 32 :=
  let c8_i32_113 : BitVec 32 := 8#32
  let v222 : BitVec 32 := Scalar.muli v219 c8_i32_113
  v222

def k0_off194 (v219 : BitVec 32) : Fin 2 → Nat :=
  let c8_i32_113 : BitVec 32 := 8#32
  let v222 : BitVec 32 := Scalar.muli v219 c8_i32_113
  let v223 : BitVec 32 := v222
  let c0_i32_114 : BitVec 32 := 0#32
  ![v223.toNat, 0]

def k0_chk75 (v219 : BitVec 32) : Prop :=
  (8 ∣ (k0_mult118 v219).toNat) ∧
  (∀ a, (k0_off194 v219) a + S8x128.size a ≤ S294912x128.size a)
theorem k0_mult118_dvd : ∀ (v219 : BitVec 32) (k0_hw75 : k0_chk75 v219), 8 ∣ (k0_mult118 v219).toNat := fun v219 k0_hw75 => k0_hw75.1
theorem k0_off194_inb : ∀ (v219 : BitVec 32) (k0_hw75 : k0_chk75 v219), ∀ a, (k0_off194 v219) a + S8x128.size a ≤ S294912x128.size a := fun v219 k0_hw75 => k0_hw75.2

def k0_off195 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_109 : BitVec 32 := 16#32
  let v213 : BitVec 32 := Scalar.muli arg11 c16_i32_109
  let c10_i32 : BitVec 32 := 10#32
  let v214 : BitVec 32 := Scalar.addi v213 c10_i32
  let c8_i32_112 : BitVec 32 := 8#32
  let v220 : BitVec 32 := Scalar.muli v214 c8_i32_112
  let v221 : BitVec 32 := v220
  let c0_i32_115 : BitVec 32 := 0#32
  ![v221.toNat, 0]
def k0_off196 (i : grid0.Coords) (k0_t5 : Fin k0_t5_loop.trips) : Fin 1 → Nat :=
  let c0_i32_118 : BitVec 32 := 0#32
  let arg0 : BitVec 32 := BitVec.ofNat 32 (i 0).val
  let c512_i32_117 : BitVec 32 := 512#32
  let v228 : BitVec 32 := Scalar.muli arg0 c512_i32_117
  let v229 : BitVec 32 := Scalar.addi c0_i32_118 v228
  let c0_i32_30 : BitVec 32 := 0#32
  let c1_i32_32 : BitVec 32 := 1#32
  let arg11 : BitVec 32 := Scf.iv c0_i32_30 c1_i32_32 k0_t5
  let c16_i32_116 : BitVec 32 := 16#32
  let v226 : BitVec 32 := Scalar.muli arg11 c16_i32_116
  let c11_i32 : BitVec 32 := 11#32
  let v227 : BitVec 32 := Scalar.addi v226 c11_i32
  let v230 : BitVec 32 := Scalar.addi v229 v227
  let v231 : Index := Scalar.indexCast v230
  ![v231.toNat]
def k0_mult119 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_116 : BitVec 32 := 16#32
  let v226 : BitVec 32 := Scalar.muli arg11 c16_i32_116
  let c11_i32 : BitVec 32 := 11#32
  let v227 : BitVec 32 := Scalar.addi v226 c11_i32
  let c8_i32_119 : BitVec 32 := 8#32
  let v233 : BitVec 32 := Scalar.muli v227 c8_i32_119
  v233
def k0_mult120 (v232 : BitVec 32) : BitVec 32 :=
  let c8_i32_120 : BitVec 32 := 8#32
  let v235 : BitVec 32 := Scalar.muli v232 c8_i32_120
  v235

def k0_off197 (v232 : BitVec 32) : Fin 2 → Nat :=
  let c8_i32_120 : BitVec 32 := 8#32
  let v235 : BitVec 32 := Scalar.muli v232 c8_i32_120
  let v236 : BitVec 32 := v235
  let c0_i32_121 : BitVec 32 := 0#32
  ![v236.toNat, 0]

def k0_chk76 (v232 : BitVec 32) : Prop :=
  (8 ∣ (k0_mult120 v232).toNat) ∧
  (∀ a, (k0_off197 v232) a + S8x128.size a ≤ S294912x128.size a)
theorem k0_mult120_dvd : ∀ (v232 : BitVec 32) (k0_hw76 : k0_chk76 v232), 8 ∣ (k0_mult120 v232).toNat := fun v232 k0_hw76 => k0_hw76.1
theorem k0_off197_inb : ∀ (v232 : BitVec 32) (k0_hw76 : k0_chk76 v232), ∀ a, (k0_off197 v232) a + S8x128.size a ≤ S294912x128.size a := fun v232 k0_hw76 => k0_hw76.2

def k0_off198 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_116 : BitVec 32 := 16#32
  let v226 : BitVec 32 := Scalar.muli arg11 c16_i32_116
  let c11_i32 : BitVec 32 := 11#32
  let v227 : BitVec 32 := Scalar.addi v226 c11_i32
  let c8_i32_119 : BitVec 32 := 8#32
  let v233 : BitVec 32 := Scalar.muli v227 c8_i32_119
  let v234 : BitVec 32 := v233
  let c0_i32_122 : BitVec 32 := 0#32
  ![v234.toNat, 0]
def k0_off199 (i : grid0.Coords) (k0_t5 : Fin k0_t5_loop.trips) : Fin 1 → Nat :=
  let c0_i32_125 : BitVec 32 := 0#32
  let arg0 : BitVec 32 := BitVec.ofNat 32 (i 0).val
  let c512_i32_124 : BitVec 32 := 512#32
  let v241 : BitVec 32 := Scalar.muli arg0 c512_i32_124
  let v242 : BitVec 32 := Scalar.addi c0_i32_125 v241
  let c0_i32_30 : BitVec 32 := 0#32
  let c1_i32_32 : BitVec 32 := 1#32
  let arg11 : BitVec 32 := Scf.iv c0_i32_30 c1_i32_32 k0_t5
  let c16_i32_123 : BitVec 32 := 16#32
  let v239 : BitVec 32 := Scalar.muli arg11 c16_i32_123
  let c12_i32 : BitVec 32 := 12#32
  let v240 : BitVec 32 := Scalar.addi v239 c12_i32
  let v243 : BitVec 32 := Scalar.addi v242 v240
  let v244 : Index := Scalar.indexCast v243
  ![v244.toNat]
def k0_mult121 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_123 : BitVec 32 := 16#32
  let v239 : BitVec 32 := Scalar.muli arg11 c16_i32_123
  let c12_i32 : BitVec 32 := 12#32
  let v240 : BitVec 32 := Scalar.addi v239 c12_i32
  let c8_i32_126 : BitVec 32 := 8#32
  let v246 : BitVec 32 := Scalar.muli v240 c8_i32_126
  v246
def k0_mult122 (v245 : BitVec 32) : BitVec 32 :=
  let c8_i32_127 : BitVec 32 := 8#32
  let v248 : BitVec 32 := Scalar.muli v245 c8_i32_127
  v248

def k0_off200 (v245 : BitVec 32) : Fin 2 → Nat :=
  let c8_i32_127 : BitVec 32 := 8#32
  let v248 : BitVec 32 := Scalar.muli v245 c8_i32_127
  let v249 : BitVec 32 := v248
  let c0_i32_128 : BitVec 32 := 0#32
  ![v249.toNat, 0]

def k0_chk77 (v245 : BitVec 32) : Prop :=
  (8 ∣ (k0_mult122 v245).toNat) ∧
  (∀ a, (k0_off200 v245) a + S8x128.size a ≤ S294912x128.size a)
theorem k0_mult122_dvd : ∀ (v245 : BitVec 32) (k0_hw77 : k0_chk77 v245), 8 ∣ (k0_mult122 v245).toNat := fun v245 k0_hw77 => k0_hw77.1
theorem k0_off200_inb : ∀ (v245 : BitVec 32) (k0_hw77 : k0_chk77 v245), ∀ a, (k0_off200 v245) a + S8x128.size a ≤ S294912x128.size a := fun v245 k0_hw77 => k0_hw77.2

def k0_off201 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_123 : BitVec 32 := 16#32
  let v239 : BitVec 32 := Scalar.muli arg11 c16_i32_123
  let c12_i32 : BitVec 32 := 12#32
  let v240 : BitVec 32 := Scalar.addi v239 c12_i32
  let c8_i32_126 : BitVec 32 := 8#32
  let v246 : BitVec 32 := Scalar.muli v240 c8_i32_126
  let v247 : BitVec 32 := v246
  let c0_i32_129 : BitVec 32 := 0#32
  ![v247.toNat, 0]
def k0_off202 (i : grid0.Coords) (k0_t5 : Fin k0_t5_loop.trips) : Fin 1 → Nat :=
  let c0_i32_132 : BitVec 32 := 0#32
  let arg0 : BitVec 32 := BitVec.ofNat 32 (i 0).val
  let c512_i32_131 : BitVec 32 := 512#32
  let v254 : BitVec 32 := Scalar.muli arg0 c512_i32_131
  let v255 : BitVec 32 := Scalar.addi c0_i32_132 v254
  let c0_i32_30 : BitVec 32 := 0#32
  let c1_i32_32 : BitVec 32 := 1#32
  let arg11 : BitVec 32 := Scf.iv c0_i32_30 c1_i32_32 k0_t5
  let c16_i32_130 : BitVec 32 := 16#32
  let v252 : BitVec 32 := Scalar.muli arg11 c16_i32_130
  let c13_i32 : BitVec 32 := 13#32
  let v253 : BitVec 32 := Scalar.addi v252 c13_i32
  let v256 : BitVec 32 := Scalar.addi v255 v253
  let v257 : Index := Scalar.indexCast v256
  ![v257.toNat]
def k0_mult123 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_130 : BitVec 32 := 16#32
  let v252 : BitVec 32 := Scalar.muli arg11 c16_i32_130
  let c13_i32 : BitVec 32 := 13#32
  let v253 : BitVec 32 := Scalar.addi v252 c13_i32
  let c8_i32_133 : BitVec 32 := 8#32
  let v259 : BitVec 32 := Scalar.muli v253 c8_i32_133
  v259
def k0_mult124 (v258 : BitVec 32) : BitVec 32 :=
  let c8_i32_134 : BitVec 32 := 8#32
  let v261 : BitVec 32 := Scalar.muli v258 c8_i32_134
  v261

def k0_off203 (v258 : BitVec 32) : Fin 2 → Nat :=
  let c8_i32_134 : BitVec 32 := 8#32
  let v261 : BitVec 32 := Scalar.muli v258 c8_i32_134
  let v262 : BitVec 32 := v261
  let c0_i32_135 : BitVec 32 := 0#32
  ![v262.toNat, 0]

def k0_chk78 (v258 : BitVec 32) : Prop :=
  (8 ∣ (k0_mult124 v258).toNat) ∧
  (∀ a, (k0_off203 v258) a + S8x128.size a ≤ S294912x128.size a)
theorem k0_mult124_dvd : ∀ (v258 : BitVec 32) (k0_hw78 : k0_chk78 v258), 8 ∣ (k0_mult124 v258).toNat := fun v258 k0_hw78 => k0_hw78.1
theorem k0_off203_inb : ∀ (v258 : BitVec 32) (k0_hw78 : k0_chk78 v258), ∀ a, (k0_off203 v258) a + S8x128.size a ≤ S294912x128.size a := fun v258 k0_hw78 => k0_hw78.2

def k0_off204 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_130 : BitVec 32 := 16#32
  let v252 : BitVec 32 := Scalar.muli arg11 c16_i32_130
  let c13_i32 : BitVec 32 := 13#32
  let v253 : BitVec 32 := Scalar.addi v252 c13_i32
  let c8_i32_133 : BitVec 32 := 8#32
  let v259 : BitVec 32 := Scalar.muli v253 c8_i32_133
  let v260 : BitVec 32 := v259
  let c0_i32_136 : BitVec 32 := 0#32
  ![v260.toNat, 0]
def k0_off205 (i : grid0.Coords) (k0_t5 : Fin k0_t5_loop.trips) : Fin 1 → Nat :=
  let c0_i32_139 : BitVec 32 := 0#32
  let arg0 : BitVec 32 := BitVec.ofNat 32 (i 0).val
  let c512_i32_138 : BitVec 32 := 512#32
  let v267 : BitVec 32 := Scalar.muli arg0 c512_i32_138
  let v268 : BitVec 32 := Scalar.addi c0_i32_139 v267
  let c0_i32_30 : BitVec 32 := 0#32
  let c1_i32_32 : BitVec 32 := 1#32
  let arg11 : BitVec 32 := Scf.iv c0_i32_30 c1_i32_32 k0_t5
  let c16_i32_137 : BitVec 32 := 16#32
  let v265 : BitVec 32 := Scalar.muli arg11 c16_i32_137
  let c14_i32 : BitVec 32 := 14#32
  let v266 : BitVec 32 := Scalar.addi v265 c14_i32
  let v269 : BitVec 32 := Scalar.addi v268 v266
  let v270 : Index := Scalar.indexCast v269
  ![v270.toNat]
def k0_mult125 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_137 : BitVec 32 := 16#32
  let v265 : BitVec 32 := Scalar.muli arg11 c16_i32_137
  let c14_i32 : BitVec 32 := 14#32
  let v266 : BitVec 32 := Scalar.addi v265 c14_i32
  let c8_i32_140 : BitVec 32 := 8#32
  let v272 : BitVec 32 := Scalar.muli v266 c8_i32_140
  v272
def k0_mult126 (v271 : BitVec 32) : BitVec 32 :=
  let c8_i32_141 : BitVec 32 := 8#32
  let v274 : BitVec 32 := Scalar.muli v271 c8_i32_141
  v274

def k0_off206 (v271 : BitVec 32) : Fin 2 → Nat :=
  let c8_i32_141 : BitVec 32 := 8#32
  let v274 : BitVec 32 := Scalar.muli v271 c8_i32_141
  let v275 : BitVec 32 := v274
  let c0_i32_142 : BitVec 32 := 0#32
  ![v275.toNat, 0]

def k0_chk79 (v271 : BitVec 32) : Prop :=
  (8 ∣ (k0_mult126 v271).toNat) ∧
  (∀ a, (k0_off206 v271) a + S8x128.size a ≤ S294912x128.size a)
theorem k0_mult126_dvd : ∀ (v271 : BitVec 32) (k0_hw79 : k0_chk79 v271), 8 ∣ (k0_mult126 v271).toNat := fun v271 k0_hw79 => k0_hw79.1
theorem k0_off206_inb : ∀ (v271 : BitVec 32) (k0_hw79 : k0_chk79 v271), ∀ a, (k0_off206 v271) a + S8x128.size a ≤ S294912x128.size a := fun v271 k0_hw79 => k0_hw79.2

def k0_off207 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_137 : BitVec 32 := 16#32
  let v265 : BitVec 32 := Scalar.muli arg11 c16_i32_137
  let c14_i32 : BitVec 32 := 14#32
  let v266 : BitVec 32 := Scalar.addi v265 c14_i32
  let c8_i32_140 : BitVec 32 := 8#32
  let v272 : BitVec 32 := Scalar.muli v266 c8_i32_140
  let v273 : BitVec 32 := v272
  let c0_i32_143 : BitVec 32 := 0#32
  ![v273.toNat, 0]
def k0_off208 (i : grid0.Coords) (k0_t5 : Fin k0_t5_loop.trips) : Fin 1 → Nat :=
  let c0_i32_146 : BitVec 32 := 0#32
  let arg0 : BitVec 32 := BitVec.ofNat 32 (i 0).val
  let c512_i32_145 : BitVec 32 := 512#32
  let v280 : BitVec 32 := Scalar.muli arg0 c512_i32_145
  let v281 : BitVec 32 := Scalar.addi c0_i32_146 v280
  let c0_i32_30 : BitVec 32 := 0#32
  let c1_i32_32 : BitVec 32 := 1#32
  let arg11 : BitVec 32 := Scf.iv c0_i32_30 c1_i32_32 k0_t5
  let c16_i32_144 : BitVec 32 := 16#32
  let v278 : BitVec 32 := Scalar.muli arg11 c16_i32_144
  let c15_i32 : BitVec 32 := 15#32
  let v279 : BitVec 32 := Scalar.addi v278 c15_i32
  let v282 : BitVec 32 := Scalar.addi v281 v279
  let v283 : Index := Scalar.indexCast v282
  ![v283.toNat]
def k0_mult127 (k0_t5 : Fin k0_t5_loop.trips) : BitVec 32 :=
  let c0_i32_30 : BitVec 32 := 0#32
  let c1_i32_32 : BitVec 32 := 1#32
  let arg11 : BitVec 32 := Scf.iv c0_i32_30 c1_i32_32 k0_t5
  let c16_i32_144 : BitVec 32 := 16#32
  let v278 : BitVec 32 := Scalar.muli arg11 c16_i32_144
  let c15_i32 : BitVec 32 := 15#32
  let v279 : BitVec 32 := Scalar.addi v278 c15_i32
  let c8_i32_147 : BitVec 32 := 8#32
  let v285 : BitVec 32 := Scalar.muli v279 c8_i32_147
  v285
def k0_mult128 (v284 : BitVec 32) : BitVec 32 :=
  let c8_i32_148 : BitVec 32 := 8#32
  let v287 : BitVec 32 := Scalar.muli v284 c8_i32_148
  v287

def k0_off209 (v284 : BitVec 32) : Fin 2 → Nat :=
  let c8_i32_148 : BitVec 32 := 8#32
  let v287 : BitVec 32 := Scalar.muli v284 c8_i32_148
  let v288 : BitVec 32 := v287
  let c0_i32_149 : BitVec 32 := 0#32
  ![v288.toNat, 0]

def k0_chk80 (v284 : BitVec 32) : Prop :=
  (8 ∣ (k0_mult128 v284).toNat) ∧
  (∀ a, (k0_off209 v284) a + S8x128.size a ≤ S294912x128.size a)
theorem k0_mult128_dvd : ∀ (v284 : BitVec 32) (k0_hw80 : k0_chk80 v284), 8 ∣ (k0_mult128 v284).toNat := fun v284 k0_hw80 => k0_hw80.1
theorem k0_off209_inb : ∀ (v284 : BitVec 32) (k0_hw80 : k0_chk80 v284), ∀ a, (k0_off209 v284) a + S8x128.size a ≤ S294912x128.size a := fun v284 k0_hw80 => k0_hw80.2

def k0_off210 (k0_t5 : Fin k0_t5_loop.trips) : Fin 2 → Nat :=
  let c0_i32_30 : BitVec 32 := 0#32
  let c1_i32_32 : BitVec 32 := 1#32
  let arg11 : BitVec 32 := Scf.iv c0_i32_30 c1_i32_32 k0_t5
  let c16_i32_144 : BitVec 32 := 16#32
  let v278 : BitVec 32 := Scalar.muli arg11 c16_i32_144
  let c15_i32 : BitVec 32 := 15#32
  let v279 : BitVec 32 := Scalar.addi v278 c15_i32
  let c8_i32_147 : BitVec 32 := 8#32
  let v285 : BitVec 32 := Scalar.muli v279 c8_i32_147
  let v286 : BitVec 32 := v285
  let c0_i32_150 : BitVec 32 := 0#32
  ![v286.toNat, 0]
@[reducible] def k0_t6_loop : Scf.Loop 32 :=
  let c0_i32_34 : BitVec 32 := 0#32
  let c32_i32_35 : BitVec 32 := 32#32
  let v82 : BitVec 32 := Scalar.addi c0_i32_34 c32_i32_35
  let c1_i32_36 : BitVec 32 := 1#32
  ⟨c0_i32_34, v82, c1_i32_36⟩
def k0_off211 (i : grid0.Coords) (k0_t6 : Fin k0_t6_loop.trips) : Fin 1 → Nat :=
  let c16384_i32 : BitVec 32 := 16384#32
  let arg0 : BitVec 32 := BitVec.ofNat 32 (i 0).val
  let c512_i32 : BitVec 32 := 512#32
  let v85 : BitVec 32 := Scalar.muli arg0 c512_i32
  let v86 : BitVec 32 := Scalar.addi c16384_i32 v85
  let c0_i32_34 : BitVec 32 := 0#32
  let c1_i32_36 : BitVec 32 := 1#32
  let arg11 : BitVec 32 := Scf.iv c0_i32_34 c1_i32_36 k0_t6
  let c16_i32_38 : BitVec 32 := 16#32
  let v83 : BitVec 32 := Scalar.muli arg11 c16_i32_38
  let c0_i32_39 : BitVec 32 := 0#32
  let v84 : BitVec 32 := Scalar.addi v83 c0_i32_39
  let v87 : BitVec 32 := Scalar.addi v86 v84
  let v88 : Index := Scalar.indexCast v87
  ![v88.toNat]
def k0_mult129 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_38 : BitVec 32 := 16#32
  let v83 : BitVec 32 := Scalar.muli arg11 c16_i32_38
  let c0_i32_39 : BitVec 32 := 0#32
  let v84 : BitVec 32 := Scalar.addi v83 c0_i32_39
  let c8_i32 : BitVec 32 := 8#32
  let v90 : BitVec 32 := Scalar.muli v84 c8_i32
  v90
def k0_mult130 (v89 : BitVec 32) : BitVec 32 :=
  let c8_i32_40 : BitVec 32 := 8#32
  let v92 : BitVec 32 := Scalar.muli v89 c8_i32_40
  v92

def k0_off212 (v89 : BitVec 32) : Fin 2 → Nat :=
  let c8_i32_40 : BitVec 32 := 8#32
  let v92 : BitVec 32 := Scalar.muli v89 c8_i32_40
  let v93 : BitVec 32 := v92
  let c0_i32_41 : BitVec 32 := 0#32
  ![v93.toNat, 0]

def k0_chk81 (v89 : BitVec 32) : Prop :=
  (8 ∣ (k0_mult130 v89).toNat) ∧
  (∀ a, (k0_off212 v89) a + S8x128.size a ≤ S294912x128.size a)
theorem k0_mult130_dvd : ∀ (v89 : BitVec 32) (k0_hw81 : k0_chk81 v89), 8 ∣ (k0_mult130 v89).toNat := fun v89 k0_hw81 => k0_hw81.1
theorem k0_off212_inb : ∀ (v89 : BitVec 32) (k0_hw81 : k0_chk81 v89), ∀ a, (k0_off212 v89) a + S8x128.size a ≤ S294912x128.size a := fun v89 k0_hw81 => k0_hw81.2

def k0_off213 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_38 : BitVec 32 := 16#32
  let v83 : BitVec 32 := Scalar.muli arg11 c16_i32_38
  let c0_i32_39 : BitVec 32 := 0#32
  let v84 : BitVec 32 := Scalar.addi v83 c0_i32_39
  let c8_i32 : BitVec 32 := 8#32
  let v90 : BitVec 32 := Scalar.muli v84 c8_i32
  let v91 : BitVec 32 := v90
  let c0_i32_42 : BitVec 32 := 0#32
  ![v91.toNat, 0]
def k0_off214 (i : grid0.Coords) (k0_t6 : Fin k0_t6_loop.trips) : Fin 1 → Nat :=
  let c16384_i32_46 : BitVec 32 := 16384#32
  let arg0 : BitVec 32 := BitVec.ofNat 32 (i 0).val
  let c512_i32_45 : BitVec 32 := 512#32
  let v98 : BitVec 32 := Scalar.muli arg0 c512_i32_45
  let v99 : BitVec 32 := Scalar.addi c16384_i32_46 v98
  let c0_i32_34 : BitVec 32 := 0#32
  let c1_i32_36 : BitVec 32 := 1#32
  let arg11 : BitVec 32 := Scf.iv c0_i32_34 c1_i32_36 k0_t6
  let c16_i32_43 : BitVec 32 := 16#32
  let v96 : BitVec 32 := Scalar.muli arg11 c16_i32_43
  let c1_i32_44 : BitVec 32 := 1#32
  let v97 : BitVec 32 := Scalar.addi v96 c1_i32_44
  let v100 : BitVec 32 := Scalar.addi v99 v97
  let v101 : Index := Scalar.indexCast v100
  ![v101.toNat]
def k0_mult131 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_43 : BitVec 32 := 16#32
  let v96 : BitVec 32 := Scalar.muli arg11 c16_i32_43
  let c1_i32_44 : BitVec 32 := 1#32
  let v97 : BitVec 32 := Scalar.addi v96 c1_i32_44
  let c8_i32_47 : BitVec 32 := 8#32
  let v103 : BitVec 32 := Scalar.muli v97 c8_i32_47
  v103
def k0_mult132 (v102 : BitVec 32) : BitVec 32 :=
  let c8_i32_48 : BitVec 32 := 8#32
  let v105 : BitVec 32 := Scalar.muli v102 c8_i32_48
  v105

def k0_off215 (v102 : BitVec 32) : Fin 2 → Nat :=
  let c8_i32_48 : BitVec 32 := 8#32
  let v105 : BitVec 32 := Scalar.muli v102 c8_i32_48
  let v106 : BitVec 32 := v105
  let c0_i32_49 : BitVec 32 := 0#32
  ![v106.toNat, 0]

def k0_chk82 (v102 : BitVec 32) : Prop :=
  (8 ∣ (k0_mult132 v102).toNat) ∧
  (∀ a, (k0_off215 v102) a + S8x128.size a ≤ S294912x128.size a)
theorem k0_mult132_dvd : ∀ (v102 : BitVec 32) (k0_hw82 : k0_chk82 v102), 8 ∣ (k0_mult132 v102).toNat := fun v102 k0_hw82 => k0_hw82.1
theorem k0_off215_inb : ∀ (v102 : BitVec 32) (k0_hw82 : k0_chk82 v102), ∀ a, (k0_off215 v102) a + S8x128.size a ≤ S294912x128.size a := fun v102 k0_hw82 => k0_hw82.2

def k0_off216 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_43 : BitVec 32 := 16#32
  let v96 : BitVec 32 := Scalar.muli arg11 c16_i32_43
  let c1_i32_44 : BitVec 32 := 1#32
  let v97 : BitVec 32 := Scalar.addi v96 c1_i32_44
  let c8_i32_47 : BitVec 32 := 8#32
  let v103 : BitVec 32 := Scalar.muli v97 c8_i32_47
  let v104 : BitVec 32 := v103
  let c0_i32_50 : BitVec 32 := 0#32
  ![v104.toNat, 0]
def k0_off217 (i : grid0.Coords) (k0_t6 : Fin k0_t6_loop.trips) : Fin 1 → Nat :=
  let c16384_i32_53 : BitVec 32 := 16384#32
  let arg0 : BitVec 32 := BitVec.ofNat 32 (i 0).val
  let c512_i32_52 : BitVec 32 := 512#32
  let v111 : BitVec 32 := Scalar.muli arg0 c512_i32_52
  let v112 : BitVec 32 := Scalar.addi c16384_i32_53 v111
  let c0_i32_34 : BitVec 32 := 0#32
  let c1_i32_36 : BitVec 32 := 1#32
  let arg11 : BitVec 32 := Scf.iv c0_i32_34 c1_i32_36 k0_t6
  let c16_i32_51 : BitVec 32 := 16#32
  let v109 : BitVec 32 := Scalar.muli arg11 c16_i32_51
  let c2_i32 : BitVec 32 := 2#32
  let v110 : BitVec 32 := Scalar.addi v109 c2_i32
  let v113 : BitVec 32 := Scalar.addi v112 v110
  let v114 : Index := Scalar.indexCast v113
  ![v114.toNat]
def k0_mult133 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_51 : BitVec 32 := 16#32
  let v109 : BitVec 32 := Scalar.muli arg11 c16_i32_51
  let c2_i32 : BitVec 32 := 2#32
  let v110 : BitVec 32 := Scalar.addi v109 c2_i32
  let c8_i32_54 : BitVec 32 := 8#32
  let v116 : BitVec 32 := Scalar.muli v110 c8_i32_54
  v116
def k0_mult134 (v115 : BitVec 32) : BitVec 32 :=
  let c8_i32_55 : BitVec 32 := 8#32
  let v118 : BitVec 32 := Scalar.muli v115 c8_i32_55
  v118

def k0_off218 (v115 : BitVec 32) : Fin 2 → Nat :=
  let c8_i32_55 : BitVec 32 := 8#32
  let v118 : BitVec 32 := Scalar.muli v115 c8_i32_55
  let v119 : BitVec 32 := v118
  let c0_i32_56 : BitVec 32 := 0#32
  ![v119.toNat, 0]

def k0_chk83 (v115 : BitVec 32) : Prop :=
  (8 ∣ (k0_mult134 v115).toNat) ∧
  (∀ a, (k0_off218 v115) a + S8x128.size a ≤ S294912x128.size a)
theorem k0_mult134_dvd : ∀ (v115 : BitVec 32) (k0_hw83 : k0_chk83 v115), 8 ∣ (k0_mult134 v115).toNat := fun v115 k0_hw83 => k0_hw83.1
theorem k0_off218_inb : ∀ (v115 : BitVec 32) (k0_hw83 : k0_chk83 v115), ∀ a, (k0_off218 v115) a + S8x128.size a ≤ S294912x128.size a := fun v115 k0_hw83 => k0_hw83.2

def k0_off219 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_51 : BitVec 32 := 16#32
  let v109 : BitVec 32 := Scalar.muli arg11 c16_i32_51
  let c2_i32 : BitVec 32 := 2#32
  let v110 : BitVec 32 := Scalar.addi v109 c2_i32
  let c8_i32_54 : BitVec 32 := 8#32
  let v116 : BitVec 32 := Scalar.muli v110 c8_i32_54
  let v117 : BitVec 32 := v116
  let c0_i32_57 : BitVec 32 := 0#32
  ![v117.toNat, 0]
def k0_off220 (i : grid0.Coords) (k0_t6 : Fin k0_t6_loop.trips) : Fin 1 → Nat :=
  let c16384_i32_60 : BitVec 32 := 16384#32
  let arg0 : BitVec 32 := BitVec.ofNat 32 (i 0).val
  let c512_i32_59 : BitVec 32 := 512#32
  let v124 : BitVec 32 := Scalar.muli arg0 c512_i32_59
  let v125 : BitVec 32 := Scalar.addi c16384_i32_60 v124
  let c0_i32_34 : BitVec 32 := 0#32
  let c1_i32_36 : BitVec 32 := 1#32
  let arg11 : BitVec 32 := Scf.iv c0_i32_34 c1_i32_36 k0_t6
  let c16_i32_58 : BitVec 32 := 16#32
  let v122 : BitVec 32 := Scalar.muli arg11 c16_i32_58
  let c3_i32 : BitVec 32 := 3#32
  let v123 : BitVec 32 := Scalar.addi v122 c3_i32
  let v126 : BitVec 32 := Scalar.addi v125 v123
  let v127 : Index := Scalar.indexCast v126
  ![v127.toNat]
def k0_mult135 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_58 : BitVec 32 := 16#32
  let v122 : BitVec 32 := Scalar.muli arg11 c16_i32_58
  let c3_i32 : BitVec 32 := 3#32
  let v123 : BitVec 32 := Scalar.addi v122 c3_i32
  let c8_i32_61 : BitVec 32 := 8#32
  let v129 : BitVec 32 := Scalar.muli v123 c8_i32_61
  v129
def k0_mult136 (v128 : BitVec 32) : BitVec 32 :=
  let c8_i32_62 : BitVec 32 := 8#32
  let v131 : BitVec 32 := Scalar.muli v128 c8_i32_62
  v131

def k0_off221 (v128 : BitVec 32) : Fin 2 → Nat :=
  let c8_i32_62 : BitVec 32 := 8#32
  let v131 : BitVec 32 := Scalar.muli v128 c8_i32_62
  let v132 : BitVec 32 := v131
  let c0_i32_63 : BitVec 32 := 0#32
  ![v132.toNat, 0]

def k0_chk84 (v128 : BitVec 32) : Prop :=
  (8 ∣ (k0_mult136 v128).toNat) ∧
  (∀ a, (k0_off221 v128) a + S8x128.size a ≤ S294912x128.size a)
theorem k0_mult136_dvd : ∀ (v128 : BitVec 32) (k0_hw84 : k0_chk84 v128), 8 ∣ (k0_mult136 v128).toNat := fun v128 k0_hw84 => k0_hw84.1
theorem k0_off221_inb : ∀ (v128 : BitVec 32) (k0_hw84 : k0_chk84 v128), ∀ a, (k0_off221 v128) a + S8x128.size a ≤ S294912x128.size a := fun v128 k0_hw84 => k0_hw84.2

def k0_off222 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_58 : BitVec 32 := 16#32
  let v122 : BitVec 32 := Scalar.muli arg11 c16_i32_58
  let c3_i32 : BitVec 32 := 3#32
  let v123 : BitVec 32 := Scalar.addi v122 c3_i32
  let c8_i32_61 : BitVec 32 := 8#32
  let v129 : BitVec 32 := Scalar.muli v123 c8_i32_61
  let v130 : BitVec 32 := v129
  let c0_i32_64 : BitVec 32 := 0#32
  ![v130.toNat, 0]
def k0_off223 (i : grid0.Coords) (k0_t6 : Fin k0_t6_loop.trips) : Fin 1 → Nat :=
  let c16384_i32_67 : BitVec 32 := 16384#32
  let arg0 : BitVec 32 := BitVec.ofNat 32 (i 0).val
  let c512_i32_66 : BitVec 32 := 512#32
  let v137 : BitVec 32 := Scalar.muli arg0 c512_i32_66
  let v138 : BitVec 32 := Scalar.addi c16384_i32_67 v137
  let c0_i32_34 : BitVec 32 := 0#32
  let c1_i32_36 : BitVec 32 := 1#32
  let arg11 : BitVec 32 := Scf.iv c0_i32_34 c1_i32_36 k0_t6
  let c16_i32_65 : BitVec 32 := 16#32
  let v135 : BitVec 32 := Scalar.muli arg11 c16_i32_65
  let c4_i32 : BitVec 32 := 4#32
  let v136 : BitVec 32 := Scalar.addi v135 c4_i32
  let v139 : BitVec 32 := Scalar.addi v138 v136
  let v140 : Index := Scalar.indexCast v139
  ![v140.toNat]
def k0_mult137 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_65 : BitVec 32 := 16#32
  let v135 : BitVec 32 := Scalar.muli arg11 c16_i32_65
  let c4_i32 : BitVec 32 := 4#32
  let v136 : BitVec 32 := Scalar.addi v135 c4_i32
  let c8_i32_68 : BitVec 32 := 8#32
  let v142 : BitVec 32 := Scalar.muli v136 c8_i32_68
  v142
def k0_mult138 (v141 : BitVec 32) : BitVec 32 :=
  let c8_i32_69 : BitVec 32 := 8#32
  let v144 : BitVec 32 := Scalar.muli v141 c8_i32_69
  v144

def k0_off224 (v141 : BitVec 32) : Fin 2 → Nat :=
  let c8_i32_69 : BitVec 32 := 8#32
  let v144 : BitVec 32 := Scalar.muli v141 c8_i32_69
  let v145 : BitVec 32 := v144
  let c0_i32_70 : BitVec 32 := 0#32
  ![v145.toNat, 0]

def k0_chk85 (v141 : BitVec 32) : Prop :=
  (8 ∣ (k0_mult138 v141).toNat) ∧
  (∀ a, (k0_off224 v141) a + S8x128.size a ≤ S294912x128.size a)
theorem k0_mult138_dvd : ∀ (v141 : BitVec 32) (k0_hw85 : k0_chk85 v141), 8 ∣ (k0_mult138 v141).toNat := fun v141 k0_hw85 => k0_hw85.1
theorem k0_off224_inb : ∀ (v141 : BitVec 32) (k0_hw85 : k0_chk85 v141), ∀ a, (k0_off224 v141) a + S8x128.size a ≤ S294912x128.size a := fun v141 k0_hw85 => k0_hw85.2

def k0_off225 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_65 : BitVec 32 := 16#32
  let v135 : BitVec 32 := Scalar.muli arg11 c16_i32_65
  let c4_i32 : BitVec 32 := 4#32
  let v136 : BitVec 32 := Scalar.addi v135 c4_i32
  let c8_i32_68 : BitVec 32 := 8#32
  let v142 : BitVec 32 := Scalar.muli v136 c8_i32_68
  let v143 : BitVec 32 := v142
  let c0_i32_71 : BitVec 32 := 0#32
  ![v143.toNat, 0]
def k0_off226 (i : grid0.Coords) (k0_t6 : Fin k0_t6_loop.trips) : Fin 1 → Nat :=
  let c16384_i32_74 : BitVec 32 := 16384#32
  let arg0 : BitVec 32 := BitVec.ofNat 32 (i 0).val
  let c512_i32_73 : BitVec 32 := 512#32
  let v150 : BitVec 32 := Scalar.muli arg0 c512_i32_73
  let v151 : BitVec 32 := Scalar.addi c16384_i32_74 v150
  let c0_i32_34 : BitVec 32 := 0#32
  let c1_i32_36 : BitVec 32 := 1#32
  let arg11 : BitVec 32 := Scf.iv c0_i32_34 c1_i32_36 k0_t6
  let c16_i32_72 : BitVec 32 := 16#32
  let v148 : BitVec 32 := Scalar.muli arg11 c16_i32_72
  let c5_i32 : BitVec 32 := 5#32
  let v149 : BitVec 32 := Scalar.addi v148 c5_i32
  let v152 : BitVec 32 := Scalar.addi v151 v149
  let v153 : Index := Scalar.indexCast v152
  ![v153.toNat]
def k0_mult139 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_72 : BitVec 32 := 16#32
  let v148 : BitVec 32 := Scalar.muli arg11 c16_i32_72
  let c5_i32 : BitVec 32 := 5#32
  let v149 : BitVec 32 := Scalar.addi v148 c5_i32
  let c8_i32_75 : BitVec 32 := 8#32
  let v155 : BitVec 32 := Scalar.muli v149 c8_i32_75
  v155
def k0_mult140 (v154 : BitVec 32) : BitVec 32 :=
  let c8_i32_76 : BitVec 32 := 8#32
  let v157 : BitVec 32 := Scalar.muli v154 c8_i32_76
  v157

def k0_off227 (v154 : BitVec 32) : Fin 2 → Nat :=
  let c8_i32_76 : BitVec 32 := 8#32
  let v157 : BitVec 32 := Scalar.muli v154 c8_i32_76
  let v158 : BitVec 32 := v157
  let c0_i32_77 : BitVec 32 := 0#32
  ![v158.toNat, 0]

def k0_chk86 (v154 : BitVec 32) : Prop :=
  (8 ∣ (k0_mult140 v154).toNat) ∧
  (∀ a, (k0_off227 v154) a + S8x128.size a ≤ S294912x128.size a)
theorem k0_mult140_dvd : ∀ (v154 : BitVec 32) (k0_hw86 : k0_chk86 v154), 8 ∣ (k0_mult140 v154).toNat := fun v154 k0_hw86 => k0_hw86.1
theorem k0_off227_inb : ∀ (v154 : BitVec 32) (k0_hw86 : k0_chk86 v154), ∀ a, (k0_off227 v154) a + S8x128.size a ≤ S294912x128.size a := fun v154 k0_hw86 => k0_hw86.2

def k0_off228 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_72 : BitVec 32 := 16#32
  let v148 : BitVec 32 := Scalar.muli arg11 c16_i32_72
  let c5_i32 : BitVec 32 := 5#32
  let v149 : BitVec 32 := Scalar.addi v148 c5_i32
  let c8_i32_75 : BitVec 32 := 8#32
  let v155 : BitVec 32 := Scalar.muli v149 c8_i32_75
  let v156 : BitVec 32 := v155
  let c0_i32_78 : BitVec 32 := 0#32
  ![v156.toNat, 0]
def k0_off229 (i : grid0.Coords) (k0_t6 : Fin k0_t6_loop.trips) : Fin 1 → Nat :=
  let c16384_i32_81 : BitVec 32 := 16384#32
  let arg0 : BitVec 32 := BitVec.ofNat 32 (i 0).val
  let c512_i32_80 : BitVec 32 := 512#32
  let v163 : BitVec 32 := Scalar.muli arg0 c512_i32_80
  let v164 : BitVec 32 := Scalar.addi c16384_i32_81 v163
  let c0_i32_34 : BitVec 32 := 0#32
  let c1_i32_36 : BitVec 32 := 1#32
  let arg11 : BitVec 32 := Scf.iv c0_i32_34 c1_i32_36 k0_t6
  let c16_i32_79 : BitVec 32 := 16#32
  let v161 : BitVec 32 := Scalar.muli arg11 c16_i32_79
  let c6_i32 : BitVec 32 := 6#32
  let v162 : BitVec 32 := Scalar.addi v161 c6_i32
  let v165 : BitVec 32 := Scalar.addi v164 v162
  let v166 : Index := Scalar.indexCast v165
  ![v166.toNat]
def k0_mult141 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_79 : BitVec 32 := 16#32
  let v161 : BitVec 32 := Scalar.muli arg11 c16_i32_79
  let c6_i32 : BitVec 32 := 6#32
  let v162 : BitVec 32 := Scalar.addi v161 c6_i32
  let c8_i32_82 : BitVec 32 := 8#32
  let v168 : BitVec 32 := Scalar.muli v162 c8_i32_82
  v168
def k0_mult142 (v167 : BitVec 32) : BitVec 32 :=
  let c8_i32_83 : BitVec 32 := 8#32
  let v170 : BitVec 32 := Scalar.muli v167 c8_i32_83
  v170

def k0_off230 (v167 : BitVec 32) : Fin 2 → Nat :=
  let c8_i32_83 : BitVec 32 := 8#32
  let v170 : BitVec 32 := Scalar.muli v167 c8_i32_83
  let v171 : BitVec 32 := v170
  let c0_i32_84 : BitVec 32 := 0#32
  ![v171.toNat, 0]

def k0_chk87 (v167 : BitVec 32) : Prop :=
  (8 ∣ (k0_mult142 v167).toNat) ∧
  (∀ a, (k0_off230 v167) a + S8x128.size a ≤ S294912x128.size a)
theorem k0_mult142_dvd : ∀ (v167 : BitVec 32) (k0_hw87 : k0_chk87 v167), 8 ∣ (k0_mult142 v167).toNat := fun v167 k0_hw87 => k0_hw87.1
theorem k0_off230_inb : ∀ (v167 : BitVec 32) (k0_hw87 : k0_chk87 v167), ∀ a, (k0_off230 v167) a + S8x128.size a ≤ S294912x128.size a := fun v167 k0_hw87 => k0_hw87.2

def k0_off231 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_79 : BitVec 32 := 16#32
  let v161 : BitVec 32 := Scalar.muli arg11 c16_i32_79
  let c6_i32 : BitVec 32 := 6#32
  let v162 : BitVec 32 := Scalar.addi v161 c6_i32
  let c8_i32_82 : BitVec 32 := 8#32
  let v168 : BitVec 32 := Scalar.muli v162 c8_i32_82
  let v169 : BitVec 32 := v168
  let c0_i32_85 : BitVec 32 := 0#32
  ![v169.toNat, 0]
def k0_off232 (i : grid0.Coords) (k0_t6 : Fin k0_t6_loop.trips) : Fin 1 → Nat :=
  let c16384_i32_88 : BitVec 32 := 16384#32
  let arg0 : BitVec 32 := BitVec.ofNat 32 (i 0).val
  let c512_i32_87 : BitVec 32 := 512#32
  let v176 : BitVec 32 := Scalar.muli arg0 c512_i32_87
  let v177 : BitVec 32 := Scalar.addi c16384_i32_88 v176
  let c0_i32_34 : BitVec 32 := 0#32
  let c1_i32_36 : BitVec 32 := 1#32
  let arg11 : BitVec 32 := Scf.iv c0_i32_34 c1_i32_36 k0_t6
  let c16_i32_86 : BitVec 32 := 16#32
  let v174 : BitVec 32 := Scalar.muli arg11 c16_i32_86
  let c7_i32 : BitVec 32 := 7#32
  let v175 : BitVec 32 := Scalar.addi v174 c7_i32
  let v178 : BitVec 32 := Scalar.addi v177 v175
  let v179 : Index := Scalar.indexCast v178
  ![v179.toNat]
def k0_mult143 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_86 : BitVec 32 := 16#32
  let v174 : BitVec 32 := Scalar.muli arg11 c16_i32_86
  let c7_i32 : BitVec 32 := 7#32
  let v175 : BitVec 32 := Scalar.addi v174 c7_i32
  let c8_i32_89 : BitVec 32 := 8#32
  let v181 : BitVec 32 := Scalar.muli v175 c8_i32_89
  v181
def k0_mult144 (v180 : BitVec 32) : BitVec 32 :=
  let c8_i32_90 : BitVec 32 := 8#32
  let v183 : BitVec 32 := Scalar.muli v180 c8_i32_90
  v183

def k0_off233 (v180 : BitVec 32) : Fin 2 → Nat :=
  let c8_i32_90 : BitVec 32 := 8#32
  let v183 : BitVec 32 := Scalar.muli v180 c8_i32_90
  let v184 : BitVec 32 := v183
  let c0_i32_91 : BitVec 32 := 0#32
  ![v184.toNat, 0]

def k0_chk88 (v180 : BitVec 32) : Prop :=
  (8 ∣ (k0_mult144 v180).toNat) ∧
  (∀ a, (k0_off233 v180) a + S8x128.size a ≤ S294912x128.size a)
theorem k0_mult144_dvd : ∀ (v180 : BitVec 32) (k0_hw88 : k0_chk88 v180), 8 ∣ (k0_mult144 v180).toNat := fun v180 k0_hw88 => k0_hw88.1
theorem k0_off233_inb : ∀ (v180 : BitVec 32) (k0_hw88 : k0_chk88 v180), ∀ a, (k0_off233 v180) a + S8x128.size a ≤ S294912x128.size a := fun v180 k0_hw88 => k0_hw88.2

def k0_off234 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_86 : BitVec 32 := 16#32
  let v174 : BitVec 32 := Scalar.muli arg11 c16_i32_86
  let c7_i32 : BitVec 32 := 7#32
  let v175 : BitVec 32 := Scalar.addi v174 c7_i32
  let c8_i32_89 : BitVec 32 := 8#32
  let v181 : BitVec 32 := Scalar.muli v175 c8_i32_89
  let v182 : BitVec 32 := v181
  let c0_i32_92 : BitVec 32 := 0#32
  ![v182.toNat, 0]
def k0_off235 (i : grid0.Coords) (k0_t6 : Fin k0_t6_loop.trips) : Fin 1 → Nat :=
  let c16384_i32_96 : BitVec 32 := 16384#32
  let arg0 : BitVec 32 := BitVec.ofNat 32 (i 0).val
  let c512_i32_95 : BitVec 32 := 512#32
  let v189 : BitVec 32 := Scalar.muli arg0 c512_i32_95
  let v190 : BitVec 32 := Scalar.addi c16384_i32_96 v189
  let c0_i32_34 : BitVec 32 := 0#32
  let c1_i32_36 : BitVec 32 := 1#32
  let arg11 : BitVec 32 := Scf.iv c0_i32_34 c1_i32_36 k0_t6
  let c16_i32_93 : BitVec 32 := 16#32
  let v187 : BitVec 32 := Scalar.muli arg11 c16_i32_93
  let c8_i32_94 : BitVec 32 := 8#32
  let v188 : BitVec 32 := Scalar.addi v187 c8_i32_94
  let v191 : BitVec 32 := Scalar.addi v190 v188
  let v192 : Index := Scalar.indexCast v191
  ![v192.toNat]
def k0_mult145 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_93 : BitVec 32 := 16#32
  let v187 : BitVec 32 := Scalar.muli arg11 c16_i32_93
  let c8_i32_94 : BitVec 32 := 8#32
  let v188 : BitVec 32 := Scalar.addi v187 c8_i32_94
  let c8_i32_97 : BitVec 32 := 8#32
  let v194 : BitVec 32 := Scalar.muli v188 c8_i32_97
  v194
def k0_mult146 (v193 : BitVec 32) : BitVec 32 :=
  let c8_i32_98 : BitVec 32 := 8#32
  let v196 : BitVec 32 := Scalar.muli v193 c8_i32_98
  v196

def k0_off236 (v193 : BitVec 32) : Fin 2 → Nat :=
  let c8_i32_98 : BitVec 32 := 8#32
  let v196 : BitVec 32 := Scalar.muli v193 c8_i32_98
  let v197 : BitVec 32 := v196
  let c0_i32_99 : BitVec 32 := 0#32
  ![v197.toNat, 0]

def k0_chk89 (v193 : BitVec 32) : Prop :=
  (8 ∣ (k0_mult146 v193).toNat) ∧
  (∀ a, (k0_off236 v193) a + S8x128.size a ≤ S294912x128.size a)
theorem k0_mult146_dvd : ∀ (v193 : BitVec 32) (k0_hw89 : k0_chk89 v193), 8 ∣ (k0_mult146 v193).toNat := fun v193 k0_hw89 => k0_hw89.1
theorem k0_off236_inb : ∀ (v193 : BitVec 32) (k0_hw89 : k0_chk89 v193), ∀ a, (k0_off236 v193) a + S8x128.size a ≤ S294912x128.size a := fun v193 k0_hw89 => k0_hw89.2

def k0_off237 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_93 : BitVec 32 := 16#32
  let v187 : BitVec 32 := Scalar.muli arg11 c16_i32_93
  let c8_i32_94 : BitVec 32 := 8#32
  let v188 : BitVec 32 := Scalar.addi v187 c8_i32_94
  let c8_i32_97 : BitVec 32 := 8#32
  let v194 : BitVec 32 := Scalar.muli v188 c8_i32_97
  let v195 : BitVec 32 := v194
  let c0_i32_100 : BitVec 32 := 0#32
  ![v195.toNat, 0]
def k0_off238 (i : grid0.Coords) (k0_t6 : Fin k0_t6_loop.trips) : Fin 1 → Nat :=
  let c16384_i32_103 : BitVec 32 := 16384#32
  let arg0 : BitVec 32 := BitVec.ofNat 32 (i 0).val
  let c512_i32_102 : BitVec 32 := 512#32
  let v202 : BitVec 32 := Scalar.muli arg0 c512_i32_102
  let v203 : BitVec 32 := Scalar.addi c16384_i32_103 v202
  let c0_i32_34 : BitVec 32 := 0#32
  let c1_i32_36 : BitVec 32 := 1#32
  let arg11 : BitVec 32 := Scf.iv c0_i32_34 c1_i32_36 k0_t6
  let c16_i32_101 : BitVec 32 := 16#32
  let v200 : BitVec 32 := Scalar.muli arg11 c16_i32_101
  let c9_i32 : BitVec 32 := 9#32
  let v201 : BitVec 32 := Scalar.addi v200 c9_i32
  let v204 : BitVec 32 := Scalar.addi v203 v201
  let v205 : Index := Scalar.indexCast v204
  ![v205.toNat]
def k0_mult147 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_101 : BitVec 32 := 16#32
  let v200 : BitVec 32 := Scalar.muli arg11 c16_i32_101
  let c9_i32 : BitVec 32 := 9#32
  let v201 : BitVec 32 := Scalar.addi v200 c9_i32
  let c8_i32_104 : BitVec 32 := 8#32
  let v207 : BitVec 32 := Scalar.muli v201 c8_i32_104
  v207
def k0_mult148 (v206 : BitVec 32) : BitVec 32 :=
  let c8_i32_105 : BitVec 32 := 8#32
  let v209 : BitVec 32 := Scalar.muli v206 c8_i32_105
  v209

def k0_off239 (v206 : BitVec 32) : Fin 2 → Nat :=
  let c8_i32_105 : BitVec 32 := 8#32
  let v209 : BitVec 32 := Scalar.muli v206 c8_i32_105
  let v210 : BitVec 32 := v209
  let c0_i32_106 : BitVec 32 := 0#32
  ![v210.toNat, 0]

def k0_chk90 (v206 : BitVec 32) : Prop :=
  (8 ∣ (k0_mult148 v206).toNat) ∧
  (∀ a, (k0_off239 v206) a + S8x128.size a ≤ S294912x128.size a)
theorem k0_mult148_dvd : ∀ (v206 : BitVec 32) (k0_hw90 : k0_chk90 v206), 8 ∣ (k0_mult148 v206).toNat := fun v206 k0_hw90 => k0_hw90.1
theorem k0_off239_inb : ∀ (v206 : BitVec 32) (k0_hw90 : k0_chk90 v206), ∀ a, (k0_off239 v206) a + S8x128.size a ≤ S294912x128.size a := fun v206 k0_hw90 => k0_hw90.2

def k0_off240 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_101 : BitVec 32 := 16#32
  let v200 : BitVec 32 := Scalar.muli arg11 c16_i32_101
  let c9_i32 : BitVec 32 := 9#32
  let v201 : BitVec 32 := Scalar.addi v200 c9_i32
  let c8_i32_104 : BitVec 32 := 8#32
  let v207 : BitVec 32 := Scalar.muli v201 c8_i32_104
  let v208 : BitVec 32 := v207
  let c0_i32_107 : BitVec 32 := 0#32
  ![v208.toNat, 0]
def k0_off241 (i : grid0.Coords) (k0_t6 : Fin k0_t6_loop.trips) : Fin 1 → Nat :=
  let c16384_i32_110 : BitVec 32 := 16384#32
  let arg0 : BitVec 32 := BitVec.ofNat 32 (i 0).val
  let c512_i32_109 : BitVec 32 := 512#32
  let v215 : BitVec 32 := Scalar.muli arg0 c512_i32_109
  let v216 : BitVec 32 := Scalar.addi c16384_i32_110 v215
  let c0_i32_34 : BitVec 32 := 0#32
  let c1_i32_36 : BitVec 32 := 1#32
  let arg11 : BitVec 32 := Scf.iv c0_i32_34 c1_i32_36 k0_t6
  let c16_i32_108 : BitVec 32 := 16#32
  let v213 : BitVec 32 := Scalar.muli arg11 c16_i32_108
  let c10_i32 : BitVec 32 := 10#32
  let v214 : BitVec 32 := Scalar.addi v213 c10_i32
  let v217 : BitVec 32 := Scalar.addi v216 v214
  let v218 : Index := Scalar.indexCast v217
  ![v218.toNat]
def k0_mult149 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_108 : BitVec 32 := 16#32
  let v213 : BitVec 32 := Scalar.muli arg11 c16_i32_108
  let c10_i32 : BitVec 32 := 10#32
  let v214 : BitVec 32 := Scalar.addi v213 c10_i32
  let c8_i32_111 : BitVec 32 := 8#32
  let v220 : BitVec 32 := Scalar.muli v214 c8_i32_111
  v220
def k0_mult150 (v219 : BitVec 32) : BitVec 32 :=
  let c8_i32_112 : BitVec 32 := 8#32
  let v222 : BitVec 32 := Scalar.muli v219 c8_i32_112
  v222

def k0_off242 (v219 : BitVec 32) : Fin 2 → Nat :=
  let c8_i32_112 : BitVec 32 := 8#32
  let v222 : BitVec 32 := Scalar.muli v219 c8_i32_112
  let v223 : BitVec 32 := v222
  let c0_i32_113 : BitVec 32 := 0#32
  ![v223.toNat, 0]

def k0_chk91 (v219 : BitVec 32) : Prop :=
  (8 ∣ (k0_mult150 v219).toNat) ∧
  (∀ a, (k0_off242 v219) a + S8x128.size a ≤ S294912x128.size a)
theorem k0_mult150_dvd : ∀ (v219 : BitVec 32) (k0_hw91 : k0_chk91 v219), 8 ∣ (k0_mult150 v219).toNat := fun v219 k0_hw91 => k0_hw91.1
theorem k0_off242_inb : ∀ (v219 : BitVec 32) (k0_hw91 : k0_chk91 v219), ∀ a, (k0_off242 v219) a + S8x128.size a ≤ S294912x128.size a := fun v219 k0_hw91 => k0_hw91.2

def k0_off243 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_108 : BitVec 32 := 16#32
  let v213 : BitVec 32 := Scalar.muli arg11 c16_i32_108
  let c10_i32 : BitVec 32 := 10#32
  let v214 : BitVec 32 := Scalar.addi v213 c10_i32
  let c8_i32_111 : BitVec 32 := 8#32
  let v220 : BitVec 32 := Scalar.muli v214 c8_i32_111
  let v221 : BitVec 32 := v220
  let c0_i32_114 : BitVec 32 := 0#32
  ![v221.toNat, 0]
def k0_off244 (i : grid0.Coords) (k0_t6 : Fin k0_t6_loop.trips) : Fin 1 → Nat :=
  let c16384_i32_117 : BitVec 32 := 16384#32
  let arg0 : BitVec 32 := BitVec.ofNat 32 (i 0).val
  let c512_i32_116 : BitVec 32 := 512#32
  let v228 : BitVec 32 := Scalar.muli arg0 c512_i32_116
  let v229 : BitVec 32 := Scalar.addi c16384_i32_117 v228
  let c0_i32_34 : BitVec 32 := 0#32
  let c1_i32_36 : BitVec 32 := 1#32
  let arg11 : BitVec 32 := Scf.iv c0_i32_34 c1_i32_36 k0_t6
  let c16_i32_115 : BitVec 32 := 16#32
  let v226 : BitVec 32 := Scalar.muli arg11 c16_i32_115
  let c11_i32 : BitVec 32 := 11#32
  let v227 : BitVec 32 := Scalar.addi v226 c11_i32
  let v230 : BitVec 32 := Scalar.addi v229 v227
  let v231 : Index := Scalar.indexCast v230
  ![v231.toNat]
def k0_mult151 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_115 : BitVec 32 := 16#32
  let v226 : BitVec 32 := Scalar.muli arg11 c16_i32_115
  let c11_i32 : BitVec 32 := 11#32
  let v227 : BitVec 32 := Scalar.addi v226 c11_i32
  let c8_i32_118 : BitVec 32 := 8#32
  let v233 : BitVec 32 := Scalar.muli v227 c8_i32_118
  v233
def k0_mult152 (v232 : BitVec 32) : BitVec 32 :=
  let c8_i32_119 : BitVec 32 := 8#32
  let v235 : BitVec 32 := Scalar.muli v232 c8_i32_119
  v235

def k0_off245 (v232 : BitVec 32) : Fin 2 → Nat :=
  let c8_i32_119 : BitVec 32 := 8#32
  let v235 : BitVec 32 := Scalar.muli v232 c8_i32_119
  let v236 : BitVec 32 := v235
  let c0_i32_120 : BitVec 32 := 0#32
  ![v236.toNat, 0]

def k0_chk92 (v232 : BitVec 32) : Prop :=
  (8 ∣ (k0_mult152 v232).toNat) ∧
  (∀ a, (k0_off245 v232) a + S8x128.size a ≤ S294912x128.size a)
theorem k0_mult152_dvd : ∀ (v232 : BitVec 32) (k0_hw92 : k0_chk92 v232), 8 ∣ (k0_mult152 v232).toNat := fun v232 k0_hw92 => k0_hw92.1
theorem k0_off245_inb : ∀ (v232 : BitVec 32) (k0_hw92 : k0_chk92 v232), ∀ a, (k0_off245 v232) a + S8x128.size a ≤ S294912x128.size a := fun v232 k0_hw92 => k0_hw92.2

def k0_off246 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_115 : BitVec 32 := 16#32
  let v226 : BitVec 32 := Scalar.muli arg11 c16_i32_115
  let c11_i32 : BitVec 32 := 11#32
  let v227 : BitVec 32 := Scalar.addi v226 c11_i32
  let c8_i32_118 : BitVec 32 := 8#32
  let v233 : BitVec 32 := Scalar.muli v227 c8_i32_118
  let v234 : BitVec 32 := v233
  let c0_i32_121 : BitVec 32 := 0#32
  ![v234.toNat, 0]
def k0_off247 (i : grid0.Coords) (k0_t6 : Fin k0_t6_loop.trips) : Fin 1 → Nat :=
  let c16384_i32_124 : BitVec 32 := 16384#32
  let arg0 : BitVec 32 := BitVec.ofNat 32 (i 0).val
  let c512_i32_123 : BitVec 32 := 512#32
  let v241 : BitVec 32 := Scalar.muli arg0 c512_i32_123
  let v242 : BitVec 32 := Scalar.addi c16384_i32_124 v241
  let c0_i32_34 : BitVec 32 := 0#32
  let c1_i32_36 : BitVec 32 := 1#32
  let arg11 : BitVec 32 := Scf.iv c0_i32_34 c1_i32_36 k0_t6
  let c16_i32_122 : BitVec 32 := 16#32
  let v239 : BitVec 32 := Scalar.muli arg11 c16_i32_122
  let c12_i32 : BitVec 32 := 12#32
  let v240 : BitVec 32 := Scalar.addi v239 c12_i32
  let v243 : BitVec 32 := Scalar.addi v242 v240
  let v244 : Index := Scalar.indexCast v243
  ![v244.toNat]
def k0_mult153 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_122 : BitVec 32 := 16#32
  let v239 : BitVec 32 := Scalar.muli arg11 c16_i32_122
  let c12_i32 : BitVec 32 := 12#32
  let v240 : BitVec 32 := Scalar.addi v239 c12_i32
  let c8_i32_125 : BitVec 32 := 8#32
  let v246 : BitVec 32 := Scalar.muli v240 c8_i32_125
  v246
def k0_mult154 (v245 : BitVec 32) : BitVec 32 :=
  let c8_i32_126 : BitVec 32 := 8#32
  let v248 : BitVec 32 := Scalar.muli v245 c8_i32_126
  v248

def k0_off248 (v245 : BitVec 32) : Fin 2 → Nat :=
  let c8_i32_126 : BitVec 32 := 8#32
  let v248 : BitVec 32 := Scalar.muli v245 c8_i32_126
  let v249 : BitVec 32 := v248
  let c0_i32_127 : BitVec 32 := 0#32
  ![v249.toNat, 0]

def k0_chk93 (v245 : BitVec 32) : Prop :=
  (8 ∣ (k0_mult154 v245).toNat) ∧
  (∀ a, (k0_off248 v245) a + S8x128.size a ≤ S294912x128.size a)
theorem k0_mult154_dvd : ∀ (v245 : BitVec 32) (k0_hw93 : k0_chk93 v245), 8 ∣ (k0_mult154 v245).toNat := fun v245 k0_hw93 => k0_hw93.1
theorem k0_off248_inb : ∀ (v245 : BitVec 32) (k0_hw93 : k0_chk93 v245), ∀ a, (k0_off248 v245) a + S8x128.size a ≤ S294912x128.size a := fun v245 k0_hw93 => k0_hw93.2

def k0_off249 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_122 : BitVec 32 := 16#32
  let v239 : BitVec 32 := Scalar.muli arg11 c16_i32_122
  let c12_i32 : BitVec 32 := 12#32
  let v240 : BitVec 32 := Scalar.addi v239 c12_i32
  let c8_i32_125 : BitVec 32 := 8#32
  let v246 : BitVec 32 := Scalar.muli v240 c8_i32_125
  let v247 : BitVec 32 := v246
  let c0_i32_128 : BitVec 32 := 0#32
  ![v247.toNat, 0]
def k0_off250 (i : grid0.Coords) (k0_t6 : Fin k0_t6_loop.trips) : Fin 1 → Nat :=
  let c16384_i32_131 : BitVec 32 := 16384#32
  let arg0 : BitVec 32 := BitVec.ofNat 32 (i 0).val
  let c512_i32_130 : BitVec 32 := 512#32
  let v254 : BitVec 32 := Scalar.muli arg0 c512_i32_130
  let v255 : BitVec 32 := Scalar.addi c16384_i32_131 v254
  let c0_i32_34 : BitVec 32 := 0#32
  let c1_i32_36 : BitVec 32 := 1#32
  let arg11 : BitVec 32 := Scf.iv c0_i32_34 c1_i32_36 k0_t6
  let c16_i32_129 : BitVec 32 := 16#32
  let v252 : BitVec 32 := Scalar.muli arg11 c16_i32_129
  let c13_i32 : BitVec 32 := 13#32
  let v253 : BitVec 32 := Scalar.addi v252 c13_i32
  let v256 : BitVec 32 := Scalar.addi v255 v253
  let v257 : Index := Scalar.indexCast v256
  ![v257.toNat]
def k0_mult155 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_129 : BitVec 32 := 16#32
  let v252 : BitVec 32 := Scalar.muli arg11 c16_i32_129
  let c13_i32 : BitVec 32 := 13#32
  let v253 : BitVec 32 := Scalar.addi v252 c13_i32
  let c8_i32_132 : BitVec 32 := 8#32
  let v259 : BitVec 32 := Scalar.muli v253 c8_i32_132
  v259
def k0_mult156 (v258 : BitVec 32) : BitVec 32 :=
  let c8_i32_133 : BitVec 32 := 8#32
  let v261 : BitVec 32 := Scalar.muli v258 c8_i32_133
  v261

def k0_off251 (v258 : BitVec 32) : Fin 2 → Nat :=
  let c8_i32_133 : BitVec 32 := 8#32
  let v261 : BitVec 32 := Scalar.muli v258 c8_i32_133
  let v262 : BitVec 32 := v261
  let c0_i32_134 : BitVec 32 := 0#32
  ![v262.toNat, 0]

def k0_chk94 (v258 : BitVec 32) : Prop :=
  (8 ∣ (k0_mult156 v258).toNat) ∧
  (∀ a, (k0_off251 v258) a + S8x128.size a ≤ S294912x128.size a)
theorem k0_mult156_dvd : ∀ (v258 : BitVec 32) (k0_hw94 : k0_chk94 v258), 8 ∣ (k0_mult156 v258).toNat := fun v258 k0_hw94 => k0_hw94.1
theorem k0_off251_inb : ∀ (v258 : BitVec 32) (k0_hw94 : k0_chk94 v258), ∀ a, (k0_off251 v258) a + S8x128.size a ≤ S294912x128.size a := fun v258 k0_hw94 => k0_hw94.2

def k0_off252 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_129 : BitVec 32 := 16#32
  let v252 : BitVec 32 := Scalar.muli arg11 c16_i32_129
  let c13_i32 : BitVec 32 := 13#32
  let v253 : BitVec 32 := Scalar.addi v252 c13_i32
  let c8_i32_132 : BitVec 32 := 8#32
  let v259 : BitVec 32 := Scalar.muli v253 c8_i32_132
  let v260 : BitVec 32 := v259
  let c0_i32_135 : BitVec 32 := 0#32
  ![v260.toNat, 0]
def k0_off253 (i : grid0.Coords) (k0_t6 : Fin k0_t6_loop.trips) : Fin 1 → Nat :=
  let c16384_i32_138 : BitVec 32 := 16384#32
  let arg0 : BitVec 32 := BitVec.ofNat 32 (i 0).val
  let c512_i32_137 : BitVec 32 := 512#32
  let v267 : BitVec 32 := Scalar.muli arg0 c512_i32_137
  let v268 : BitVec 32 := Scalar.addi c16384_i32_138 v267
  let c0_i32_34 : BitVec 32 := 0#32
  let c1_i32_36 : BitVec 32 := 1#32
  let arg11 : BitVec 32 := Scf.iv c0_i32_34 c1_i32_36 k0_t6
  let c16_i32_136 : BitVec 32 := 16#32
  let v265 : BitVec 32 := Scalar.muli arg11 c16_i32_136
  let c14_i32 : BitVec 32 := 14#32
  let v266 : BitVec 32 := Scalar.addi v265 c14_i32
  let v269 : BitVec 32 := Scalar.addi v268 v266
  let v270 : Index := Scalar.indexCast v269
  ![v270.toNat]
def k0_mult157 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_136 : BitVec 32 := 16#32
  let v265 : BitVec 32 := Scalar.muli arg11 c16_i32_136
  let c14_i32 : BitVec 32 := 14#32
  let v266 : BitVec 32 := Scalar.addi v265 c14_i32
  let c8_i32_139 : BitVec 32 := 8#32
  let v272 : BitVec 32 := Scalar.muli v266 c8_i32_139
  v272
def k0_mult158 (v271 : BitVec 32) : BitVec 32 :=
  let c8_i32_140 : BitVec 32 := 8#32
  let v274 : BitVec 32 := Scalar.muli v271 c8_i32_140
  v274

def k0_off254 (v271 : BitVec 32) : Fin 2 → Nat :=
  let c8_i32_140 : BitVec 32 := 8#32
  let v274 : BitVec 32 := Scalar.muli v271 c8_i32_140
  let v275 : BitVec 32 := v274
  let c0_i32_141 : BitVec 32 := 0#32
  ![v275.toNat, 0]

def k0_chk95 (v271 : BitVec 32) : Prop :=
  (8 ∣ (k0_mult158 v271).toNat) ∧
  (∀ a, (k0_off254 v271) a + S8x128.size a ≤ S294912x128.size a)
theorem k0_mult158_dvd : ∀ (v271 : BitVec 32) (k0_hw95 : k0_chk95 v271), 8 ∣ (k0_mult158 v271).toNat := fun v271 k0_hw95 => k0_hw95.1
theorem k0_off254_inb : ∀ (v271 : BitVec 32) (k0_hw95 : k0_chk95 v271), ∀ a, (k0_off254 v271) a + S8x128.size a ≤ S294912x128.size a := fun v271 k0_hw95 => k0_hw95.2

def k0_off255 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_136 : BitVec 32 := 16#32
  let v265 : BitVec 32 := Scalar.muli arg11 c16_i32_136
  let c14_i32 : BitVec 32 := 14#32
  let v266 : BitVec 32 := Scalar.addi v265 c14_i32
  let c8_i32_139 : BitVec 32 := 8#32
  let v272 : BitVec 32 := Scalar.muli v266 c8_i32_139
  let v273 : BitVec 32 := v272
  let c0_i32_142 : BitVec 32 := 0#32
  ![v273.toNat, 0]
def k0_off256 (i : grid0.Coords) (k0_t6 : Fin k0_t6_loop.trips) : Fin 1 → Nat :=
  let c16384_i32_145 : BitVec 32 := 16384#32
  let arg0 : BitVec 32 := BitVec.ofNat 32 (i 0).val
  let c512_i32_144 : BitVec 32 := 512#32
  let v280 : BitVec 32 := Scalar.muli arg0 c512_i32_144
  let v281 : BitVec 32 := Scalar.addi c16384_i32_145 v280
  let c0_i32_34 : BitVec 32 := 0#32
  let c1_i32_36 : BitVec 32 := 1#32
  let arg11 : BitVec 32 := Scf.iv c0_i32_34 c1_i32_36 k0_t6
  let c16_i32_143 : BitVec 32 := 16#32
  let v278 : BitVec 32 := Scalar.muli arg11 c16_i32_143
  let c15_i32 : BitVec 32 := 15#32
  let v279 : BitVec 32 := Scalar.addi v278 c15_i32
  let v282 : BitVec 32 := Scalar.addi v281 v279
  let v283 : Index := Scalar.indexCast v282
  ![v283.toNat]
def k0_mult159 (k0_t6 : Fin k0_t6_loop.trips) : BitVec 32 :=
  let c0_i32_34 : BitVec 32 := 0#32
  let c1_i32_36 : BitVec 32 := 1#32
  let arg11 : BitVec 32 := Scf.iv c0_i32_34 c1_i32_36 k0_t6
  let c16_i32_143 : BitVec 32 := 16#32
  let v278 : BitVec 32 := Scalar.muli arg11 c16_i32_143
  let c15_i32 : BitVec 32 := 15#32
  let v279 : BitVec 32 := Scalar.addi v278 c15_i32
  let c8_i32_146 : BitVec 32 := 8#32
  let v285 : BitVec 32 := Scalar.muli v279 c8_i32_146
  v285
def k0_mult160 (v284 : BitVec 32) : BitVec 32 :=
  let c8_i32_147 : BitVec 32 := 8#32
  let v287 : BitVec 32 := Scalar.muli v284 c8_i32_147
  v287

def k0_off257 (v284 : BitVec 32) : Fin 2 → Nat :=
  let c8_i32_147 : BitVec 32 := 8#32
  let v287 : BitVec 32 := Scalar.muli v284 c8_i32_147
  let v288 : BitVec 32 := v287
  let c0_i32_148 : BitVec 32 := 0#32
  ![v288.toNat, 0]

def k0_chk96 (v284 : BitVec 32) : Prop :=
  (8 ∣ (k0_mult160 v284).toNat) ∧
  (∀ a, (k0_off257 v284) a + S8x128.size a ≤ S294912x128.size a)
theorem k0_mult160_dvd : ∀ (v284 : BitVec 32) (k0_hw96 : k0_chk96 v284), 8 ∣ (k0_mult160 v284).toNat := fun v284 k0_hw96 => k0_hw96.1
theorem k0_off257_inb : ∀ (v284 : BitVec 32) (k0_hw96 : k0_chk96 v284), ∀ a, (k0_off257 v284) a + S8x128.size a ≤ S294912x128.size a := fun v284 k0_hw96 => k0_hw96.2

def k0_off258 (k0_t6 : Fin k0_t6_loop.trips) : Fin 2 → Nat :=
  let c0_i32_34 : BitVec 32 := 0#32
  let c1_i32_36 : BitVec 32 := 1#32
  let arg11 : BitVec 32 := Scf.iv c0_i32_34 c1_i32_36 k0_t6
  let c16_i32_143 : BitVec 32 := 16#32
  let v278 : BitVec 32 := Scalar.muli arg11 c16_i32_143
  let c15_i32 : BitVec 32 := 15#32
  let v279 : BitVec 32 := Scalar.addi v278 c15_i32
  let c8_i32_146 : BitVec 32 := 8#32
  let v285 : BitVec 32 := Scalar.muli v279 c8_i32_146
  let v286 : BitVec 32 := v285
  let c0_i32_149 : BitVec 32 := 0#32
  ![v286.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32768 : Shape := ⟨1, ![32768]⟩
abbrev S4096 : Shape := ⟨1, ![4096]⟩
abbrev S16384x1024 : Shape := ⟨2, ![16384, 1024]⟩
abbrev S8x6144 : Shape := ⟨2, ![8, 6144]⟩
abbrev S1x1024 : Shape := ⟨2, ![1, 1024]⟩
abbrev S2x6144 : Shape := ⟨2, ![2, 6144]⟩
abbrev S2x1024 : Shape := ⟨2, ![2, 1024]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S36864x1024 : Shape := ⟨2, ![36864, 1024]⟩
abbrev S32768x1024 : Shape := ⟨2, ![32768, 1024]⟩
abbrev S32768x1 : Shape := ⟨2, ![32768, 1]⟩
abbrev S294912x128 : Shape := ⟨2, ![294912, 128]⟩

abbrev nBuf : Space → Nat
  | .hbm => 53
  | .vmem => 0
  | .smem => 0
  | _ => 0

abbrev bufTy : (tb : Table) → Fin (tcTables nBuf tb) → BufTy
  | .hbm, ⟨0, _⟩ => ⟨S32768, .i32⟩
  | .hbm, ⟨1, _⟩ => ⟨S4096, .i32⟩
  | .hbm, ⟨2, _⟩ => ⟨S16384x1024, .f32⟩
  | .hbm, ⟨3, _⟩ => ⟨S8x6144, .f32⟩
  | .hbm, ⟨4, _⟩ => ⟨S1x1024, .f32⟩
  | .hbm, ⟨5, _⟩ => ⟨S2x6144, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x8192x1024, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x1x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S16384x1024, .f32⟩
  | .hbm, ⟨40, _⟩ => ⟨S_, .f32⟩
  | .hbm, ⟨41, _⟩ => ⟨S36864x1024, .f32⟩
  | .hbm, ⟨42, _⟩ => ⟨S32768x1024, .f32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S36864x1024, .f32⟩
  | .hbm, ⟨52, _⟩ => ⟨S294912x128, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel2.lean ====
abbrev S72 : Shape := ⟨1, ![72]⟩
abbrev S1 : Shape := ⟨1, ![1]⟩
abbrev S294912x128 : Shape := ⟨2, ![294912, 128]⟩
abbrev S1x8x1024x2816 : Shape := ⟨4, ![1, 8, 1024, 2816]⟩
abbrev S1x8x2816x1024 : Shape := ⟨4, ![1, 8, 2816, 1024]⟩
abbrev S8x1024x2816 : Shape := ⟨3, ![8, 1024, 2816]⟩
abbrev S8x2816x1024 : Shape := ⟨3, ![8, 2816, 1024]⟩
abbrev S4096x128 : Shape := ⟨2, ![4096, 128]⟩
abbrev S1x1024x2816 : Shape := ⟨3, ![1, 1024, 2816]⟩
abbrev S1x2816x1024 : Shape := ⟨3, ![1, 2816, 1024]⟩
abbrev S512x128 : Shape := ⟨2, ![512, 128]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 11
  | .vmem => 10
  | .smem => 2
  | _ => 0

abbrev bufTy : (tb : Table) → Fin (tcTables nBuf tb) → BufTy
  | .hbm, ⟨0, _⟩ => ⟨S294912x128, .f32⟩
  | .hbm, ⟨1, _⟩ => ⟨S1x8x1024x2816, .f32⟩
  | .hbm, ⟨2, _⟩ => ⟨S1x8x1024x2816, .f32⟩
  | .hbm, ⟨3, _⟩ => ⟨S1x8x2816x1024, .f32⟩
  | .hbm, ⟨4, _⟩ => ⟨S8x1024x2816, .f32⟩
  | .hbm, ⟨5, _⟩ => ⟨S8x1024x2816, .bf16⟩
  | .hbm, ⟨6, _⟩ => ⟨S8x1024x2816, .f32⟩
  | .hbm, ⟨7, _⟩ => ⟨S8x1024x2816, .bf16⟩
  | .hbm, ⟨8, _⟩ => ⟨S8x2816x1024, .f32⟩
  | .hbm, ⟨9, _⟩ => ⟨S8x2816x1024, .bf16⟩
  | .hbm, ⟨10, _⟩ => ⟨S294912x128, .f32⟩
  | .local _ .vmem, ⟨0, _⟩ => ⟨S4096x128, .f32⟩
  | .local _ .vmem, ⟨1, _⟩ => ⟨S4096x128, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S4096x128, .f32⟩
  | .local _ .vmem, ⟨9, _⟩ => ⟨S4096x128, .f32⟩
  | .local _ .smem, ⟨0, _⟩ => ⟨S72, .i32⟩
  | .local _ .smem, ⟨1, _⟩ => ⟨S1, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S72 : Shape := ⟨1, ![72]⟩
abbrev S1 : Shape := ⟨1, ![1]⟩
abbrev S294912x128 : Shape := ⟨2, ![294912, 128]⟩
abbrev S1x8x1024x2816 : Shape := ⟨4, ![1, 8, 1024, 2816]⟩
abbrev S1x8x2816x1024 : Shape := ⟨4, ![1, 8, 2816, 1024]⟩
abbrev S36864x1024 : Shape := ⟨2, ![36864, 1024]⟩
abbrev S36864 : Shape := ⟨1, ![36864]⟩
abbrev S_ : Shape := ⟨0, ![]⟩
abbrev S36864x1 : Shape := ⟨2, ![36864, 1]⟩
abbrev S1x8 : Shape := ⟨2, ![1, 8]⟩
abbrev S36864x8 : Shape := ⟨2, ![36864, 8]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S36864x2816 : Shape := ⟨2, ![36864, 2816]⟩

abbrev nBuf : Space → Nat
  | .hbm => 237
  | .vmem => 0
  | .smem => 0
  | _ => 0

abbrev hbmTy0_0 (i : Nat) : BufTy := match i % 128 with
  | 0 => ⟨S72, .i32⟩
  | 1 => ⟨S1, .i32⟩
  | 2 => ⟨S294912x128, .f32⟩
  | 3 => ⟨S1x8x1024x2816, .f32⟩
  | 4 => ⟨S1x8x1024x2816, .f32⟩
  | 5 => ⟨S1x8x2816x1024, .f32⟩
  | 6 => ⟨S36864x1024, .f32⟩
  | 7 => ⟨S36864, .i32⟩
  | 8 => ⟨S_, .i32⟩
  | 9 => ⟨S_, .i32⟩
  | 10 => ⟨S36864, .i32⟩
  | 11 => ⟨S36864, .i32⟩
  | 12 => ⟨S36864, .i32⟩
  | 13 => ⟨S_, .i32⟩
  | 14 => ⟨S36864, .i32⟩
  | 15 => ⟨S36864, .i1⟩
  | 16 => ⟨S36864, .i32⟩
  | 17 => ⟨S36864, .i32⟩
  | 18 => ⟨S_, .i32⟩
  | 19 => ⟨S36864, .i32⟩
  | 20 => ⟨S36864, .i1⟩
  | 21 => ⟨S36864, .i1⟩
  | 22 => ⟨S_, .i32⟩
  | 23 => ⟨S36864, .i32⟩
  | 24 => ⟨S36864, .i32⟩
  | 25 => ⟨S36864, .i32⟩
  | 26 => ⟨S_, .i32⟩
  | 27 => ⟨S36864, .i32⟩
  | 28 => ⟨S36864, .i1⟩
  | 29 => ⟨S36864x1, .i1⟩
  | 30 => ⟨S_, .i32⟩
  | 31 => ⟨S36864, .i32⟩
  | 32 => ⟨S36864, .i1⟩
  | 33 => ⟨S_, .i32⟩
  | 34 => ⟨S36864, .i32⟩
  | 35 => ⟨S36864, .i32⟩
  | 36 => ⟨S36864, .i32⟩
  | 37 => ⟨S36864x1, .i32⟩
  | 38 => ⟨S36864, .i32⟩
  | 39 => ⟨S36864x1, .i32⟩
  | 40 => ⟨S1x8, .i32⟩
  | 41 => ⟨S36864x8, .i32⟩
  | 42 => ⟨S36864x8, .i32⟩
  | 43 => ⟨S36864x8, .i1⟩
  | 44 => ⟨S36864x8, .f32⟩
  | 45 => ⟨S_, .f32⟩
  | 46 => ⟨S_, .f32⟩
  | 47 => ⟨S36864x8, .i1⟩
  | 48 => ⟨S36864x8, .f32⟩
  | 49 => ⟨S36864x8, .f32⟩
  | 50 => ⟨S_, .f32⟩
  | 51 => ⟨S36864x1024, .f32⟩
  | 52 => ⟨S36864x1, .f32⟩
  | 53 => ⟨S1x1x1024x2816, .f32⟩
  | 54 => ⟨S1024x2816, .f32⟩
  | 55 => ⟨S1x1x1024x2816, .f32⟩
  | 56 => ⟨S1024x2816, .f32⟩
  | 57 => ⟨S1x1x2816x1024, .f32⟩
  | 58 => ⟨S2816x1024, .f32⟩
  | 59 => ⟨S36864x2816, .f32⟩
  | 60 => ⟨S36864x2816, .f32⟩
  | 61 => ⟨S36864x2816, .f32⟩
  | 62 => ⟨S_, .f32⟩
  | 63 => ⟨S36864x2816, .f32⟩
  | 64 => ⟨S36864x2816, .f32⟩
  | 65 => ⟨S_, .f32⟩
  | 66 => ⟨S36864x2816, .f32⟩
  | 67 => ⟨S36864x2816, .f32⟩
  | 68 => ⟨S36864x2816, .f32⟩
  | 69 => ⟨S36864x2816, .f32⟩
  | 70 => ⟨S36864x2816, .f32⟩
  | 71 => ⟨S36864x1024, .f32⟩
  | 72 => ⟨S36864x1024, .f32⟩
  | 73 => ⟨S36864x1024, .f32⟩
  | 74 => ⟨S36864x1024, .f32⟩
  | 75 => ⟨S36864x1, .f32⟩
  | 76 => ⟨S1x1x1024x2816, .f32⟩
  | 77 => ⟨S1024x2816, .f32⟩
  | 78 => ⟨S1x1x1024x2816, .f32⟩
  | 79 => ⟨S1024x2816, .f32⟩
  | 80 => ⟨S1x1x2816x1024, .f32⟩
  | 81 => ⟨S2816x1024, .f32⟩
  | 82 => ⟨S36864x2816, .f32⟩
  | 83 => ⟨S36864x2816, .f32⟩
  | 84 => ⟨S36864x2816, .f32⟩
  | 85 => ⟨S_, .f32⟩
  | 86 => ⟨S36864x2816, .f32⟩
  | 87 => ⟨S36864x2816, .f32⟩
  | 88 => ⟨S_, .f32⟩
  | 89 => ⟨S36864x2816, .f32⟩
  | 90 => ⟨S36864x2816, .f32⟩
  | 91 => ⟨S36864x2816, .f32⟩
  | 92 => ⟨S36864x2816, .f32⟩
  | 93 => ⟨S36864x2816, .f32⟩
  | 94 => ⟨S36864x1024, .f32⟩
  | 95 => ⟨S36864x1024, .f32⟩
  | 96 => ⟨S36864x1024, .f32⟩
  | 97 => ⟨S36864x1024, .f32⟩
  | 98 => ⟨S36864x1, .f32⟩
  | 99 => ⟨S1x1x1024x2816, .f32⟩
  | 100 => ⟨S1024x2816, .f32⟩
  | 101 => ⟨S1x1x1024x2816, .f32⟩
  | 102 => ⟨S1024x2816, .f32⟩
  | 103 => ⟨S1x1x2816x1024, .f32⟩
  | 104 => ⟨S2816x1024, .f32⟩
  | 105 => ⟨S36864x2816, .f32⟩
  | 106 => ⟨S36864x2816, .f32⟩
  | 107 => ⟨S36864x2816, .f32⟩
  | 108 => ⟨S_, .f32⟩
  | 109 => ⟨S36864x2816, .f32⟩
  | 110 => ⟨S36864x2816, .f32⟩
  | 111 => ⟨S_, .f32⟩
  | 112 => ⟨S36864x2816, .f32⟩
  | 113 => ⟨S36864x2816, .f32⟩
  | 114 => ⟨S36864x2816, .f32⟩
  | 115 => ⟨S36864x2816, .f32⟩
  | 116 => ⟨S36864x2816, .f32⟩
  | 117 => ⟨S36864x1024, .f32⟩
  | 118 => ⟨S36864x1024, .f32⟩
  | 119 => ⟨S36864x1024, .f32⟩
  | 120 => ⟨S36864x1024, .f32⟩
  | 121 => ⟨S36864x1, .f32⟩
  | 122 => ⟨S1x1x1024x2816, .f32⟩
  | 123 => ⟨S1024x2816, .f32⟩
  | 124 => ⟨S1x1x1024x2816, .f32⟩
  | 125 => ⟨S1024x2816, .f32⟩
  | 126 => ⟨S1x1x2816x1024, .f32⟩
  | 127 => ⟨S2816x1024, .f32⟩
  | _ => ⟨S72, .i32⟩

abbrev hbmTy0_1 (i : Nat) : BufTy := match i % 128 with
  | 0 => ⟨S36864x2816, .f32⟩
  | 1 => ⟨S36864x2816, .f32⟩
  | 2 => ⟨S36864x2816, .f32⟩
  | 3 => ⟨S_, .f32⟩
  | 4 => ⟨S36864x2816, .f32⟩
  | 5 => ⟨S36864x2816, .f32⟩
  | 6 => ⟨S_, .f32⟩
  | 7 => ⟨S36864x2816, .f32⟩
  | 8 => ⟨S36864x2816, .f32⟩
  | 9 => ⟨S36864x2816, .f32⟩
  | 10 => ⟨S36864x2816, .f32⟩
  | 11 => ⟨S36864x2816, .f32⟩
  | 12 => ⟨S36864x1024, .f32⟩
  | 13 => ⟨S36864x1024, .f32⟩
  | 14 => ⟨S36864x1024, .f32⟩
  | 15 => ⟨S36864x1024, .f32⟩
  | 16 => ⟨S36864x1, .f32⟩
  | 17 => ⟨S1x1x1024x2816, .f32⟩
  | 18 => ⟨S1024x2816, .f32⟩
  | 19 => ⟨S1x1x1024x2816, .f32⟩
  | 20 => ⟨S1024x2816, .f32⟩
  | 21 => ⟨S1x1x2816x1024, .f32⟩
  | 22 => ⟨S2816x1024, .f32⟩
  | 23 => ⟨S36864x2816, .f32⟩
  | 24 => ⟨S36864x2816, .f32⟩
  | 25 => ⟨S36864x2816, .f32⟩
  | 26 => ⟨S_, .f32⟩
  | 27 => ⟨S36864x2816, .f32⟩
  | 28 => ⟨S36864x2816, .f32⟩
  | 29 => ⟨S_, .f32⟩
  | 30 => ⟨S36864x2816, .f32⟩
  | 31 => ⟨S36864x2816, .f32⟩
  | 32 => ⟨S36864x2816, .f32⟩
  | 33 => ⟨S36864x2816, .f32⟩
  | 34 => ⟨S36864x2816, .f32⟩
  | 35 => ⟨S36864x1024, .f32⟩
  | 36 => ⟨S36864x1024, .f32⟩
  | 37 => ⟨S36864x1024, .f32⟩
  | 38 => ⟨S36864x1024, .f32⟩
  | 39 => ⟨S36864x1, .f32⟩
  | 40 => ⟨S1x1x1024x2816, .f32⟩
  | 41 => ⟨S1024x2816, .f32⟩
  | 42 => ⟨S1x1x1024x2816, .f32⟩
  | 43 => ⟨S1024x2816, .f32⟩
  | 44 => ⟨S1x1x2816x1024, .f32⟩
  | 45 => ⟨S2816x1024, .f32⟩
  | 46 => ⟨S36864x2816, .f32⟩
  | 47 => ⟨S36864x2816, .f32⟩
  | 48 => ⟨S36864x2816, .f32⟩
  | 49 => ⟨S_, .f32⟩
  | 50 => ⟨S36864x2816, .f32⟩
  | 51 => ⟨S36864x2816, .f32⟩
  | 52 => ⟨S_, .f32⟩
  | 53 => ⟨S36864x2816, .f32⟩
  | 54 => ⟨S36864x2816, .f32⟩
  | 55 => ⟨S36864x2816, .f32⟩
  | 56 => ⟨S36864x2816, .f32⟩
  | 57 => ⟨S36864x2816, .f32⟩
  | 58 => ⟨S36864x1024, .f32⟩
  | 59 => ⟨S36864x1024, .f32⟩
  | 60 => ⟨S36864x1024, .f32⟩
  | 61 => ⟨S36864x1024, .f32⟩
  | 62 => ⟨S36864x1, .f32⟩
  | 63 => ⟨S1x1x1024x2816, .f32⟩
  | 64 => ⟨S1024x2816, .f32⟩
  | 65 => ⟨S1x1x1024x2816, .f32⟩
  | 66 => ⟨S1024x2816, .f32⟩
  | 67 => ⟨S1x1x2816x1024, .f32⟩
  | 68 => ⟨S2816x1024, .f32⟩
  | 69 => ⟨S36864x2816, .f32⟩
  | 70 => ⟨S36864x2816, .f32⟩
  | 71 => ⟨S36864x2816, .f32⟩
  | 72 => ⟨S_, .f32⟩
  | 73 => ⟨S36864x2816, .f32⟩
  | 74 => ⟨S36864x2816, .f32⟩
  | 75 => ⟨S_, .f32⟩
  | 76 => ⟨S36864x2816, .f32⟩
  | 77 => ⟨S36864x2816, .f32⟩
  | 78 => ⟨S36864x2816, .f32⟩
  | 79 => ⟨S36864x2816, .f32⟩
  | 80 => ⟨S36864x2816, .f32⟩
  | 81 => ⟨S36864x1024, .f32⟩
  | 82 => ⟨S36864x1024, .f32⟩
  | 83 => ⟨S36864x1024, .f32⟩
  | 84 => ⟨S36864x1024, .f32⟩
  | 85 => ⟨S36864x1, .f32⟩
  | 86 => ⟨S1x1x1024x2816, .f32⟩
  | 87 => ⟨S1024x2816, .f32⟩
  | 88 => ⟨S1x1x1024x2816, .f32⟩
  | 89 => ⟨S1024x2816, .f32⟩
  | 90 => ⟨S1x1x2816x1024, .f32⟩
  | 91 => ⟨S2816x1024, .f32⟩
  | 92 => ⟨S36864x2816, .f32⟩
  | 93 => ⟨S36864x2816, .f32⟩
  | 94 => ⟨S36864x2816, .f32⟩
  | 95 => ⟨S_, .f32⟩
  | 96 => ⟨S36864x2816, .f32⟩
  | 97 => ⟨S36864x2816, .f32⟩
  | 98 => ⟨S_, .f32⟩
  | 99 => ⟨S36864x2816, .f32⟩
  | 100 => ⟨S36864x2816, .f32⟩
  | 101 => ⟨S36864x2816, .f32⟩
  | 102 => ⟨S36864x2816, .f32⟩
  | 103 => ⟨S36864x2816, .f32⟩
  | 104 => ⟨S36864x1024, .f32⟩
  | 105 => ⟨S36864x1024, .f32⟩
  | 106 => ⟨S36864x1024, .f32⟩
  | 107 => ⟨S36864x1024, .f32⟩
  | 108 => ⟨S294912x128, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v14 : Ref sig .tc := ⟨.hbm, 44, rfl⟩
abbrev main_cst : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_call4_v0 : Ref sig .tc := ⟨.hbm, 83, rfl⟩
abbrev main_call4_v1 : Ref sig .tc := ⟨.hbm, 84, rfl⟩
abbrev main_call4_cst : Ref sig .tc := ⟨.hbm, 85, rfl⟩
abbrev main_call4_v2 : Ref sig .tc := ⟨.hbm, 86, rfl⟩
abbrev main_call4_v3 : Ref sig .tc := ⟨.hbm, 87, rfl⟩
abbrev main_call4_cst_0 : Ref sig .tc := ⟨.hbm, 88, rfl⟩
abbrev main_call4_v4 : Ref sig .tc := ⟨.hbm, 89, rfl⟩
abbrev main_call4_v5 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_call5_v0 : Ref sig .tc := ⟨.hbm, 106, rfl⟩
abbrev main_call5_v1 : Ref sig .tc := ⟨.hbm, 107, rfl⟩
abbrev main_call5_cst : Ref sig .tc := ⟨.hbm, 108, rfl⟩
abbrev main_call5_v2 : Ref sig .tc := ⟨.hbm, 109, rfl⟩
abbrev main_call5_v3 : Ref sig .tc := ⟨.hbm, 110, rfl⟩
abbrev main_call5_cst_0 : Ref sig .tc := ⟨.hbm, 111, rfl⟩
abbrev main_call5_v4 : Ref sig .tc := ⟨.hbm, 112, rfl⟩
abbrev main_call5_v5 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_call6_v0 : Ref sig .tc := ⟨.hbm, 129, rfl⟩
abbrev main_call6_v1 : Ref sig .tc := ⟨.hbm, 130, rfl⟩
abbrev main_call6_cst : Ref sig .tc := ⟨.hbm, 131, rfl⟩
abbrev main_call6_v2 : Ref sig .tc := ⟨.hbm, 132, rfl⟩
abbrev main_call6_v3 : Ref sig .tc := ⟨.hbm, 133, rfl⟩
abbrev main_call6_cst_0 : Ref sig .tc := ⟨.hbm, 134, rfl⟩
abbrev main_call6_v4 : Ref sig .tc := ⟨.hbm, 135, rfl⟩
abbrev main_call6_v5 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_call7_v0 : Ref sig .tc := ⟨.hbm, 152, rfl⟩
abbrev main_call7_v1 : Ref sig .tc := ⟨.hbm, 153, rfl⟩
abbrev main_call7_cst : Ref sig .tc := ⟨.hbm, 154, rfl⟩
abbrev main_call7_v2 : Ref sig .tc := ⟨.hbm, 155, rfl⟩
abbrev main_call7_v3 : Ref sig .tc := ⟨.hbm, 156, rfl⟩
abbrev main_call7_cst_0 : Ref sig .tc := ⟨.hbm, 157, rfl⟩
abbrev main_call7_v4 : Ref sig .tc := ⟨.hbm, 158, rfl⟩
abbrev main_call7_v5 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_call8_v0 : Ref sig .tc := ⟨.hbm, 175, rfl⟩
abbrev main_call8_v1 : Ref sig .tc := ⟨.hbm, 176, rfl⟩
abbrev main_call8_cst : Ref sig .tc := ⟨.hbm, 177, rfl⟩
abbrev main_call8_v2 : Ref sig .tc := ⟨.hbm, 178, rfl⟩
abbrev main_call8_v3 : Ref sig .tc := ⟨.hbm, 179, rfl⟩
abbrev main_call8_cst_0 : Ref sig .tc := ⟨.hbm, 180, rfl⟩
abbrev main_call8_v4 : Ref sig .tc := ⟨.hbm, 181, rfl⟩
abbrev main_call8_v5 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_call9_v0 : Ref sig .tc := ⟨.hbm, 198, rfl⟩
abbrev main_call9_v1 : Ref sig .tc := ⟨.hbm, 199, rfl⟩
abbrev main_call9_cst : Ref sig .tc := ⟨.hbm, 200, rfl⟩
abbrev main_call9_v2 : Ref sig .tc := ⟨.hbm, 201, rfl⟩
abbrev main_call9_v3 : Ref sig .tc := ⟨.hbm, 202, rfl⟩
abbrev main_call9_cst_0 : Ref sig .tc := ⟨.hbm, 203, rfl⟩
abbrev main_call9_v4 : Ref sig .tc := ⟨.hbm, 204, rfl⟩
abbrev main_call9_v5 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_call10_v0 : Ref sig .tc := ⟨.hbm, 221, rfl⟩
abbrev main_call10_v1 : Ref sig .tc := ⟨.hbm, 222, rfl⟩
abbrev main_call10_cst : Ref sig .tc := ⟨.hbm, 223, rfl⟩
abbrev main_call10_v2 : Ref sig .tc := ⟨.hbm, 224, rfl⟩
abbrev main_call10_v3 : Ref sig .tc := ⟨.hbm, 225, rfl⟩
abbrev main_call10_cst_0 : Ref sig .tc := ⟨.hbm, 226, rfl⟩
abbrev main_call10_v4 : Ref sig .tc := ⟨.hbm, 227, rfl⟩
abbrev main_call10_v5 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_v136 : Ref sig .tc := ⟨.hbm, 235, rfl⟩
abbrev main_v137 : Ref sig .tc := ⟨.hbm, 236, rfl⟩

abbrev nD : Nat := 1
abbrev τ : Topo := Topo.v7x

variable {F : FTy → Type} [FloatOps F]
-- ==== Kernel3.lean ====
abbrev S32768 : Shape := ⟨1, ![32768]⟩
abbrev S294912x128 : Shape := ⟨2, ![294912, 128]⟩
abbrev S8x16384 : Shape := ⟨2, ![8, 16384]⟩
abbrev S16384x1024 : Shape := ⟨2, ![16384, 1024]⟩
abbrev S8x6144 : Shape := ⟨2, ![8, 6144]⟩
abbrev S2x16384 : Shape := ⟨2, ![2, 16384]⟩
abbrev S16384x2 : Shape := ⟨2, ![16384, 2]⟩
abbrev S512x2 : Shape := ⟨2, ![512, 2]⟩
abbrev S512x1024 : Shape := ⟨2, ![512, 1024]⟩
abbrev S2x2x4096x128 : Shape := ⟨4, ![2, 2, 4096, 128]⟩
abbrev S2 : Shape := ⟨1, ![2]⟩
abbrev S1 : Shape := ⟨1, ![1]⟩
abbrev S_ : Shape := ⟨0, ![]⟩
abbrev S1x1x4096x128 : Shape := ⟨4, ![1, 1, 4096, 128]⟩
abbrev S4096x128 : Shape := ⟨2, ![4096, 128]⟩
abbrev S8x128 : Shape := ⟨2, ![8, 128]⟩
abbrev S1x1024 : Shape := ⟨2, ![1, 1024]⟩
abbrev S512x1 : Shape := ⟨2, ![512, 1]⟩
abbrev S1x1x512x128 : Shape := ⟨4, ![1, 1, 512, 128]⟩
abbrev S512x128 : Shape := ⟨2, ![512, 128]⟩

abbrev nBuf : Space → Nat
  | .hbm => 7
  | .vmem => 8
  | .smem => 1
  | _ => 0

abbrev bufTy : (tb : Table) → Fin (tcTables nBuf tb) → BufTy
  | .hbm, ⟨0, _⟩ => ⟨S294912x128, .f32⟩
  | .hbm, ⟨1, _⟩ => ⟨S8x16384, .f32⟩
  | .hbm, ⟨2, _⟩ => ⟨S16384x1024, .f32⟩
  | .hbm, ⟨3, _⟩ => ⟨S8x6144, .f32⟩
  | .hbm, ⟨4, _⟩ => ⟨S2x16384, .f32⟩
  | .hbm, ⟨5, _⟩ => ⟨S16384x2, .f32⟩
  | .hbm, ⟨6, _⟩ => ⟨S16384x1024, .f32⟩
  | .local _ .vmem, ⟨0, _⟩ => ⟨S512x2, .f32⟩
  | .local _ .vmem, ⟨1, _⟩ => ⟨S512x2, .f32⟩
  | .local _ .vmem, ⟨2, _⟩ => ⟨S512x1024, .f32⟩
  | .local _ .vmem, ⟨3, _⟩ => ⟨S512x1024, .f32⟩
  | .local _ .vmem, ⟨4, _⟩ => ⟨S8x6144, .f32⟩
  | .local _ .vmem, ⟨5, _⟩ => ⟨S512x1024, .f32⟩
  | .local _ .vmem, ⟨6, _⟩ => ⟨S512x1024, .f32⟩
  | .local _ .vmem, ⟨7, _⟩ => ⟨S2x2x4096x128, .f32⟩
  | .local _ .smem, ⟨0, _⟩ => ⟨S32768, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_67 : BitVec 32 := 0#32
  let c32_i32_68 : BitVec 32 := 32#32
  let v102 : BitVec 32 := Scalar.addi c0_i32_67 c32_i32_68
  let c1_i32_69 : BitVec 32 := 1#32
  ⟨c0_i32_67, v102, c1_i32_69⟩
def k0_off1 (k0_t1 : Fin k0_t1_loop.trips) : Fin 1 → Nat :=
  let c0_i32_77 : BitVec 32 := 0#32
  let c0_i32_67 : BitVec 32 := 0#32
  let c1_i32_69 : BitVec 32 := 1#32
  let arg9 : BitVec 32 := Scf.iv c0_i32_67 c1_i32_69 k0_t1
  let c16_i32_75 : BitVec 32 := 16#32
  let v104 : BitVec 32 := Scalar.muli arg9 c16_i32_75
  let c0_i32_76 : BitVec 32 := 0#32
  let v105 : BitVec 32 := Scalar.addi v104 c0_i32_76
  let v106 : BitVec 32 := Scalar.addi c0_i32_77 v105
  let v107 : Index := Scalar.indexCast v106
  ![v107.toNat]
def k0_mult1 (v108 : BitVec 32) : BitVec 32 :=
  let c8_i32 : BitVec 32 := 8#32
  let v109 : BitVec 32 := Scalar.muli v108 c8_i32
  v109

def k0_mult2 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_75 : BitVec 32 := 16#32
  let v104 : BitVec 32 := Scalar.muli arg9 c16_i32_75
  let c0_i32_76 : BitVec 32 := 0#32
  let v105 : BitVec 32 := Scalar.addi v104 c0_i32_76
  let c8_i32_78 : BitVec 32 := 8#32
  let v111 : BitVec 32 := Scalar.muli v105 c8_i32_78
  v111
def k0_off2 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_75 : BitVec 32 := 16#32
  let v104 : BitVec 32 := Scalar.muli arg9 c16_i32_75
  let c0_i32_76 : BitVec 32 := 0#32
  let v105 : BitVec 32 := Scalar.addi v104 c0_i32_76
  let c8_i32_78 : BitVec 32 := 8#32
  let v111 : BitVec 32 := Scalar.muli v105 c8_i32_78
  let v112 : BitVec 32 := v111
  let c0_i32_84 : BitVec 32 := 0#32
  ![v112.toNat, 0]
def k0_off3 (v108 : BitVec 32) : Fin 2 → Nat :=
  let c8_i32 : BitVec 32 := 8#32
  let v109 : BitVec 32 := Scalar.muli v108 c8_i32
  let v110 : BitVec 32 := v109
  let c0_i32_85 : BitVec 32 := 0#32
  ![v110.toNat, 0]

def k0_chk1 (i : grid0.Coords) (v108 : BitVec 32) : Prop :=
  (∀ (k0_h1 : k0_cond1 i = 1#1), 8 ∣ (k0_mult1 v108).toNat) ∧
  (∀ (k0_h1 : k0_cond1 i = 1#1), ∀ a, (k0_off3 v108) a + S8x128.size a ≤ S294912x128.size a)
theorem k0_mult1_dvd : ∀ (i : grid0.Coords) (v108 : BitVec 32) (k0_hw1 : k0_chk1 i v108), ∀ (k0_h1 : k0_cond1 i = 1#1), 8 ∣ (k0_mult1 v108).toNat := fun i v108 k0_hw1 k0_h1 => k0_hw1.1 k0_h1
theorem k0_off3_inb : ∀ (i : grid0.Coords) (v108 : BitVec 32) (k0_hw1 : k0_chk1 i v108), ∀ (k0_h1 : k0_cond1 i = 1#1), ∀ a, (k0_off3 v108) a + S8x128.size a ≤ S294912x128.size a := fun i v108 k0_hw1 k0_h1 => k0_hw1.2 k0_h1

def k0_off4 (k0_t1 : Fin k0_t1_loop.trips) : Fin 1 → Nat :=
  let c0_i32_88 : BitVec 32 := 0#32
  let c0_i32_67 : BitVec 32 := 0#32
  let c1_i32_69 : BitVec 32 := 1#32
  let arg9 : BitVec 32 := Scf.iv c0_i32_67 c1_i32_69 k0_t1
  let c16_i32_86 : BitVec 32 := 16#32
  let v119 : BitVec 32 := Scalar.muli arg9 c16_i32_86
  let c1_i32_87 : BitVec 32 := 1#32
  let v120 : BitVec 32 := Scalar.addi v119 c1_i32_87
  let v121 : BitVec 32 := Scalar.addi c0_i32_88 v120
  let v122 : Index := Scalar.indexCast v121
  ![v122.toNat]
def k0_mult3 (v123 : BitVec 32) : BitVec 32 :=
  let c8_i32_89 : BitVec 32 := 8#32
  let v124 : BitVec 32 := Scalar.muli v123 c8_i32_89
  v124

def k0_mult4 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_86 : BitVec 32 := 16#32
  let v119 : BitVec 32 := Scalar.muli arg9 c16_i32_86
  let c1_i32_87 : BitVec 32 := 1#32
  let v120 : BitVec 32 := Scalar.addi v119 c1_i32_87
  let c8_i32_90 : BitVec 32 := 8#32
  let v126 : BitVec 32 := Scalar.muli v120 c8_i32_90
  v126
def k0_off5 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_86 : BitVec 32 := 16#32
  let v119 : BitVec 32 := Scalar.muli arg9 c16_i32_86
  let c1_i32_87 : BitVec 32 := 1#32
  let v120 : BitVec 32 := Scalar.addi v119 c1_i32_87
  let c8_i32_90 : BitVec 32 := 8#32
  let v126 : BitVec 32 := Scalar.muli v120 c8_i32_90
  let v127 : BitVec 32 := v126
  let c0_i32_96 : BitVec 32 := 0#32
  ![v127.toNat, 0]
def k0_off6 (v123 : BitVec 32) : Fin 2 → Nat :=
  let c8_i32_89 : BitVec 32 := 8#32
  let v124 : BitVec 32 := Scalar.muli v123 c8_i32_89
  let v125 : BitVec 32 := v124
  let c0_i32_97 : BitVec 32 := 0#32
  ![v125.toNat, 0]

def k0_chk2 (i : grid0.Coords) (v123 : BitVec 32) : Prop :=
  (∀ (k0_h1 : k0_cond1 i = 1#1), 8 ∣ (k0_mult3 v123).toNat) ∧
  (∀ (k0_h1 : k0_cond1 i = 1#1), ∀ a, (k0_off6 v123) a + S8x128.size a ≤ S294912x128.size a)
theorem k0_mult3_dvd : ∀ (i : grid0.Coords) (v123 : BitVec 32) (k0_hw2 : k0_chk2 i v123), ∀ (k0_h1 : k0_cond1 i = 1#1), 8 ∣ (k0_mult3 v123).toNat := fun i v123 k0_hw2 k0_h1 => k0_hw2.1 k0_h1
theorem k0_off6_inb : ∀ (i : grid0.Coords) (v123 : BitVec 32) (k0_hw2 : k0_chk2 i v123), ∀ (k0_h1 : k0_cond1 i = 1#1), ∀ a, (k0_off6 v123) a + S8x128.size a ≤ S294912x128.size a := fun i v123 k0_hw2 k0_h1 => k0_hw2.2 k0_h1

def k0_off7 (k0_t1 : Fin k0_t1_loop.trips) : Fin 1 → Nat :=
  let c0_i32_100 : BitVec 32 := 0#32
  let c0_i32_67 : BitVec 32 := 0#32
  let c1_i32_69 : BitVec 32 := 1#32
  let arg9 : BitVec 32 := Scf.iv c0_i32_67 c1_i32_69 k0_t1
  let c16_i32_98 : BitVec 32 := 16#32
  let v134 : BitVec 32 := Scalar.muli arg9 c16_i32_98
  let c2_i32_99 : BitVec 32 := 2#32
  let v135 : BitVec 32 := Scalar.addi v134 c2_i32_99
  let v136 : BitVec 32 := Scalar.addi c0_i32_100 v135
  let v137 : Index := Scalar.indexCast v136
  ![v137.toNat]
def k0_mult5 (v138 : BitVec 32) : BitVec 32 :=
  let c8_i32_101 : BitVec 32 := 8#32
  let v139 : BitVec 32 := Scalar.muli v138 c8_i32_101
  v139

def k0_mult6 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_98 : BitVec 32 := 16#32
  let v134 : BitVec 32 := Scalar.muli arg9 c16_i32_98
  let c2_i32_99 : BitVec 32 := 2#32
  let v135 : BitVec 32 := Scalar.addi v134 c2_i32_99
  let c8_i32_102 : BitVec 32 := 8#32
  let v141 : BitVec 32 := Scalar.muli v135 c8_i32_102
  v141
def k0_off8 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_98 : BitVec 32 := 16#32
  let v134 : BitVec 32 := Scalar.muli arg9 c16_i32_98
  let c2_i32_99 : BitVec 32 := 2#32
  let v135 : BitVec 32 := Scalar.addi v134 c2_i32_99
  let c8_i32_102 : BitVec 32 := 8#32
  let v141 : BitVec 32 := Scalar.muli v135 c8_i32_102
  let v142 : BitVec 32 := v141
  let c0_i32_108 : BitVec 32 := 0#32
  ![v142.toNat, 0]
def k0_off9 (v138 : BitVec 32) : Fin 2 → Nat :=
  let c8_i32_101 : BitVec 32 := 8#32
  let v139 : BitVec 32 := Scalar.muli v138 c8_i32_101
  let v140 : BitVec 32 := v139
  let c0_i32_109 : BitVec 32 := 0#32
  ![v140.toNat, 0]

def k0_chk3 (i : grid0.Coords) (v138 : BitVec 32) : Prop :=
  (∀ (k0_h1 : k0_cond1 i = 1#1), 8 ∣ (k0_mult5 v138).toNat) ∧
  (∀ (k0_h1 : k0_cond1 i = 1#1), ∀ a, (k0_off9 v138) a + S8x128.size a ≤ S294912x128.size a)
theorem k0_mult5_dvd : ∀ (i : grid0.Coords) (v138 : BitVec 32) (k0_hw3 : k0_chk3 i v138), ∀ (k0_h1 : k0_cond1 i = 1#1), 8 ∣ (k0_mult5 v138).toNat := fun i v138 k0_hw3 k0_h1 => k0_hw3.1 k0_h1
theorem k0_off9_inb : ∀ (i : grid0.Coords) (v138 : BitVec 32) (k0_hw3 : k0_chk3 i v138), ∀ (k0_h1 : k0_cond1 i = 1#1), ∀ a, (k0_off9 v138) a + S8x128.size a ≤ S294912x128.size a := fun i v138 k0_hw3 k0_h1 => k0_hw3.2 k0_h1

def k0_off10 (k0_t1 : Fin k0_t1_loop.trips) : Fin 1 → Nat :=
  let c0_i32_111 : BitVec 32 := 0#32
  let c0_i32_67 : BitVec 32 := 0#32
  let c1_i32_69 : BitVec 32 := 1#32
  let arg9 : BitVec 32 := Scf.iv c0_i32_67 c1_i32_69 k0_t1
  let c16_i32_110 : BitVec 32 := 16#32
  let v149 : BitVec 32 := Scalar.muli arg9 c16_i32_110
  let c3_i32 : BitVec 32 := 3#32
  let v150 : BitVec 32 := Scalar.addi v149 c3_i32
  let v151 : BitVec 32 := Scalar.addi c0_i32_111 v150
  let v152 : Index := Scalar.indexCast v151
  ![v152.toNat]
def k0_mult7 (v153 : BitVec 32) : BitVec 32 :=
  let c8_i32_112 : BitVec 32 := 8#32
  let v154 : BitVec 32 := Scalar.muli v153 c8_i32_112
  v154

def k0_mult8 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_110 : BitVec 32 := 16#32
  let v149 : BitVec 32 := Scalar.muli arg9 c16_i32_110
  let c3_i32 : BitVec 32 := 3#32
  let v150 : BitVec 32 := Scalar.addi v149 c3_i32
  let c8_i32_113 : BitVec 32 := 8#32
  let v156 : BitVec 32 := Scalar.muli v150 c8_i32_113
  v156
def k0_off11 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_110 : BitVec 32 := 16#32
  let v149 : BitVec 32 := Scalar.muli arg9 c16_i32_110
  let c3_i32 : BitVec 32 := 3#32
  let v150 : BitVec 32 := Scalar.addi v149 c3_i32
  let c8_i32_113 : BitVec 32 := 8#32
  let v156 : BitVec 32 := Scalar.muli v150 c8_i32_113
  let v157 : BitVec 32 := v156
  let c0_i32_119 : BitVec 32 := 0#32
  ![v157.toNat, 0]
def k0_off12 (v153 : BitVec 32) : Fin 2 → Nat :=
  let c8_i32_112 : BitVec 32 := 8#32
  let v154 : BitVec 32 := Scalar.muli v153 c8_i32_112
  let v155 : BitVec 32 := v154
  let c0_i32_120 : BitVec 32 := 0#32
  ![v155.toNat, 0]

def k0_chk4 (i : grid0.Coords) (v153 : BitVec 32) : Prop :=
  (∀ (k0_h1 : k0_cond1 i = 1#1), 8 ∣ (k0_mult7 v153).toNat) ∧
  (∀ (k0_h1 : k0_cond1 i = 1#1), ∀ a, (k0_off12 v153) a + S8x128.size a ≤ S294912x128.size a)
theorem k0_mult7_dvd : ∀ (i : grid0.Coords) (v153 : BitVec 32) (k0_hw4 : k0_chk4 i v153), ∀ (k0_h1 : k0_cond1 i = 1#1), 8 ∣ (k0_mult7 v153).toNat := fun i v153 k0_hw4 k0_h1 => k0_hw4.1 k0_h1
theorem k0_off12_inb : ∀ (i : grid0.Coords) (v153 : BitVec 32) (k0_hw4 : k0_chk4 i v153), ∀ (k0_h1 : k0_cond1 i = 1#1), ∀ a, (k0_off12 v153) a + S8x128.size a ≤ S294912x128.size a := fun i v153 k0_hw4 k0_h1 => k0_hw4.2 k0_h1

def k0_off13 (k0_t1 : Fin k0_t1_loop.trips) : Fin 1 → Nat :=
  let c0_i32_122 : BitVec 32 := 0#32
  let c0_i32_67 : BitVec 32 := 0#32
  let c1_i32_69 : BitVec 32 := 1#32
  let arg9 : BitVec 32 := Scf.iv c0_i32_67 c1_i32_69 k0_t1
  let c16_i32_121 : BitVec 32 := 16#32
  let v164 : BitVec 32 := Scalar.muli arg9 c16_i32_121
  let c4_i32 : BitVec 32 := 4#32
  let v165 : BitVec 32 := Scalar.addi v164 c4_i32
  let v166 : BitVec 32 := Scalar.addi c0_i32_122 v165
  let v167 : Index := Scalar.indexCast v166
  ![v167.toNat]
def k0_mult9 (v168 : BitVec 32) : BitVec 32 :=
  let c8_i32_123 : BitVec 32 := 8#32
  let v169 : BitVec 32 := Scalar.muli v168 c8_i32_123
  v169

def k0_mult10 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_121 : BitVec 32 := 16#32
  let v164 : BitVec 32 := Scalar.muli arg9 c16_i32_121
  let c4_i32 : BitVec 32 := 4#32
  let v165 : BitVec 32 := Scalar.addi v164 c4_i32
  let c8_i32_124 : BitVec 32 := 8#32
  let v171 : BitVec 32 := Scalar.muli v165 c8_i32_124
  v171
def k0_off14 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_121 : BitVec 32 := 16#32
  let v164 : BitVec 32 := Scalar.muli arg9 c16_i32_121
  let c4_i32 : BitVec 32 := 4#32
  let v165 : BitVec 32 := Scalar.addi v164 c4_i32
  let c8_i32_124 : BitVec 32 := 8#32
  let v171 : BitVec 32 := Scalar.muli v165 c8_i32_124
  let v172 : BitVec 32 := v171
  let c0_i32_130 : BitVec 32 := 0#32
  ![v172.toNat, 0]
def k0_off15 (v168 : BitVec 32) : Fin 2 → Nat :=
  let c8_i32_123 : BitVec 32 := 8#32
  let v169 : BitVec 32 := Scalar.muli v168 c8_i32_123
  let v170 : BitVec 32 := v169
  let c0_i32_131 : BitVec 32 := 0#32
  ![v170.toNat, 0]

def k0_chk5 (i : grid0.Coords) (v168 : BitVec 32) : Prop :=
  (∀ (k0_h1 : k0_cond1 i = 1#1), 8 ∣ (k0_mult9 v168).toNat) ∧
  (∀ (k0_h1 : k0_cond1 i = 1#1), ∀ a, (k0_off15 v168) a + S8x128.size a ≤ S294912x128.size a)
theorem k0_mult9_dvd : ∀ (i : grid0.Coords) (v168 : BitVec 32) (k0_hw5 : k0_chk5 i v168), ∀ (k0_h1 : k0_cond1 i = 1#1), 8 ∣ (k0_mult9 v168).toNat := fun i v168 k0_hw5 k0_h1 => k0_hw5.1 k0_h1
theorem k0_off15_inb : ∀ (i : grid0.Coords) (v168 : BitVec 32) (k0_hw5 : k0_chk5 i v168), ∀ (k0_h1 : k0_cond1 i = 1#1), ∀ a, (k0_off15 v168) a + S8x128.size a ≤ S294912x128.size a := fun i v168 k0_hw5 k0_h1 => k0_hw5.2 k0_h1

def k0_off16 (k0_t1 : Fin k0_t1_loop.trips) : Fin 1 → Nat :=
  let c0_i32_133 : BitVec 32 := 0#32
  let c0_i32_67 : BitVec 32 := 0#32
  let c1_i32_69 : BitVec 32 := 1#32
  let arg9 : BitVec 32 := Scf.iv c0_i32_67 c1_i32_69 k0_t1
  let c16_i32_132 : BitVec 32 := 16#32
  let v179 : BitVec 32 := Scalar.muli arg9 c16_i32_132
  let c5_i32 : BitVec 32 := 5#32
  let v180 : BitVec 32 := Scalar.addi v179 c5_i32
  let v181 : BitVec 32 := Scalar.addi c0_i32_133 v180
  let v182 : Index := Scalar.indexCast v181
  ![v182.toNat]
def k0_mult11 (v183 : BitVec 32) : BitVec 32 :=
  let c8_i32_134 : BitVec 32 := 8#32
  let v184 : BitVec 32 := Scalar.muli v183 c8_i32_134
  v184

def k0_mult12 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_132 : BitVec 32 := 16#32
  let v179 : BitVec 32 := Scalar.muli arg9 c16_i32_132
  let c5_i32 : BitVec 32 := 5#32
  let v180 : BitVec 32 := Scalar.addi v179 c5_i32
  let c8_i32_135 : BitVec 32 := 8#32
  let v186 : BitVec 32 := Scalar.muli v180 c8_i32_135
  v186
def k0_off17 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_132 : BitVec 32 := 16#32
  let v179 : BitVec 32 := Scalar.muli arg9 c16_i32_132
  let c5_i32 : BitVec 32 := 5#32
  let v180 : BitVec 32 := Scalar.addi v179 c5_i32
  let c8_i32_135 : BitVec 32 := 8#32
  let v186 : BitVec 32 := Scalar.muli v180 c8_i32_135
  let v187 : BitVec 32 := v186
  let c0_i32_141 : BitVec 32 := 0#32
  ![v187.toNat, 0]
def k0_off18 (v183 : BitVec 32) : Fin 2 → Nat :=
  let c8_i32_134 : BitVec 32 := 8#32
  let v184 : BitVec 32 := Scalar.muli v183 c8_i32_134
  let v185 : BitVec 32 := v184
  let c0_i32_142 : BitVec 32 := 0#32
  ![v185.toNat, 0]

def k0_chk6 (i : grid0.Coords) (v183 : BitVec 32) : Prop :=
  (∀ (k0_h1 : k0_cond1 i = 1#1), 8 ∣ (k0_mult11 v183).toNat) ∧
  (∀ (k0_h1 : k0_cond1 i = 1#1), ∀ a, (k0_off18 v183) a + S8x128.size a ≤ S294912x128.size a)
theorem k0_mult11_dvd : ∀ (i : grid0.Coords) (v183 : BitVec 32) (k0_hw6 : k0_chk6 i v183), ∀ (k0_h1 : k0_cond1 i = 1#1), 8 ∣ (k0_mult11 v183).toNat := fun i v183 k0_hw6 k0_h1 => k0_hw6.1 k0_h1
theorem k0_off18_inb : ∀ (i : grid0.Coords) (v183 : BitVec 32) (k0_hw6 : k0_chk6 i v183), ∀ (k0_h1 : k0_cond1 i = 1#1), ∀ a, (k0_off18 v183) a + S8x128.size a ≤ S294912x128.size a := fun i v183 k0_hw6 k0_h1 => k0_hw6.2 k0_h1

def k0_off19 (k0_t1 : Fin k0_t1_loop.trips) : Fin 1 → Nat :=
  let c0_i32_144 : BitVec 32 := 0#32
  let c0_i32_67 : BitVec 32 := 0#32
  let c1_i32_69 : BitVec 32 := 1#32
  let arg9 : BitVec 32 := Scf.iv c0_i32_67 c1_i32_69 k0_t1
  let c16_i32_143 : BitVec 32 := 16#32
  let v194 : BitVec 32 := Scalar.muli arg9 c16_i32_143
  let c6_i32 : BitVec 32 := 6#32
  let v195 : BitVec 32 := Scalar.addi v194 c6_i32
  let v196 : BitVec 32 := Scalar.addi c0_i32_144 v195
  let v197 : Index := Scalar.indexCast v196
  ![v197.toNat]
def k0_mult13 (v198 : BitVec 32) : BitVec 32 :=
  let c8_i32_145 : BitVec 32 := 8#32
  let v199 : BitVec 32 := Scalar.muli v198 c8_i32_145
  v199

def k0_mult14 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_143 : BitVec 32 := 16#32
  let v194 : BitVec 32 := Scalar.muli arg9 c16_i32_143
  let c6_i32 : BitVec 32 := 6#32
  let v195 : BitVec 32 := Scalar.addi v194 c6_i32
  let c8_i32_146 : BitVec 32 := 8#32
  let v201 : BitVec 32 := Scalar.muli v195 c8_i32_146
  v201
def k0_off20 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_143 : BitVec 32 := 16#32
  let v194 : BitVec 32 := Scalar.muli arg9 c16_i32_143
  let c6_i32 : BitVec 32 := 6#32
  let v195 : BitVec 32 := Scalar.addi v194 c6_i32
  let c8_i32_146 : BitVec 32 := 8#32
  let v201 : BitVec 32 := Scalar.muli v195 c8_i32_146
  let v202 : BitVec 32 := v201
  let c0_i32_152 : BitVec 32 := 0#32
  ![v202.toNat, 0]
def k0_off21 (v198 : BitVec 32) : Fin 2 → Nat :=
  let c8_i32_145 : BitVec 32 := 8#32
  let v199 : BitVec 32 := Scalar.muli v198 c8_i32_145
  let v200 : BitVec 32 := v199
  let c0_i32_153 : BitVec 32 := 0#32
  ![v200.toNat, 0]

def k0_chk7 (i : grid0.Coords) (v198 : BitVec 32) : Prop :=
  (∀ (k0_h1 : k0_cond1 i = 1#1), 8 ∣ (k0_mult13 v198).toNat) ∧
  (∀ (k0_h1 : k0_cond1 i = 1#1), ∀ a, (k0_off21 v198) a + S8x128.size a ≤ S294912x128.size a)
theorem k0_mult13_dvd : ∀ (i : grid0.Coords) (v198 : BitVec 32) (k0_hw7 : k0_chk7 i v198), ∀ (k0_h1 : k0_cond1 i = 1#1), 8 ∣ (k0_mult13 v198).toNat := fun i v198 k0_hw7 k0_h1 => k0_hw7.1 k0_h1
theorem k0_off21_inb : ∀ (i : grid0.Coords) (v198 : BitVec 32) (k0_hw7 : k0_chk7 i v198), ∀ (k0_h1 : k0_cond1 i = 1#1), ∀ a, (k0_off21 v198) a + S8x128.size a ≤ S294912x128.size a := fun i v198 k0_hw7 k0_h1 => k0_hw7.2 k0_h1

def k0_off22 (k0_t1 : Fin k0_t1_loop.trips) : Fin 1 → Nat :=
  let c0_i32_155 : BitVec 32 := 0#32
  let c0_i32_67 : BitVec 32 := 0#32
  let c1_i32_69 : BitVec 32 := 1#32
  let arg9 : BitVec 32 := Scf.iv c0_i32_67 c1_i32_69 k0_t1
  let c16_i32_154 : BitVec 32 := 16#32
  let v209 : BitVec 32 := Scalar.muli arg9 c16_i32_154
  let c7_i32 : BitVec 32 := 7#32
  let v210 : BitVec 32 := Scalar.addi v209 c7_i32
  let v211 : BitVec 32 := Scalar.addi c0_i32_155 v210
  let v212 : Index := Scalar.indexCast v211
  ![v212.toNat]
def k0_mult15 (v213 : BitVec 32) : BitVec 32 :=
  let c8_i32_156 : BitVec 32 := 8#32
  let v214 : BitVec 32 := Scalar.muli v213 c8_i32_156
  v214

def k0_mult16 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_154 : BitVec 32 := 16#32
  let v209 : BitVec 32 := Scalar.muli arg9 c16_i32_154
  let c7_i32 : BitVec 32 := 7#32
  let v210 : BitVec 32 := Scalar.addi v209 c7_i32
  let c8_i32_157 : BitVec 32 := 8#32
  let v216 : BitVec 32 := Scalar.muli v210 c8_i32_157
  v216
def k0_off23 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_154 : BitVec 32 := 16#32
  let v209 : BitVec 32 := Scalar.muli arg9 c16_i32_154
  let c7_i32 : BitVec 32 := 7#32
  let v210 : BitVec 32 := Scalar.addi v209 c7_i32
  let c8_i32_157 : BitVec 32 := 8#32
  let v216 : BitVec 32 := Scalar.muli v210 c8_i32_157
  let v217 : BitVec 32 := v216
  let c0_i32_163 : BitVec 32 := 0#32
  ![v217.toNat, 0]
def k0_off24 (v213 : BitVec 32) : Fin 2 → Nat :=
  let c8_i32_156 : BitVec 32 := 8#32
  let v214 : BitVec 32 := Scalar.muli v213 c8_i32_156
  let v215 : BitVec 32 := v214
  let c0_i32_164 : BitVec 32 := 0#32
  ![v215.toNat, 0]

def k0_chk8 (i : grid0.Coords) (v213 : BitVec 32) : Prop :=
  (∀ (k0_h1 : k0_cond1 i = 1#1), 8 ∣ (k0_mult15 v213).toNat) ∧
  (∀ (k0_h1 : k0_cond1 i = 1#1), ∀ a, (k0_off24 v213) a + S8x128.size a ≤ S294912x128.size a)
theorem k0_mult15_dvd : ∀ (i : grid0.Coords) (v213 : BitVec 32) (k0_hw8 : k0_chk8 i v213), ∀ (k0_h1 : k0_cond1 i = 1#1), 8 ∣ (k0_mult15 v213).toNat := fun i v213 k0_hw8 k0_h1 => k0_hw8.1 k0_h1
theorem k0_off24_inb : ∀ (i : grid0.Coords) (v213 : BitVec 32) (k0_hw8 : k0_chk8 i v213), ∀ (k0_h1 : k0_cond1 i = 1#1), ∀ a, (k0_off24 v213) a + S8x128.size a ≤ S294912x128.size a := fun i v213 k0_hw8 k0_h1 => k0_hw8.2 k0_h1

def k0_off25 (k0_t1 : Fin k0_t1_loop.trips) : Fin 1 → Nat :=
  let c0_i32_167 : BitVec 32 := 0#32
  let c0_i32_67 : BitVec 32 := 0#32
  let c1_i32_69 : BitVec 32 := 1#32
  let arg9 : BitVec 32 := Scf.iv c0_i32_67 c1_i32_69 k0_t1
  let c16_i32_165 : BitVec 32 := 16#32
  let v224 : BitVec 32 := Scalar.muli arg9 c16_i32_165
  let c8_i32_166 : BitVec 32 := 8#32
  let v225 : BitVec 32 := Scalar.addi v224 c8_i32_166
  let v226 : BitVec 32 := Scalar.addi c0_i32_167 v225
  let v227 : Index := Scalar.indexCast v226
  ![v227.toNat]
def k0_mult17 (v228 : BitVec 32) : BitVec 32 :=
  let c8_i32_168 : BitVec 32 := 8#32
  let v229 : BitVec 32 := Scalar.muli v228 c8_i32_168
  v229

def k0_mult18 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_165 : BitVec 32 := 16#32
  let v224 : BitVec 32 := Scalar.muli arg9 c16_i32_165
  let c8_i32_166 : BitVec 32 := 8#32
  let v225 : BitVec 32 := Scalar.addi v224 c8_i32_166
  let c8_i32_169 : BitVec 32 := 8#32
  let v231 : BitVec 32 := Scalar.muli v225 c8_i32_169
  v231
def k0_off26 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_165 : BitVec 32 := 16#32
  let v224 : BitVec 32 := Scalar.muli arg9 c16_i32_165
  let c8_i32_166 : BitVec 32 := 8#32
  let v225 : BitVec 32 := Scalar.addi v224 c8_i32_166
  let c8_i32_169 : BitVec 32 := 8#32
  let v231 : BitVec 32 := Scalar.muli v225 c8_i32_169
  let v232 : BitVec 32 := v231
  let c0_i32_175 : BitVec 32 := 0#32
  ![v232.toNat, 0]
def k0_off27 (v228 : BitVec 32) : Fin 2 → Nat :=
  let c8_i32_168 : BitVec 32 := 8#32
  let v229 : BitVec 32 := Scalar.muli v228 c8_i32_168
  let v230 : BitVec 32 := v229
  let c0_i32_176 : BitVec 32 := 0#32
  ![v230.toNat, 0]

def k0_chk9 (i : grid0.Coords) (v228 : BitVec 32) : Prop :=
  (∀ (k0_h1 : k0_cond1 i = 1#1), 8 ∣ (k0_mult17 v228).toNat) ∧
  (∀ (k0_h1 : k0_cond1 i = 1#1), ∀ a, (k0_off27 v228) a + S8x128.size a ≤ S294912x128.size a)
theorem k0_mult17_dvd : ∀ (i : grid0.Coords) (v228 : BitVec 32) (k0_hw9 : k0_chk9 i v228), ∀ (k0_h1 : k0_cond1 i = 1#1), 8 ∣ (k0_mult17 v228).toNat := fun i v228 k0_hw9 k0_h1 => k0_hw9.1 k0_h1
theorem k0_off27_inb : ∀ (i : grid0.Coords) (v228 : BitVec 32) (k0_hw9 : k0_chk9 i v228), ∀ (k0_h1 : k0_cond1 i = 1#1), ∀ a, (k0_off27 v228) a + S8x128.size a ≤ S294912x128.size a := fun i v228 k0_hw9 k0_h1 => k0_hw9.2 k0_h1

def k0_off28 (k0_t1 : Fin k0_t1_loop.trips) : Fin 1 → Nat :=
  let c0_i32_178 : BitVec 32 := 0#32
  let c0_i32_67 : BitVec 32 := 0#32
  let c1_i32_69 : BitVec 32 := 1#32
  let arg9 : BitVec 32 := Scf.iv c0_i32_67 c1_i32_69 k0_t1
  let c16_i32_177 : BitVec 32 := 16#32
  let v239 : BitVec 32 := Scalar.muli arg9 c16_i32_177
  let c9_i32 : BitVec 32 := 9#32
  let v240 : BitVec 32 := Scalar.addi v239 c9_i32
  let v241 : BitVec 32 := Scalar.addi c0_i32_178 v240
  let v242 : Index := Scalar.indexCast v241
  ![v242.toNat]
def k0_mult19 (v243 : BitVec 32) : BitVec 32 :=
  let c8_i32_179 : BitVec 32 := 8#32
  let v244 : BitVec 32 := Scalar.muli v243 c8_i32_179
  v244

def k0_mult20 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_177 : BitVec 32 := 16#32
  let v239 : BitVec 32 := Scalar.muli arg9 c16_i32_177
  let c9_i32 : BitVec 32 := 9#32
  let v240 : BitVec 32 := Scalar.addi v239 c9_i32
  let c8_i32_180 : BitVec 32 := 8#32
  let v246 : BitVec 32 := Scalar.muli v240 c8_i32_180
  v246
def k0_off29 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_177 : BitVec 32 := 16#32
  let v239 : BitVec 32 := Scalar.muli arg9 c16_i32_177
  let c9_i32 : BitVec 32 := 9#32
  let v240 : BitVec 32 := Scalar.addi v239 c9_i32
  let c8_i32_180 : BitVec 32 := 8#32
  let v246 : BitVec 32 := Scalar.muli v240 c8_i32_180
  let v247 : BitVec 32 := v246
  let c0_i32_186 : BitVec 32 := 0#32
  ![v247.toNat, 0]
def k0_off30 (v243 : BitVec 32) : Fin 2 → Nat :=
  let c8_i32_179 : BitVec 32 := 8#32
  let v244 : BitVec 32 := Scalar.muli v243 c8_i32_179
  let v245 : BitVec 32 := v244
  let c0_i32_187 : BitVec 32 := 0#32
  ![v245.toNat, 0]

def k0_chk10 (i : grid0.Coords) (v243 : BitVec 32) : Prop :=
  (∀ (k0_h1 : k0_cond1 i = 1#1), 8 ∣ (k0_mult19 v243).toNat) ∧
  (∀ (k0_h1 : k0_cond1 i = 1#1), ∀ a, (k0_off30 v243) a + S8x128.size a ≤ S294912x128.size a)
theorem k0_mult19_dvd : ∀ (i : grid0.Coords) (v243 : BitVec 32) (k0_hw10 : k0_chk10 i v243), ∀ (k0_h1 : k0_cond1 i = 1#1), 8 ∣ (k0_mult19 v243).toNat := fun i v243 k0_hw10 k0_h1 => k0_hw10.1 k0_h1
theorem k0_off30_inb : ∀ (i : grid0.Coords) (v243 : BitVec 32) (k0_hw10 : k0_chk10 i v243), ∀ (k0_h1 : k0_cond1 i = 1#1), ∀ a, (k0_off30 v243) a + S8x128.size a ≤ S294912x128.size a := fun i v243 k0_hw10 k0_h1 => k0_hw10.2 k0_h1

def k0_off31 (k0_t1 : Fin k0_t1_loop.trips) : Fin 1 → Nat :=
  let c0_i32_189 : BitVec 32 := 0#32
  let c0_i32_67 : BitVec 32 := 0#32
  let c1_i32_69 : BitVec 32 := 1#32
  let arg9 : BitVec 32 := Scf.iv c0_i32_67 c1_i32_69 k0_t1
  let c16_i32_188 : BitVec 32 := 16#32
  let v254 : BitVec 32 := Scalar.muli arg9 c16_i32_188
  let c10_i32 : BitVec 32 := 10#32
  let v255 : BitVec 32 := Scalar.addi v254 c10_i32
  let v256 : BitVec 32 := Scalar.addi c0_i32_189 v255
  let v257 : Index := Scalar.indexCast v256
  ![v257.toNat]
def k0_mult21 (v258 : BitVec 32) : BitVec 32 :=
  let c8_i32_190 : BitVec 32 := 8#32
  let v259 : BitVec 32 := Scalar.muli v258 c8_i32_190
  v259

def k0_mult22 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_188 : BitVec 32 := 16#32
  let v254 : BitVec 32 := Scalar.muli arg9 c16_i32_188
  let c10_i32 : BitVec 32 := 10#32
  let v255 : BitVec 32 := Scalar.addi v254 c10_i32
  let c8_i32_191 : BitVec 32 := 8#32
  let v261 : BitVec 32 := Scalar.muli v255 c8_i32_191
  v261
def k0_off32 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_188 : BitVec 32 := 16#32
  let v254 : BitVec 32 := Scalar.muli arg9 c16_i32_188
  let c10_i32 : BitVec 32 := 10#32
  let v255 : BitVec 32 := Scalar.addi v254 c10_i32
  let c8_i32_191 : BitVec 32 := 8#32
  let v261 : BitVec 32 := Scalar.muli v255 c8_i32_191
  let v262 : BitVec 32 := v261
  let c0_i32_197 : BitVec 32 := 0#32
  ![v262.toNat, 0]
def k0_off33 (v258 : BitVec 32) : Fin 2 → Nat :=
  let c8_i32_190 : BitVec 32 := 8#32
  let v259 : BitVec 32 := Scalar.muli v258 c8_i32_190
  let v260 : BitVec 32 := v259
  let c0_i32_198 : BitVec 32 := 0#32
  ![v260.toNat, 0]

def k0_chk11 (i : grid0.Coords) (v258 : BitVec 32) : Prop :=
  (∀ (k0_h1 : k0_cond1 i = 1#1), 8 ∣ (k0_mult21 v258).toNat) ∧
  (∀ (k0_h1 : k0_cond1 i = 1#1), ∀ a, (k0_off33 v258) a + S8x128.size a ≤ S294912x128.size a)
theorem k0_mult21_dvd : ∀ (i : grid0.Coords) (v258 : BitVec 32) (k0_hw11 : k0_chk11 i v258), ∀ (k0_h1 : k0_cond1 i = 1#1), 8 ∣ (k0_mult21 v258).toNat := fun i v258 k0_hw11 k0_h1 => k0_hw11.1 k0_h1
theorem k0_off33_inb : ∀ (i : grid0.Coords) (v258 : BitVec 32) (k0_hw11 : k0_chk11 i v258), ∀ (k0_h1 : k0_cond1 i = 1#1), ∀ a, (k0_off33 v258) a + S8x128.size a ≤ S294912x128.size a := fun i v258 k0_hw11 k0_h1 => k0_hw11.2 k0_h1

def k0_off34 (k0_t1 : Fin k0_t1_loop.trips) : Fin 1 → Nat :=
  let c0_i32_200 : BitVec 32 := 0#32
  let c0_i32_67 : BitVec 32 := 0#32
  let c1_i32_69 : BitVec 32 := 1#32
  let arg9 : BitVec 32 := Scf.iv c0_i32_67 c1_i32_69 k0_t1
  let c16_i32_199 : BitVec 32 := 16#32
  let v269 : BitVec 32 := Scalar.muli arg9 c16_i32_199
  let c11_i32 : BitVec 32 := 11#32
  let v270 : BitVec 32 := Scalar.addi v269 c11_i32
  let v271 : BitVec 32 := Scalar.addi c0_i32_200 v270
  let v272 : Index := Scalar.indexCast v271
  ![v272.toNat]
def k0_mult23 (v273 : BitVec 32) : BitVec 32 :=
  let c8_i32_201 : BitVec 32 := 8#32
  let v274 : BitVec 32 := Scalar.muli v273 c8_i32_201
  v274

def k0_mult24 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_199 : BitVec 32 := 16#32
  let v269 : BitVec 32 := Scalar.muli arg9 c16_i32_199
  let c11_i32 : BitVec 32 := 11#32
  let v270 : BitVec 32 := Scalar.addi v269 c11_i32
  let c8_i32_202 : BitVec 32 := 8#32
  let v276 : BitVec 32 := Scalar.muli v270 c8_i32_202
  v276
def k0_off35 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_199 : BitVec 32 := 16#32
  let v269 : BitVec 32 := Scalar.muli arg9 c16_i32_199
  let c11_i32 : BitVec 32 := 11#32
  let v270 : BitVec 32 := Scalar.addi v269 c11_i32
  let c8_i32_202 : BitVec 32 := 8#32
  let v276 : BitVec 32 := Scalar.muli v270 c8_i32_202
  let v277 : BitVec 32 := v276
  let c0_i32_208 : BitVec 32 := 0#32
  ![v277.toNat, 0]
def k0_off36 (v273 : BitVec 32) : Fin 2 → Nat :=
  let c8_i32_201 : BitVec 32 := 8#32
  let v274 : BitVec 32 := Scalar.muli v273 c8_i32_201
  let v275 : BitVec 32 := v274
  let c0_i32_209 : BitVec 32 := 0#32
  ![v275.toNat, 0]

def k0_chk12 (i : grid0.Coords) (v273 : BitVec 32) : Prop :=
  (∀ (k0_h1 : k0_cond1 i = 1#1), 8 ∣ (k0_mult23 v273).toNat) ∧
  (∀ (k0_h1 : k0_cond1 i = 1#1), ∀ a, (k0_off36 v273) a + S8x128.size a ≤ S294912x128.size a)
theorem k0_mult23_dvd : ∀ (i : grid0.Coords) (v273 : BitVec 32) (k0_hw12 : k0_chk12 i v273), ∀ (k0_h1 : k0_cond1 i = 1#1), 8 ∣ (k0_mult23 v273).toNat := fun i v273 k0_hw12 k0_h1 => k0_hw12.1 k0_h1
theorem k0_off36_inb : ∀ (i : grid0.Coords) (v273 : BitVec 32) (k0_hw12 : k0_chk12 i v273), ∀ (k0_h1 : k0_cond1 i = 1#1), ∀ a, (k0_off36 v273) a + S8x128.size a ≤ S294912x128.size a := fun i v273 k0_hw12 k0_h1 => k0_hw12.2 k0_h1

def k0_off37 (k0_t1 : Fin k0_t1_loop.trips) : Fin 1 → Nat :=
  let c0_i32_211 : BitVec 32 := 0#32
  let c0_i32_67 : BitVec 32 := 0#32
  let c1_i32_69 : BitVec 32 := 1#32
  let arg9 : BitVec 32 := Scf.iv c0_i32_67 c1_i32_69 k0_t1
  let c16_i32_210 : BitVec 32 := 16#32
  let v284 : BitVec 32 := Scalar.muli arg9 c16_i32_210
  let c12_i32 : BitVec 32 := 12#32
  let v285 : BitVec 32 := Scalar.addi v284 c12_i32
  let v286 : BitVec 32 := Scalar.addi c0_i32_211 v285
  let v287 : Index := Scalar.indexCast v286
  ![v287.toNat]
def k0_mult25 (v288 : BitVec 32) : BitVec 32 :=
  let c8_i32_212 : BitVec 32 := 8#32
  let v289 : BitVec 32 := Scalar.muli v288 c8_i32_212
  v289

def k0_mult26 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_210 : BitVec 32 := 16#32
  let v284 : BitVec 32 := Scalar.muli arg9 c16_i32_210
  let c12_i32 : BitVec 32 := 12#32
  let v285 : BitVec 32 := Scalar.addi v284 c12_i32
  let c8_i32_213 : BitVec 32 := 8#32
  let v291 : BitVec 32 := Scalar.muli v285 c8_i32_213
  v291
def k0_off38 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_210 : BitVec 32 := 16#32
  let v284 : BitVec 32 := Scalar.muli arg9 c16_i32_210
  let c12_i32 : BitVec 32 := 12#32
  let v285 : BitVec 32 := Scalar.addi v284 c12_i32
  let c8_i32_213 : BitVec 32 := 8#32
  let v291 : BitVec 32 := Scalar.muli v285 c8_i32_213
  let v292 : BitVec 32 := v291
  let c0_i32_219 : BitVec 32 := 0#32
  ![v292.toNat, 0]
def k0_off39 (v288 : BitVec 32) : Fin 2 → Nat :=
  let c8_i32_212 : BitVec 32 := 8#32
  let v289 : BitVec 32 := Scalar.muli v288 c8_i32_212
  let v290 : BitVec 32 := v289
  let c0_i32_220 : BitVec 32 := 0#32
  ![v290.toNat, 0]

def k0_chk13 (i : grid0.Coords) (v288 : BitVec 32) : Prop :=
  (∀ (k0_h1 : k0_cond1 i = 1#1), 8 ∣ (k0_mult25 v288).toNat) ∧
  (∀ (k0_h1 : k0_cond1 i = 1#1), ∀ a, (k0_off39 v288) a + S8x128.size a ≤ S294912x128.size a)
theorem k0_mult25_dvd : ∀ (i : grid0.Coords) (v288 : BitVec 32) (k0_hw13 : k0_chk13 i v288), ∀ (k0_h1 : k0_cond1 i = 1#1), 8 ∣ (k0_mult25 v288).toNat := fun i v288 k0_hw13 k0_h1 => k0_hw13.1 k0_h1
theorem k0_off39_inb : ∀ (i : grid0.Coords) (v288 : BitVec 32) (k0_hw13 : k0_chk13 i v288), ∀ (k0_h1 : k0_cond1 i = 1#1), ∀ a, (k0_off39 v288) a + S8x128.size a ≤ S294912x128.size a := fun i v288 k0_hw13 k0_h1 => k0_hw13.2 k0_h1

def k0_off40 (k0_t1 : Fin k0_t1_loop.trips) : Fin 1 → Nat :=
  let c0_i32_222 : BitVec 32 := 0#32
  let c0_i32_67 : BitVec 32 := 0#32
  let c1_i32_69 : BitVec 32 := 1#32
  let arg9 : BitVec 32 := Scf.iv c0_i32_67 c1_i32_69 k0_t1
  let c16_i32_221 : BitVec 32 := 16#32
  let v299 : BitVec 32 := Scalar.muli arg9 c16_i32_221
  let c13_i32 : BitVec 32 := 13#32
  let v300 : BitVec 32 := Scalar.addi v299 c13_i32
  let v301 : BitVec 32 := Scalar.addi c0_i32_222 v300
  let v302 : Index := Scalar.indexCast v301
  ![v302.toNat]
def k0_mult27 (v303 : BitVec 32) : BitVec 32 :=
  let c8_i32_223 : BitVec 32 := 8#32
  let v304 : BitVec 32 := Scalar.muli v303 c8_i32_223
  v304

def k0_mult28 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_221 : BitVec 32 := 16#32
  let v299 : BitVec 32 := Scalar.muli arg9 c16_i32_221
  let c13_i32 : BitVec 32 := 13#32
  let v300 : BitVec 32 := Scalar.addi v299 c13_i32
  let c8_i32_224 : BitVec 32 := 8#32
  let v306 : BitVec 32 := Scalar.muli v300 c8_i32_224
  v306
def k0_off41 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_221 : BitVec 32 := 16#32
  let v299 : BitVec 32 := Scalar.muli arg9 c16_i32_221
  let c13_i32 : BitVec 32 := 13#32
  let v300 : BitVec 32 := Scalar.addi v299 c13_i32
  let c8_i32_224 : BitVec 32 := 8#32
  let v306 : BitVec 32 := Scalar.muli v300 c8_i32_224
  let v307 : BitVec 32 := v306
  let c0_i32_230 : BitVec 32 := 0#32
  ![v307.toNat, 0]
def k0_off42 (v303 : BitVec 32) : Fin 2 → Nat :=
  let c8_i32_223 : BitVec 32 := 8#32
  let v304 : BitVec 32 := Scalar.muli v303 c8_i32_223
  let v305 : BitVec 32 := v304
  let c0_i32_231 : BitVec 32 := 0#32
  ![v305.toNat, 0]

def k0_chk14 (i : grid0.Coords) (v303 : BitVec 32) : Prop :=
  (∀ (k0_h1 : k0_cond1 i = 1#1), 8 ∣ (k0_mult27 v303).toNat) ∧
  (∀ (k0_h1 : k0_cond1 i = 1#1), ∀ a, (k0_off42 v303) a + S8x128.size a ≤ S294912x128.size a)
theorem k0_mult27_dvd : ∀ (i : grid0.Coords) (v303 : BitVec 32) (k0_hw14 : k0_chk14 i v303), ∀ (k0_h1 : k0_cond1 i = 1#1), 8 ∣ (k0_mult27 v303).toNat := fun i v303 k0_hw14 k0_h1 => k0_hw14.1 k0_h1
theorem k0_off42_inb : ∀ (i : grid0.Coords) (v303 : BitVec 32) (k0_hw14 : k0_chk14 i v303), ∀ (k0_h1 : k0_cond1 i = 1#1), ∀ a, (k0_off42 v303) a + S8x128.size a ≤ S294912x128.size a := fun i v303 k0_hw14 k0_h1 => k0_hw14.2 k0_h1

def k0_off43 (k0_t1 : Fin k0_t1_loop.trips) : Fin 1 → Nat :=
  let c0_i32_233 : BitVec 32 := 0#32
  let c0_i32_67 : BitVec 32 := 0#32
  let c1_i32_69 : BitVec 32 := 1#32
  let arg9 : BitVec 32 := Scf.iv c0_i32_67 c1_i32_69 k0_t1
  let c16_i32_232 : BitVec 32 := 16#32
  let v314 : BitVec 32 := Scalar.muli arg9 c16_i32_232
  let c14_i32 : BitVec 32 := 14#32
  let v315 : BitVec 32 := Scalar.addi v314 c14_i32
  let v316 : BitVec 32 := Scalar.addi c0_i32_233 v315
  let v317 : Index := Scalar.indexCast v316
  ![v317.toNat]
def k0_mult29 (v318 : BitVec 32) : BitVec 32 :=
  let c8_i32_234 : BitVec 32 := 8#32
  let v319 : BitVec 32 := Scalar.muli v318 c8_i32_234
  v319

def k0_mult30 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_232 : BitVec 32 := 16#32
  let v314 : BitVec 32 := Scalar.muli arg9 c16_i32_232
  let c14_i32 : BitVec 32 := 14#32
  let v315 : BitVec 32 := Scalar.addi v314 c14_i32
  let c8_i32_235 : BitVec 32 := 8#32
  let v321 : BitVec 32 := Scalar.muli v315 c8_i32_235
  v321
def k0_off44 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_232 : BitVec 32 := 16#32
  let v314 : BitVec 32 := Scalar.muli arg9 c16_i32_232
  let c14_i32 : BitVec 32 := 14#32
  let v315 : BitVec 32 := Scalar.addi v314 c14_i32
  let c8_i32_235 : BitVec 32 := 8#32
  let v321 : BitVec 32 := Scalar.muli v315 c8_i32_235
  let v322 : BitVec 32 := v321
  let c0_i32_241 : BitVec 32 := 0#32
  ![v322.toNat, 0]
def k0_off45 (v318 : BitVec 32) : Fin 2 → Nat :=
  let c8_i32_234 : BitVec 32 := 8#32
  let v319 : BitVec 32 := Scalar.muli v318 c8_i32_234
  let v320 : BitVec 32 := v319
  let c0_i32_242 : BitVec 32 := 0#32
  ![v320.toNat, 0]

def k0_chk15 (i : grid0.Coords) (v318 : BitVec 32) : Prop :=
  (∀ (k0_h1 : k0_cond1 i = 1#1), 8 ∣ (k0_mult29 v318).toNat) ∧
  (∀ (k0_h1 : k0_cond1 i = 1#1), ∀ a, (k0_off45 v318) a + S8x128.size a ≤ S294912x128.size a)
theorem k0_mult29_dvd : ∀ (i : grid0.Coords) (v318 : BitVec 32) (k0_hw15 : k0_chk15 i v318), ∀ (k0_h1 : k0_cond1 i = 1#1), 8 ∣ (k0_mult29 v318).toNat := fun i v318 k0_hw15 k0_h1 => k0_hw15.1 k0_h1
theorem k0_off45_inb : ∀ (i : grid0.Coords) (v318 : BitVec 32) (k0_hw15 : k0_chk15 i v318), ∀ (k0_h1 : k0_cond1 i = 1#1), ∀ a, (k0_off45 v318) a + S8x128.size a ≤ S294912x128.size a := fun i v318 k0_hw15 k0_h1 => k0_hw15.2 k0_h1

def k0_off46 (k0_t1 : Fin k0_t1_loop.trips) : Fin 1 → Nat :=
  let c0_i32_244 : BitVec 32 := 0#32
  let c0_i32_67 : BitVec 32 := 0#32
  let c1_i32_69 : BitVec 32 := 1#32
  let arg9 : BitVec 32 := Scf.iv c0_i32_67 c1_i32_69 k0_t1
  let c16_i32_243 : BitVec 32 := 16#32
  let v329 : BitVec 32 := Scalar.muli arg9 c16_i32_243
  let c15_i32 : BitVec 32 := 15#32
  let v330 : BitVec 32 := Scalar.addi v329 c15_i32
  let v331 : BitVec 32 := Scalar.addi c0_i32_244 v330
  let v332 : Index := Scalar.indexCast v331
  ![v332.toNat]
def k0_mult31 (v333 : BitVec 32) : BitVec 32 :=
  let c8_i32_245 : BitVec 32 := 8#32
  let v334 : BitVec 32 := Scalar.muli v333 c8_i32_245
  v334

def k0_mult32 (k0_t1 : Fin k0_t1_loop.trips) : BitVec 32 :=
  let c0_i32_67 : BitVec 32 := 0#32
  let c1_i32_69 : BitVec 32 := 1#32
  let arg9 : BitVec 32 := Scf.iv c0_i32_67 c1_i32_69 k0_t1
  let c16_i32_243 : BitVec 32 := 16#32
  let v329 : BitVec 32 := Scalar.muli arg9 c16_i32_243
  let c15_i32 : BitVec 32 := 15#32
  let v330 : BitVec 32 := Scalar.addi v329 c15_i32
  let c8_i32_246 : BitVec 32 := 8#32
  let v336 : BitVec 32 := Scalar.muli v330 c8_i32_246
  v336
def k0_off47 (k0_t1 : Fin k0_t1_loop.trips) : Fin 2 → Nat :=
  let c0_i32_67 : BitVec 32 := 0#32
  let c1_i32_69 : BitVec 32 := 1#32
  let arg9 : BitVec 32 := Scf.iv c0_i32_67 c1_i32_69 k0_t1
  let c16_i32_243 : BitVec 32 := 16#32
  let v329 : BitVec 32 := Scalar.muli arg9 c16_i32_243
  let c15_i32 : BitVec 32 := 15#32
  let v330 : BitVec 32 := Scalar.addi v329 c15_i32
  let c8_i32_246 : BitVec 32 := 8#32
  let v336 : BitVec 32 := Scalar.muli v330 c8_i32_246
  let v337 : BitVec 32 := v336
  let c0_i32_252 : BitVec 32 := 0#32
  ![v337.toNat, 0]
def k0_off48 (v333 : BitVec 32) : Fin 2 → Nat :=
  let c8_i32_245 : BitVec 32 := 8#32
  let v334 : BitVec 32 := Scalar.muli v333 c8_i32_245
  let v335 : BitVec 32 := v334
  let c0_i32_253 : BitVec 32 := 0#32
  ![v335.toNat, 0]

def k0_chk16 (i : grid0.Coords) (v333 : BitVec 32) : Prop :=
  (∀ (k0_h1 : k0_cond1 i = 1#1), 8 ∣ (k0_mult31 v333).toNat) ∧
  (∀ (k0_h1 : k0_cond1 i = 1#1), ∀ a, (k0_off48 v333) a + S8x128.size a ≤ S294912x128.size a)
theorem k0_mult31_dvd : ∀ (i : grid0.Coords) (v333 : BitVec 32) (k0_hw16 : k0_chk16 i v333), ∀ (k0_h1 : k0_cond1 i = 1#1), 8 ∣ (k0_mult31 v333).toNat := fun i v333 k0_hw16 k0_h1 => k0_hw16.1 k0_h1
theorem k0_off48_inb : ∀ (i : grid0.Coords) (v333 : BitVec 32) (k0_hw16 : k0_chk16 i v333), ∀ (k0_h1 : k0_cond1 i = 1#1), ∀ a, (k0_off48 v333) a + S8x128.size a ≤ S294912x128.size a := fun i v333 k0_hw16 k0_h1 => k0_hw16.2 k0_h1

@[reducible] def k0_t2_loop : Scf.Loop 32 :=
  let c0_i32_71 : BitVec 32 := 0#32
  let c32_i32_72 : BitVec 32 := 32#32
  let v103 : BitVec 32 := Scalar.addi c0_i32_71 c32_i32_72
  let c1_i32_73 : BitVec 32 := 1#32
  ⟨c0_i32_71, v103, c1_i32_73⟩
def k0_off49 (k0_t2 : Fin k0_t2_loop.trips) : Fin 1 → Nat :=
  let c16384_i32 : BitVec 32 := 16384#32
  let c0_i32_71 : BitVec 32 := 0#32
  let c1_i32_73 : BitVec 32 := 1#32
  let arg9 : BitVec 32 := Scf.iv c0_i32_71 c1_i32_73 k0_t2
  let c16_i32_75 : BitVec 32 := 16#32
  let v104 : BitVec 32 := Scalar.muli arg9 c16_i32_75
  let c0_i32_76 : BitVec 32 := 0#32
  let v105 : BitVec 32 := Scalar.addi v104 c0_i32_76
  let v106 : BitVec 32 := Scalar.addi c16384_i32 v105
  let v107 : Index := Scalar.indexCast v106
  ![v107.toNat]
def k0_mult33 (v108 : BitVec 32) : BitVec 32 :=
  let c8_i32 : BitVec 32 := 8#32
  let v109 : BitVec 32 := Scalar.muli v108 c8_i32
  v109

def k0_mult34 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_75 : BitVec 32 := 16#32
  let v104 : BitVec 32 := Scalar.muli arg9 c16_i32_75
  let c0_i32_76 : BitVec 32 := 0#32
  let v105 : BitVec 32 := Scalar.addi v104 c0_i32_76
  let c8_i32_77 : BitVec 32 := 8#32
  let v111 : BitVec 32 := Scalar.muli v105 c8_i32_77
  v111
def k0_off50 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_75 : BitVec 32 := 16#32
  let v104 : BitVec 32 := Scalar.muli arg9 c16_i32_75
  let c0_i32_76 : BitVec 32 := 0#32
  let v105 : BitVec 32 := Scalar.addi v104 c0_i32_76
  let c8_i32_77 : BitVec 32 := 8#32
  let v111 : BitVec 32 := Scalar.muli v105 c8_i32_77
  let v112 : BitVec 32 := v111
  let c0_i32_83 : BitVec 32 := 0#32
  ![v112.toNat, 0]
def k0_off51 (v108 : BitVec 32) : Fin 2 → Nat :=
  let c8_i32 : BitVec 32 := 8#32
  let v109 : BitVec 32 := Scalar.muli v108 c8_i32
  let v110 : BitVec 32 := v109
  let c0_i32_84 : BitVec 32 := 0#32
  ![v110.toNat, 0]

def k0_chk17 (i : grid0.Coords) (v108 : BitVec 32) : Prop :=
  (∀ (k0_h1 : k0_cond1 i = 1#1), 8 ∣ (k0_mult33 v108).toNat) ∧
  (∀ (k0_h1 : k0_cond1 i = 1#1), ∀ a, (k0_off51 v108) a + S8x128.size a ≤ S294912x128.size a)
theorem k0_mult33_dvd : ∀ (i : grid0.Coords) (v108 : BitVec 32) (k0_hw17 : k0_chk17 i v108), ∀ (k0_h1 : k0_cond1 i = 1#1), 8 ∣ (k0_mult33 v108).toNat := fun i v108 k0_hw17 k0_h1 => k0_hw17.1 k0_h1
theorem k0_off51_inb : ∀ (i : grid0.Coords) (v108 : BitVec 32) (k0_hw17 : k0_chk17 i v108), ∀ (k0_h1 : k0_cond1 i = 1#1), ∀ a, (k0_off51 v108) a + S8x128.size a ≤ S294912x128.size a := fun i v108 k0_hw17 k0_h1 => k0_hw17.2 k0_h1

def k0_off52 (k0_t2 : Fin k0_t2_loop.trips) : Fin 1 → Nat :=
  let c16384_i32_87 : BitVec 32 := 16384#32
  let c0_i32_71 : BitVec 32 := 0#32
  let c1_i32_73 : BitVec 32 := 1#32
  let arg9 : BitVec 32 := Scf.iv c0_i32_71 c1_i32_73 k0_t2
  let c16_i32_85 : BitVec 32 := 16#32
  let v119 : BitVec 32 := Scalar.muli arg9 c16_i32_85
  let c1_i32_86 : BitVec 32 := 1#32
  let v120 : BitVec 32 := Scalar.addi v119 c1_i32_86
  let v121 : BitVec 32 := Scalar.addi c16384_i32_87 v120
  let v122 : Index := Scalar.indexCast v121
  ![v122.toNat]
def k0_mult35 (v123 : BitVec 32) : BitVec 32 :=
  let c8_i32_88 : BitVec 32 := 8#32
  let v124 : BitVec 32 := Scalar.muli v123 c8_i32_88
  v124

def k0_mult36 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_85 : BitVec 32 := 16#32
  let v119 : BitVec 32 := Scalar.muli arg9 c16_i32_85
  let c1_i32_86 : BitVec 32 := 1#32
  let v120 : BitVec 32 := Scalar.addi v119 c1_i32_86
  let c8_i32_89 : BitVec 32 := 8#32
  let v126 : BitVec 32 := Scalar.muli v120 c8_i32_89
  v126
def k0_off53 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_85 : BitVec 32 := 16#32
  let v119 : BitVec 32 := Scalar.muli arg9 c16_i32_85
  let c1_i32_86 : BitVec 32 := 1#32
  let v120 : BitVec 32 := Scalar.addi v119 c1_i32_86
  let c8_i32_89 : BitVec 32 := 8#32
  let v126 : BitVec 32 := Scalar.muli v120 c8_i32_89
  let v127 : BitVec 32 := v126
  let c0_i32_95 : BitVec 32 := 0#32
  ![v127.toNat, 0]
def k0_off54 (v123 : BitVec 32) : Fin 2 → Nat :=
  let c8_i32_88 : BitVec 32 := 8#32
  let v124 : BitVec 32 := Scalar.muli v123 c8_i32_88
  let v125 : BitVec 32 := v124
  let c0_i32_96 : BitVec 32 := 0#32
  ![v125.toNat, 0]

def k0_chk18 (i : grid0.Coords) (v123 : BitVec 32) : Prop :=
  (∀ (k0_h1 : k0_cond1 i = 1#1), 8 ∣ (k0_mult35 v123).toNat) ∧
  (∀ (k0_h1 : k0_cond1 i = 1#1), ∀ a, (k0_off54 v123) a + S8x128.size a ≤ S294912x128.size a)
theorem k0_mult35_dvd : ∀ (i : grid0.Coords) (v123 : BitVec 32) (k0_hw18 : k0_chk18 i v123), ∀ (k0_h1 : k0_cond1 i = 1#1), 8 ∣ (k0_mult35 v123).toNat := fun i v123 k0_hw18 k0_h1 => k0_hw18.1 k0_h1
theorem k0_off54_inb : ∀ (i : grid0.Coords) (v123 : BitVec 32) (k0_hw18 : k0_chk18 i v123), ∀ (k0_h1 : k0_cond1 i = 1#1), ∀ a, (k0_off54 v123) a + S8x128.size a ≤ S294912x128.size a := fun i v123 k0_hw18 k0_h1 => k0_hw18.2 k0_h1

def k0_off55 (k0_t2 : Fin k0_t2_loop.trips) : Fin 1 → Nat :=
  let c16384_i32_99 : BitVec 32 := 16384#32
  let c0_i32_71 : BitVec 32 := 0#32
  let c1_i32_73 : BitVec 32 := 1#32
  let arg9 : BitVec 32 := Scf.iv c0_i32_71 c1_i32_73 k0_t2
  let c16_i32_97 : BitVec 32 := 16#32
  let v134 : BitVec 32 := Scalar.muli arg9 c16_i32_97
  let c2_i32_98 : BitVec 32 := 2#32
  let v135 : BitVec 32 := Scalar.addi v134 c2_i32_98
  let v136 : BitVec 32 := Scalar.addi c16384_i32_99 v135
  let v137 : Index := Scalar.indexCast v136
  ![v137.toNat]
def k0_mult37 (v138 : BitVec 32) : BitVec 32 :=
  let c8_i32_100 : BitVec 32 := 8#32
  let v139 : BitVec 32 := Scalar.muli v138 c8_i32_100
  v139

def k0_mult38 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_97 : BitVec 32 := 16#32
  let v134 : BitVec 32 := Scalar.muli arg9 c16_i32_97
  let c2_i32_98 : BitVec 32 := 2#32
  let v135 : BitVec 32 := Scalar.addi v134 c2_i32_98
  let c8_i32_101 : BitVec 32 := 8#32
  let v141 : BitVec 32 := Scalar.muli v135 c8_i32_101
  v141
def k0_off56 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_97 : BitVec 32 := 16#32
  let v134 : BitVec 32 := Scalar.muli arg9 c16_i32_97
  let c2_i32_98 : BitVec 32 := 2#32
  let v135 : BitVec 32 := Scalar.addi v134 c2_i32_98
  let c8_i32_101 : BitVec 32 := 8#32
  let v141 : BitVec 32 := Scalar.muli v135 c8_i32_101
  let v142 : BitVec 32 := v141
  let c0_i32_107 : BitVec 32 := 0#32
  ![v142.toNat, 0]
def k0_off57 (v138 : BitVec 32) : Fin 2 → Nat :=
  let c8_i32_100 : BitVec 32 := 8#32
  let v139 : BitVec 32 := Scalar.muli v138 c8_i32_100
  let v140 : BitVec 32 := v139
  let c0_i32_108 : BitVec 32 := 0#32
  ![v140.toNat, 0]

def k0_chk19 (i : grid0.Coords) (v138 : BitVec 32) : Prop :=
  (∀ (k0_h1 : k0_cond1 i = 1#1), 8 ∣ (k0_mult37 v138).toNat) ∧
  (∀ (k0_h1 : k0_cond1 i = 1#1), ∀ a, (k0_off57 v138) a + S8x128.size a ≤ S294912x128.size a)
theorem k0_mult37_dvd : ∀ (i : grid0.Coords) (v138 : BitVec 32) (k0_hw19 : k0_chk19 i v138), ∀ (k0_h1 : k0_cond1 i = 1#1), 8 ∣ (k0_mult37 v138).toNat := fun i v138 k0_hw19 k0_h1 => k0_hw19.1 k0_h1
theorem k0_off57_inb : ∀ (i : grid0.Coords) (v138 : BitVec 32) (k0_hw19 : k0_chk19 i v138), ∀ (k0_h1 : k0_cond1 i = 1#1), ∀ a, (k0_off57 v138) a + S8x128.size a ≤ S294912x128.size a := fun i v138 k0_hw19 k0_h1 => k0_hw19.2 k0_h1

def k0_off58 (k0_t2 : Fin k0_t2_loop.trips) : Fin 1 → Nat :=
  let c16384_i32_110 : BitVec 32 := 16384#32
  let c0_i32_71 : BitVec 32 := 0#32
  let c1_i32_73 : BitVec 32 := 1#32
  let arg9 : BitVec 32 := Scf.iv c0_i32_71 c1_i32_73 k0_t2
  let c16_i32_109 : BitVec 32 := 16#32
  let v149 : BitVec 32 := Scalar.muli arg9 c16_i32_109
  let c3_i32 : BitVec 32 := 3#32
  let v150 : BitVec 32 := Scalar.addi v149 c3_i32
  let v151 : BitVec 32 := Scalar.addi c16384_i32_110 v150
  let v152 : Index := Scalar.indexCast v151
  ![v152.toNat]
def k0_mult39 (v153 : BitVec 32) : BitVec 32 :=
  let c8_i32_111 : BitVec 32 := 8#32
  let v154 : BitVec 32 := Scalar.muli v153 c8_i32_111
  v154

def k0_mult40 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_109 : BitVec 32 := 16#32
  let v149 : BitVec 32 := Scalar.muli arg9 c16_i32_109
  let c3_i32 : BitVec 32 := 3#32
  let v150 : BitVec 32 := Scalar.addi v149 c3_i32
  let c8_i32_112 : BitVec 32 := 8#32
  let v156 : BitVec 32 := Scalar.muli v150 c8_i32_112
  v156
def k0_off59 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_109 : BitVec 32 := 16#32
  let v149 : BitVec 32 := Scalar.muli arg9 c16_i32_109
  let c3_i32 : BitVec 32 := 3#32
  let v150 : BitVec 32 := Scalar.addi v149 c3_i32
  let c8_i32_112 : BitVec 32 := 8#32
  let v156 : BitVec 32 := Scalar.muli v150 c8_i32_112
  let v157 : BitVec 32 := v156
  let c0_i32_118 : BitVec 32 := 0#32
  ![v157.toNat, 0]
def k0_off60 (v153 : BitVec 32) : Fin 2 → Nat :=
  let c8_i32_111 : BitVec 32 := 8#32
  let v154 : BitVec 32 := Scalar.muli v153 c8_i32_111
  let v155 : BitVec 32 := v154
  let c0_i32_119 : BitVec 32 := 0#32
  ![v155.toNat, 0]

def k0_chk20 (i : grid0.Coords) (v153 : BitVec 32) : Prop :=
  (∀ (k0_h1 : k0_cond1 i = 1#1), 8 ∣ (k0_mult39 v153).toNat) ∧
  (∀ (k0_h1 : k0_cond1 i = 1#1), ∀ a, (k0_off60 v153) a + S8x128.size a ≤ S294912x128.size a)
theorem k0_mult39_dvd : ∀ (i : grid0.Coords) (v153 : BitVec 32) (k0_hw20 : k0_chk20 i v153), ∀ (k0_h1 : k0_cond1 i = 1#1), 8 ∣ (k0_mult39 v153).toNat := fun i v153 k0_hw20 k0_h1 => k0_hw20.1 k0_h1
theorem k0_off60_inb : ∀ (i : grid0.Coords) (v153 : BitVec 32) (k0_hw20 : k0_chk20 i v153), ∀ (k0_h1 : k0_cond1 i = 1#1), ∀ a, (k0_off60 v153) a + S8x128.size a ≤ S294912x128.size a := fun i v153 k0_hw20 k0_h1 => k0_hw20.2 k0_h1

def k0_off61 (k0_t2 : Fin k0_t2_loop.trips) : Fin 1 → Nat :=
  let c16384_i32_121 : BitVec 32 := 16384#32
  let c0_i32_71 : BitVec 32 := 0#32
  let c1_i32_73 : BitVec 32 := 1#32
  let arg9 : BitVec 32 := Scf.iv c0_i32_71 c1_i32_73 k0_t2
  let c16_i32_120 : BitVec 32 := 16#32
  let v164 : BitVec 32 := Scalar.muli arg9 c16_i32_120
  let c4_i32 : BitVec 32 := 4#32
  let v165 : BitVec 32 := Scalar.addi v164 c4_i32
  let v166 : BitVec 32 := Scalar.addi c16384_i32_121 v165
  let v167 : Index := Scalar.indexCast v166
  ![v167.toNat]
def k0_mult41 (v168 : BitVec 32) : BitVec 32 :=
  let c8_i32_122 : BitVec 32 := 8#32
  let v169 : BitVec 32 := Scalar.muli v168 c8_i32_122
  v169

def k0_mult42 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_120 : BitVec 32 := 16#32
  let v164 : BitVec 32 := Scalar.muli arg9 c16_i32_120
  let c4_i32 : BitVec 32 := 4#32
  let v165 : BitVec 32 := Scalar.addi v164 c4_i32
  let c8_i32_123 : BitVec 32 := 8#32
  let v171 : BitVec 32 := Scalar.muli v165 c8_i32_123
  v171
def k0_off62 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_120 : BitVec 32 := 16#32
  let v164 : BitVec 32 := Scalar.muli arg9 c16_i32_120
  let c4_i32 : BitVec 32 := 4#32
  let v165 : BitVec 32 := Scalar.addi v164 c4_i32
  let c8_i32_123 : BitVec 32 := 8#32
  let v171 : BitVec 32 := Scalar.muli v165 c8_i32_123
  let v172 : BitVec 32 := v171
  let c0_i32_129 : BitVec 32 := 0#32
  ![v172.toNat, 0]
def k0_off63 (v168 : BitVec 32) : Fin 2 → Nat :=
  let c8_i32_122 : BitVec 32 := 8#32
  let v169 : BitVec 32 := Scalar.muli v168 c8_i32_122
  let v170 : BitVec 32 := v169
  let c0_i32_130 : BitVec 32 := 0#32
  ![v170.toNat, 0]

def k0_chk21 (i : grid0.Coords) (v168 : BitVec 32) : Prop :=
  (∀ (k0_h1 : k0_cond1 i = 1#1), 8 ∣ (k0_mult41 v168).toNat) ∧
  (∀ (k0_h1 : k0_cond1 i = 1#1), ∀ a, (k0_off63 v168) a + S8x128.size a ≤ S294912x128.size a)
theorem k0_mult41_dvd : ∀ (i : grid0.Coords) (v168 : BitVec 32) (k0_hw21 : k0_chk21 i v168), ∀ (k0_h1 : k0_cond1 i = 1#1), 8 ∣ (k0_mult41 v168).toNat := fun i v168 k0_hw21 k0_h1 => k0_hw21.1 k0_h1
theorem k0_off63_inb : ∀ (i : grid0.Coords) (v168 : BitVec 32) (k0_hw21 : k0_chk21 i v168), ∀ (k0_h1 : k0_cond1 i = 1#1), ∀ a, (k0_off63 v168) a + S8x128.size a ≤ S294912x128.size a := fun i v168 k0_hw21 k0_h1 => k0_hw21.2 k0_h1

def k0_off64 (k0_t2 : Fin k0_t2_loop.trips) : Fin 1 → Nat :=
  let c16384_i32_132 : BitVec 32 := 16384#32
  let c0_i32_71 : BitVec 32 := 0#32
  let c1_i32_73 : BitVec 32 := 1#32
  let arg9 : BitVec 32 := Scf.iv c0_i32_71 c1_i32_73 k0_t2
  let c16_i32_131 : BitVec 32 := 16#32
  let v179 : BitVec 32 := Scalar.muli arg9 c16_i32_131
  let c5_i32 : BitVec 32 := 5#32
  let v180 : BitVec 32 := Scalar.addi v179 c5_i32
  let v181 : BitVec 32 := Scalar.addi c16384_i32_132 v180
  let v182 : Index := Scalar.indexCast v181
  ![v182.toNat]
def k0_mult43 (v183 : BitVec 32) : BitVec 32 :=
  let c8_i32_133 : BitVec 32 := 8#32
  let v184 : BitVec 32 := Scalar.muli v183 c8_i32_133
  v184

def k0_mult44 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_131 : BitVec 32 := 16#32
  let v179 : BitVec 32 := Scalar.muli arg9 c16_i32_131
  let c5_i32 : BitVec 32 := 5#32
  let v180 : BitVec 32 := Scalar.addi v179 c5_i32
  let c8_i32_134 : BitVec 32 := 8#32
  let v186 : BitVec 32 := Scalar.muli v180 c8_i32_134
  v186
def k0_off65 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_131 : BitVec 32 := 16#32
  let v179 : BitVec 32 := Scalar.muli arg9 c16_i32_131
  let c5_i32 : BitVec 32 := 5#32
  let v180 : BitVec 32 := Scalar.addi v179 c5_i32
  let c8_i32_134 : BitVec 32 := 8#32
  let v186 : BitVec 32 := Scalar.muli v180 c8_i32_134
  let v187 : BitVec 32 := v186
  let c0_i32_140 : BitVec 32 := 0#32
  ![v187.toNat, 0]
def k0_off66 (v183 : BitVec 32) : Fin 2 → Nat :=
  let c8_i32_133 : BitVec 32 := 8#32
  let v184 : BitVec 32 := Scalar.muli v183 c8_i32_133
  let v185 : BitVec 32 := v184
  let c0_i32_141 : BitVec 32 := 0#32
  ![v185.toNat, 0]

def k0_chk22 (i : grid0.Coords) (v183 : BitVec 32) : Prop :=
  (∀ (k0_h1 : k0_cond1 i = 1#1), 8 ∣ (k0_mult43 v183).toNat) ∧
  (∀ (k0_h1 : k0_cond1 i = 1#1), ∀ a, (k0_off66 v183) a + S8x128.size a ≤ S294912x128.size a)
theorem k0_mult43_dvd : ∀ (i : grid0.Coords) (v183 : BitVec 32) (k0_hw22 : k0_chk22 i v183), ∀ (k0_h1 : k0_cond1 i = 1#1), 8 ∣ (k0_mult43 v183).toNat := fun i v183 k0_hw22 k0_h1 => k0_hw22.1 k0_h1
theorem k0_off66_inb : ∀ (i : grid0.Coords) (v183 : BitVec 32) (k0_hw22 : k0_chk22 i v183), ∀ (k0_h1 : k0_cond1 i = 1#1), ∀ a, (k0_off66 v183) a + S8x128.size a ≤ S294912x128.size a := fun i v183 k0_hw22 k0_h1 => k0_hw22.2 k0_h1

def k0_off67 (k0_t2 : Fin k0_t2_loop.trips) : Fin 1 → Nat :=
  let c16384_i32_143 : BitVec 32 := 16384#32
  let c0_i32_71 : BitVec 32 := 0#32
  let c1_i32_73 : BitVec 32 := 1#32
  let arg9 : BitVec 32 := Scf.iv c0_i32_71 c1_i32_73 k0_t2
  let c16_i32_142 : BitVec 32 := 16#32
  let v194 : BitVec 32 := Scalar.muli arg9 c16_i32_142
  let c6_i32 : BitVec 32 := 6#32
  let v195 : BitVec 32 := Scalar.addi v194 c6_i32
  let v196 : BitVec 32 := Scalar.addi c16384_i32_143 v195
  let v197 : Index := Scalar.indexCast v196
  ![v197.toNat]
def k0_mult45 (v198 : BitVec 32) : BitVec 32 :=
  let c8_i32_144 : BitVec 32 := 8#32
  let v199 : BitVec 32 := Scalar.muli v198 c8_i32_144
  v199

def k0_mult46 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_142 : BitVec 32 := 16#32
  let v194 : BitVec 32 := Scalar.muli arg9 c16_i32_142
  let c6_i32 : BitVec 32 := 6#32
  let v195 : BitVec 32 := Scalar.addi v194 c6_i32
  let c8_i32_145 : BitVec 32 := 8#32
  let v201 : BitVec 32 := Scalar.muli v195 c8_i32_145
  v201
def k0_off68 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_142 : BitVec 32 := 16#32
  let v194 : BitVec 32 := Scalar.muli arg9 c16_i32_142
  let c6_i32 : BitVec 32 := 6#32
  let v195 : BitVec 32 := Scalar.addi v194 c6_i32
  let c8_i32_145 : BitVec 32 := 8#32
  let v201 : BitVec 32 := Scalar.muli v195 c8_i32_145
  let v202 : BitVec 32 := v201
  let c0_i32_151 : BitVec 32 := 0#32
  ![v202.toNat, 0]
def k0_off69 (v198 : BitVec 32) : Fin 2 → Nat :=
  let c8_i32_144 : BitVec 32 := 8#32
  let v199 : BitVec 32 := Scalar.muli v198 c8_i32_144
  let v200 : BitVec 32 := v199
  let c0_i32_152 : BitVec 32 := 0#32
  ![v200.toNat, 0]

def k0_chk23 (i : grid0.Coords) (v198 : BitVec 32) : Prop :=
  (∀ (k0_h1 : k0_cond1 i = 1#1), 8 ∣ (k0_mult45 v198).toNat) ∧
  (∀ (k0_h1 : k0_cond1 i = 1#1), ∀ a, (k0_off69 v198) a + S8x128.size a ≤ S294912x128.size a)
theorem k0_mult45_dvd : ∀ (i : grid0.Coords) (v198 : BitVec 32) (k0_hw23 : k0_chk23 i v198), ∀ (k0_h1 : k0_cond1 i = 1#1), 8 ∣ (k0_mult45 v198).toNat := fun i v198 k0_hw23 k0_h1 => k0_hw23.1 k0_h1
theorem k0_off69_inb : ∀ (i : grid0.Coords) (v198 : BitVec 32) (k0_hw23 : k0_chk23 i v198), ∀ (k0_h1 : k0_cond1 i = 1#1), ∀ a, (k0_off69 v198) a + S8x128.size a ≤ S294912x128.size a := fun i v198 k0_hw23 k0_h1 => k0_hw23.2 k0_h1

def k0_off70 (k0_t2 : Fin k0_t2_loop.trips) : Fin 1 → Nat :=
  let c16384_i32_154 : BitVec 32 := 16384#32
  let c0_i32_71 : BitVec 32 := 0#32
  let c1_i32_73 : BitVec 32 := 1#32
  let arg9 : BitVec 32 := Scf.iv c0_i32_71 c1_i32_73 k0_t2
  let c16_i32_153 : BitVec 32 := 16#32
  let v209 : BitVec 32 := Scalar.muli arg9 c16_i32_153
  let c7_i32 : BitVec 32 := 7#32
  let v210 : BitVec 32 := Scalar.addi v209 c7_i32
  let v211 : BitVec 32 := Scalar.addi c16384_i32_154 v210
  let v212 : Index := Scalar.indexCast v211
  ![v212.toNat]
def k0_mult47 (v213 : BitVec 32) : BitVec 32 :=
  let c8_i32_155 : BitVec 32 := 8#32
  let v214 : BitVec 32 := Scalar.muli v213 c8_i32_155
  v214

def k0_mult48 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_153 : BitVec 32 := 16#32
  let v209 : BitVec 32 := Scalar.muli arg9 c16_i32_153
  let c7_i32 : BitVec 32 := 7#32
  let v210 : BitVec 32 := Scalar.addi v209 c7_i32
  let c8_i32_156 : BitVec 32 := 8#32
  let v216 : BitVec 32 := Scalar.muli v210 c8_i32_156
  v216
def k0_off71 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_153 : BitVec 32 := 16#32
  let v209 : BitVec 32 := Scalar.muli arg9 c16_i32_153
  let c7_i32 : BitVec 32 := 7#32
  let v210 : BitVec 32 := Scalar.addi v209 c7_i32
  let c8_i32_156 : BitVec 32 := 8#32
  let v216 : BitVec 32 := Scalar.muli v210 c8_i32_156
  let v217 : BitVec 32 := v216
  let c0_i32_162 : BitVec 32 := 0#32
  ![v217.toNat, 0]
def k0_off72 (v213 : BitVec 32) : Fin 2 → Nat :=
  let c8_i32_155 : BitVec 32 := 8#32
  let v214 : BitVec 32 := Scalar.muli v213 c8_i32_155
  let v215 : BitVec 32 := v214
  let c0_i32_163 : BitVec 32 := 0#32
  ![v215.toNat, 0]

def k0_chk24 (i : grid0.Coords) (v213 : BitVec 32) : Prop :=
  (∀ (k0_h1 : k0_cond1 i = 1#1), 8 ∣ (k0_mult47 v213).toNat) ∧
  (∀ (k0_h1 : k0_cond1 i = 1#1), ∀ a, (k0_off72 v213) a + S8x128.size a ≤ S294912x128.size a)
theorem k0_mult47_dvd : ∀ (i : grid0.Coords) (v213 : BitVec 32) (k0_hw24 : k0_chk24 i v213), ∀ (k0_h1 : k0_cond1 i = 1#1), 8 ∣ (k0_mult47 v213).toNat := fun i v213 k0_hw24 k0_h1 => k0_hw24.1 k0_h1
theorem k0_off72_inb : ∀ (i : grid0.Coords) (v213 : BitVec 32) (k0_hw24 : k0_chk24 i v213), ∀ (k0_h1 : k0_cond1 i = 1#1), ∀ a, (k0_off72 v213) a + S8x128.size a ≤ S294912x128.size a := fun i v213 k0_hw24 k0_h1 => k0_hw24.2 k0_h1

def k0_off73 (k0_t2 : Fin k0_t2_loop.trips) : Fin 1 → Nat :=
  let c16384_i32_166 : BitVec 32 := 16384#32
  let c0_i32_71 : BitVec 32 := 0#32
  let c1_i32_73 : BitVec 32 := 1#32
  let arg9 : BitVec 32 := Scf.iv c0_i32_71 c1_i32_73 k0_t2
  let c16_i32_164 : BitVec 32 := 16#32
  let v224 : BitVec 32 := Scalar.muli arg9 c16_i32_164
  let c8_i32_165 : BitVec 32 := 8#32
  let v225 : BitVec 32 := Scalar.addi v224 c8_i32_165
  let v226 : BitVec 32 := Scalar.addi c16384_i32_166 v225
  let v227 : Index := Scalar.indexCast v226
  ![v227.toNat]
def k0_mult49 (v228 : BitVec 32) : BitVec 32 :=
  let c8_i32_167 : BitVec 32 := 8#32
  let v229 : BitVec 32 := Scalar.muli v228 c8_i32_167
  v229

def k0_mult50 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_164 : BitVec 32 := 16#32
  let v224 : BitVec 32 := Scalar.muli arg9 c16_i32_164
  let c8_i32_165 : BitVec 32 := 8#32
  let v225 : BitVec 32 := Scalar.addi v224 c8_i32_165
  let c8_i32_168 : BitVec 32 := 8#32
  let v231 : BitVec 32 := Scalar.muli v225 c8_i32_168
  v231
def k0_off74 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_164 : BitVec 32 := 16#32
  let v224 : BitVec 32 := Scalar.muli arg9 c16_i32_164
  let c8_i32_165 : BitVec 32 := 8#32
  let v225 : BitVec 32 := Scalar.addi v224 c8_i32_165
  let c8_i32_168 : BitVec 32 := 8#32
  let v231 : BitVec 32 := Scalar.muli v225 c8_i32_168
  let v232 : BitVec 32 := v231
  let c0_i32_174 : BitVec 32 := 0#32
  ![v232.toNat, 0]
def k0_off75 (v228 : BitVec 32) : Fin 2 → Nat :=
  let c8_i32_167 : BitVec 32 := 8#32
  let v229 : BitVec 32 := Scalar.muli v228 c8_i32_167
  let v230 : BitVec 32 := v229
  let c0_i32_175 : BitVec 32 := 0#32
  ![v230.toNat, 0]

def k0_chk25 (i : grid0.Coords) (v228 : BitVec 32) : Prop :=
  (∀ (k0_h1 : k0_cond1 i = 1#1), 8 ∣ (k0_mult49 v228).toNat) ∧
  (∀ (k0_h1 : k0_cond1 i = 1#1), ∀ a, (k0_off75 v228) a + S8x128.size a ≤ S294912x128.size a)
theorem k0_mult49_dvd : ∀ (i : grid0.Coords) (v228 : BitVec 32) (k0_hw25 : k0_chk25 i v228), ∀ (k0_h1 : k0_cond1 i = 1#1), 8 ∣ (k0_mult49 v228).toNat := fun i v228 k0_hw25 k0_h1 => k0_hw25.1 k0_h1
theorem k0_off75_inb : ∀ (i : grid0.Coords) (v228 : BitVec 32) (k0_hw25 : k0_chk25 i v228), ∀ (k0_h1 : k0_cond1 i = 1#1), ∀ a, (k0_off75 v228) a + S8x128.size a ≤ S294912x128.size a := fun i v228 k0_hw25 k0_h1 => k0_hw25.2 k0_h1

def k0_off76 (k0_t2 : Fin k0_t2_loop.trips) : Fin 1 → Nat :=
  let c16384_i32_177 : BitVec 32 := 16384#32
  let c0_i32_71 : BitVec 32 := 0#32
  let c1_i32_73 : BitVec 32 := 1#32
  let arg9 : BitVec 32 := Scf.iv c0_i32_71 c1_i32_73 k0_t2
  let c16_i32_176 : BitVec 32 := 16#32
  let v239 : BitVec 32 := Scalar.muli arg9 c16_i32_176
  let c9_i32 : BitVec 32 := 9#32
  let v240 : BitVec 32 := Scalar.addi v239 c9_i32
  let v241 : BitVec 32 := Scalar.addi c16384_i32_177 v240
  let v242 : Index := Scalar.indexCast v241
  ![v242.toNat]
def k0_mult51 (v243 : BitVec 32) : BitVec 32 :=
  let c8_i32_178 : BitVec 32 := 8#32
  let v244 : BitVec 32 := Scalar.muli v243 c8_i32_178
  v244

def k0_mult52 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_176 : BitVec 32 := 16#32
  let v239 : BitVec 32 := Scalar.muli arg9 c16_i32_176
  let c9_i32 : BitVec 32 := 9#32
  let v240 : BitVec 32 := Scalar.addi v239 c9_i32
  let c8_i32_179 : BitVec 32 := 8#32
  let v246 : BitVec 32 := Scalar.muli v240 c8_i32_179
  v246
def k0_off77 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_176 : BitVec 32 := 16#32
  let v239 : BitVec 32 := Scalar.muli arg9 c16_i32_176
  let c9_i32 : BitVec 32 := 9#32
  let v240 : BitVec 32 := Scalar.addi v239 c9_i32
  let c8_i32_179 : BitVec 32 := 8#32
  let v246 : BitVec 32 := Scalar.muli v240 c8_i32_179
  let v247 : BitVec 32 := v246
  let c0_i32_185 : BitVec 32 := 0#32
  ![v247.toNat, 0]
def k0_off78 (v243 : BitVec 32) : Fin 2 → Nat :=
  let c8_i32_178 : BitVec 32 := 8#32
  let v244 : BitVec 32 := Scalar.muli v243 c8_i32_178
  let v245 : BitVec 32 := v244
  let c0_i32_186 : BitVec 32 := 0#32
  ![v245.toNat, 0]

def k0_chk26 (i : grid0.Coords) (v243 : BitVec 32) : Prop :=
  (∀ (k0_h1 : k0_cond1 i = 1#1), 8 ∣ (k0_mult51 v243).toNat) ∧
  (∀ (k0_h1 : k0_cond1 i = 1#1), ∀ a, (k0_off78 v243) a + S8x128.size a ≤ S294912x128.size a)
theorem k0_mult51_dvd : ∀ (i : grid0.Coords) (v243 : BitVec 32) (k0_hw26 : k0_chk26 i v243), ∀ (k0_h1 : k0_cond1 i = 1#1), 8 ∣ (k0_mult51 v243).toNat := fun i v243 k0_hw26 k0_h1 => k0_hw26.1 k0_h1
theorem k0_off78_inb : ∀ (i : grid0.Coords) (v243 : BitVec 32) (k0_hw26 : k0_chk26 i v243), ∀ (k0_h1 : k0_cond1 i = 1#1), ∀ a, (k0_off78 v243) a + S8x128.size a ≤ S294912x128.size a := fun i v243 k0_hw26 k0_h1 => k0_hw26.2 k0_h1

def k0_off79 (k0_t2 : Fin k0_t2_loop.trips) : Fin 1 → Nat :=
  let c16384_i32_188 : BitVec 32 := 16384#32
  let c0_i32_71 : BitVec 32 := 0#32
  let c1_i32_73 : BitVec 32 := 1#32
  let arg9 : BitVec 32 := Scf.iv c0_i32_71 c1_i32_73 k0_t2
  let c16_i32_187 : BitVec 32 := 16#32
  let v254 : BitVec 32 := Scalar.muli arg9 c16_i32_187
  let c10_i32 : BitVec 32 := 10#32
  let v255 : BitVec 32 := Scalar.addi v254 c10_i32
  let v256 : BitVec 32 := Scalar.addi c16384_i32_188 v255
  let v257 : Index := Scalar.indexCast v256
  ![v257.toNat]
def k0_mult53 (v258 : BitVec 32) : BitVec 32 :=
  let c8_i32_189 : BitVec 32 := 8#32
  let v259 : BitVec 32 := Scalar.muli v258 c8_i32_189
  v259

def k0_mult54 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_187 : BitVec 32 := 16#32
  let v254 : BitVec 32 := Scalar.muli arg9 c16_i32_187
  let c10_i32 : BitVec 32 := 10#32
  let v255 : BitVec 32 := Scalar.addi v254 c10_i32
  let c8_i32_190 : BitVec 32 := 8#32
  let v261 : BitVec 32 := Scalar.muli v255 c8_i32_190
  v261
def k0_off80 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_187 : BitVec 32 := 16#32
  let v254 : BitVec 32 := Scalar.muli arg9 c16_i32_187
  let c10_i32 : BitVec 32 := 10#32
  let v255 : BitVec 32 := Scalar.addi v254 c10_i32
  let c8_i32_190 : BitVec 32 := 8#32
  let v261 : BitVec 32 := Scalar.muli v255 c8_i32_190
  let v262 : BitVec 32 := v261
  let c0_i32_196 : BitVec 32 := 0#32
  ![v262.toNat, 0]
def k0_off81 (v258 : BitVec 32) : Fin 2 → Nat :=
  let c8_i32_189 : BitVec 32 := 8#32
  let v259 : BitVec 32 := Scalar.muli v258 c8_i32_189
  let v260 : BitVec 32 := v259
  let c0_i32_197 : BitVec 32 := 0#32
  ![v260.toNat, 0]

def k0_chk27 (i : grid0.Coords) (v258 : BitVec 32) : Prop :=
  (∀ (k0_h1 : k0_cond1 i = 1#1), 8 ∣ (k0_mult53 v258).toNat) ∧
  (∀ (k0_h1 : k0_cond1 i = 1#1), ∀ a, (k0_off81 v258) a + S8x128.size a ≤ S294912x128.size a)
theorem k0_mult53_dvd : ∀ (i : grid0.Coords) (v258 : BitVec 32) (k0_hw27 : k0_chk27 i v258), ∀ (k0_h1 : k0_cond1 i = 1#1), 8 ∣ (k0_mult53 v258).toNat := fun i v258 k0_hw27 k0_h1 => k0_hw27.1 k0_h1
theorem k0_off81_inb : ∀ (i : grid0.Coords) (v258 : BitVec 32) (k0_hw27 : k0_chk27 i v258), ∀ (k0_h1 : k0_cond1 i = 1#1), ∀ a, (k0_off81 v258) a + S8x128.size a ≤ S294912x128.size a := fun i v258 k0_hw27 k0_h1 => k0_hw27.2 k0_h1

def k0_off82 (k0_t2 : Fin k0_t2_loop.trips) : Fin 1 → Nat :=
  let c16384_i32_199 : BitVec 32 := 16384#32
  let c0_i32_71 : BitVec 32 := 0#32
  let c1_i32_73 : BitVec 32 := 1#32
  let arg9 : BitVec 32 := Scf.iv c0_i32_71 c1_i32_73 k0_t2
  let c16_i32_198 : BitVec 32 := 16#32
  let v269 : BitVec 32 := Scalar.muli arg9 c16_i32_198
  let c11_i32 : BitVec 32 := 11#32
  let v270 : BitVec 32 := Scalar.addi v269 c11_i32
  let v271 : BitVec 32 := Scalar.addi c16384_i32_199 v270
  let v272 : Index := Scalar.indexCast v271
  ![v272.toNat]
def k0_mult55 (v273 : BitVec 32) : BitVec 32 :=
  let c8_i32_200 : BitVec 32 := 8#32
  let v274 : BitVec 32 := Scalar.muli v273 c8_i32_200
  v274

def k0_mult56 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_198 : BitVec 32 := 16#32
  let v269 : BitVec 32 := Scalar.muli arg9 c16_i32_198
  let c11_i32 : BitVec 32 := 11#32
  let v270 : BitVec 32 := Scalar.addi v269 c11_i32
  let c8_i32_201 : BitVec 32 := 8#32
  let v276 : BitVec 32 := Scalar.muli v270 c8_i32_201
  v276
def k0_off83 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_198 : BitVec 32 := 16#32
  let v269 : BitVec 32 := Scalar.muli arg9 c16_i32_198
  let c11_i32 : BitVec 32 := 11#32
  let v270 : BitVec 32 := Scalar.addi v269 c11_i32
  let c8_i32_201 : BitVec 32 := 8#32
  let v276 : BitVec 32 := Scalar.muli v270 c8_i32_201
  let v277 : BitVec 32 := v276
  let c0_i32_207 : BitVec 32 := 0#32
  ![v277.toNat, 0]
def k0_off84 (v273 : BitVec 32) : Fin 2 → Nat :=
  let c8_i32_200 : BitVec 32 := 8#32
  let v274 : BitVec 32 := Scalar.muli v273 c8_i32_200
  let v275 : BitVec 32 := v274
  let c0_i32_208 : BitVec 32 := 0#32
  ![v275.toNat, 0]

def k0_chk28 (i : grid0.Coords) (v273 : BitVec 32) : Prop :=
  (∀ (k0_h1 : k0_cond1 i = 1#1), 8 ∣ (k0_mult55 v273).toNat) ∧
  (∀ (k0_h1 : k0_cond1 i = 1#1), ∀ a, (k0_off84 v273) a + S8x128.size a ≤ S294912x128.size a)
theorem k0_mult55_dvd : ∀ (i : grid0.Coords) (v273 : BitVec 32) (k0_hw28 : k0_chk28 i v273), ∀ (k0_h1 : k0_cond1 i = 1#1), 8 ∣ (k0_mult55 v273).toNat := fun i v273 k0_hw28 k0_h1 => k0_hw28.1 k0_h1
theorem k0_off84_inb : ∀ (i : grid0.Coords) (v273 : BitVec 32) (k0_hw28 : k0_chk28 i v273), ∀ (k0_h1 : k0_cond1 i = 1#1), ∀ a, (k0_off84 v273) a + S8x128.size a ≤ S294912x128.size a := fun i v273 k0_hw28 k0_h1 => k0_hw28.2 k0_h1

def k0_off85 (k0_t2 : Fin k0_t2_loop.trips) : Fin 1 → Nat :=
  let c16384_i32_210 : BitVec 32 := 16384#32
  let c0_i32_71 : BitVec 32 := 0#32
  let c1_i32_73 : BitVec 32 := 1#32
  let arg9 : BitVec 32 := Scf.iv c0_i32_71 c1_i32_73 k0_t2
  let c16_i32_209 : BitVec 32 := 16#32
  let v284 : BitVec 32 := Scalar.muli arg9 c16_i32_209
  let c12_i32 : BitVec 32 := 12#32
  let v285 : BitVec 32 := Scalar.addi v284 c12_i32
  let v286 : BitVec 32 := Scalar.addi c16384_i32_210 v285
  let v287 : Index := Scalar.indexCast v286
  ![v287.toNat]
def k0_mult57 (v288 : BitVec 32) : BitVec 32 :=
  let c8_i32_211 : BitVec 32 := 8#32
  let v289 : BitVec 32 := Scalar.muli v288 c8_i32_211
  v289

def k0_mult58 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_209 : BitVec 32 := 16#32
  let v284 : BitVec 32 := Scalar.muli arg9 c16_i32_209
  let c12_i32 : BitVec 32 := 12#32
  let v285 : BitVec 32 := Scalar.addi v284 c12_i32
  let c8_i32_212 : BitVec 32 := 8#32
  let v291 : BitVec 32 := Scalar.muli v285 c8_i32_212
  v291
def k0_off86 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_209 : BitVec 32 := 16#32
  let v284 : BitVec 32 := Scalar.muli arg9 c16_i32_209
  let c12_i32 : BitVec 32 := 12#32
  let v285 : BitVec 32 := Scalar.addi v284 c12_i32
  let c8_i32_212 : BitVec 32 := 8#32
  let v291 : BitVec 32 := Scalar.muli v285 c8_i32_212
  let v292 : BitVec 32 := v291
  let c0_i32_218 : BitVec 32 := 0#32
  ![v292.toNat, 0]
def k0_off87 (v288 : BitVec 32) : Fin 2 → Nat :=
  let c8_i32_211 : BitVec 32 := 8#32
  let v289 : BitVec 32 := Scalar.muli v288 c8_i32_211
  let v290 : BitVec 32 := v289
  let c0_i32_219 : BitVec 32 := 0#32
  ![v290.toNat, 0]

def k0_chk29 (i : grid0.Coords) (v288 : BitVec 32) : Prop :=
  (∀ (k0_h1 : k0_cond1 i = 1#1), 8 ∣ (k0_mult57 v288).toNat) ∧
  (∀ (k0_h1 : k0_cond1 i = 1#1), ∀ a, (k0_off87 v288) a + S8x128.size a ≤ S294912x128.size a)
theorem k0_mult57_dvd : ∀ (i : grid0.Coords) (v288 : BitVec 32) (k0_hw29 : k0_chk29 i v288), ∀ (k0_h1 : k0_cond1 i = 1#1), 8 ∣ (k0_mult57 v288).toNat := fun i v288 k0_hw29 k0_h1 => k0_hw29.1 k0_h1
theorem k0_off87_inb : ∀ (i : grid0.Coords) (v288 : BitVec 32) (k0_hw29 : k0_chk29 i v288), ∀ (k0_h1 : k0_cond1 i = 1#1), ∀ a, (k0_off87 v288) a + S8x128.size a ≤ S294912x128.size a := fun i v288 k0_hw29 k0_h1 => k0_hw29.2 k0_h1

def k0_off88 (k0_t2 : Fin k0_t2_loop.trips) : Fin 1 → Nat :=
  let c16384_i32_221 : BitVec 32 := 16384#32
  let c0_i32_71 : BitVec 32 := 0#32
  let c1_i32_73 : BitVec 32 := 1#32
  let arg9 : BitVec 32 := Scf.iv c0_i32_71 c1_i32_73 k0_t2
  let c16_i32_220 : BitVec 32 := 16#32
  let v299 : BitVec 32 := Scalar.muli arg9 c16_i32_220
  let c13_i32 : BitVec 32 := 13#32
  let v300 : BitVec 32 := Scalar.addi v299 c13_i32
  let v301 : BitVec 32 := Scalar.addi c16384_i32_221 v300
  let v302 : Index := Scalar.indexCast v301
  ![v302.toNat]
def k0_mult59 (v303 : BitVec 32) : BitVec 32 :=
  let c8_i32_222 : BitVec 32 := 8#32
  let v304 : BitVec 32 := Scalar.muli v303 c8_i32_222
  v304

def k0_mult60 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_220 : BitVec 32 := 16#32
  let v299 : BitVec 32 := Scalar.muli arg9 c16_i32_220
  let c13_i32 : BitVec 32 := 13#32
  let v300 : BitVec 32 := Scalar.addi v299 c13_i32
  let c8_i32_223 : BitVec 32 := 8#32
  let v306 : BitVec 32 := Scalar.muli v300 c8_i32_223
  v306
def k0_off89 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_220 : BitVec 32 := 16#32
  let v299 : BitVec 32 := Scalar.muli arg9 c16_i32_220
  let c13_i32 : BitVec 32 := 13#32
  let v300 : BitVec 32 := Scalar.addi v299 c13_i32
  let c8_i32_223 : BitVec 32 := 8#32
  let v306 : BitVec 32 := Scalar.muli v300 c8_i32_223
  let v307 : BitVec 32 := v306
  let c0_i32_229 : BitVec 32 := 0#32
  ![v307.toNat, 0]
def k0_off90 (v303 : BitVec 32) : Fin 2 → Nat :=
  let c8_i32_222 : BitVec 32 := 8#32
  let v304 : BitVec 32 := Scalar.muli v303 c8_i32_222
  let v305 : BitVec 32 := v304
  let c0_i32_230 : BitVec 32 := 0#32
  ![v305.toNat, 0]

def k0_chk30 (i : grid0.Coords) (v303 : BitVec 32) : Prop :=
  (∀ (k0_h1 : k0_cond1 i = 1#1), 8 ∣ (k0_mult59 v303).toNat) ∧
  (∀ (k0_h1 : k0_cond1 i = 1#1), ∀ a, (k0_off90 v303) a + S8x128.size a ≤ S294912x128.size a)
theorem k0_mult59_dvd : ∀ (i : grid0.Coords) (v303 : BitVec 32) (k0_hw30 : k0_chk30 i v303), ∀ (k0_h1 : k0_cond1 i = 1#1), 8 ∣ (k0_mult59 v303).toNat := fun i v303 k0_hw30 k0_h1 => k0_hw30.1 k0_h1
theorem k0_off90_inb : ∀ (i : grid0.Coords) (v303 : BitVec 32) (k0_hw30 : k0_chk30 i v303), ∀ (k0_h1 : k0_cond1 i = 1#1), ∀ a, (k0_off90 v303) a + S8x128.size a ≤ S294912x128.size a := fun i v303 k0_hw30 k0_h1 => k0_hw30.2 k0_h1

def k0_off91 (k0_t2 : Fin k0_t2_loop.trips) : Fin 1 → Nat :=
  let c16384_i32_232 : BitVec 32 := 16384#32
  let c0_i32_71 : BitVec 32 := 0#32
  let c1_i32_73 : BitVec 32 := 1#32
  let arg9 : BitVec 32 := Scf.iv c0_i32_71 c1_i32_73 k0_t2
  let c16_i32_231 : BitVec 32 := 16#32
  let v314 : BitVec 32 := Scalar.muli arg9 c16_i32_231
  let c14_i32 : BitVec 32 := 14#32
  let v315 : BitVec 32 := Scalar.addi v314 c14_i32
  let v316 : BitVec 32 := Scalar.addi c16384_i32_232 v315
  let v317 : Index := Scalar.indexCast v316
  ![v317.toNat]
def k0_mult61 (v318 : BitVec 32) : BitVec 32 :=
  let c8_i32_233 : BitVec 32 := 8#32
  let v319 : BitVec 32 := Scalar.muli v318 c8_i32_233
  v319

def k0_mult62 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_231 : BitVec 32 := 16#32
  let v314 : BitVec 32 := Scalar.muli arg9 c16_i32_231
  let c14_i32 : BitVec 32 := 14#32
  let v315 : BitVec 32 := Scalar.addi v314 c14_i32
  let c8_i32_234 : BitVec 32 := 8#32
  let v321 : BitVec 32 := Scalar.muli v315 c8_i32_234
  v321
def k0_off92 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_231 : BitVec 32 := 16#32
  let v314 : BitVec 32 := Scalar.muli arg9 c16_i32_231
  let c14_i32 : BitVec 32 := 14#32
  let v315 : BitVec 32 := Scalar.addi v314 c14_i32
  let c8_i32_234 : BitVec 32 := 8#32
  let v321 : BitVec 32 := Scalar.muli v315 c8_i32_234
  let v322 : BitVec 32 := v321
  let c0_i32_240 : BitVec 32 := 0#32
  ![v322.toNat, 0]
def k0_off93 (v318 : BitVec 32) : Fin 2 → Nat :=
  let c8_i32_233 : BitVec 32 := 8#32
  let v319 : BitVec 32 := Scalar.muli v318 c8_i32_233
  let v320 : BitVec 32 := v319
  let c0_i32_241 : BitVec 32 := 0#32
  ![v320.toNat, 0]

def k0_chk31 (i : grid0.Coords) (v318 : BitVec 32) : Prop :=
  (∀ (k0_h1 : k0_cond1 i = 1#1), 8 ∣ (k0_mult61 v318).toNat) ∧
  (∀ (k0_h1 : k0_cond1 i = 1#1), ∀ a, (k0_off93 v318) a + S8x128.size a ≤ S294912x128.size a)
theorem k0_mult61_dvd : ∀ (i : grid0.Coords) (v318 : BitVec 32) (k0_hw31 : k0_chk31 i v318), ∀ (k0_h1 : k0_cond1 i = 1#1), 8 ∣ (k0_mult61 v318).toNat := fun i v318 k0_hw31 k0_h1 => k0_hw31.1 k0_h1
theorem k0_off93_inb : ∀ (i : grid0.Coords) (v318 : BitVec 32) (k0_hw31 : k0_chk31 i v318), ∀ (k0_h1 : k0_cond1 i = 1#1), ∀ a, (k0_off93 v318) a + S8x128.size a ≤ S294912x128.size a := fun i v318 k0_hw31 k0_h1 => k0_hw31.2 k0_h1

def k0_off94 (k0_t2 : Fin k0_t2_loop.trips) : Fin 1 → Nat :=
  let c16384_i32_243 : BitVec 32 := 16384#32
  let c0_i32_71 : BitVec 32 := 0#32
  let c1_i32_73 : BitVec 32 := 1#32
  let arg9 : BitVec 32 := Scf.iv c0_i32_71 c1_i32_73 k0_t2
  let c16_i32_242 : BitVec 32 := 16#32
  let v329 : BitVec 32 := Scalar.muli arg9 c16_i32_242
  let c15_i32 : BitVec 32 := 15#32
  let v330 : BitVec 32 := Scalar.addi v329 c15_i32
  let v331 : BitVec 32 := Scalar.addi c16384_i32_243 v330
  let v332 : Index := Scalar.indexCast v331
  ![v332.toNat]
def k0_mult63 (v333 : BitVec 32) : BitVec 32 :=
  let c8_i32_244 : BitVec 32 := 8#32
  let v334 : BitVec 32 := Scalar.muli v333 c8_i32_244
  v334

def k0_mult64 (k0_t2 : Fin k0_t2_loop.trips) : BitVec 32 :=
  let c0_i32_71 : BitVec 32 := 0#32
  let c1_i32_73 : BitVec 32 := 1#32
  let arg9 : BitVec 32 := Scf.iv c0_i32_71 c1_i32_73 k0_t2
  let c16_i32_242 : BitVec 32 := 16#32
  let v329 : BitVec 32 := Scalar.muli arg9 c16_i32_242
  let c15_i32 : BitVec 32 := 15#32
  let v330 : BitVec 32 := Scalar.addi v329 c15_i32
  let c8_i32_245 : BitVec 32 := 8#32
  let v336 : BitVec 32 := Scalar.muli v330 c8_i32_245
  v336
def k0_off95 (k0_t2 : Fin k0_t2_loop.trips) : Fin 2 → Nat :=
  let c0_i32_71 : BitVec 32 := 0#32
  let c1_i32_73 : BitVec 32 := 1#32
  let arg9 : BitVec 32 := Scf.iv c0_i32_71 c1_i32_73 k0_t2
  let c16_i32_242 : BitVec 32 := 16#32
  let v329 : BitVec 32 := Scalar.muli arg9 c16_i32_242
  let c15_i32 : BitVec 32 := 15#32
  let v330 : BitVec 32 := Scalar.addi v329 c15_i32
  let c8_i32_245 : BitVec 32 := 8#32
  let v336 : BitVec 32 := Scalar.muli v330 c8_i32_245
  let v337 : BitVec 32 := v336
  let c0_i32_251 : BitVec 32 := 0#32
  ![v337.toNat, 0]
def k0_off96 (v333 : BitVec 32) : Fin 2 → Nat :=
  let c8_i32_244 : BitVec 32 := 8#32
  let v334 : BitVec 32 := Scalar.muli v333 c8_i32_244
  let v335 : BitVec 32 := v334
  let c0_i32_252 : BitVec 32 := 0#32
  ![v335.toNat, 0]

def k0_chk32 (i : grid0.Coords) (v333 : BitVec 32) : Prop :=
  (∀ (k0_h1 : k0_cond1 i = 1#1), 8 ∣ (k0_mult63 v333).toNat) ∧
  (∀ (k0_h1 : k0_cond1 i = 1#1), ∀ a, (k0_off96 v333) a + S8x128.size a ≤ S294912x128.size a)
theorem k0_mult63_dvd : ∀ (i : grid0.Coords) (v333 : BitVec 32) (k0_hw32 : k0_chk32 i v333), ∀ (k0_h1 : k0_cond1 i = 1#1), 8 ∣ (k0_mult63 v333).toNat := fun i v333 k0_hw32 k0_h1 => k0_hw32.1 k0_h1
theorem k0_off96_inb : ∀ (i : grid0.Coords) (v333 : BitVec 32) (k0_hw32 : k0_chk32 i v333), ∀ (k0_h1 : k0_cond1 i = 1#1), ∀ a, (k0_off96 v333) a + S8x128.size a ≤ S294912x128.size a := fun i v333 k0_hw32 k0_h1 => k0_hw32.2 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

@[reducible] def k0_t3_loop : Scf.Loop 32 :=
  let c0_i32_75 : BitVec 32 := 0#32
  let c32_i32_76 : BitVec 32 := 32#32
  let v114 : BitVec 32 := Scalar.addi c0_i32_75 c32_i32_76
  let c1_i32_77 : BitVec 32 := 1#32
  ⟨c0_i32_75, v114, c1_i32_77⟩
def k0_off97 (i : grid0.Coords) (k0_t3 : Fin k0_t3_loop.trips) : Fin 1 → Nat :=
  let c0_i32_85 : BitVec 32 := 0#32
  let arg0 : BitVec 32 := BitVec.ofNat 32 (i 0).val
  let c1_i32_67 : BitVec 32 := 1#32
  let v102 : BitVec 32 := Scalar.addi arg0 c1_i32_67
  let c512_i32 : BitVec 32 := 512#32
  let v118 : BitVec 32 := Scalar.muli v102 c512_i32
  let v119 : BitVec 32 := Scalar.addi c0_i32_85 v118
  let c0_i32_75 : BitVec 32 := 0#32
  let c1_i32_77 : BitVec 32 := 1#32
  let arg9 : BitVec 32 := Scf.iv c0_i32_75 c1_i32_77 k0_t3
  let c16_i32_83 : BitVec 32 := 16#32
  let v116 : BitVec 32 := Scalar.muli arg9 c16_i32_83
  let c0_i32_84 : BitVec 32 := 0#32
  let v117 : BitVec 32 := Scalar.addi v116 c0_i32_84
  let v120 : BitVec 32 := Scalar.addi v119 v117
  let v121 : Index := Scalar.indexCast v120
  ![v121.toNat]
def k0_mult65 (v122 : BitVec 32) : BitVec 32 :=
  let c8_i32 : BitVec 32 := 8#32
  let v123 : BitVec 32 := Scalar.muli v122 c8_i32
  v123

def k0_mult66 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_83 : BitVec 32 := 16#32
  let v116 : BitVec 32 := Scalar.muli arg9 c16_i32_83
  let c0_i32_84 : BitVec 32 := 0#32
  let v117 : BitVec 32 := Scalar.addi v116 c0_i32_84
  let c8_i32_86 : BitVec 32 := 8#32
  let v125 : BitVec 32 := Scalar.muli v117 c8_i32_86
  v125
def k0_off98 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off99 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_87 : BitVec 32 := 0#32
  let c0_i32_88 : BitVec 32 := 0#32
  let c0_i32_89 : BitVec 32 := 0#32
  ![v113.toNat, 0, 0, 0]
def k0_off100 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_83 : BitVec 32 := 16#32
  let v116 : BitVec 32 := Scalar.muli arg9 c16_i32_83
  let c0_i32_84 : BitVec 32 := 0#32
  let v117 : BitVec 32 := Scalar.addi v116 c0_i32_84
  let c8_i32_86 : BitVec 32 := 8#32
  let v125 : BitVec 32 := Scalar.muli v117 c8_i32_86
  let v126 : BitVec 32 := v125
  let c0_i32_90 : BitVec 32 := 0#32
  ![v126.toNat, 0]
def k0_off101 (v122 : BitVec 32) : Fin 2 → Nat :=
  let c8_i32 : BitVec 32 := 8#32
  let v123 : BitVec 32 := Scalar.muli v122 c8_i32
  let v124 : BitVec 32 := v123
  let c0_i32_91 : BitVec 32 := 0#32
  ![v124.toNat, 0]

def k0_chk33 (i : grid0.Coords) (v122 : BitVec 32) : Prop :=
  (∀ (k0_h2 : k0_cond2 i = 1#1), 8 ∣ (k0_mult65 v122).toNat) ∧
  (∀ (k0_h2 : k0_cond2 i = 1#1), ∀ a, (k0_off101 v122) a + S8x128.size a ≤ S294912x128.size a)
theorem k0_mult65_dvd : ∀ (i : grid0.Coords) (v122 : BitVec 32) (k0_hw33 : k0_chk33 i v122), ∀ (k0_h2 : k0_cond2 i = 1#1), 8 ∣ (k0_mult65 v122).toNat := fun i v122 k0_hw33 k0_h2 => k0_hw33.1 k0_h2
theorem k0_off101_inb : ∀ (i : grid0.Coords) (v122 : BitVec 32) (k0_hw33 : k0_chk33 i v122), ∀ (k0_h2 : k0_cond2 i = 1#1), ∀ a, (k0_off101 v122) a + S8x128.size a ≤ S294912x128.size a := fun i v122 k0_hw33 k0_h2 => k0_hw33.2 k0_h2

def k0_off102 (i : grid0.Coords) (k0_t3 : Fin k0_t3_loop.trips) : Fin 1 → Nat :=
  let c0_i32_95 : BitVec 32 := 0#32
  let arg0 : BitVec 32 := BitVec.ofNat 32 (i 0).val
  let c1_i32_67 : BitVec 32 := 1#32
  let v102 : BitVec 32 := Scalar.addi arg0 c1_i32_67
  let c512_i32_94 : BitVec 32 := 512#32
  let v135 : BitVec 32 := Scalar.muli v102 c512_i32_94
  let v136 : BitVec 32 := Scalar.addi c0_i32_95 v135
  let c0_i32_75 : BitVec 32 := 0#32
  let c1_i32_77 : BitVec 32 := 1#32
  let arg9 : BitVec 32 := Scf.iv c0_i32_75 c1_i32_77 k0_t3
  let c16_i32_92 : BitVec 32 := 16#32
  let v133 : BitVec 32 := Scalar.muli arg9 c16_i32_92
  let c1_i32_93 : BitVec 32 := 1#32
  let v134 : BitVec 32 := Scalar.addi v133 c1_i32_93
  let v137 : BitVec 32 := Scalar.addi v136 v134
  let v138 : Index := Scalar.indexCast v137
  ![v138.toNat]
def k0_mult67 (v139 : BitVec 32) : BitVec 32 :=
  let c8_i32_96 : BitVec 32 := 8#32
  let v140 : BitVec 32 := Scalar.muli v139 c8_i32_96
  v140

def k0_mult68 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_92 : BitVec 32 := 16#32
  let v133 : BitVec 32 := Scalar.muli arg9 c16_i32_92
  let c1_i32_93 : BitVec 32 := 1#32
  let v134 : BitVec 32 := Scalar.addi v133 c1_i32_93
  let c8_i32_97 : BitVec 32 := 8#32
  let v142 : BitVec 32 := Scalar.muli v134 c8_i32_97
  v142
def k0_off103 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off104 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_98 : BitVec 32 := 0#32
  let c0_i32_99 : BitVec 32 := 0#32
  let c0_i32_100 : BitVec 32 := 0#32
  ![v113.toNat, 0, 0, 0]
def k0_off105 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_92 : BitVec 32 := 16#32
  let v133 : BitVec 32 := Scalar.muli arg9 c16_i32_92
  let c1_i32_93 : BitVec 32 := 1#32
  let v134 : BitVec 32 := Scalar.addi v133 c1_i32_93
  let c8_i32_97 : BitVec 32 := 8#32
  let v142 : BitVec 32 := Scalar.muli v134 c8_i32_97
  let v143 : BitVec 32 := v142
  let c0_i32_101 : BitVec 32 := 0#32
  ![v143.toNat, 0]
def k0_off106 (v139 : BitVec 32) : Fin 2 → Nat :=
  let c8_i32_96 : BitVec 32 := 8#32
  let v140 : BitVec 32 := Scalar.muli v139 c8_i32_96
  let v141 : BitVec 32 := v140
  let c0_i32_102 : BitVec 32 := 0#32
  ![v141.toNat, 0]

def k0_chk34 (i : grid0.Coords) (v139 : BitVec 32) : Prop :=
  (∀ (k0_h2 : k0_cond2 i = 1#1), 8 ∣ (k0_mult67 v139).toNat) ∧
  (∀ (k0_h2 : k0_cond2 i = 1#1), ∀ a, (k0_off106 v139) a + S8x128.size a ≤ S294912x128.size a)
theorem k0_mult67_dvd : ∀ (i : grid0.Coords) (v139 : BitVec 32) (k0_hw34 : k0_chk34 i v139), ∀ (k0_h2 : k0_cond2 i = 1#1), 8 ∣ (k0_mult67 v139).toNat := fun i v139 k0_hw34 k0_h2 => k0_hw34.1 k0_h2
theorem k0_off106_inb : ∀ (i : grid0.Coords) (v139 : BitVec 32) (k0_hw34 : k0_chk34 i v139), ∀ (k0_h2 : k0_cond2 i = 1#1), ∀ a, (k0_off106 v139) a + S8x128.size a ≤ S294912x128.size a := fun i v139 k0_hw34 k0_h2 => k0_hw34.2 k0_h2

def k0_off107 (i : grid0.Coords) (k0_t3 : Fin k0_t3_loop.trips) : Fin 1 → Nat :=
  let c0_i32_106 : BitVec 32 := 0#32
  let arg0 : BitVec 32 := BitVec.ofNat 32 (i 0).val
  let c1_i32_67 : BitVec 32 := 1#32
  let v102 : BitVec 32 := Scalar.addi arg0 c1_i32_67
  let c512_i32_105 : BitVec 32 := 512#32
  let v152 : BitVec 32 := Scalar.muli v102 c512_i32_105
  let v153 : BitVec 32 := Scalar.addi c0_i32_106 v152
  let c0_i32_75 : BitVec 32 := 0#32
  let c1_i32_77 : BitVec 32 := 1#32
  let arg9 : BitVec 32 := Scf.iv c0_i32_75 c1_i32_77 k0_t3
  let c16_i32_103 : BitVec 32 := 16#32
  let v150 : BitVec 32 := Scalar.muli arg9 c16_i32_103
  let c2_i32_104 : BitVec 32 := 2#32
  let v151 : BitVec 32 := Scalar.addi v150 c2_i32_104
  let v154 : BitVec 32 := Scalar.addi v153 v151
  let v155 : Index := Scalar.indexCast v154
  ![v155.toNat]
def k0_mult69 (v156 : BitVec 32) : BitVec 32 :=
  let c8_i32_107 : BitVec 32 := 8#32
  let v157 : BitVec 32 := Scalar.muli v156 c8_i32_107
  v157

def k0_mult70 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_103 : BitVec 32 := 16#32
  let v150 : BitVec 32 := Scalar.muli arg9 c16_i32_103
  let c2_i32_104 : BitVec 32 := 2#32
  let v151 : BitVec 32 := Scalar.addi v150 c2_i32_104
  let c8_i32_108 : BitVec 32 := 8#32
  let v159 : BitVec 32 := Scalar.muli v151 c8_i32_108
  v159
def k0_off108 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off109 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_109 : BitVec 32 := 0#32
  let c0_i32_110 : BitVec 32 := 0#32
  let c0_i32_111 : BitVec 32 := 0#32
  ![v113.toNat, 0, 0, 0]
def k0_off110 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_103 : BitVec 32 := 16#32
  let v150 : BitVec 32 := Scalar.muli arg9 c16_i32_103
  let c2_i32_104 : BitVec 32 := 2#32
  let v151 : BitVec 32 := Scalar.addi v150 c2_i32_104
  let c8_i32_108 : BitVec 32 := 8#32
  let v159 : BitVec 32 := Scalar.muli v151 c8_i32_108
  let v160 : BitVec 32 := v159
  let c0_i32_112 : BitVec 32 := 0#32
  ![v160.toNat, 0]
def k0_off111 (v156 : BitVec 32) : Fin 2 → Nat :=
  let c8_i32_107 : BitVec 32 := 8#32
  let v157 : BitVec 32 := Scalar.muli v156 c8_i32_107
  let v158 : BitVec 32 := v157
  let c0_i32_113 : BitVec 32 := 0#32
  ![v158.toNat, 0]

def k0_chk35 (i : grid0.Coords) (v156 : BitVec 32) : Prop :=
  (∀ (k0_h2 : k0_cond2 i = 1#1), 8 ∣ (k0_mult69 v156).toNat) ∧
  (∀ (k0_h2 : k0_cond2 i = 1#1), ∀ a, (k0_off111 v156) a + S8x128.size a ≤ S294912x128.size a)
theorem k0_mult69_dvd : ∀ (i : grid0.Coords) (v156 : BitVec 32) (k0_hw35 : k0_chk35 i v156), ∀ (k0_h2 : k0_cond2 i = 1#1), 8 ∣ (k0_mult69 v156).toNat := fun i v156 k0_hw35 k0_h2 => k0_hw35.1 k0_h2
theorem k0_off111_inb : ∀ (i : grid0.Coords) (v156 : BitVec 32) (k0_hw35 : k0_chk35 i v156), ∀ (k0_h2 : k0_cond2 i = 1#1), ∀ a, (k0_off111 v156) a + S8x128.size a ≤ S294912x128.size a := fun i v156 k0_hw35 k0_h2 => k0_hw35.2 k0_h2

def k0_off112 (i : grid0.Coords) (k0_t3 : Fin k0_t3_loop.trips) : Fin 1 → Nat :=
  let c0_i32_116 : BitVec 32 := 0#32
  let arg0 : BitVec 32 := BitVec.ofNat 32 (i 0).val
  let c1_i32_67 : BitVec 32 := 1#32
  let v102 : BitVec 32 := Scalar.addi arg0 c1_i32_67
  let c512_i32_115 : BitVec 32 := 512#32
  let v169 : BitVec 32 := Scalar.muli v102 c512_i32_115
  let v170 : BitVec 32 := Scalar.addi c0_i32_116 v169
  let c0_i32_75 : BitVec 32 := 0#32
  let c1_i32_77 : BitVec 32 := 1#32
  let arg9 : BitVec 32 := Scf.iv c0_i32_75 c1_i32_77 k0_t3
  let c16_i32_114 : BitVec 32 := 16#32
  let v167 : BitVec 32 := Scalar.muli arg9 c16_i32_114
  let c3_i32 : BitVec 32 := 3#32
  let v168 : BitVec 32 := Scalar.addi v167 c3_i32
  let v171 : BitVec 32 := Scalar.addi v170 v168
  let v172 : Index := Scalar.indexCast v171
  ![v172.toNat]
def k0_mult71 (v173 : BitVec 32) : BitVec 32 :=
  let c8_i32_117 : BitVec 32 := 8#32
  let v174 : BitVec 32 := Scalar.muli v173 c8_i32_117
  v174

def k0_mult72 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_114 : BitVec 32 := 16#32
  let v167 : BitVec 32 := Scalar.muli arg9 c16_i32_114
  let c3_i32 : BitVec 32 := 3#32
  let v168 : BitVec 32 := Scalar.addi v167 c3_i32
  let c8_i32_118 : BitVec 32 := 8#32
  let v176 : BitVec 32 := Scalar.muli v168 c8_i32_118
  v176
def k0_off113 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off114 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_119 : BitVec 32 := 0#32
  let c0_i32_120 : BitVec 32 := 0#32
  let c0_i32_121 : BitVec 32 := 0#32
  ![v113.toNat, 0, 0, 0]
def k0_off115 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_114 : BitVec 32 := 16#32
  let v167 : BitVec 32 := Scalar.muli arg9 c16_i32_114
  let c3_i32 : BitVec 32 := 3#32
  let v168 : BitVec 32 := Scalar.addi v167 c3_i32
  let c8_i32_118 : BitVec 32 := 8#32
  let v176 : BitVec 32 := Scalar.muli v168 c8_i32_118
  let v177 : BitVec 32 := v176
  let c0_i32_122 : BitVec 32 := 0#32
  ![v177.toNat, 0]
def k0_off116 (v173 : BitVec 32) : Fin 2 → Nat :=
  let c8_i32_117 : BitVec 32 := 8#32
  let v174 : BitVec 32 := Scalar.muli v173 c8_i32_117
  let v175 : BitVec 32 := v174
  let c0_i32_123 : BitVec 32 := 0#32
  ![v175.toNat, 0]

def k0_chk36 (i : grid0.Coords) (v173 : BitVec 32) : Prop :=
  (∀ (k0_h2 : k0_cond2 i = 1#1), 8 ∣ (k0_mult71 v173).toNat) ∧
  (∀ (k0_h2 : k0_cond2 i = 1#1), ∀ a, (k0_off116 v173) a + S8x128.size a ≤ S294912x128.size a)
theorem k0_mult71_dvd : ∀ (i : grid0.Coords) (v173 : BitVec 32) (k0_hw36 : k0_chk36 i v173), ∀ (k0_h2 : k0_cond2 i = 1#1), 8 ∣ (k0_mult71 v173).toNat := fun i v173 k0_hw36 k0_h2 => k0_hw36.1 k0_h2
theorem k0_off116_inb : ∀ (i : grid0.Coords) (v173 : BitVec 32) (k0_hw36 : k0_chk36 i v173), ∀ (k0_h2 : k0_cond2 i = 1#1), ∀ a, (k0_off116 v173) a + S8x128.size a ≤ S294912x128.size a := fun i v173 k0_hw36 k0_h2 => k0_hw36.2 k0_h2

def k0_off117 (i : grid0.Coords) (k0_t3 : Fin k0_t3_loop.trips) : Fin 1 → Nat :=
  let c0_i32_126 : BitVec 32 := 0#32
  let arg0 : BitVec 32 := BitVec.ofNat 32 (i 0).val
  let c1_i32_67 : BitVec 32 := 1#32
  let v102 : BitVec 32 := Scalar.addi arg0 c1_i32_67
  let c512_i32_125 : BitVec 32 := 512#32
  let v186 : BitVec 32 := Scalar.muli v102 c512_i32_125
  let v187 : BitVec 32 := Scalar.addi c0_i32_126 v186
  let c0_i32_75 : BitVec 32 := 0#32
  let c1_i32_77 : BitVec 32 := 1#32
  let arg9 : BitVec 32 := Scf.iv c0_i32_75 c1_i32_77 k0_t3
  let c16_i32_124 : BitVec 32 := 16#32
  let v184 : BitVec 32 := Scalar.muli arg9 c16_i32_124
  let c4_i32 : BitVec 32 := 4#32
  let v185 : BitVec 32 := Scalar.addi v184 c4_i32
  let v188 : BitVec 32 := Scalar.addi v187 v185
  let v189 : Index := Scalar.indexCast v188
  ![v189.toNat]
def k0_mult73 (v190 : BitVec 32) : BitVec 32 :=
  let c8_i32_127 : BitVec 32 := 8#32
  let v191 : BitVec 32 := Scalar.muli v190 c8_i32_127
  v191

def k0_mult74 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_124 : BitVec 32 := 16#32
  let v184 : BitVec 32 := Scalar.muli arg9 c16_i32_124
  let c4_i32 : BitVec 32 := 4#32
  let v185 : BitVec 32 := Scalar.addi v184 c4_i32
  let c8_i32_128 : BitVec 32 := 8#32
  let v193 : BitVec 32 := Scalar.muli v185 c8_i32_128
  v193
def k0_off118 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off119 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_129 : BitVec 32 := 0#32
  let c0_i32_130 : BitVec 32 := 0#32
  let c0_i32_131 : BitVec 32 := 0#32
  ![v113.toNat, 0, 0, 0]
def k0_off120 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_124 : BitVec 32 := 16#32
  let v184 : BitVec 32 := Scalar.muli arg9 c16_i32_124
  let c4_i32 : BitVec 32 := 4#32
  let v185 : BitVec 32 := Scalar.addi v184 c4_i32
  let c8_i32_128 : BitVec 32 := 8#32
  let v193 : BitVec 32 := Scalar.muli v185 c8_i32_128
  let v194 : BitVec 32 := v193
  let c0_i32_132 : BitVec 32 := 0#32
  ![v194.toNat, 0]
def k0_off121 (v190 : BitVec 32) : Fin 2 → Nat :=
  let c8_i32_127 : BitVec 32 := 8#32
  let v191 : BitVec 32 := Scalar.muli v190 c8_i32_127
  let v192 : BitVec 32 := v191
  let c0_i32_133 : BitVec 32 := 0#32
  ![v192.toNat, 0]

def k0_chk37 (i : grid0.Coords) (v190 : BitVec 32) : Prop :=
  (∀ (k0_h2 : k0_cond2 i = 1#1), 8 ∣ (k0_mult73 v190).toNat) ∧
  (∀ (k0_h2 : k0_cond2 i = 1#1), ∀ a, (k0_off121 v190) a + S8x128.size a ≤ S294912x128.size a)
theorem k0_mult73_dvd : ∀ (i : grid0.Coords) (v190 : BitVec 32) (k0_hw37 : k0_chk37 i v190), ∀ (k0_h2 : k0_cond2 i = 1#1), 8 ∣ (k0_mult73 v190).toNat := fun i v190 k0_hw37 k0_h2 => k0_hw37.1 k0_h2
theorem k0_off121_inb : ∀ (i : grid0.Coords) (v190 : BitVec 32) (k0_hw37 : k0_chk37 i v190), ∀ (k0_h2 : k0_cond2 i = 1#1), ∀ a, (k0_off121 v190) a + S8x128.size a ≤ S294912x128.size a := fun i v190 k0_hw37 k0_h2 => k0_hw37.2 k0_h2

def k0_off122 (i : grid0.Coords) (k0_t3 : Fin k0_t3_loop.trips) : Fin 1 → Nat :=
  let c0_i32_136 : BitVec 32 := 0#32
  let arg0 : BitVec 32 := BitVec.ofNat 32 (i 0).val
  let c1_i32_67 : BitVec 32 := 1#32
  let v102 : BitVec 32 := Scalar.addi arg0 c1_i32_67
  let c512_i32_135 : BitVec 32 := 512#32
  let v203 : BitVec 32 := Scalar.muli v102 c512_i32_135
  let v204 : BitVec 32 := Scalar.addi c0_i32_136 v203
  let c0_i32_75 : BitVec 32 := 0#32
  let c1_i32_77 : BitVec 32 := 1#32
  let arg9 : BitVec 32 := Scf.iv c0_i32_75 c1_i32_77 k0_t3
  let c16_i32_134 : BitVec 32 := 16#32
  let v201 : BitVec 32 := Scalar.muli arg9 c16_i32_134
  let c5_i32 : BitVec 32 := 5#32
  let v202 : BitVec 32 := Scalar.addi v201 c5_i32
  let v205 : BitVec 32 := Scalar.addi v204 v202
  let v206 : Index := Scalar.indexCast v205
  ![v206.toNat]
def k0_mult75 (v207 : BitVec 32) : BitVec 32 :=
  let c8_i32_137 : BitVec 32 := 8#32
  let v208 : BitVec 32 := Scalar.muli v207 c8_i32_137
  v208

def k0_mult76 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_134 : BitVec 32 := 16#32
  let v201 : BitVec 32 := Scalar.muli arg9 c16_i32_134
  let c5_i32 : BitVec 32 := 5#32
  let v202 : BitVec 32 := Scalar.addi v201 c5_i32
  let c8_i32_138 : BitVec 32 := 8#32
  let v210 : BitVec 32 := Scalar.muli v202 c8_i32_138
  v210
def k0_off123 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off124 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_139 : BitVec 32 := 0#32
  let c0_i32_140 : BitVec 32 := 0#32
  let c0_i32_141 : BitVec 32 := 0#32
  ![v113.toNat, 0, 0, 0]
def k0_off125 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_134 : BitVec 32 := 16#32
  let v201 : BitVec 32 := Scalar.muli arg9 c16_i32_134
  let c5_i32 : BitVec 32 := 5#32
  let v202 : BitVec 32 := Scalar.addi v201 c5_i32
  let c8_i32_138 : BitVec 32 := 8#32
  let v210 : BitVec 32 := Scalar.muli v202 c8_i32_138
  let v211 : BitVec 32 := v210
  let c0_i32_142 : BitVec 32 := 0#32
  ![v211.toNat, 0]
def k0_off126 (v207 : BitVec 32) : Fin 2 → Nat :=
  let c8_i32_137 : BitVec 32 := 8#32
  let v208 : BitVec 32 := Scalar.muli v207 c8_i32_137
  let v209 : BitVec 32 := v208
  let c0_i32_143 : BitVec 32 := 0#32
  ![v209.toNat, 0]

def k0_chk38 (i : grid0.Coords) (v207 : BitVec 32) : Prop :=
  (∀ (k0_h2 : k0_cond2 i = 1#1), 8 ∣ (k0_mult75 v207).toNat) ∧
  (∀ (k0_h2 : k0_cond2 i = 1#1), ∀ a, (k0_off126 v207) a + S8x128.size a ≤ S294912x128.size a)
theorem k0_mult75_dvd : ∀ (i : grid0.Coords) (v207 : BitVec 32) (k0_hw38 : k0_chk38 i v207), ∀ (k0_h2 : k0_cond2 i = 1#1), 8 ∣ (k0_mult75 v207).toNat := fun i v207 k0_hw38 k0_h2 => k0_hw38.1 k0_h2
theorem k0_off126_inb : ∀ (i : grid0.Coords) (v207 : BitVec 32) (k0_hw38 : k0_chk38 i v207), ∀ (k0_h2 : k0_cond2 i = 1#1), ∀ a, (k0_off126 v207) a + S8x128.size a ≤ S294912x128.size a := fun i v207 k0_hw38 k0_h2 => k0_hw38.2 k0_h2

def k0_off127 (i : grid0.Coords) (k0_t3 : Fin k0_t3_loop.trips) : Fin 1 → Nat :=
  let c0_i32_146 : BitVec 32 := 0#32
  let arg0 : BitVec 32 := BitVec.ofNat 32 (i 0).val
  let c1_i32_67 : BitVec 32 := 1#32
  let v102 : BitVec 32 := Scalar.addi arg0 c1_i32_67
  let c512_i32_145 : BitVec 32 := 512#32
  let v220 : BitVec 32 := Scalar.muli v102 c512_i32_145
  let v221 : BitVec 32 := Scalar.addi c0_i32_146 v220
  let c0_i32_75 : BitVec 32 := 0#32
  let c1_i32_77 : BitVec 32 := 1#32
  let arg9 : BitVec 32 := Scf.iv c0_i32_75 c1_i32_77 k0_t3
  let c16_i32_144 : BitVec 32 := 16#32
  let v218 : BitVec 32 := Scalar.muli arg9 c16_i32_144
  let c6_i32 : BitVec 32 := 6#32
  let v219 : BitVec 32 := Scalar.addi v218 c6_i32
  let v222 : BitVec 32 := Scalar.addi v221 v219
  let v223 : Index := Scalar.indexCast v222
  ![v223.toNat]
def k0_mult77 (v224 : BitVec 32) : BitVec 32 :=
  let c8_i32_147 : BitVec 32 := 8#32
  let v225 : BitVec 32 := Scalar.muli v224 c8_i32_147
  v225

def k0_mult78 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_144 : BitVec 32 := 16#32
  let v218 : BitVec 32 := Scalar.muli arg9 c16_i32_144
  let c6_i32 : BitVec 32 := 6#32
  let v219 : BitVec 32 := Scalar.addi v218 c6_i32
  let c8_i32_148 : BitVec 32 := 8#32
  let v227 : BitVec 32 := Scalar.muli v219 c8_i32_148
  v227
def k0_off128 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off129 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_149 : BitVec 32 := 0#32
  let c0_i32_150 : BitVec 32 := 0#32
  let c0_i32_151 : BitVec 32 := 0#32
  ![v113.toNat, 0, 0, 0]
def k0_off130 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_144 : BitVec 32 := 16#32
  let v218 : BitVec 32 := Scalar.muli arg9 c16_i32_144
  let c6_i32 : BitVec 32 := 6#32
  let v219 : BitVec 32 := Scalar.addi v218 c6_i32
  let c8_i32_148 : BitVec 32 := 8#32
  let v227 : BitVec 32 := Scalar.muli v219 c8_i32_148
  let v228 : BitVec 32 := v227
  let c0_i32_152 : BitVec 32 := 0#32
  ![v228.toNat, 0]
def k0_off131 (v224 : BitVec 32) : Fin 2 → Nat :=
  let c8_i32_147 : BitVec 32 := 8#32
  let v225 : BitVec 32 := Scalar.muli v224 c8_i32_147
  let v226 : BitVec 32 := v225
  let c0_i32_153 : BitVec 32 := 0#32
  ![v226.toNat, 0]

def k0_chk39 (i : grid0.Coords) (v224 : BitVec 32) : Prop :=
  (∀ (k0_h2 : k0_cond2 i = 1#1), 8 ∣ (k0_mult77 v224).toNat) ∧
  (∀ (k0_h2 : k0_cond2 i = 1#1), ∀ a, (k0_off131 v224) a + S8x128.size a ≤ S294912x128.size a)
theorem k0_mult77_dvd : ∀ (i : grid0.Coords) (v224 : BitVec 32) (k0_hw39 : k0_chk39 i v224), ∀ (k0_h2 : k0_cond2 i = 1#1), 8 ∣ (k0_mult77 v224).toNat := fun i v224 k0_hw39 k0_h2 => k0_hw39.1 k0_h2
theorem k0_off131_inb : ∀ (i : grid0.Coords) (v224 : BitVec 32) (k0_hw39 : k0_chk39 i v224), ∀ (k0_h2 : k0_cond2 i = 1#1), ∀ a, (k0_off131 v224) a + S8x128.size a ≤ S294912x128.size a := fun i v224 k0_hw39 k0_h2 => k0_hw39.2 k0_h2

def k0_off132 (i : grid0.Coords) (k0_t3 : Fin k0_t3_loop.trips) : Fin 1 → Nat :=
  let c0_i32_156 : BitVec 32 := 0#32
  let arg0 : BitVec 32 := BitVec.ofNat 32 (i 0).val
  let c1_i32_67 : BitVec 32 := 1#32
  let v102 : BitVec 32 := Scalar.addi arg0 c1_i32_67
  let c512_i32_155 : BitVec 32 := 512#32
  let v237 : BitVec 32 := Scalar.muli v102 c512_i32_155
  let v238 : BitVec 32 := Scalar.addi c0_i32_156 v237
  let c0_i32_75 : BitVec 32 := 0#32
  let c1_i32_77 : BitVec 32 := 1#32
  let arg9 : BitVec 32 := Scf.iv c0_i32_75 c1_i32_77 k0_t3
  let c16_i32_154 : BitVec 32 := 16#32
  let v235 : BitVec 32 := Scalar.muli arg9 c16_i32_154
  let c7_i32 : BitVec 32 := 7#32
  let v236 : BitVec 32 := Scalar.addi v235 c7_i32
  let v239 : BitVec 32 := Scalar.addi v238 v236
  let v240 : Index := Scalar.indexCast v239
  ![v240.toNat]
def k0_mult79 (v241 : BitVec 32) : BitVec 32 :=
  let c8_i32_157 : BitVec 32 := 8#32
  let v242 : BitVec 32 := Scalar.muli v241 c8_i32_157
  v242

def k0_mult80 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_154 : BitVec 32 := 16#32
  let v235 : BitVec 32 := Scalar.muli arg9 c16_i32_154
  let c7_i32 : BitVec 32 := 7#32
  let v236 : BitVec 32 := Scalar.addi v235 c7_i32
  let c8_i32_158 : BitVec 32 := 8#32
  let v244 : BitVec 32 := Scalar.muli v236 c8_i32_158
  v244
def k0_off133 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off134 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_159 : BitVec 32 := 0#32
  let c0_i32_160 : BitVec 32 := 0#32
  let c0_i32_161 : BitVec 32 := 0#32
  ![v113.toNat, 0, 0, 0]
def k0_off135 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_154 : BitVec 32 := 16#32
  let v235 : BitVec 32 := Scalar.muli arg9 c16_i32_154
  let c7_i32 : BitVec 32 := 7#32
  let v236 : BitVec 32 := Scalar.addi v235 c7_i32
  let c8_i32_158 : BitVec 32 := 8#32
  let v244 : BitVec 32 := Scalar.muli v236 c8_i32_158
  let v245 : BitVec 32 := v244
  let c0_i32_162 : BitVec 32 := 0#32
  ![v245.toNat, 0]
def k0_off136 (v241 : BitVec 32) : Fin 2 → Nat :=
  let c8_i32_157 : BitVec 32 := 8#32
  let v242 : BitVec 32 := Scalar.muli v241 c8_i32_157
  let v243 : BitVec 32 := v242
  let c0_i32_163 : BitVec 32 := 0#32
  ![v243.toNat, 0]

def k0_chk40 (i : grid0.Coords) (v241 : BitVec 32) : Prop :=
  (∀ (k0_h2 : k0_cond2 i = 1#1), 8 ∣ (k0_mult79 v241).toNat) ∧
  (∀ (k0_h2 : k0_cond2 i = 1#1), ∀ a, (k0_off136 v241) a + S8x128.size a ≤ S294912x128.size a)
theorem k0_mult79_dvd : ∀ (i : grid0.Coords) (v241 : BitVec 32) (k0_hw40 : k0_chk40 i v241), ∀ (k0_h2 : k0_cond2 i = 1#1), 8 ∣ (k0_mult79 v241).toNat := fun i v241 k0_hw40 k0_h2 => k0_hw40.1 k0_h2
theorem k0_off136_inb : ∀ (i : grid0.Coords) (v241 : BitVec 32) (k0_hw40 : k0_chk40 i v241), ∀ (k0_h2 : k0_cond2 i = 1#1), ∀ a, (k0_off136 v241) a + S8x128.size a ≤ S294912x128.size a := fun i v241 k0_hw40 k0_h2 => k0_hw40.2 k0_h2

def k0_off137 (i : grid0.Coords) (k0_t3 : Fin k0_t3_loop.trips) : Fin 1 → Nat :=
  let c0_i32_167 : BitVec 32 := 0#32
  let arg0 : BitVec 32 := BitVec.ofNat 32 (i 0).val
  let c1_i32_67 : BitVec 32 := 1#32
  let v102 : BitVec 32 := Scalar.addi arg0 c1_i32_67
  let c512_i32_166 : BitVec 32 := 512#32
  let v254 : BitVec 32 := Scalar.muli v102 c512_i32_166
  let v255 : BitVec 32 := Scalar.addi c0_i32_167 v254
  let c0_i32_75 : BitVec 32 := 0#32
  let c1_i32_77 : BitVec 32 := 1#32
  let arg9 : BitVec 32 := Scf.iv c0_i32_75 c1_i32_77 k0_t3
  let c16_i32_164 : BitVec 32 := 16#32
  let v252 : BitVec 32 := Scalar.muli arg9 c16_i32_164
  let c8_i32_165 : BitVec 32 := 8#32
  let v253 : BitVec 32 := Scalar.addi v252 c8_i32_165
  let v256 : BitVec 32 := Scalar.addi v255 v253
  let v257 : Index := Scalar.indexCast v256
  ![v257.toNat]
def k0_mult81 (v258 : BitVec 32) : BitVec 32 :=
  let c8_i32_168 : BitVec 32 := 8#32
  let v259 : BitVec 32 := Scalar.muli v258 c8_i32_168
  v259

def k0_mult82 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_164 : BitVec 32 := 16#32
  let v252 : BitVec 32 := Scalar.muli arg9 c16_i32_164
  let c8_i32_165 : BitVec 32 := 8#32
  let v253 : BitVec 32 := Scalar.addi v252 c8_i32_165
  let c8_i32_169 : BitVec 32 := 8#32
  let v261 : BitVec 32 := Scalar.muli v253 c8_i32_169
  v261
def k0_off138 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off139 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_170 : BitVec 32 := 0#32
  let c0_i32_171 : BitVec 32 := 0#32
  let c0_i32_172 : BitVec 32 := 0#32
  ![v113.toNat, 0, 0, 0]
def k0_off140 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_164 : BitVec 32 := 16#32
  let v252 : BitVec 32 := Scalar.muli arg9 c16_i32_164
  let c8_i32_165 : BitVec 32 := 8#32
  let v253 : BitVec 32 := Scalar.addi v252 c8_i32_165
  let c8_i32_169 : BitVec 32 := 8#32
  let v261 : BitVec 32 := Scalar.muli v253 c8_i32_169
  let v262 : BitVec 32 := v261
  let c0_i32_173 : BitVec 32 := 0#32
  ![v262.toNat, 0]
def k0_off141 (v258 : BitVec 32) : Fin 2 → Nat :=
  let c8_i32_168 : BitVec 32 := 8#32
  let v259 : BitVec 32 := Scalar.muli v258 c8_i32_168
  let v260 : BitVec 32 := v259
  let c0_i32_174 : BitVec 32 := 0#32
  ![v260.toNat, 0]

def k0_chk41 (i : grid0.Coords) (v258 : BitVec 32) : Prop :=
  (∀ (k0_h2 : k0_cond2 i = 1#1), 8 ∣ (k0_mult81 v258).toNat) ∧
  (∀ (k0_h2 : k0_cond2 i = 1#1), ∀ a, (k0_off141 v258) a + S8x128.size a ≤ S294912x128.size a)
theorem k0_mult81_dvd : ∀ (i : grid0.Coords) (v258 : BitVec 32) (k0_hw41 : k0_chk41 i v258), ∀ (k0_h2 : k0_cond2 i = 1#1), 8 ∣ (k0_mult81 v258).toNat := fun i v258 k0_hw41 k0_h2 => k0_hw41.1 k0_h2
theorem k0_off141_inb : ∀ (i : grid0.Coords) (v258 : BitVec 32) (k0_hw41 : k0_chk41 i v258), ∀ (k0_h2 : k0_cond2 i = 1#1), ∀ a, (k0_off141 v258) a + S8x128.size a ≤ S294912x128.size a := fun i v258 k0_hw41 k0_h2 => k0_hw41.2 k0_h2

def k0_off142 (i : grid0.Coords) (k0_t3 : Fin k0_t3_loop.trips) : Fin 1 → Nat :=
  let c0_i32_177 : BitVec 32 := 0#32
  let arg0 : BitVec 32 := BitVec.ofNat 32 (i 0).val
  let c1_i32_67 : BitVec 32 := 1#32
  let v102 : BitVec 32 := Scalar.addi arg0 c1_i32_67
  let c512_i32_176 : BitVec 32 := 512#32
  let v271 : BitVec 32 := Scalar.muli v102 c512_i32_176
  let v272 : BitVec 32 := Scalar.addi c0_i32_177 v271
  let c0_i32_75 : BitVec 32 := 0#32
  let c1_i32_77 : BitVec 32 := 1#32
  let arg9 : BitVec 32 := Scf.iv c0_i32_75 c1_i32_77 k0_t3
  let c16_i32_175 : BitVec 32 := 16#32
  let v269 : BitVec 32 := Scalar.muli arg9 c16_i32_175
  let c9_i32 : BitVec 32 := 9#32
  let v270 : BitVec 32 := Scalar.addi v269 c9_i32
  let v273 : BitVec 32 := Scalar.addi v272 v270
  let v274 : Index := Scalar.indexCast v273
  ![v274.toNat]
def k0_mult83 (v275 : BitVec 32) : BitVec 32 :=
  let c8_i32_178 : BitVec 32 := 8#32
  let v276 : BitVec 32 := Scalar.muli v275 c8_i32_178
  v276

def k0_mult84 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_175 : BitVec 32 := 16#32
  let v269 : BitVec 32 := Scalar.muli arg9 c16_i32_175
  let c9_i32 : BitVec 32 := 9#32
  let v270 : BitVec 32 := Scalar.addi v269 c9_i32
  let c8_i32_179 : BitVec 32 := 8#32
  let v278 : BitVec 32 := Scalar.muli v270 c8_i32_179
  v278
def k0_off143 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off144 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_180 : BitVec 32 := 0#32
  let c0_i32_181 : BitVec 32 := 0#32
  let c0_i32_182 : BitVec 32 := 0#32
  ![v113.toNat, 0, 0, 0]
def k0_off145 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_175 : BitVec 32 := 16#32
  let v269 : BitVec 32 := Scalar.muli arg9 c16_i32_175
  let c9_i32 : BitVec 32 := 9#32
  let v270 : BitVec 32 := Scalar.addi v269 c9_i32
  let c8_i32_179 : BitVec 32 := 8#32
  let v278 : BitVec 32 := Scalar.muli v270 c8_i32_179
  let v279 : BitVec 32 := v278
  let c0_i32_183 : BitVec 32 := 0#32
  ![v279.toNat, 0]
def k0_off146 (v275 : BitVec 32) : Fin 2 → Nat :=
  let c8_i32_178 : BitVec 32 := 8#32
  let v276 : BitVec 32 := Scalar.muli v275 c8_i32_178
  let v277 : BitVec 32 := v276
  let c0_i32_184 : BitVec 32 := 0#32
  ![v277.toNat, 0]

def k0_chk42 (i : grid0.Coords) (v275 : BitVec 32) : Prop :=
  (∀ (k0_h2 : k0_cond2 i = 1#1), 8 ∣ (k0_mult83 v275).toNat) ∧
  (∀ (k0_h2 : k0_cond2 i = 1#1), ∀ a, (k0_off146 v275) a + S8x128.size a ≤ S294912x128.size a)
theorem k0_mult83_dvd : ∀ (i : grid0.Coords) (v275 : BitVec 32) (k0_hw42 : k0_chk42 i v275), ∀ (k0_h2 : k0_cond2 i = 1#1), 8 ∣ (k0_mult83 v275).toNat := fun i v275 k0_hw42 k0_h2 => k0_hw42.1 k0_h2
theorem k0_off146_inb : ∀ (i : grid0.Coords) (v275 : BitVec 32) (k0_hw42 : k0_chk42 i v275), ∀ (k0_h2 : k0_cond2 i = 1#1), ∀ a, (k0_off146 v275) a + S8x128.size a ≤ S294912x128.size a := fun i v275 k0_hw42 k0_h2 => k0_hw42.2 k0_h2

def k0_off147 (i : grid0.Coords) (k0_t3 : Fin k0_t3_loop.trips) : Fin 1 → Nat :=
  let c0_i32_187 : BitVec 32 := 0#32
  let arg0 : BitVec 32 := BitVec.ofNat 32 (i 0).val
  let c1_i32_67 : BitVec 32 := 1#32
  let v102 : BitVec 32 := Scalar.addi arg0 c1_i32_67
  let c512_i32_186 : BitVec 32 := 512#32
  let v288 : BitVec 32 := Scalar.muli v102 c512_i32_186
  let v289 : BitVec 32 := Scalar.addi c0_i32_187 v288
  let c0_i32_75 : BitVec 32 := 0#32
  let c1_i32_77 : BitVec 32 := 1#32
  let arg9 : BitVec 32 := Scf.iv c0_i32_75 c1_i32_77 k0_t3
  let c16_i32_185 : BitVec 32 := 16#32
  let v286 : BitVec 32 := Scalar.muli arg9 c16_i32_185
  let c10_i32 : BitVec 32 := 10#32
  let v287 : BitVec 32 := Scalar.addi v286 c10_i32
  let v290 : BitVec 32 := Scalar.addi v289 v287
  let v291 : Index := Scalar.indexCast v290
  ![v291.toNat]
def k0_mult85 (v292 : BitVec 32) : BitVec 32 :=
  let c8_i32_188 : BitVec 32 := 8#32
  let v293 : BitVec 32 := Scalar.muli v292 c8_i32_188
  v293

def k0_mult86 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_185 : BitVec 32 := 16#32
  let v286 : BitVec 32 := Scalar.muli arg9 c16_i32_185
  let c10_i32 : BitVec 32 := 10#32
  let v287 : BitVec 32 := Scalar.addi v286 c10_i32
  let c8_i32_189 : BitVec 32 := 8#32
  let v295 : BitVec 32 := Scalar.muli v287 c8_i32_189
  v295
def k0_off148 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off149 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_190 : BitVec 32 := 0#32
  let c0_i32_191 : BitVec 32 := 0#32
  let c0_i32_192 : BitVec 32 := 0#32
  ![v113.toNat, 0, 0, 0]
def k0_off150 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_185 : BitVec 32 := 16#32
  let v286 : BitVec 32 := Scalar.muli arg9 c16_i32_185
  let c10_i32 : BitVec 32 := 10#32
  let v287 : BitVec 32 := Scalar.addi v286 c10_i32
  let c8_i32_189 : BitVec 32 := 8#32
  let v295 : BitVec 32 := Scalar.muli v287 c8_i32_189
  let v296 : BitVec 32 := v295
  let c0_i32_193 : BitVec 32 := 0#32
  ![v296.toNat, 0]
def k0_off151 (v292 : BitVec 32) : Fin 2 → Nat :=
  let c8_i32_188 : BitVec 32 := 8#32
  let v293 : BitVec 32 := Scalar.muli v292 c8_i32_188
  let v294 : BitVec 32 := v293
  let c0_i32_194 : BitVec 32 := 0#32
  ![v294.toNat, 0]

def k0_chk43 (i : grid0.Coords) (v292 : BitVec 32) : Prop :=
  (∀ (k0_h2 : k0_cond2 i = 1#1), 8 ∣ (k0_mult85 v292).toNat) ∧
  (∀ (k0_h2 : k0_cond2 i = 1#1), ∀ a, (k0_off151 v292) a + S8x128.size a ≤ S294912x128.size a)
theorem k0_mult85_dvd : ∀ (i : grid0.Coords) (v292 : BitVec 32) (k0_hw43 : k0_chk43 i v292), ∀ (k0_h2 : k0_cond2 i = 1#1), 8 ∣ (k0_mult85 v292).toNat := fun i v292 k0_hw43 k0_h2 => k0_hw43.1 k0_h2
theorem k0_off151_inb : ∀ (i : grid0.Coords) (v292 : BitVec 32) (k0_hw43 : k0_chk43 i v292), ∀ (k0_h2 : k0_cond2 i = 1#1), ∀ a, (k0_off151 v292) a + S8x128.size a ≤ S294912x128.size a := fun i v292 k0_hw43 k0_h2 => k0_hw43.2 k0_h2

def k0_off152 (i : grid0.Coords) (k0_t3 : Fin k0_t3_loop.trips) : Fin 1 → Nat :=
  let c0_i32_197 : BitVec 32 := 0#32
  let arg0 : BitVec 32 := BitVec.ofNat 32 (i 0).val
  let c1_i32_67 : BitVec 32 := 1#32
  let v102 : BitVec 32 := Scalar.addi arg0 c1_i32_67
  let c512_i32_196 : BitVec 32 := 512#32
  let v305 : BitVec 32 := Scalar.muli v102 c512_i32_196
  let v306 : BitVec 32 := Scalar.addi c0_i32_197 v305
  let c0_i32_75 : BitVec 32 := 0#32
  let c1_i32_77 : BitVec 32 := 1#32
  let arg9 : BitVec 32 := Scf.iv c0_i32_75 c1_i32_77 k0_t3
  let c16_i32_195 : BitVec 32 := 16#32
  let v303 : BitVec 32 := Scalar.muli arg9 c16_i32_195
  let c11_i32 : BitVec 32 := 11#32
  let v304 : BitVec 32 := Scalar.addi v303 c11_i32
  let v307 : BitVec 32 := Scalar.addi v306 v304
  let v308 : Index := Scalar.indexCast v307
  ![v308.toNat]
def k0_mult87 (v309 : BitVec 32) : BitVec 32 :=
  let c8_i32_198 : BitVec 32 := 8#32
  let v310 : BitVec 32 := Scalar.muli v309 c8_i32_198
  v310

def k0_mult88 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_195 : BitVec 32 := 16#32
  let v303 : BitVec 32 := Scalar.muli arg9 c16_i32_195
  let c11_i32 : BitVec 32 := 11#32
  let v304 : BitVec 32 := Scalar.addi v303 c11_i32
  let c8_i32_199 : BitVec 32 := 8#32
  let v312 : BitVec 32 := Scalar.muli v304 c8_i32_199
  v312
def k0_off153 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off154 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_200 : BitVec 32 := 0#32
  let c0_i32_201 : BitVec 32 := 0#32
  let c0_i32_202 : BitVec 32 := 0#32
  ![v113.toNat, 0, 0, 0]
def k0_off155 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_195 : BitVec 32 := 16#32
  let v303 : BitVec 32 := Scalar.muli arg9 c16_i32_195
  let c11_i32 : BitVec 32 := 11#32
  let v304 : BitVec 32 := Scalar.addi v303 c11_i32
  let c8_i32_199 : BitVec 32 := 8#32
  let v312 : BitVec 32 := Scalar.muli v304 c8_i32_199
  let v313 : BitVec 32 := v312
  let c0_i32_203 : BitVec 32 := 0#32
  ![v313.toNat, 0]
def k0_off156 (v309 : BitVec 32) : Fin 2 → Nat :=
  let c8_i32_198 : BitVec 32 := 8#32
  let v310 : BitVec 32 := Scalar.muli v309 c8_i32_198
  let v311 : BitVec 32 := v310
  let c0_i32_204 : BitVec 32 := 0#32
  ![v311.toNat, 0]

def k0_chk44 (i : grid0.Coords) (v309 : BitVec 32) : Prop :=
  (∀ (k0_h2 : k0_cond2 i = 1#1), 8 ∣ (k0_mult87 v309).toNat) ∧
  (∀ (k0_h2 : k0_cond2 i = 1#1), ∀ a, (k0_off156 v309) a + S8x128.size a ≤ S294912x128.size a)
theorem k0_mult87_dvd : ∀ (i : grid0.Coords) (v309 : BitVec 32) (k0_hw44 : k0_chk44 i v309), ∀ (k0_h2 : k0_cond2 i = 1#1), 8 ∣ (k0_mult87 v309).toNat := fun i v309 k0_hw44 k0_h2 => k0_hw44.1 k0_h2
theorem k0_off156_inb : ∀ (i : grid0.Coords) (v309 : BitVec 32) (k0_hw44 : k0_chk44 i v309), ∀ (k0_h2 : k0_cond2 i = 1#1), ∀ a, (k0_off156 v309) a + S8x128.size a ≤ S294912x128.size a := fun i v309 k0_hw44 k0_h2 => k0_hw44.2 k0_h2

def k0_off157 (i : grid0.Coords) (k0_t3 : Fin k0_t3_loop.trips) : Fin 1 → Nat :=
  let c0_i32_207 : BitVec 32 := 0#32
  let arg0 : BitVec 32 := BitVec.ofNat 32 (i 0).val
  let c1_i32_67 : BitVec 32 := 1#32
  let v102 : BitVec 32 := Scalar.addi arg0 c1_i32_67
  let c512_i32_206 : BitVec 32 := 512#32
  let v322 : BitVec 32 := Scalar.muli v102 c512_i32_206
  let v323 : BitVec 32 := Scalar.addi c0_i32_207 v322
  let c0_i32_75 : BitVec 32 := 0#32
  let c1_i32_77 : BitVec 32 := 1#32
  let arg9 : BitVec 32 := Scf.iv c0_i32_75 c1_i32_77 k0_t3
  let c16_i32_205 : BitVec 32 := 16#32
  let v320 : BitVec 32 := Scalar.muli arg9 c16_i32_205
  let c12_i32 : BitVec 32 := 12#32
  let v321 : BitVec 32 := Scalar.addi v320 c12_i32
  let v324 : BitVec 32 := Scalar.addi v323 v321
  let v325 : Index := Scalar.indexCast v324
  ![v325.toNat]
def k0_mult89 (v326 : BitVec 32) : BitVec 32 :=
  let c8_i32_208 : BitVec 32 := 8#32
  let v327 : BitVec 32 := Scalar.muli v326 c8_i32_208
  v327

def k0_mult90 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_205 : BitVec 32 := 16#32
  let v320 : BitVec 32 := Scalar.muli arg9 c16_i32_205
  let c12_i32 : BitVec 32 := 12#32
  let v321 : BitVec 32 := Scalar.addi v320 c12_i32
  let c8_i32_209 : BitVec 32 := 8#32
  let v329 : BitVec 32 := Scalar.muli v321 c8_i32_209
  v329
def k0_off158 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off159 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_210 : BitVec 32 := 0#32
  let c0_i32_211 : BitVec 32 := 0#32
  let c0_i32_212 : BitVec 32 := 0#32
  ![v113.toNat, 0, 0, 0]
def k0_off160 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_205 : BitVec 32 := 16#32
  let v320 : BitVec 32 := Scalar.muli arg9 c16_i32_205
  let c12_i32 : BitVec 32 := 12#32
  let v321 : BitVec 32 := Scalar.addi v320 c12_i32
  let c8_i32_209 : BitVec 32 := 8#32
  let v329 : BitVec 32 := Scalar.muli v321 c8_i32_209
  let v330 : BitVec 32 := v329
  let c0_i32_213 : BitVec 32 := 0#32
  ![v330.toNat, 0]
def k0_off161 (v326 : BitVec 32) : Fin 2 → Nat :=
  let c8_i32_208 : BitVec 32 := 8#32
  let v327 : BitVec 32 := Scalar.muli v326 c8_i32_208
  let v328 : BitVec 32 := v327
  let c0_i32_214 : BitVec 32 := 0#32
  ![v328.toNat, 0]

def k0_chk45 (i : grid0.Coords) (v326 : BitVec 32) : Prop :=
  (∀ (k0_h2 : k0_cond2 i = 1#1), 8 ∣ (k0_mult89 v326).toNat) ∧
  (∀ (k0_h2 : k0_cond2 i = 1#1), ∀ a, (k0_off161 v326) a + S8x128.size a ≤ S294912x128.size a)
theorem k0_mult89_dvd : ∀ (i : grid0.Coords) (v326 : BitVec 32) (k0_hw45 : k0_chk45 i v326), ∀ (k0_h2 : k0_cond2 i = 1#1), 8 ∣ (k0_mult89 v326).toNat := fun i v326 k0_hw45 k0_h2 => k0_hw45.1 k0_h2
theorem k0_off161_inb : ∀ (i : grid0.Coords) (v326 : BitVec 32) (k0_hw45 : k0_chk45 i v326), ∀ (k0_h2 : k0_cond2 i = 1#1), ∀ a, (k0_off161 v326) a + S8x128.size a ≤ S294912x128.size a := fun i v326 k0_hw45 k0_h2 => k0_hw45.2 k0_h2

def k0_off162 (i : grid0.Coords) (k0_t3 : Fin k0_t3_loop.trips) : Fin 1 → Nat :=
  let c0_i32_217 : BitVec 32 := 0#32
  let arg0 : BitVec 32 := BitVec.ofNat 32 (i 0).val
  let c1_i32_67 : BitVec 32 := 1#32
  let v102 : BitVec 32 := Scalar.addi arg0 c1_i32_67
  let c512_i32_216 : BitVec 32 := 512#32
  let v339 : BitVec 32 := Scalar.muli v102 c512_i32_216
  let v340 : BitVec 32 := Scalar.addi c0_i32_217 v339
  let c0_i32_75 : BitVec 32 := 0#32
  let c1_i32_77 : BitVec 32 := 1#32
  let arg9 : BitVec 32 := Scf.iv c0_i32_75 c1_i32_77 k0_t3
  let c16_i32_215 : BitVec 32 := 16#32
  let v337 : BitVec 32 := Scalar.muli arg9 c16_i32_215
  let c13_i32 : BitVec 32 := 13#32
  let v338 : BitVec 32 := Scalar.addi v337 c13_i32
  let v341 : BitVec 32 := Scalar.addi v340 v338
  let v342 : Index := Scalar.indexCast v341
  ![v342.toNat]
def k0_mult91 (v343 : BitVec 32) : BitVec 32 :=
  let c8_i32_218 : BitVec 32 := 8#32
  let v344 : BitVec 32 := Scalar.muli v343 c8_i32_218
  v344

def k0_mult92 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_215 : BitVec 32 := 16#32
  let v337 : BitVec 32 := Scalar.muli arg9 c16_i32_215
  let c13_i32 : BitVec 32 := 13#32
  let v338 : BitVec 32 := Scalar.addi v337 c13_i32
  let c8_i32_219 : BitVec 32 := 8#32
  let v346 : BitVec 32 := Scalar.muli v338 c8_i32_219
  v346
def k0_off163 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off164 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_220 : BitVec 32 := 0#32
  let c0_i32_221 : BitVec 32 := 0#32
  let c0_i32_222 : BitVec 32 := 0#32
  ![v113.toNat, 0, 0, 0]
def k0_off165 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_215 : BitVec 32 := 16#32
  let v337 : BitVec 32 := Scalar.muli arg9 c16_i32_215
  let c13_i32 : BitVec 32 := 13#32
  let v338 : BitVec 32 := Scalar.addi v337 c13_i32
  let c8_i32_219 : BitVec 32 := 8#32
  let v346 : BitVec 32 := Scalar.muli v338 c8_i32_219
  let v347 : BitVec 32 := v346
  let c0_i32_223 : BitVec 32 := 0#32
  ![v347.toNat, 0]
def k0_off166 (v343 : BitVec 32) : Fin 2 → Nat :=
  let c8_i32_218 : BitVec 32 := 8#32
  let v344 : BitVec 32 := Scalar.muli v343 c8_i32_218
  let v345 : BitVec 32 := v344
  let c0_i32_224 : BitVec 32 := 0#32
  ![v345.toNat, 0]

def k0_chk46 (i : grid0.Coords) (v343 : BitVec 32) : Prop :=
  (∀ (k0_h2 : k0_cond2 i = 1#1), 8 ∣ (k0_mult91 v343).toNat) ∧
  (∀ (k0_h2 : k0_cond2 i = 1#1), ∀ a, (k0_off166 v343) a + S8x128.size a ≤ S294912x128.size a)
theorem k0_mult91_dvd : ∀ (i : grid0.Coords) (v343 : BitVec 32) (k0_hw46 : k0_chk46 i v343), ∀ (k0_h2 : k0_cond2 i = 1#1), 8 ∣ (k0_mult91 v343).toNat := fun i v343 k0_hw46 k0_h2 => k0_hw46.1 k0_h2
theorem k0_off166_inb : ∀ (i : grid0.Coords) (v343 : BitVec 32) (k0_hw46 : k0_chk46 i v343), ∀ (k0_h2 : k0_cond2 i = 1#1), ∀ a, (k0_off166 v343) a + S8x128.size a ≤ S294912x128.size a := fun i v343 k0_hw46 k0_h2 => k0_hw46.2 k0_h2

def k0_off167 (i : grid0.Coords) (k0_t3 : Fin k0_t3_loop.trips) : Fin 1 → Nat :=
  let c0_i32_227 : BitVec 32 := 0#32
  let arg0 : BitVec 32 := BitVec.ofNat 32 (i 0).val
  let c1_i32_67 : BitVec 32 := 1#32
  let v102 : BitVec 32 := Scalar.addi arg0 c1_i32_67
  let c512_i32_226 : BitVec 32 := 512#32
  let v356 : BitVec 32 := Scalar.muli v102 c512_i32_226
  let v357 : BitVec 32 := Scalar.addi c0_i32_227 v356
  let c0_i32_75 : BitVec 32 := 0#32
  let c1_i32_77 : BitVec 32 := 1#32
  let arg9 : BitVec 32 := Scf.iv c0_i32_75 c1_i32_77 k0_t3
  let c16_i32_225 : BitVec 32 := 16#32
  let v354 : BitVec 32 := Scalar.muli arg9 c16_i32_225
  let c14_i32 : BitVec 32 := 14#32
  let v355 : BitVec 32 := Scalar.addi v354 c14_i32
  let v358 : BitVec 32 := Scalar.addi v357 v355
  let v359 : Index := Scalar.indexCast v358
  ![v359.toNat]
def k0_mult93 (v360 : BitVec 32) : BitVec 32 :=
  let c8_i32_228 : BitVec 32 := 8#32
  let v361 : BitVec 32 := Scalar.muli v360 c8_i32_228
  v361

def k0_mult94 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_225 : BitVec 32 := 16#32
  let v354 : BitVec 32 := Scalar.muli arg9 c16_i32_225
  let c14_i32 : BitVec 32 := 14#32
  let v355 : BitVec 32 := Scalar.addi v354 c14_i32
  let c8_i32_229 : BitVec 32 := 8#32
  let v363 : BitVec 32 := Scalar.muli v355 c8_i32_229
  v363
def k0_off168 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off169 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_230 : BitVec 32 := 0#32
  let c0_i32_231 : BitVec 32 := 0#32
  let c0_i32_232 : BitVec 32 := 0#32
  ![v113.toNat, 0, 0, 0]
def k0_off170 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_225 : BitVec 32 := 16#32
  let v354 : BitVec 32 := Scalar.muli arg9 c16_i32_225
  let c14_i32 : BitVec 32 := 14#32
  let v355 : BitVec 32 := Scalar.addi v354 c14_i32
  let c8_i32_229 : BitVec 32 := 8#32
  let v363 : BitVec 32 := Scalar.muli v355 c8_i32_229
  let v364 : BitVec 32 := v363
  let c0_i32_233 : BitVec 32 := 0#32
  ![v364.toNat, 0]
def k0_off171 (v360 : BitVec 32) : Fin 2 → Nat :=
  let c8_i32_228 : BitVec 32 := 8#32
  let v361 : BitVec 32 := Scalar.muli v360 c8_i32_228
  let v362 : BitVec 32 := v361
  let c0_i32_234 : BitVec 32 := 0#32
  ![v362.toNat, 0]

def k0_chk47 (i : grid0.Coords) (v360 : BitVec 32) : Prop :=
  (∀ (k0_h2 : k0_cond2 i = 1#1), 8 ∣ (k0_mult93 v360).toNat) ∧
  (∀ (k0_h2 : k0_cond2 i = 1#1), ∀ a, (k0_off171 v360) a + S8x128.size a ≤ S294912x128.size a)
theorem k0_mult93_dvd : ∀ (i : grid0.Coords) (v360 : BitVec 32) (k0_hw47 : k0_chk47 i v360), ∀ (k0_h2 : k0_cond2 i = 1#1), 8 ∣ (k0_mult93 v360).toNat := fun i v360 k0_hw47 k0_h2 => k0_hw47.1 k0_h2
theorem k0_off171_inb : ∀ (i : grid0.Coords) (v360 : BitVec 32) (k0_hw47 : k0_chk47 i v360), ∀ (k0_h2 : k0_cond2 i = 1#1), ∀ a, (k0_off171 v360) a + S8x128.size a ≤ S294912x128.size a := fun i v360 k0_hw47 k0_h2 => k0_hw47.2 k0_h2

def k0_off172 (i : grid0.Coords) (k0_t3 : Fin k0_t3_loop.trips) : Fin 1 → Nat :=
  let c0_i32_237 : BitVec 32 := 0#32
  let arg0 : BitVec 32 := BitVec.ofNat 32 (i 0).val
  let c1_i32_67 : BitVec 32 := 1#32
  let v102 : BitVec 32 := Scalar.addi arg0 c1_i32_67
  let c512_i32_236 : BitVec 32 := 512#32
  let v373 : BitVec 32 := Scalar.muli v102 c512_i32_236
  let v374 : BitVec 32 := Scalar.addi c0_i32_237 v373
  let c0_i32_75 : BitVec 32 := 0#32
  let c1_i32_77 : BitVec 32 := 1#32
  let arg9 : BitVec 32 := Scf.iv c0_i32_75 c1_i32_77 k0_t3
  let c16_i32_235 : BitVec 32 := 16#32
  let v371 : BitVec 32 := Scalar.muli arg9 c16_i32_235
  let c15_i32 : BitVec 32 := 15#32
  let v372 : BitVec 32 := Scalar.addi v371 c15_i32
  let v375 : BitVec 32 := Scalar.addi v374 v372
  let v376 : Index := Scalar.indexCast v375
  ![v376.toNat]
def k0_mult95 (v377 : BitVec 32) : BitVec 32 :=
  let c8_i32_238 : BitVec 32 := 8#32
  let v378 : BitVec 32 := Scalar.muli v377 c8_i32_238
  v378

def k0_mult96 (k0_t3 : Fin k0_t3_loop.trips) : BitVec 32 :=
  let c0_i32_75 : BitVec 32 := 0#32
  let c1_i32_77 : BitVec 32 := 1#32
  let arg9 : BitVec 32 := Scf.iv c0_i32_75 c1_i32_77 k0_t3
  let c16_i32_235 : BitVec 32 := 16#32
  let v371 : BitVec 32 := Scalar.muli arg9 c16_i32_235
  let c15_i32 : BitVec 32 := 15#32
  let v372 : BitVec 32 := Scalar.addi v371 c15_i32
  let c8_i32_239 : BitVec 32 := 8#32
  let v380 : BitVec 32 := Scalar.muli v372 c8_i32_239
  v380
def k0_off173 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off174 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c0_i32_240 : BitVec 32 := 0#32
  let c0_i32_241 : BitVec 32 := 0#32
  let c0_i32_242 : BitVec 32 := 0#32
  ![v113.toNat, 0, 0, 0]
def k0_off175 (k0_t3 : Fin k0_t3_loop.trips) : Fin 2 → Nat :=
  let c0_i32_75 : BitVec 32 := 0#32
  let c1_i32_77 : BitVec 32 := 1#32
  let arg9 : BitVec 32 := Scf.iv c0_i32_75 c1_i32_77 k0_t3
  let c16_i32_235 : BitVec 32 := 16#32
  let v371 : BitVec 32 := Scalar.muli arg9 c16_i32_235
  let c15_i32 : BitVec 32 := 15#32
  let v372 : BitVec 32 := Scalar.addi v371 c15_i32
  let c8_i32_239 : BitVec 32 := 8#32
  let v380 : BitVec 32 := Scalar.muli v372 c8_i32_239
  let v381 : BitVec 32 := v380
  let c0_i32_243 : BitVec 32 := 0#32
  ![v381.toNat, 0]
def k0_off176 (v377 : BitVec 32) : Fin 2 → Nat :=
  let c8_i32_238 : BitVec 32 := 8#32
  let v378 : BitVec 32 := Scalar.muli v377 c8_i32_238
  let v379 : BitVec 32 := v378
  let c0_i32_244 : BitVec 32 := 0#32
  ![v379.toNat, 0]

def k0_chk48 (i : grid0.Coords) (v377 : BitVec 32) : Prop :=
  (∀ (k0_h2 : k0_cond2 i = 1#1), 8 ∣ (k0_mult95 v377).toNat) ∧
  (∀ (k0_h2 : k0_cond2 i = 1#1), ∀ a, (k0_off176 v377) a + S8x128.size a ≤ S294912x128.size a)
theorem k0_mult95_dvd : ∀ (i : grid0.Coords) (v377 : BitVec 32) (k0_hw48 : k0_chk48 i v377), ∀ (k0_h2 : k0_cond2 i = 1#1), 8 ∣ (k0_mult95 v377).toNat := fun i v377 k0_hw48 k0_h2 => k0_hw48.1 k0_h2
theorem k0_off176_inb : ∀ (i : grid0.Coords) (v377 : BitVec 32) (k0_hw48 : k0_chk48 i v377), ∀ (k0_h2 : k0_cond2 i = 1#1), ∀ a, (k0_off176 v377) a + S8x128.size a ≤ S294912x128.size a := fun i v377 k0_hw48 k0_h2 => k0_hw48.2 k0_h2

@[reducible] def k0_t4_loop : Scf.Loop 32 :=
  let c0_i32_79 : BitVec 32 := 0#32
  let c32_i32_80 : BitVec 32 := 32#32
  let v115 : BitVec 32 := Scalar.addi c0_i32_79 c32_i32_80
  let c1_i32_81 : BitVec 32 := 1#32
  ⟨c0_i32_79, v115, c1_i32_81⟩
def k0_off177 (i : grid0.Coords) (k0_t4 : Fin k0_t4_loop.trips) : Fin 1 → Nat :=
  let c16384_i32 : BitVec 32 := 16384#32
  let arg0 : BitVec 32 := BitVec.ofNat 32 (i 0).val
  let c1_i32_67 : BitVec 32 := 1#32
  let v102 : BitVec 32 := Scalar.addi arg0 c1_i32_67
  let c512_i32 : BitVec 32 := 512#32
  let v118 : BitVec 32 := Scalar.muli v102 c512_i32
  let v119 : BitVec 32 := Scalar.addi c16384_i32 v118
  let c0_i32_79 : BitVec 32 := 0#32
  let c1_i32_81 : BitVec 32 := 1#32
  let arg9 : BitVec 32 := Scf.iv c0_i32_79 c1_i32_81 k0_t4
  let c16_i32_83 : BitVec 32 := 16#32
  let v116 : BitVec 32 := Scalar.muli arg9 c16_i32_83
  let c0_i32_84 : BitVec 32 := 0#32
  let v117 : BitVec 32 := Scalar.addi v116 c0_i32_84
  let v120 : BitVec 32 := Scalar.addi v119 v117
  let v121 : Index := Scalar.indexCast v120
  ![v121.toNat]
def k0_mult97 (v122 : BitVec 32) : BitVec 32 :=
  let c8_i32 : BitVec 32 := 8#32
  let v123 : BitVec 32 := Scalar.muli v122 c8_i32
  v123

def k0_mult98 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_83 : BitVec 32 := 16#32
  let v116 : BitVec 32 := Scalar.muli arg9 c16_i32_83
  let c0_i32_84 : BitVec 32 := 0#32
  let v117 : BitVec 32 := Scalar.addi v116 c0_i32_84
  let c8_i32_85 : BitVec 32 := 8#32
  let v125 : BitVec 32 := Scalar.muli v117 c8_i32_85
  v125
def k0_off178 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off179 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_86 : BitVec 32 := 1#32
  let c0_i32_87 : BitVec 32 := 0#32
  let c0_i32_88 : BitVec 32 := 0#32
  ![v113.toNat, 1, 0, 0]
def k0_off180 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_83 : BitVec 32 := 16#32
  let v116 : BitVec 32 := Scalar.muli arg9 c16_i32_83
  let c0_i32_84 : BitVec 32 := 0#32
  let v117 : BitVec 32 := Scalar.addi v116 c0_i32_84
  let c8_i32_85 : BitVec 32 := 8#32
  let v125 : BitVec 32 := Scalar.muli v117 c8_i32_85
  let v126 : BitVec 32 := v125
  let c0_i32_89 : BitVec 32 := 0#32
  ![v126.toNat, 0]
def k0_off181 (v122 : BitVec 32) : Fin 2 → Nat :=
  let c8_i32 : BitVec 32 := 8#32
  let v123 : BitVec 32 := Scalar.muli v122 c8_i32
  let v124 : BitVec 32 := v123
  let c0_i32_90 : BitVec 32 := 0#32
  ![v124.toNat, 0]

def k0_chk49 (i : grid0.Coords) (v122 : BitVec 32) : Prop :=
  (∀ (k0_h2 : k0_cond2 i = 1#1), 8 ∣ (k0_mult97 v122).toNat) ∧
  (∀ (k0_h2 : k0_cond2 i = 1#1), ∀ a, (k0_off181 v122) a + S8x128.size a ≤ S294912x128.size a)
theorem k0_mult97_dvd : ∀ (i : grid0.Coords) (v122 : BitVec 32) (k0_hw49 : k0_chk49 i v122), ∀ (k0_h2 : k0_cond2 i = 1#1), 8 ∣ (k0_mult97 v122).toNat := fun i v122 k0_hw49 k0_h2 => k0_hw49.1 k0_h2
theorem k0_off181_inb : ∀ (i : grid0.Coords) (v122 : BitVec 32) (k0_hw49 : k0_chk49 i v122), ∀ (k0_h2 : k0_cond2 i = 1#1), ∀ a, (k0_off181 v122) a + S8x128.size a ≤ S294912x128.size a := fun i v122 k0_hw49 k0_h2 => k0_hw49.2 k0_h2

def k0_off182 (i : grid0.Coords) (k0_t4 : Fin k0_t4_loop.trips) : Fin 1 → Nat :=
  let c16384_i32_94 : BitVec 32 := 16384#32
  let arg0 : BitVec 32 := BitVec.ofNat 32 (i 0).val
  let c1_i32_67 : BitVec 32 := 1#32
  let v102 : BitVec 32 := Scalar.addi arg0 c1_i32_67
  let c512_i32_93 : BitVec 32 := 512#32
  let v135 : BitVec 32 := Scalar.muli v102 c512_i32_93
  let v136 : BitVec 32 := Scalar.addi c16384_i32_94 v135
  let c0_i32_79 : BitVec 32 := 0#32
  let c1_i32_81 : BitVec 32 := 1#32
  let arg9 : BitVec 32 := Scf.iv c0_i32_79 c1_i32_81 k0_t4
  let c16_i32_91 : BitVec 32 := 16#32
  let v133 : BitVec 32 := Scalar.muli arg9 c16_i32_91
  let c1_i32_92 : BitVec 32 := 1#32
  let v134 : BitVec 32 := Scalar.addi v133 c1_i32_92
  let v137 : BitVec 32 := Scalar.addi v136 v134
  let v138 : Index := Scalar.indexCast v137
  ![v138.toNat]
def k0_mult99 (v139 : BitVec 32) : BitVec 32 :=
  let c8_i32_95 : BitVec 32 := 8#32
  let v140 : BitVec 32 := Scalar.muli v139 c8_i32_95
  v140

def k0_mult100 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_91 : BitVec 32 := 16#32
  let v133 : BitVec 32 := Scalar.muli arg9 c16_i32_91
  let c1_i32_92 : BitVec 32 := 1#32
  let v134 : BitVec 32 := Scalar.addi v133 c1_i32_92
  let c8_i32_96 : BitVec 32 := 8#32
  let v142 : BitVec 32 := Scalar.muli v134 c8_i32_96
  v142
def k0_off183 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off184 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_97 : BitVec 32 := 1#32
  let c0_i32_98 : BitVec 32 := 0#32
  let c0_i32_99 : BitVec 32 := 0#32
  ![v113.toNat, 1, 0, 0]
def k0_off185 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_91 : BitVec 32 := 16#32
  let v133 : BitVec 32 := Scalar.muli arg9 c16_i32_91
  let c1_i32_92 : BitVec 32 := 1#32
  let v134 : BitVec 32 := Scalar.addi v133 c1_i32_92
  let c8_i32_96 : BitVec 32 := 8#32
  let v142 : BitVec 32 := Scalar.muli v134 c8_i32_96
  let v143 : BitVec 32 := v142
  let c0_i32_100 : BitVec 32 := 0#32
  ![v143.toNat, 0]
def k0_off186 (v139 : BitVec 32) : Fin 2 → Nat :=
  let c8_i32_95 : BitVec 32 := 8#32
  let v140 : BitVec 32 := Scalar.muli v139 c8_i32_95
  let v141 : BitVec 32 := v140
  let c0_i32_101 : BitVec 32 := 0#32
  ![v141.toNat, 0]

def k0_chk50 (i : grid0.Coords) (v139 : BitVec 32) : Prop :=
  (∀ (k0_h2 : k0_cond2 i = 1#1), 8 ∣ (k0_mult99 v139).toNat) ∧
  (∀ (k0_h2 : k0_cond2 i = 1#1), ∀ a, (k0_off186 v139) a + S8x128.size a ≤ S294912x128.size a)
theorem k0_mult99_dvd : ∀ (i : grid0.Coords) (v139 : BitVec 32) (k0_hw50 : k0_chk50 i v139), ∀ (k0_h2 : k0_cond2 i = 1#1), 8 ∣ (k0_mult99 v139).toNat := fun i v139 k0_hw50 k0_h2 => k0_hw50.1 k0_h2
theorem k0_off186_inb : ∀ (i : grid0.Coords) (v139 : BitVec 32) (k0_hw50 : k0_chk50 i v139), ∀ (k0_h2 : k0_cond2 i = 1#1), ∀ a, (k0_off186 v139) a + S8x128.size a ≤ S294912x128.size a := fun i v139 k0_hw50 k0_h2 => k0_hw50.2 k0_h2

def k0_off187 (i : grid0.Coords) (k0_t4 : Fin k0_t4_loop.trips) : Fin 1 → Nat :=
  let c16384_i32_105 : BitVec 32 := 16384#32
  let arg0 : BitVec 32 := BitVec.ofNat 32 (i 0).val
  let c1_i32_67 : BitVec 32 := 1#32
  let v102 : BitVec 32 := Scalar.addi arg0 c1_i32_67
  let c512_i32_104 : BitVec 32 := 512#32
  let v152 : BitVec 32 := Scalar.muli v102 c512_i32_104
  let v153 : BitVec 32 := Scalar.addi c16384_i32_105 v152
  let c0_i32_79 : BitVec 32 := 0#32
  let c1_i32_81 : BitVec 32 := 1#32
  let arg9 : BitVec 32 := Scf.iv c0_i32_79 c1_i32_81 k0_t4
  let c16_i32_102 : BitVec 32 := 16#32
  let v150 : BitVec 32 := Scalar.muli arg9 c16_i32_102
  let c2_i32_103 : BitVec 32 := 2#32
  let v151 : BitVec 32 := Scalar.addi v150 c2_i32_103
  let v154 : BitVec 32 := Scalar.addi v153 v151
  let v155 : Index := Scalar.indexCast v154
  ![v155.toNat]
def k0_mult101 (v156 : BitVec 32) : BitVec 32 :=
  let c8_i32_106 : BitVec 32 := 8#32
  let v157 : BitVec 32 := Scalar.muli v156 c8_i32_106
  v157

def k0_mult102 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_102 : BitVec 32 := 16#32
  let v150 : BitVec 32 := Scalar.muli arg9 c16_i32_102
  let c2_i32_103 : BitVec 32 := 2#32
  let v151 : BitVec 32 := Scalar.addi v150 c2_i32_103
  let c8_i32_107 : BitVec 32 := 8#32
  let v159 : BitVec 32 := Scalar.muli v151 c8_i32_107
  v159
def k0_off188 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off189 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_108 : BitVec 32 := 1#32
  let c0_i32_109 : BitVec 32 := 0#32
  let c0_i32_110 : BitVec 32 := 0#32
  ![v113.toNat, 1, 0, 0]
def k0_off190 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_102 : BitVec 32 := 16#32
  let v150 : BitVec 32 := Scalar.muli arg9 c16_i32_102
  let c2_i32_103 : BitVec 32 := 2#32
  let v151 : BitVec 32 := Scalar.addi v150 c2_i32_103
  let c8_i32_107 : BitVec 32 := 8#32
  let v159 : BitVec 32 := Scalar.muli v151 c8_i32_107
  let v160 : BitVec 32 := v159
  let c0_i32_111 : BitVec 32 := 0#32
  ![v160.toNat, 0]
def k0_off191 (v156 : BitVec 32) : Fin 2 → Nat :=
  let c8_i32_106 : BitVec 32 := 8#32
  let v157 : BitVec 32 := Scalar.muli v156 c8_i32_106
  let v158 : BitVec 32 := v157
  let c0_i32_112 : BitVec 32 := 0#32
  ![v158.toNat, 0]

def k0_chk51 (i : grid0.Coords) (v156 : BitVec 32) : Prop :=
  (∀ (k0_h2 : k0_cond2 i = 1#1), 8 ∣ (k0_mult101 v156).toNat) ∧
  (∀ (k0_h2 : k0_cond2 i = 1#1), ∀ a, (k0_off191 v156) a + S8x128.size a ≤ S294912x128.size a)
theorem k0_mult101_dvd : ∀ (i : grid0.Coords) (v156 : BitVec 32) (k0_hw51 : k0_chk51 i v156), ∀ (k0_h2 : k0_cond2 i = 1#1), 8 ∣ (k0_mult101 v156).toNat := fun i v156 k0_hw51 k0_h2 => k0_hw51.1 k0_h2
theorem k0_off191_inb : ∀ (i : grid0.Coords) (v156 : BitVec 32) (k0_hw51 : k0_chk51 i v156), ∀ (k0_h2 : k0_cond2 i = 1#1), ∀ a, (k0_off191 v156) a + S8x128.size a ≤ S294912x128.size a := fun i v156 k0_hw51 k0_h2 => k0_hw51.2 k0_h2

def k0_off192 (i : grid0.Coords) (k0_t4 : Fin k0_t4_loop.trips) : Fin 1 → Nat :=
  let c16384_i32_115 : BitVec 32 := 16384#32
  let arg0 : BitVec 32 := BitVec.ofNat 32 (i 0).val
  let c1_i32_67 : BitVec 32 := 1#32
  let v102 : BitVec 32 := Scalar.addi arg0 c1_i32_67
  let c512_i32_114 : BitVec 32 := 512#32
  let v169 : BitVec 32 := Scalar.muli v102 c512_i32_114
  let v170 : BitVec 32 := Scalar.addi c16384_i32_115 v169
  let c0_i32_79 : BitVec 32 := 0#32
  let c1_i32_81 : BitVec 32 := 1#32
  let arg9 : BitVec 32 := Scf.iv c0_i32_79 c1_i32_81 k0_t4
  let c16_i32_113 : BitVec 32 := 16#32
  let v167 : BitVec 32 := Scalar.muli arg9 c16_i32_113
  let c3_i32 : BitVec 32 := 3#32
  let v168 : BitVec 32 := Scalar.addi v167 c3_i32
  let v171 : BitVec 32 := Scalar.addi v170 v168
  let v172 : Index := Scalar.indexCast v171
  ![v172.toNat]
def k0_mult103 (v173 : BitVec 32) : BitVec 32 :=
  let c8_i32_116 : BitVec 32 := 8#32
  let v174 : BitVec 32 := Scalar.muli v173 c8_i32_116
  v174

def k0_mult104 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_113 : BitVec 32 := 16#32
  let v167 : BitVec 32 := Scalar.muli arg9 c16_i32_113
  let c3_i32 : BitVec 32 := 3#32
  let v168 : BitVec 32 := Scalar.addi v167 c3_i32
  let c8_i32_117 : BitVec 32 := 8#32
  let v176 : BitVec 32 := Scalar.muli v168 c8_i32_117
  v176
def k0_off193 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off194 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_118 : BitVec 32 := 1#32
  let c0_i32_119 : BitVec 32 := 0#32
  let c0_i32_120 : BitVec 32 := 0#32
  ![v113.toNat, 1, 0, 0]
def k0_off195 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_113 : BitVec 32 := 16#32
  let v167 : BitVec 32 := Scalar.muli arg9 c16_i32_113
  let c3_i32 : BitVec 32 := 3#32
  let v168 : BitVec 32 := Scalar.addi v167 c3_i32
  let c8_i32_117 : BitVec 32 := 8#32
  let v176 : BitVec 32 := Scalar.muli v168 c8_i32_117
  let v177 : BitVec 32 := v176
  let c0_i32_121 : BitVec 32 := 0#32
  ![v177.toNat, 0]
def k0_off196 (v173 : BitVec 32) : Fin 2 → Nat :=
  let c8_i32_116 : BitVec 32 := 8#32
  let v174 : BitVec 32 := Scalar.muli v173 c8_i32_116
  let v175 : BitVec 32 := v174
  let c0_i32_122 : BitVec 32 := 0#32
  ![v175.toNat, 0]

def k0_chk52 (i : grid0.Coords) (v173 : BitVec 32) : Prop :=
  (∀ (k0_h2 : k0_cond2 i = 1#1), 8 ∣ (k0_mult103 v173).toNat) ∧
  (∀ (k0_h2 : k0_cond2 i = 1#1), ∀ a, (k0_off196 v173) a + S8x128.size a ≤ S294912x128.size a)
theorem k0_mult103_dvd : ∀ (i : grid0.Coords) (v173 : BitVec 32) (k0_hw52 : k0_chk52 i v173), ∀ (k0_h2 : k0_cond2 i = 1#1), 8 ∣ (k0_mult103 v173).toNat := fun i v173 k0_hw52 k0_h2 => k0_hw52.1 k0_h2
theorem k0_off196_inb : ∀ (i : grid0.Coords) (v173 : BitVec 32) (k0_hw52 : k0_chk52 i v173), ∀ (k0_h2 : k0_cond2 i = 1#1), ∀ a, (k0_off196 v173) a + S8x128.size a ≤ S294912x128.size a := fun i v173 k0_hw52 k0_h2 => k0_hw52.2 k0_h2

def k0_off197 (i : grid0.Coords) (k0_t4 : Fin k0_t4_loop.trips) : Fin 1 → Nat :=
  let c16384_i32_125 : BitVec 32 := 16384#32
  let arg0 : BitVec 32 := BitVec.ofNat 32 (i 0).val
  let c1_i32_67 : BitVec 32 := 1#32
  let v102 : BitVec 32 := Scalar.addi arg0 c1_i32_67
  let c512_i32_124 : BitVec 32 := 512#32
  let v186 : BitVec 32 := Scalar.muli v102 c512_i32_124
  let v187 : BitVec 32 := Scalar.addi c16384_i32_125 v186
  let c0_i32_79 : BitVec 32 := 0#32
  let c1_i32_81 : BitVec 32 := 1#32
  let arg9 : BitVec 32 := Scf.iv c0_i32_79 c1_i32_81 k0_t4
  let c16_i32_123 : BitVec 32 := 16#32
  let v184 : BitVec 32 := Scalar.muli arg9 c16_i32_123
  let c4_i32 : BitVec 32 := 4#32
  let v185 : BitVec 32 := Scalar.addi v184 c4_i32
  let v188 : BitVec 32 := Scalar.addi v187 v185
  let v189 : Index := Scalar.indexCast v188
  ![v189.toNat]
def k0_mult105 (v190 : BitVec 32) : BitVec 32 :=
  let c8_i32_126 : BitVec 32 := 8#32
  let v191 : BitVec 32 := Scalar.muli v190 c8_i32_126
  v191

def k0_mult106 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_123 : BitVec 32 := 16#32
  let v184 : BitVec 32 := Scalar.muli arg9 c16_i32_123
  let c4_i32 : BitVec 32 := 4#32
  let v185 : BitVec 32 := Scalar.addi v184 c4_i32
  let c8_i32_127 : BitVec 32 := 8#32
  let v193 : BitVec 32 := Scalar.muli v185 c8_i32_127
  v193
def k0_off198 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off199 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_128 : BitVec 32 := 1#32
  let c0_i32_129 : BitVec 32 := 0#32
  let c0_i32_130 : BitVec 32 := 0#32
  ![v113.toNat, 1, 0, 0]
def k0_off200 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_123 : BitVec 32 := 16#32
  let v184 : BitVec 32 := Scalar.muli arg9 c16_i32_123
  let c4_i32 : BitVec 32 := 4#32
  let v185 : BitVec 32 := Scalar.addi v184 c4_i32
  let c8_i32_127 : BitVec 32 := 8#32
  let v193 : BitVec 32 := Scalar.muli v185 c8_i32_127
  let v194 : BitVec 32 := v193
  let c0_i32_131 : BitVec 32 := 0#32
  ![v194.toNat, 0]
def k0_off201 (v190 : BitVec 32) : Fin 2 → Nat :=
  let c8_i32_126 : BitVec 32 := 8#32
  let v191 : BitVec 32 := Scalar.muli v190 c8_i32_126
  let v192 : BitVec 32 := v191
  let c0_i32_132 : BitVec 32 := 0#32
  ![v192.toNat, 0]

def k0_chk53 (i : grid0.Coords) (v190 : BitVec 32) : Prop :=
  (∀ (k0_h2 : k0_cond2 i = 1#1), 8 ∣ (k0_mult105 v190).toNat) ∧
  (∀ (k0_h2 : k0_cond2 i = 1#1), ∀ a, (k0_off201 v190) a + S8x128.size a ≤ S294912x128.size a)
theorem k0_mult105_dvd : ∀ (i : grid0.Coords) (v190 : BitVec 32) (k0_hw53 : k0_chk53 i v190), ∀ (k0_h2 : k0_cond2 i = 1#1), 8 ∣ (k0_mult105 v190).toNat := fun i v190 k0_hw53 k0_h2 => k0_hw53.1 k0_h2
theorem k0_off201_inb : ∀ (i : grid0.Coords) (v190 : BitVec 32) (k0_hw53 : k0_chk53 i v190), ∀ (k0_h2 : k0_cond2 i = 1#1), ∀ a, (k0_off201 v190) a + S8x128.size a ≤ S294912x128.size a := fun i v190 k0_hw53 k0_h2 => k0_hw53.2 k0_h2

def k0_off202 (i : grid0.Coords) (k0_t4 : Fin k0_t4_loop.trips) : Fin 1 → Nat :=
  let c16384_i32_135 : BitVec 32 := 16384#32
  let arg0 : BitVec 32 := BitVec.ofNat 32 (i 0).val
  let c1_i32_67 : BitVec 32 := 1#32
  let v102 : BitVec 32 := Scalar.addi arg0 c1_i32_67
  let c512_i32_134 : BitVec 32 := 512#32
  let v203 : BitVec 32 := Scalar.muli v102 c512_i32_134
  let v204 : BitVec 32 := Scalar.addi c16384_i32_135 v203
  let c0_i32_79 : BitVec 32 := 0#32
  let c1_i32_81 : BitVec 32 := 1#32
  let arg9 : BitVec 32 := Scf.iv c0_i32_79 c1_i32_81 k0_t4
  let c16_i32_133 : BitVec 32 := 16#32
  let v201 : BitVec 32 := Scalar.muli arg9 c16_i32_133
  let c5_i32 : BitVec 32 := 5#32
  let v202 : BitVec 32 := Scalar.addi v201 c5_i32
  let v205 : BitVec 32 := Scalar.addi v204 v202
  let v206 : Index := Scalar.indexCast v205
  ![v206.toNat]
def k0_mult107 (v207 : BitVec 32) : BitVec 32 :=
  let c8_i32_136 : BitVec 32 := 8#32
  let v208 : BitVec 32 := Scalar.muli v207 c8_i32_136
  v208

def k0_mult108 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_133 : BitVec 32 := 16#32
  let v201 : BitVec 32 := Scalar.muli arg9 c16_i32_133
  let c5_i32 : BitVec 32 := 5#32
  let v202 : BitVec 32 := Scalar.addi v201 c5_i32
  let c8_i32_137 : BitVec 32 := 8#32
  let v210 : BitVec 32 := Scalar.muli v202 c8_i32_137
  v210
def k0_off203 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off204 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_138 : BitVec 32 := 1#32
  let c0_i32_139 : BitVec 32 := 0#32
  let c0_i32_140 : BitVec 32 := 0#32
  ![v113.toNat, 1, 0, 0]
def k0_off205 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_133 : BitVec 32 := 16#32
  let v201 : BitVec 32 := Scalar.muli arg9 c16_i32_133
  let c5_i32 : BitVec 32 := 5#32
  let v202 : BitVec 32 := Scalar.addi v201 c5_i32
  let c8_i32_137 : BitVec 32 := 8#32
  let v210 : BitVec 32 := Scalar.muli v202 c8_i32_137
  let v211 : BitVec 32 := v210
  let c0_i32_141 : BitVec 32 := 0#32
  ![v211.toNat, 0]
def k0_off206 (v207 : BitVec 32) : Fin 2 → Nat :=
  let c8_i32_136 : BitVec 32 := 8#32
  let v208 : BitVec 32 := Scalar.muli v207 c8_i32_136
  let v209 : BitVec 32 := v208
  let c0_i32_142 : BitVec 32 := 0#32
  ![v209.toNat, 0]

def k0_chk54 (i : grid0.Coords) (v207 : BitVec 32) : Prop :=
  (∀ (k0_h2 : k0_cond2 i = 1#1), 8 ∣ (k0_mult107 v207).toNat) ∧
  (∀ (k0_h2 : k0_cond2 i = 1#1), ∀ a, (k0_off206 v207) a + S8x128.size a ≤ S294912x128.size a)
theorem k0_mult107_dvd : ∀ (i : grid0.Coords) (v207 : BitVec 32) (k0_hw54 : k0_chk54 i v207), ∀ (k0_h2 : k0_cond2 i = 1#1), 8 ∣ (k0_mult107 v207).toNat := fun i v207 k0_hw54 k0_h2 => k0_hw54.1 k0_h2
theorem k0_off206_inb : ∀ (i : grid0.Coords) (v207 : BitVec 32) (k0_hw54 : k0_chk54 i v207), ∀ (k0_h2 : k0_cond2 i = 1#1), ∀ a, (k0_off206 v207) a + S8x128.size a ≤ S294912x128.size a := fun i v207 k0_hw54 k0_h2 => k0_hw54.2 k0_h2

def k0_off207 (i : grid0.Coords) (k0_t4 : Fin k0_t4_loop.trips) : Fin 1 → Nat :=
  let c16384_i32_145 : BitVec 32 := 16384#32
  let arg0 : BitVec 32 := BitVec.ofNat 32 (i 0).val
  let c1_i32_67 : BitVec 32 := 1#32
  let v102 : BitVec 32 := Scalar.addi arg0 c1_i32_67
  let c512_i32_144 : BitVec 32 := 512#32
  let v220 : BitVec 32 := Scalar.muli v102 c512_i32_144
  let v221 : BitVec 32 := Scalar.addi c16384_i32_145 v220
  let c0_i32_79 : BitVec 32 := 0#32
  let c1_i32_81 : BitVec 32 := 1#32
  let arg9 : BitVec 32 := Scf.iv c0_i32_79 c1_i32_81 k0_t4
  let c16_i32_143 : BitVec 32 := 16#32
  let v218 : BitVec 32 := Scalar.muli arg9 c16_i32_143
  let c6_i32 : BitVec 32 := 6#32
  let v219 : BitVec 32 := Scalar.addi v218 c6_i32
  let v222 : BitVec 32 := Scalar.addi v221 v219
  let v223 : Index := Scalar.indexCast v222
  ![v223.toNat]
def k0_mult109 (v224 : BitVec 32) : BitVec 32 :=
  let c8_i32_146 : BitVec 32 := 8#32
  let v225 : BitVec 32 := Scalar.muli v224 c8_i32_146
  v225

def k0_mult110 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_143 : BitVec 32 := 16#32
  let v218 : BitVec 32 := Scalar.muli arg9 c16_i32_143
  let c6_i32 : BitVec 32 := 6#32
  let v219 : BitVec 32 := Scalar.addi v218 c6_i32
  let c8_i32_147 : BitVec 32 := 8#32
  let v227 : BitVec 32 := Scalar.muli v219 c8_i32_147
  v227
def k0_off208 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off209 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_148 : BitVec 32 := 1#32
  let c0_i32_149 : BitVec 32 := 0#32
  let c0_i32_150 : BitVec 32 := 0#32
  ![v113.toNat, 1, 0, 0]
def k0_off210 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_143 : BitVec 32 := 16#32
  let v218 : BitVec 32 := Scalar.muli arg9 c16_i32_143
  let c6_i32 : BitVec 32 := 6#32
  let v219 : BitVec 32 := Scalar.addi v218 c6_i32
  let c8_i32_147 : BitVec 32 := 8#32
  let v227 : BitVec 32 := Scalar.muli v219 c8_i32_147
  let v228 : BitVec 32 := v227
  let c0_i32_151 : BitVec 32 := 0#32
  ![v228.toNat, 0]
def k0_off211 (v224 : BitVec 32) : Fin 2 → Nat :=
  let c8_i32_146 : BitVec 32 := 8#32
  let v225 : BitVec 32 := Scalar.muli v224 c8_i32_146
  let v226 : BitVec 32 := v225
  let c0_i32_152 : BitVec 32 := 0#32
  ![v226.toNat, 0]

def k0_chk55 (i : grid0.Coords) (v224 : BitVec 32) : Prop :=
  (∀ (k0_h2 : k0_cond2 i = 1#1), 8 ∣ (k0_mult109 v224).toNat) ∧
  (∀ (k0_h2 : k0_cond2 i = 1#1), ∀ a, (k0_off211 v224) a + S8x128.size a ≤ S294912x128.size a)
theorem k0_mult109_dvd : ∀ (i : grid0.Coords) (v224 : BitVec 32) (k0_hw55 : k0_chk55 i v224), ∀ (k0_h2 : k0_cond2 i = 1#1), 8 ∣ (k0_mult109 v224).toNat := fun i v224 k0_hw55 k0_h2 => k0_hw55.1 k0_h2
theorem k0_off211_inb : ∀ (i : grid0.Coords) (v224 : BitVec 32) (k0_hw55 : k0_chk55 i v224), ∀ (k0_h2 : k0_cond2 i = 1#1), ∀ a, (k0_off211 v224) a + S8x128.size a ≤ S294912x128.size a := fun i v224 k0_hw55 k0_h2 => k0_hw55.2 k0_h2

def k0_off212 (i : grid0.Coords) (k0_t4 : Fin k0_t4_loop.trips) : Fin 1 → Nat :=
  let c16384_i32_155 : BitVec 32 := 16384#32
  let arg0 : BitVec 32 := BitVec.ofNat 32 (i 0).val
  let c1_i32_67 : BitVec 32 := 1#32
  let v102 : BitVec 32 := Scalar.addi arg0 c1_i32_67
  let c512_i32_154 : BitVec 32 := 512#32
  let v237 : BitVec 32 := Scalar.muli v102 c512_i32_154
  let v238 : BitVec 32 := Scalar.addi c16384_i32_155 v237
  let c0_i32_79 : BitVec 32 := 0#32
  let c1_i32_81 : BitVec 32 := 1#32
  let arg9 : BitVec 32 := Scf.iv c0_i32_79 c1_i32_81 k0_t4
  let c16_i32_153 : BitVec 32 := 16#32
  let v235 : BitVec 32 := Scalar.muli arg9 c16_i32_153
  let c7_i32 : BitVec 32 := 7#32
  let v236 : BitVec 32 := Scalar.addi v235 c7_i32
  let v239 : BitVec 32 := Scalar.addi v238 v236
  let v240 : Index := Scalar.indexCast v239
  ![v240.toNat]
def k0_mult111 (v241 : BitVec 32) : BitVec 32 :=
  let c8_i32_156 : BitVec 32 := 8#32
  let v242 : BitVec 32 := Scalar.muli v241 c8_i32_156
  v242

def k0_mult112 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_153 : BitVec 32 := 16#32
  let v235 : BitVec 32 := Scalar.muli arg9 c16_i32_153
  let c7_i32 : BitVec 32 := 7#32
  let v236 : BitVec 32 := Scalar.addi v235 c7_i32
  let c8_i32_157 : BitVec 32 := 8#32
  let v244 : BitVec 32 := Scalar.muli v236 c8_i32_157
  v244
def k0_off213 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off214 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_158 : BitVec 32 := 1#32
  let c0_i32_159 : BitVec 32 := 0#32
  let c0_i32_160 : BitVec 32 := 0#32
  ![v113.toNat, 1, 0, 0]
def k0_off215 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_153 : BitVec 32 := 16#32
  let v235 : BitVec 32 := Scalar.muli arg9 c16_i32_153
  let c7_i32 : BitVec 32 := 7#32
  let v236 : BitVec 32 := Scalar.addi v235 c7_i32
  let c8_i32_157 : BitVec 32 := 8#32
  let v244 : BitVec 32 := Scalar.muli v236 c8_i32_157
  let v245 : BitVec 32 := v244
  let c0_i32_161 : BitVec 32 := 0#32
  ![v245.toNat, 0]
def k0_off216 (v241 : BitVec 32) : Fin 2 → Nat :=
  let c8_i32_156 : BitVec 32 := 8#32
  let v242 : BitVec 32 := Scalar.muli v241 c8_i32_156
  let v243 : BitVec 32 := v242
  let c0_i32_162 : BitVec 32 := 0#32
  ![v243.toNat, 0]

def k0_chk56 (i : grid0.Coords) (v241 : BitVec 32) : Prop :=
  (∀ (k0_h2 : k0_cond2 i = 1#1), 8 ∣ (k0_mult111 v241).toNat) ∧
  (∀ (k0_h2 : k0_cond2 i = 1#1), ∀ a, (k0_off216 v241) a + S8x128.size a ≤ S294912x128.size a)
theorem k0_mult111_dvd : ∀ (i : grid0.Coords) (v241 : BitVec 32) (k0_hw56 : k0_chk56 i v241), ∀ (k0_h2 : k0_cond2 i = 1#1), 8 ∣ (k0_mult111 v241).toNat := fun i v241 k0_hw56 k0_h2 => k0_hw56.1 k0_h2
theorem k0_off216_inb : ∀ (i : grid0.Coords) (v241 : BitVec 32) (k0_hw56 : k0_chk56 i v241), ∀ (k0_h2 : k0_cond2 i = 1#1), ∀ a, (k0_off216 v241) a + S8x128.size a ≤ S294912x128.size a := fun i v241 k0_hw56 k0_h2 => k0_hw56.2 k0_h2

def k0_off217 (i : grid0.Coords) (k0_t4 : Fin k0_t4_loop.trips) : Fin 1 → Nat :=
  let c16384_i32_166 : BitVec 32 := 16384#32
  let arg0 : BitVec 32 := BitVec.ofNat 32 (i 0).val
  let c1_i32_67 : BitVec 32 := 1#32
  let v102 : BitVec 32 := Scalar.addi arg0 c1_i32_67
  let c512_i32_165 : BitVec 32 := 512#32
  let v254 : BitVec 32 := Scalar.muli v102 c512_i32_165
  let v255 : BitVec 32 := Scalar.addi c16384_i32_166 v254
  let c0_i32_79 : BitVec 32 := 0#32
  let c1_i32_81 : BitVec 32 := 1#32
  let arg9 : BitVec 32 := Scf.iv c0_i32_79 c1_i32_81 k0_t4
  let c16_i32_163 : BitVec 32 := 16#32
  let v252 : BitVec 32 := Scalar.muli arg9 c16_i32_163
  let c8_i32_164 : BitVec 32 := 8#32
  let v253 : BitVec 32 := Scalar.addi v252 c8_i32_164
  let v256 : BitVec 32 := Scalar.addi v255 v253
  let v257 : Index := Scalar.indexCast v256
  ![v257.toNat]
def k0_mult113 (v258 : BitVec 32) : BitVec 32 :=
  let c8_i32_167 : BitVec 32 := 8#32
  let v259 : BitVec 32 := Scalar.muli v258 c8_i32_167
  v259

def k0_mult114 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_163 : BitVec 32 := 16#32
  let v252 : BitVec 32 := Scalar.muli arg9 c16_i32_163
  let c8_i32_164 : BitVec 32 := 8#32
  let v253 : BitVec 32 := Scalar.addi v252 c8_i32_164
  let c8_i32_168 : BitVec 32 := 8#32
  let v261 : BitVec 32 := Scalar.muli v253 c8_i32_168
  v261
def k0_off218 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off219 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_169 : BitVec 32 := 1#32
  let c0_i32_170 : BitVec 32 := 0#32
  let c0_i32_171 : BitVec 32 := 0#32
  ![v113.toNat, 1, 0, 0]
def k0_off220 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_163 : BitVec 32 := 16#32
  let v252 : BitVec 32 := Scalar.muli arg9 c16_i32_163
  let c8_i32_164 : BitVec 32 := 8#32
  let v253 : BitVec 32 := Scalar.addi v252 c8_i32_164
  let c8_i32_168 : BitVec 32 := 8#32
  let v261 : BitVec 32 := Scalar.muli v253 c8_i32_168
  let v262 : BitVec 32 := v261
  let c0_i32_172 : BitVec 32 := 0#32
  ![v262.toNat, 0]
def k0_off221 (v258 : BitVec 32) : Fin 2 → Nat :=
  let c8_i32_167 : BitVec 32 := 8#32
  let v259 : BitVec 32 := Scalar.muli v258 c8_i32_167
  let v260 : BitVec 32 := v259
  let c0_i32_173 : BitVec 32 := 0#32
  ![v260.toNat, 0]

def k0_chk57 (i : grid0.Coords) (v258 : BitVec 32) : Prop :=
  (∀ (k0_h2 : k0_cond2 i = 1#1), 8 ∣ (k0_mult113 v258).toNat) ∧
  (∀ (k0_h2 : k0_cond2 i = 1#1), ∀ a, (k0_off221 v258) a + S8x128.size a ≤ S294912x128.size a)
theorem k0_mult113_dvd : ∀ (i : grid0.Coords) (v258 : BitVec 32) (k0_hw57 : k0_chk57 i v258), ∀ (k0_h2 : k0_cond2 i = 1#1), 8 ∣ (k0_mult113 v258).toNat := fun i v258 k0_hw57 k0_h2 => k0_hw57.1 k0_h2
theorem k0_off221_inb : ∀ (i : grid0.Coords) (v258 : BitVec 32) (k0_hw57 : k0_chk57 i v258), ∀ (k0_h2 : k0_cond2 i = 1#1), ∀ a, (k0_off221 v258) a + S8x128.size a ≤ S294912x128.size a := fun i v258 k0_hw57 k0_h2 => k0_hw57.2 k0_h2

def k0_off222 (i : grid0.Coords) (k0_t4 : Fin k0_t4_loop.trips) : Fin 1 → Nat :=
  let c16384_i32_176 : BitVec 32 := 16384#32
  let arg0 : BitVec 32 := BitVec.ofNat 32 (i 0).val
  let c1_i32_67 : BitVec 32 := 1#32
  let v102 : BitVec 32 := Scalar.addi arg0 c1_i32_67
  let c512_i32_175 : BitVec 32 := 512#32
  let v271 : BitVec 32 := Scalar.muli v102 c512_i32_175
  let v272 : BitVec 32 := Scalar.addi c16384_i32_176 v271
  let c0_i32_79 : BitVec 32 := 0#32
  let c1_i32_81 : BitVec 32 := 1#32
  let arg9 : BitVec 32 := Scf.iv c0_i32_79 c1_i32_81 k0_t4
  let c16_i32_174 : BitVec 32 := 16#32
  let v269 : BitVec 32 := Scalar.muli arg9 c16_i32_174
  let c9_i32 : BitVec 32 := 9#32
  let v270 : BitVec 32 := Scalar.addi v269 c9_i32
  let v273 : BitVec 32 := Scalar.addi v272 v270
  let v274 : Index := Scalar.indexCast v273
  ![v274.toNat]
def k0_mult115 (v275 : BitVec 32) : BitVec 32 :=
  let c8_i32_177 : BitVec 32 := 8#32
  let v276 : BitVec 32 := Scalar.muli v275 c8_i32_177
  v276

def k0_mult116 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_174 : BitVec 32 := 16#32
  let v269 : BitVec 32 := Scalar.muli arg9 c16_i32_174
  let c9_i32 : BitVec 32 := 9#32
  let v270 : BitVec 32 := Scalar.addi v269 c9_i32
  let c8_i32_178 : BitVec 32 := 8#32
  let v278 : BitVec 32 := Scalar.muli v270 c8_i32_178
  v278
def k0_off223 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off224 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_179 : BitVec 32 := 1#32
  let c0_i32_180 : BitVec 32 := 0#32
  let c0_i32_181 : BitVec 32 := 0#32
  ![v113.toNat, 1, 0, 0]
def k0_off225 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_174 : BitVec 32 := 16#32
  let v269 : BitVec 32 := Scalar.muli arg9 c16_i32_174
  let c9_i32 : BitVec 32 := 9#32
  let v270 : BitVec 32 := Scalar.addi v269 c9_i32
  let c8_i32_178 : BitVec 32 := 8#32
  let v278 : BitVec 32 := Scalar.muli v270 c8_i32_178
  let v279 : BitVec 32 := v278
  let c0_i32_182 : BitVec 32 := 0#32
  ![v279.toNat, 0]
def k0_off226 (v275 : BitVec 32) : Fin 2 → Nat :=
  let c8_i32_177 : BitVec 32 := 8#32
  let v276 : BitVec 32 := Scalar.muli v275 c8_i32_177
  let v277 : BitVec 32 := v276
  let c0_i32_183 : BitVec 32 := 0#32
  ![v277.toNat, 0]

def k0_chk58 (i : grid0.Coords) (v275 : BitVec 32) : Prop :=
  (∀ (k0_h2 : k0_cond2 i = 1#1), 8 ∣ (k0_mult115 v275).toNat) ∧
  (∀ (k0_h2 : k0_cond2 i = 1#1), ∀ a, (k0_off226 v275) a + S8x128.size a ≤ S294912x128.size a)
theorem k0_mult115_dvd : ∀ (i : grid0.Coords) (v275 : BitVec 32) (k0_hw58 : k0_chk58 i v275), ∀ (k0_h2 : k0_cond2 i = 1#1), 8 ∣ (k0_mult115 v275).toNat := fun i v275 k0_hw58 k0_h2 => k0_hw58.1 k0_h2
theorem k0_off226_inb : ∀ (i : grid0.Coords) (v275 : BitVec 32) (k0_hw58 : k0_chk58 i v275), ∀ (k0_h2 : k0_cond2 i = 1#1), ∀ a, (k0_off226 v275) a + S8x128.size a ≤ S294912x128.size a := fun i v275 k0_hw58 k0_h2 => k0_hw58.2 k0_h2

def k0_off227 (i : grid0.Coords) (k0_t4 : Fin k0_t4_loop.trips) : Fin 1 → Nat :=
  let c16384_i32_186 : BitVec 32 := 16384#32
  let arg0 : BitVec 32 := BitVec.ofNat 32 (i 0).val
  let c1_i32_67 : BitVec 32 := 1#32
  let v102 : BitVec 32 := Scalar.addi arg0 c1_i32_67
  let c512_i32_185 : BitVec 32 := 512#32
  let v288 : BitVec 32 := Scalar.muli v102 c512_i32_185
  let v289 : BitVec 32 := Scalar.addi c16384_i32_186 v288
  let c0_i32_79 : BitVec 32 := 0#32
  let c1_i32_81 : BitVec 32 := 1#32
  let arg9 : BitVec 32 := Scf.iv c0_i32_79 c1_i32_81 k0_t4
  let c16_i32_184 : BitVec 32 := 16#32
  let v286 : BitVec 32 := Scalar.muli arg9 c16_i32_184
  let c10_i32 : BitVec 32 := 10#32
  let v287 : BitVec 32 := Scalar.addi v286 c10_i32
  let v290 : BitVec 32 := Scalar.addi v289 v287
  let v291 : Index := Scalar.indexCast v290
  ![v291.toNat]
def k0_mult117 (v292 : BitVec 32) : BitVec 32 :=
  let c8_i32_187 : BitVec 32 := 8#32
  let v293 : BitVec 32 := Scalar.muli v292 c8_i32_187
  v293

def k0_mult118 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_184 : BitVec 32 := 16#32
  let v286 : BitVec 32 := Scalar.muli arg9 c16_i32_184
  let c10_i32 : BitVec 32 := 10#32
  let v287 : BitVec 32 := Scalar.addi v286 c10_i32
  let c8_i32_188 : BitVec 32 := 8#32
  let v295 : BitVec 32 := Scalar.muli v287 c8_i32_188
  v295
def k0_off228 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off229 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_189 : BitVec 32 := 1#32
  let c0_i32_190 : BitVec 32 := 0#32
  let c0_i32_191 : BitVec 32 := 0#32
  ![v113.toNat, 1, 0, 0]
def k0_off230 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_184 : BitVec 32 := 16#32
  let v286 : BitVec 32 := Scalar.muli arg9 c16_i32_184
  let c10_i32 : BitVec 32 := 10#32
  let v287 : BitVec 32 := Scalar.addi v286 c10_i32
  let c8_i32_188 : BitVec 32 := 8#32
  let v295 : BitVec 32 := Scalar.muli v287 c8_i32_188
  let v296 : BitVec 32 := v295
  let c0_i32_192 : BitVec 32 := 0#32
  ![v296.toNat, 0]
def k0_off231 (v292 : BitVec 32) : Fin 2 → Nat :=
  let c8_i32_187 : BitVec 32 := 8#32
  let v293 : BitVec 32 := Scalar.muli v292 c8_i32_187
  let v294 : BitVec 32 := v293
  let c0_i32_193 : BitVec 32 := 0#32
  ![v294.toNat, 0]

def k0_chk59 (i : grid0.Coords) (v292 : BitVec 32) : Prop :=
  (∀ (k0_h2 : k0_cond2 i = 1#1), 8 ∣ (k0_mult117 v292).toNat) ∧
  (∀ (k0_h2 : k0_cond2 i = 1#1), ∀ a, (k0_off231 v292) a + S8x128.size a ≤ S294912x128.size a)
theorem k0_mult117_dvd : ∀ (i : grid0.Coords) (v292 : BitVec 32) (k0_hw59 : k0_chk59 i v292), ∀ (k0_h2 : k0_cond2 i = 1#1), 8 ∣ (k0_mult117 v292).toNat := fun i v292 k0_hw59 k0_h2 => k0_hw59.1 k0_h2
theorem k0_off231_inb : ∀ (i : grid0.Coords) (v292 : BitVec 32) (k0_hw59 : k0_chk59 i v292), ∀ (k0_h2 : k0_cond2 i = 1#1), ∀ a, (k0_off231 v292) a + S8x128.size a ≤ S294912x128.size a := fun i v292 k0_hw59 k0_h2 => k0_hw59.2 k0_h2

def k0_off232 (i : grid0.Coords) (k0_t4 : Fin k0_t4_loop.trips) : Fin 1 → Nat :=
  let c16384_i32_196 : BitVec 32 := 16384#32
  let arg0 : BitVec 32 := BitVec.ofNat 32 (i 0).val
  let c1_i32_67 : BitVec 32 := 1#32
  let v102 : BitVec 32 := Scalar.addi arg0 c1_i32_67
  let c512_i32_195 : BitVec 32 := 512#32
  let v305 : BitVec 32 := Scalar.muli v102 c512_i32_195
  let v306 : BitVec 32 := Scalar.addi c16384_i32_196 v305
  let c0_i32_79 : BitVec 32 := 0#32
  let c1_i32_81 : BitVec 32 := 1#32
  let arg9 : BitVec 32 := Scf.iv c0_i32_79 c1_i32_81 k0_t4
  let c16_i32_194 : BitVec 32 := 16#32
  let v303 : BitVec 32 := Scalar.muli arg9 c16_i32_194
  let c11_i32 : BitVec 32 := 11#32
  let v304 : BitVec 32 := Scalar.addi v303 c11_i32
  let v307 : BitVec 32 := Scalar.addi v306 v304
  let v308 : Index := Scalar.indexCast v307
  ![v308.toNat]
def k0_mult119 (v309 : BitVec 32) : BitVec 32 :=
  let c8_i32_197 : BitVec 32 := 8#32
  let v310 : BitVec 32 := Scalar.muli v309 c8_i32_197
  v310

def k0_mult120 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_194 : BitVec 32 := 16#32
  let v303 : BitVec 32 := Scalar.muli arg9 c16_i32_194
  let c11_i32 : BitVec 32 := 11#32
  let v304 : BitVec 32 := Scalar.addi v303 c11_i32
  let c8_i32_198 : BitVec 32 := 8#32
  let v312 : BitVec 32 := Scalar.muli v304 c8_i32_198
  v312
def k0_off233 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off234 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_199 : BitVec 32 := 1#32
  let c0_i32_200 : BitVec 32 := 0#32
  let c0_i32_201 : BitVec 32 := 0#32
  ![v113.toNat, 1, 0, 0]
def k0_off235 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_194 : BitVec 32 := 16#32
  let v303 : BitVec 32 := Scalar.muli arg9 c16_i32_194
  let c11_i32 : BitVec 32 := 11#32
  let v304 : BitVec 32 := Scalar.addi v303 c11_i32
  let c8_i32_198 : BitVec 32 := 8#32
  let v312 : BitVec 32 := Scalar.muli v304 c8_i32_198
  let v313 : BitVec 32 := v312
  let c0_i32_202 : BitVec 32 := 0#32
  ![v313.toNat, 0]
def k0_off236 (v309 : BitVec 32) : Fin 2 → Nat :=
  let c8_i32_197 : BitVec 32 := 8#32
  let v310 : BitVec 32 := Scalar.muli v309 c8_i32_197
  let v311 : BitVec 32 := v310
  let c0_i32_203 : BitVec 32 := 0#32
  ![v311.toNat, 0]

def k0_chk60 (i : grid0.Coords) (v309 : BitVec 32) : Prop :=
  (∀ (k0_h2 : k0_cond2 i = 1#1), 8 ∣ (k0_mult119 v309).toNat) ∧
  (∀ (k0_h2 : k0_cond2 i = 1#1), ∀ a, (k0_off236 v309) a + S8x128.size a ≤ S294912x128.size a)
theorem k0_mult119_dvd : ∀ (i : grid0.Coords) (v309 : BitVec 32) (k0_hw60 : k0_chk60 i v309), ∀ (k0_h2 : k0_cond2 i = 1#1), 8 ∣ (k0_mult119 v309).toNat := fun i v309 k0_hw60 k0_h2 => k0_hw60.1 k0_h2
theorem k0_off236_inb : ∀ (i : grid0.Coords) (v309 : BitVec 32) (k0_hw60 : k0_chk60 i v309), ∀ (k0_h2 : k0_cond2 i = 1#1), ∀ a, (k0_off236 v309) a + S8x128.size a ≤ S294912x128.size a := fun i v309 k0_hw60 k0_h2 => k0_hw60.2 k0_h2

def k0_off237 (i : grid0.Coords) (k0_t4 : Fin k0_t4_loop.trips) : Fin 1 → Nat :=
  let c16384_i32_206 : BitVec 32 := 16384#32
  let arg0 : BitVec 32 := BitVec.ofNat 32 (i 0).val
  let c1_i32_67 : BitVec 32 := 1#32
  let v102 : BitVec 32 := Scalar.addi arg0 c1_i32_67
  let c512_i32_205 : BitVec 32 := 512#32
  let v322 : BitVec 32 := Scalar.muli v102 c512_i32_205
  let v323 : BitVec 32 := Scalar.addi c16384_i32_206 v322
  let c0_i32_79 : BitVec 32 := 0#32
  let c1_i32_81 : BitVec 32 := 1#32
  let arg9 : BitVec 32 := Scf.iv c0_i32_79 c1_i32_81 k0_t4
  let c16_i32_204 : BitVec 32 := 16#32
  let v320 : BitVec 32 := Scalar.muli arg9 c16_i32_204
  let c12_i32 : BitVec 32 := 12#32
  let v321 : BitVec 32 := Scalar.addi v320 c12_i32
  let v324 : BitVec 32 := Scalar.addi v323 v321
  let v325 : Index := Scalar.indexCast v324
  ![v325.toNat]
def k0_mult121 (v326 : BitVec 32) : BitVec 32 :=
  let c8_i32_207 : BitVec 32 := 8#32
  let v327 : BitVec 32 := Scalar.muli v326 c8_i32_207
  v327

def k0_mult122 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_204 : BitVec 32 := 16#32
  let v320 : BitVec 32 := Scalar.muli arg9 c16_i32_204
  let c12_i32 : BitVec 32 := 12#32
  let v321 : BitVec 32 := Scalar.addi v320 c12_i32
  let c8_i32_208 : BitVec 32 := 8#32
  let v329 : BitVec 32 := Scalar.muli v321 c8_i32_208
  v329
def k0_off238 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off239 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_209 : BitVec 32 := 1#32
  let c0_i32_210 : BitVec 32 := 0#32
  let c0_i32_211 : BitVec 32 := 0#32
  ![v113.toNat, 1, 0, 0]
def k0_off240 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_204 : BitVec 32 := 16#32
  let v320 : BitVec 32 := Scalar.muli arg9 c16_i32_204
  let c12_i32 : BitVec 32 := 12#32
  let v321 : BitVec 32 := Scalar.addi v320 c12_i32
  let c8_i32_208 : BitVec 32 := 8#32
  let v329 : BitVec 32 := Scalar.muli v321 c8_i32_208
  let v330 : BitVec 32 := v329
  let c0_i32_212 : BitVec 32 := 0#32
  ![v330.toNat, 0]
def k0_off241 (v326 : BitVec 32) : Fin 2 → Nat :=
  let c8_i32_207 : BitVec 32 := 8#32
  let v327 : BitVec 32 := Scalar.muli v326 c8_i32_207
  let v328 : BitVec 32 := v327
  let c0_i32_213 : BitVec 32 := 0#32
  ![v328.toNat, 0]

def k0_chk61 (i : grid0.Coords) (v326 : BitVec 32) : Prop :=
  (∀ (k0_h2 : k0_cond2 i = 1#1), 8 ∣ (k0_mult121 v326).toNat) ∧
  (∀ (k0_h2 : k0_cond2 i = 1#1), ∀ a, (k0_off241 v326) a + S8x128.size a ≤ S294912x128.size a)
theorem k0_mult121_dvd : ∀ (i : grid0.Coords) (v326 : BitVec 32) (k0_hw61 : k0_chk61 i v326), ∀ (k0_h2 : k0_cond2 i = 1#1), 8 ∣ (k0_mult121 v326).toNat := fun i v326 k0_hw61 k0_h2 => k0_hw61.1 k0_h2
theorem k0_off241_inb : ∀ (i : grid0.Coords) (v326 : BitVec 32) (k0_hw61 : k0_chk61 i v326), ∀ (k0_h2 : k0_cond2 i = 1#1), ∀ a, (k0_off241 v326) a + S8x128.size a ≤ S294912x128.size a := fun i v326 k0_hw61 k0_h2 => k0_hw61.2 k0_h2

def k0_off242 (i : grid0.Coords) (k0_t4 : Fin k0_t4_loop.trips) : Fin 1 → Nat :=
  let c16384_i32_216 : BitVec 32 := 16384#32
  let arg0 : BitVec 32 := BitVec.ofNat 32 (i 0).val
  let c1_i32_67 : BitVec 32 := 1#32
  let v102 : BitVec 32 := Scalar.addi arg0 c1_i32_67
  let c512_i32_215 : BitVec 32 := 512#32
  let v339 : BitVec 32 := Scalar.muli v102 c512_i32_215
  let v340 : BitVec 32 := Scalar.addi c16384_i32_216 v339
  let c0_i32_79 : BitVec 32 := 0#32
  let c1_i32_81 : BitVec 32 := 1#32
  let arg9 : BitVec 32 := Scf.iv c0_i32_79 c1_i32_81 k0_t4
  let c16_i32_214 : BitVec 32 := 16#32
  let v337 : BitVec 32 := Scalar.muli arg9 c16_i32_214
  let c13_i32 : BitVec 32 := 13#32
  let v338 : BitVec 32 := Scalar.addi v337 c13_i32
  let v341 : BitVec 32 := Scalar.addi v340 v338
  let v342 : Index := Scalar.indexCast v341
  ![v342.toNat]
def k0_mult123 (v343 : BitVec 32) : BitVec 32 :=
  let c8_i32_217 : BitVec 32 := 8#32
  let v344 : BitVec 32 := Scalar.muli v343 c8_i32_217
  v344

def k0_mult124 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_214 : BitVec 32 := 16#32
  let v337 : BitVec 32 := Scalar.muli arg9 c16_i32_214
  let c13_i32 : BitVec 32 := 13#32
  let v338 : BitVec 32 := Scalar.addi v337 c13_i32
  let c8_i32_218 : BitVec 32 := 8#32
  let v346 : BitVec 32 := Scalar.muli v338 c8_i32_218
  v346
def k0_off243 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off244 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_219 : BitVec 32 := 1#32
  let c0_i32_220 : BitVec 32 := 0#32
  let c0_i32_221 : BitVec 32 := 0#32
  ![v113.toNat, 1, 0, 0]
def k0_off245 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_214 : BitVec 32 := 16#32
  let v337 : BitVec 32 := Scalar.muli arg9 c16_i32_214
  let c13_i32 : BitVec 32 := 13#32
  let v338 : BitVec 32 := Scalar.addi v337 c13_i32
  let c8_i32_218 : BitVec 32 := 8#32
  let v346 : BitVec 32 := Scalar.muli v338 c8_i32_218
  let v347 : BitVec 32 := v346
  let c0_i32_222 : BitVec 32 := 0#32
  ![v347.toNat, 0]
def k0_off246 (v343 : BitVec 32) : Fin 2 → Nat :=
  let c8_i32_217 : BitVec 32 := 8#32
  let v344 : BitVec 32 := Scalar.muli v343 c8_i32_217
  let v345 : BitVec 32 := v344
  let c0_i32_223 : BitVec 32 := 0#32
  ![v345.toNat, 0]

def k0_chk62 (i : grid0.Coords) (v343 : BitVec 32) : Prop :=
  (∀ (k0_h2 : k0_cond2 i = 1#1), 8 ∣ (k0_mult123 v343).toNat) ∧
  (∀ (k0_h2 : k0_cond2 i = 1#1), ∀ a, (k0_off246 v343) a + S8x128.size a ≤ S294912x128.size a)
theorem k0_mult123_dvd : ∀ (i : grid0.Coords) (v343 : BitVec 32) (k0_hw62 : k0_chk62 i v343), ∀ (k0_h2 : k0_cond2 i = 1#1), 8 ∣ (k0_mult123 v343).toNat := fun i v343 k0_hw62 k0_h2 => k0_hw62.1 k0_h2
theorem k0_off246_inb : ∀ (i : grid0.Coords) (v343 : BitVec 32) (k0_hw62 : k0_chk62 i v343), ∀ (k0_h2 : k0_cond2 i = 1#1), ∀ a, (k0_off246 v343) a + S8x128.size a ≤ S294912x128.size a := fun i v343 k0_hw62 k0_h2 => k0_hw62.2 k0_h2

def k0_off247 (i : grid0.Coords) (k0_t4 : Fin k0_t4_loop.trips) : Fin 1 → Nat :=
  let c16384_i32_226 : BitVec 32 := 16384#32
  let arg0 : BitVec 32 := BitVec.ofNat 32 (i 0).val
  let c1_i32_67 : BitVec 32 := 1#32
  let v102 : BitVec 32 := Scalar.addi arg0 c1_i32_67
  let c512_i32_225 : BitVec 32 := 512#32
  let v356 : BitVec 32 := Scalar.muli v102 c512_i32_225
  let v357 : BitVec 32 := Scalar.addi c16384_i32_226 v356
  let c0_i32_79 : BitVec 32 := 0#32
  let c1_i32_81 : BitVec 32 := 1#32
  let arg9 : BitVec 32 := Scf.iv c0_i32_79 c1_i32_81 k0_t4
  let c16_i32_224 : BitVec 32 := 16#32
  let v354 : BitVec 32 := Scalar.muli arg9 c16_i32_224
  let c14_i32 : BitVec 32 := 14#32
  let v355 : BitVec 32 := Scalar.addi v354 c14_i32
  let v358 : BitVec 32 := Scalar.addi v357 v355
  let v359 : Index := Scalar.indexCast v358
  ![v359.toNat]
def k0_mult125 (v360 : BitVec 32) : BitVec 32 :=
  let c8_i32_227 : BitVec 32 := 8#32
  let v361 : BitVec 32 := Scalar.muli v360 c8_i32_227
  v361

def k0_mult126 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_224 : BitVec 32 := 16#32
  let v354 : BitVec 32 := Scalar.muli arg9 c16_i32_224
  let c14_i32 : BitVec 32 := 14#32
  let v355 : BitVec 32 := Scalar.addi v354 c14_i32
  let c8_i32_228 : BitVec 32 := 8#32
  let v363 : BitVec 32 := Scalar.muli v355 c8_i32_228
  v363
def k0_off248 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off249 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_229 : BitVec 32 := 1#32
  let c0_i32_230 : BitVec 32 := 0#32
  let c0_i32_231 : BitVec 32 := 0#32
  ![v113.toNat, 1, 0, 0]
def k0_off250 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_224 : BitVec 32 := 16#32
  let v354 : BitVec 32 := Scalar.muli arg9 c16_i32_224
  let c14_i32 : BitVec 32 := 14#32
  let v355 : BitVec 32 := Scalar.addi v354 c14_i32
  let c8_i32_228 : BitVec 32 := 8#32
  let v363 : BitVec 32 := Scalar.muli v355 c8_i32_228
  let v364 : BitVec 32 := v363
  let c0_i32_232 : BitVec 32 := 0#32
  ![v364.toNat, 0]
def k0_off251 (v360 : BitVec 32) : Fin 2 → Nat :=
  let c8_i32_227 : BitVec 32 := 8#32
  let v361 : BitVec 32 := Scalar.muli v360 c8_i32_227
  let v362 : BitVec 32 := v361
  let c0_i32_233 : BitVec 32 := 0#32
  ![v362.toNat, 0]

def k0_chk63 (i : grid0.Coords) (v360 : BitVec 32) : Prop :=
  (∀ (k0_h2 : k0_cond2 i = 1#1), 8 ∣ (k0_mult125 v360).toNat) ∧
  (∀ (k0_h2 : k0_cond2 i = 1#1), ∀ a, (k0_off251 v360) a + S8x128.size a ≤ S294912x128.size a)
theorem k0_mult125_dvd : ∀ (i : grid0.Coords) (v360 : BitVec 32) (k0_hw63 : k0_chk63 i v360), ∀ (k0_h2 : k0_cond2 i = 1#1), 8 ∣ (k0_mult125 v360).toNat := fun i v360 k0_hw63 k0_h2 => k0_hw63.1 k0_h2
theorem k0_off251_inb : ∀ (i : grid0.Coords) (v360 : BitVec 32) (k0_hw63 : k0_chk63 i v360), ∀ (k0_h2 : k0_cond2 i = 1#1), ∀ a, (k0_off251 v360) a + S8x128.size a ≤ S294912x128.size a := fun i v360 k0_hw63 k0_h2 => k0_hw63.2 k0_h2

def k0_off252 (i : grid0.Coords) (k0_t4 : Fin k0_t4_loop.trips) : Fin 1 → Nat :=
  let c16384_i32_236 : BitVec 32 := 16384#32
  let arg0 : BitVec 32 := BitVec.ofNat 32 (i 0).val
  let c1_i32_67 : BitVec 32 := 1#32
  let v102 : BitVec 32 := Scalar.addi arg0 c1_i32_67
  let c512_i32_235 : BitVec 32 := 512#32
  let v373 : BitVec 32 := Scalar.muli v102 c512_i32_235
  let v374 : BitVec 32 := Scalar.addi c16384_i32_236 v373
  let c0_i32_79 : BitVec 32 := 0#32
  let c1_i32_81 : BitVec 32 := 1#32
  let arg9 : BitVec 32 := Scf.iv c0_i32_79 c1_i32_81 k0_t4
  let c16_i32_234 : BitVec 32 := 16#32
  let v371 : BitVec 32 := Scalar.muli arg9 c16_i32_234
  let c15_i32 : BitVec 32 := 15#32
  let v372 : BitVec 32 := Scalar.addi v371 c15_i32
  let v375 : BitVec 32 := Scalar.addi v374 v372
  let v376 : Index := Scalar.indexCast v375
  ![v376.toNat]
def k0_mult127 (v377 : BitVec 32) : BitVec 32 :=
  let c8_i32_237 : BitVec 32 := 8#32
  let v378 : BitVec 32 := Scalar.muli v377 c8_i32_237
  v378

def k0_mult128 (k0_t4 : Fin k0_t4_loop.trips) : BitVec 32 :=
  let c0_i32_79 : BitVec 32 := 0#32
  let c1_i32_81 : BitVec 32 := 1#32
  let arg9 : BitVec 32 := Scf.iv c0_i32_79 c1_i32_81 k0_t4
  let c16_i32_234 : BitVec 32 := 16#32
  let v371 : BitVec 32 := Scalar.muli arg9 c16_i32_234
  let c15_i32 : BitVec 32 := 15#32
  let v372 : BitVec 32 := Scalar.addi v371 c15_i32
  let c8_i32_238 : BitVec 32 := 8#32
  let v380 : BitVec 32 := Scalar.muli v372 c8_i32_238
  v380
def k0_off253 (i : grid0.Coords) : Fin 1 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  ![v113.toNat]
def k0_off254 (i : grid0.Coords) : Fin 4 → Nat :=
  let arg0 : BitVec 32 := BitVec.ofNat 32 (i 0).val
  let c1_i32_68 : BitVec 32 := 1#32
  let v103 : BitVec 32 := Scalar.addi arg0 c1_i32_68
  let c2_i32_69 : BitVec 32 := 2#32
  let c0_i32_70 : BitVec 32 := 0#32
  let v104 : BitVec 1 := Scalar.cmpi .eq c2_i32_69 c0_i32_70
  let c1_i32_71 : BitVec 32 := 1#32
  let v105 : BitVec 32 := Scalar.select v104 c1_i32_71 c2_i32_69
  let v106 : BitVec 32 := Scalar.remsi v103 v105
  let c0_i32_73 : BitVec 32 := 0#32
  let v108 : BitVec 1 := Scalar.cmpi .slt v106 c0_i32_73
  let c0_i32_74 : BitVec 32 := 0#32
  let v109 : BitVec 1 := Scalar.cmpi .slt v105 c0_i32_74
  let v110 : BitVec 1 := Scalar.xori v108 v109
  let c0_i32_72 : BitVec 32 := 0#32
  let v107 : BitVec 1 := Scalar.cmpi .ne v106 c0_i32_72
  let v111 : BitVec 1 := Scalar.andi v110 v107
  let v112 : BitVec 32 := Scalar.addi v106 v105
  let v113 : BitVec 32 := Scalar.select v111 v112 v106
  let c1_i32_239 : BitVec 32 := 1#32
  let c0_i32_240 : BitVec 32 := 0#32
  let c0_i32_241 : BitVec 32 := 0#32
  ![v113.toNat, 1, 0, 0]
def k0_off255 (k0_t4 : Fin k0_t4_loop.trips) : Fin 2 → Nat :=
  let c0_i32_79 : BitVec 32 := 0#32
  let c1_i32_81 : BitVec 32 := 1#32
  let arg9 : BitVec 32 := Scf.iv c0_i32_79 c1_i32_81 k0_t4
  let c16_i32_234 : BitVec 32 := 16#32
  let v371 : BitVec 32 := Scalar.muli arg9 c16_i32_234
  let c15_i32 : BitVec 32 := 15#32
  let v372 : BitVec 32 := Scalar.addi v371 c15_i32
  let c8_i32_238 : BitVec 32 := 8#32
  let v380 : BitVec 32 := Scalar.muli v372 c8_i32_238
  let v381 : BitVec 32 := v380
  let c0_i32_242 : BitVec 32 := 0#32
  ![v381.toNat, 0]
def k0_off256 (v377 : BitVec 32) : Fin 2 → Nat :=
  let c8_i32_237 : BitVec 32 := 8#32
  let v378 : BitVec 32 := Scalar.muli v377 c8_i32_237
  let v379 : BitVec 32 := v378
  let c0_i32_243 : BitVec 32 := 0#32
  ![v379.toNat, 0]

def k0_chk64 (i : grid0.Coords) (v377 : BitVec 32) : Prop :=
  (∀ (k0_h2 : k0_cond2 i = 1#1), 8 ∣ (k0_mult127 v377).toNat) ∧
  (∀ (k0_h2 : k0_cond2 i = 1#1), ∀ a, (k0_off256 v377) a + S8x128.size a ≤ S294912x128.size a)
theorem k0_mult127_dvd : ∀ (i : grid0.Coords) (v377 : BitVec 32) (k0_hw64 : k0_chk64 i v377), ∀ (k0_h2 : k0_cond2 i = 1#1), 8 ∣ (k0_mult127 v377).toNat := fun i v377 k0_hw64 k0_h2 => k0_hw64.1 k0_h2
theorem k0_off256_inb : ∀ (i : grid0.Coords) (v377 : BitVec 32) (k0_hw64 : k0_chk64 i v377), ∀ (k0_h2 : k0_cond2 i = 1#1), ∀ a, (k0_off256 v377) a + S8x128.size a ≤ S294912x128.size a := fun i v377 k0_hw64 k0_h2 => k0_hw64.2 k0_h2

@[reducible] def k0_t5_loop : Scf.Loop 32 :=
  let c0_i32_7 : BitVec 32 := 0#32
  let c32_i32_8 : BitVec 32 := 32#32
  let v17 : BitVec 32 := Scalar.addi c0_i32_7 c32_i32_8
  let c1_i32_9 : BitVec 32 := 1#32
  ⟨c0_i32_7, v17, c1_i32_9⟩
def k0_off257 (i : grid0.Coords) (k0_t5 : Fin k0_t5_loop.trips) : Fin 1 → Nat :=
  let c0_i32_69 : BitVec 32 := 0#32
  let arg0 : BitVec 32 := BitVec.ofNat 32 (i 0).val
  let c512_i32 : BitVec 32 := 512#32
  let v104 : BitVec 32 := Scalar.muli arg0 c512_i32
  let v105 : BitVec 32 := Scalar.addi c0_i32_69 v104
  let c0_i32_7 : BitVec 32 := 0#32
  let c1_i32_9 : BitVec 32 := 1#32
  let arg9 : BitVec 32 := Scf.iv c0_i32_7 c1_i32_9 k0_t5
  let c16_i32_67 : BitVec 32 := 16#32
  let v102 : BitVec 32 := Scalar.muli arg9 c16_i32_67
  let c0_i32_68 : BitVec 32 := 0#32
  let v103 : BitVec 32 := Scalar.addi v102 c0_i32_68
  let v106 : BitVec 32 := Scalar.addi v105 v103
  let v107 : Index := Scalar.indexCast v106
  ![v107.toNat]
def k0_mult129 (v108 : BitVec 32) : BitVec 32 :=
  let c8_i32 : BitVec 32 := 8#32
  let v109 : BitVec 32 := Scalar.muli v108 c8_i32
  v109

def k0_mult130 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_67 : BitVec 32 := 16#32
  let v102 : BitVec 32 := Scalar.muli arg9 c16_i32_67
  let c0_i32_68 : BitVec 32 := 0#32
  let v103 : BitVec 32 := Scalar.addi v102 c0_i32_68
  let c8_i32_70 : BitVec 32 := 8#32
  let v111 : BitVec 32 := Scalar.muli v103 c8_i32_70
  v111
def k0_off258 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off259 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_71 : BitVec 32 := 0#32
  let c0_i32_72 : BitVec 32 := 0#32
  let c0_i32_73 : BitVec 32 := 0#32
  ![v16.toNat, 0, 0, 0]
def k0_off260 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_67 : BitVec 32 := 16#32
  let v102 : BitVec 32 := Scalar.muli arg9 c16_i32_67
  let c0_i32_68 : BitVec 32 := 0#32
  let v103 : BitVec 32 := Scalar.addi v102 c0_i32_68
  let c8_i32_70 : BitVec 32 := 8#32
  let v111 : BitVec 32 := Scalar.muli v103 c8_i32_70
  let v112 : BitVec 32 := v111
  let c0_i32_74 : BitVec 32 := 0#32
  ![v112.toNat, 0]
def k0_off261 (v108 : BitVec 32) : Fin 2 → Nat :=
  let c8_i32 : BitVec 32 := 8#32
  let v109 : BitVec 32 := Scalar.muli v108 c8_i32
  let v110 : BitVec 32 := v109
  let c0_i32_75 : BitVec 32 := 0#32
  ![v110.toNat, 0]

def k0_chk65 (v108 : BitVec 32) : Prop :=
  (8 ∣ (k0_mult129 v108).toNat) ∧
  (∀ a, (k0_off261 v108) a + S8x128.size a ≤ S294912x128.size a)
theorem k0_mult129_dvd : ∀ (v108 : BitVec 32) (k0_hw65 : k0_chk65 v108), 8 ∣ (k0_mult129 v108).toNat := fun v108 k0_hw65 => k0_hw65.1
theorem k0_off261_inb : ∀ (v108 : BitVec 32) (k0_hw65 : k0_chk65 v108), ∀ a, (k0_off261 v108) a + S8x128.size a ≤ S294912x128.size a := fun v108 k0_hw65 => k0_hw65.2

def k0_off262 (i : grid0.Coords) (k0_t5 : Fin k0_t5_loop.trips) : Fin 1 → Nat :=
  let c0_i32_79 : BitVec 32 := 0#32
  let arg0 : BitVec 32 := BitVec.ofNat 32 (i 0).val
  let c512_i32_78 : BitVec 32 := 512#32
  let v121 : BitVec 32 := Scalar.muli arg0 c512_i32_78
  let v122 : BitVec 32 := Scalar.addi c0_i32_79 v121
  let c0_i32_7 : BitVec 32 := 0#32
  let c1_i32_9 : BitVec 32 := 1#32
  let arg9 : BitVec 32 := Scf.iv c0_i32_7 c1_i32_9 k0_t5
  let c16_i32_76 : BitVec 32 := 16#32
  let v119 : BitVec 32 := Scalar.muli arg9 c16_i32_76
  let c1_i32_77 : BitVec 32 := 1#32
  let v120 : BitVec 32 := Scalar.addi v119 c1_i32_77
  let v123 : BitVec 32 := Scalar.addi v122 v120
  let v124 : Index := Scalar.indexCast v123
  ![v124.toNat]
def k0_mult131 (v125 : BitVec 32) : BitVec 32 :=
  let c8_i32_80 : BitVec 32 := 8#32
  let v126 : BitVec 32 := Scalar.muli v125 c8_i32_80
  v126

def k0_mult132 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_76 : BitVec 32 := 16#32
  let v119 : BitVec 32 := Scalar.muli arg9 c16_i32_76
  let c1_i32_77 : BitVec 32 := 1#32
  let v120 : BitVec 32 := Scalar.addi v119 c1_i32_77
  let c8_i32_81 : BitVec 32 := 8#32
  let v128 : BitVec 32 := Scalar.muli v120 c8_i32_81
  v128
def k0_off263 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off264 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_82 : BitVec 32 := 0#32
  let c0_i32_83 : BitVec 32 := 0#32
  let c0_i32_84 : BitVec 32 := 0#32
  ![v16.toNat, 0, 0, 0]
def k0_off265 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_76 : BitVec 32 := 16#32
  let v119 : BitVec 32 := Scalar.muli arg9 c16_i32_76
  let c1_i32_77 : BitVec 32 := 1#32
  let v120 : BitVec 32 := Scalar.addi v119 c1_i32_77
  let c8_i32_81 : BitVec 32 := 8#32
  let v128 : BitVec 32 := Scalar.muli v120 c8_i32_81
  let v129 : BitVec 32 := v128
  let c0_i32_85 : BitVec 32 := 0#32
  ![v129.toNat, 0]
def k0_off266 (v125 : BitVec 32) : Fin 2 → Nat :=
  let c8_i32_80 : BitVec 32 := 8#32
  let v126 : BitVec 32 := Scalar.muli v125 c8_i32_80
  let v127 : BitVec 32 := v126
  let c0_i32_86 : BitVec 32 := 0#32
  ![v127.toNat, 0]

def k0_chk66 (v125 : BitVec 32) : Prop :=
  (8 ∣ (k0_mult131 v125).toNat) ∧
  (∀ a, (k0_off266 v125) a + S8x128.size a ≤ S294912x128.size a)
theorem k0_mult131_dvd : ∀ (v125 : BitVec 32) (k0_hw66 : k0_chk66 v125), 8 ∣ (k0_mult131 v125).toNat := fun v125 k0_hw66 => k0_hw66.1
theorem k0_off266_inb : ∀ (v125 : BitVec 32) (k0_hw66 : k0_chk66 v125), ∀ a, (k0_off266 v125) a + S8x128.size a ≤ S294912x128.size a := fun v125 k0_hw66 => k0_hw66.2

def k0_off267 (i : grid0.Coords) (k0_t5 : Fin k0_t5_loop.trips) : Fin 1 → Nat :=
  let c0_i32_90 : BitVec 32 := 0#32
  let arg0 : BitVec 32 := BitVec.ofNat 32 (i 0).val
  let c512_i32_89 : BitVec 32 := 512#32
  let v138 : BitVec 32 := Scalar.muli arg0 c512_i32_89
  let v139 : BitVec 32 := Scalar.addi c0_i32_90 v138
  let c0_i32_7 : BitVec 32 := 0#32
  let c1_i32_9 : BitVec 32 := 1#32
  let arg9 : BitVec 32 := Scf.iv c0_i32_7 c1_i32_9 k0_t5
  let c16_i32_87 : BitVec 32 := 16#32
  let v136 : BitVec 32 := Scalar.muli arg9 c16_i32_87
  let c2_i32_88 : BitVec 32 := 2#32
  let v137 : BitVec 32 := Scalar.addi v136 c2_i32_88
  let v140 : BitVec 32 := Scalar.addi v139 v137
  let v141 : Index := Scalar.indexCast v140
  ![v141.toNat]
def k0_mult133 (v142 : BitVec 32) : BitVec 32 :=
  let c8_i32_91 : BitVec 32 := 8#32
  let v143 : BitVec 32 := Scalar.muli v142 c8_i32_91
  v143

def k0_mult134 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_87 : BitVec 32 := 16#32
  let v136 : BitVec 32 := Scalar.muli arg9 c16_i32_87
  let c2_i32_88 : BitVec 32 := 2#32
  let v137 : BitVec 32 := Scalar.addi v136 c2_i32_88
  let c8_i32_92 : BitVec 32 := 8#32
  let v145 : BitVec 32 := Scalar.muli v137 c8_i32_92
  v145
def k0_off268 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off269 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_93 : BitVec 32 := 0#32
  let c0_i32_94 : BitVec 32 := 0#32
  let c0_i32_95 : BitVec 32 := 0#32
  ![v16.toNat, 0, 0, 0]
def k0_off270 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_87 : BitVec 32 := 16#32
  let v136 : BitVec 32 := Scalar.muli arg9 c16_i32_87
  let c2_i32_88 : BitVec 32 := 2#32
  let v137 : BitVec 32 := Scalar.addi v136 c2_i32_88
  let c8_i32_92 : BitVec 32 := 8#32
  let v145 : BitVec 32 := Scalar.muli v137 c8_i32_92
  let v146 : BitVec 32 := v145
  let c0_i32_96 : BitVec 32 := 0#32
  ![v146.toNat, 0]
def k0_off271 (v142 : BitVec 32) : Fin 2 → Nat :=
  let c8_i32_91 : BitVec 32 := 8#32
  let v143 : BitVec 32 := Scalar.muli v142 c8_i32_91
  let v144 : BitVec 32 := v143
  let c0_i32_97 : BitVec 32 := 0#32
  ![v144.toNat, 0]

def k0_chk67 (v142 : BitVec 32) : Prop :=
  (8 ∣ (k0_mult133 v142).toNat) ∧
  (∀ a, (k0_off271 v142) a + S8x128.size a ≤ S294912x128.size a)
theorem k0_mult133_dvd : ∀ (v142 : BitVec 32) (k0_hw67 : k0_chk67 v142), 8 ∣ (k0_mult133 v142).toNat := fun v142 k0_hw67 => k0_hw67.1
theorem k0_off271_inb : ∀ (v142 : BitVec 32) (k0_hw67 : k0_chk67 v142), ∀ a, (k0_off271 v142) a + S8x128.size a ≤ S294912x128.size a := fun v142 k0_hw67 => k0_hw67.2

def k0_off272 (i : grid0.Coords) (k0_t5 : Fin k0_t5_loop.trips) : Fin 1 → Nat :=
  let c0_i32_100 : BitVec 32 := 0#32
  let arg0 : BitVec 32 := BitVec.ofNat 32 (i 0).val
  let c512_i32_99 : BitVec 32 := 512#32
  let v155 : BitVec 32 := Scalar.muli arg0 c512_i32_99
  let v156 : BitVec 32 := Scalar.addi c0_i32_100 v155
  let c0_i32_7 : BitVec 32 := 0#32
  let c1_i32_9 : BitVec 32 := 1#32
  let arg9 : BitVec 32 := Scf.iv c0_i32_7 c1_i32_9 k0_t5
  let c16_i32_98 : BitVec 32 := 16#32
  let v153 : BitVec 32 := Scalar.muli arg9 c16_i32_98
  let c3_i32 : BitVec 32 := 3#32
  let v154 : BitVec 32 := Scalar.addi v153 c3_i32
  let v157 : BitVec 32 := Scalar.addi v156 v154
  let v158 : Index := Scalar.indexCast v157
  ![v158.toNat]
def k0_mult135 (v159 : BitVec 32) : BitVec 32 :=
  let c8_i32_101 : BitVec 32 := 8#32
  let v160 : BitVec 32 := Scalar.muli v159 c8_i32_101
  v160

def k0_mult136 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_98 : BitVec 32 := 16#32
  let v153 : BitVec 32 := Scalar.muli arg9 c16_i32_98
  let c3_i32 : BitVec 32 := 3#32
  let v154 : BitVec 32 := Scalar.addi v153 c3_i32
  let c8_i32_102 : BitVec 32 := 8#32
  let v162 : BitVec 32 := Scalar.muli v154 c8_i32_102
  v162
def k0_off273 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off274 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_103 : BitVec 32 := 0#32
  let c0_i32_104 : BitVec 32 := 0#32
  let c0_i32_105 : BitVec 32 := 0#32
  ![v16.toNat, 0, 0, 0]
def k0_off275 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_98 : BitVec 32 := 16#32
  let v153 : BitVec 32 := Scalar.muli arg9 c16_i32_98
  let c3_i32 : BitVec 32 := 3#32
  let v154 : BitVec 32 := Scalar.addi v153 c3_i32
  let c8_i32_102 : BitVec 32 := 8#32
  let v162 : BitVec 32 := Scalar.muli v154 c8_i32_102
  let v163 : BitVec 32 := v162
  let c0_i32_106 : BitVec 32 := 0#32
  ![v163.toNat, 0]
def k0_off276 (v159 : BitVec 32) : Fin 2 → Nat :=
  let c8_i32_101 : BitVec 32 := 8#32
  let v160 : BitVec 32 := Scalar.muli v159 c8_i32_101
  let v161 : BitVec 32 := v160
  let c0_i32_107 : BitVec 32 := 0#32
  ![v161.toNat, 0]

def k0_chk68 (v159 : BitVec 32) : Prop :=
  (8 ∣ (k0_mult135 v159).toNat) ∧
  (∀ a, (k0_off276 v159) a + S8x128.size a ≤ S294912x128.size a)
theorem k0_mult135_dvd : ∀ (v159 : BitVec 32) (k0_hw68 : k0_chk68 v159), 8 ∣ (k0_mult135 v159).toNat := fun v159 k0_hw68 => k0_hw68.1
theorem k0_off276_inb : ∀ (v159 : BitVec 32) (k0_hw68 : k0_chk68 v159), ∀ a, (k0_off276 v159) a + S8x128.size a ≤ S294912x128.size a := fun v159 k0_hw68 => k0_hw68.2

def k0_off277 (i : grid0.Coords) (k0_t5 : Fin k0_t5_loop.trips) : Fin 1 → Nat :=
  let c0_i32_110 : BitVec 32 := 0#32
  let arg0 : BitVec 32 := BitVec.ofNat 32 (i 0).val
  let c512_i32_109 : BitVec 32 := 512#32
  let v172 : BitVec 32 := Scalar.muli arg0 c512_i32_109
  let v173 : BitVec 32 := Scalar.addi c0_i32_110 v172
  let c0_i32_7 : BitVec 32 := 0#32
  let c1_i32_9 : BitVec 32 := 1#32
  let arg9 : BitVec 32 := Scf.iv c0_i32_7 c1_i32_9 k0_t5
  let c16_i32_108 : BitVec 32 := 16#32
  let v170 : BitVec 32 := Scalar.muli arg9 c16_i32_108
  let c4_i32 : BitVec 32 := 4#32
  let v171 : BitVec 32 := Scalar.addi v170 c4_i32
  let v174 : BitVec 32 := Scalar.addi v173 v171
  let v175 : Index := Scalar.indexCast v174
  ![v175.toNat]
def k0_mult137 (v176 : BitVec 32) : BitVec 32 :=
  let c8_i32_111 : BitVec 32 := 8#32
  let v177 : BitVec 32 := Scalar.muli v176 c8_i32_111
  v177

def k0_mult138 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_108 : BitVec 32 := 16#32
  let v170 : BitVec 32 := Scalar.muli arg9 c16_i32_108
  let c4_i32 : BitVec 32 := 4#32
  let v171 : BitVec 32 := Scalar.addi v170 c4_i32
  let c8_i32_112 : BitVec 32 := 8#32
  let v179 : BitVec 32 := Scalar.muli v171 c8_i32_112
  v179
def k0_off278 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off279 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_113 : BitVec 32 := 0#32
  let c0_i32_114 : BitVec 32 := 0#32
  let c0_i32_115 : BitVec 32 := 0#32
  ![v16.toNat, 0, 0, 0]
def k0_off280 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_108 : BitVec 32 := 16#32
  let v170 : BitVec 32 := Scalar.muli arg9 c16_i32_108
  let c4_i32 : BitVec 32 := 4#32
  let v171 : BitVec 32 := Scalar.addi v170 c4_i32
  let c8_i32_112 : BitVec 32 := 8#32
  let v179 : BitVec 32 := Scalar.muli v171 c8_i32_112
  let v180 : BitVec 32 := v179
  let c0_i32_116 : BitVec 32 := 0#32
  ![v180.toNat, 0]
def k0_off281 (v176 : BitVec 32) : Fin 2 → Nat :=
  let c8_i32_111 : BitVec 32 := 8#32
  let v177 : BitVec 32 := Scalar.muli v176 c8_i32_111
  let v178 : BitVec 32 := v177
  let c0_i32_117 : BitVec 32 := 0#32
  ![v178.toNat, 0]

def k0_chk69 (v176 : BitVec 32) : Prop :=
  (8 ∣ (k0_mult137 v176).toNat) ∧
  (∀ a, (k0_off281 v176) a + S8x128.size a ≤ S294912x128.size a)
theorem k0_mult137_dvd : ∀ (v176 : BitVec 32) (k0_hw69 : k0_chk69 v176), 8 ∣ (k0_mult137 v176).toNat := fun v176 k0_hw69 => k0_hw69.1
theorem k0_off281_inb : ∀ (v176 : BitVec 32) (k0_hw69 : k0_chk69 v176), ∀ a, (k0_off281 v176) a + S8x128.size a ≤ S294912x128.size a := fun v176 k0_hw69 => k0_hw69.2

def k0_off282 (i : grid0.Coords) (k0_t5 : Fin k0_t5_loop.trips) : Fin 1 → Nat :=
  let c0_i32_120 : BitVec 32 := 0#32
  let arg0 : BitVec 32 := BitVec.ofNat 32 (i 0).val
  let c512_i32_119 : BitVec 32 := 512#32
  let v189 : BitVec 32 := Scalar.muli arg0 c512_i32_119
  let v190 : BitVec 32 := Scalar.addi c0_i32_120 v189
  let c0_i32_7 : BitVec 32 := 0#32
  let c1_i32_9 : BitVec 32 := 1#32
  let arg9 : BitVec 32 := Scf.iv c0_i32_7 c1_i32_9 k0_t5
  let c16_i32_118 : BitVec 32 := 16#32
  let v187 : BitVec 32 := Scalar.muli arg9 c16_i32_118
  let c5_i32 : BitVec 32 := 5#32
  let v188 : BitVec 32 := Scalar.addi v187 c5_i32
  let v191 : BitVec 32 := Scalar.addi v190 v188
  let v192 : Index := Scalar.indexCast v191
  ![v192.toNat]
def k0_mult139 (v193 : BitVec 32) : BitVec 32 :=
  let c8_i32_121 : BitVec 32 := 8#32
  let v194 : BitVec 32 := Scalar.muli v193 c8_i32_121
  v194

def k0_mult140 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_118 : BitVec 32 := 16#32
  let v187 : BitVec 32 := Scalar.muli arg9 c16_i32_118
  let c5_i32 : BitVec 32 := 5#32
  let v188 : BitVec 32 := Scalar.addi v187 c5_i32
  let c8_i32_122 : BitVec 32 := 8#32
  let v196 : BitVec 32 := Scalar.muli v188 c8_i32_122
  v196
def k0_off283 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off284 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_123 : BitVec 32 := 0#32
  let c0_i32_124 : BitVec 32 := 0#32
  let c0_i32_125 : BitVec 32 := 0#32
  ![v16.toNat, 0, 0, 0]
def k0_off285 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_118 : BitVec 32 := 16#32
  let v187 : BitVec 32 := Scalar.muli arg9 c16_i32_118
  let c5_i32 : BitVec 32 := 5#32
  let v188 : BitVec 32 := Scalar.addi v187 c5_i32
  let c8_i32_122 : BitVec 32 := 8#32
  let v196 : BitVec 32 := Scalar.muli v188 c8_i32_122
  let v197 : BitVec 32 := v196
  let c0_i32_126 : BitVec 32 := 0#32
  ![v197.toNat, 0]
def k0_off286 (v193 : BitVec 32) : Fin 2 → Nat :=
  let c8_i32_121 : BitVec 32 := 8#32
  let v194 : BitVec 32 := Scalar.muli v193 c8_i32_121
  let v195 : BitVec 32 := v194
  let c0_i32_127 : BitVec 32 := 0#32
  ![v195.toNat, 0]

def k0_chk70 (v193 : BitVec 32) : Prop :=
  (8 ∣ (k0_mult139 v193).toNat) ∧
  (∀ a, (k0_off286 v193) a + S8x128.size a ≤ S294912x128.size a)
theorem k0_mult139_dvd : ∀ (v193 : BitVec 32) (k0_hw70 : k0_chk70 v193), 8 ∣ (k0_mult139 v193).toNat := fun v193 k0_hw70 => k0_hw70.1
theorem k0_off286_inb : ∀ (v193 : BitVec 32) (k0_hw70 : k0_chk70 v193), ∀ a, (k0_off286 v193) a + S8x128.size a ≤ S294912x128.size a := fun v193 k0_hw70 => k0_hw70.2

def k0_off287 (i : grid0.Coords) (k0_t5 : Fin k0_t5_loop.trips) : Fin 1 → Nat :=
  let c0_i32_130 : BitVec 32 := 0#32
  let arg0 : BitVec 32 := BitVec.ofNat 32 (i 0).val
  let c512_i32_129 : BitVec 32 := 512#32
  let v206 : BitVec 32 := Scalar.muli arg0 c512_i32_129
  let v207 : BitVec 32 := Scalar.addi c0_i32_130 v206
  let c0_i32_7 : BitVec 32 := 0#32
  let c1_i32_9 : BitVec 32 := 1#32
  let arg9 : BitVec 32 := Scf.iv c0_i32_7 c1_i32_9 k0_t5
  let c16_i32_128 : BitVec 32 := 16#32
  let v204 : BitVec 32 := Scalar.muli arg9 c16_i32_128
  let c6_i32 : BitVec 32 := 6#32
  let v205 : BitVec 32 := Scalar.addi v204 c6_i32
  let v208 : BitVec 32 := Scalar.addi v207 v205
  let v209 : Index := Scalar.indexCast v208
  ![v209.toNat]
def k0_mult141 (v210 : BitVec 32) : BitVec 32 :=
  let c8_i32_131 : BitVec 32 := 8#32
  let v211 : BitVec 32 := Scalar.muli v210 c8_i32_131
  v211

def k0_mult142 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_128 : BitVec 32 := 16#32
  let v204 : BitVec 32 := Scalar.muli arg9 c16_i32_128
  let c6_i32 : BitVec 32 := 6#32
  let v205 : BitVec 32 := Scalar.addi v204 c6_i32
  let c8_i32_132 : BitVec 32 := 8#32
  let v213 : BitVec 32 := Scalar.muli v205 c8_i32_132
  v213
def k0_off288 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off289 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_133 : BitVec 32 := 0#32
  let c0_i32_134 : BitVec 32 := 0#32
  let c0_i32_135 : BitVec 32 := 0#32
  ![v16.toNat, 0, 0, 0]
def k0_off290 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_128 : BitVec 32 := 16#32
  let v204 : BitVec 32 := Scalar.muli arg9 c16_i32_128
  let c6_i32 : BitVec 32 := 6#32
  let v205 : BitVec 32 := Scalar.addi v204 c6_i32
  let c8_i32_132 : BitVec 32 := 8#32
  let v213 : BitVec 32 := Scalar.muli v205 c8_i32_132
  let v214 : BitVec 32 := v213
  let c0_i32_136 : BitVec 32 := 0#32
  ![v214.toNat, 0]
def k0_off291 (v210 : BitVec 32) : Fin 2 → Nat :=
  let c8_i32_131 : BitVec 32 := 8#32
  let v211 : BitVec 32 := Scalar.muli v210 c8_i32_131
  let v212 : BitVec 32 := v211
  let c0_i32_137 : BitVec 32 := 0#32
  ![v212.toNat, 0]

def k0_chk71 (v210 : BitVec 32) : Prop :=
  (8 ∣ (k0_mult141 v210).toNat) ∧
  (∀ a, (k0_off291 v210) a + S8x128.size a ≤ S294912x128.size a)
theorem k0_mult141_dvd : ∀ (v210 : BitVec 32) (k0_hw71 : k0_chk71 v210), 8 ∣ (k0_mult141 v210).toNat := fun v210 k0_hw71 => k0_hw71.1
theorem k0_off291_inb : ∀ (v210 : BitVec 32) (k0_hw71 : k0_chk71 v210), ∀ a, (k0_off291 v210) a + S8x128.size a ≤ S294912x128.size a := fun v210 k0_hw71 => k0_hw71.2

def k0_off292 (i : grid0.Coords) (k0_t5 : Fin k0_t5_loop.trips) : Fin 1 → Nat :=
  let c0_i32_140 : BitVec 32 := 0#32
  let arg0 : BitVec 32 := BitVec.ofNat 32 (i 0).val
  let c512_i32_139 : BitVec 32 := 512#32
  let v223 : BitVec 32 := Scalar.muli arg0 c512_i32_139
  let v224 : BitVec 32 := Scalar.addi c0_i32_140 v223
  let c0_i32_7 : BitVec 32 := 0#32
  let c1_i32_9 : BitVec 32 := 1#32
  let arg9 : BitVec 32 := Scf.iv c0_i32_7 c1_i32_9 k0_t5
  let c16_i32_138 : BitVec 32 := 16#32
  let v221 : BitVec 32 := Scalar.muli arg9 c16_i32_138
  let c7_i32 : BitVec 32 := 7#32
  let v222 : BitVec 32 := Scalar.addi v221 c7_i32
  let v225 : BitVec 32 := Scalar.addi v224 v222
  let v226 : Index := Scalar.indexCast v225
  ![v226.toNat]
def k0_mult143 (v227 : BitVec 32) : BitVec 32 :=
  let c8_i32_141 : BitVec 32 := 8#32
  let v228 : BitVec 32 := Scalar.muli v227 c8_i32_141
  v228

def k0_mult144 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_138 : BitVec 32 := 16#32
  let v221 : BitVec 32 := Scalar.muli arg9 c16_i32_138
  let c7_i32 : BitVec 32 := 7#32
  let v222 : BitVec 32 := Scalar.addi v221 c7_i32
  let c8_i32_142 : BitVec 32 := 8#32
  let v230 : BitVec 32 := Scalar.muli v222 c8_i32_142
  v230
def k0_off293 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off294 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_143 : BitVec 32 := 0#32
  let c0_i32_144 : BitVec 32 := 0#32
  let c0_i32_145 : BitVec 32 := 0#32
  ![v16.toNat, 0, 0, 0]
def k0_off295 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_138 : BitVec 32 := 16#32
  let v221 : BitVec 32 := Scalar.muli arg9 c16_i32_138
  let c7_i32 : BitVec 32 := 7#32
  let v222 : BitVec 32 := Scalar.addi v221 c7_i32
  let c8_i32_142 : BitVec 32 := 8#32
  let v230 : BitVec 32 := Scalar.muli v222 c8_i32_142
  let v231 : BitVec 32 := v230
  let c0_i32_146 : BitVec 32 := 0#32
  ![v231.toNat, 0]
def k0_off296 (v227 : BitVec 32) : Fin 2 → Nat :=
  let c8_i32_141 : BitVec 32 := 8#32
  let v228 : BitVec 32 := Scalar.muli v227 c8_i32_141
  let v229 : BitVec 32 := v228
  let c0_i32_147 : BitVec 32 := 0#32
  ![v229.toNat, 0]

def k0_chk72 (v227 : BitVec 32) : Prop :=
  (8 ∣ (k0_mult143 v227).toNat) ∧
  (∀ a, (k0_off296 v227) a + S8x128.size a ≤ S294912x128.size a)
theorem k0_mult143_dvd : ∀ (v227 : BitVec 32) (k0_hw72 : k0_chk72 v227), 8 ∣ (k0_mult143 v227).toNat := fun v227 k0_hw72 => k0_hw72.1
theorem k0_off296_inb : ∀ (v227 : BitVec 32) (k0_hw72 : k0_chk72 v227), ∀ a, (k0_off296 v227) a + S8x128.size a ≤ S294912x128.size a := fun v227 k0_hw72 => k0_hw72.2

def k0_off297 (i : grid0.Coords) (k0_t5 : Fin k0_t5_loop.trips) : Fin 1 → Nat :=
  let c0_i32_151 : BitVec 32 := 0#32
  let arg0 : BitVec 32 := BitVec.ofNat 32 (i 0).val
  let c512_i32_150 : BitVec 32 := 512#32
  let v240 : BitVec 32 := Scalar.muli arg0 c512_i32_150
  let v241 : BitVec 32 := Scalar.addi c0_i32_151 v240
  let c0_i32_7 : BitVec 32 := 0#32
  let c1_i32_9 : BitVec 32 := 1#32
  let arg9 : BitVec 32 := Scf.iv c0_i32_7 c1_i32_9 k0_t5
  let c16_i32_148 : BitVec 32 := 16#32
  let v238 : BitVec 32 := Scalar.muli arg9 c16_i32_148
  let c8_i32_149 : BitVec 32 := 8#32
  let v239 : BitVec 32 := Scalar.addi v238 c8_i32_149
  let v242 : BitVec 32 := Scalar.addi v241 v239
  let v243 : Index := Scalar.indexCast v242
  ![v243.toNat]
def k0_mult145 (v244 : BitVec 32) : BitVec 32 :=
  let c8_i32_152 : BitVec 32 := 8#32
  let v245 : BitVec 32 := Scalar.muli v244 c8_i32_152
  v245

def k0_mult146 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_148 : BitVec 32 := 16#32
  let v238 : BitVec 32 := Scalar.muli arg9 c16_i32_148
  let c8_i32_149 : BitVec 32 := 8#32
  let v239 : BitVec 32 := Scalar.addi v238 c8_i32_149
  let c8_i32_153 : BitVec 32 := 8#32
  let v247 : BitVec 32 := Scalar.muli v239 c8_i32_153
  v247
def k0_off298 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off299 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_154 : BitVec 32 := 0#32
  let c0_i32_155 : BitVec 32 := 0#32
  let c0_i32_156 : BitVec 32 := 0#32
  ![v16.toNat, 0, 0, 0]
def k0_off300 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_148 : BitVec 32 := 16#32
  let v238 : BitVec 32 := Scalar.muli arg9 c16_i32_148
  let c8_i32_149 : BitVec 32 := 8#32
  let v239 : BitVec 32 := Scalar.addi v238 c8_i32_149
  let c8_i32_153 : BitVec 32 := 8#32
  let v247 : BitVec 32 := Scalar.muli v239 c8_i32_153
  let v248 : BitVec 32 := v247
  let c0_i32_157 : BitVec 32 := 0#32
  ![v248.toNat, 0]
def k0_off301 (v244 : BitVec 32) : Fin 2 → Nat :=
  let c8_i32_152 : BitVec 32 := 8#32
  let v245 : BitVec 32 := Scalar.muli v244 c8_i32_152
  let v246 : BitVec 32 := v245
  let c0_i32_158 : BitVec 32 := 0#32
  ![v246.toNat, 0]

def k0_chk73 (v244 : BitVec 32) : Prop :=
  (8 ∣ (k0_mult145 v244).toNat) ∧
  (∀ a, (k0_off301 v244) a + S8x128.size a ≤ S294912x128.size a)
theorem k0_mult145_dvd : ∀ (v244 : BitVec 32) (k0_hw73 : k0_chk73 v244), 8 ∣ (k0_mult145 v244).toNat := fun v244 k0_hw73 => k0_hw73.1
theorem k0_off301_inb : ∀ (v244 : BitVec 32) (k0_hw73 : k0_chk73 v244), ∀ a, (k0_off301 v244) a + S8x128.size a ≤ S294912x128.size a := fun v244 k0_hw73 => k0_hw73.2

def k0_off302 (i : grid0.Coords) (k0_t5 : Fin k0_t5_loop.trips) : Fin 1 → Nat :=
  let c0_i32_161 : BitVec 32 := 0#32
  let arg0 : BitVec 32 := BitVec.ofNat 32 (i 0).val
  let c512_i32_160 : BitVec 32 := 512#32
  let v257 : BitVec 32 := Scalar.muli arg0 c512_i32_160
  let v258 : BitVec 32 := Scalar.addi c0_i32_161 v257
  let c0_i32_7 : BitVec 32 := 0#32
  let c1_i32_9 : BitVec 32 := 1#32
  let arg9 : BitVec 32 := Scf.iv c0_i32_7 c1_i32_9 k0_t5
  let c16_i32_159 : BitVec 32 := 16#32
  let v255 : BitVec 32 := Scalar.muli arg9 c16_i32_159
  let c9_i32 : BitVec 32 := 9#32
  let v256 : BitVec 32 := Scalar.addi v255 c9_i32
  let v259 : BitVec 32 := Scalar.addi v258 v256
  let v260 : Index := Scalar.indexCast v259
  ![v260.toNat]
def k0_mult147 (v261 : BitVec 32) : BitVec 32 :=
  let c8_i32_162 : BitVec 32 := 8#32
  let v262 : BitVec 32 := Scalar.muli v261 c8_i32_162
  v262

def k0_mult148 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_159 : BitVec 32 := 16#32
  let v255 : BitVec 32 := Scalar.muli arg9 c16_i32_159
  let c9_i32 : BitVec 32 := 9#32
  let v256 : BitVec 32 := Scalar.addi v255 c9_i32
  let c8_i32_163 : BitVec 32 := 8#32
  let v264 : BitVec 32 := Scalar.muli v256 c8_i32_163
  v264
def k0_off303 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off304 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_164 : BitVec 32 := 0#32
  let c0_i32_165 : BitVec 32 := 0#32
  let c0_i32_166 : BitVec 32 := 0#32
  ![v16.toNat, 0, 0, 0]
def k0_off305 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_159 : BitVec 32 := 16#32
  let v255 : BitVec 32 := Scalar.muli arg9 c16_i32_159
  let c9_i32 : BitVec 32 := 9#32
  let v256 : BitVec 32 := Scalar.addi v255 c9_i32
  let c8_i32_163 : BitVec 32 := 8#32
  let v264 : BitVec 32 := Scalar.muli v256 c8_i32_163
  let v265 : BitVec 32 := v264
  let c0_i32_167 : BitVec 32 := 0#32
  ![v265.toNat, 0]
def k0_off306 (v261 : BitVec 32) : Fin 2 → Nat :=
  let c8_i32_162 : BitVec 32 := 8#32
  let v262 : BitVec 32 := Scalar.muli v261 c8_i32_162
  let v263 : BitVec 32 := v262
  let c0_i32_168 : BitVec 32 := 0#32
  ![v263.toNat, 0]

def k0_chk74 (v261 : BitVec 32) : Prop :=
  (8 ∣ (k0_mult147 v261).toNat) ∧
  (∀ a, (k0_off306 v261) a + S8x128.size a ≤ S294912x128.size a)
theorem k0_mult147_dvd : ∀ (v261 : BitVec 32) (k0_hw74 : k0_chk74 v261), 8 ∣ (k0_mult147 v261).toNat := fun v261 k0_hw74 => k0_hw74.1
theorem k0_off306_inb : ∀ (v261 : BitVec 32) (k0_hw74 : k0_chk74 v261), ∀ a, (k0_off306 v261) a + S8x128.size a ≤ S294912x128.size a := fun v261 k0_hw74 => k0_hw74.2

def k0_off307 (i : grid0.Coords) (k0_t5 : Fin k0_t5_loop.trips) : Fin 1 → Nat :=
  let c0_i32_171 : BitVec 32 := 0#32
  let arg0 : BitVec 32 := BitVec.ofNat 32 (i 0).val
  let c512_i32_170 : BitVec 32 := 512#32
  let v274 : BitVec 32 := Scalar.muli arg0 c512_i32_170
  let v275 : BitVec 32 := Scalar.addi c0_i32_171 v274
  let c0_i32_7 : BitVec 32 := 0#32
  let c1_i32_9 : BitVec 32 := 1#32
  let arg9 : BitVec 32 := Scf.iv c0_i32_7 c1_i32_9 k0_t5
  let c16_i32_169 : BitVec 32 := 16#32
  let v272 : BitVec 32 := Scalar.muli arg9 c16_i32_169
  let c10_i32 : BitVec 32 := 10#32
  let v273 : BitVec 32 := Scalar.addi v272 c10_i32
  let v276 : BitVec 32 := Scalar.addi v275 v273
  let v277 : Index := Scalar.indexCast v276
  ![v277.toNat]
def k0_mult149 (v278 : BitVec 32) : BitVec 32 :=
  let c8_i32_172 : BitVec 32 := 8#32
  let v279 : BitVec 32 := Scalar.muli v278 c8_i32_172
  v279

def k0_mult150 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_169 : BitVec 32 := 16#32
  let v272 : BitVec 32 := Scalar.muli arg9 c16_i32_169
  let c10_i32 : BitVec 32 := 10#32
  let v273 : BitVec 32 := Scalar.addi v272 c10_i32
  let c8_i32_173 : BitVec 32 := 8#32
  let v281 : BitVec 32 := Scalar.muli v273 c8_i32_173
  v281
def k0_off308 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off309 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_174 : BitVec 32 := 0#32
  let c0_i32_175 : BitVec 32 := 0#32
  let c0_i32_176 : BitVec 32 := 0#32
  ![v16.toNat, 0, 0, 0]
def k0_off310 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_169 : BitVec 32 := 16#32
  let v272 : BitVec 32 := Scalar.muli arg9 c16_i32_169
  let c10_i32 : BitVec 32 := 10#32
  let v273 : BitVec 32 := Scalar.addi v272 c10_i32
  let c8_i32_173 : BitVec 32 := 8#32
  let v281 : BitVec 32 := Scalar.muli v273 c8_i32_173
  let v282 : BitVec 32 := v281
  let c0_i32_177 : BitVec 32 := 0#32
  ![v282.toNat, 0]
def k0_off311 (v278 : BitVec 32) : Fin 2 → Nat :=
  let c8_i32_172 : BitVec 32 := 8#32
  let v279 : BitVec 32 := Scalar.muli v278 c8_i32_172
  let v280 : BitVec 32 := v279
  let c0_i32_178 : BitVec 32 := 0#32
  ![v280.toNat, 0]

def k0_chk75 (v278 : BitVec 32) : Prop :=
  (8 ∣ (k0_mult149 v278).toNat) ∧
  (∀ a, (k0_off311 v278) a + S8x128.size a ≤ S294912x128.size a)
theorem k0_mult149_dvd : ∀ (v278 : BitVec 32) (k0_hw75 : k0_chk75 v278), 8 ∣ (k0_mult149 v278).toNat := fun v278 k0_hw75 => k0_hw75.1
theorem k0_off311_inb : ∀ (v278 : BitVec 32) (k0_hw75 : k0_chk75 v278), ∀ a, (k0_off311 v278) a + S8x128.size a ≤ S294912x128.size a := fun v278 k0_hw75 => k0_hw75.2

def k0_off312 (i : grid0.Coords) (k0_t5 : Fin k0_t5_loop.trips) : Fin 1 → Nat :=
  let c0_i32_181 : BitVec 32 := 0#32
  let arg0 : BitVec 32 := BitVec.ofNat 32 (i 0).val
  let c512_i32_180 : BitVec 32 := 512#32
  let v291 : BitVec 32 := Scalar.muli arg0 c512_i32_180
  let v292 : BitVec 32 := Scalar.addi c0_i32_181 v291
  let c0_i32_7 : BitVec 32 := 0#32
  let c1_i32_9 : BitVec 32 := 1#32
  let arg9 : BitVec 32 := Scf.iv c0_i32_7 c1_i32_9 k0_t5
  let c16_i32_179 : BitVec 32 := 16#32
  let v289 : BitVec 32 := Scalar.muli arg9 c16_i32_179
  let c11_i32 : BitVec 32 := 11#32
  let v290 : BitVec 32 := Scalar.addi v289 c11_i32
  let v293 : BitVec 32 := Scalar.addi v292 v290
  let v294 : Index := Scalar.indexCast v293
  ![v294.toNat]
def k0_mult151 (v295 : BitVec 32) : BitVec 32 :=
  let c8_i32_182 : BitVec 32 := 8#32
  let v296 : BitVec 32 := Scalar.muli v295 c8_i32_182
  v296

def k0_mult152 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_179 : BitVec 32 := 16#32
  let v289 : BitVec 32 := Scalar.muli arg9 c16_i32_179
  let c11_i32 : BitVec 32 := 11#32
  let v290 : BitVec 32 := Scalar.addi v289 c11_i32
  let c8_i32_183 : BitVec 32 := 8#32
  let v298 : BitVec 32 := Scalar.muli v290 c8_i32_183
  v298
def k0_off313 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off314 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_184 : BitVec 32 := 0#32
  let c0_i32_185 : BitVec 32 := 0#32
  let c0_i32_186 : BitVec 32 := 0#32
  ![v16.toNat, 0, 0, 0]
def k0_off315 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_179 : BitVec 32 := 16#32
  let v289 : BitVec 32 := Scalar.muli arg9 c16_i32_179
  let c11_i32 : BitVec 32 := 11#32
  let v290 : BitVec 32 := Scalar.addi v289 c11_i32
  let c8_i32_183 : BitVec 32 := 8#32
  let v298 : BitVec 32 := Scalar.muli v290 c8_i32_183
  let v299 : BitVec 32 := v298
  let c0_i32_187 : BitVec 32 := 0#32
  ![v299.toNat, 0]
def k0_off316 (v295 : BitVec 32) : Fin 2 → Nat :=
  let c8_i32_182 : BitVec 32 := 8#32
  let v296 : BitVec 32 := Scalar.muli v295 c8_i32_182
  let v297 : BitVec 32 := v296
  let c0_i32_188 : BitVec 32 := 0#32
  ![v297.toNat, 0]

def k0_chk76 (v295 : BitVec 32) : Prop :=
  (8 ∣ (k0_mult151 v295).toNat) ∧
  (∀ a, (k0_off316 v295) a + S8x128.size a ≤ S294912x128.size a)
theorem k0_mult151_dvd : ∀ (v295 : BitVec 32) (k0_hw76 : k0_chk76 v295), 8 ∣ (k0_mult151 v295).toNat := fun v295 k0_hw76 => k0_hw76.1
theorem k0_off316_inb : ∀ (v295 : BitVec 32) (k0_hw76 : k0_chk76 v295), ∀ a, (k0_off316 v295) a + S8x128.size a ≤ S294912x128.size a := fun v295 k0_hw76 => k0_hw76.2

def k0_off317 (i : grid0.Coords) (k0_t5 : Fin k0_t5_loop.trips) : Fin 1 → Nat :=
  let c0_i32_191 : BitVec 32 := 0#32
  let arg0 : BitVec 32 := BitVec.ofNat 32 (i 0).val
  let c512_i32_190 : BitVec 32 := 512#32
  let v308 : BitVec 32 := Scalar.muli arg0 c512_i32_190
  let v309 : BitVec 32 := Scalar.addi c0_i32_191 v308
  let c0_i32_7 : BitVec 32 := 0#32
  let c1_i32_9 : BitVec 32 := 1#32
  let arg9 : BitVec 32 := Scf.iv c0_i32_7 c1_i32_9 k0_t5
  let c16_i32_189 : BitVec 32 := 16#32
  let v306 : BitVec 32 := Scalar.muli arg9 c16_i32_189
  let c12_i32 : BitVec 32 := 12#32
  let v307 : BitVec 32 := Scalar.addi v306 c12_i32
  let v310 : BitVec 32 := Scalar.addi v309 v307
  let v311 : Index := Scalar.indexCast v310
  ![v311.toNat]
def k0_mult153 (v312 : BitVec 32) : BitVec 32 :=
  let c8_i32_192 : BitVec 32 := 8#32
  let v313 : BitVec 32 := Scalar.muli v312 c8_i32_192
  v313

def k0_mult154 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_189 : BitVec 32 := 16#32
  let v306 : BitVec 32 := Scalar.muli arg9 c16_i32_189
  let c12_i32 : BitVec 32 := 12#32
  let v307 : BitVec 32 := Scalar.addi v306 c12_i32
  let c8_i32_193 : BitVec 32 := 8#32
  let v315 : BitVec 32 := Scalar.muli v307 c8_i32_193
  v315
def k0_off318 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off319 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_194 : BitVec 32 := 0#32
  let c0_i32_195 : BitVec 32 := 0#32
  let c0_i32_196 : BitVec 32 := 0#32
  ![v16.toNat, 0, 0, 0]
def k0_off320 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_189 : BitVec 32 := 16#32
  let v306 : BitVec 32 := Scalar.muli arg9 c16_i32_189
  let c12_i32 : BitVec 32 := 12#32
  let v307 : BitVec 32 := Scalar.addi v306 c12_i32
  let c8_i32_193 : BitVec 32 := 8#32
  let v315 : BitVec 32 := Scalar.muli v307 c8_i32_193
  let v316 : BitVec 32 := v315
  let c0_i32_197 : BitVec 32 := 0#32
  ![v316.toNat, 0]
def k0_off321 (v312 : BitVec 32) : Fin 2 → Nat :=
  let c8_i32_192 : BitVec 32 := 8#32
  let v313 : BitVec 32 := Scalar.muli v312 c8_i32_192
  let v314 : BitVec 32 := v313
  let c0_i32_198 : BitVec 32 := 0#32
  ![v314.toNat, 0]

def k0_chk77 (v312 : BitVec 32) : Prop :=
  (8 ∣ (k0_mult153 v312).toNat) ∧
  (∀ a, (k0_off321 v312) a + S8x128.size a ≤ S294912x128.size a)
theorem k0_mult153_dvd : ∀ (v312 : BitVec 32) (k0_hw77 : k0_chk77 v312), 8 ∣ (k0_mult153 v312).toNat := fun v312 k0_hw77 => k0_hw77.1
theorem k0_off321_inb : ∀ (v312 : BitVec 32) (k0_hw77 : k0_chk77 v312), ∀ a, (k0_off321 v312) a + S8x128.size a ≤ S294912x128.size a := fun v312 k0_hw77 => k0_hw77.2

def k0_off322 (i : grid0.Coords) (k0_t5 : Fin k0_t5_loop.trips) : Fin 1 → Nat :=
  let c0_i32_201 : BitVec 32 := 0#32
  let arg0 : BitVec 32 := BitVec.ofNat 32 (i 0).val
  let c512_i32_200 : BitVec 32 := 512#32
  let v325 : BitVec 32 := Scalar.muli arg0 c512_i32_200
  let v326 : BitVec 32 := Scalar.addi c0_i32_201 v325
  let c0_i32_7 : BitVec 32 := 0#32
  let c1_i32_9 : BitVec 32 := 1#32
  let arg9 : BitVec 32 := Scf.iv c0_i32_7 c1_i32_9 k0_t5
  let c16_i32_199 : BitVec 32 := 16#32
  let v323 : BitVec 32 := Scalar.muli arg9 c16_i32_199
  let c13_i32 : BitVec 32 := 13#32
  let v324 : BitVec 32 := Scalar.addi v323 c13_i32
  let v327 : BitVec 32 := Scalar.addi v326 v324
  let v328 : Index := Scalar.indexCast v327
  ![v328.toNat]
def k0_mult155 (v329 : BitVec 32) : BitVec 32 :=
  let c8_i32_202 : BitVec 32 := 8#32
  let v330 : BitVec 32 := Scalar.muli v329 c8_i32_202
  v330

def k0_mult156 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_199 : BitVec 32 := 16#32
  let v323 : BitVec 32 := Scalar.muli arg9 c16_i32_199
  let c13_i32 : BitVec 32 := 13#32
  let v324 : BitVec 32 := Scalar.addi v323 c13_i32
  let c8_i32_203 : BitVec 32 := 8#32
  let v332 : BitVec 32 := Scalar.muli v324 c8_i32_203
  v332
def k0_off323 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off324 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_204 : BitVec 32 := 0#32
  let c0_i32_205 : BitVec 32 := 0#32
  let c0_i32_206 : BitVec 32 := 0#32
  ![v16.toNat, 0, 0, 0]
def k0_off325 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_199 : BitVec 32 := 16#32
  let v323 : BitVec 32 := Scalar.muli arg9 c16_i32_199
  let c13_i32 : BitVec 32 := 13#32
  let v324 : BitVec 32 := Scalar.addi v323 c13_i32
  let c8_i32_203 : BitVec 32 := 8#32
  let v332 : BitVec 32 := Scalar.muli v324 c8_i32_203
  let v333 : BitVec 32 := v332
  let c0_i32_207 : BitVec 32 := 0#32
  ![v333.toNat, 0]
def k0_off326 (v329 : BitVec 32) : Fin 2 → Nat :=
  let c8_i32_202 : BitVec 32 := 8#32
  let v330 : BitVec 32 := Scalar.muli v329 c8_i32_202
  let v331 : BitVec 32 := v330
  let c0_i32_208 : BitVec 32 := 0#32
  ![v331.toNat, 0]

def k0_chk78 (v329 : BitVec 32) : Prop :=
  (8 ∣ (k0_mult155 v329).toNat) ∧
  (∀ a, (k0_off326 v329) a + S8x128.size a ≤ S294912x128.size a)
theorem k0_mult155_dvd : ∀ (v329 : BitVec 32) (k0_hw78 : k0_chk78 v329), 8 ∣ (k0_mult155 v329).toNat := fun v329 k0_hw78 => k0_hw78.1
theorem k0_off326_inb : ∀ (v329 : BitVec 32) (k0_hw78 : k0_chk78 v329), ∀ a, (k0_off326 v329) a + S8x128.size a ≤ S294912x128.size a := fun v329 k0_hw78 => k0_hw78.2

def k0_off327 (i : grid0.Coords) (k0_t5 : Fin k0_t5_loop.trips) : Fin 1 → Nat :=
  let c0_i32_211 : BitVec 32 := 0#32
  let arg0 : BitVec 32 := BitVec.ofNat 32 (i 0).val
  let c512_i32_210 : BitVec 32 := 512#32
  let v342 : BitVec 32 := Scalar.muli arg0 c512_i32_210
  let v343 : BitVec 32 := Scalar.addi c0_i32_211 v342
  let c0_i32_7 : BitVec 32 := 0#32
  let c1_i32_9 : BitVec 32 := 1#32
  let arg9 : BitVec 32 := Scf.iv c0_i32_7 c1_i32_9 k0_t5
  let c16_i32_209 : BitVec 32 := 16#32
  let v340 : BitVec 32 := Scalar.muli arg9 c16_i32_209
  let c14_i32 : BitVec 32 := 14#32
  let v341 : BitVec 32 := Scalar.addi v340 c14_i32
  let v344 : BitVec 32 := Scalar.addi v343 v341
  let v345 : Index := Scalar.indexCast v344
  ![v345.toNat]
def k0_mult157 (v346 : BitVec 32) : BitVec 32 :=
  let c8_i32_212 : BitVec 32 := 8#32
  let v347 : BitVec 32 := Scalar.muli v346 c8_i32_212
  v347

def k0_mult158 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_209 : BitVec 32 := 16#32
  let v340 : BitVec 32 := Scalar.muli arg9 c16_i32_209
  let c14_i32 : BitVec 32 := 14#32
  let v341 : BitVec 32 := Scalar.addi v340 c14_i32
  let c8_i32_213 : BitVec 32 := 8#32
  let v349 : BitVec 32 := Scalar.muli v341 c8_i32_213
  v349
def k0_off328 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off329 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_214 : BitVec 32 := 0#32
  let c0_i32_215 : BitVec 32 := 0#32
  let c0_i32_216 : BitVec 32 := 0#32
  ![v16.toNat, 0, 0, 0]
def k0_off330 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_209 : BitVec 32 := 16#32
  let v340 : BitVec 32 := Scalar.muli arg9 c16_i32_209
  let c14_i32 : BitVec 32 := 14#32
  let v341 : BitVec 32 := Scalar.addi v340 c14_i32
  let c8_i32_213 : BitVec 32 := 8#32
  let v349 : BitVec 32 := Scalar.muli v341 c8_i32_213
  let v350 : BitVec 32 := v349
  let c0_i32_217 : BitVec 32 := 0#32
  ![v350.toNat, 0]
def k0_off331 (v346 : BitVec 32) : Fin 2 → Nat :=
  let c8_i32_212 : BitVec 32 := 8#32
  let v347 : BitVec 32 := Scalar.muli v346 c8_i32_212
  let v348 : BitVec 32 := v347
  let c0_i32_218 : BitVec 32 := 0#32
  ![v348.toNat, 0]

def k0_chk79 (v346 : BitVec 32) : Prop :=
  (8 ∣ (k0_mult157 v346).toNat) ∧
  (∀ a, (k0_off331 v346) a + S8x128.size a ≤ S294912x128.size a)
theorem k0_mult157_dvd : ∀ (v346 : BitVec 32) (k0_hw79 : k0_chk79 v346), 8 ∣ (k0_mult157 v346).toNat := fun v346 k0_hw79 => k0_hw79.1
theorem k0_off331_inb : ∀ (v346 : BitVec 32) (k0_hw79 : k0_chk79 v346), ∀ a, (k0_off331 v346) a + S8x128.size a ≤ S294912x128.size a := fun v346 k0_hw79 => k0_hw79.2

def k0_off332 (i : grid0.Coords) (k0_t5 : Fin k0_t5_loop.trips) : Fin 1 → Nat :=
  let c0_i32_221 : BitVec 32 := 0#32
  let arg0 : BitVec 32 := BitVec.ofNat 32 (i 0).val
  let c512_i32_220 : BitVec 32 := 512#32
  let v359 : BitVec 32 := Scalar.muli arg0 c512_i32_220
  let v360 : BitVec 32 := Scalar.addi c0_i32_221 v359
  let c0_i32_7 : BitVec 32 := 0#32
  let c1_i32_9 : BitVec 32 := 1#32
  let arg9 : BitVec 32 := Scf.iv c0_i32_7 c1_i32_9 k0_t5
  let c16_i32_219 : BitVec 32 := 16#32
  let v357 : BitVec 32 := Scalar.muli arg9 c16_i32_219
  let c15_i32 : BitVec 32 := 15#32
  let v358 : BitVec 32 := Scalar.addi v357 c15_i32
  let v361 : BitVec 32 := Scalar.addi v360 v358
  let v362 : Index := Scalar.indexCast v361
  ![v362.toNat]
def k0_mult159 (v363 : BitVec 32) : BitVec 32 :=
  let c8_i32_222 : BitVec 32 := 8#32
  let v364 : BitVec 32 := Scalar.muli v363 c8_i32_222
  v364

def k0_mult160 (k0_t5 : Fin k0_t5_loop.trips) : BitVec 32 :=
  let c0_i32_7 : BitVec 32 := 0#32
  let c1_i32_9 : BitVec 32 := 1#32
  let arg9 : BitVec 32 := Scf.iv c0_i32_7 c1_i32_9 k0_t5
  let c16_i32_219 : BitVec 32 := 16#32
  let v357 : BitVec 32 := Scalar.muli arg9 c16_i32_219
  let c15_i32 : BitVec 32 := 15#32
  let v358 : BitVec 32 := Scalar.addi v357 c15_i32
  let c8_i32_223 : BitVec 32 := 8#32
  let v366 : BitVec 32 := Scalar.muli v358 c8_i32_223
  v366
def k0_off333 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off334 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_224 : BitVec 32 := 0#32
  let c0_i32_225 : BitVec 32 := 0#32
  let c0_i32_226 : BitVec 32 := 0#32
  ![v16.toNat, 0, 0, 0]
def k0_off335 (k0_t5 : Fin k0_t5_loop.trips) : Fin 2 → Nat :=
  let c0_i32_7 : BitVec 32 := 0#32
  let c1_i32_9 : BitVec 32 := 1#32
  let arg9 : BitVec 32 := Scf.iv c0_i32_7 c1_i32_9 k0_t5
  let c16_i32_219 : BitVec 32 := 16#32
  let v357 : BitVec 32 := Scalar.muli arg9 c16_i32_219
  let c15_i32 : BitVec 32 := 15#32
  let v358 : BitVec 32 := Scalar.addi v357 c15_i32
  let c8_i32_223 : BitVec 32 := 8#32
  let v366 : BitVec 32 := Scalar.muli v358 c8_i32_223
  let v367 : BitVec 32 := v366
  let c0_i32_227 : BitVec 32 := 0#32
  ![v367.toNat, 0]
def k0_off336 (v363 : BitVec 32) : Fin 2 → Nat :=
  let c8_i32_222 : BitVec 32 := 8#32
  let v364 : BitVec 32 := Scalar.muli v363 c8_i32_222
  let v365 : BitVec 32 := v364
  let c0_i32_228 : BitVec 32 := 0#32
  ![v365.toNat, 0]

def k0_chk80 (v363 : BitVec 32) : Prop :=
  (8 ∣ (k0_mult159 v363).toNat) ∧
  (∀ a, (k0_off336 v363) a + S8x128.size a ≤ S294912x128.size a)
theorem k0_mult159_dvd : ∀ (v363 : BitVec 32) (k0_hw80 : k0_chk80 v363), 8 ∣ (k0_mult159 v363).toNat := fun v363 k0_hw80 => k0_hw80.1
theorem k0_off336_inb : ∀ (v363 : BitVec 32) (k0_hw80 : k0_chk80 v363), ∀ a, (k0_off336 v363) a + S8x128.size a ≤ S294912x128.size a := fun v363 k0_hw80 => k0_hw80.2

@[reducible] def k0_t6_loop : Scf.Loop 32 :=
  let c0_i32_11 : BitVec 32 := 0#32
  let c32_i32_12 : BitVec 32 := 32#32
  let v18 : BitVec 32 := Scalar.addi c0_i32_11 c32_i32_12
  let c1_i32_13 : BitVec 32 := 1#32
  ⟨c0_i32_11, v18, c1_i32_13⟩
def k0_off337 (i : grid0.Coords) (k0_t6 : Fin k0_t6_loop.trips) : Fin 1 → Nat :=
  let c16384_i32 : BitVec 32 := 16384#32
  let arg0 : BitVec 32 := BitVec.ofNat 32 (i 0).val
  let c512_i32 : BitVec 32 := 512#32
  let v104 : BitVec 32 := Scalar.muli arg0 c512_i32
  let v105 : BitVec 32 := Scalar.addi c16384_i32 v104
  let c0_i32_11 : BitVec 32 := 0#32
  let c1_i32_13 : BitVec 32 := 1#32
  let arg9 : BitVec 32 := Scf.iv c0_i32_11 c1_i32_13 k0_t6
  let c16_i32_67 : BitVec 32 := 16#32
  let v102 : BitVec 32 := Scalar.muli arg9 c16_i32_67
  let c0_i32_68 : BitVec 32 := 0#32
  let v103 : BitVec 32 := Scalar.addi v102 c0_i32_68
  let v106 : BitVec 32 := Scalar.addi v105 v103
  let v107 : Index := Scalar.indexCast v106
  ![v107.toNat]
def k0_mult161 (v108 : BitVec 32) : BitVec 32 :=
  let c8_i32 : BitVec 32 := 8#32
  let v109 : BitVec 32 := Scalar.muli v108 c8_i32
  v109

def k0_mult162 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_67 : BitVec 32 := 16#32
  let v102 : BitVec 32 := Scalar.muli arg9 c16_i32_67
  let c0_i32_68 : BitVec 32 := 0#32
  let v103 : BitVec 32 := Scalar.addi v102 c0_i32_68
  let c8_i32_69 : BitVec 32 := 8#32
  let v111 : BitVec 32 := Scalar.muli v103 c8_i32_69
  v111
def k0_off338 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off339 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_70 : BitVec 32 := 1#32
  let c0_i32_71 : BitVec 32 := 0#32
  let c0_i32_72 : BitVec 32 := 0#32
  ![v16.toNat, 1, 0, 0]
def k0_off340 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_67 : BitVec 32 := 16#32
  let v102 : BitVec 32 := Scalar.muli arg9 c16_i32_67
  let c0_i32_68 : BitVec 32 := 0#32
  let v103 : BitVec 32 := Scalar.addi v102 c0_i32_68
  let c8_i32_69 : BitVec 32 := 8#32
  let v111 : BitVec 32 := Scalar.muli v103 c8_i32_69
  let v112 : BitVec 32 := v111
  let c0_i32_73 : BitVec 32 := 0#32
  ![v112.toNat, 0]
def k0_off341 (v108 : BitVec 32) : Fin 2 → Nat :=
  let c8_i32 : BitVec 32 := 8#32
  let v109 : BitVec 32 := Scalar.muli v108 c8_i32
  let v110 : BitVec 32 := v109
  let c0_i32_74 : BitVec 32 := 0#32
  ![v110.toNat, 0]

def k0_chk81 (v108 : BitVec 32) : Prop :=
  (8 ∣ (k0_mult161 v108).toNat) ∧
  (∀ a, (k0_off341 v108) a + S8x128.size a ≤ S294912x128.size a)
theorem k0_mult161_dvd : ∀ (v108 : BitVec 32) (k0_hw81 : k0_chk81 v108), 8 ∣ (k0_mult161 v108).toNat := fun v108 k0_hw81 => k0_hw81.1
theorem k0_off341_inb : ∀ (v108 : BitVec 32) (k0_hw81 : k0_chk81 v108), ∀ a, (k0_off341 v108) a + S8x128.size a ≤ S294912x128.size a := fun v108 k0_hw81 => k0_hw81.2

def k0_off342 (i : grid0.Coords) (k0_t6 : Fin k0_t6_loop.trips) : Fin 1 → Nat :=
  let c16384_i32_78 : BitVec 32 := 16384#32
  let arg0 : BitVec 32 := BitVec.ofNat 32 (i 0).val
  let c512_i32_77 : BitVec 32 := 512#32
  let v121 : BitVec 32 := Scalar.muli arg0 c512_i32_77
  let v122 : BitVec 32 := Scalar.addi c16384_i32_78 v121
  let c0_i32_11 : BitVec 32 := 0#32
  let c1_i32_13 : BitVec 32 := 1#32
  let arg9 : BitVec 32 := Scf.iv c0_i32_11 c1_i32_13 k0_t6
  let c16_i32_75 : BitVec 32 := 16#32
  let v119 : BitVec 32 := Scalar.muli arg9 c16_i32_75
  let c1_i32_76 : BitVec 32 := 1#32
  let v120 : BitVec 32 := Scalar.addi v119 c1_i32_76
  let v123 : BitVec 32 := Scalar.addi v122 v120
  let v124 : Index := Scalar.indexCast v123
  ![v124.toNat]
def k0_mult163 (v125 : BitVec 32) : BitVec 32 :=
  let c8_i32_79 : BitVec 32 := 8#32
  let v126 : BitVec 32 := Scalar.muli v125 c8_i32_79
  v126

def k0_mult164 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_75 : BitVec 32 := 16#32
  let v119 : BitVec 32 := Scalar.muli arg9 c16_i32_75
  let c1_i32_76 : BitVec 32 := 1#32
  let v120 : BitVec 32 := Scalar.addi v119 c1_i32_76
  let c8_i32_80 : BitVec 32 := 8#32
  let v128 : BitVec 32 := Scalar.muli v120 c8_i32_80
  v128
def k0_off343 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off344 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_81 : BitVec 32 := 1#32
  let c0_i32_82 : BitVec 32 := 0#32
  let c0_i32_83 : BitVec 32 := 0#32
  ![v16.toNat, 1, 0, 0]
def k0_off345 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_75 : BitVec 32 := 16#32
  let v119 : BitVec 32 := Scalar.muli arg9 c16_i32_75
  let c1_i32_76 : BitVec 32 := 1#32
  let v120 : BitVec 32 := Scalar.addi v119 c1_i32_76
  let c8_i32_80 : BitVec 32 := 8#32
  let v128 : BitVec 32 := Scalar.muli v120 c8_i32_80
  let v129 : BitVec 32 := v128
  let c0_i32_84 : BitVec 32 := 0#32
  ![v129.toNat, 0]
def k0_off346 (v125 : BitVec 32) : Fin 2 → Nat :=
  let c8_i32_79 : BitVec 32 := 8#32
  let v126 : BitVec 32 := Scalar.muli v125 c8_i32_79
  let v127 : BitVec 32 := v126
  let c0_i32_85 : BitVec 32 := 0#32
  ![v127.toNat, 0]

def k0_chk82 (v125 : BitVec 32) : Prop :=
  (8 ∣ (k0_mult163 v125).toNat) ∧
  (∀ a, (k0_off346 v125) a + S8x128.size a ≤ S294912x128.size a)
theorem k0_mult163_dvd : ∀ (v125 : BitVec 32) (k0_hw82 : k0_chk82 v125), 8 ∣ (k0_mult163 v125).toNat := fun v125 k0_hw82 => k0_hw82.1
theorem k0_off346_inb : ∀ (v125 : BitVec 32) (k0_hw82 : k0_chk82 v125), ∀ a, (k0_off346 v125) a + S8x128.size a ≤ S294912x128.size a := fun v125 k0_hw82 => k0_hw82.2

def k0_off347 (i : grid0.Coords) (k0_t6 : Fin k0_t6_loop.trips) : Fin 1 → Nat :=
  let c16384_i32_89 : BitVec 32 := 16384#32
  let arg0 : BitVec 32 := BitVec.ofNat 32 (i 0).val
  let c512_i32_88 : BitVec 32 := 512#32
  let v138 : BitVec 32 := Scalar.muli arg0 c512_i32_88
  let v139 : BitVec 32 := Scalar.addi c16384_i32_89 v138
  let c0_i32_11 : BitVec 32 := 0#32
  let c1_i32_13 : BitVec 32 := 1#32
  let arg9 : BitVec 32 := Scf.iv c0_i32_11 c1_i32_13 k0_t6
  let c16_i32_86 : BitVec 32 := 16#32
  let v136 : BitVec 32 := Scalar.muli arg9 c16_i32_86
  let c2_i32_87 : BitVec 32 := 2#32
  let v137 : BitVec 32 := Scalar.addi v136 c2_i32_87
  let v140 : BitVec 32 := Scalar.addi v139 v137
  let v141 : Index := Scalar.indexCast v140
  ![v141.toNat]
def k0_mult165 (v142 : BitVec 32) : BitVec 32 :=
  let c8_i32_90 : BitVec 32 := 8#32
  let v143 : BitVec 32 := Scalar.muli v142 c8_i32_90
  v143

def k0_mult166 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_86 : BitVec 32 := 16#32
  let v136 : BitVec 32 := Scalar.muli arg9 c16_i32_86
  let c2_i32_87 : BitVec 32 := 2#32
  let v137 : BitVec 32 := Scalar.addi v136 c2_i32_87
  let c8_i32_91 : BitVec 32 := 8#32
  let v145 : BitVec 32 := Scalar.muli v137 c8_i32_91
  v145
def k0_off348 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off349 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_92 : BitVec 32 := 1#32
  let c0_i32_93 : BitVec 32 := 0#32
  let c0_i32_94 : BitVec 32 := 0#32
  ![v16.toNat, 1, 0, 0]
def k0_off350 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_86 : BitVec 32 := 16#32
  let v136 : BitVec 32 := Scalar.muli arg9 c16_i32_86
  let c2_i32_87 : BitVec 32 := 2#32
  let v137 : BitVec 32 := Scalar.addi v136 c2_i32_87
  let c8_i32_91 : BitVec 32 := 8#32
  let v145 : BitVec 32 := Scalar.muli v137 c8_i32_91
  let v146 : BitVec 32 := v145
  let c0_i32_95 : BitVec 32 := 0#32
  ![v146.toNat, 0]
def k0_off351 (v142 : BitVec 32) : Fin 2 → Nat :=
  let c8_i32_90 : BitVec 32 := 8#32
  let v143 : BitVec 32 := Scalar.muli v142 c8_i32_90
  let v144 : BitVec 32 := v143
  let c0_i32_96 : BitVec 32 := 0#32
  ![v144.toNat, 0]

def k0_chk83 (v142 : BitVec 32) : Prop :=
  (8 ∣ (k0_mult165 v142).toNat) ∧
  (∀ a, (k0_off351 v142) a + S8x128.size a ≤ S294912x128.size a)
theorem k0_mult165_dvd : ∀ (v142 : BitVec 32) (k0_hw83 : k0_chk83 v142), 8 ∣ (k0_mult165 v142).toNat := fun v142 k0_hw83 => k0_hw83.1
theorem k0_off351_inb : ∀ (v142 : BitVec 32) (k0_hw83 : k0_chk83 v142), ∀ a, (k0_off351 v142) a + S8x128.size a ≤ S294912x128.size a := fun v142 k0_hw83 => k0_hw83.2

def k0_off352 (i : grid0.Coords) (k0_t6 : Fin k0_t6_loop.trips) : Fin 1 → Nat :=
  let c16384_i32_99 : BitVec 32 := 16384#32
  let arg0 : BitVec 32 := BitVec.ofNat 32 (i 0).val
  let c512_i32_98 : BitVec 32 := 512#32
  let v155 : BitVec 32 := Scalar.muli arg0 c512_i32_98
  let v156 : BitVec 32 := Scalar.addi c16384_i32_99 v155
  let c0_i32_11 : BitVec 32 := 0#32
  let c1_i32_13 : BitVec 32 := 1#32
  let arg9 : BitVec 32 := Scf.iv c0_i32_11 c1_i32_13 k0_t6
  let c16_i32_97 : BitVec 32 := 16#32
  let v153 : BitVec 32 := Scalar.muli arg9 c16_i32_97
  let c3_i32 : BitVec 32 := 3#32
  let v154 : BitVec 32 := Scalar.addi v153 c3_i32
  let v157 : BitVec 32 := Scalar.addi v156 v154
  let v158 : Index := Scalar.indexCast v157
  ![v158.toNat]
def k0_mult167 (v159 : BitVec 32) : BitVec 32 :=
  let c8_i32_100 : BitVec 32 := 8#32
  let v160 : BitVec 32 := Scalar.muli v159 c8_i32_100
  v160

def k0_mult168 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_97 : BitVec 32 := 16#32
  let v153 : BitVec 32 := Scalar.muli arg9 c16_i32_97
  let c3_i32 : BitVec 32 := 3#32
  let v154 : BitVec 32 := Scalar.addi v153 c3_i32
  let c8_i32_101 : BitVec 32 := 8#32
  let v162 : BitVec 32 := Scalar.muli v154 c8_i32_101
  v162
def k0_off353 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off354 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_102 : BitVec 32 := 1#32
  let c0_i32_103 : BitVec 32 := 0#32
  let c0_i32_104 : BitVec 32 := 0#32
  ![v16.toNat, 1, 0, 0]
def k0_off355 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_97 : BitVec 32 := 16#32
  let v153 : BitVec 32 := Scalar.muli arg9 c16_i32_97
  let c3_i32 : BitVec 32 := 3#32
  let v154 : BitVec 32 := Scalar.addi v153 c3_i32
  let c8_i32_101 : BitVec 32 := 8#32
  let v162 : BitVec 32 := Scalar.muli v154 c8_i32_101
  let v163 : BitVec 32 := v162
  let c0_i32_105 : BitVec 32 := 0#32
  ![v163.toNat, 0]
def k0_off356 (v159 : BitVec 32) : Fin 2 → Nat :=
  let c8_i32_100 : BitVec 32 := 8#32
  let v160 : BitVec 32 := Scalar.muli v159 c8_i32_100
  let v161 : BitVec 32 := v160
  let c0_i32_106 : BitVec 32 := 0#32
  ![v161.toNat, 0]

def k0_chk84 (v159 : BitVec 32) : Prop :=
  (8 ∣ (k0_mult167 v159).toNat) ∧
  (∀ a, (k0_off356 v159) a + S8x128.size a ≤ S294912x128.size a)
theorem k0_mult167_dvd : ∀ (v159 : BitVec 32) (k0_hw84 : k0_chk84 v159), 8 ∣ (k0_mult167 v159).toNat := fun v159 k0_hw84 => k0_hw84.1
theorem k0_off356_inb : ∀ (v159 : BitVec 32) (k0_hw84 : k0_chk84 v159), ∀ a, (k0_off356 v159) a + S8x128.size a ≤ S294912x128.size a := fun v159 k0_hw84 => k0_hw84.2

def k0_off357 (i : grid0.Coords) (k0_t6 : Fin k0_t6_loop.trips) : Fin 1 → Nat :=
  let c16384_i32_109 : BitVec 32 := 16384#32
  let arg0 : BitVec 32 := BitVec.ofNat 32 (i 0).val
  let c512_i32_108 : BitVec 32 := 512#32
  let v172 : BitVec 32 := Scalar.muli arg0 c512_i32_108
  let v173 : BitVec 32 := Scalar.addi c16384_i32_109 v172
  let c0_i32_11 : BitVec 32 := 0#32
  let c1_i32_13 : BitVec 32 := 1#32
  let arg9 : BitVec 32 := Scf.iv c0_i32_11 c1_i32_13 k0_t6
  let c16_i32_107 : BitVec 32 := 16#32
  let v170 : BitVec 32 := Scalar.muli arg9 c16_i32_107
  let c4_i32 : BitVec 32 := 4#32
  let v171 : BitVec 32 := Scalar.addi v170 c4_i32
  let v174 : BitVec 32 := Scalar.addi v173 v171
  let v175 : Index := Scalar.indexCast v174
  ![v175.toNat]
def k0_mult169 (v176 : BitVec 32) : BitVec 32 :=
  let c8_i32_110 : BitVec 32 := 8#32
  let v177 : BitVec 32 := Scalar.muli v176 c8_i32_110
  v177

def k0_mult170 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_107 : BitVec 32 := 16#32
  let v170 : BitVec 32 := Scalar.muli arg9 c16_i32_107
  let c4_i32 : BitVec 32 := 4#32
  let v171 : BitVec 32 := Scalar.addi v170 c4_i32
  let c8_i32_111 : BitVec 32 := 8#32
  let v179 : BitVec 32 := Scalar.muli v171 c8_i32_111
  v179
def k0_off358 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off359 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_112 : BitVec 32 := 1#32
  let c0_i32_113 : BitVec 32 := 0#32
  let c0_i32_114 : BitVec 32 := 0#32
  ![v16.toNat, 1, 0, 0]
def k0_off360 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_107 : BitVec 32 := 16#32
  let v170 : BitVec 32 := Scalar.muli arg9 c16_i32_107
  let c4_i32 : BitVec 32 := 4#32
  let v171 : BitVec 32 := Scalar.addi v170 c4_i32
  let c8_i32_111 : BitVec 32 := 8#32
  let v179 : BitVec 32 := Scalar.muli v171 c8_i32_111
  let v180 : BitVec 32 := v179
  let c0_i32_115 : BitVec 32 := 0#32
  ![v180.toNat, 0]
def k0_off361 (v176 : BitVec 32) : Fin 2 → Nat :=
  let c8_i32_110 : BitVec 32 := 8#32
  let v177 : BitVec 32 := Scalar.muli v176 c8_i32_110
  let v178 : BitVec 32 := v177
  let c0_i32_116 : BitVec 32 := 0#32
  ![v178.toNat, 0]

def k0_chk85 (v176 : BitVec 32) : Prop :=
  (8 ∣ (k0_mult169 v176).toNat) ∧
  (∀ a, (k0_off361 v176) a + S8x128.size a ≤ S294912x128.size a)
theorem k0_mult169_dvd : ∀ (v176 : BitVec 32) (k0_hw85 : k0_chk85 v176), 8 ∣ (k0_mult169 v176).toNat := fun v176 k0_hw85 => k0_hw85.1
theorem k0_off361_inb : ∀ (v176 : BitVec 32) (k0_hw85 : k0_chk85 v176), ∀ a, (k0_off361 v176) a + S8x128.size a ≤ S294912x128.size a := fun v176 k0_hw85 => k0_hw85.2

def k0_off362 (i : grid0.Coords) (k0_t6 : Fin k0_t6_loop.trips) : Fin 1 → Nat :=
  let c16384_i32_119 : BitVec 32 := 16384#32
  let arg0 : BitVec 32 := BitVec.ofNat 32 (i 0).val
  let c512_i32_118 : BitVec 32 := 512#32
  let v189 : BitVec 32 := Scalar.muli arg0 c512_i32_118
  let v190 : BitVec 32 := Scalar.addi c16384_i32_119 v189
  let c0_i32_11 : BitVec 32 := 0#32
  let c1_i32_13 : BitVec 32 := 1#32
  let arg9 : BitVec 32 := Scf.iv c0_i32_11 c1_i32_13 k0_t6
  let c16_i32_117 : BitVec 32 := 16#32
  let v187 : BitVec 32 := Scalar.muli arg9 c16_i32_117
  let c5_i32 : BitVec 32 := 5#32
  let v188 : BitVec 32 := Scalar.addi v187 c5_i32
  let v191 : BitVec 32 := Scalar.addi v190 v188
  let v192 : Index := Scalar.indexCast v191
  ![v192.toNat]
def k0_mult171 (v193 : BitVec 32) : BitVec 32 :=
  let c8_i32_120 : BitVec 32 := 8#32
  let v194 : BitVec 32 := Scalar.muli v193 c8_i32_120
  v194

def k0_mult172 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_117 : BitVec 32 := 16#32
  let v187 : BitVec 32 := Scalar.muli arg9 c16_i32_117
  let c5_i32 : BitVec 32 := 5#32
  let v188 : BitVec 32 := Scalar.addi v187 c5_i32
  let c8_i32_121 : BitVec 32 := 8#32
  let v196 : BitVec 32 := Scalar.muli v188 c8_i32_121
  v196
def k0_off363 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off364 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_122 : BitVec 32 := 1#32
  let c0_i32_123 : BitVec 32 := 0#32
  let c0_i32_124 : BitVec 32 := 0#32
  ![v16.toNat, 1, 0, 0]
def k0_off365 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_117 : BitVec 32 := 16#32
  let v187 : BitVec 32 := Scalar.muli arg9 c16_i32_117
  let c5_i32 : BitVec 32 := 5#32
  let v188 : BitVec 32 := Scalar.addi v187 c5_i32
  let c8_i32_121 : BitVec 32 := 8#32
  let v196 : BitVec 32 := Scalar.muli v188 c8_i32_121
  let v197 : BitVec 32 := v196
  let c0_i32_125 : BitVec 32 := 0#32
  ![v197.toNat, 0]
def k0_off366 (v193 : BitVec 32) : Fin 2 → Nat :=
  let c8_i32_120 : BitVec 32 := 8#32
  let v194 : BitVec 32 := Scalar.muli v193 c8_i32_120
  let v195 : BitVec 32 := v194
  let c0_i32_126 : BitVec 32 := 0#32
  ![v195.toNat, 0]

def k0_chk86 (v193 : BitVec 32) : Prop :=
  (8 ∣ (k0_mult171 v193).toNat) ∧
  (∀ a, (k0_off366 v193) a + S8x128.size a ≤ S294912x128.size a)
theorem k0_mult171_dvd : ∀ (v193 : BitVec 32) (k0_hw86 : k0_chk86 v193), 8 ∣ (k0_mult171 v193).toNat := fun v193 k0_hw86 => k0_hw86.1
theorem k0_off366_inb : ∀ (v193 : BitVec 32) (k0_hw86 : k0_chk86 v193), ∀ a, (k0_off366 v193) a + S8x128.size a ≤ S294912x128.size a := fun v193 k0_hw86 => k0_hw86.2

def k0_off367 (i : grid0.Coords) (k0_t6 : Fin k0_t6_loop.trips) : Fin 1 → Nat :=
  let c16384_i32_129 : BitVec 32 := 16384#32
  let arg0 : BitVec 32 := BitVec.ofNat 32 (i 0).val
  let c512_i32_128 : BitVec 32 := 512#32
  let v206 : BitVec 32 := Scalar.muli arg0 c512_i32_128
  let v207 : BitVec 32 := Scalar.addi c16384_i32_129 v206
  let c0_i32_11 : BitVec 32 := 0#32
  let c1_i32_13 : BitVec 32 := 1#32
  let arg9 : BitVec 32 := Scf.iv c0_i32_11 c1_i32_13 k0_t6
  let c16_i32_127 : BitVec 32 := 16#32
  let v204 : BitVec 32 := Scalar.muli arg9 c16_i32_127
  let c6_i32 : BitVec 32 := 6#32
  let v205 : BitVec 32 := Scalar.addi v204 c6_i32
  let v208 : BitVec 32 := Scalar.addi v207 v205
  let v209 : Index := Scalar.indexCast v208
  ![v209.toNat]
def k0_mult173 (v210 : BitVec 32) : BitVec 32 :=
  let c8_i32_130 : BitVec 32 := 8#32
  let v211 : BitVec 32 := Scalar.muli v210 c8_i32_130
  v211

def k0_mult174 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_127 : BitVec 32 := 16#32
  let v204 : BitVec 32 := Scalar.muli arg9 c16_i32_127
  let c6_i32 : BitVec 32 := 6#32
  let v205 : BitVec 32 := Scalar.addi v204 c6_i32
  let c8_i32_131 : BitVec 32 := 8#32
  let v213 : BitVec 32 := Scalar.muli v205 c8_i32_131
  v213
def k0_off368 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off369 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_132 : BitVec 32 := 1#32
  let c0_i32_133 : BitVec 32 := 0#32
  let c0_i32_134 : BitVec 32 := 0#32
  ![v16.toNat, 1, 0, 0]
def k0_off370 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_127 : BitVec 32 := 16#32
  let v204 : BitVec 32 := Scalar.muli arg9 c16_i32_127
  let c6_i32 : BitVec 32 := 6#32
  let v205 : BitVec 32 := Scalar.addi v204 c6_i32
  let c8_i32_131 : BitVec 32 := 8#32
  let v213 : BitVec 32 := Scalar.muli v205 c8_i32_131
  let v214 : BitVec 32 := v213
  let c0_i32_135 : BitVec 32 := 0#32
  ![v214.toNat, 0]
def k0_off371 (v210 : BitVec 32) : Fin 2 → Nat :=
  let c8_i32_130 : BitVec 32 := 8#32
  let v211 : BitVec 32 := Scalar.muli v210 c8_i32_130
  let v212 : BitVec 32 := v211
  let c0_i32_136 : BitVec 32 := 0#32
  ![v212.toNat, 0]

def k0_chk87 (v210 : BitVec 32) : Prop :=
  (8 ∣ (k0_mult173 v210).toNat) ∧
  (∀ a, (k0_off371 v210) a + S8x128.size a ≤ S294912x128.size a)
theorem k0_mult173_dvd : ∀ (v210 : BitVec 32) (k0_hw87 : k0_chk87 v210), 8 ∣ (k0_mult173 v210).toNat := fun v210 k0_hw87 => k0_hw87.1
theorem k0_off371_inb : ∀ (v210 : BitVec 32) (k0_hw87 : k0_chk87 v210), ∀ a, (k0_off371 v210) a + S8x128.size a ≤ S294912x128.size a := fun v210 k0_hw87 => k0_hw87.2

def k0_off372 (i : grid0.Coords) (k0_t6 : Fin k0_t6_loop.trips) : Fin 1 → Nat :=
  let c16384_i32_139 : BitVec 32 := 16384#32
  let arg0 : BitVec 32 := BitVec.ofNat 32 (i 0).val
  let c512_i32_138 : BitVec 32 := 512#32
  let v223 : BitVec 32 := Scalar.muli arg0 c512_i32_138
  let v224 : BitVec 32 := Scalar.addi c16384_i32_139 v223
  let c0_i32_11 : BitVec 32 := 0#32
  let c1_i32_13 : BitVec 32 := 1#32
  let arg9 : BitVec 32 := Scf.iv c0_i32_11 c1_i32_13 k0_t6
  let c16_i32_137 : BitVec 32 := 16#32
  let v221 : BitVec 32 := Scalar.muli arg9 c16_i32_137
  let c7_i32 : BitVec 32 := 7#32
  let v222 : BitVec 32 := Scalar.addi v221 c7_i32
  let v225 : BitVec 32 := Scalar.addi v224 v222
  let v226 : Index := Scalar.indexCast v225
  ![v226.toNat]
def k0_mult175 (v227 : BitVec 32) : BitVec 32 :=
  let c8_i32_140 : BitVec 32 := 8#32
  let v228 : BitVec 32 := Scalar.muli v227 c8_i32_140
  v228

def k0_mult176 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_137 : BitVec 32 := 16#32
  let v221 : BitVec 32 := Scalar.muli arg9 c16_i32_137
  let c7_i32 : BitVec 32 := 7#32
  let v222 : BitVec 32 := Scalar.addi v221 c7_i32
  let c8_i32_141 : BitVec 32 := 8#32
  let v230 : BitVec 32 := Scalar.muli v222 c8_i32_141
  v230
def k0_off373 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off374 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_142 : BitVec 32 := 1#32
  let c0_i32_143 : BitVec 32 := 0#32
  let c0_i32_144 : BitVec 32 := 0#32
  ![v16.toNat, 1, 0, 0]
def k0_off375 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_137 : BitVec 32 := 16#32
  let v221 : BitVec 32 := Scalar.muli arg9 c16_i32_137
  let c7_i32 : BitVec 32 := 7#32
  let v222 : BitVec 32 := Scalar.addi v221 c7_i32
  let c8_i32_141 : BitVec 32 := 8#32
  let v230 : BitVec 32 := Scalar.muli v222 c8_i32_141
  let v231 : BitVec 32 := v230
  let c0_i32_145 : BitVec 32 := 0#32
  ![v231.toNat, 0]
def k0_off376 (v227 : BitVec 32) : Fin 2 → Nat :=
  let c8_i32_140 : BitVec 32 := 8#32
  let v228 : BitVec 32 := Scalar.muli v227 c8_i32_140
  let v229 : BitVec 32 := v228
  let c0_i32_146 : BitVec 32 := 0#32
  ![v229.toNat, 0]

def k0_chk88 (v227 : BitVec 32) : Prop :=
  (8 ∣ (k0_mult175 v227).toNat) ∧
  (∀ a, (k0_off376 v227) a + S8x128.size a ≤ S294912x128.size a)
theorem k0_mult175_dvd : ∀ (v227 : BitVec 32) (k0_hw88 : k0_chk88 v227), 8 ∣ (k0_mult175 v227).toNat := fun v227 k0_hw88 => k0_hw88.1
theorem k0_off376_inb : ∀ (v227 : BitVec 32) (k0_hw88 : k0_chk88 v227), ∀ a, (k0_off376 v227) a + S8x128.size a ≤ S294912x128.size a := fun v227 k0_hw88 => k0_hw88.2

def k0_off377 (i : grid0.Coords) (k0_t6 : Fin k0_t6_loop.trips) : Fin 1 → Nat :=
  let c16384_i32_150 : BitVec 32 := 16384#32
  let arg0 : BitVec 32 := BitVec.ofNat 32 (i 0).val
  let c512_i32_149 : BitVec 32 := 512#32
  let v240 : BitVec 32 := Scalar.muli arg0 c512_i32_149
  let v241 : BitVec 32 := Scalar.addi c16384_i32_150 v240
  let c0_i32_11 : BitVec 32 := 0#32
  let c1_i32_13 : BitVec 32 := 1#32
  let arg9 : BitVec 32 := Scf.iv c0_i32_11 c1_i32_13 k0_t6
  let c16_i32_147 : BitVec 32 := 16#32
  let v238 : BitVec 32 := Scalar.muli arg9 c16_i32_147
  let c8_i32_148 : BitVec 32 := 8#32
  let v239 : BitVec 32 := Scalar.addi v238 c8_i32_148
  let v242 : BitVec 32 := Scalar.addi v241 v239
  let v243 : Index := Scalar.indexCast v242
  ![v243.toNat]
def k0_mult177 (v244 : BitVec 32) : BitVec 32 :=
  let c8_i32_151 : BitVec 32 := 8#32
  let v245 : BitVec 32 := Scalar.muli v244 c8_i32_151
  v245

def k0_mult178 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_147 : BitVec 32 := 16#32
  let v238 : BitVec 32 := Scalar.muli arg9 c16_i32_147
  let c8_i32_148 : BitVec 32 := 8#32
  let v239 : BitVec 32 := Scalar.addi v238 c8_i32_148
  let c8_i32_152 : BitVec 32 := 8#32
  let v247 : BitVec 32 := Scalar.muli v239 c8_i32_152
  v247
def k0_off378 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off379 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_153 : BitVec 32 := 1#32
  let c0_i32_154 : BitVec 32 := 0#32
  let c0_i32_155 : BitVec 32 := 0#32
  ![v16.toNat, 1, 0, 0]
def k0_off380 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_147 : BitVec 32 := 16#32
  let v238 : BitVec 32 := Scalar.muli arg9 c16_i32_147
  let c8_i32_148 : BitVec 32 := 8#32
  let v239 : BitVec 32 := Scalar.addi v238 c8_i32_148
  let c8_i32_152 : BitVec 32 := 8#32
  let v247 : BitVec 32 := Scalar.muli v239 c8_i32_152
  let v248 : BitVec 32 := v247
  let c0_i32_156 : BitVec 32 := 0#32
  ![v248.toNat, 0]
def k0_off381 (v244 : BitVec 32) : Fin 2 → Nat :=
  let c8_i32_151 : BitVec 32 := 8#32
  let v245 : BitVec 32 := Scalar.muli v244 c8_i32_151
  let v246 : BitVec 32 := v245
  let c0_i32_157 : BitVec 32 := 0#32
  ![v246.toNat, 0]

def k0_chk89 (v244 : BitVec 32) : Prop :=
  (8 ∣ (k0_mult177 v244).toNat) ∧
  (∀ a, (k0_off381 v244) a + S8x128.size a ≤ S294912x128.size a)
theorem k0_mult177_dvd : ∀ (v244 : BitVec 32) (k0_hw89 : k0_chk89 v244), 8 ∣ (k0_mult177 v244).toNat := fun v244 k0_hw89 => k0_hw89.1
theorem k0_off381_inb : ∀ (v244 : BitVec 32) (k0_hw89 : k0_chk89 v244), ∀ a, (k0_off381 v244) a + S8x128.size a ≤ S294912x128.size a := fun v244 k0_hw89 => k0_hw89.2

def k0_off382 (i : grid0.Coords) (k0_t6 : Fin k0_t6_loop.trips) : Fin 1 → Nat :=
  let c16384_i32_160 : BitVec 32 := 16384#32
  let arg0 : BitVec 32 := BitVec.ofNat 32 (i 0).val
  let c512_i32_159 : BitVec 32 := 512#32
  let v257 : BitVec 32 := Scalar.muli arg0 c512_i32_159
  let v258 : BitVec 32 := Scalar.addi c16384_i32_160 v257
  let c0_i32_11 : BitVec 32 := 0#32
  let c1_i32_13 : BitVec 32 := 1#32
  let arg9 : BitVec 32 := Scf.iv c0_i32_11 c1_i32_13 k0_t6
  let c16_i32_158 : BitVec 32 := 16#32
  let v255 : BitVec 32 := Scalar.muli arg9 c16_i32_158
  let c9_i32 : BitVec 32 := 9#32
  let v256 : BitVec 32 := Scalar.addi v255 c9_i32
  let v259 : BitVec 32 := Scalar.addi v258 v256
  let v260 : Index := Scalar.indexCast v259
  ![v260.toNat]
def k0_mult179 (v261 : BitVec 32) : BitVec 32 :=
  let c8_i32_161 : BitVec 32 := 8#32
  let v262 : BitVec 32 := Scalar.muli v261 c8_i32_161
  v262

def k0_mult180 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_158 : BitVec 32 := 16#32
  let v255 : BitVec 32 := Scalar.muli arg9 c16_i32_158
  let c9_i32 : BitVec 32 := 9#32
  let v256 : BitVec 32 := Scalar.addi v255 c9_i32
  let c8_i32_162 : BitVec 32 := 8#32
  let v264 : BitVec 32 := Scalar.muli v256 c8_i32_162
  v264
def k0_off383 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off384 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_163 : BitVec 32 := 1#32
  let c0_i32_164 : BitVec 32 := 0#32
  let c0_i32_165 : BitVec 32 := 0#32
  ![v16.toNat, 1, 0, 0]
def k0_off385 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_158 : BitVec 32 := 16#32
  let v255 : BitVec 32 := Scalar.muli arg9 c16_i32_158
  let c9_i32 : BitVec 32 := 9#32
  let v256 : BitVec 32 := Scalar.addi v255 c9_i32
  let c8_i32_162 : BitVec 32 := 8#32
  let v264 : BitVec 32 := Scalar.muli v256 c8_i32_162
  let v265 : BitVec 32 := v264
  let c0_i32_166 : BitVec 32 := 0#32
  ![v265.toNat, 0]
def k0_off386 (v261 : BitVec 32) : Fin 2 → Nat :=
  let c8_i32_161 : BitVec 32 := 8#32
  let v262 : BitVec 32 := Scalar.muli v261 c8_i32_161
  let v263 : BitVec 32 := v262
  let c0_i32_167 : BitVec 32 := 0#32
  ![v263.toNat, 0]

def k0_chk90 (v261 : BitVec 32) : Prop :=
  (8 ∣ (k0_mult179 v261).toNat) ∧
  (∀ a, (k0_off386 v261) a + S8x128.size a ≤ S294912x128.size a)
theorem k0_mult179_dvd : ∀ (v261 : BitVec 32) (k0_hw90 : k0_chk90 v261), 8 ∣ (k0_mult179 v261).toNat := fun v261 k0_hw90 => k0_hw90.1
theorem k0_off386_inb : ∀ (v261 : BitVec 32) (k0_hw90 : k0_chk90 v261), ∀ a, (k0_off386 v261) a + S8x128.size a ≤ S294912x128.size a := fun v261 k0_hw90 => k0_hw90.2

def k0_off387 (i : grid0.Coords) (k0_t6 : Fin k0_t6_loop.trips) : Fin 1 → Nat :=
  let c16384_i32_170 : BitVec 32 := 16384#32
  let arg0 : BitVec 32 := BitVec.ofNat 32 (i 0).val
  let c512_i32_169 : BitVec 32 := 512#32
  let v274 : BitVec 32 := Scalar.muli arg0 c512_i32_169
  let v275 : BitVec 32 := Scalar.addi c16384_i32_170 v274
  let c0_i32_11 : BitVec 32 := 0#32
  let c1_i32_13 : BitVec 32 := 1#32
  let arg9 : BitVec 32 := Scf.iv c0_i32_11 c1_i32_13 k0_t6
  let c16_i32_168 : BitVec 32 := 16#32
  let v272 : BitVec 32 := Scalar.muli arg9 c16_i32_168
  let c10_i32 : BitVec 32 := 10#32
  let v273 : BitVec 32 := Scalar.addi v272 c10_i32
  let v276 : BitVec 32 := Scalar.addi v275 v273
  let v277 : Index := Scalar.indexCast v276
  ![v277.toNat]
def k0_mult181 (v278 : BitVec 32) : BitVec 32 :=
  let c8_i32_171 : BitVec 32 := 8#32
  let v279 : BitVec 32 := Scalar.muli v278 c8_i32_171
  v279

def k0_mult182 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_168 : BitVec 32 := 16#32
  let v272 : BitVec 32 := Scalar.muli arg9 c16_i32_168
  let c10_i32 : BitVec 32 := 10#32
  let v273 : BitVec 32 := Scalar.addi v272 c10_i32
  let c8_i32_172 : BitVec 32 := 8#32
  let v281 : BitVec 32 := Scalar.muli v273 c8_i32_172
  v281
def k0_off388 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off389 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_173 : BitVec 32 := 1#32
  let c0_i32_174 : BitVec 32 := 0#32
  let c0_i32_175 : BitVec 32 := 0#32
  ![v16.toNat, 1, 0, 0]
def k0_off390 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_168 : BitVec 32 := 16#32
  let v272 : BitVec 32 := Scalar.muli arg9 c16_i32_168
  let c10_i32 : BitVec 32 := 10#32
  let v273 : BitVec 32 := Scalar.addi v272 c10_i32
  let c8_i32_172 : BitVec 32 := 8#32
  let v281 : BitVec 32 := Scalar.muli v273 c8_i32_172
  let v282 : BitVec 32 := v281
  let c0_i32_176 : BitVec 32 := 0#32
  ![v282.toNat, 0]
def k0_off391 (v278 : BitVec 32) : Fin 2 → Nat :=
  let c8_i32_171 : BitVec 32 := 8#32
  let v279 : BitVec 32 := Scalar.muli v278 c8_i32_171
  let v280 : BitVec 32 := v279
  let c0_i32_177 : BitVec 32 := 0#32
  ![v280.toNat, 0]

def k0_chk91 (v278 : BitVec 32) : Prop :=
  (8 ∣ (k0_mult181 v278).toNat) ∧
  (∀ a, (k0_off391 v278) a + S8x128.size a ≤ S294912x128.size a)
theorem k0_mult181_dvd : ∀ (v278 : BitVec 32) (k0_hw91 : k0_chk91 v278), 8 ∣ (k0_mult181 v278).toNat := fun v278 k0_hw91 => k0_hw91.1
theorem k0_off391_inb : ∀ (v278 : BitVec 32) (k0_hw91 : k0_chk91 v278), ∀ a, (k0_off391 v278) a + S8x128.size a ≤ S294912x128.size a := fun v278 k0_hw91 => k0_hw91.2

def k0_off392 (i : grid0.Coords) (k0_t6 : Fin k0_t6_loop.trips) : Fin 1 → Nat :=
  let c16384_i32_180 : BitVec 32 := 16384#32
  let arg0 : BitVec 32 := BitVec.ofNat 32 (i 0).val
  let c512_i32_179 : BitVec 32 := 512#32
  let v291 : BitVec 32 := Scalar.muli arg0 c512_i32_179
  let v292 : BitVec 32 := Scalar.addi c16384_i32_180 v291
  let c0_i32_11 : BitVec 32 := 0#32
  let c1_i32_13 : BitVec 32 := 1#32
  let arg9 : BitVec 32 := Scf.iv c0_i32_11 c1_i32_13 k0_t6
  let c16_i32_178 : BitVec 32 := 16#32
  let v289 : BitVec 32 := Scalar.muli arg9 c16_i32_178
  let c11_i32 : BitVec 32 := 11#32
  let v290 : BitVec 32 := Scalar.addi v289 c11_i32
  let v293 : BitVec 32 := Scalar.addi v292 v290
  let v294 : Index := Scalar.indexCast v293
  ![v294.toNat]
def k0_mult183 (v295 : BitVec 32) : BitVec 32 :=
  let c8_i32_181 : BitVec 32 := 8#32
  let v296 : BitVec 32 := Scalar.muli v295 c8_i32_181
  v296

def k0_mult184 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_178 : BitVec 32 := 16#32
  let v289 : BitVec 32 := Scalar.muli arg9 c16_i32_178
  let c11_i32 : BitVec 32 := 11#32
  let v290 : BitVec 32 := Scalar.addi v289 c11_i32
  let c8_i32_182 : BitVec 32 := 8#32
  let v298 : BitVec 32 := Scalar.muli v290 c8_i32_182
  v298
def k0_off393 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off394 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_183 : BitVec 32 := 1#32
  let c0_i32_184 : BitVec 32 := 0#32
  let c0_i32_185 : BitVec 32 := 0#32
  ![v16.toNat, 1, 0, 0]
def k0_off395 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_178 : BitVec 32 := 16#32
  let v289 : BitVec 32 := Scalar.muli arg9 c16_i32_178
  let c11_i32 : BitVec 32 := 11#32
  let v290 : BitVec 32 := Scalar.addi v289 c11_i32
  let c8_i32_182 : BitVec 32 := 8#32
  let v298 : BitVec 32 := Scalar.muli v290 c8_i32_182
  let v299 : BitVec 32 := v298
  let c0_i32_186 : BitVec 32 := 0#32
  ![v299.toNat, 0]
def k0_off396 (v295 : BitVec 32) : Fin 2 → Nat :=
  let c8_i32_181 : BitVec 32 := 8#32
  let v296 : BitVec 32 := Scalar.muli v295 c8_i32_181
  let v297 : BitVec 32 := v296
  let c0_i32_187 : BitVec 32 := 0#32
  ![v297.toNat, 0]

def k0_chk92 (v295 : BitVec 32) : Prop :=
  (8 ∣ (k0_mult183 v295).toNat) ∧
  (∀ a, (k0_off396 v295) a + S8x128.size a ≤ S294912x128.size a)
theorem k0_mult183_dvd : ∀ (v295 : BitVec 32) (k0_hw92 : k0_chk92 v295), 8 ∣ (k0_mult183 v295).toNat := fun v295 k0_hw92 => k0_hw92.1
theorem k0_off396_inb : ∀ (v295 : BitVec 32) (k0_hw92 : k0_chk92 v295), ∀ a, (k0_off396 v295) a + S8x128.size a ≤ S294912x128.size a := fun v295 k0_hw92 => k0_hw92.2

def k0_off397 (i : grid0.Coords) (k0_t6 : Fin k0_t6_loop.trips) : Fin 1 → Nat :=
  let c16384_i32_190 : BitVec 32 := 16384#32
  let arg0 : BitVec 32 := BitVec.ofNat 32 (i 0).val
  let c512_i32_189 : BitVec 32 := 512#32
  let v308 : BitVec 32 := Scalar.muli arg0 c512_i32_189
  let v309 : BitVec 32 := Scalar.addi c16384_i32_190 v308
  let c0_i32_11 : BitVec 32 := 0#32
  let c1_i32_13 : BitVec 32 := 1#32
  let arg9 : BitVec 32 := Scf.iv c0_i32_11 c1_i32_13 k0_t6
  let c16_i32_188 : BitVec 32 := 16#32
  let v306 : BitVec 32 := Scalar.muli arg9 c16_i32_188
  let c12_i32 : BitVec 32 := 12#32
  let v307 : BitVec 32 := Scalar.addi v306 c12_i32
  let v310 : BitVec 32 := Scalar.addi v309 v307
  let v311 : Index := Scalar.indexCast v310
  ![v311.toNat]
def k0_mult185 (v312 : BitVec 32) : BitVec 32 :=
  let c8_i32_191 : BitVec 32 := 8#32
  let v313 : BitVec 32 := Scalar.muli v312 c8_i32_191
  v313

def k0_mult186 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_188 : BitVec 32 := 16#32
  let v306 : BitVec 32 := Scalar.muli arg9 c16_i32_188
  let c12_i32 : BitVec 32 := 12#32
  let v307 : BitVec 32 := Scalar.addi v306 c12_i32
  let c8_i32_192 : BitVec 32 := 8#32
  let v315 : BitVec 32 := Scalar.muli v307 c8_i32_192
  v315
def k0_off398 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off399 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_193 : BitVec 32 := 1#32
  let c0_i32_194 : BitVec 32 := 0#32
  let c0_i32_195 : BitVec 32 := 0#32
  ![v16.toNat, 1, 0, 0]
def k0_off400 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_188 : BitVec 32 := 16#32
  let v306 : BitVec 32 := Scalar.muli arg9 c16_i32_188
  let c12_i32 : BitVec 32 := 12#32
  let v307 : BitVec 32 := Scalar.addi v306 c12_i32
  let c8_i32_192 : BitVec 32 := 8#32
  let v315 : BitVec 32 := Scalar.muli v307 c8_i32_192
  let v316 : BitVec 32 := v315
  let c0_i32_196 : BitVec 32 := 0#32
  ![v316.toNat, 0]
def k0_off401 (v312 : BitVec 32) : Fin 2 → Nat :=
  let c8_i32_191 : BitVec 32 := 8#32
  let v313 : BitVec 32 := Scalar.muli v312 c8_i32_191
  let v314 : BitVec 32 := v313
  let c0_i32_197 : BitVec 32 := 0#32
  ![v314.toNat, 0]

def k0_chk93 (v312 : BitVec 32) : Prop :=
  (8 ∣ (k0_mult185 v312).toNat) ∧
  (∀ a, (k0_off401 v312) a + S8x128.size a ≤ S294912x128.size a)
theorem k0_mult185_dvd : ∀ (v312 : BitVec 32) (k0_hw93 : k0_chk93 v312), 8 ∣ (k0_mult185 v312).toNat := fun v312 k0_hw93 => k0_hw93.1
theorem k0_off401_inb : ∀ (v312 : BitVec 32) (k0_hw93 : k0_chk93 v312), ∀ a, (k0_off401 v312) a + S8x128.size a ≤ S294912x128.size a := fun v312 k0_hw93 => k0_hw93.2

def k0_off402 (i : grid0.Coords) (k0_t6 : Fin k0_t6_loop.trips) : Fin 1 → Nat :=
  let c16384_i32_200 : BitVec 32 := 16384#32
  let arg0 : BitVec 32 := BitVec.ofNat 32 (i 0).val
  let c512_i32_199 : BitVec 32 := 512#32
  let v325 : BitVec 32 := Scalar.muli arg0 c512_i32_199
  let v326 : BitVec 32 := Scalar.addi c16384_i32_200 v325
  let c0_i32_11 : BitVec 32 := 0#32
  let c1_i32_13 : BitVec 32 := 1#32
  let arg9 : BitVec 32 := Scf.iv c0_i32_11 c1_i32_13 k0_t6
  let c16_i32_198 : BitVec 32 := 16#32
  let v323 : BitVec 32 := Scalar.muli arg9 c16_i32_198
  let c13_i32 : BitVec 32 := 13#32
  let v324 : BitVec 32 := Scalar.addi v323 c13_i32
  let v327 : BitVec 32 := Scalar.addi v326 v324
  let v328 : Index := Scalar.indexCast v327
  ![v328.toNat]
def k0_mult187 (v329 : BitVec 32) : BitVec 32 :=
  let c8_i32_201 : BitVec 32 := 8#32
  let v330 : BitVec 32 := Scalar.muli v329 c8_i32_201
  v330

def k0_mult188 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_198 : BitVec 32 := 16#32
  let v323 : BitVec 32 := Scalar.muli arg9 c16_i32_198
  let c13_i32 : BitVec 32 := 13#32
  let v324 : BitVec 32 := Scalar.addi v323 c13_i32
  let c8_i32_202 : BitVec 32 := 8#32
  let v332 : BitVec 32 := Scalar.muli v324 c8_i32_202
  v332
def k0_off403 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off404 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_203 : BitVec 32 := 1#32
  let c0_i32_204 : BitVec 32 := 0#32
  let c0_i32_205 : BitVec 32 := 0#32
  ![v16.toNat, 1, 0, 0]
def k0_off405 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_198 : BitVec 32 := 16#32
  let v323 : BitVec 32 := Scalar.muli arg9 c16_i32_198
  let c13_i32 : BitVec 32 := 13#32
  let v324 : BitVec 32 := Scalar.addi v323 c13_i32
  let c8_i32_202 : BitVec 32 := 8#32
  let v332 : BitVec 32 := Scalar.muli v324 c8_i32_202
  let v333 : BitVec 32 := v332
  let c0_i32_206 : BitVec 32 := 0#32
  ![v333.toNat, 0]
def k0_off406 (v329 : BitVec 32) : Fin 2 → Nat :=
  let c8_i32_201 : BitVec 32 := 8#32
  let v330 : BitVec 32 := Scalar.muli v329 c8_i32_201
  let v331 : BitVec 32 := v330
  let c0_i32_207 : BitVec 32 := 0#32
  ![v331.toNat, 0]

def k0_chk94 (v329 : BitVec 32) : Prop :=
  (8 ∣ (k0_mult187 v329).toNat) ∧
  (∀ a, (k0_off406 v329) a + S8x128.size a ≤ S294912x128.size a)
theorem k0_mult187_dvd : ∀ (v329 : BitVec 32) (k0_hw94 : k0_chk94 v329), 8 ∣ (k0_mult187 v329).toNat := fun v329 k0_hw94 => k0_hw94.1
theorem k0_off406_inb : ∀ (v329 : BitVec 32) (k0_hw94 : k0_chk94 v329), ∀ a, (k0_off406 v329) a + S8x128.size a ≤ S294912x128.size a := fun v329 k0_hw94 => k0_hw94.2

def k0_off407 (i : grid0.Coords) (k0_t6 : Fin k0_t6_loop.trips) : Fin 1 → Nat :=
  let c16384_i32_210 : BitVec 32 := 16384#32
  let arg0 : BitVec 32 := BitVec.ofNat 32 (i 0).val
  let c512_i32_209 : BitVec 32 := 512#32
  let v342 : BitVec 32 := Scalar.muli arg0 c512_i32_209
  let v343 : BitVec 32 := Scalar.addi c16384_i32_210 v342
  let c0_i32_11 : BitVec 32 := 0#32
  let c1_i32_13 : BitVec 32 := 1#32
  let arg9 : BitVec 32 := Scf.iv c0_i32_11 c1_i32_13 k0_t6
  let c16_i32_208 : BitVec 32 := 16#32
  let v340 : BitVec 32 := Scalar.muli arg9 c16_i32_208
  let c14_i32 : BitVec 32 := 14#32
  let v341 : BitVec 32 := Scalar.addi v340 c14_i32
  let v344 : BitVec 32 := Scalar.addi v343 v341
  let v345 : Index := Scalar.indexCast v344
  ![v345.toNat]
def k0_mult189 (v346 : BitVec 32) : BitVec 32 :=
  let c8_i32_211 : BitVec 32 := 8#32
  let v347 : BitVec 32 := Scalar.muli v346 c8_i32_211
  v347

def k0_mult190 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_208 : BitVec 32 := 16#32
  let v340 : BitVec 32 := Scalar.muli arg9 c16_i32_208
  let c14_i32 : BitVec 32 := 14#32
  let v341 : BitVec 32 := Scalar.addi v340 c14_i32
  let c8_i32_212 : BitVec 32 := 8#32
  let v349 : BitVec 32 := Scalar.muli v341 c8_i32_212
  v349
def k0_off408 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off409 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_213 : BitVec 32 := 1#32
  let c0_i32_214 : BitVec 32 := 0#32
  let c0_i32_215 : BitVec 32 := 0#32
  ![v16.toNat, 1, 0, 0]
def k0_off410 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_208 : BitVec 32 := 16#32
  let v340 : BitVec 32 := Scalar.muli arg9 c16_i32_208
  let c14_i32 : BitVec 32 := 14#32
  let v341 : BitVec 32 := Scalar.addi v340 c14_i32
  let c8_i32_212 : BitVec 32 := 8#32
  let v349 : BitVec 32 := Scalar.muli v341 c8_i32_212
  let v350 : BitVec 32 := v349
  let c0_i32_216 : BitVec 32 := 0#32
  ![v350.toNat, 0]
def k0_off411 (v346 : BitVec 32) : Fin 2 → Nat :=
  let c8_i32_211 : BitVec 32 := 8#32
  let v347 : BitVec 32 := Scalar.muli v346 c8_i32_211
  let v348 : BitVec 32 := v347
  let c0_i32_217 : BitVec 32 := 0#32
  ![v348.toNat, 0]

def k0_chk95 (v346 : BitVec 32) : Prop :=
  (8 ∣ (k0_mult189 v346).toNat) ∧
  (∀ a, (k0_off411 v346) a + S8x128.size a ≤ S294912x128.size a)
theorem k0_mult189_dvd : ∀ (v346 : BitVec 32) (k0_hw95 : k0_chk95 v346), 8 ∣ (k0_mult189 v346).toNat := fun v346 k0_hw95 => k0_hw95.1
theorem k0_off411_inb : ∀ (v346 : BitVec 32) (k0_hw95 : k0_chk95 v346), ∀ a, (k0_off411 v346) a + S8x128.size a ≤ S294912x128.size a := fun v346 k0_hw95 => k0_hw95.2

def k0_off412 (i : grid0.Coords) (k0_t6 : Fin k0_t6_loop.trips) : Fin 1 → Nat :=
  let c16384_i32_220 : BitVec 32 := 16384#32
  let arg0 : BitVec 32 := BitVec.ofNat 32 (i 0).val
  let c512_i32_219 : BitVec 32 := 512#32
  let v359 : BitVec 32 := Scalar.muli arg0 c512_i32_219
  let v360 : BitVec 32 := Scalar.addi c16384_i32_220 v359
  let c0_i32_11 : BitVec 32 := 0#32
  let c1_i32_13 : BitVec 32 := 1#32
  let arg9 : BitVec 32 := Scf.iv c0_i32_11 c1_i32_13 k0_t6
  let c16_i32_218 : BitVec 32 := 16#32
  let v357 : BitVec 32 := Scalar.muli arg9 c16_i32_218
  let c15_i32 : BitVec 32 := 15#32
  let v358 : BitVec 32 := Scalar.addi v357 c15_i32
  let v361 : BitVec 32 := Scalar.addi v360 v358
  let v362 : Index := Scalar.indexCast v361
  ![v362.toNat]
def k0_mult191 (v363 : BitVec 32) : BitVec 32 :=
  let c8_i32_221 : BitVec 32 := 8#32
  let v364 : BitVec 32 := Scalar.muli v363 c8_i32_221
  v364

def k0_mult192 (k0_t6 : Fin k0_t6_loop.trips) : BitVec 32 :=
  let c0_i32_11 : BitVec 32 := 0#32
  let c1_i32_13 : BitVec 32 := 1#32
  let arg9 : BitVec 32 := Scf.iv c0_i32_11 c1_i32_13 k0_t6
  let c16_i32_218 : BitVec 32 := 16#32
  let v357 : BitVec 32 := Scalar.muli arg9 c16_i32_218
  let c15_i32 : BitVec 32 := 15#32
  let v358 : BitVec 32 := Scalar.addi v357 c15_i32
  let c8_i32_222 : BitVec 32 := 8#32
  let v366 : BitVec 32 := Scalar.muli v358 c8_i32_222
  v366
def k0_off413 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off414 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_223 : BitVec 32 := 1#32
  let c0_i32_224 : BitVec 32 := 0#32
  let c0_i32_225 : BitVec 32 := 0#32
  ![v16.toNat, 1, 0, 0]
def k0_off415 (k0_t6 : Fin k0_t6_loop.trips) : Fin 2 → Nat :=
  let c0_i32_11 : BitVec 32 := 0#32
  let c1_i32_13 : BitVec 32 := 1#32
  let arg9 : BitVec 32 := Scf.iv c0_i32_11 c1_i32_13 k0_t6
  let c16_i32_218 : BitVec 32 := 16#32
  let v357 : BitVec 32 := Scalar.muli arg9 c16_i32_218
  let c15_i32 : BitVec 32 := 15#32
  let v358 : BitVec 32 := Scalar.addi v357 c15_i32
  let c8_i32_222 : BitVec 32 := 8#32
  let v366 : BitVec 32 := Scalar.muli v358 c8_i32_222
  let v367 : BitVec 32 := v366
  let c0_i32_226 : BitVec 32 := 0#32
  ![v367.toNat, 0]
def k0_off416 (v363 : BitVec 32) : Fin 2 → Nat :=
  let c8_i32_221 : BitVec 32 := 8#32
  let v364 : BitVec 32 := Scalar.muli v363 c8_i32_221
  let v365 : BitVec 32 := v364
  let c0_i32_227 : BitVec 32 := 0#32
  ![v365.toNat, 0]

def k0_chk96 (v363 : BitVec 32) : Prop :=
  (8 ∣ (k0_mult191 v363).toNat) ∧
  (∀ a, (k0_off416 v363) a + S8x128.size a ≤ S294912x128.size a)
theorem k0_mult191_dvd : ∀ (v363 : BitVec 32) (k0_hw96 : k0_chk96 v363), 8 ∣ (k0_mult191 v363).toNat := fun v363 k0_hw96 => k0_hw96.1
theorem k0_off416_inb : ∀ (v363 : BitVec 32) (k0_hw96 : k0_chk96 v363), ∀ a, (k0_off416 v363) a + S8x128.size a ≤ S294912x128.size a := fun v363 k0_hw96 => k0_hw96.2

def k0_off417 (i : grid0.Coords) : Fin 2 → Nat :=
  let arg0 : BitVec 32 := BitVec.ofNat 32 (i 0).val
  let c0_i32_15 : BitVec 32 := 0#32
  let v20 : BitVec 1 := Scalar.cmpi .sgt arg0 c0_i32_15
  let v21 : BitVec 32 := Scalar.extui v20
  let c0_i32_16 : BitVec 32 := 0#32
  let v22 : BitVec 1 := Scalar.cmpi .slt arg0 c0_i32_16
  let v23 : BitVec 32 := Scalar.extui v22
  let v24 : BitVec 32 := Scalar.subi v21 v23
  let c16_i32 : BitVec 32 := 16#32
  let c0_i32_17 : BitVec 32 := 0#32
  let v25 : BitVec 1 := Scalar.cmpi .sgt c16_i32 c0_i32_17
  let v26 : BitVec 32 := Scalar.extui v25
  let c0_i32_18 : BitVec 32 := 0#32
  let v27 : BitVec 1 := Scalar.cmpi .slt c16_i32 c0_i32_18
  let v28 : BitVec 32 := Scalar.extui v27
  let v29 : BitVec 32 := Scalar.subi v26 v28
  let v30 : BitVec 1 := Scalar.cmpi .ne v24 v29
  let v31 : BitVec 32 := Scalar.remsi arg0 c16_i32
  let c0_i32_19 : BitVec 32 := 0#32
  let v32 : BitVec 1 := Scalar.cmpi .ne v31 c0_i32_19
  let v33 : BitVec 1 := Scalar.andi v30 v32
  let v19 : BitVec 32 := Scalar.divsi arg0 c16_i32
  let c1_i32_20 : BitVec 32 := 1#32
  let v34 : BitVec 32 := Scalar.subi v19 c1_i32_20
  let v35 : BitVec 32 := Scalar.select v33 v34 v19
  let v36 : Index := Scalar.indexCast v35
  let c5120 : Index := 5120#32
  ![v36.toNat, 5120]
def k0_off418 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v41 : Index := Scalar.indexCast v16
  let c0_22 : Index := 0#32
  let c0_23 : Index := 0#32
  let c0_24 : Index := 0#32
  ![v41.toNat, 0, 0, 0]
def k0_off419 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v44 : Index := Scalar.indexCast v16
  let c0_25 : Index := 0#32
  let c1 : Index := 1#32
  let c0_26 : Index := 0#32
  ![v44.toNat, 0, 1, 0]
def k0_off420 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v47 : Index := Scalar.indexCast v16
  let c0_27 : Index := 0#32
  let c2 : Index := 2#32
  let c0_28 : Index := 0#32
  ![v47.toNat, 0, 2, 0]
def k0_off421 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v50 : Index := Scalar.indexCast v16
  let c0_29 : Index := 0#32
  let c3 : Index := 3#32
  let c0_30 : Index := 0#32
  ![v50.toNat, 0, 3, 0]
def k0_off422 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v53 : Index := Scalar.indexCast v16
  let c0_31 : Index := 0#32
  let c4 : Index := 4#32
  let c0_32 : Index := 0#32
  ![v53.toNat, 0, 4, 0]
def k0_off423 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v56 : Index := Scalar.indexCast v16
  let c0_33 : Index := 0#32
  let c5 : Index := 5#32
  let c0_34 : Index := 0#32
  ![v56.toNat, 0, 5, 0]
def k0_off424 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v59 : Index := Scalar.indexCast v16
  let c0_35 : Index := 0#32
  let c6 : Index := 6#32
  let c0_36 : Index := 0#32
  ![v59.toNat, 0, 6, 0]
def k0_off425 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v62 : Index := Scalar.indexCast v16
  let c0_37 : Index := 0#32
  let c7 : Index := 7#32
  let c0_38 : Index := 0#32
  ![v62.toNat, 0, 7, 0]
def k0_off426 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v69 : Index := Scalar.indexCast v16
  let c1_39 : Index := 1#32
  let c0_40 : Index := 0#32
  let c0_41 : Index := 0#32
  ![v69.toNat, 1, 0, 0]
def k0_off427 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v72 : Index := Scalar.indexCast v16
  let c1_42 : Index := 1#32
  let c1_43 : Index := 1#32
  let c0_44 : Index := 0#32
  ![v72.toNat, 1, 1, 0]
def k0_off428 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v75 : Index := Scalar.indexCast v16
  let c1_45 : Index := 1#32
  let c2_46 : Index := 2#32
  let c0_47 : Index := 0#32
  ![v75.toNat, 1, 2, 0]
def k0_off429 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v78 : Index := Scalar.indexCast v16
  let c1_48 : Index := 1#32
  let c3_49 : Index := 3#32
  let c0_50 : Index := 0#32
  ![v78.toNat, 1, 3, 0]
def k0_off430 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v81 : Index := Scalar.indexCast v16
  let c1_51 : Index := 1#32
  let c4_52 : Index := 4#32
  let c0_53 : Index := 0#32
  ![v81.toNat, 1, 4, 0]
def k0_off431 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v84 : Index := Scalar.indexCast v16
  let c1_54 : Index := 1#32
  let c5_55 : Index := 5#32
  let c0_56 : Index := 0#32
  ![v84.toNat, 1, 5, 0]
def k0_off432 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v87 : Index := Scalar.indexCast v16
  let c1_57 : Index := 1#32
  let c6_58 : Index := 6#32
  let c0_59 : Index := 0#32
  ![v87.toNat, 1, 6, 0]
def k0_off433 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v90 : Index := Scalar.indexCast v16
  let c1_60 : Index := 1#32
  let c7_61 : Index := 7#32
  let c0_62 : Index := 0#32
  ![v90.toNat, 1, 7, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32768 : Shape := ⟨1, ![32768]⟩
abbrev S294912x128 : Shape := ⟨2, ![294912, 128]⟩
abbrev S8x16384 : Shape := ⟨2, ![8, 16384]⟩
abbrev S16384x1024 : Shape := ⟨2, ![16384, 1024]⟩
abbrev S8x6144 : Shape := ⟨2, ![8, 6144]⟩
abbrev S2x6144 : Shape := ⟨2, ![2, 6144]⟩
abbrev S2x1024 : Shape := ⟨2, ![2, 1024]⟩
abbrev S36864x1024 : Shape := ⟨2, ![36864, 1024]⟩
abbrev S1x16384 : Shape := ⟨2, ![1, 16384]⟩
abbrev S16384 : Shape := ⟨1, ![16384]⟩
abbrev S16384x1 : Shape := ⟨2, ![16384, 1]⟩
abbrev S_ : Shape := ⟨0, ![]⟩
abbrev S2x8192x1024 : Shape := ⟨3, ![2, 8192, 1024]⟩
abbrev S2x1x1024 : Shape := ⟨3, ![2, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32768, .i32⟩
  | .hbm, ⟨1, _⟩ => ⟨S294912x128, .f32⟩
  | .hbm, ⟨2, _⟩ => ⟨S8x16384, .f32⟩
  | .hbm, ⟨3, _⟩ => ⟨S16384x1024, .f32⟩
  | .hbm, ⟨4, _⟩ => ⟨S8x6144, .f32⟩
  | .hbm, ⟨5, _⟩ => ⟨S2x6144, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S36864x1024, .f32⟩
  | .hbm, ⟨13, _⟩ => ⟨S1x16384, .f32⟩
  | .hbm, ⟨14, _⟩ => ⟨S16384, .f32⟩
  | .hbm, ⟨15, _⟩ => ⟨S16384x1, .f32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x16384, .f32⟩
  | .hbm, ⟨29, _⟩ => ⟨S16384, .f32⟩
  | .hbm, ⟨30, _⟩ => ⟨S16384x1, .f32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S2x8192x1024, .f32⟩
  | .hbm, ⟨45, _⟩ => ⟨S2x1x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S16384x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel4.lean ====
abbrev S16384x512 : Shape := ⟨2, ![16384, 512]⟩
abbrev S2x1024x1024 : Shape := ⟨3, ![2, 1024, 1024]⟩
abbrev S16384x1024 : Shape := ⟨2, ![16384, 1024]⟩
abbrev S8x6144 : Shape := ⟨2, ![8, 6144]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S2x1024x1024, .f32⟩
  | .hbm, ⟨3, _⟩ => ⟨S16384x1024, .f32⟩
  | .hbm, ⟨4, _⟩ => ⟨S8x6144, .f32⟩
  | .hbm, ⟨5, _⟩ => ⟨S2x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024x1024, .f32⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S8x6144, .f32⟩
  | .local _ .vmem, ⟨8, _⟩ => ⟨S1x1024, .f32⟩
  | .local _ .vmem, ⟨9, _⟩ => ⟨S1x1024x2816, .f32⟩
  | .local _ .vmem, ⟨10, _⟩ => ⟨S1x1024x2816, .f32⟩
  | .local _ .vmem, ⟨11, _⟩ => ⟨S1x2816x1024, .f32⟩
  | .local _ .vmem, ⟨12, _⟩ => ⟨S512x1024, .f32⟩
  | .local _ .vmem, ⟨13, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v18 : Index := Scalar.indexCast v17
  let c2048 : Index := 2048#32
  ![v18.toNat, 2048]
def k0_off2 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v20 : Index := Scalar.indexCast v17
  let c3072 : Index := 3072#32
  ![v20.toNat, 3072]
def k0_off3 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v22 : Index := Scalar.indexCast v17
  let c4096 : Index := 4096#32
  ![v22.toNat, 4096]
def k0_off4 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v24 : Index := Scalar.indexCast v17
  let c5120 : Index := 5120#32
  ![v24.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x512 : Shape := ⟨2, ![16384, 512]⟩
abbrev S2x1024x1024 : Shape := ⟨3, ![2, 1024, 1024]⟩
abbrev S16384x1024 : Shape := ⟨2, ![16384, 1024]⟩
abbrev S8x6144 : Shape := ⟨2, ![8, 6144]⟩
abbrev S2x1024 : Shape := ⟨2, ![2, 1024]⟩
abbrev S1x1024x2816 : Shape := ⟨3, ![1, 1024, 2816]⟩
abbrev S1x2816x1024 : Shape := ⟨3, ![1, 2816, 1024]⟩
abbrev S2x6144 : Shape := ⟨2, ![2, 6144]⟩
abbrev S2x1x1024 : Shape := ⟨3, ![2, 1, 1024]⟩
abbrev S1x1024x1024 : Shape := ⟨3, ![1, 1024, 1024]⟩
abbrev S1024x1024 : Shape := ⟨2, ![1024, 1024]⟩
abbrev S2x8192x1024 : Shape := ⟨3, ![2, 8192, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S2x8192x2816 : Shape := ⟨3, ![2, 8192, 2816]⟩

abbrev nBuf : Space → Nat
  | .hbm => 77
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S2x1024x1024, .f32⟩
  | .hbm, ⟨3, _⟩ => ⟨S16384x1024, .f32⟩
  | .hbm, ⟨4, _⟩ => ⟨S8x6144, .f32⟩
  | .hbm, ⟨5, _⟩ => ⟨S2x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S2x6144, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S16384x1024, .bf16⟩
  | .hbm, ⟨23, _⟩ => ⟨S16384x1024, .f32⟩
  | .hbm, ⟨24, _⟩ => ⟨S1x1024x1024, .f32⟩
  | .hbm, ⟨25, _⟩ => ⟨S1024x1024, .f32⟩
  | .hbm, ⟨26, _⟩ => ⟨S16384x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S1x1024, .f32⟩
  | .hbm, ⟨33, _⟩ => ⟨S1024, .f32⟩
  | .hbm, ⟨34, _⟩ => ⟨S2x8192x1024, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x1024, .f32⟩
  | .hbm, ⟨46, _⟩ => ⟨S2x8192x1024, .f32⟩
  | .hbm, ⟨47, _⟩ => ⟨S1x1x1024, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x1x1024, .f32⟩
  | .hbm, ⟨52, _⟩ => ⟨S2x1x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S1024x2816, .f32⟩
  | .hbm, ⟨58, _⟩ => ⟨S1024x2816, .f32⟩
  | .hbm, ⟨59, _⟩ => ⟨S2816x1024, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S_, .f32⟩
  | .hbm, ⟨64, _⟩ => ⟨S2x8192x2816, .f32⟩
  | .hbm, ⟨65, _⟩ => ⟨S2x8192x2816, .f32⟩
  | .hbm, ⟨66, _⟩ => ⟨S_, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S2x8192x2816, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel5.lean ====
abbrev S16384x1024 : Shape := ⟨2, ![16384, 1024]⟩
abbrev S8x6144 : Shape := ⟨2, ![8, 6144]⟩
abbrev S2x1024 : Shape := ⟨2, ![2, 1024]⟩
abbrev S2x1024x3584 : Shape := ⟨3, ![2, 1024, 3584]⟩
abbrev S2x64 : Shape := ⟨2, ![2, 64]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S1024 : Shape := ⟨1, ![1024]⟩
abbrev S1x1024x3584 : Shape := ⟨3, ![1, 1024, 3584]⟩
abbrev S1024x3584 : Shape := ⟨2, ![1024, 3584]⟩
abbrev S8x64 : Shape := ⟨2, ![8, 64]⟩
abbrev S512 : Shape := ⟨1, ![512]⟩
abbrev S1x512 : Shape := ⟨2, ![1, 512]⟩
abbrev S16384x512 : Shape := ⟨2, ![16384, 512]⟩
abbrev S2x512x8192 : Shape := ⟨3, ![2, 512, 8192]⟩
abbrev S2x8192x1024 : Shape := ⟨3, ![2, 8192, 1024]⟩
abbrev S512x1024 : Shape := ⟨2, ![512, 1024]⟩
abbrev S512x128 : Shape := ⟨2, ![512, 128]⟩
abbrev S512x512 : Shape := ⟨2, ![512, 512]⟩
abbrev S1x512x512 : Shape := ⟨3, ![1, 512, 512]⟩
abbrev S1x512x1024 : Shape := ⟨3, ![1, 512, 1024]⟩
abbrev S512x1 : Shape := ⟨2, ![512, 1]⟩
abbrev S1024x512 : Shape := ⟨2, ![1024, 512]⟩

abbrev nBuf : Space → Nat
  | .hbm => 80
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S2x1024, .f32⟩
  | .hbm, ⟨3, _⟩ => ⟨S2x1024x3584, .f32⟩
  | .hbm, ⟨4, _⟩ => ⟨S2x64, .f32⟩
  | .hbm, ⟨5, _⟩ => ⟨S2x64, .f32⟩
  | .hbm, ⟨6, _⟩ => ⟨S128, .f32⟩
  | .hbm, ⟨7, _⟩ => ⟨S128x64, .f32⟩
  | .hbm, ⟨8, _⟩ => ⟨S8192, .f32⟩
  | .hbm, ⟨9, _⟩ => ⟨S64, .f32⟩
  | .hbm, ⟨10, _⟩ => ⟨S1x64, .f32⟩
  | .hbm, ⟨11, _⟩ => ⟨S128x64, .f32⟩
  | .hbm, ⟨12, _⟩ => ⟨S8192, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S8192x1, .f32⟩
  | .hbm, ⟨22, _⟩ => ⟨S1x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x1, .f32⟩
  | .hbm, ⟨27, _⟩ => ⟨S1x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x32, .f32⟩
  | .hbm, ⟨32, _⟩ => ⟨S8192x64, .f32⟩
  | .hbm, ⟨33, _⟩ => ⟨S64, .i32⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S8192x64, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S8192x64, .f32⟩
  | .hbm, ⟨48, _⟩ => ⟨S1x64, .f32⟩
  | .hbm, ⟨49, _⟩ => ⟨S8192x64, .f32⟩
  | .hbm, ⟨50, _⟩ => ⟨S8192x64, .f32⟩
  | .hbm, ⟨51, _⟩ => ⟨S1x8192x1x64, .f32⟩
  | .hbm, ⟨52, _⟩ => ⟨S1x8192x2x64, .f32⟩
  | .hbm, ⟨53, _⟩ => ⟨S8192x128, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S1x1024x3584, .f32⟩
  | .hbm, ⟨58, _⟩ => ⟨S1024x3584, .f32⟩
  | .hbm, ⟨59, _⟩ => ⟨S1024x3584, .bf16⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S8x64, .f32⟩
  | .hbm, ⟨64, _⟩ => ⟨S512, .f32⟩
  | .hbm, ⟨65, _⟩ => ⟨S1x512, .f32⟩
  | .hbm, ⟨66, _⟩ => ⟨S1x64, .f32⟩
  | .hbm, ⟨67, _⟩ => ⟨S64, .f32⟩
  | .hbm, ⟨68, _⟩ => ⟨S1x64, .f32⟩
  | .hbm, ⟨69, _⟩ => ⟨S8x64, .f32⟩
  | .hbm, ⟨70, _⟩ => ⟨S512, .f32⟩
  | .hbm, ⟨71, _⟩ => ⟨S1x512, .f32⟩
  | .hbm, ⟨72, _⟩ => ⟨S16384x512, .bf16⟩
  | .hbm, ⟨73, _⟩ => ⟨S16384x512, .bf16⟩
  | .hbm, ⟨74, _⟩ => ⟨S16384x512, .bf16⟩
  | .hbm, ⟨75, _⟩ => ⟨S16384x512, .bf16⟩
  | .hbm, ⟨76, _⟩ => ⟨S16384x512, .bf16⟩
  | .hbm, ⟨77, _⟩ => ⟨S2x512x8192, .bf16⟩
  | .hbm, ⟨78, _⟩ => ⟨S2x512x8192, .bf16⟩
  | .hbm, ⟨79, _⟩ => ⟨S2x8192x1024, .bf16⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S1024x3584, .bf16⟩
  | .local _ .vmem, ⟨5, _⟩ => ⟨S1x512, .f32⟩
  | .local _ .vmem, ⟨6, _⟩ => ⟨S1x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x1024, .bf16⟩
  | .local _ .vmem, ⟨26, _⟩ => ⟨S1x512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59_0 : Ref sig .tc := ⟨.hbm, 72, rfl⟩
abbrev main_v59_1 : Ref sig .tc := ⟨.hbm, 73, rfl⟩
abbrev main_v59_2 : Ref sig .tc := ⟨.hbm, 74, rfl⟩
abbrev main_v59_3 : Ref sig .tc := ⟨.hbm, 75, rfl⟩
abbrev main_v59_4 : Ref sig .tc := ⟨.hbm, 76, rfl⟩
abbrev main_v59_5 : Ref sig .tc := ⟨.hbm, 77, rfl⟩
abbrev main_v59_6 : Ref sig .tc := ⟨.hbm, 78, rfl⟩
abbrev main_v59_7 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v18 : Index := Scalar.indexCast v17
  let c0 : Index := 0#32
  ![v18.toNat, 0]
def k0_off2 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v20 : Index := Scalar.indexCast v17
  let c1024 : Index := 1024#32
  ![v20.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16384x1024 : Shape := ⟨2, ![16384, 1024]⟩
abbrev S8x6144 : Shape := ⟨2, ![8, 6144]⟩
abbrev S2x1024 : Shape := ⟨2, ![2, 1024]⟩
abbrev S2x1024x3584 : Shape := ⟨3, ![2, 1024, 3584]⟩
abbrev S2x64 : Shape := ⟨2, ![2, 64]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S2x6144 : Shape := ⟨2, ![2, 6144]⟩
abbrev S2x1x1024 : Shape := ⟨3, ![2, 1, 1024]⟩
abbrev S2x8192x1024 : Shape := ⟨3, ![2, 8192, 1024]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1x1024x3584 : Shape := ⟨3, ![1, 1024, 3584]⟩
abbrev S1024x3584 : Shape := ⟨2, ![1024, 3584]⟩
abbrev S2x8192x3584 : Shape := ⟨3, ![2, 8192, 3584]⟩
abbrev S2x8192x512 : Shape := ⟨3, ![2, 8192, 512]⟩
abbrev S2x8192x4x2x64 : Shape := ⟨5, ![2, 8192, 4, 2, 64]⟩
abbrev S2x4x2x8192x64 : Shape := ⟨5, ![2, 4, 2, 8192, 64]⟩
abbrev S2x4x2x8192 : Shape := ⟨4, ![2, 4, 2, 8192]⟩
abbrev S2x4x2x8192x1 : Shape := ⟨5, ![2, 4, 2, 8192, 1]⟩
abbrev S1x1x1x1x64 : Shape := ⟨5, ![1, 1, 1, 1, 64]⟩
abbrev S2x4x2x8192x32 : Shape := ⟨5, ![2, 4, 2, 8192, 32]⟩
abbrev S1x1x1x8192x64 : Shape := ⟨5, ![1, 1, 1, 8192, 64]⟩
abbrev S2x4x1x8192x64 : Shape := ⟨5, ![2, 4, 1, 8192, 64]⟩
abbrev S2x4x2x64x8192 : Shape := ⟨5, ![2, 4, 2, 64, 8192]⟩
abbrev S2x512x8192 : Shape := ⟨3, ![2, 512, 8192]⟩
abbrev S2x8192x4x128 : Shape := ⟨4, ![2, 8192, 4, 128]⟩
abbrev S2x8192x4x1 : Shape := ⟨4, ![2, 8192, 4, 1]⟩
abbrev S2x8192x4x127 : Shape := ⟨4, ![2, 8192, 4, 127]⟩
abbrev S2x8192x4x256 : Shape := ⟨4, ![2, 8192, 4, 256]⟩
abbrev S16384x512 : Shape := ⟨2, ![16384, 512]⟩

abbrev nBuf : Space → Nat
  | .hbm => 183
  | .vmem => 0
  | .smem => 0
  | _ => 0

abbrev hbmTy0_0 (i : Nat) : BufTy := match i % 128 with
  | 0 => ⟨S16384x1024, .f32⟩
  | 1 => ⟨S8x6144, .f32⟩
  | 2 => ⟨S2x1024, .f32⟩
  | 3 => ⟨S2x1024x3584, .f32⟩
  | 4 => ⟨S2x64, .f32⟩
  | 5 => ⟨S2x64, .f32⟩
  | 6 => ⟨S128, .f32⟩
  | 7 => ⟨S128x64, .f32⟩
  | 8 => ⟨S8192, .f32⟩
  | 9 => ⟨S64, .f32⟩
  | 10 => ⟨S1x64, .f32⟩
  | 11 => ⟨S128x64, .f32⟩
  | 12 => ⟨S8192, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S8192x1, .f32⟩
  | 22 => ⟨S1x16, .f32⟩
  | 23 => ⟨S8192x16, .f32⟩
  | 24 => ⟨S8192x16, .f32⟩
  | 25 => ⟨S8192x16, .f32⟩
  | 26 => ⟨S8192x1, .f32⟩
  | 27 => ⟨S1x16, .f32⟩
  | 28 => ⟨S8192x16, .f32⟩
  | 29 => ⟨S8192x16, .f32⟩
  | 30 => ⟨S8192x16, .f32⟩
  | 31 => ⟨S8192x32, .f32⟩
  | 32 => ⟨S8192x64, .f32⟩
  | 33 => ⟨S8192x64, .f32⟩
  | 34 => ⟨S8192x64, .f32⟩
  | 35 => ⟨S2x6144, .f32⟩
  | 36 => ⟨S2x1024, .f32⟩
  | 37 => ⟨S2x1024, .f32⟩
  | 38 => ⟨S2x1024, .f32⟩
  | 39 => ⟨S2x1024, .f32⟩
  | 40 => ⟨S2x1024, .f32⟩
  | 41 => ⟨S2x1024, .f32⟩
  | 42 => ⟨S2x1x1024, .f32⟩
  | 43 => ⟨S2x1x1024, .f32⟩
  | 44 => ⟨S2x1x1024, .f32⟩
  | 45 => ⟨S2x1x1024, .f32⟩
  | 46 => ⟨S2x1x1024, .f32⟩
  | 47 => ⟨S2x1x1024, .f32⟩
  | 48 => ⟨S2x8192x1024, .f32⟩
  | 49 => ⟨S1x1024, .f32⟩
  | 50 => ⟨S1024, .f32⟩
  | 51 => ⟨S2x8192x1024, .f32⟩
  | 52 => ⟨S_, .f32⟩
  | 53 => ⟨S2x8192, .f32⟩
  | 54 => ⟨S2x8192x1, .f32⟩
  | 55 => ⟨S_, .f32⟩
  | 56 => ⟨S2x8192x1, .f32⟩
  | 57 => ⟨S2x8192x1, .f32⟩
  | 58 => ⟨S_, .f32⟩
  | 59 => ⟨S2x8192x1, .f32⟩
  | 60 => ⟨S2x8192x1, .f32⟩
  | 61 => ⟨S2x8192x1, .f32⟩
  | 62 => ⟨S2x8192x1024, .f32⟩
  | 63 => ⟨S2x8192x1024, .f32⟩
  | 64 => ⟨S1x1x1024, .f32⟩
  | 65 => ⟨S2x8192x1024, .f32⟩
  | 66 => ⟨S2x8192x1024, .f32⟩
  | 67 => ⟨S_, .f32⟩
  | 68 => ⟨S2x1x1024, .f32⟩
  | 69 => ⟨S2x1x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S1x1024x3584, .f32⟩
  | 75 => ⟨S1024x3584, .f32⟩
  | 76 => ⟨S2x8192x3584, .f32⟩
  | 77 => ⟨S2x8192x512, .f32⟩
  | 78 => ⟨S2x8192x512, .f32⟩
  | 79 => ⟨S2x8192x512, .f32⟩
  | 80 => ⟨S2x8192x512, .f32⟩
  | 81 => ⟨S2x8192x512, .f32⟩
  | 82 => ⟨S2x8192x512, .f32⟩
  | 83 => ⟨S2x8192x512, .f32⟩
  | 84 => ⟨S1x64, .f32⟩
  | 85 => ⟨S64, .f32⟩
  | 86 => ⟨S2x8192x4x2x64, .f32⟩
  | 87 => ⟨S2x4x2x8192x64, .f32⟩
  | 88 => ⟨S2x4x2x8192x64, .f32⟩
  | 89 => ⟨S_, .f32⟩
  | 90 => ⟨S2x4x2x8192, .f32⟩
  | 91 => ⟨S2x4x2x8192x1, .f32⟩
  | 92 => ⟨S_, .f32⟩
  | 93 => ⟨S2x4x2x8192x1, .f32⟩
  | 94 => ⟨S2x4x2x8192x1, .f32⟩
  | 95 => ⟨S_, .f32⟩
  | 96 => ⟨S2x4x2x8192x1, .f32⟩
  | 97 => ⟨S2x4x2x8192x1, .f32⟩
  | 98 => ⟨S2x4x2x8192x1, .f32⟩
  | 99 => ⟨S2x4x2x8192x64, .f32⟩
  | 100 => ⟨S2x4x2x8192x64, .f32⟩
  | 101 => ⟨S1x1x1x1x64, .f32⟩
  | 102 => ⟨S2x4x2x8192x64, .f32⟩
  | 103 => ⟨S2x4x2x8192x64, .f32⟩
  | 104 => ⟨S2x4x2x8192x32, .f32⟩
  | 105 => ⟨S2x4x2x8192x32, .f32⟩
  | 106 => ⟨S2x4x2x8192x32, .f32⟩
  | 107 => ⟨S2x4x2x8192x64, .f32⟩
  | 108 => ⟨S1x1x1x8192x64, .f32⟩
  | 109 => ⟨S2x4x2x8192x64, .f32⟩
  | 110 => ⟨S2x4x2x8192x64, .f32⟩
  | 111 => ⟨S1x1x1x8192x64, .f32⟩
  | 112 => ⟨S2x4x2x8192x64, .f32⟩
  | 113 => ⟨S2x4x2x8192x64, .f32⟩
  | 114 => ⟨S2x4x2x8192x64, .f32⟩
  | 115 => ⟨S_, .f32⟩
  | 116 => ⟨S2x4x2x8192x64, .f32⟩
  | 117 => ⟨S2x4x2x8192x64, .f32⟩
  | 118 => ⟨S1x64, .f32⟩
  | 119 => ⟨S64, .f32⟩
  | 120 => ⟨S2x8192x4x2x64, .f32⟩
  | 121 => ⟨S2x4x2x8192x64, .f32⟩
  | 122 => ⟨S2x4x2x8192x64, .f32⟩
  | 123 => ⟨S_, .f32⟩
  | 124 => ⟨S2x4x2x8192, .f32⟩
  | 125 => ⟨S2x4x2x8192x1, .f32⟩
  | 126 => ⟨S_, .f32⟩
  | 127 => ⟨S2x4x2x8192x1, .f32⟩
  | _ => ⟨S16384x1024, .f32⟩

abbrev hbmTy0_1 (i : Nat) : BufTy := match i % 128 with
  | 0 => ⟨S2x4x2x8192x1, .f32⟩
  | 1 => ⟨S_, .f32⟩
  | 2 => ⟨S2x4x2x8192x1, .f32⟩
  | 3 => ⟨S2x4x2x8192x1, .f32⟩
  | 4 => ⟨S2x4x2x8192x1, .f32⟩
  | 5 => ⟨S2x4x2x8192x64, .f32⟩
  | 6 => ⟨S2x4x2x8192x64, .f32⟩
  | 7 => ⟨S1x1x1x1x64, .f32⟩
  | 8 => ⟨S2x4x2x8192x64, .f32⟩
  | 9 => ⟨S2x4x2x8192x64, .f32⟩
  | 10 => ⟨S2x4x2x8192x32, .f32⟩
  | 11 => ⟨S2x4x2x8192x32, .f32⟩
  | 12 => ⟨S2x4x2x8192x32, .f32⟩
  | 13 => ⟨S2x4x2x8192x64, .f32⟩
  | 14 => ⟨S1x1x1x8192x64, .f32⟩
  | 15 => ⟨S2x4x2x8192x64, .f32⟩
  | 16 => ⟨S2x4x2x8192x64, .f32⟩
  | 17 => ⟨S1x1x1x8192x64, .f32⟩
  | 18 => ⟨S2x4x2x8192x64, .f32⟩
  | 19 => ⟨S2x4x2x8192x64, .f32⟩
  | 20 => ⟨S2x4x2x8192x64, .f32⟩
  | 21 => ⟨S_, .f32⟩
  | 22 => ⟨S2x4x1x8192x64, .f32⟩
  | 23 => ⟨S2x4x1x8192x64, .f32⟩
  | 24 => ⟨S2x4x2x8192x64, .f32⟩
  | 25 => ⟨S2x4x2x64x8192, .f32⟩
  | 26 => ⟨S2x512x8192, .f32⟩
  | 27 => ⟨S2x512x8192, .bf16⟩
  | 28 => ⟨S2x4x1x8192x64, .f32⟩
  | 29 => ⟨S2x4x2x8192x64, .f32⟩
  | 30 => ⟨S2x4x2x64x8192, .f32⟩
  | 31 => ⟨S2x512x8192, .f32⟩
  | 32 => ⟨S2x512x8192, .bf16⟩
  | 33 => ⟨S2x8192x4x128, .f32⟩
  | 34 => ⟨S_, .f32⟩
  | 35 => ⟨S2x8192x4x1, .f32⟩
  | 36 => ⟨S_, .f32⟩
  | 37 => ⟨S2x8192x4x127, .f32⟩
  | 38 => ⟨S2x8192x4x256, .f32⟩
  | 39 => ⟨S16384x512, .f32⟩
  | 40 => ⟨S16384x512, .bf16⟩
  | 41 => ⟨S_, .f32⟩
  | 42 => ⟨S2x8192x512, .f32⟩
  | 43 => ⟨S2x8192x512, .f32⟩
  | 44 => ⟨S16384x512, .f32⟩
  | 45 => ⟨S16384x512, .bf16⟩
  | 46 => ⟨S16384x512, .f32⟩
  | 47 => ⟨S16384x512, .bf16⟩
  | 48 => ⟨S16384x512, .f32⟩
  | 49 => ⟨S16384x512, .bf16⟩
  | 50 => ⟨S2x8192x4x2x64, .f32⟩
  | 51 => ⟨S16384x512, .f32⟩
  | 52 => ⟨S16384x512, .bf16⟩
  | 53 => ⟨S2x8192x1024, .f32⟩
  | 54 => ⟨S2x8192x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_1 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_4 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_5 : Ref sig .tc := ⟨.hbm, 89, rfl⟩
abbrev main_v77 : Ref sig .tc := ⟨.hbm, 90, rfl⟩
abbrev main_v78 : Ref sig .tc := ⟨.hbm, 91, rfl⟩
abbrev main_cst_6 : Ref sig .tc := ⟨.hbm, 92, rfl⟩
abbrev main_v79 : Ref sig .tc := ⟨.hbm, 93, rfl⟩
abbrev main_v80 : Ref sig .tc := ⟨.hbm, 94, rfl⟩
abbrev main_cst_7 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_cst_8 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_9 : Ref sig .tc := ⟨.hbm, 123, rfl⟩
abbrev main_v107 : Ref sig .tc := ⟨.hbm, 124, rfl⟩
abbrev main_v108 : Ref sig .tc := ⟨.hbm, 125, rfl⟩
abbrev main_cst_10 : Ref sig .tc := ⟨.hbm, 126, rfl⟩
abbrev main_v109 : Ref sig .tc := ⟨.hbm, 127, rfl⟩
abbrev main_v110 : Ref sig .tc := ⟨.hbm, 128, rfl⟩
abbrev main_cst_11 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_cst_12 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_cst_13 : Ref sig .tc := ⟨.hbm, 162, rfl⟩
abbrev main_v142 : Ref sig .tc := ⟨.hbm, 163, rfl⟩
abbrev main_cst_14 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_cst_15 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩

abbrev nD : Nat := 1
abbrev τ : Topo := Topo.v7x

variable {F : FTy → Type} [FloatOps F]
-- ==== Proof.Base.lean ====
/-
  Hand-written. What the proof of the dispatch call names throughout: the buffers its body uses, the words of the two
  tables as one list of 36864 destinations, the row tiles of the result they name, and the arithmetic of the offsets
  the body computes from them.
-/
module

public import proofs.«01_k».proof.Proof.Gen.KernelIdeal.Skeleton
public import Idealize.ShloMosaic.Lib.Pipeline.FrameBody
public import Idealize.ShloMosaic.Lib.Batch
public import Idealize.ShloMosaic.Lib.Ring
public import Idealize.SL.BI.BigOpNat
public import Idealize.ShloMosaic.Lib.Tactic

@[expose] public section

noncomputable section

namespace Cert.KernelIdeal.Hand

open Cert.KernelIdeal Cert.KernelIdeal.Gen
open Idealize.ShloMosaic Idealize.ShloMosaic.TcCoe

/-! ## The buffers -/

/-- The first table: the destination of every (token, choice) pair. -/
abbrev posM : Memref sig .tc .smem S32768 .i32 := Memref.whole main_arg0
/-- The second table: the destinations of the padding rows. -/
abbrev padM : Memref sig .tc .smem S4096 .i32 := Memref.whole main_arg1
/-- The result, in HBM. -/
abbrev xsM : Memref sig .tc .hbm S294912x128 .f32 := Memref.whole main_v0
/-- The scratch that holds a block's modulated rows, eight rows of 128 numbers to a token. -/
abbrev hM : Memref sig .tc .vmem S4096x128 .f32 := Memref.whole cc0_scratch0
/-- The scratch that holds one token of zeros. -/
abbrev zM : Memref sig .tc .vmem S8x128 .f32 := Memref.whole cc0_scratch1

/-! ## Slots: the 36864 copies -/

/-- Entry `p` of the first table. -/
abbrev ixP (p : ℕ) (h : p < 32768) : S32768.Idx := fun a => ⟨p, by fin_cases a; exact h⟩
/-- Entry `p` of the second table. -/
abbrev ixQ (p : ℕ) (h : p < 4096) : S4096.Idx := fun a => ⟨p, by fin_cases a; exact h⟩

/-- The word of slot `p`: the first table's words, then the second's. -/
def word (tp : S32768.Idx → BitVec 32) (tq : S4096.Idx → BitVec 32) (p : ℕ) : BitVec 32 :=
  if h : p < 32768 then tp (ixP p h) else if h' : p - 32768 < 4096 then tq (ixQ (p - 32768) h') else 0#32

theorem word_pos {tp tq} (p : ℕ) (h : p < 32768) : word tp tq p = tp (ixP p h) := dif_pos h

theorem word_pad {tp tq} (p : ℕ) (h : p < 4096) : word tp tq (32768 + p) = tq (ixQ p h) := by
  unfold word
  rw [dif_neg (by omega)]
  have e : 32768 + p - 32768 = p := by omega
  rw [dif_pos (by omega)]
  exact congrArg tq (funext fun a => Fin.ext e)

/-- The row tile of the result slot `p` is copied to. -/
def row (tp : S32768.Idx → BitVec 32) (tq : S4096.Idx → BitVec 32) (p : ℕ) : ℕ := (word tp tq p).toNat

/-- What the body needs of the tables: every slot's tile lies in the result. -/
def Inb (tp : S32768.Idx → BitVec 32) (tq : S4096.Idx → BitVec 32) : Prop := ∀ p, p < 36864 → row tp tq p < 36864

/-! ## Offsets and checks of a tile at a word -/

/-- The offsets of the tile a word names. -/
theorem off_tile {w : BitVec 32} (h : w.toNat < 36864) : ![(Scalar.muli w 8#32).toNat, 0] = ![8 * w.toNat, 0] := by
  have : (Scalar.muli w 8#32).toNat = 8 * w.toNat := by
    show (w * 8#32).toNat = _
    rw [BitVec.toNat_mul]
    show (w.toNat * 8) % 2 ^ 32 = _
    rw [Nat.mod_eq_of_lt (by omega)]; omega
  rw [this]

theorem mult_tile {w : BitVec 32} (h : w.toNat < 36864) : 8 ∣ (Scalar.muli w 8#32).toNat :=
  ⟨w.toNat, congrFun (off_tile h) 0⟩

theorem inb_tile {w : BitVec 32} (h : w.toNat < 36864) :
    ∀ a, (![(Scalar.muli w 8#32).toNat, 0] : Fin 2 → ℕ) a + S8x128.size a ≤ S294912x128.size a := by
  rw [off_tile h]
  intro a
  fin_cases a
  · show 8 * w.toNat + 8 ≤ 294912; omega
  · show 0 + 128 ≤ 128; omega

/-- The side condition the body assumes of each word it reads. -/
theorem chk_tile {w : BitVec 32} (h : w.toNat < 36864) :
    (8 ∣ (Scalar.muli w 8#32).toNat) ∧
      (∀ a, (![(Scalar.muli w 8#32).toNat, 0] : Fin 2 → ℕ) a + S8x128.size a ≤ S294912x128.size a) :=
  ⟨mult_tile h, inb_tile h⟩

/-- The same, as the two regions of the first grid point state it. -/
theorem chk_tile' {w : BitVec 32} {b : BitVec 1} (h : w.toNat < 36864) :
    (∀ _ : b = 1#1, 8 ∣ (Scalar.muli w 8#32).toNat) ∧
      (∀ _ : b = 1#1, ∀ a, (![(Scalar.muli w 8#32).toNat, 0] : Fin 2 → ℕ) a + S8x128.size a ≤ S294912x128.size a) :=
  ⟨fun _ => mult_tile h, fun _ => inb_tile h⟩

/-! ## Offsets at a trip -/

/-- The step of a unit loop's counter from zero, as a number. -/
theorem iv_nat (t : ℕ) : Scf.iv 0#32 1#32 t = BitVec.ofNat 32 t := by
  simp [Scf.iv]

/-- The position a loop's trip `t`, unit `u`, has among the loop's copies. -/
theorem trip_nat (t : ℕ) (ht : t < 256) (u : ℕ) (hu : u < 16) :
    (Scalar.addi (Scalar.muli (Scf.iv 0#32 1#32 t) 16#32) (BitVec.ofNat 32 u)).toNat = 16 * t + u := by
  rw [iv_nat]
  show (BitVec.ofNat 32 t * 16#32 + BitVec.ofNat 32 u).toNat = _
  simp only [BitVec.toNat_add, BitVec.toNat_mul, BitVec.toNat_ofNat]
  omega

theorem off_q (t : ℕ) (ht : t < 256) (u : ℕ) (hu : u < 16) :
    ![(Scalar.indexCast (Scalar.addi (Scalar.muli (Scf.iv 0#32 1#32 t) 16#32) (BitVec.ofNat 32 u))).toNat] = ![16 * t + u] := by
  rw [show Scalar.indexCast (Scalar.addi (Scalar.muli (Scf.iv 0#32 1#32 t) 16#32) (BitVec.ofNat 32 u))
    = Scalar.addi (Scalar.muli (Scf.iv 0#32 1#32 t) 16#32) (BitVec.ofNat 32 u) from rfl, trip_nat t ht u hu]

theorem off_h (t : ℕ) (ht : t < 32) (u : ℕ) (hu : u < 16) :
    ![(Scalar.muli (Scalar.addi (Scalar.muli (Scf.iv 0#32 1#32 t) 16#32) (BitVec.ofNat 32 u)) 8#32).toNat, 0]
      = ![8 * (16 * t + u), 0] := by
  have e := trip_nat t (by omega) u hu
  rw [off_tile (by rw [e]; omega), e]

/-- `b` is the first of the pairs' choices or the second (`0` or `16384`), `i` the grid point. -/
theorem off_p (b : ℕ) (hb : b ≤ 16384) (i : ℕ) (hi : i < 32) (t : ℕ) (ht : t < 32) (u : ℕ) (hu : u < 16) :
    ![(Scalar.indexCast (Scalar.addi (Scalar.addi (BitVec.ofNat 32 b) (Scalar.muli (BitVec.ofNat 32 i) 512#32))
        (Scalar.addi (Scalar.muli (Scf.iv 0#32 1#32 t) 16#32) (BitVec.ofNat 32 u)))).toNat] = ![b + 512 * i + (16 * t + u)] := by
  have e := trip_nat t (by omega) u hu
  have : (Scalar.indexCast (Scalar.addi (Scalar.addi (BitVec.ofNat 32 b) (Scalar.muli (BitVec.ofNat 32 i) 512#32))
        (Scalar.addi (Scalar.muli (Scf.iv 0#32 1#32 t) 16#32) (BitVec.ofNat 32 u)))).toNat = b + 512 * i + (16 * t + u) := by
    show (BitVec.ofNat 32 b + BitVec.ofNat 32 i * 512#32 + Scalar.addi (Scalar.muli (Scf.iv 0#32 1#32 t) 16#32) (BitVec.ofNat 32 u)).toNat = _
    rw [BitVec.toNat_add, e]
    simp only [BitVec.toNat_add, BitVec.toNat_mul, BitVec.toNat_ofNat]
    omega
  rw [this]

/-- The slot of copy `n` of grid point `i`'s 1024: the block's 512 tokens' first choices, then their second. -/
def slot (i n : ℕ) : ℕ := if n < 512 then 512 * i + n else 16384 + 512 * i + (n - 512)
/-- The token of the block copy `n` reads. -/
def tok (n : ℕ) : ℕ := if n < 512 then n else n - 512
/-- The slot of the first grid point's padding copy `n`. -/
def padSlot (n : ℕ) : ℕ := 32768 + n

theorem slot_lt {i n : ℕ} (hi : i < 32) (hn : n < 1024) : slot i n < 32768 := by
  unfold slot; split <;> omega

theorem off_slot0 (i : ℕ) (hi : i < 32) (t : ℕ) (ht : t < 32) (u : ℕ) (hu : u < 16) :
    ![(Scalar.indexCast (Scalar.addi (Scalar.addi (BitVec.ofNat 32 0) (Scalar.muli (BitVec.ofNat 32 i) 512#32))
        (Scalar.addi (Scalar.muli (Scf.iv 0#32 1#32 t) 16#32) (BitVec.ofNat 32 u)))).toNat] = ![slot i (16 * t + u)] := by
  rw [off_p 0 (by omega) i hi t ht u hu]
  unfold slot; rw [if_pos (by omega), Nat.zero_add]

theorem off_slot1 (i : ℕ) (hi : i < 32) (t : ℕ) (ht : t < 32) (u : ℕ) (hu : u < 16) :
    ![(Scalar.indexCast (Scalar.addi (Scalar.addi (BitVec.ofNat 32 16384) (Scalar.muli (BitVec.ofNat 32 i) 512#32))
        (Scalar.addi (Scalar.muli (Scf.iv 0#32 1#32 t) 16#32) (BitVec.ofNat 32 u)))).toNat] = ![slot i (512 + 16 * t + u)] := by
  rw [off_p 16384 (by omega) i hi t ht u hu]
  unfold slot; rw [if_neg (by omega), show 512 + 16 * t + u - 512 = 16 * t + u by omega]

theorem off_tok0 (t : ℕ) (ht : t < 32) (u : ℕ) (hu : u < 16) :
    ![(Scalar.muli (Scalar.addi (Scalar.muli (Scf.iv 0#32 1#32 t) 16#32) (BitVec.ofNat 32 u)) 8#32).toNat, 0]
      = ![8 * tok (16 * t + u), 0] := by
  rw [off_h t ht u hu]; unfold tok; rw [if_pos (by omega)]

theorem off_tok1 (t : ℕ) (ht : t < 32) (u : ℕ) (hu : u < 16) :
    ![(Scalar.muli (Scalar.addi (Scalar.muli (Scf.iv 0#32 1#32 t) 16#32) (BitVec.ofNat 32 u)) 8#32).toNat, 0]
      = ![8 * tok (512 + 16 * t + u), 0] := by
  rw [off_h t ht u hu]; unfold tok; rw [if_neg (by omega), show 512 + 16 * t + u - 512 = 16 * t + u by omega]

/-! ## Row tiles of the result -/

/-- The elements of the result's row tile `r`. -/
def tile (r : ℕ) : Finset S294912x128.Idx := Finset.univ.filter fun x => (x 0).val / 8 = r

theorem mem_tile {r : ℕ} {x : S294912x128.Idx} : x ∈ tile r ↔ (x 0).val / 8 = r := by
  simp [tile]

theorem tile_disjoint {r s : ℕ} (h : r ≠ s) : Disjoint (tile r) (tile s) := by
  rw [Finset.disjoint_left]; intro x hx hy
  rw [mem_tile] at hx hy; exact h (hx.symm.trans hy)

/-- A tile's elements, as the body's slice of the result names them. -/
theorem slice_set (r : ℕ) (inb : ∀ a, (![8 * r, 0] : Fin 2 → ℕ) a + S8x128.size a ≤ S294912x128.size a) :
    (Rect.unit (s := S294912x128) ![8 * r, 0] S8x128.size inb).set = tile r := by
  ext x
  rw [Rect.mem_set_unit, mem_tile]
  constructor
  · intro h
    have h0 := h 0
    change 8 * r ≤ (x 0).val ∧ (x 0).val < 8 * r + 8 at h0
    omega
  · intro h a
    fin_cases a
    · show 8 * r ≤ (x 0).val ∧ (x 0).val < 8 * r + 8
      omega
    · show 0 ≤ (x 1).val ∧ (x 1).val < 0 + 128
      have := (x 1).isLt
      change (x 1).val < 128 at this
      omega

/-- The elements of the tile scratch's token `s`. -/
def htile (s : ℕ) : Finset S4096x128.Idx := Finset.univ.filter fun x => (x 0).val / 8 = s

theorem mem_htile {r : ℕ} {x : S4096x128.Idx} : x ∈ htile r ↔ (x 0).val / 8 = r := by
  simp [htile]

theorem hslice_set (r : ℕ) (inb : ∀ a, (![8 * r, 0] : Fin 2 → ℕ) a + S8x128.size a ≤ S4096x128.size a) :
    (Rect.unit (s := S4096x128) ![8 * r, 0] S8x128.size inb).set = htile r := by
  ext x
  rw [Rect.mem_set_unit, mem_htile]
  constructor
  · intro h
    have h0 := h 0
    change 8 * r ≤ (x 0).val ∧ (x 0).val < 8 * r + 8 at h0
    omega
  · intro h a
    fin_cases a
    · show 8 * r ≤ (x 0).val ∧ (x 0).val < 8 * r + 8
      omega
    · show 0 ≤ (x 1).val ∧ (x 1).val < 0 + 128
      have := (x 1).isLt
      change (x 1).val < 128 at this
      omega

/-- The units a copy of one tile into the result signals. -/
def amt : ℕ := ((Memref.whole main_v0 : Memref sig .tc .hbm S294912x128 .f32).slice
  (Rect.unit (s := S294912x128) ![0, 0] S8x128.size (by intro a; fin_cases a <;> decide)) (fun _ => rfl)).view.dmaCredit

theorem amt_pos : 0 < amt := View.dmaCredit_pos _ (by decide)

theorem credit_tile (off : Fin 2 → ℕ) (inb : ∀ a, off a + S8x128.size a ≤ S294912x128.size a) :
    (xsM.slice (Rect.unit (s := S294912x128) off S8x128.size inb) (fun _ => rfl)).view.dmaCredit = amt := rfl

theorem tile_view_set (r : ℕ) (inb : ∀ a, (![8 * r, 0] : Fin 2 → ℕ) a + S8x128.size a ≤ S294912x128.size a) :
    (xsM.slice (Rect.unit (s := S294912x128) ![8 * r, 0] S8x128.size inb) (fun _ => rfl)).view.set = tile r := by
  rw [← slice_set r inb]
  exact View.set_slice_whole main_v0 _

theorem htile_view_set (r : ℕ) (inb : ∀ a, (![8 * r, 0] : Fin 2 → ℕ) a + S8x128.size a ≤ S4096x128.size a) :
    (hM.slice (Rect.unit (s := S4096x128) ![8 * r, 0] S8x128.size inb) (fun _ => rfl)).view.set = htile r := by
  rw [← hslice_set r inb]
  exact View.set_slice_whole cc0_scratch0 _

end Cert.KernelIdeal.Hand

end
-- ==== Proof.Steps.lean ====
/-
  Hand-written. The four operations the body's copy loops are made of — read a word of a table, assume what is stated
  of it, start the copy of one tile, wait for one tile — each as a step from "the loop's state" to "the loop's state",
  the offsets the program computes given by an equation.
-/
module

public import proofs.«01_k».proof.Proof.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch shareTokN shareDrop)

variable {F : FTy → Type} [FloatOps F]

/-- The proof's user algebra: the pipeline library's beside the transfers' counters. -/
local notation "𝕄" => MT nD τ sig Unit (Elt F) ℕ (Pipeline.UD sig nD τ) ℕ

variable (F) in
/-- The counters the transfers' batches are kept in. -/
abbrev EC : UEmb Counters 𝕄 := countersEmb (U := Pipeline.UD sig nD τ)

variable (c : Dev nD) (tp : S32768.Idx → BitVec 32) (tq : S4096.Idx → BitVec 32)

/-- The two tables, at half of the full share (the pipeline keeps the other half). -/
def Tabs : sProp 𝕄 :=
  iprop((posM.view.loc (c : Thread nD τ) ↦[Finset.univ]{fullShare.right} tp) ∗ (padM.view.loc (c : Thread nD τ) ↦[Finset.univ]{fullShare.right} tq))

/-- What one copy of a batch delivers: its destination tile, holding the final contents, and its source's share back. -/
def Deliv {ℓ : Loc nD τ sig} (OUT : S294912x128.Idx → Elt F .f32) (slot : ℕ → ℕ) (srcS : ℕ → Finset (Idx ℓ))
    (fs : Buf (Elt F) ℓ) (t : ℕ) : sProp 𝕄 :=
  iprop((xsM.view.loc (c : Thread nD τ) ↦[tile (row tp tq (slot t))]{fullShare} OUT) ∗ (ℓ ↦[srcS t]{shareTokN fullShare t} fs))

instance Deliv_storable {ℓ : Loc nD τ sig} (OUT : S294912x128.Idx → Elt F .f32) (slot : ℕ → ℕ) (srcS : ℕ → Finset (Idx ℓ))
    (fs : Buf (Elt F) ℓ) (t : ℕ) : BI.Storable (upEmb : UEmb _ 𝕄) (Deliv c tp tq OUT slot srcS fs t) := by
  unfold Deliv; infer_instance

/-- What is still held of the copies `n …` of a batch of `N`: their destinations, at the initial contents, and their
    sources' shares. -/
def Pend {ℓ : Loc nD τ sig} (V0 : S294912x128.Idx → Elt F .f32) (slot : ℕ → ℕ) (srcS : ℕ → Finset (Idx ℓ))
    (fs : Buf (Elt F) ℓ) (N n : ℕ) : sProp 𝕄 :=
  bigSep (Finset.Ico n N) fun t =>
    iprop((xsM.view.loc (c : Thread nD τ) ↦[tile (row tp tq (slot t))]{fullShare} V0) ∗ (ℓ ↦[srcS t]{shareTokN fullShare t} fs))

/-- A batch of `N` copies with `n` started and `w` waited for. -/
def Bat {ℓ : Loc nD τ sig} (sm : DmaSem sig) (OUT : S294912x128.Idx → Elt F .f32) (slot : ℕ → ℕ) (srcS : ℕ → Finset (Idx ℓ))
    (fs : Buf (Elt F) ℓ) (N n w : ℕ) : sProp 𝕄 :=
  Batch (EC F) (c : Thread nD τ) (.dma sm) () amt (fun t : Fin N => Deliv c tp tq OUT slot srcS fs t.val) n (w * amt)

/-- What the core owes: nothing, whatever it has waited on. -/
def Owe : sProp 𝕄 := iprop(∃ W', owes (c : Thread nD τ) (0 : CellTallies nD τ sig Unit) W')

/-- What it is for a piece of the body to run from here to `Q`. -/
abbrev Wp {α : Type} (p : Prog (TpuEff nD τ sig (Elt F) Λ₀ .tc) α) (Q : α → sProp 𝕄) : sProp 𝕄 :=
  wp frame (wpE (defs₀ (F := F)) Variants.none (c : Thread nD τ) none) Set.univ p Q

/-! ## Reading a word -/

theorem load_pos {α : Type} {Q : α → sProp 𝕄} {off : Fin 1 → ℕ} {inb} (p : ℕ) (hp : p < 32768) (ho : off = ![p])
    {k : Elt F .i32 → Prog (TpuEff nD τ sig (Elt F) Λ₀ .tc) α} {X : sProp 𝕄}
    (hk : iprop(Tabs (F := F) c tp tq ∗ X) ⊢ Wp c (k (word tp tq p)) Q) :
    iprop(Tabs (F := F) c tp tq ∗ X) ⊢ Wp c (smemLoad posM (Rect.unit (s := S32768) off S1.size inb) numel1_S1 rfl >>= k) Q := by
  subst ho
  show iprop(Tabs (F := F) c tp tq ∗ X) ⊢ Wp c (smemLoadElt posM (Rect.unit (s := S32768) ![p] S1.size inb) (View.loads_smem_one rfl numel1_S1) (Shape.Idx.first (numel1_S1 ▸ Nat.one_pos)) k) Q
  unfold Tabs
  iintro ⟨⟨HP, HQ⟩, HX⟩
  iapply (wp_smemLoadElt_named Variants.none (c : Thread nD τ) none Set.univ (S := Finset.univ)) $$ HP
  iintro HP %w %hw
  have e : w = word tp tq p := by
    rw [hw, word_pos p hp]
    exact congrArg tp (funext fun a => Fin.ext (by fin_cases a; rfl))
  subst e
  iapply hk
  unfold Tabs
  isplitl [HP HQ]
  · isplitl [HP] <;> iassumption
  · iexact HX

theorem load_pad {α : Type} {Q : α → sProp 𝕄} {off : Fin 1 → ℕ} {inb} (p : ℕ) (hp : p < 4096) (ho : off = ![p])
    {k : Elt F .i32 → Prog (TpuEff nD τ sig (Elt F) Λ₀ .tc) α} {X : sProp 𝕄}
    (hk : iprop(Tabs (F := F) c tp tq ∗ X) ⊢ Wp c (k (word tp tq (32768 + p))) Q) :
    iprop(Tabs (F := F) c tp tq ∗ X) ⊢ Wp c (smemLoad padM (Rect.unit (s := S4096) off S1.size inb) numel1_S1 rfl >>= k) Q := by
  subst ho
  show iprop(Tabs (F := F) c tp tq ∗ X) ⊢ Wp c (smemLoadElt padM (Rect.unit (s := S4096) ![p] S1.size inb) (View.loads_smem_one rfl numel1_S1) (Shape.Idx.first (numel1_S1 ▸ Nat.one_pos)) k) Q
  unfold Tabs
  iintro ⟨⟨HP, HQ⟩, HX⟩
  iapply (wp_smemLoadElt_named Variants.none (c : Thread nD τ) none Set.univ (S := Finset.univ)) $$ HQ
  iintro HQ %w %hw
  have e : w = word tp tq (32768 + p) := by
    rw [hw, word_pad p hp]
    exact congrArg tq (funext fun a => Fin.ext (by fin_cases a; rfl))
  subst e
  iapply hk
  unfold Tabs
  isplitl [HP HQ]
  · isplitl [HP] <;> iassumption
  · iexact HX

/-! ## Assuming what is stated of it -/

theorem step_assume {α : Type} {Q : α → sProp 𝕄} {P : Prop} {d : Decidable P} (h : P)
    {k : PLift P → Prog (TpuEff nD τ sig (Elt F) Λ₀ .tc) α} {X : sProp 𝕄}
    (hk : X ⊢ Wp c (k ⟨h⟩) Q) : X ⊢ Wp c (Prog.lift (TpuEff.assume P d) >>= k) Q :=
  hk.trans (wp_assume Variants.none (c : Thread nD τ) none Set.univ (k := k) h)

/-! ## Starting a copy -/

/-- On the tile slot `p` names, the final contents are the tile scratch's token `s`. -/
def LandsH (OUT : S294912x128.Idx → Elt F .f32) (fs : S4096x128.Idx → Elt F .f32) (p s : ℕ) : Prop :=
  ∀ (x : S294912x128.Idx) (x' : S4096x128.Idx), (x 0).val / 8 = row tp tq p → (x' 0).val = 8 * s + (x 0).val % 8 →
    (x' 1).val = (x 1).val → OUT x = fs x'

/-- On the tile slot `p` names, the final contents are the token of zeros. -/
def LandsZ (OUT : S294912x128.Idx → Elt F .f32) (fs : S8x128.Idx → Elt F .f32) (p : ℕ) : Prop :=
  ∀ (x : S294912x128.Idx) (x' : S8x128.Idx), (x 0).val / 8 = row tp tq p → OUT x = fs x'

theorem emb_unit_val {s : Shape} {off size : Fin s.rank → ℕ} {inb} (y : (Rect.unit (s := s) off size inb).shape.Idx) (a : Fin s.rank) :
    ((Rect.unit (s := s) off size inb).emb y a).val = off a + (y a).val := by
  rw [Rect.emb_apply]
  exact congrArg (off a + ·) (Nat.one_mul _)

/-- The copy of the tile scratch's token `s` to the tile slot `slot n` names, the batch's next copy. -/
theorem issue_h {α : Type} {Q : α → sProp 𝕄} {off : Fin 2 → ℕ} {inb} {off' : Fin 2 → ℕ} {inb'} {sm : DmaSem sig} {hs hd ht}
    (OUT V0 : S294912x128.Idx → Elt F .f32) (slot : ℕ → ℕ) (sl : ℕ → ℕ) (fs : S4096x128.Idx → Elt F .f32) (N n w : ℕ)
    (hn : n < N) (hw : w ≤ n) (s : ℕ) (hsl : sl n = s)
    (ho : off = ![8 * row tp tq (slot n), 0]) (ho' : off' = ![8 * s, 0])
    (hv : LandsH tp tq OUT fs (slot n) s)
    {k : PUnit → Prog (TpuEff nD τ sig (Elt F) Λ₀ .tc) α} {T X : sProp 𝕄}
    (hk : iprop(T ∗ Pend c tp tq (ℓ := hM.view.loc (c : Thread nD τ)) V0 slot (fun t => htile (sl t)) fs N (n + 1)
        ∗ Bat c tp tq sm (ℓ := hM.view.loc (c : Thread nD τ)) OUT slot (fun t => htile (sl t)) fs N (n + 1) w ∗ X) ⊢ Wp c (k ⟨⟩) Q) :
    iprop(T ∗ Pend c tp tq (ℓ := hM.view.loc (c : Thread nD τ)) V0 slot (fun t => htile (sl t)) fs N n
        ∗ Bat c tp tq sm (ℓ := hM.view.loc (c : Thread nD τ)) OUT slot (fun t => htile (sl t)) fs N n w ∗ X)
      ⊢ Wp c (Prog.lift (.enqueueDma (hM.slice (Rect.unit (s := S4096x128) off' S8x128.size inb') (fun _ => rfl))
          (.here (xsM.slice (Rect.unit (s := S294912x128) off S8x128.size inb) (fun _ => rfl))) (.dma sm) hs hd ht) >>= k) Q := by
  subst ho ho' hsl
  iintro ⟨HT, HP, HB, HX⟩
  ihave HP' := (show Pend c tp tq (ℓ := hM.view.loc (c : Thread nD τ)) V0 slot (fun t => htile (sl t)) fs N n
      ⊢ iprop(((xsM.view.loc (c : Thread nD τ) ↦[tile (row tp tq (slot n))]{fullShare} V0)
          ∗ (hM.view.loc (c : Thread nD τ) ↦[htile (sl n)]{shareTokN fullShare n} fs))
        ∗ Pend c tp tq (ℓ := hM.view.loc (c : Thread nD τ)) V0 slot (fun t => htile (sl t)) fs N (n + 1))
    from Entails.of_eq (by unfold Pend; rw [bigSep_Ico_succ_bot hn])) $$ HP
  icases HP' with ⟨⟨Hd, Hs⟩, HP⟩
  unfold Bat
  have hset := tile_view_set (row tp tq (slot n)) inb
  have hset' := htile_view_set (sl n) inb'
  iapply (Transfers.wp_dmaBatch (EC F) Variants.none (c : Thread nD τ) none (via := _)
    (src := hM.slice (Rect.unit (s := S4096x128) ![8 * sl n, 0] S8x128.size inb') (fun _ => rfl))
    (dst := xsM.slice (Rect.unit (s := S294912x128) ![8 * row tp tq (slot n), 0] S8x128.size inb) (fun _ => rfl))
    (sm := .dma sm) (q := shareTokN fullShare n) (fs := fs) (Sd := tile (row tp tq (slot n))) (fd := V0)
    (D := fun t : Fin N => Deliv c tp tq (ℓ := hM.view.loc (c : Thread nD τ)) OUT slot (fun t => htile (sl t)) fs t.val) (j := n) (u := w * amt)
    () amt (credit_tile _ _) hset.le hn (Nat.mul_le_mul_right _ hw) ?_) $$ [Hs Hd HB]
  · unfold Deliv
    rw [hset']
    refine sep_mono (Entails.of_eq (pointsTo_congr fun x hx => ?_)) .rfl
    rw [← hset] at hx
    obtain ⟨y, -, rfl⟩ := Finset.mem_map.mp hx
    rw [View.write_emb_of_mem _ _ (Finset.mem_univ _)]
    have e0 := emb_unit_val (s := S294912x128) (inb := inb) y 0
    have e1 := emb_unit_val (s := S294912x128) (inb := inb) y 1
    have hy : (y 0).val < 8 := (y 0).isLt
    change _ = 8 * row tp tq (slot n) + (y 0).val at e0
    change _ = 0 + (y 1).val at e1
    have e0' := emb_unit_val (s := S4096x128) (inb := inb') y 0
    have e1' := emb_unit_val (s := S4096x128) (inb := inb') y 1
    change _ = 8 * sl n + (y 0).val at e0'
    change _ = 0 + (y 1).val at e1'
    have := hv ((Rect.unit (s := S294912x128) ![8 * row tp tq (slot n), 0] S8x128.size inb).emb y)
      ((Rect.unit (s := S4096x128) ![8 * sl n, 0] S8x128.size inb').emb y) (by omega) (by omega) (by omega)
    exact this.symm
  · rw [hset']
    isplitl [Hs]; · iexact Hs
    isplitl [Hd]; · iexact Hd
    iexact HB
  · iintro HB
    iapply hk
    unfold Bat
    isplitl [HT]; · iexact HT
    isplitl [HP]; · iexact HP
    isplitl [HB]; · iexact HB
    iexact HX

/-- The copy of the token of zeros to the tile slot `slot n` names, the batch's next copy. -/
theorem issue_z {α : Type} {Q : α → sProp 𝕄} {off : Fin 2 → ℕ} {inb} {sm : DmaSem sig} {hs hd ht}
    (OUT V0 : S294912x128.Idx → Elt F .f32) (slot : ℕ → ℕ) (fs : S8x128.Idx → Elt F .f32) (N n w : ℕ)
    (hn : n < N) (hw : w ≤ n)
    (ho : off = ![8 * row tp tq (slot n), 0])
    (hv : LandsZ tp tq OUT fs (slot n))
    {k : PUnit → Prog (TpuEff nD τ sig (Elt F) Λ₀ .tc) α} {T X : sProp 𝕄}
    (hk : iprop(T ∗ Pend c tp tq (ℓ := zM.view.loc (c : Thread nD τ)) V0 slot (fun _ => Finset.univ) fs N (n + 1)
        ∗ Bat c tp tq sm (ℓ := zM.view.loc (c : Thread nD τ)) OUT slot (fun _ => Finset.univ) fs N (n + 1) w ∗ X) ⊢ Wp c (k ⟨⟩) Q) :
    iprop(T ∗ Pend c tp tq (ℓ := zM.view.loc (c : Thread nD τ)) V0 slot (fun _ => Finset.univ) fs N n
        ∗ Bat c tp tq sm (ℓ := zM.view.loc (c : Thread nD τ)) OUT slot (fun _ => Finset.univ) fs N n w ∗ X)
      ⊢ Wp c (Prog.lift (.enqueueDma zM
          (.here (xsM.slice (Rect.unit (s := S294912x128) off S8x128.size inb) (fun _ => rfl))) (.dma sm) hs hd ht) >>= k) Q := by
  subst ho
  iintro ⟨HT, HP, HB, HX⟩
  ihave HP' := (show Pend c tp tq (ℓ := zM.view.loc (c : Thread nD τ)) V0 slot (fun _ => Finset.univ) fs N n
      ⊢ iprop(((xsM.view.loc (c : Thread nD τ) ↦[tile (row tp tq (slot n))]{fullShare} V0)
          ∗ (zM.view.loc (c : Thread nD τ) ↦[Finset.univ]{shareTokN fullShare n} fs))
        ∗ Pend c tp tq (ℓ := zM.view.loc (c : Thread nD τ)) V0 slot (fun _ => Finset.univ) fs N (n + 1))
    from Entails.of_eq (by unfold Pend; rw [bigSep_Ico_succ_bot hn])) $$ HP
  icases HP' with ⟨⟨Hd, Hs⟩, HP⟩
  unfold Bat
  have hset := tile_view_set (row tp tq (slot n)) inb
  have hset' : zM.view.set = Finset.univ := View.set_whole cc0_scratch1
  iapply (Transfers.wp_dmaBatch (EC F) Variants.none (c : Thread nD τ) none (via := _)
    (src := zM)
    (dst := xsM.slice (Rect.unit (s := S294912x128) ![8 * row tp tq (slot n), 0] S8x128.size inb) (fun _ => rfl))
    (sm := .dma sm) (q := shareTokN fullShare n) (fs := fs) (Sd := tile (row tp tq (slot n))) (fd := V0)
    (D := fun t : Fin N => Deliv c tp tq (ℓ := zM.view.loc (c : Thread nD τ)) OUT slot (fun _ => Finset.univ) fs t.val) (j := n) (u := w * amt)
    () amt (credit_tile _ _) hset.le hn (Nat.mul_le_mul_right _ hw) ?_) $$ [Hs Hd HB]
  · unfold Deliv
    rw [hset']
    refine sep_mono (Entails.of_eq (pointsTo_congr fun x hx => ?_)) .rfl
    rw [← hset] at hx
    obtain ⟨y, -, rfl⟩ := Finset.mem_map.mp hx
    rw [View.write_emb_of_mem _ _ (Finset.mem_univ _)]
    have e0 := emb_unit_val (s := S294912x128) (inb := inb) y 0
    have e1 := emb_unit_val (s := S294912x128) (inb := inb) y 1
    have hy : (y 0).val < 8 := (y 0).isLt
    change _ = 8 * row tp tq (slot n) + (y 0).val at e0
    change _ = 0 + (y 1).val at e1
    have := hv ((Rect.unit (s := S294912x128) ![8 * row tp tq (slot n), 0] S8x128.size inb).emb y) y (by omega)
    exact this.symm
  · rw [hset']
    isplitl [Hs]; · iexact Hs
    isplitl [Hd]; · iexact Hd
    iexact HB
  · iintro HB
    iapply hk
    unfold Bat
    isplitl [HT]; · iexact HT
    isplitl [HP]; · iexact HP
    isplitl [HB]; · iexact HB
    iexact HX

/-! ## Waiting for a copy -/

/-- A wait for one tile, of a batch whose `N` copies have all been started. -/
theorem wait_tile {α : Type} {Q : α → sProp 𝕄} {off : Fin 2 → ℕ} {inb} {sm : DmaSem sig} {sp' : Space} {s' : Shape} {e' : EltTy}
    {srcw : Memref sig .tc sp' s' e'} {hs hd} {ℓ : Loc nD τ sig}
    (OUT : S294912x128.Idx → Elt F .f32) (slot : ℕ → ℕ) (srcS : ℕ → Finset (Idx ℓ)) (fs : Buf (Elt F) ℓ) (N w : ℕ) (hw : w < N)
    {k : PUnit → Prog (TpuEff nD τ sig (Elt F) Λ₀ .tc) α} {T X : sProp 𝕄}
    (hk : iprop(T ∗ Bat c tp tq sm OUT slot srcS fs N N (w + 1) ∗ Owe (F := F) c ∗ X) ⊢ Wp c (k ⟨⟩) Q) :
    iprop(T ∗ Bat c tp tq sm OUT slot srcS fs N N w ∗ Owe (F := F) c ∗ X)
      ⊢ Wp c (Prog.lift (.waitDma2 sm srcw (xsM.slice (Rect.unit (s := S294912x128) off S8x128.size inb) (fun _ => rfl)) hs hd) >>= k) Q := by
  unfold Owe
  iintro ⟨HT, HB, ⟨%W, HO⟩, HX⟩
  unfold Bat
  iapply (Transfers.wp_waitBatchMul (EC F) Variants.none (c : Thread nD τ) none (sem := sm) (srcw := srcw)
    (dstw := xsM.slice (Rect.unit (s := S294912x128) off S8x128.size inb) (fun _ => rfl)) (j := N) (u := w * amt) (W := W)
    (D := fun t : Fin N => Deliv c tp tq OUT slot srcS fs t.val)
    () (N := amt) 1 ((credit_tile _ _).trans (Nat.one_mul _).symm) (by rw [Nat.one_mul, ← Nat.succ_mul, Nat.mul_comm]; exact Nat.mul_le_mul_left _ hw)) $$ [HB HO]
  · isplitl [HB]; · iexact HB
    iexact HO
  iintro ⟨HB, HO⟩
  iapply hk
  unfold Bat Owe
  isplitl [HT]; · iexact HT
  isplitl [HB]
  · rw [Nat.one_mul, ← Nat.succ_mul]; iexact HB
  isplitl [HO]
  · iexists _; iexact HO
  iexact HX

end Cert.KernelIdeal.Hand

end
-- ==== Proof.Compute.lean ====
/-
  Hand-written. The first part of the body: the loads of a block's rows and of the vectors they are normalised and
  modulated with, and the eight strided stores that leave the block in the tile scratch, token by token.
-/
module

public import proofs.«01_k».proof.Proof.Steps
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Number `a` of the block's row `r`. -/
abbrev ixB (r a : ℕ) (hr : r < 512) (ha : a < 1024) : S512x1024.Idx := fun k => ⟨(![r, a] : Fin 2 → ℕ) k, by fin_cases k; exacts [hr, ha]⟩

/-- A block laid out as the tile scratch holds it: row `8 t + u` is the token `t`'s numbers `128 u …`. -/
def Hbuf (v : FVec F S512x1024 .f32) : S4096x128.Idx → Elt F .f32 := fun x =>
  v (ixB ((x 0).val / 8) (128 * ((x 0).val % 8) + (x 1).val) (by have h0 : (x 0).val < 4096 := (x 0).isLt; omega)
    (by have h1 : (x 1).val < 128 := (x 1).isLt; omega))

/-- The first `k` of every token's eight rows hold the block. -/
def Stored (v : FVec F S512x1024 .f32) (k : ℕ) (f : S4096x128.Idx → Elt F .f32) : Prop :=
  ∀ x, (x 0).val % 8 < k → f x = Hbuf v x

/-- The tile scratch with the first `k` rows of every token stored. -/
def Scr (c : Dev nD) (v : FVec F S512x1024 .f32) (k : ℕ) : sProp 𝕄 :=
  iprop(∃ f, ⌜Stored v k f⌝ ∗ (hM.view.loc (c : Thread nD τ) ↦[Finset.univ]{fullShare} f))

/-- The scratch once all eight are stored: its contents are the block's. -/
theorem Scr_full (c : Dev nD) (v : FVec F S512x1024 .f32) :
    Scr c v 8 ⊢ (hM.view.loc (c : Thread nD τ) ↦[Finset.univ]{fullShare} (Hbuf v) : sProp 𝕄) := by
  unfold Scr
  iintro ⟨%f, %hf, H⟩
  rw [show f = Hbuf v from funext fun x => hf x (Nat.mod_lt _ (by decide))]
  iexact H

theorem Scr_start (c : Dev nD) (v : FVec F S512x1024 .f32) (f : S4096x128.Idx → Elt F .f32) :
    (hM.view.loc (c : Thread nD τ) ↦[Finset.univ]{fullShare} f : sProp 𝕄) ⊢ Scr c v 0 := by
  unfold Scr
  iintro H
  iexists f
  isplitr
  · ipureintro; exact fun x h => absurd h (Nat.not_lt_zero _)
  · iexact H

variable (c : Dev nD)

/-- A load of a part of a window. -/
theorem load_win {α : Type} {Q : α → sProp 𝕄} {s : Shape} {m : Memref sig .tc .vmem s .f32} {r : Rect s} {hl} (q : PosShare TreeShare)
    (X : s.Idx → Elt F .f32)
    {k : (r.shape.Idx → Elt F .f32) → Prog (TpuEff nD τ sig (Elt F) Λ₀ .tc) α} {R : sProp 𝕄}
    (hk : iprop(owns (c : Thread nD τ) m q X ∗ R) ⊢ Wp c (k (fun y => X (r.emb y))) Q) :
    iprop(owns (c : Thread nD τ) m q X ∗ R) ⊢ Wp c (Prog.lift (.load m r.toLoadRect hl) >>= k) Q := by
  unfold owns at hk ⊢
  iintro ⟨⟨%f, %hf, HM⟩, HR⟩
  iapply (wp_load_rect Variants.none (c : Thread nD τ) none Set.univ (m := m) (r := r) (View.set_slice_subset _ _)) $$ HM
  iintro HM
  subst hf
  iapply hk
  isplitl [HM]
  · iexists f
    isplitr
    · ipureintro; rfl
    · iexact HM
  · iexact HR

/-- A load of the tile scratch whose value is not used. -/
theorem load_h {α : Type} {Q : α → sProp 𝕄} (v : FVec F S512x1024 .f32) (j : ℕ) {r : LoadRect S4096x128} {hl}
    {k : (r.shape.Idx → Elt F .f32) → Prog (TpuEff nD τ sig (Elt F) Λ₀ .tc) α} {R : sProp 𝕄}
    (hk : ∀ w, iprop(Scr c v j ∗ R) ⊢ Wp c (k w) Q) :
    iprop(Scr c v j ∗ R) ⊢ Wp c (Prog.lift (.load hM r hl) >>= k) Q := by
  unfold Scr at hk ⊢
  iintro ⟨⟨%f, %hf, HM⟩, HR⟩
  iapply (wp_load Variants.none (c : Thread nD τ) none Set.univ (m := hM) (r := r) (Finset.subset_univ _)) $$ HM
  iintro HM
  iapply (hk _)
  isplitl [HM]
  · iexists f
    isplitr
    · ipureintro; exact hf
    · iexact HM
  · iexact HR

/-- The store of the block's columns `128 j …` to every token's row `j`. -/
theorem store_h {α : Type} {Q : α → sProp 𝕄} (v : FVec F S512x1024 .f32) (j : ℕ) (hj : j < 8) {off : Fin 2 → ℕ} {inb} {pos} {hx hm}
    (ho : off = ![j, 0]) (w : S512x128.Idx → Elt F .f32)
    (hw : ∀ y : S512x128.Idx, w y = v (ixB (y 0).val (128 * j + (y 1).val) (y 0).isLt
      (by have h1 : (y 1).val < 128 := (y 1).isLt; omega)))
    {k : PUnit → Prog (TpuEff nD τ sig (Elt F) Λ₀ .tc) α} {R : sProp 𝕄}
    (hk : iprop(Scr c v (j + 1) ∗ R) ⊢ Wp c (k ⟨⟩) Q) :
    iprop(Scr c v j ∗ R) ⊢ Wp c (Prog.lift (.store hM (⟨(⟨off, S512x128.size, ![8, 1], inb⟩ : LoadRect S4096x128), pos⟩ : Rect S4096x128)
      w Finset.univ hx hm) >>= k) Q := by
  subst ho
  unfold Scr at hk ⊢
  iintro ⟨⟨%f, %hf, HM⟩, HR⟩
  iapply (wp_store Variants.none (c : Thread nD τ) none Set.univ (m := hM)
    (r := (⟨(⟨![j, 0], S512x128.size, ![8, 1], inb⟩ : LoadRect S4096x128), pos⟩ : Rect S4096x128)) (Mk := Finset.univ) (Finset.subset_univ _)) $$ HM
  iintro HM
  iapply hk
  isplitl [HM]
  · iexists _
    isplitr
    swap
    · iexact HM
    · ipureintro
      intro x hx'
      have h0 : (x 0).val < 4096 := (x 0).isLt
      have h1 : (x 1).val < 128 := (x 1).isLt
      by_cases e : (x 0).val % 8 = j
      · let y : S512x128.Idx := fun a => ⟨(![(x 0).val / 8, (x 1).val] : Fin 2 → ℕ) a, by fin_cases a; exacts [(by show _ / 8 < 512; omega), h1]⟩
        have ey : (⟨(⟨![j, 0], S512x128.size, ![8, 1], inb⟩ : LoadRect S4096x128), pos⟩ : Rect S4096x128).emb y = x := by
          funext a
          apply Fin.ext
          rw [Rect.emb_apply]
          fin_cases a
          · show j + 8 * ((x 0).val / 8) = (x 0).val
            omega
          · show 0 + 1 * (x 1).val = (x 1).val
            omega
        have := View.write_emb_of_mem (v := (hM.access (⟨(⟨![j, 0], S512x128.size, ![8, 1], inb⟩ : LoadRect S4096x128), pos⟩ : Rect S4096x128)))
          (Val := Elt F) f w (M := Finset.univ) (Finset.mem_univ y)
        rw [show (hM.access (⟨(⟨![j, 0], S512x128.size, ![8, 1], inb⟩ : LoadRect S4096x128), pos⟩ : Rect S4096x128)).emb y = x from ey] at this
        refine this.trans ?_
        show w y = _
        rw [hw y]
        unfold Hbuf
        refine congrArg v (funext fun a => Fin.ext ?_)
        fin_cases a
        · rfl
        · show 128 * j + (x 1).val = 128 * ((x 0).val % 8) + (x 1).val
          rw [e]
      · refine Eq.trans (View.write_of_not_mem _ _ _ ?_) (hf x (by omega))
        intro hmem
        obtain ⟨y, -, ey⟩ := Finset.mem_map.mp hmem
        have e0 : ((⟨(⟨![j, 0], S512x128.size, ![8, 1], inb⟩ : LoadRect S4096x128), pos⟩ : Rect S4096x128).emb y 0).val = j + 8 * (y 0).val :=
          Rect.emb_apply _ y 0
        have : (x 0).val = j + 8 * (y 0).val := by rw [← e0]; exact congrArg (fun z : S4096x128.Idx => (z 0).val) ey.symm
        omega
  · iexact HR

/-! ## What the eight stores write -/

theorem slice_cols (v : FVec F S512x1024 .f32) (j : ℕ) (hj : j < 8) {off : Fin 2 → ℕ} (ho : off = ![0, 128 * j]) (h) (y : S512x128.Idx) :
    extractStridedSlice S512x128 off v h y = v (ixB (y 0).val (128 * j + (y 1).val) (y 0).isLt
      (by have h1 : (y 1).val < 128 := (y 1).isLt; omega)) := by
  subst ho
  refine extractStridedSlice_apply _ _ _ _ _ fun a => ?_
  fin_cases a
  · show (y 0).val = 0 + (y 0).val
    omega
  · rfl

/-- What the body's loads and arithmetic make of a block: `k0_pay2` of the windows' contents. -/
def blockV (i : grid0.Coords) (X : S512x1024.Idx → Elt F .f32) (M : S8x6144.Idx → Elt F .f32) (G : S1x1024.Idx → Elt F .f32) :
    FVec F S512x1024 .f32 :=
  k0_pay2 (fun y => M ((Rect.unit (s := S8x6144) (k0_off1 i) S1x1024.size (k0_off1_inb i)).emb y))
    (fun y => M ((Rect.unit (s := S8x6144) (k0_off2 i) S1x1024.size (k0_off2_inb i)).emb y))
    (fun y => X ((Rect.unit (s := S512x1024) ![0, 0] S512x1024.size inb_S512x1024_S512x1024_0_0).emb y))
    (fun y => G ((Rect.unit (s := S1x1024) ![0, 0] S1x1024.size inb_S1x1024_S1x1024_0_0).emb y))

/-- The windows a grid point reads. -/
def Wins (win0 : Memref sig .tc .vmem S512x1024 .f32) (win1 : Memref sig .tc .vmem S8x6144 .f32) (win2 : Memref sig .tc .vmem S1x1024 .f32)
    (X : S512x1024.Idx → Elt F .f32) (M : S8x6144.Idx → Elt F .f32) (G : S1x1024.Idx → Elt F .f32) : sProp 𝕄 :=
  iprop(owns (c : Thread nD τ) win0 fullShare X ∗ owns (c : Thread nD τ) win1 fullShare M ∗ owns (c : Thread nD τ) win2 fullShare G)

/-- The loads: the windows stay, the program goes on at what `blockV` names. -/
theorem part31 {α : Type} {Q : α → sProp 𝕄} (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole) (i : grid0.Coords)
    (X : S512x1024.Idx → Elt F .f32) (M : S8x6144.Idx → Elt F .f32) (G : S1x1024.Idx → Elt F .f32) {R : sProp 𝕄}
    {k : (Σ' (arg0 : BitVec 32) (v40 : FVec F S512x1024 .f32), FVec F S512x128 .f32) → Prog (TpuEff nD τ sig (Elt F) Λ₀ .tc) α}
    (hk : iprop(Wins c win0 win1 win2 X M G ∗ R)
      ⊢ Wp c (k ⟨BitVec.ofNat 32 (i 0).val, blockV i X M G, extractStridedSlice S512x128 ![0, 0] (blockV i X M G) slices_S512x1024_o0_0_S512x128⟩) Q) :
    iprop(Wins c win0 win1 win2 X M G ∗ R)
      ⊢ Wp c (k0_part31 i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 >>= k) Q := by
  rw [k0_part31_eq_skeleton]
  unfold k0_part31_skel Wins
  simp only [Prog.bind_assoc, Prog.pure_eq_ret, Prog.bind_ret]
  iintro ⟨⟨H0, H1, H2⟩, HR⟩
  iapply (load_win c fullShare M (R := iprop(owns (c : Thread nD τ) win0 fullShare X ∗ owns (c : Thread nD τ) win2 fullShare G ∗ R)) ?_) $$ [H0 H1 H2 HR]
  swap
  · isplitl [H1]; · iexact H1
    isplitl [H0]; · iexact H0
    isplitl [H2]; · iexact H2
    iexact HR
  refine load_win c fullShare M ?_
  iintro ⟨H1, H0, H2, HR⟩
  iapply (load_win c fullShare X (R := iprop(owns (c : Thread nD τ) win1 fullShare M ∗ owns (c : Thread nD τ) win2 fullShare G ∗ R)) ?_) $$ [H0 H1 H2 HR]
  swap
  · isplitl [H0]; · iexact H0
    isplitl [H1]; · iexact H1
    isplitl [H2]; · iexact H2
    iexact HR
  iintro ⟨H0, H1, H2, HR⟩
  iapply (load_win c fullShare G (R := iprop(owns (c : Thread nD τ) win0 fullShare X ∗ owns (c : Thread nD τ) win1 fullShare M ∗ R)) ?_) $$ [H0 H1 H2 HR]
  swap
  · isplitl [H2]; · iexact H2
    isplitl [H0]; · iexact H0
    isplitl [H1]; · iexact H1
    iexact HR
  iintro ⟨H2, H0, H1, HR⟩
  iapply hk
  unfold Wins
  isplitl [H0 H1 H2]
  · isplitl [H0]; · iexact H0
    isplitl [H1]; · iexact H1
    iexact H2
  iexact HR

/-- The stores: the tile scratch ends with the block laid out in it. -/
theorem part32 {α : Type} {Q : α → sProp 𝕄} (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole) (i : grid0.Coords) (a0 : BitVec 32)
    (v : FVec F S512x1024 .f32) {R : sProp 𝕄}
    {k : PUnit → Prog (TpuEff nD τ sig (Elt F) Λ₀ .tc) α}
    (hk : iprop(Scr c v 8 ∗ R) ⊢ Wp c (k ⟨⟩) Q) :
    iprop(Scr c v 0 ∗ R)
      ⊢ Wp c (k0_part32 i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 a0 v
          (extractStridedSlice S512x128 ![0, 0] v slices_S512x1024_o0_0_S512x128) >>= k) Q := by
  rw [k0_part32_eq_skeleton]
  unfold k0_part32_skel
  simp only [Prog.bind_assoc, Prog.pure_eq_ret, Prog.bind_ret]
  refine load_h c v 0 fun _ => ?_
  refine store_h c v 0 (by decide) rfl _ (fun y => ?_) ?_
  · unfold k0_pay4
    exact (congrFun (shapeCast_self _ _) y).trans (slice_cols v 0 (by decide) rfl _ y)
  refine load_h c v 1 fun _ => ?_
  refine store_h c v 1 (by decide) rfl _ (fun y => ?_) ?_
  · unfold k0_pay5
    exact (congrFun (shapeCast_self _ _) y).trans (slice_cols v 1 (by decide) rfl _ y)
  refine load_h c v 2 fun _ => ?_
  refine store_h c v 2 (by decide) rfl _ (fun y => ?_) ?_
  · unfold k0_pay6
    exact (congrFun (shapeCast_self _ _) y).trans (slice_cols v 2 (by decide) rfl _ y)
  refine load_h c v 3 fun _ => ?_
  refine store_h c v 3 (by decide) rfl _ (fun y => ?_) ?_
  · unfold k0_pay7
    exact (congrFun (shapeCast_self _ _) y).trans (slice_cols v 3 (by decide) rfl _ y)
  refine load_h c v 4 fun _ => ?_
  refine store_h c v 4 (by decide) rfl _ (fun y => ?_) ?_
  · unfold k0_pay8
    exact (congrFun (shapeCast_self _ _) y).trans (slice_cols v 4 (by decide) rfl _ y)
  refine load_h c v 5 fun _ => ?_
  refine store_h c v 5 (by decide) rfl _ (fun y => ?_) ?_
  · unfold k0_pay9
    exact (congrFun (shapeCast_self _ _) y).trans (slice_cols v 5 (by decide) rfl _ y)
  refine load_h c v 6 fun _ => ?_
  refine store_h c v 6 (by decide) rfl _ (fun y => ?_) ?_
  · unfold k0_pay10
    exact (congrFun (shapeCast_self _ _) y).trans (slice_cols v 6 (by decide) rfl _ y)
  refine load_h c v 7 fun _ => ?_
  refine store_h c v 7 (by decide) rfl _ (fun y => ?_) ?_
  · unfold k0_pay11
    exact (congrFun (shapeCast_self _ _) y).trans (slice_cols v 7 (by decide) rfl _ y)
  exact hk

end Cert.KernelIdeal.Hand

end
-- ==== Proof.TripsA.lean ====
/-
  Hand-written. One trip of each of the two loops that start a block's copies: sixteen words read, checked, and the copy
  of a token to each started.
-/
module

public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (tq : S4096.Idx → BitVec 32)

theorem trip2 (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (w : BitVec 32)
    (OUT V0 : S294912x128.Idx → Elt F .f32) (fs : S4096x128.Idx → Elt F .f32)
    (hv : ∀ n, n < 1024 → LandsH tp tq OUT fs (slot (i 0).val n) (tok n)) (t : Fin k0_t2_loop.trips) (u : Unit) (X : sProp 𝕄) :
    iprop(Tabs (F := F) c tp tq ∗ Pend c tp tq (ℓ := hM.view.loc (c : Thread nD τ)) V0 (slot (i 0).val) (fun t => htile (tok t)) fs 1024 (16 * t.val)
        ∗ Bat c tp tq (cc0_scratch2.sem) (ℓ := hM.view.loc (c : Thread nD τ)) OUT (slot (i 0).val) (fun t => htile (tok t)) fs 1024 (16 * t.val) 0 ∗ X)
      ⊢ Wp c (k0_t2_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w t u)
        (fun _ => iprop(Tabs (F := F) c tp tq ∗ Pend c tp tq (ℓ := hM.view.loc (c : Thread nD τ)) V0 (slot (i 0).val) (fun t => htile (tok t)) fs 1024 (16 * t.val + 16)
        ∗ Bat c tp tq (cc0_scratch2.sem) (ℓ := hM.view.loc (c : Thread nD τ)) OUT (slot (i 0).val) (fun t => htile (tok t)) fs 1024 (16 * t.val + 16) 0 ∗ X)) := by
  have ht : t.val < 32 := t.isLt
  have hi : (i 0).val < 32 := (i 0).isLt
  unfold k0_t2_body
  simp only [k0_part4_eq_skeleton, k0_part5_eq_skeleton, k0_part6_eq_skeleton, k0_part7_eq_skeleton, k0_part8_eq_skeleton, k0_part9_eq_skeleton,
    k0_part4_skel, k0_part5_skel, k0_part6_skel, k0_part7_skel, k0_part8_skel, k0_part9_skel,
    Prog.bind_assoc, Prog.pure_eq_ret, Prog.bind_ret]
  refine load_pos c tp tq (slot (i 0).val (16 * t.val + 0)) (slot_lt hi (by omega)) (off_slot0 (i 0).val hi t.val ht 0 (by omega)) ?_
  refine step_assume c (chk_tile (hin _ (by have := slot_lt (n := 16 * t.val + 0) hi (by omega); omega))) ?_
  refine issue_h c tp tq OUT V0 (slot (i 0).val) tok fs 1024 (16 * t.val + 0) 0 (by omega) (by omega) (tok (16 * t.val + 0)) rfl
    (off_tile (hin _ (by have := slot_lt (n := 16 * t.val + 0) hi (by omega); omega))) (off_tok0 t.val ht 0 (by omega)) (hv _ (by omega)) ?_
  refine load_pos c tp tq (slot (i 0).val (16 * t.val + 1)) (slot_lt hi (by omega)) (off_slot0 (i 0).val hi t.val ht 1 (by omega)) ?_
  refine step_assume c (chk_tile (hin _ (by have := slot_lt (n := 16 * t.val + 1) hi (by omega); omega))) ?_
  refine issue_h c tp tq OUT V0 (slot (i 0).val) tok fs 1024 (16 * t.val + 1) 0 (by omega) (by omega) (tok (16 * t.val + 1)) rfl
    (off_tile (hin _ (by have := slot_lt (n := 16 * t.val + 1) hi (by omega); omega))) (off_tok0 t.val ht 1 (by omega)) (hv _ (by omega)) ?_
  refine load_pos c tp tq (slot (i 0).val (16 * t.val + 2)) (slot_lt hi (by omega)) (off_slot0 (i 0).val hi t.val ht 2 (by omega)) ?_
  refine step_assume c (chk_tile (hin _ (by have := slot_lt (n := 16 * t.val + 2) hi (by omega); omega))) ?_
  refine issue_h c tp tq OUT V0 (slot (i 0).val) tok fs 1024 (16 * t.val + 2) 0 (by omega) (by omega) (tok (16 * t.val + 2)) rfl
    (off_tile (hin _ (by have := slot_lt (n := 16 * t.val + 2) hi (by omega); omega))) (off_tok0 t.val ht 2 (by omega)) (hv _ (by omega)) ?_
  refine load_pos c tp tq (slot (i 0).val (16 * t.val + 3)) (slot_lt hi (by omega)) (off_slot0 (i 0).val hi t.val ht 3 (by omega)) ?_
  refine step_assume c (chk_tile (hin _ (by have := slot_lt (n := 16 * t.val + 3) hi (by omega); omega))) ?_
  refine issue_h c tp tq OUT V0 (slot (i 0).val) tok fs 1024 (16 * t.val + 3) 0 (by omega) (by omega) (tok (16 * t.val + 3)) rfl
    (off_tile (hin _ (by have := slot_lt (n := 16 * t.val + 3) hi (by omega); omega))) (off_tok0 t.val ht 3 (by omega)) (hv _ (by omega)) ?_
  refine load_pos c tp tq (slot (i 0).val (16 * t.val + 4)) (slot_lt hi (by omega)) (off_slot0 (i 0).val hi t.val ht 4 (by omega)) ?_
  refine step_assume c (chk_tile (hin _ (by have := slot_lt (n := 16 * t.val + 4) hi (by omega); omega))) ?_
  refine issue_h c tp tq OUT V0 (slot (i 0).val) tok fs 1024 (16 * t.val + 4) 0 (by omega) (by omega) (tok (16 * t.val + 4)) rfl
    (off_tile (hin _ (by have := slot_lt (n := 16 * t.val + 4) hi (by omega); omega))) (off_tok0 t.val ht 4 (by omega)) (hv _ (by omega)) ?_
  refine load_pos c tp tq (slot (i 0).val (16 * t.val + 5)) (slot_lt hi (by omega)) (off_slot0 (i 0).val hi t.val ht 5 (by omega)) ?_
  refine step_assume c (chk_tile (hin _ (by have := slot_lt (n := 16 * t.val + 5) hi (by omega); omega))) ?_
  refine issue_h c tp tq OUT V0 (slot (i 0).val) tok fs 1024 (16 * t.val + 5) 0 (by omega) (by omega) (tok (16 * t.val + 5)) rfl
    (off_tile (hin _ (by have := slot_lt (n := 16 * t.val + 5) hi (by omega); omega))) (off_tok0 t.val ht 5 (by omega)) (hv _ (by omega)) ?_
  refine load_pos c tp tq (slot (i 0).val (16 * t.val + 6)) (slot_lt hi (by omega)) (off_slot0 (i 0).val hi t.val ht 6 (by omega)) ?_
  refine step_assume c (chk_tile (hin _ (by have := slot_lt (n := 16 * t.val + 6) hi (by omega); omega))) ?_
  refine issue_h c tp tq OUT V0 (slot (i 0).val) tok fs 1024 (16 * t.val + 6) 0 (by omega) (by omega) (tok (16 * t.val + 6)) rfl
    (off_tile (hin _ (by have := slot_lt (n := 16 * t.val + 6) hi (by omega); omega))) (off_tok0 t.val ht 6 (by omega)) (hv _ (by omega)) ?_
  refine load_pos c tp tq (slot (i 0).val (16 * t.val + 7)) (slot_lt hi (by omega)) (off_slot0 (i 0).val hi t.val ht 7 (by omega)) ?_
  refine step_assume c (chk_tile (hin _ (by have := slot_lt (n := 16 * t.val + 7) hi (by omega); omega))) ?_
  refine issue_h c tp tq OUT V0 (slot (i 0).val) tok fs 1024 (16 * t.val + 7) 0 (by omega) (by omega) (tok (16 * t.val + 7)) rfl
    (off_tile (hin _ (by have := slot_lt (n := 16 * t.val + 7) hi (by omega); omega))) (off_tok0 t.val ht 7 (by omega)) (hv _ (by omega)) ?_
  refine load_pos c tp tq (slot (i 0).val (16 * t.val + 8)) (slot_lt hi (by omega)) (off_slot0 (i 0).val hi t.val ht 8 (by omega)) ?_
  refine step_assume c (chk_tile (hin _ (by have := slot_lt (n := 16 * t.val + 8) hi (by omega); omega))) ?_
  refine issue_h c tp tq OUT V0 (slot (i 0).val) tok fs 1024 (16 * t.val + 8) 0 (by omega) (by omega) (tok (16 * t.val + 8)) rfl
    (off_tile (hin _ (by have := slot_lt (n := 16 * t.val + 8) hi (by omega); omega))) (off_tok0 t.val ht 8 (by omega)) (hv _ (by omega)) ?_
  refine load_pos c tp tq (slot (i 0).val (16 * t.val + 9)) (slot_lt hi (by omega)) (off_slot0 (i 0).val hi t.val ht 9 (by omega)) ?_
  refine step_assume c (chk_tile (hin _ (by have := slot_lt (n := 16 * t.val + 9) hi (by omega); omega))) ?_
  refine issue_h c tp tq OUT V0 (slot (i 0).val) tok fs 1024 (16 * t.val + 9) 0 (by omega) (by omega) (tok (16 * t.val + 9)) rfl
    (off_tile (hin _ (by have := slot_lt (n := 16 * t.val + 9) hi (by omega); omega))) (off_tok0 t.val ht 9 (by omega)) (hv _ (by omega)) ?_
  refine load_pos c tp tq (slot (i 0).val (16 * t.val + 10)) (slot_lt hi (by omega)) (off_slot0 (i 0).val hi t.val ht 10 (by omega)) ?_
  refine step_assume c (chk_tile (hin _ (by have := slot_lt (n := 16 * t.val + 10) hi (by omega); omega))) ?_
  refine issue_h c tp tq OUT V0 (slot (i 0).val) tok fs 1024 (16 * t.val + 10) 0 (by omega) (by omega) (tok (16 * t.val + 10)) rfl
    (off_tile (hin _ (by have := slot_lt (n := 16 * t.val + 10) hi (by omega); omega))) (off_tok0 t.val ht 10 (by omega)) (hv _ (by omega)) ?_
  refine load_pos c tp tq (slot (i 0).val (16 * t.val + 11)) (slot_lt hi (by omega)) (off_slot0 (i 0).val hi t.val ht 11 (by omega)) ?_
  refine step_assume c (chk_tile (hin _ (by have := slot_lt (n := 16 * t.val + 11) hi (by omega); omega))) ?_
  refine issue_h c tp tq OUT V0 (slot (i 0).val) tok fs 1024 (16 * t.val + 11) 0 (by omega) (by omega) (tok (16 * t.val + 11)) rfl
    (off_tile (hin _ (by have := slot_lt (n := 16 * t.val + 11) hi (by omega); omega))) (off_tok0 t.val ht 11 (by omega)) (hv _ (by omega)) ?_
  refine load_pos c tp tq (slot (i 0).val (16 * t.val + 12)) (slot_lt hi (by omega)) (off_slot0 (i 0).val hi t.val ht 12 (by omega)) ?_
  refine step_assume c (chk_tile (hin _ (by have := slot_lt (n := 16 * t.val + 12) hi (by omega); omega))) ?_
  refine issue_h c tp tq OUT V0 (slot (i 0).val) tok fs 1024 (16 * t.val + 12) 0 (by omega) (by omega) (tok (16 * t.val + 12)) rfl
    (off_tile (hin _ (by have := slot_lt (n := 16 * t.val + 12) hi (by omega); omega))) (off_tok0 t.val ht 12 (by omega)) (hv _ (by omega)) ?_
  refine load_pos c tp tq (slot (i 0).val (16 * t.val + 13)) (slot_lt hi (by omega)) (off_slot0 (i 0).val hi t.val ht 13 (by omega)) ?_
  refine step_assume c (chk_tile (hin _ (by have := slot_lt (n := 16 * t.val + 13) hi (by omega); omega))) ?_
  refine issue_h c tp tq OUT V0 (slot (i 0).val) tok fs 1024 (16 * t.val + 13) 0 (by omega) (by omega) (tok (16 * t.val + 13)) rfl
    (off_tile (hin _ (by have := slot_lt (n := 16 * t.val + 13) hi (by omega); omega))) (off_tok0 t.val ht 13 (by omega)) (hv _ (by omega)) ?_
  refine load_pos c tp tq (slot (i 0).val (16 * t.val + 14)) (slot_lt hi (by omega)) (off_slot0 (i 0).val hi t.val ht 14 (by omega)) ?_
  refine step_assume c (chk_tile (hin _ (by have := slot_lt (n := 16 * t.val + 14) hi (by omega); omega))) ?_
  refine issue_h c tp tq OUT V0 (slot (i 0).val) tok fs 1024 (16 * t.val + 14) 0 (by omega) (by omega) (tok (16 * t.val + 14)) rfl
    (off_tile (hin _ (by have := slot_lt (n := 16 * t.val + 14) hi (by omega); omega))) (off_tok0 t.val ht 14 (by omega)) (hv _ (by omega)) ?_
  refine load_pos c tp tq (slot (i 0).val (16 * t.val + 15)) (slot_lt hi (by omega)) (off_slot0 (i 0).val hi t.val ht 15 (by omega)) ?_
  refine step_assume c (chk_tile (hin _ (by have := slot_lt (n := 16 * t.val + 15) hi (by omega); omega))) ?_
  refine issue_h c tp tq OUT V0 (slot (i 0).val) tok fs 1024 (16 * t.val + 15) 0 (by omega) (by omega) (tok (16 * t.val + 15)) rfl
    (off_tile (hin _ (by have := slot_lt (n := 16 * t.val + 15) hi (by omega); omega))) (off_tok0 t.val ht 15 (by omega)) (hv _ (by omega)) ?_
  exact Idealize.SL.BI.fupd_intro

theorem trip3 (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (w : BitVec 32)
    (OUT V0 : S294912x128.Idx → Elt F .f32) (fs : S4096x128.Idx → Elt F .f32)
    (hv : ∀ n, n < 1024 → LandsH tp tq OUT fs (slot (i 0).val n) (tok n)) (t : Fin k0_t3_loop.trips) (u : Unit) (X : sProp 𝕄) :
    iprop(Tabs (F := F) c tp tq ∗ Pend c tp tq (ℓ := hM.view.loc (c : Thread nD τ)) V0 (slot (i 0).val) (fun t => htile (tok t)) fs 1024 (512 + 16 * t.val)
        ∗ Bat c tp tq (cc0_scratch2.sem) (ℓ := hM.view.loc (c : Thread nD τ)) OUT (slot (i 0).val) (fun t => htile (tok t)) fs 1024 (512 + 16 * t.val) 0 ∗ X)
      ⊢ Wp c (k0_t3_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w t u)
        (fun _ => iprop(Tabs (F := F) c tp tq ∗ Pend c tp tq (ℓ := hM.view.loc (c : Thread nD τ)) V0 (slot (i 0).val) (fun t => htile (tok t)) fs 1024 (512 + 16 * t.val + 16)
        ∗ Bat c tp tq (cc0_scratch2.sem) (ℓ := hM.view.loc (c : Thread nD τ)) OUT (slot (i 0).val) (fun t => htile (tok t)) fs 1024 (512 + 16 * t.val + 16) 0 ∗ X)) := by
  have ht : t.val < 32 := t.isLt
  have hi : (i 0).val < 32 := (i 0).isLt
  unfold k0_t3_body
  simp only [k0_part10_eq_skeleton, k0_part11_eq_skeleton, k0_part12_eq_skeleton, k0_part13_eq_skeleton, k0_part14_eq_skeleton, k0_part15_eq_skeleton,
    k0_part10_skel, k0_part11_skel, k0_part12_skel, k0_part13_skel, k0_part14_skel, k0_part15_skel,
    Prog.bind_assoc, Prog.pure_eq_ret, Prog.bind_ret]
  refine load_pos c tp tq (slot (i 0).val (512 + 16 * t.val + 0)) (slot_lt hi (by omega)) (off_slot1 (i 0).val hi t.val ht 0 (by omega)) ?_
  refine step_assume c (chk_tile (hin _ (by have := slot_lt (n := 512 + 16 * t.val + 0) hi (by omega); omega))) ?_
  refine issue_h c tp tq OUT V0 (slot (i 0).val) tok fs 1024 (512 + 16 * t.val + 0) 0 (by omega) (by omega) (tok (512 + 16 * t.val + 0)) rfl
    (off_tile (hin _ (by have := slot_lt (n := 512 + 16 * t.val + 0) hi (by omega); omega))) (off_tok1 t.val ht 0 (by omega)) (hv _ (by omega)) ?_
  refine load_pos c tp tq (slot (i 0).val (512 + 16 * t.val + 1)) (slot_lt hi (by omega)) (off_slot1 (i 0).val hi t.val ht 1 (by omega)) ?_
  refine step_assume c (chk_tile (hin _ (by have := slot_lt (n := 512 + 16 * t.val + 1) hi (by omega); omega))) ?_
  refine issue_h c tp tq OUT V0 (slot (i 0).val) tok fs 1024 (512 + 16 * t.val + 1) 0 (by omega) (by omega) (tok (512 + 16 * t.val + 1)) rfl
    (off_tile (hin _ (by have := slot_lt (n := 512 + 16 * t.val + 1) hi (by omega); omega))) (off_tok1 t.val ht 1 (by omega)) (hv _ (by omega)) ?_
  refine load_pos c tp tq (slot (i 0).val (512 + 16 * t.val + 2)) (slot_lt hi (by omega)) (off_slot1 (i 0).val hi t.val ht 2 (by omega)) ?_
  refine step_assume c (chk_tile (hin _ (by have := slot_lt (n := 512 + 16 * t.val + 2) hi (by omega); omega))) ?_
  refine issue_h c tp tq OUT V0 (slot (i 0).val) tok fs 1024 (512 + 16 * t.val + 2) 0 (by omega) (by omega) (tok (512 + 16 * t.val + 2)) rfl
    (off_tile (hin _ (by have := slot_lt (n := 512 + 16 * t.val + 2) hi (by omega); omega))) (off_tok1 t.val ht 2 (by omega)) (hv _ (by omega)) ?_
  refine load_pos c tp tq (slot (i 0).val (512 + 16 * t.val + 3)) (slot_lt hi (by omega)) (off_slot1 (i 0).val hi t.val ht 3 (by omega)) ?_
  refine step_assume c (chk_tile (hin _ (by have := slot_lt (n := 512 + 16 * t.val + 3) hi (by omega); omega))) ?_
  refine issue_h c tp tq OUT V0 (slot (i 0).val) tok fs 1024 (512 + 16 * t.val + 3) 0 (by omega) (by omega) (tok (512 + 16 * t.val + 3)) rfl
    (off_tile (hin _ (by have := slot_lt (n := 512 + 16 * t.val + 3) hi (by omega); omega))) (off_tok1 t.val ht 3 (by omega)) (hv _ (by omega)) ?_
  refine load_pos c tp tq (slot (i 0).val (512 + 16 * t.val + 4)) (slot_lt hi (by omega)) (off_slot1 (i 0).val hi t.val ht 4 (by omega)) ?_
  refine step_assume c (chk_tile (hin _ (by have := slot_lt (n := 512 + 16 * t.val + 4) hi (by omega); omega))) ?_
  refine issue_h c tp tq OUT V0 (slot (i 0).val) tok fs 1024 (512 + 16 * t.val + 4) 0 (by omega) (by omega) (tok (512 + 16 * t.val + 4)) rfl
    (off_tile (hin _ (by have := slot_lt (n := 512 + 16 * t.val + 4) hi (by omega); omega))) (off_tok1 t.val ht 4 (by omega)) (hv _ (by omega)) ?_
  refine load_pos c tp tq (slot (i 0).val (512 + 16 * t.val + 5)) (slot_lt hi (by omega)) (off_slot1 (i 0).val hi t.val ht 5 (by omega)) ?_
  refine step_assume c (chk_tile (hin _ (by have := slot_lt (n := 512 + 16 * t.val + 5) hi (by omega); omega))) ?_
  refine issue_h c tp tq OUT V0 (slot (i 0).val) tok fs 1024 (512 + 16 * t.val + 5) 0 (by omega) (by omega) (tok (512 + 16 * t.val + 5)) rfl
    (off_tile (hin _ (by have := slot_lt (n := 512 + 16 * t.val + 5) hi (by omega); omega))) (off_tok1 t.val ht 5 (by omega)) (hv _ (by omega)) ?_
  refine load_pos c tp tq (slot (i 0).val (512 + 16 * t.val + 6)) (slot_lt hi (by omega)) (off_slot1 (i 0).val hi t.val ht 6 (by omega)) ?_
  refine step_assume c (chk_tile (hin _ (by have := slot_lt (n := 512 + 16 * t.val + 6) hi (by omega); omega))) ?_
  refine issue_h c tp tq OUT V0 (slot (i 0).val) tok fs 1024 (512 + 16 * t.val + 6) 0 (by omega) (by omega) (tok (512 + 16 * t.val + 6)) rfl
    (off_tile (hin _ (by have := slot_lt (n := 512 + 16 * t.val + 6) hi (by omega); omega))) (off_tok1 t.val ht 6 (by omega)) (hv _ (by omega)) ?_
  refine load_pos c tp tq (slot (i 0).val (512 + 16 * t.val + 7)) (slot_lt hi (by omega)) (off_slot1 (i 0).val hi t.val ht 7 (by omega)) ?_
  refine step_assume c (chk_tile (hin _ (by have := slot_lt (n := 512 + 16 * t.val + 7) hi (by omega); omega))) ?_
  refine issue_h c tp tq OUT V0 (slot (i 0).val) tok fs 1024 (512 + 16 * t.val + 7) 0 (by omega) (by omega) (tok (512 + 16 * t.val + 7)) rfl
    (off_tile (hin _ (by have := slot_lt (n := 512 + 16 * t.val + 7) hi (by omega); omega))) (off_tok1 t.val ht 7 (by omega)) (hv _ (by omega)) ?_
  refine load_pos c tp tq (slot (i 0).val (512 + 16 * t.val + 8)) (slot_lt hi (by omega)) (off_slot1 (i 0).val hi t.val ht 8 (by omega)) ?_
  refine step_assume c (chk_tile (hin _ (by have := slot_lt (n := 512 + 16 * t.val + 8) hi (by omega); omega))) ?_
  refine issue_h c tp tq OUT V0 (slot (i 0).val) tok fs 1024 (512 + 16 * t.val + 8) 0 (by omega) (by omega) (tok (512 + 16 * t.val + 8)) rfl
    (off_tile (hin _ (by have := slot_lt (n := 512 + 16 * t.val + 8) hi (by omega); omega))) (off_tok1 t.val ht 8 (by omega)) (hv _ (by omega)) ?_
  refine load_pos c tp tq (slot (i 0).val (512 + 16 * t.val + 9)) (slot_lt hi (by omega)) (off_slot1 (i 0).val hi t.val ht 9 (by omega)) ?_
  refine step_assume c (chk_tile (hin _ (by have := slot_lt (n := 512 + 16 * t.val + 9) hi (by omega); omega))) ?_
  refine issue_h c tp tq OUT V0 (slot (i 0).val) tok fs 1024 (512 + 16 * t.val + 9) 0 (by omega) (by omega) (tok (512 + 16 * t.val + 9)) rfl
    (off_tile (hin _ (by have := slot_lt (n := 512 + 16 * t.val + 9) hi (by omega); omega))) (off_tok1 t.val ht 9 (by omega)) (hv _ (by omega)) ?_
  refine load_pos c tp tq (slot (i 0).val (512 + 16 * t.val + 10)) (slot_lt hi (by omega)) (off_slot1 (i 0).val hi t.val ht 10 (by omega)) ?_
  refine step_assume c (chk_tile (hin _ (by have := slot_lt (n := 512 + 16 * t.val + 10) hi (by omega); omega))) ?_
  refine issue_h c tp tq OUT V0 (slot (i 0).val) tok fs 1024 (512 + 16 * t.val + 10) 0 (by omega) (by omega) (tok (512 + 16 * t.val + 10)) rfl
    (off_tile (hin _ (by have := slot_lt (n := 512 + 16 * t.val + 10) hi (by omega); omega))) (off_tok1 t.val ht 10 (by omega)) (hv _ (by omega)) ?_
  refine load_pos c tp tq (slot (i 0).val (512 + 16 * t.val + 11)) (slot_lt hi (by omega)) (off_slot1 (i 0).val hi t.val ht 11 (by omega)) ?_
  refine step_assume c (chk_tile (hin _ (by have := slot_lt (n := 512 + 16 * t.val + 11) hi (by omega); omega))) ?_
  refine issue_h c tp tq OUT V0 (slot (i 0).val) tok fs 1024 (512 + 16 * t.val + 11) 0 (by omega) (by omega) (tok (512 + 16 * t.val + 11)) rfl
    (off_tile (hin _ (by have := slot_lt (n := 512 + 16 * t.val + 11) hi (by omega); omega))) (off_tok1 t.val ht 11 (by omega)) (hv _ (by omega)) ?_
  refine load_pos c tp tq (slot (i 0).val (512 + 16 * t.val + 12)) (slot_lt hi (by omega)) (off_slot1 (i 0).val hi t.val ht 12 (by omega)) ?_
  refine step_assume c (chk_tile (hin _ (by have := slot_lt (n := 512 + 16 * t.val + 12) hi (by omega); omega))) ?_
  refine issue_h c tp tq OUT V0 (slot (i 0).val) tok fs 1024 (512 + 16 * t.val + 12) 0 (by omega) (by omega) (tok (512 + 16 * t.val + 12)) rfl
    (off_tile (hin _ (by have := slot_lt (n := 512 + 16 * t.val + 12) hi (by omega); omega))) (off_tok1 t.val ht 12 (by omega)) (hv _ (by omega)) ?_
  refine load_pos c tp tq (slot (i 0).val (512 + 16 * t.val + 13)) (slot_lt hi (by omega)) (off_slot1 (i 0).val hi t.val ht 13 (by omega)) ?_
  refine step_assume c (chk_tile (hin _ (by have := slot_lt (n := 512 + 16 * t.val + 13) hi (by omega); omega))) ?_
  refine issue_h c tp tq OUT V0 (slot (i 0).val) tok fs 1024 (512 + 16 * t.val + 13) 0 (by omega) (by omega) (tok (512 + 16 * t.val + 13)) rfl
    (off_tile (hin _ (by have := slot_lt (n := 512 + 16 * t.val + 13) hi (by omega); omega))) (off_tok1 t.val ht 13 (by omega)) (hv _ (by omega)) ?_
  refine load_pos c tp tq (slot (i 0).val (512 + 16 * t.val + 14)) (slot_lt hi (by omega)) (off_slot1 (i 0).val hi t.val ht 14 (by omega)) ?_
  refine step_assume c (chk_tile (hin _ (by have := slot_lt (n := 512 + 16 * t.val + 14) hi (by omega); omega))) ?_
  refine issue_h c tp tq OUT V0 (slot (i 0).val) tok fs 1024 (512 + 16 * t.val + 14) 0 (by omega) (by omega) (tok (512 + 16 * t.val + 14)) rfl
    (off_tile (hin _ (by have := slot_lt (n := 512 + 16 * t.val + 14) hi (by omega); omega))) (off_tok1 t.val ht 14 (by omega)) (hv _ (by omega)) ?_
  refine load_pos c tp tq (slot (i 0).val (512 + 16 * t.val + 15)) (slot_lt hi (by omega)) (off_slot1 (i 0).val hi t.val ht 15 (by omega)) ?_
  refine step_assume c (chk_tile (hin _ (by have := slot_lt (n := 512 + 16 * t.val + 15) hi (by omega); omega))) ?_
  refine issue_h c tp tq OUT V0 (slot (i 0).val) tok fs 1024 (512 + 16 * t.val + 15) 0 (by omega) (by omega) (tok (512 + 16 * t.val + 15)) rfl
    (off_tile (hin _ (by have := slot_lt (n := 512 + 16 * t.val + 15) hi (by omega); omega))) (off_tok1 t.val ht 15 (by omega)) (hv _ (by omega)) ?_
  exact Idealize.SL.BI.fupd_intro

end Cert.KernelIdeal.Hand

end
-- ==== Proof.TripsB.lean ====
/-
  Hand-written. One trip of each of the first grid point's two loops over the padding rows: sixteen copies of the token of zeros
  started, and sixteen waited for.
-/
module

public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (tq : S4096.Idx → BitVec 32)

theorem trip1 (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (h1 : k0_cond1 i = 1#1)
    (OUT V0 : S294912x128.Idx → Elt F .f32) (fs : S8x128.Idx → Elt F .f32)
    (hv : ∀ n, n < 4096 → LandsZ tp tq OUT fs (padSlot n)) (t : Fin k0_t1_loop.trips) (u : Unit) (X : sProp 𝕄) :
    iprop(Tabs (F := F) c tp tq ∗ Pend c tp tq (ℓ := zM.view.loc (c : Thread nD τ)) V0 padSlot (fun _ => Finset.univ) fs 4096 (16 * t.val)
        ∗ Bat c tp tq (cc0_scratch3.sem) (ℓ := zM.view.loc (c : Thread nD τ)) OUT padSlot (fun _ => Finset.univ) fs 4096 (16 * t.val) 0 ∗ X)
      ⊢ Wp c (k0_t1_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 h1 t u)
        (fun _ => iprop(Tabs (F := F) c tp tq ∗ Pend c tp tq (ℓ := zM.view.loc (c : Thread nD τ)) V0 padSlot (fun _ => Finset.univ) fs 4096 (16 * t.val + 16)
        ∗ Bat c tp tq (cc0_scratch3.sem) (ℓ := zM.view.loc (c : Thread nD τ)) OUT padSlot (fun _ => Finset.univ) fs 4096 (16 * t.val + 16) 0 ∗ X)) := by
  have ht : t.val < 256 := t.isLt
  unfold k0_t1_body
  simp only [k0_part1_eq_skeleton, k0_part2_eq_skeleton, k0_part3_eq_skeleton,
    k0_part1_skel, k0_part2_skel, k0_part3_skel,
    Prog.bind_assoc, Prog.pure_eq_ret, Prog.bind_ret]
  refine load_pad c tp tq (16 * t.val + 0) (by omega) (off_q t.val ht 0 (by omega)) ?_
  refine step_assume c (chk_tile' (hin _ (by omega))) ?_
  refine issue_z c tp tq OUT V0 padSlot fs 4096 (16 * t.val + 0) 0 (by omega) (by omega)
    (off_tile (hin _ (by unfold padSlot; omega))) (hv _ (by omega)) ?_
  refine load_pad c tp tq (16 * t.val + 1) (by omega) (off_q t.val ht 1 (by omega)) ?_
  refine step_assume c (chk_tile' (hin _ (by omega))) ?_
  refine issue_z c tp tq OUT V0 padSlot fs 4096 (16 * t.val + 1) 0 (by omega) (by omega)
    (off_tile (hin _ (by unfold padSlot; omega))) (hv _ (by omega)) ?_
  refine load_pad c tp tq (16 * t.val + 2) (by omega) (off_q t.val ht 2 (by omega)) ?_
  refine step_assume c (chk_tile' (hin _ (by omega))) ?_
  refine issue_z c tp tq OUT V0 padSlot fs 4096 (16 * t.val + 2) 0 (by omega) (by omega)
    (off_tile (hin _ (by unfold padSlot; omega))) (hv _ (by omega)) ?_
  refine load_pad c tp tq (16 * t.val + 3) (by omega) (off_q t.val ht 3 (by omega)) ?_
  refine step_assume c (chk_tile' (hin _ (by omega))) ?_
  refine issue_z c tp tq OUT V0 padSlot fs 4096 (16 * t.val + 3) 0 (by omega) (by omega)
    (off_tile (hin _ (by unfold padSlot; omega))) (hv _ (by omega)) ?_
  refine load_pad c tp tq (16 * t.val + 4) (by omega) (off_q t.val ht 4 (by omega)) ?_
  refine step_assume c (chk_tile' (hin _ (by omega))) ?_
  refine issue_z c tp tq OUT V0 padSlot fs 4096 (16 * t.val + 4) 0 (by omega) (by omega)
    (off_tile (hin _ (by unfold padSlot; omega))) (hv _ (by omega)) ?_
  refine load_pad c tp tq (16 * t.val + 5) (by omega) (off_q t.val ht 5 (by omega)) ?_
  refine step_assume c (chk_tile' (hin _ (by omega))) ?_
  refine issue_z c tp tq OUT V0 padSlot fs 4096 (16 * t.val + 5) 0 (by omega) (by omega)
    (off_tile (hin _ (by unfold padSlot; omega))) (hv _ (by omega)) ?_
  refine load_pad c tp tq (16 * t.val + 6) (by omega) (off_q t.val ht 6 (by omega)) ?_
  refine step_assume c (chk_tile' (hin _ (by omega))) ?_
  refine issue_z c tp tq OUT V0 padSlot fs 4096 (16 * t.val + 6) 0 (by omega) (by omega)
    (off_tile (hin _ (by unfold padSlot; omega))) (hv _ (by omega)) ?_
  refine load_pad c tp tq (16 * t.val + 7) (by omega) (off_q t.val ht 7 (by omega)) ?_
  refine step_assume c (chk_tile' (hin _ (by omega))) ?_
  refine issue_z c tp tq OUT V0 padSlot fs 4096 (16 * t.val + 7) 0 (by omega) (by omega)
    (off_tile (hin _ (by unfold padSlot; omega))) (hv _ (by omega)) ?_
  refine load_pad c tp tq (16 * t.val + 8) (by omega) (off_q t.val ht 8 (by omega)) ?_
  refine step_assume c (chk_tile' (hin _ (by omega))) ?_
  refine issue_z c tp tq OUT V0 padSlot fs 4096 (16 * t.val + 8) 0 (by omega) (by omega)
    (off_tile (hin _ (by unfold padSlot; omega))) (hv _ (by omega)) ?_
  refine load_pad c tp tq (16 * t.val + 9) (by omega) (off_q t.val ht 9 (by omega)) ?_
  refine step_assume c (chk_tile' (hin _ (by omega))) ?_
  refine issue_z c tp tq OUT V0 padSlot fs 4096 (16 * t.val + 9) 0 (by omega) (by omega)
    (off_tile (hin _ (by unfold padSlot; omega))) (hv _ (by omega)) ?_
  refine load_pad c tp tq (16 * t.val + 10) (by omega) (off_q t.val ht 10 (by omega)) ?_
  refine step_assume c (chk_tile' (hin _ (by omega))) ?_
  refine issue_z c tp tq OUT V0 padSlot fs 4096 (16 * t.val + 10) 0 (by omega) (by omega)
    (off_tile (hin _ (by unfold padSlot; omega))) (hv _ (by omega)) ?_
  refine load_pad c tp tq (16 * t.val + 11) (by omega) (off_q t.val ht 11 (by omega)) ?_
  refine step_assume c (chk_tile' (hin _ (by omega))) ?_
  refine issue_z c tp tq OUT V0 padSlot fs 4096 (16 * t.val + 11) 0 (by omega) (by omega)
    (off_tile (hin _ (by unfold padSlot; omega))) (hv _ (by omega)) ?_
  refine load_pad c tp tq (16 * t.val + 12) (by omega) (off_q t.val ht 12 (by omega)) ?_
  refine step_assume c (chk_tile' (hin _ (by omega))) ?_
  refine issue_z c tp tq OUT V0 padSlot fs 4096 (16 * t.val + 12) 0 (by omega) (by omega)
    (off_tile (hin _ (by unfold padSlot; omega))) (hv _ (by omega)) ?_
  refine load_pad c tp tq (16 * t.val + 13) (by omega) (off_q t.val ht 13 (by omega)) ?_
  refine step_assume c (chk_tile' (hin _ (by omega))) ?_
  refine issue_z c tp tq OUT V0 padSlot fs 4096 (16 * t.val + 13) 0 (by omega) (by omega)
    (off_tile (hin _ (by unfold padSlot; omega))) (hv _ (by omega)) ?_
  refine load_pad c tp tq (16 * t.val + 14) (by omega) (off_q t.val ht 14 (by omega)) ?_
  refine step_assume c (chk_tile' (hin _ (by omega))) ?_
  refine issue_z c tp tq OUT V0 padSlot fs 4096 (16 * t.val + 14) 0 (by omega) (by omega)
    (off_tile (hin _ (by unfold padSlot; omega))) (hv _ (by omega)) ?_
  refine load_pad c tp tq (16 * t.val + 15) (by omega) (off_q t.val ht 15 (by omega)) ?_
  refine step_assume c (chk_tile' (hin _ (by omega))) ?_
  refine issue_z c tp tq OUT V0 padSlot fs 4096 (16 * t.val + 15) 0 (by omega) (by omega)
    (off_tile (hin _ (by unfold padSlot; omega))) (hv _ (by omega)) ?_
  exact Idealize.SL.BI.fupd_intro

theorem trip4 (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (h2 : k0_cond2 i = 1#1)
    (OUT : S294912x128.Idx → Elt F .f32) (fs : S8x128.Idx → Elt F .f32) (t : Fin k0_t4_loop.trips) (u : Unit) (X : sProp 𝕄) :
    iprop(Tabs (F := F) c tp tq ∗ Bat c tp tq (cc0_scratch3.sem) (ℓ := zM.view.loc (c : Thread nD τ)) OUT padSlot (fun _ => Finset.univ) fs 4096 4096 (16 * t.val)
        ∗ Owe (F := F) c ∗ X)
      ⊢ Wp c (k0_t4_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 h2 t u)
        (fun _ => iprop(Tabs (F := F) c tp tq ∗ Bat c tp tq (cc0_scratch3.sem) (ℓ := zM.view.loc (c : Thread nD τ)) OUT padSlot (fun _ => Finset.univ) fs 4096 4096 (16 * t.val + 16)
        ∗ Owe (F := F) c ∗ X)) := by
  have ht : t.val < 256 := t.isLt
  unfold k0_t4_body
  simp only [k0_part16_eq_skeleton, k0_part17_eq_skeleton, k0_part18_eq_skeleton,
    k0_part16_skel, k0_part17_skel, k0_part18_skel,
    Prog.bind_assoc, Prog.pure_eq_ret, Prog.bind_ret]
  refine load_pad c tp tq (16 * t.val + 0) (by omega) (off_q t.val ht 0 (by omega)) ?_
  refine step_assume c (chk_tile' (hin _ (by omega))) ?_
  refine wait_tile c tp tq (ℓ := zM.view.loc (c : Thread nD τ)) OUT padSlot (fun _ => Finset.univ) fs 4096 (16 * t.val + 0) (by omega) ?_
  refine load_pad c tp tq (16 * t.val + 1) (by omega) (off_q t.val ht 1 (by omega)) ?_
  refine step_assume c (chk_tile' (hin _ (by omega))) ?_
  refine wait_tile c tp tq (ℓ := zM.view.loc (c : Thread nD τ)) OUT padSlot (fun _ => Finset.univ) fs 4096 (16 * t.val + 1) (by omega) ?_
  refine load_pad c tp tq (16 * t.val + 2) (by omega) (off_q t.val ht 2 (by omega)) ?_
  refine step_assume c (chk_tile' (hin _ (by omega))) ?_
  refine wait_tile c tp tq (ℓ := zM.view.loc (c : Thread nD τ)) OUT padSlot (fun _ => Finset.univ) fs 4096 (16 * t.val + 2) (by omega) ?_
  refine load_pad c tp tq (16 * t.val + 3) (by omega) (off_q t.val ht 3 (by omega)) ?_
  refine step_assume c (chk_tile' (hin _ (by omega))) ?_
  refine wait_tile c tp tq (ℓ := zM.view.loc (c : Thread nD τ)) OUT padSlot (fun _ => Finset.univ) fs 4096 (16 * t.val + 3) (by omega) ?_
  refine load_pad c tp tq (16 * t.val + 4) (by omega) (off_q t.val ht 4 (by omega)) ?_
  refine step_assume c (chk_tile' (hin _ (by omega))) ?_
  refine wait_tile c tp tq (ℓ := zM.view.loc (c : Thread nD τ)) OUT padSlot (fun _ => Finset.univ) fs 4096 (16 * t.val + 4) (by omega) ?_
  refine load_pad c tp tq (16 * t.val + 5) (by omega) (off_q t.val ht 5 (by omega)) ?_
  refine step_assume c (chk_tile' (hin _ (by omega))) ?_
  refine wait_tile c tp tq (ℓ := zM.view.loc (c : Thread nD τ)) OUT padSlot (fun _ => Finset.univ) fs 4096 (16 * t.val + 5) (by omega) ?_
  refine load_pad c tp tq (16 * t.val + 6) (by omega) (off_q t.val ht 6 (by omega)) ?_
  refine step_assume c (chk_tile' (hin _ (by omega))) ?_
  refine wait_tile c tp tq (ℓ := zM.view.loc (c : Thread nD τ)) OUT padSlot (fun _ => Finset.univ) fs 4096 (16 * t.val + 6) (by omega) ?_
  refine load_pad c tp tq (16 * t.val + 7) (by omega) (off_q t.val ht 7 (by omega)) ?_
  refine step_assume c (chk_tile' (hin _ (by omega))) ?_
  refine wait_tile c tp tq (ℓ := zM.view.loc (c : Thread nD τ)) OUT padSlot (fun _ => Finset.univ) fs 4096 (16 * t.val + 7) (by omega) ?_
  refine load_pad c tp tq (16 * t.val + 8) (by omega) (off_q t.val ht 8 (by omega)) ?_
  refine step_assume c (chk_tile' (hin _ (by omega))) ?_
  refine wait_tile c tp tq (ℓ := zM.view.loc (c : Thread nD τ)) OUT padSlot (fun _ => Finset.univ) fs 4096 (16 * t.val + 8) (by omega) ?_
  refine load_pad c tp tq (16 * t.val + 9) (by omega) (off_q t.val ht 9 (by omega)) ?_
  refine step_assume c (chk_tile' (hin _ (by omega))) ?_
  refine wait_tile c tp tq (ℓ := zM.view.loc (c : Thread nD τ)) OUT padSlot (fun _ => Finset.univ) fs 4096 (16 * t.val + 9) (by omega) ?_
  refine load_pad c tp tq (16 * t.val + 10) (by omega) (off_q t.val ht 10 (by omega)) ?_
  refine step_assume c (chk_tile' (hin _ (by omega))) ?_
  refine wait_tile c tp tq (ℓ := zM.view.loc (c : Thread nD τ)) OUT padSlot (fun _ => Finset.univ) fs 4096 (16 * t.val + 10) (by omega) ?_
  refine load_pad c tp tq (16 * t.val + 11) (by omega) (off_q t.val ht 11 (by omega)) ?_
  refine step_assume c (chk_tile' (hin _ (by omega))) ?_
  refine wait_tile c tp tq (ℓ := zM.view.loc (c : Thread nD τ)) OUT padSlot (fun _ => Finset.univ) fs 4096 (16 * t.val + 11) (by omega) ?_
  refine load_pad c tp tq (16 * t.val + 12) (by omega) (off_q t.val ht 12 (by omega)) ?_
  refine step_assume c (chk_tile' (hin _ (by omega))) ?_
  refine wait_tile c tp tq (ℓ := zM.view.loc (c : Thread nD τ)) OUT padSlot (fun _ => Finset.univ) fs 4096 (16 * t.val + 12) (by omega) ?_
  refine load_pad c tp tq (16 * t.val + 13) (by omega) (off_q t.val ht 13 (by omega)) ?_
  refine step_assume c (chk_tile' (hin _ (by omega))) ?_
  refine wait_tile c tp tq (ℓ := zM.view.loc (c : Thread nD τ)) OUT padSlot (fun _ => Finset.univ) fs 4096 (16 * t.val + 13) (by omega) ?_
  refine load_pad c tp tq (16 * t.val + 14) (by omega) (off_q t.val ht 14 (by omega)) ?_
  refine step_assume c (chk_tile' (hin _ (by omega))) ?_
  refine wait_tile c tp tq (ℓ := zM.view.loc (c : Thread nD τ)) OUT padSlot (fun _ => Finset.univ) fs 4096 (16 * t.val + 14) (by omega) ?_
  refine load_pad c tp tq (16 * t.val + 15) (by omega) (off_q t.val ht 15 (by omega)) ?_
  refine step_assume c (chk_tile' (hin _ (by omega))) ?_
  refine wait_tile c tp tq (ℓ := zM.view.loc (c : Thread nD τ)) OUT padSlot (fun _ => Finset.univ) fs 4096 (16 * t.val + 15) (by omega) ?_
  exact Idealize.SL.BI.fupd_intro

end Cert.KernelIdeal.Hand

end
-- ==== Proof.TripsC.lean ====
/-
  Hand-written. One trip of each of the two loops that wait for a block's copies.
-/
module

public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (tq : S4096.Idx → BitVec 32)

theorem trip5 (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (w : BitVec 32)
    (OUT : S294912x128.Idx → Elt F .f32) (fs : S4096x128.Idx → Elt F .f32)
    (t : Fin k0_t5_loop.trips) (u : Unit) (X : sProp 𝕄) :
    iprop(Tabs (F := F) c tp tq
        ∗ Bat c tp tq (cc0_scratch2.sem) (ℓ := hM.view.loc (c : Thread nD τ)) OUT (slot (i 0).val) (fun t => htile (tok t)) fs 1024 1024 (16 * t.val)
        ∗ Owe (F := F) c ∗ X)
      ⊢ Wp c (k0_t5_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w t u)
        (fun _ => iprop(Tabs (F := F) c tp tq
        ∗ Bat c tp tq (cc0_scratch2.sem) (ℓ := hM.view.loc (c : Thread nD τ)) OUT (slot (i 0).val) (fun t => htile (tok t)) fs 1024 1024 (16 * t.val + 16)
        ∗ Owe (F := F) c ∗ X)) := by
  have ht : t.val < 32 := t.isLt
  have hi : (i 0).val < 32 := (i 0).isLt
  unfold k0_t5_body
  simp only [k0_part19_eq_skeleton, k0_part20_eq_skeleton, k0_part21_eq_skeleton, k0_part22_eq_skeleton, k0_part23_eq_skeleton, k0_part24_eq_skeleton,
    k0_part19_skel, k0_part20_skel, k0_part21_skel, k0_part22_skel, k0_part23_skel, k0_part24_skel,
    Prog.bind_assoc, Prog.pure_eq_ret, Prog.bind_ret]
  refine load_pos c tp tq (slot (i 0).val (16 * t.val + 0)) (slot_lt hi (by omega)) (off_slot0 (i 0).val hi t.val ht 0 (by omega)) ?_
  refine step_assume c (chk_tile (hin _ (by have := slot_lt (n := 16 * t.val + 0) hi (by omega); omega))) ?_
  refine wait_tile c tp tq (ℓ := hM.view.loc (c : Thread nD τ)) OUT (slot (i 0).val) (fun t => htile (tok t)) fs 1024 (16 * t.val + 0) (by omega) ?_
  refine load_pos c tp tq (slot (i 0).val (16 * t.val + 1)) (slot_lt hi (by omega)) (off_slot0 (i 0).val hi t.val ht 1 (by omega)) ?_
  refine step_assume c (chk_tile (hin _ (by have := slot_lt (n := 16 * t.val + 1) hi (by omega); omega))) ?_
  refine wait_tile c tp tq (ℓ := hM.view.loc (c : Thread nD τ)) OUT (slot (i 0).val) (fun t => htile (tok t)) fs 1024 (16 * t.val + 1) (by omega) ?_
  refine load_pos c tp tq (slot (i 0).val (16 * t.val + 2)) (slot_lt hi (by omega)) (off_slot0 (i 0).val hi t.val ht 2 (by omega)) ?_
  refine step_assume c (chk_tile (hin _ (by have := slot_lt (n := 16 * t.val + 2) hi (by omega); omega))) ?_
  refine wait_tile c tp tq (ℓ := hM.view.loc (c : Thread nD τ)) OUT (slot (i 0).val) (fun t => htile (tok t)) fs 1024 (16 * t.val + 2) (by omega) ?_
  refine load_pos c tp tq (slot (i 0).val (16 * t.val + 3)) (slot_lt hi (by omega)) (off_slot0 (i 0).val hi t.val ht 3 (by omega)) ?_
  refine step_assume c (chk_tile (hin _ (by have := slot_lt (n := 16 * t.val + 3) hi (by omega); omega))) ?_
  refine wait_tile c tp tq (ℓ := hM.view.loc (c : Thread nD τ)) OUT (slot (i 0).val) (fun t => htile (tok t)) fs 1024 (16 * t.val + 3) (by omega) ?_
  refine load_pos c tp tq (slot (i 0).val (16 * t.val + 4)) (slot_lt hi (by omega)) (off_slot0 (i 0).val hi t.val ht 4 (by omega)) ?_
  refine step_assume c (chk_tile (hin _ (by have := slot_lt (n := 16 * t.val + 4) hi (by omega); omega))) ?_
  refine wait_tile c tp tq (ℓ := hM.view.loc (c : Thread nD τ)) OUT (slot (i 0).val) (fun t => htile (tok t)) fs 1024 (16 * t.val + 4) (by omega) ?_
  refine load_pos c tp tq (slot (i 0).val (16 * t.val + 5)) (slot_lt hi (by omega)) (off_slot0 (i 0).val hi t.val ht 5 (by omega)) ?_
  refine step_assume c (chk_tile (hin _ (by have := slot_lt (n := 16 * t.val + 5) hi (by omega); omega))) ?_
  refine wait_tile c tp tq (ℓ := hM.view.loc (c : Thread nD τ)) OUT (slot (i 0).val) (fun t => htile (tok t)) fs 1024 (16 * t.val + 5) (by omega) ?_
  refine load_pos c tp tq (slot (i 0).val (16 * t.val + 6)) (slot_lt hi (by omega)) (off_slot0 (i 0).val hi t.val ht 6 (by omega)) ?_
  refine step_assume c (chk_tile (hin _ (by have := slot_lt (n := 16 * t.val + 6) hi (by omega); omega))) ?_
  refine wait_tile c tp tq (ℓ := hM.view.loc (c : Thread nD τ)) OUT (slot (i 0).val) (fun t => htile (tok t)) fs 1024 (16 * t.val + 6) (by omega) ?_
  refine load_pos c tp tq (slot (i 0).val (16 * t.val + 7)) (slot_lt hi (by omega)) (off_slot0 (i 0).val hi t.val ht 7 (by omega)) ?_
  refine step_assume c (chk_tile (hin _ (by have := slot_lt (n := 16 * t.val + 7) hi (by omega); omega))) ?_
  refine wait_tile c tp tq (ℓ := hM.view.loc (c : Thread nD τ)) OUT (slot (i 0).val) (fun t => htile (tok t)) fs 1024 (16 * t.val + 7) (by omega) ?_
  refine load_pos c tp tq (slot (i 0).val (16 * t.val + 8)) (slot_lt hi (by omega)) (off_slot0 (i 0).val hi t.val ht 8 (by omega)) ?_
  refine step_assume c (chk_tile (hin _ (by have := slot_lt (n := 16 * t.val + 8) hi (by omega); omega))) ?_
  refine wait_tile c tp tq (ℓ := hM.view.loc (c : Thread nD τ)) OUT (slot (i 0).val) (fun t => htile (tok t)) fs 1024 (16 * t.val + 8) (by omega) ?_
  refine load_pos c tp tq (slot (i 0).val (16 * t.val + 9)) (slot_lt hi (by omega)) (off_slot0 (i 0).val hi t.val ht 9 (by omega)) ?_
  refine step_assume c (chk_tile (hin _ (by have := slot_lt (n := 16 * t.val + 9) hi (by omega); omega))) ?_
  refine wait_tile c tp tq (ℓ := hM.view.loc (c : Thread nD τ)) OUT (slot (i 0).val) (fun t => htile (tok t)) fs 1024 (16 * t.val + 9) (by omega) ?_
  refine load_pos c tp tq (slot (i 0).val (16 * t.val + 10)) (slot_lt hi (by omega)) (off_slot0 (i 0).val hi t.val ht 10 (by omega)) ?_
  refine step_assume c (chk_tile (hin _ (by have := slot_lt (n := 16 * t.val + 10) hi (by omega); omega))) ?_
  refine wait_tile c tp tq (ℓ := hM.view.loc (c : Thread nD τ)) OUT (slot (i 0).val) (fun t => htile (tok t)) fs 1024 (16 * t.val + 10) (by omega) ?_
  refine load_pos c tp tq (slot (i 0).val (16 * t.val + 11)) (slot_lt hi (by omega)) (off_slot0 (i 0).val hi t.val ht 11 (by omega)) ?_
  refine step_assume c (chk_tile (hin _ (by have := slot_lt (n := 16 * t.val + 11) hi (by omega); omega))) ?_
  refine wait_tile c tp tq (ℓ := hM.view.loc (c : Thread nD τ)) OUT (slot (i 0).val) (fun t => htile (tok t)) fs 1024 (16 * t.val + 11) (by omega) ?_
  refine load_pos c tp tq (slot (i 0).val (16 * t.val + 12)) (slot_lt hi (by omega)) (off_slot0 (i 0).val hi t.val ht 12 (by omega)) ?_
  refine step_assume c (chk_tile (hin _ (by have := slot_lt (n := 16 * t.val + 12) hi (by omega); omega))) ?_
  refine wait_tile c tp tq (ℓ := hM.view.loc (c : Thread nD τ)) OUT (slot (i 0).val) (fun t => htile (tok t)) fs 1024 (16 * t.val + 12) (by omega) ?_
  refine load_pos c tp tq (slot (i 0).val (16 * t.val + 13)) (slot_lt hi (by omega)) (off_slot0 (i 0).val hi t.val ht 13 (by omega)) ?_
  refine step_assume c (chk_tile (hin _ (by have := slot_lt (n := 16 * t.val + 13) hi (by omega); omega))) ?_
  refine wait_tile c tp tq (ℓ := hM.view.loc (c : Thread nD τ)) OUT (slot (i 0).val) (fun t => htile (tok t)) fs 1024 (16 * t.val + 13) (by omega) ?_
  refine load_pos c tp tq (slot (i 0).val (16 * t.val + 14)) (slot_lt hi (by omega)) (off_slot0 (i 0).val hi t.val ht 14 (by omega)) ?_
  refine step_assume c (chk_tile (hin _ (by have := slot_lt (n := 16 * t.val + 14) hi (by omega); omega))) ?_
  refine wait_tile c tp tq (ℓ := hM.view.loc (c : Thread nD τ)) OUT (slot (i 0).val) (fun t => htile (tok t)) fs 1024 (16 * t.val + 14) (by omega) ?_
  refine load_pos c tp tq (slot (i 0).val (16 * t.val + 15)) (slot_lt hi (by omega)) (off_slot0 (i 0).val hi t.val ht 15 (by omega)) ?_
  refine step_assume c (chk_tile (hin _ (by have := slot_lt (n := 16 * t.val + 15) hi (by omega); omega))) ?_
  refine wait_tile c tp tq (ℓ := hM.view.loc (c : Thread nD τ)) OUT (slot (i 0).val) (fun t => htile (tok t)) fs 1024 (16 * t.val + 15) (by omega) ?_
  exact Idealize.SL.BI.fupd_intro

theorem trip6 (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (w : BitVec 32)
    (OUT : S294912x128.Idx → Elt F .f32) (fs : S4096x128.Idx → Elt F .f32)
    (t : Fin k0_t6_loop.trips) (u : Unit) (X : sProp 𝕄) :
    iprop(Tabs (F := F) c tp tq
        ∗ Bat c tp tq (cc0_scratch2.sem) (ℓ := hM.view.loc (c : Thread nD τ)) OUT (slot (i 0).val) (fun t => htile (tok t)) fs 1024 1024 (512 + 16 * t.val)
        ∗ Owe (F := F) c ∗ X)
      ⊢ Wp c (k0_t6_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w t u)
        (fun _ => iprop(Tabs (F := F) c tp tq
        ∗ Bat c tp tq (cc0_scratch2.sem) (ℓ := hM.view.loc (c : Thread nD τ)) OUT (slot (i 0).val) (fun t => htile (tok t)) fs 1024 1024 (512 + 16 * t.val + 16)
        ∗ Owe (F := F) c ∗ X)) := by
  have ht : t.val < 32 := t.isLt
  have hi : (i 0).val < 32 := (i 0).isLt
  unfold k0_t6_body
  simp only [k0_part25_eq_skeleton, k0_part26_eq_skeleton, k0_part27_eq_skeleton, k0_part28_eq_skeleton, k0_part29_eq_skeleton, k0_part30_eq_skeleton,
    k0_part25_skel, k0_part26_skel, k0_part27_skel, k0_part28_skel, k0_part29_skel, k0_part30_skel,
    Prog.bind_assoc, Prog.pure_eq_ret, Prog.bind_ret]
  refine load_pos c tp tq (slot (i 0).val (512 + 16 * t.val + 0)) (slot_lt hi (by omega)) (off_slot1 (i 0).val hi t.val ht 0 (by omega)) ?_
  refine step_assume c (chk_tile (hin _ (by have := slot_lt (n := 512 + 16 * t.val + 0) hi (by omega); omega))) ?_
  refine wait_tile c tp tq (ℓ := hM.view.loc (c : Thread nD τ)) OUT (slot (i 0).val) (fun t => htile (tok t)) fs 1024 (512 + 16 * t.val + 0) (by omega) ?_
  refine load_pos c tp tq (slot (i 0).val (512 + 16 * t.val + 1)) (slot_lt hi (by omega)) (off_slot1 (i 0).val hi t.val ht 1 (by omega)) ?_
  refine step_assume c (chk_tile (hin _ (by have := slot_lt (n := 512 + 16 * t.val + 1) hi (by omega); omega))) ?_
  refine wait_tile c tp tq (ℓ := hM.view.loc (c : Thread nD τ)) OUT (slot (i 0).val) (fun t => htile (tok t)) fs 1024 (512 + 16 * t.val + 1) (by omega) ?_
  refine load_pos c tp tq (slot (i 0).val (512 + 16 * t.val + 2)) (slot_lt hi (by omega)) (off_slot1 (i 0).val hi t.val ht 2 (by omega)) ?_
  refine step_assume c (chk_tile (hin _ (by have := slot_lt (n := 512 + 16 * t.val + 2) hi (by omega); omega))) ?_
  refine wait_tile c tp tq (ℓ := hM.view.loc (c : Thread nD τ)) OUT (slot (i 0).val) (fun t => htile (tok t)) fs 1024 (512 + 16 * t.val + 2) (by omega) ?_
  refine load_pos c tp tq (slot (i 0).val (512 + 16 * t.val + 3)) (slot_lt hi (by omega)) (off_slot1 (i 0).val hi t.val ht 3 (by omega)) ?_
  refine step_assume c (chk_tile (hin _ (by have := slot_lt (n := 512 + 16 * t.val + 3) hi (by omega); omega))) ?_
  refine wait_tile c tp tq (ℓ := hM.view.loc (c : Thread nD τ)) OUT (slot (i 0).val) (fun t => htile (tok t)) fs 1024 (512 + 16 * t.val + 3) (by omega) ?_
  refine load_pos c tp tq (slot (i 0).val (512 + 16 * t.val + 4)) (slot_lt hi (by omega)) (off_slot1 (i 0).val hi t.val ht 4 (by omega)) ?_
  refine step_assume c (chk_tile (hin _ (by have := slot_lt (n := 512 + 16 * t.val + 4) hi (by omega); omega))) ?_
  refine wait_tile c tp tq (ℓ := hM.view.loc (c : Thread nD τ)) OUT (slot (i 0).val) (fun t => htile (tok t)) fs 1024 (512 + 16 * t.val + 4) (by omega) ?_
  refine load_pos c tp tq (slot (i 0).val (512 + 16 * t.val + 5)) (slot_lt hi (by omega)) (off_slot1 (i 0).val hi t.val ht 5 (by omega)) ?_
  refine step_assume c (chk_tile (hin _ (by have := slot_lt (n := 512 + 16 * t.val + 5) hi (by omega); omega))) ?_
  refine wait_tile c tp tq (ℓ := hM.view.loc (c : Thread nD τ)) OUT (slot (i 0).val) (fun t => htile (tok t)) fs 1024 (512 + 16 * t.val + 5) (by omega) ?_
  refine load_pos c tp tq (slot (i 0).val (512 + 16 * t.val + 6)) (slot_lt hi (by omega)) (off_slot1 (i 0).val hi t.val ht 6 (by omega)) ?_
  refine step_assume c (chk_tile (hin _ (by have := slot_lt (n := 512 + 16 * t.val + 6) hi (by omega); omega))) ?_
  refine wait_tile c tp tq (ℓ := hM.view.loc (c : Thread nD τ)) OUT (slot (i 0).val) (fun t => htile (tok t)) fs 1024 (512 + 16 * t.val + 6) (by omega) ?_
  refine load_pos c tp tq (slot (i 0).val (512 + 16 * t.val + 7)) (slot_lt hi (by omega)) (off_slot1 (i 0).val hi t.val ht 7 (by omega)) ?_
  refine step_assume c (chk_tile (hin _ (by have := slot_lt (n := 512 + 16 * t.val + 7) hi (by omega); omega))) ?_
  refine wait_tile c tp tq (ℓ := hM.view.loc (c : Thread nD τ)) OUT (slot (i 0).val) (fun t => htile (tok t)) fs 1024 (512 + 16 * t.val + 7) (by omega) ?_
  refine load_pos c tp tq (slot (i 0).val (512 + 16 * t.val + 8)) (slot_lt hi (by omega)) (off_slot1 (i 0).val hi t.val ht 8 (by omega)) ?_
  refine step_assume c (chk_tile (hin _ (by have := slot_lt (n := 512 + 16 * t.val + 8) hi (by omega); omega))) ?_
  refine wait_tile c tp tq (ℓ := hM.view.loc (c : Thread nD τ)) OUT (slot (i 0).val) (fun t => htile (tok t)) fs 1024 (512 + 16 * t.val + 8) (by omega) ?_
  refine load_pos c tp tq (slot (i 0).val (512 + 16 * t.val + 9)) (slot_lt hi (by omega)) (off_slot1 (i 0).val hi t.val ht 9 (by omega)) ?_
  refine step_assume c (chk_tile (hin _ (by have := slot_lt (n := 512 + 16 * t.val + 9) hi (by omega); omega))) ?_
  refine wait_tile c tp tq (ℓ := hM.view.loc (c : Thread nD τ)) OUT (slot (i 0).val) (fun t => htile (tok t)) fs 1024 (512 + 16 * t.val + 9) (by omega) ?_
  refine load_pos c tp tq (slot (i 0).val (512 + 16 * t.val + 10)) (slot_lt hi (by omega)) (off_slot1 (i 0).val hi t.val ht 10 (by omega)) ?_
  refine step_assume c (chk_tile (hin _ (by have := slot_lt (n := 512 + 16 * t.val + 10) hi (by omega); omega))) ?_
  refine wait_tile c tp tq (ℓ := hM.view.loc (c : Thread nD τ)) OUT (slot (i 0).val) (fun t => htile (tok t)) fs 1024 (512 + 16 * t.val + 10) (by omega) ?_
  refine load_pos c tp tq (slot (i 0).val (512 + 16 * t.val + 11)) (slot_lt hi (by omega)) (off_slot1 (i 0).val hi t.val ht 11 (by omega)) ?_
  refine step_assume c (chk_tile (hin _ (by have := slot_lt (n := 512 + 16 * t.val + 11) hi (by omega); omega))) ?_
  refine wait_tile c tp tq (ℓ := hM.view.loc (c : Thread nD τ)) OUT (slot (i 0).val) (fun t => htile (tok t)) fs 1024 (512 + 16 * t.val + 11) (by omega) ?_
  refine load_pos c tp tq (slot (i 0).val (512 + 16 * t.val + 12)) (slot_lt hi (by omega)) (off_slot1 (i 0).val hi t.val ht 12 (by omega)) ?_
  refine step_assume c (chk_tile (hin _ (by have := slot_lt (n := 512 + 16 * t.val + 12) hi (by omega); omega))) ?_
  refine wait_tile c tp tq (ℓ := hM.view.loc (c : Thread nD τ)) OUT (slot (i 0).val) (fun t => htile (tok t)) fs 1024 (512 + 16 * t.val + 12) (by omega) ?_
  refine load_pos c tp tq (slot (i 0).val (512 + 16 * t.val + 13)) (slot_lt hi (by omega)) (off_slot1 (i 0).val hi t.val ht 13 (by omega)) ?_
  refine step_assume c (chk_tile (hin _ (by have := slot_lt (n := 512 + 16 * t.val + 13) hi (by omega); omega))) ?_
  refine wait_tile c tp tq (ℓ := hM.view.loc (c : Thread nD τ)) OUT (slot (i 0).val) (fun t => htile (tok t)) fs 1024 (512 + 16 * t.val + 13) (by omega) ?_
  refine load_pos c tp tq (slot (i 0).val (512 + 16 * t.val + 14)) (slot_lt hi (by omega)) (off_slot1 (i 0).val hi t.val ht 14 (by omega)) ?_
  refine step_assume c (chk_tile (hin _ (by have := slot_lt (n := 512 + 16 * t.val + 14) hi (by omega); omega))) ?_
  refine wait_tile c tp tq (ℓ := hM.view.loc (c : Thread nD τ)) OUT (slot (i 0).val) (fun t => htile (tok t)) fs 1024 (512 + 16 * t.val + 14) (by omega) ?_
  refine load_pos c tp tq (slot (i 0).val (512 + 16 * t.val + 15)) (slot_lt hi (by omega)) (off_slot1 (i 0).val hi t.val ht 15 (by omega)) ?_
  refine step_assume c (chk_tile (hin _ (by have := slot_lt (n := 512 + 16 * t.val + 15) hi (by omega); omega))) ?_
  refine wait_tile c tp tq (ℓ := hM.view.loc (c : Thread nD τ)) OUT (slot (i 0).val) (fun t => htile (tok t)) fs 1024 (512 + 16 * t.val + 15) (by omega) ?_
  exact Idealize.SL.BI.fupd_intro

end Cert.KernelIdeal.Hand

end
-- ==== Proof.Loops.lean ====
/-
  Hand-written. The six loops of the body, each from its first trip to what follows it.
-/
module

public import proofs.«01_k».proof.Proof.TripsA
public import proofs.«01_k».proof.Proof.TripsB
public import proofs.«01_k».proof.Proof.TripsC

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (tq : S4096.Idx → BitVec 32)

theorem loop1 {α : Type} {Q : α → sProp 𝕄} (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (h1 : k0_cond1 i = 1#1)
    (OUT V0 : S294912x128.Idx → Elt F .f32) (fs : S8x128.Idx → Elt F .f32) (hv : ∀ n, n < 4096 → LandsZ tp tq OUT fs (padSlot n)) {ok} (X : sProp 𝕄) {k : Unit → Prog (TpuEff nD τ sig (Elt F) Λ₀ .tc) α}
    (hk : iprop(Tabs (F := F) c tp tq ∗ Pend c tp tq (ℓ := zM.view.loc (c : Thread nD τ)) V0 padSlot (fun _ => Finset.univ) fs 4096 (4096)
        ∗ Bat c tp tq (cc0_scratch3.sem) (ℓ := zM.view.loc (c : Thread nD τ)) OUT padSlot (fun _ => Finset.univ) fs 4096 (4096) 0 ∗ X) ⊢ Wp c (k ⟨⟩) Q) :
    iprop(Tabs (F := F) c tp tq ∗ Pend c tp tq (ℓ := zM.view.loc (c : Thread nD τ)) V0 padSlot (fun _ => Finset.univ) fs 4096 (0)
        ∗ Bat c tp tq (cc0_scratch3.sem) (ℓ := zM.view.loc (c : Thread nD τ)) OUT padSlot (fun _ => Finset.univ) fs 4096 (0) 0 ∗ X)
      ⊢ Wp c (Scf.Loop.for k0_t1_loop ok ⟨⟩ (k0_t1_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 h1) >>= k) Q := by
  iintro H
  iapply (Scf.wp_for_bind frame (wpE (defs₀ (F := F)) Variants.none (c : Thread nD τ) none) Set.univ _ _ _ ok ⟨⟩
    (k0_t1_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 h1)
    (fun t _ => iprop(Tabs (F := F) c tp tq ∗ Pend c tp tq (ℓ := zM.view.loc (c : Thread nD τ)) V0 padSlot (fun _ => Finset.univ) fs 4096 (16 * t)
        ∗ Bat c tp tq (cc0_scratch3.sem) (ℓ := zM.view.loc (c : Thread nD τ)) OUT padSlot (fun _ => Finset.univ) fs 4096 (16 * t) 0 ∗ X))
    (fun t u => trip1 c tp tq win0 hwin0 win1 hwin1 win2 hwin2 hin i h1 OUT V0 fs hv t u X)) $$ [H]
  · iexact H
  iintro %u H
  iapply hk
  iexact H

theorem loop4 {α : Type} {Q : α → sProp 𝕄} (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (h2 : k0_cond2 i = 1#1)
    (OUT : S294912x128.Idx → Elt F .f32) (fs : S8x128.Idx → Elt F .f32) {ok} (X : sProp 𝕄) {k : Unit → Prog (TpuEff nD τ sig (Elt F) Λ₀ .tc) α}
    (hk : iprop(Tabs (F := F) c tp tq ∗ Bat c tp tq (cc0_scratch3.sem) (ℓ := zM.view.loc (c : Thread nD τ)) OUT padSlot (fun _ => Finset.univ) fs 4096 4096 (4096)
        ∗ Owe (F := F) c ∗ X) ⊢ Wp c (k ⟨⟩) Q) :
    iprop(Tabs (F := F) c tp tq ∗ Bat c tp tq (cc0_scratch3.sem) (ℓ := zM.view.loc (c : Thread nD τ)) OUT padSlot (fun _ => Finset.univ) fs 4096 4096 (0)
        ∗ Owe (F := F) c ∗ X)
      ⊢ Wp c (Scf.Loop.for k0_t4_loop ok ⟨⟩ (k0_t4_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 h2) >>= k) Q := by
  iintro H
  iapply (Scf.wp_for_bind frame (wpE (defs₀ (F := F)) Variants.none (c : Thread nD τ) none) Set.univ _ _ _ ok ⟨⟩
    (k0_t4_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 h2)
    (fun t _ => iprop(Tabs (F := F) c tp tq ∗ Bat c tp tq (cc0_scratch3.sem) (ℓ := zM.view.loc (c : Thread nD τ)) OUT padSlot (fun _ => Finset.univ) fs 4096 4096 (16 * t)
        ∗ Owe (F := F) c ∗ X))
    (fun t u => trip4 c tp tq win0 hwin0 win1 hwin1 win2 hwin2 hin i h2 OUT fs t u X)) $$ [H]
  · iexact H
  iintro %u H
  iapply hk
  iexact H

theorem loop2 {α : Type} {Q : α → sProp 𝕄} (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (w : BitVec 32)
    (OUT V0 : S294912x128.Idx → Elt F .f32) (fs : S4096x128.Idx → Elt F .f32) (hv : ∀ n, n < 1024 → LandsH tp tq OUT fs (slot (i 0).val n) (tok n)) {ok} (X : sProp 𝕄) {k : Unit → Prog (TpuEff nD τ sig (Elt F) Λ₀ .tc) α}
    (hk : iprop(Tabs (F := F) c tp tq ∗ Pend c tp tq (ℓ := hM.view.loc (c : Thread nD τ)) V0 (slot (i 0).val) (fun t => htile (tok t)) fs 1024 (512)
        ∗ Bat c tp tq (cc0_scratch2.sem) (ℓ := hM.view.loc (c : Thread nD τ)) OUT (slot (i 0).val) (fun t => htile (tok t)) fs 1024 (512) 0 ∗ X) ⊢ Wp c (k ⟨⟩) Q) :
    iprop(Tabs (F := F) c tp tq ∗ Pend c tp tq (ℓ := hM.view.loc (c : Thread nD τ)) V0 (slot (i 0).val) (fun t => htile (tok t)) fs 1024 (0)
        ∗ Bat c tp tq (cc0_scratch2.sem) (ℓ := hM.view.loc (c : Thread nD τ)) OUT (slot (i 0).val) (fun t => htile (tok t)) fs 1024 (0) 0 ∗ X)
      ⊢ Wp c (Scf.Loop.for k0_t2_loop ok ⟨⟩ (k0_t2_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w) >>= k) Q := by
  iintro H
  iapply (Scf.wp_for_bind frame (wpE (defs₀ (F := F)) Variants.none (c : Thread nD τ) none) Set.univ _ _ _ ok ⟨⟩
    (k0_t2_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w)
    (fun t _ => iprop(Tabs (F := F) c tp tq ∗ Pend c tp tq (ℓ := hM.view.loc (c : Thread nD τ)) V0 (slot (i 0).val) (fun t => htile (tok t)) fs 1024 (16 * t)
        ∗ Bat c tp tq (cc0_scratch2.sem) (ℓ := hM.view.loc (c : Thread nD τ)) OUT (slot (i 0).val) (fun t => htile (tok t)) fs 1024 (16 * t) 0 ∗ X))
    (fun t u => trip2 c tp tq win0 hwin0 win1 hwin1 win2 hwin2 hin i w OUT V0 fs hv t u X)) $$ [H]
  · iexact H
  iintro %u H
  iapply hk
  iexact H

theorem loop3 {α : Type} {Q : α → sProp 𝕄} (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (w : BitVec 32)
    (OUT V0 : S294912x128.Idx → Elt F .f32) (fs : S4096x128.Idx → Elt F .f32) (hv : ∀ n, n < 1024 → LandsH tp tq OUT fs (slot (i 0).val n) (tok n)) {ok} (X : sProp 𝕄) {k : Unit → Prog (TpuEff nD τ sig (Elt F) Λ₀ .tc) α}
    (hk : iprop(Tabs (F := F) c tp tq ∗ Pend c tp tq (ℓ := hM.view.loc (c : Thread nD τ)) V0 (slot (i 0).val) (fun t => htile (tok t)) fs 1024 (1024)
        ∗ Bat c tp tq (cc0_scratch2.sem) (ℓ := hM.view.loc (c : Thread nD τ)) OUT (slot (i 0).val) (fun t => htile (tok t)) fs 1024 (1024) 0 ∗ X) ⊢ Wp c (k ⟨⟩) Q) :
    iprop(Tabs (F := F) c tp tq ∗ Pend c tp tq (ℓ := hM.view.loc (c : Thread nD τ)) V0 (slot (i 0).val) (fun t => htile (tok t)) fs 1024 (512)
        ∗ Bat c tp tq (cc0_scratch2.sem) (ℓ := hM.view.loc (c : Thread nD τ)) OUT (slot (i 0).val) (fun t => htile (tok t)) fs 1024 (512) 0 ∗ X)
      ⊢ Wp c (Scf.Loop.for k0_t3_loop ok ⟨⟩ (k0_t3_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w) >>= k) Q := by
  iintro H
  iapply (Scf.wp_for_bind frame (wpE (defs₀ (F := F)) Variants.none (c : Thread nD τ) none) Set.univ _ _ _ ok ⟨⟩
    (k0_t3_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w)
    (fun t _ => iprop(Tabs (F := F) c tp tq ∗ Pend c tp tq (ℓ := hM.view.loc (c : Thread nD τ)) V0 (slot (i 0).val) (fun t => htile (tok t)) fs 1024 (512 + 16 * t)
        ∗ Bat c tp tq (cc0_scratch2.sem) (ℓ := hM.view.loc (c : Thread nD τ)) OUT (slot (i 0).val) (fun t => htile (tok t)) fs 1024 (512 + 16 * t) 0 ∗ X))
    (fun t u => trip3 c tp tq win0 hwin0 win1 hwin1 win2 hwin2 hin i w OUT V0 fs hv t u X)) $$ [H]
  · iexact H
  iintro %u H
  iapply hk
  iexact H

theorem loop5 {α : Type} {Q : α → sProp 𝕄} (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (w : BitVec 32)
    (OUT : S294912x128.Idx → Elt F .f32) (fs : S4096x128.Idx → Elt F .f32) {ok} (X : sProp 𝕄) {k : Unit → Prog (TpuEff nD τ sig (Elt F) Λ₀ .tc) α}
    (hk : iprop(Tabs (F := F) c tp tq ∗ Bat c tp tq (cc0_scratch2.sem) (ℓ := hM.view.loc (c : Thread nD τ)) OUT (slot (i 0).val) (fun t => htile (tok t)) fs 1024 1024 (512)
        ∗ Owe (F := F) c ∗ X) ⊢ Wp c (k ⟨⟩) Q) :
    iprop(Tabs (F := F) c tp tq ∗ Bat c tp tq (cc0_scratch2.sem) (ℓ := hM.view.loc (c : Thread nD τ)) OUT (slot (i 0).val) (fun t => htile (tok t)) fs 1024 1024 (0)
        ∗ Owe (F := F) c ∗ X)
      ⊢ Wp c (Scf.Loop.for k0_t5_loop ok ⟨⟩ (k0_t5_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w) >>= k) Q := by
  iintro H
  iapply (Scf.wp_for_bind frame (wpE (defs₀ (F := F)) Variants.none (c : Thread nD τ) none) Set.univ _ _ _ ok ⟨⟩
    (k0_t5_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w)
    (fun t _ => iprop(Tabs (F := F) c tp tq ∗ Bat c tp tq (cc0_scratch2.sem) (ℓ := hM.view.loc (c : Thread nD τ)) OUT (slot (i 0).val) (fun t => htile (tok t)) fs 1024 1024 (16 * t)
        ∗ Owe (F := F) c ∗ X))
    (fun t u => trip5 c tp tq win0 hwin0 win1 hwin1 win2 hwin2 hin i w OUT fs t u X)) $$ [H]
  · iexact H
  iintro %u H
  iapply hk
  iexact H

theorem loop6 {α : Type} {Q : α → sProp 𝕄} (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (w : BitVec 32)
    (OUT : S294912x128.Idx → Elt F .f32) (fs : S4096x128.Idx → Elt F .f32) {ok} (X : sProp 𝕄) {k : Unit → Prog (TpuEff nD τ sig (Elt F) Λ₀ .tc) α}
    (hk : iprop(Tabs (F := F) c tp tq ∗ Bat c tp tq (cc0_scratch2.sem) (ℓ := hM.view.loc (c : Thread nD τ)) OUT (slot (i 0).val) (fun t => htile (tok t)) fs 1024 1024 (1024)
        ∗ Owe (F := F) c ∗ X) ⊢ Wp c (k ⟨⟩) Q) :
    iprop(Tabs (F := F) c tp tq ∗ Bat c tp tq (cc0_scratch2.sem) (ℓ := hM.view.loc (c : Thread nD τ)) OUT (slot (i 0).val) (fun t => htile (tok t)) fs 1024 1024 (512)
        ∗ Owe (F := F) c ∗ X)
      ⊢ Wp c (Scf.Loop.for k0_t6_loop ok ⟨⟩ (k0_t6_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w) >>= k) Q := by
  iintro H
  iapply (Scf.wp_for_bind frame (wpE (defs₀ (F := F)) Variants.none (c : Thread nD τ) none) Set.univ _ _ _ ok ⟨⟩
    (k0_t6_body i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3 w)
    (fun t _ => iprop(Tabs (F := F) c tp tq ∗ Bat c tp tq (cc0_scratch2.sem) (ℓ := hM.view.loc (c : Thread nD τ)) OUT (slot (i 0).val) (fun t => htile (tok t)) fs 1024 1024 (512 + 16 * t)
        ∗ Owe (F := F) c ∗ X))
    (fun t u => trip6 c tp tq win0 hwin0 win1 hwin1 win2 hwin2 hin i w OUT fs t u X)) $$ [H]
  · iexact H
  iintro %u H
  iapply hk
  iexact H

end Cert.KernelIdeal.Hand

end
-- ==== Proof.Body.lean ====
/-
  Hand-written. One grid point: from the windows' blocks, the tables, the two scratches and the block's tiles of the
  result at their first contents to the same with the tiles at their last.
-/
module

public import proofs.«01_k».proof.Proof.Compute
public import proofs.«01_k».proof.Proof.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Transfers (Batch shareTokN shareDrop batch_alloc' batch_collect' pointsTo_toks_range)

variable {F : FTy → Type} [FloatOps F]

local notation "𝕄" => MT nD τ sig Unit (Elt F) ℕ (Pipeline.UD sig nD τ) ℕ

variable (c : Dev nD) (tp : S32768.Idx → BitVec 32) (tq : S4096.Idx → BitVec 32)

/-- `N` tiles of the result, those the slots `sl 0 …` name, holding the contents `f` has there. -/
def Tiles (sl : ℕ → ℕ) (N : ℕ) (f : S294912x128.Idx → Elt F .f32) : sProp 𝕄 :=
  bigSep (Finset.range N) fun n => (xsM.view.loc (c : Thread nD τ) ↦[tile (row tp tq (sl n))]{fullShare} f)

/-- What is kept of a source while the copies of a batch read it: the share beyond the copies', and of every copy's
    share the elements the copy does not read. -/
def Rest {ℓ : Loc nD τ sig} (srcS : ℕ → Finset (Idx ℓ)) (fs : Buf (Elt F) ℓ) (N : ℕ) : sProp 𝕄 :=
  iprop((ℓ ↦[Finset.univ]{shareDrop fullShare N} fs) ∗ bigSep (Finset.range N) fun t => (ℓ ↦[Finset.univ \ srcS t]{shareTokN fullShare t} fs))

theorem sep_swap_le (P R : sProp 𝕄) : iprop(P ∗ R) ⊢ iprop(R ∗ P) := by
  iintro ⟨H, H'⟩
  isplitl [H'] <;> iassumption

theorem sep_swap (P R : sProp 𝕄) : iprop(P ∗ R) = iprop(R ∗ P) :=
  BI.Entails.antisymm (sep_swap_le P R) (sep_swap_le R P)

theorem sep_regroup_le (P R S : sProp 𝕄) : iprop(P ∗ (R ∗ S)) ⊢ iprop((P ∗ R) ∗ S) := by
  iintro ⟨H, H', H''⟩
  isplitl [H H']
  · isplitl [H] <;> iassumption
  · iassumption

theorem sep_regroup_ge (P R S : sProp 𝕄) : iprop((P ∗ R) ∗ S) ⊢ iprop(P ∗ (R ∗ S)) := by
  iintro ⟨⟨H, H'⟩, H''⟩
  isplitl [H]
  · iassumption
  · isplitl [H'] <;> iassumption

theorem sep_regroup (P R S : sProp 𝕄) : iprop(P ∗ (R ∗ S)) = iprop((P ∗ R) ∗ S) :=
  BI.Entails.antisymm (sep_regroup_le P R S) (sep_regroup_ge P R S)

theorem split_source {ℓ : Loc nD τ sig} (srcS : ℕ → Finset (Idx ℓ)) (fs : Buf (Elt F) ℓ) (N : ℕ) :
    (ℓ ↦[Finset.univ]{fullShare} fs : sProp 𝕄)
      = iprop(Rest srcS fs N ∗ bigSep (Finset.range N) fun t => (ℓ ↦[srcS t]{shareTokN fullShare t} fs)) := by
  have h := pointsTo_toks_range (Ix := Unit) (Val := Elt F) (Name := ℕ) (U := Pipeline.UD sig nD τ) (Lvl := ℕ) (ℓ := ℓ) (S := Finset.univ) (f := fs) fullShare N
  have h' : bigSep (Finset.range N) (fun t => (ℓ ↦[Finset.univ]{shareTokN fullShare t} fs : sProp 𝕄))
      = iprop((bigSep (Finset.range N) fun t => (ℓ ↦[Finset.univ \ srcS t]{shareTokN fullShare t} fs))
        ∗ bigSep (Finset.range N) fun t => (ℓ ↦[srcS t]{shareTokN fullShare t} fs)) := by
    rw [← bigSep_sep']
    refine bigSep_congr fun t _ => ?_
    have e := pointsTo_split_subset (Ix := Unit) (Val := Elt F) (Name := ℕ) (U := Pipeline.UD sig nD τ) (Lvl := ℕ) (ℓ := ℓ) (q := shareTokN fullShare t) (f := fs) (Finset.subset_univ (srcS t))
    exact (BI.Entails.antisymm e.1 e.2).trans (sep_swap _ _)
  unfold Rest
  rw [BI.Entails.antisymm h.1 h.2, h']
  exact sep_regroup _ _ _

/-- The start of a batch. -/
theorem open_batch {ℓ : Loc nD τ sig} {sm : DmaSem sig} (OUT V0 : S294912x128.Idx → Elt F .f32) (sl : ℕ → ℕ) (srcS : ℕ → Finset (Idx ℓ))
    (fs : Buf (Elt F) ℓ) (N : ℕ) :
    iprop((ℓ ↦[Finset.univ]{fullShare} fs) ∗ Tiles c tp tq sl N V0 ∗ semVal ((c : Thread nD τ), SemLoc.dma sm) 0)
      ⊢ (|={Set.univ}=> iprop(Pend c tp tq V0 sl srcS fs N 0 ∗ Bat c tp tq sm OUT sl srcS fs N 0 0 ∗ Rest srcS fs N) : sProp 𝕄) := by
  rw [split_source srcS fs N]
  iintro ⟨⟨HR, HS⟩, HT, Hv⟩
  imod (batch_alloc' (EC F) (c := (c : Thread nD τ)) (sm := SemLoc.dma sm) () amt (fun t : Fin N => Deliv c tp tq OUT sl srcS fs t.val) (E := Set.univ)) $$ Hv with HB
  imodintro
  isplitl [HT HS]
  · unfold Pend Tiles
    rw [← Finset.range_eq_Ico, bigSep_sep']
    isplitl [HT]; · iexact HT
    iexact HS
  isplitl [HB]
  · unfold Bat
    rw [Nat.zero_mul]
    iexact HB
  iexact HR

/-- The end of a batch. -/
theorem close_batch {ℓ : Loc nD τ sig} {sm : DmaSem sig} (OUT : S294912x128.Idx → Elt F .f32) (sl : ℕ → ℕ) (srcS : ℕ → Finset (Idx ℓ))
    (fs : Buf (Elt F) ℓ) (N : ℕ) :
    iprop(Bat c tp tq sm OUT sl srcS fs N N N ∗ Rest srcS fs N)
      ⊢ (|={Set.univ}=> iprop((ℓ ↦[Finset.univ]{fullShare} fs) ∗ Tiles c tp tq sl N OUT ∗ semVal ((c : Thread nD τ), SemLoc.dma sm) 0) : sProp 𝕄) := by
  rw [split_source srcS fs N]
  unfold Bat
  rw [Nat.mul_comm N amt]
  iintro ⟨HB, HR⟩
  imod (batch_collect' (EC F) (c : Thread nD τ) amt_pos) $$ HB with ⟨HD, Hv⟩
  imodintro
  ihave HD' := (show bigSep Finset.univ (fun t : Fin N => Deliv c tp tq OUT sl srcS fs t.val)
      ⊢ (iprop(Tiles c tp tq sl N OUT ∗ bigSep (Finset.range N) fun t => (ℓ ↦[srcS t]{shareTokN fullShare t} fs)) : sProp 𝕄)
    from Entails.of_eq (by
      rw [Ring.bigSep_fin_eq_range N _ (fun t => Deliv c tp tq OUT sl srcS fs t) (fun t h => rfl)]
      unfold Tiles Deliv
      rw [bigSep_sep'])) $$ HD
  icases HD' with ⟨HT, HS⟩
  isplitl [HR HS]
  · isplitl [HR]; · iexact HR
    iexact HS
  isplitl [HT]; · iexact HT
  iexact Hv

end Cert.KernelIdeal.Hand

end
-- ==== Proof.Slots.lean ====
/-
  Hand-written. The slots as a numbering of the result's row tiles: with the two tables together a permutation, the whole
  result is the tiles of the 32 blocks' copies and of the padding copies; and the contents the copies leave.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Transfers (Batch shareTokN shareDrop batch_alloc' batch_collect' pointsTo_toks_range)

variable {F : FTy → Type} [FloatOps F]

local notation "𝕄" => MT nD τ sig Unit (Elt F) ℕ (Pipeline.UD sig nD τ) ℕ

variable (c : Dev nD) (tp : S32768.Idx → BitVec 32) (tq : S4096.Idx → BitVec 32)

/-- The tables name every row tile of the result exactly once. -/
structure Perm : Prop where
  inb : Inb tp tq
  inj : ∀ p q, p < 36864 → q < 36864 → row tp tq p = row tp tq q → p = q

variable {tp tq}

theorem Perm.image (h : Perm tp tq) : (Finset.range 36864).image (row tp tq) = Finset.range 36864 := by
  refine Finset.eq_of_subset_of_card_le (fun r hr => ?_) ?_
  · obtain ⟨p, hp, rfl⟩ := Finset.mem_image.mp hr
    exact Finset.mem_range.mpr (h.inb p (Finset.mem_range.mp hp))
  · rw [Finset.card_image_of_injOn]
    intro p hp q hq e
    exact h.inj p q (Finset.mem_range.mp hp) (Finset.mem_range.mp hq) e

/-- The slots, block by block, then the padding's. -/
theorem slots_eq : (Finset.range 36864) = ((Finset.range 32).biUnion fun b => (Finset.range 1024).image (slot b)) ∪ (Finset.range 4096).image padSlot := by
  ext p
  simp only [Finset.mem_range, Finset.mem_union, Finset.mem_biUnion, Finset.mem_image]
  constructor
  · intro hp
    by_cases h1 : p < 16384
    · refine Or.inl ⟨p / 512, by omega, p % 512, by omega, ?_⟩
      unfold slot; rw [if_pos (by omega)]; omega
    · by_cases h2 : p < 32768
      · refine Or.inl ⟨(p - 16384) / 512, by omega, 512 + (p - 16384) % 512, by omega, ?_⟩
        unfold slot; rw [if_neg (by omega)]; omega
      · refine Or.inr ⟨p - 32768, by omega, ?_⟩
        unfold padSlot; omega
  · rintro (⟨b, hb, n, hn, rfl⟩ | ⟨n, hn, rfl⟩)
    · have := slot_lt hb hn; omega
    · unfold padSlot; omega

/-- The block and copy a slot is. -/
theorem slot_block {i n : ℕ} (hi : i < 32) (hn : n < 1024) : slot i n % 16384 / 512 = i ∧ slot i n % 512 = tok n ∧ (slot i n < 16384 ↔ n < 512) := by
  unfold slot tok
  split <;> refine ⟨by omega, by omega, by omega⟩

theorem slot_inj {i j n m : ℕ} (hi : i < 32) (hj : j < 32) (hn : n < 1024) (hm : m < 1024) (e : slot i n = slot j m) : i = j ∧ n = m := by
  obtain ⟨a, b, d⟩ := slot_block hi hn
  obtain ⟨a', b', d'⟩ := slot_block hj hm
  rw [e] at a b d
  have hij : i = j := a.symm.trans a'
  refine ⟨hij, ?_⟩
  have ht : tok n = tok m := b.symm.trans b'
  have hc : n < 512 ↔ m < 512 := d.symm.trans d'
  unfold tok at ht
  split at ht <;> split at ht <;> omega

/-- A sum over a union of sets, any two of them apart, is the sum of the sums. -/
theorem sum_parts (s : Finset ℕ) (t : ℕ → Finset ℕ) (hd : ∀ i ∈ s, ∀ j ∈ s, i ≠ j → Disjoint (t i) (t j)) (B : ℕ → sProp 𝕄) :
    bigSep (s.biUnion t) B = bigSep s fun j => bigSep (t j) B := by
  induction s using Finset.induction_on with
  | empty => rw [Finset.biUnion_empty, bigSep_empty, bigSep_empty]
  | insert j s hj ih =>
    rw [Finset.biUnion_insert, bigSep_insert hj, bigSep_union, ih fun i hi k hk => hd i (Finset.mem_insert_of_mem hi) k (Finset.mem_insert_of_mem hk)]
    rw [Finset.disjoint_biUnion_right]
    exact fun i hi => hd j (Finset.mem_insert_self _ _) i (Finset.mem_insert_of_mem hi) fun e => hj (e ▸ hi)

theorem bigSep_slots (B : ℕ → sProp 𝕄) :
    bigSep (Finset.range 36864) B
      = iprop((bigSep (Finset.range 32) fun b => bigSep (Finset.range 1024) fun n => B (slot b n)) ∗ bigSep (Finset.range 4096) fun n => B (padSlot n)) := by
  have hpair : ∀ b ∈ Finset.range 32, ∀ b' ∈ Finset.range 32, b ≠ b' →
      Disjoint ((Finset.range 1024).image (slot b)) ((Finset.range 1024).image (slot b')) := by
    intro b hb b' hb' hne
    rw [Finset.disjoint_left]
    intro p hp hp'
    obtain ⟨n, hn, rfl⟩ := Finset.mem_image.mp hp
    obtain ⟨m, hm, e⟩ := Finset.mem_image.mp hp'
    exact hne (slot_inj (Finset.mem_range.mp hb') (Finset.mem_range.mp hb) (Finset.mem_range.mp hm) (Finset.mem_range.mp hn) e).1.symm
  have hdis : Disjoint ((Finset.range 32).biUnion fun b => (Finset.range 1024).image (slot b)) ((Finset.range 4096).image padSlot) := by
    rw [Finset.disjoint_left]
    intro p hp hp'
    obtain ⟨b, hb, hp⟩ := Finset.mem_biUnion.mp hp
    obtain ⟨n, hn, rfl⟩ := Finset.mem_image.mp hp
    obtain ⟨m, hm, e⟩ := Finset.mem_image.mp hp'
    have := slot_lt (Finset.mem_range.mp hb) (Finset.mem_range.mp hn)
    unfold padSlot at e; omega
  rw [slots_eq]
  refine (bigSep_union hdis).trans (congrArg₂ (fun P R : sProp 𝕄 => iprop(P ∗ R)) ((sum_parts _ _ hpair B).trans ?_) ?_)
  · refine bigSep_congr fun b hb => ?_
    rw [bigSep_image_of_injOn]
    intro n hn m hm e
    exact (slot_inj (Finset.mem_range.mp hb) (Finset.mem_range.mp hb) (Finset.mem_range.mp hn) (Finset.mem_range.mp hm) e).2
  · rw [bigSep_image_of_injOn]
    intro n hn m hm e
    unfold padSlot at e; omega

theorem tiles_univ : (Finset.range 36864).biUnion tile = (Finset.univ : Finset S294912x128.Idx) := by
  ext x
  simp only [Finset.mem_biUnion, Finset.mem_range, Finset.mem_univ, iff_true]
  have h0 : (x 0).val < 294912 := (x 0).isLt
  exact ⟨(x 0).val / 8, by omega, mem_tile.mpr rfl⟩

/-- The whole result, at one contents, as the tiles of the blocks' copies and of the padding's. -/
theorem result_tiles (h : Perm tp tq) (f : S294912x128.Idx → Elt F .f32) :
    (xsM.view.loc (c : Thread nD τ) ↦[Finset.univ]{fullShare} f : sProp 𝕄)
      = iprop((bigSep (Finset.range 32) fun b => Tiles c tp tq (slot b) 1024 f) ∗ Tiles c tp tq padSlot 4096 f) := by
  have e1 : (xsM.view.loc (c : Thread nD τ) ↦[Finset.univ]{fullShare} f : sProp 𝕄)
      = bigSep (Finset.range 36864) fun r => (xsM.view.loc (c : Thread nD τ) ↦[tile r]{fullShare} f) := by
    rw [← tiles_univ]
    exact pointsTo_biUnion (ℓ := xsM.view.loc (c : Thread nD τ)) (Finset.range 36864) tile fun _ _ _ _ hne => tile_disjoint hne
  have e2 : bigSep (Finset.range 36864) (fun r => (xsM.view.loc (c : Thread nD τ) ↦[tile r]{fullShare} f : sProp 𝕄))
      = bigSep (Finset.range 36864) fun p => (xsM.view.loc (c : Thread nD τ) ↦[tile (row tp tq p)]{fullShare} f) := by
    conv_lhs => rw [← h.image]
    rw [bigSep_image_of_injOn]
    intro p hp q hq e
    exact h.inj p q (Finset.mem_range.mp hp) (Finset.mem_range.mp hq) e
  rw [e1, e2, bigSep_slots]
  rfl

/-! ## The contents the copies leave -/

open Classical in
variable (tp tq) in
/-- The slot whose tile is row tile `r`. -/
def slotOf (r : ℕ) : ℕ := if h : ∃ p, p < 36864 ∧ row tp tq p = r then h.choose else 0

theorem slotOf_row (h : Perm tp tq) {p : ℕ} (hp : p < 36864) : slotOf tp tq (row tp tq p) = p := by
  have hex : ∃ q, q < 36864 ∧ row tp tq q = row tp tq p := ⟨p, hp, rfl⟩
  unfold slotOf
  rw [dif_pos hex]
  exact h.inj _ _ hex.choose_spec.1 hp hex.choose_spec.2

/-- Row `r` of the tile scratch, number `a`. -/
abbrev ixH (r a : ℕ) (hr : r < 4096) (ha : a < 128) : S4096x128.Idx := fun k => ⟨(![r, a] : Fin 2 → ℕ) k, by fin_cases k; exacts [hr, ha]⟩

variable (tp tq) in
/-- The contents the copies leave: on slot `p`'s tile the block's token, on a padding slot's the number `z`. -/
def outOf (H : ℕ → S4096x128.Idx → Elt F .f32) (z : Elt F .f32) : S294912x128.Idx → Elt F .f32 := fun x =>
  if slotOf tp tq ((x 0).val / 8) < 32768 then
    H (slotOf tp tq ((x 0).val / 8) % 16384 / 512)
      (ixH (8 * (slotOf tp tq ((x 0).val / 8) % 512) + (x 0).val % 8) (x 1).val (by omega) (x 1).isLt)
  else z

theorem lands_h (h : Perm tp tq) (H : ℕ → S4096x128.Idx → Elt F .f32) (z : Elt F .f32) {i n : ℕ} (hi : i < 32) (hn : n < 1024) :
    LandsH tp tq (outOf tp tq H z) (H i) (slot i n) (tok n) := by
  intro x x' hr h0 h1
  obtain ⟨a, b, -⟩ := slot_block hi hn
  have hl := slot_lt hi hn
  have hs : slotOf tp tq ((x 0).val / 8) = slot i n := by rw [hr, slotOf_row h (by omega)]
  unfold outOf
  rw [if_pos (by rw [hs]; exact hl)]
  have key : ∀ s, s = slot i n → ∀ hb, H (s % 16384 / 512) (ixH (8 * (s % 512) + (x 0).val % 8) (x 1).val hb (x 1).isLt) = H i x' := by
    intro s e hb
    subst e
    rw [a]
    refine congrArg (H i) (funext fun k => Fin.ext ?_)
    fin_cases k
    · show 8 * (slot i n % 512) + (x 0).val % 8 = (x' 0).val
      rw [b, h0]
    · exact h1.symm
  exact key _ hs _

theorem lands_z (h : Perm tp tq) (H : ℕ → S4096x128.Idx → Elt F .f32) (z : Elt F .f32) (fs : S8x128.Idx → Elt F .f32) (hz : ∀ y, fs y = z) {n : ℕ} (hn : n < 4096) :
    LandsZ tp tq (outOf tp tq H z) fs (padSlot n) := by
  intro x x' hr
  have hs : slotOf tp tq ((x 0).val / 8) = padSlot n := by rw [hr, slotOf_row h (by unfold padSlot; omega)]
  unfold outOf
  rw [if_neg (by rw [hs]; unfold padSlot; omega), hz]

end Cert.KernelIdeal.Hand

end
-- ==== Proof.Pre.lean ====
/-
  Hand-written. The precondition read: the two tables, one after the other, sort to 0, 1, 2, …, so together they name every
  row tile of the result once.
-/
module

public import proofs.«01_k».proof.Proof.Slots
public import proofs.«01_k».proof.Proof.Gen.Pre_rows_permuted
public import Idealize.ShloMosaic.Lib.ReduceAll
public import Idealize.ShloMosaic.Lib.SortFacts
public import Idealize.ShloMosaic.Lib.Pipeline.Value

@[expose] public section

noncomputable section

namespace Cert.KernelIdeal.Hand

open Cert.KernelIdeal Cert.KernelIdeal.Gen
open Idealize.ShloMosaic Idealize.ShloMosaic.TcCoe

/-- The tables joined, the first then the second. -/
def joined (tp : S32768.Idx → BitVec 32) (tq : S4096.Idx → BitVec 32) : (⟨1, ![36864]⟩ : Shape).Idx → BitVec 32 :=
  concatenate (⟨1, ![36864]⟩ : Shape) 0 [⟨S32768, tp⟩, ⟨S4096, tq⟩] Cert.Pre_rows_permuted.Gen.concatenates_S32768_S4096_S36864_d0

/-- Element `p` of the joined tables is slot `p`'s word. -/
theorem joined_word (tp : S32768.Idx → BitVec 32) (tq : S4096.Idx → BitVec 32) (p : Fin 36864) :
    joined tp tq (Shape.Idx.ofFin p) = word tp tq p.val := by
  unfold joined
  by_cases h : p.val < 32768
  · rw [word_pos _ h]
    refine concatenate_pair_apply_left (0 : Fin 1) tp tq _ (Shape.Idx.ofFin p) rfl (ixP p.val h) ?_
    intro b
    rfl
  · have e : word tp tq p.val = tq (ixQ (p.val - 32768) (by have := p.isLt; omega)) := by
      have := word_pad (tp := tp) (tq := tq) (p.val - 32768) (by have := p.isLt; omega)
      rwa [show 32768 + (p.val - 32768) = p.val by omega] at this
    rw [e]
    refine concatenate_pair_apply_right (0 : Fin 1) tp tq _ (Shape.Idx.ofFin p) rfl rfl (ixQ (p.val - 32768) (by have := p.isLt; omega)) ?_ ?_
    · intro b hb
      exact absurd (Subsingleton.elim (α := Fin 1) b _) hb
    · show (p.val - 32768) + 32768 = p.val
      omega

/-- Two words compare equal only if they are. -/
theorem eq_of_cmpi {a b : BitVec 32} (h : IntOp.cmpi .eq a b = 1#1) : a = b := by
  by_contra hne
  have e : (a == b) = false := beq_eq_false_iff_ne.mpr hne
  have h' : BitVec.ofBool (a == b) = 1#1 := h
  rw [e] at h'
  exact absurd h' (by decide)

/-- The precondition makes the two tables a numbering of the row tiles. -/
theorem perm_of_pre {F : FTy → Type} [FloatOps F] (tp : S32768.Idx → BitVec 32) (tq : S4096.Idx → BitVec 32)
    (x2 : FVec F S16384x1024 .f32) (md : FVec F S8x6144 .f32) (g2 : FVec F S1x1024 .f32)
    (h : Cert.Pre_rows_permuted.fn tp tq x2 md g2 = fun _ => 1#1) : Perm tp tq := by
  have hs : ∀ j, Host.sort ⟨1, ![36864]⟩ 0 Cert.Pre_rows_permuted.comparator_i32_d0 (joined tp tq) j = iotaInDim ⟨1, ![36864]⟩ 32 0 j := by
    intro j
    have e := congrFun h (Shape.Idx.first Cert.Pre_rows_permuted.Gen.h_S_)
    haveI : Subsingleton Cert.Pre_rows_permuted.S_.Idx := ⟨fun a b => funext fun x => x.elim0⟩
    have e' := Host.reduce_andi_all _ _ _ _ _ e j
    exact eq_of_cmpi e'
  have hinj := injective_toNat_of_sort_eq_iota (n := 36864) (w := 32) (by decide) _ (joined tp tq) hs
  refine ⟨?_, ?_⟩
  · intro p hp
    obtain ⟨k, hk⟩ := sortedFrom_surjective (fun k k' => Cert.Pre_rows_permuted.comparator_i32_d0 (joined tp tq (Shape.Idx.ofFin k)) (joined tp tq (Shape.Idx.ofFin k')) == 1#1) (⟨p, hp⟩ : Fin 36864)
    have e := hs (Shape.Idx.ofFin k)
    rw [Host.sort_rank1, Shape.Idx.ofFin_zero, hk, joined_word] at e
    unfold row
    rw [e]
    show (BitVec.ofNat 32 k.val).toNat < 36864
    rw [BitVec.toNat_ofNat]
    have := k.isLt
    omega
  · intro p q hp hq e
    have := hinj (a₁ := Shape.Idx.ofFin ⟨p, hp⟩) (a₂ := Shape.Idx.ofFin ⟨q, hq⟩) (by
      show (joined tp tq _).toNat = (joined tp tq _).toNat
      rw [joined_word, joined_word]; exact e)
    have := congrArg (fun i => (i 0).val) this
    exact this

end Cert.KernelIdeal.Hand

end
-- ==== Proof.Same.lean ====
/-
  Hand-written. The printed program and the idealized one have one text, so their body tables are the same at any float instance.
-/
module

public import proofs.«01_k».proof.Proof.Gen.Kernel
public import proofs.«01_k».proof.Proof.Gen.KernelIdeal

@[expose] public section

noncomputable section

namespace Cert.Hand

open Idealize.ShloMosaic

variable {F : FTy → Type} [FloatOps F]

set_option maxHeartbeats 4000000 in
/-- The kernel's body. -/
theorem body_same : (Cert.Kernel.cc0_dispatch (F := F)) = (Cert.KernelIdeal.cc0_dispatch (F := F)) := rfl

set_option maxHeartbeats 4000000 in
/-- The kernels' body tables. -/
theorem table_same : (Cert.Kernel.defs₀ (F := F)) = (Cert.KernelIdeal.defs₀ (F := F)) := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _
  | ⟨_ + 1, h⟩, _ => exact absurd h (Nat.not_lt.2 (Nat.le_add_left _ _))

set_option maxHeartbeats 4000000 in
/-- The body tables with the pipelines. -/
theorem defs_same : (Cert.Kernel.defs (F := F)) = (Cert.KernelIdeal.defs (F := F)) := by
  unfold Cert.Kernel.defs Cert.KernelIdeal.defs
  exact congrArg (Pipeline.defs Cert.KernelIdeal.pcfgs) table_same

end Cert.Hand

end
-- ==== Proof.Point.lean ====
/-
  Hand-written. One grid point as a whole: the first one, which also writes the padding tiles, and any later one.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Transfers (Batch shareTokN shareDrop batch_alloc' batch_collect' pointsTo_toks_range)

variable {F : FTy → Type} [FloatOps F]

local notation "𝕄" => MT nD τ sig Unit (Elt F) ℕ (Pipeline.UD sig nD τ) ℕ

variable (c : Dev nD) (tp : S32768.Idx → BitVec 32) (tq : S4096.Idx → BitVec 32)

/-- The store of a whole token, read back. -/
theorem write_z (f w : S8x128.Idx → Elt F .f32) (x : S8x128.Idx) :
    (zM.access (Rect.unit (s := S8x128) ![0, 0] S8x128.size inb_S8x128_S8x128_0_0)).write (Elt F) f w Finset.univ x = w x := by
  have ey : (Rect.unit (s := S8x128) ![0, 0] S8x128.size inb_S8x128_S8x128_0_0).emb x = x := by
    funext a
    apply Fin.ext
    rw [emb_unit_val]
    fin_cases a <;> exact Nat.zero_add _
  have := View.write_emb_of_mem (v := zM.access (Rect.unit (s := S8x128) ![0, 0] S8x128.size inb_S8x128_S8x128_0_0))
    (Val := Elt F) f w (M := Finset.univ) (Finset.mem_univ x)
  rwa [show (zM.access (Rect.unit (s := S8x128) ![0, 0] S8x128.size inb_S8x128_S8x128_0_0)).emb x = x from ey] at this

/-- A program that has returned. -/
theorem wp_done (R : sProp 𝕄) : R ⊢ Wp c (.ret PUnit.unit : Prog (TpuEff nD τ sig (Elt F) Λ₀ .tc) PUnit) (fun _ => R) :=
  Idealize.SL.BI.fupd_intro

/-- The zero store of the first grid point: the token of zeros. -/
theorem store_z {α : Type} {Q : α → sProp 𝕄} {hx hm}
    {k : PUnit → Prog (TpuEff nD τ sig (Elt F) Λ₀ .tc) α} {R : sProp 𝕄}
    (hk : iprop((zM.view.loc (c : Thread nD τ) ↦[Finset.univ]{fullShare} (k0_pay1 (F := F))) ∗ R) ⊢ Wp c (k ⟨⟩) Q) :
    iprop((∃ f, zM.view.loc (c : Thread nD τ) ↦[Finset.univ]{fullShare} f) ∗ R)
      ⊢ Wp c (Prog.lift (.store zM (Rect.unit (s := S8x128) ![0, 0] S8x128.size inb_S8x128_S8x128_0_0) (k0_pay1 (F := F)) Finset.univ hx hm) >>= k) Q := by
  iintro ⟨⟨%f, HM⟩, HR⟩
  iapply (wp_store Variants.none (c : Thread nD τ) none Set.univ (m := zM)
    (r := Rect.unit (s := S8x128) ![0, 0] S8x128.size inb_S8x128_S8x128_0_0) (Mk := Finset.univ) (Finset.subset_univ _)) $$ HM
  iintro HM
  iapply hk
  isplitl [HM]
  · iapply (Entails.of_eq (pointsTo_congr (I := Finset.univ) fun x _ => write_z f (k0_pay1 (F := F)) x))
    iexact HM
  · iexact HR

/-- A load of the token scratch whose value is not used. -/
theorem load_z {α : Type} {Q : α → sProp 𝕄} {r : LoadRect S8x128} {hl}
    {k : (r.shape.Idx → Elt F .f32) → Prog (TpuEff nD τ sig (Elt F) Λ₀ .tc) α} {R : sProp 𝕄}
    (hk : ∀ w, iprop((∃ f, zM.view.loc (c : Thread nD τ) ↦[Finset.univ]{fullShare} f) ∗ R) ⊢ Wp c (k w) Q) :
    iprop((∃ f, zM.view.loc (c : Thread nD τ) ↦[Finset.univ]{fullShare} f) ∗ R) ⊢ Wp c (Prog.lift (.load zM r hl) >>= k) Q := by
  iintro ⟨⟨%f, HM⟩, HR⟩
  iapply (wp_load Variants.none (c : Thread nD τ) none Set.univ (m := zM) (r := r) (Finset.subset_univ _)) $$ HM
  iintro HM
  iapply (hk _)
  isplitl [HM]
  · iexists f
    iexact HM
  · iexact HR

/-- What a grid point holds besides its tiles: the tables, its windows, the scratches, the two semaphores at zero. -/
def Held (win0 : Memref sig .tc .vmem S512x1024 .f32) (win1 : Memref sig .tc .vmem S8x6144 .f32) (win2 : Memref sig .tc .vmem S1x1024 .f32)
    (X : S512x1024.Idx → Elt F .f32) (M : S8x6144.Idx → Elt F .f32) (G : S1x1024.Idx → Elt F .f32) : sProp 𝕄 :=
  iprop(Tabs (F := F) c tp tq ∗ Wins c win0 win1 win2 X M G
    ∗ (∃ f, hM.view.loc (c : Thread nD τ) ↦[Finset.univ]{fullShare} f) ∗ (∃ f, zM.view.loc (c : Thread nD τ) ↦[Finset.univ]{fullShare} f)
    ∗ semVal ((c : Thread nD τ), SemLoc.dma cc0_scratch2.sem) 0 ∗ semVal ((c : Thread nD τ), SemLoc.dma cc0_scratch3.sem) 0 ∗ Owe (F := F) c)

/-- The first grid point. -/
theorem point_first (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (h0 : (i 0).val = 0) (hc1 : k0_cond1 i = 1#1) (hc2 : k0_cond2 i = 1#1)
    (X : S512x1024.Idx → Elt F .f32) (M : S8x6144.Idx → Elt F .f32) (G : S1x1024.Idx → Elt F .f32)
    (OUT V0 : S294912x128.Idx → Elt F .f32)
    (hvH : ∀ n, n < 1024 → LandsH tp tq OUT (Hbuf (blockV i X M G)) (slot (i 0).val n) (tok n))
    (hvZ : ∀ n, n < 4096 → LandsZ tp tq OUT (k0_pay1 (F := F)) (padSlot n)) :
    iprop(Held c tp tq win0 win1 win2 X M G ∗ Tiles c tp tq (slot (i 0).val) 1024 V0 ∗ Tiles c tp tq padSlot 4096 V0)
      ⊢ Wp c (cc0_dispatch (F := F) i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3)
        (fun _ => iprop(Held c tp tq win0 win1 win2 X M G ∗ Tiles c tp tq (slot (i 0).val) 1024 OUT ∗ Tiles c tp tq padSlot 4096 OUT)) := by
  rw [cc0_dispatch_eq_skeleton]
  unfold cc0_dispatch_skel Held
  simp only [dif_pos hc1, dif_pos hc2, Prog.bind_assoc, Prog.pure_eq_ret, Prog.bind_ret]
  iintro ⟨⟨HT, HW, ⟨%f, HH⟩, HZ, Hs2, Hs3, HO⟩, HTl, HTz⟩
  iapply (part31 c win0 hwin0 win1 hwin1 win2 hwin2 i X M G (R := iprop(Tabs (F := F) c tp tq ∗ (hM.view.loc (c : Thread nD τ) ↦[Finset.univ]{fullShare} f) ∗ (∃ f, zM.view.loc (c : Thread nD τ) ↦[Finset.univ]{fullShare} f) ∗ semVal ((c : Thread nD τ), SemLoc.dma cc0_scratch2.sem) 0 ∗ semVal ((c : Thread nD τ), SemLoc.dma cc0_scratch3.sem) 0 ∗ Owe (F := F) c ∗ Tiles c tp tq (slot (i 0).val) 1024 V0 ∗ Tiles c tp tq padSlot 4096 V0)) ?_) $$ [HW HT HH HZ Hs2 Hs3 HO HTl HTz]
  swap
  · isplitl [HW]; · iexact HW
    isplitl [HT]; · iexact HT
    isplitl [HH]; · iexact HH
    isplitl [HZ]; · iexact HZ
    isplitl [Hs2]; · iexact Hs2
    isplitl [Hs3]; · iexact Hs3
    isplitl [HO]; · iexact HO
    isplitl [HTl]; · iexact HTl
    iexact HTz
  iintro ⟨HW, HT, HH, HZ, Hs2, Hs3, HO, HTl, HTz⟩
  ihave HH := Scr_start c (blockV i X M G) f $$ HH
  iapply (part32 c win0 hwin0 win1 hwin1 win2 hwin2 i _ (blockV i X M G) (R := iprop(Wins c win0 win1 win2 X M G ∗ Tabs (F := F) c tp tq ∗ (∃ f, zM.view.loc (c : Thread nD τ) ↦[Finset.univ]{fullShare} f) ∗ semVal ((c : Thread nD τ), SemLoc.dma cc0_scratch2.sem) 0 ∗ semVal ((c : Thread nD τ), SemLoc.dma cc0_scratch3.sem) 0 ∗ Owe (F := F) c ∗ Tiles c tp tq (slot (i 0).val) 1024 V0 ∗ Tiles c tp tq padSlot 4096 V0)) ?_) $$ [HH HW HT HZ Hs2 Hs3 HO HTl HTz]
  swap
  · isplitl [HH]; · iexact HH
    isplitl [HW]; · iexact HW
    isplitl [HT]; · iexact HT
    isplitl [HZ]; · iexact HZ
    isplitl [Hs2]; · iexact Hs2
    isplitl [Hs3]; · iexact Hs3
    isplitl [HO]; · iexact HO
    isplitl [HTl]; · iexact HTl
    iexact HTz
  iintro ⟨HH, HW, HT, HZ, Hs2, Hs3, HO, HTl, HTz⟩
  ihave HH := Scr_full c (blockV i X M G) $$ HH
  iapply (load_z c (R := iprop((hM.view.loc (c : Thread nD τ) ↦[Finset.univ]{fullShare} (Hbuf (blockV i X M G))) ∗ Wins c win0 win1 win2 X M G ∗ Tabs (F := F) c tp tq ∗ semVal ((c : Thread nD τ), SemLoc.dma cc0_scratch2.sem) 0 ∗ semVal ((c : Thread nD τ), SemLoc.dma cc0_scratch3.sem) 0 ∗ Owe (F := F) c ∗ Tiles c tp tq (slot (i 0).val) 1024 V0 ∗ Tiles c tp tq padSlot 4096 V0)) ?_) $$ [HZ HH HW HT Hs2 Hs3 HO HTl HTz]
  swap
  · isplitl [HZ]; · iexact HZ
    isplitl [HH]; · iexact HH
    isplitl [HW]; · iexact HW
    isplitl [HT]; · iexact HT
    isplitl [Hs2]; · iexact Hs2
    isplitl [Hs3]; · iexact Hs3
    isplitl [HO]; · iexact HO
    isplitl [HTl]; · iexact HTl
    iexact HTz
  intro _
  refine store_z c ?_
  iintro ⟨HZ, HH, HW, HT, Hs2, Hs3, HO, HTl, HTz⟩
  imod (open_batch c tp tq (ℓ := zM.view.loc (c : Thread nD τ)) (sm := cc0_scratch3.sem) OUT V0 padSlot (fun _ => Finset.univ) (k0_pay1 (F := F)) 4096) $$ [HZ HTz Hs3] with ⟨HPz, HBz, HRz⟩
  · isplitl [HZ]; · iexact HZ
    isplitl [HTz]; · iexact HTz
    iexact Hs3
  iapply (loop1 c tp tq win0 hwin0 win1 hwin1 win2 hwin2 hin i hc1 OUT V0 (k0_pay1 (F := F)) hvZ (X := iprop(Rest (ℓ := zM.view.loc (c : Thread nD τ)) (fun _ => Finset.univ) (k0_pay1 (F := F)) 4096 ∗ (hM.view.loc (c : Thread nD τ) ↦[Finset.univ]{fullShare} (Hbuf (blockV i X M G))) ∗ Wins c win0 win1 win2 X M G ∗ semVal ((c : Thread nD τ), SemLoc.dma cc0_scratch2.sem) 0 ∗ Owe (F := F) c ∗ Tiles c tp tq (slot (i 0).val) 1024 V0)) ?_) $$ [HT HPz HBz HRz HH HW Hs2 HO HTl]
  swap
  · isplitl [HT]; · iexact HT
    isplitl [HPz]; · iexact HPz
    isplitl [HBz]; · iexact HBz
    isplitl [HRz]; · iexact HRz
    isplitl [HH]; · iexact HH
    isplitl [HW]; · iexact HW
    isplitl [Hs2]; · iexact Hs2
    isplitl [HO]; · iexact HO
    iexact HTl
  iintro ⟨HT, -, HBz, HRz, HH, HW, Hs2, HO, HTl⟩
  imod (open_batch c tp tq (ℓ := hM.view.loc (c : Thread nD τ)) (sm := cc0_scratch2.sem) OUT V0 (slot (i 0).val) (fun t => htile (tok t)) (Hbuf (blockV i X M G)) 1024) $$ [HH HTl Hs2] with ⟨HPh, HBh, HRh⟩
  · isplitl [HH]; · iexact HH
    isplitl [HTl]; · iexact HTl
    iexact Hs2
  iapply (loop2 c tp tq win0 hwin0 win1 hwin1 win2 hwin2 hin i _ OUT V0 (Hbuf (blockV i X M G)) hvH (X := iprop(Rest (ℓ := hM.view.loc (c : Thread nD τ)) (fun t => htile (tok t)) (Hbuf (blockV i X M G)) 1024 ∗ Rest (ℓ := zM.view.loc (c : Thread nD τ)) (fun _ => Finset.univ) (k0_pay1 (F := F)) 4096 ∗ Bat c tp tq cc0_scratch3.sem (ℓ := zM.view.loc (c : Thread nD τ)) OUT padSlot (fun _ => Finset.univ) (k0_pay1 (F := F)) 4096 4096 0 ∗ Wins c win0 win1 win2 X M G ∗ Owe (F := F) c)) ?_) $$ [HT HPh HBh HRh HRz HBz HW HO]
  swap
  · isplitl [HT]; · iexact HT
    isplitl [HPh]; · iexact HPh
    isplitl [HBh]; · iexact HBh
    isplitl [HRh]; · iexact HRh
    isplitl [HRz]; · iexact HRz
    isplitl [HBz]; · iexact HBz
    isplitl [HW]; · iexact HW
    iexact HO
  iintro ⟨HT, HPh, HBh, HRh, HRz, HBz, HW, HO⟩
  iapply (loop3 c tp tq win0 hwin0 win1 hwin1 win2 hwin2 hin i _ OUT V0 (Hbuf (blockV i X M G)) hvH (X := iprop(Rest (ℓ := hM.view.loc (c : Thread nD τ)) (fun t => htile (tok t)) (Hbuf (blockV i X M G)) 1024 ∗ Rest (ℓ := zM.view.loc (c : Thread nD τ)) (fun _ => Finset.univ) (k0_pay1 (F := F)) 4096 ∗ Bat c tp tq cc0_scratch3.sem (ℓ := zM.view.loc (c : Thread nD τ)) OUT padSlot (fun _ => Finset.univ) (k0_pay1 (F := F)) 4096 4096 0 ∗ Wins c win0 win1 win2 X M G ∗ Owe (F := F) c)) ?_) $$ [HT HPh HBh HRh HRz HBz HW HO]
  swap
  · isplitl [HT]; · iexact HT
    isplitl [HPh]; · iexact HPh
    isplitl [HBh]; · iexact HBh
    isplitl [HRh]; · iexact HRh
    isplitl [HRz]; · iexact HRz
    isplitl [HBz]; · iexact HBz
    isplitl [HW]; · iexact HW
    iexact HO
  iintro ⟨HT, -, HBh, HRh, HRz, HBz, HW, HO⟩
  iapply (loop4 c tp tq win0 hwin0 win1 hwin1 win2 hwin2 hin i hc2 OUT (k0_pay1 (F := F)) (X := iprop(Bat c tp tq cc0_scratch2.sem (ℓ := hM.view.loc (c : Thread nD τ)) OUT (slot (i 0).val) (fun t => htile (tok t)) (Hbuf (blockV i X M G)) 1024 1024 0 ∗ Rest (ℓ := hM.view.loc (c : Thread nD τ)) (fun t => htile (tok t)) (Hbuf (blockV i X M G)) 1024 ∗ Rest (ℓ := zM.view.loc (c : Thread nD τ)) (fun _ => Finset.univ) (k0_pay1 (F := F)) 4096 ∗ Wins c win0 win1 win2 X M G)) ?_) $$ [HT HBz HO HBh HRh HRz HW]
  swap
  · isplitl [HT]; · iexact HT
    isplitl [HBz]; · iexact HBz
    isplitl [HO]; · iexact HO
    isplitl [HBh]; · iexact HBh
    isplitl [HRh]; · iexact HRh
    isplitl [HRz]; · iexact HRz
    iexact HW
  iintro ⟨HT, HBz, HO, HBh, HRh, HRz, HW⟩
  imod (close_batch c tp tq (ℓ := zM.view.loc (c : Thread nD τ)) (sm := cc0_scratch3.sem) OUT padSlot (fun _ => Finset.univ) (k0_pay1 (F := F)) 4096) $$ [HBz HRz] with ⟨HZ, HTz, Hs3⟩
  · isplitl [HBz]; · iexact HBz
    iexact HRz
  iapply (loop5 c tp tq win0 hwin0 win1 hwin1 win2 hwin2 hin i _ OUT (Hbuf (blockV i X M G)) (X := iprop(Rest (ℓ := hM.view.loc (c : Thread nD τ)) (fun t => htile (tok t)) (Hbuf (blockV i X M G)) 1024 ∗ (zM.view.loc (c : Thread nD τ) ↦[Finset.univ]{fullShare} (k0_pay1 (F := F))) ∗ Tiles c tp tq padSlot 4096 OUT ∗ semVal ((c : Thread nD τ), SemLoc.dma cc0_scratch3.sem) 0 ∗ Wins c win0 win1 win2 X M G)) ?_) $$ [HT HBh HO HRh HZ HTz Hs3 HW]
  swap
  · isplitl [HT]; · iexact HT
    isplitl [HBh]; · iexact HBh
    isplitl [HO]; · iexact HO
    isplitl [HRh]; · iexact HRh
    isplitl [HZ]; · iexact HZ
    isplitl [HTz]; · iexact HTz
    isplitl [Hs3]; · iexact Hs3
    iexact HW
  iintro ⟨HT, HBh, HO, HRh, HZ, HTz, Hs3, HW⟩
  iapply (loop6 c tp tq win0 hwin0 win1 hwin1 win2 hwin2 hin i _ OUT (Hbuf (blockV i X M G)) (X := iprop(Rest (ℓ := hM.view.loc (c : Thread nD τ)) (fun t => htile (tok t)) (Hbuf (blockV i X M G)) 1024 ∗ (zM.view.loc (c : Thread nD τ) ↦[Finset.univ]{fullShare} (k0_pay1 (F := F))) ∗ Tiles c tp tq padSlot 4096 OUT ∗ semVal ((c : Thread nD τ), SemLoc.dma cc0_scratch3.sem) 0 ∗ Wins c win0 win1 win2 X M G)) ?_) $$ [HT HBh HO HRh HZ HTz Hs3 HW]
  swap
  · isplitl [HT]; · iexact HT
    isplitl [HBh]; · iexact HBh
    isplitl [HO]; · iexact HO
    isplitl [HRh]; · iexact HRh
    isplitl [HZ]; · iexact HZ
    isplitl [HTz]; · iexact HTz
    isplitl [Hs3]; · iexact Hs3
    iexact HW
  iintro ⟨HT, HBh, HO, HRh, HZ, HTz, Hs3, HW⟩
  imod (close_batch c tp tq (ℓ := hM.view.loc (c : Thread nD τ)) (sm := cc0_scratch2.sem) OUT (slot (i 0).val) (fun t => htile (tok t)) (Hbuf (blockV i X M G)) 1024) $$ [HBh HRh] with ⟨HH, HTl, Hs2⟩
  · isplitl [HBh]; · iexact HBh
    iexact HRh
  iapply (wp_done c _)
  isplitl [HT HW HH HZ Hs2 Hs3 HO]
  · isplitl [HT]; · iexact HT
    isplitl [HW]; · iexact HW
    isplitl [HH]; · (iexists _; iexact HH)
    isplitl [HZ]; · (iexists _; iexact HZ)
    isplitl [Hs2]; · iexact Hs2
    isplitl [Hs3]; · iexact Hs3
    iexact HO
  isplitl [HTl]; · iexact HTl
  iexact HTz

/-- A later grid point. -/
theorem point_later (win0 : Memref sig .tc .vmem S512x1024 .f32) (hwin0 : win0.IsWhole) (win1 : Memref sig .tc .vmem S8x6144 .f32) (hwin1 : win1.IsWhole)
    (win2 : Memref sig .tc .vmem S1x1024 .f32) (hwin2 : win2.IsWhole)
    (hin : Inb tp tq) (i : grid0.Coords) (h0 : (i 0).val ≠ 0) (hc1 : k0_cond1 i ≠ 1#1) (hc2 : k0_cond2 i ≠ 1#1)
    (X : S512x1024.Idx → Elt F .f32) (M : S8x6144.Idx → Elt F .f32) (G : S1x1024.Idx → Elt F .f32)
    (OUT V0 : S294912x128.Idx → Elt F .f32)
    (hvH : ∀ n, n < 1024 → LandsH tp tq OUT (Hbuf (blockV i X M G)) (slot (i 0).val n) (tok n)) :
    iprop(Held c tp tq win0 win1 win2 X M G ∗ Tiles c tp tq (slot (i 0).val) 1024 V0)
      ⊢ Wp c (cc0_dispatch (F := F) i posM (Memref.isWhole_whole _) padM (Memref.isWhole_whole _) win0 hwin0 win1 hwin1 win2 hwin2 xsM (Memref.isWhole_whole _)
        hM (Memref.isWhole_whole _) zM (Memref.isWhole_whole _) cc0_scratch2 cc0_scratch3)
        (fun _ => iprop(Held c tp tq win0 win1 win2 X M G ∗ Tiles c tp tq (slot (i 0).val) 1024 OUT)) := by
  rw [cc0_dispatch_eq_skeleton]
  unfold cc0_dispatch_skel Held
  simp only [dif_neg hc1, dif_neg hc2, Prog.bind_assoc, Prog.pure_eq_ret, Prog.bind_ret]
  iintro ⟨⟨HT, HW, ⟨%f, HH⟩, HZ, Hs2, Hs3, HO⟩, HTl⟩
  iapply (part31 c win0 hwin0 win1 hwin1 win2 hwin2 i X M G (R := iprop(Tabs (F := F) c tp tq ∗ (hM.view.loc (c : Thread nD τ) ↦[Finset.univ]{fullShare} f) ∗ (∃ f, zM.view.loc (c : Thread nD τ) ↦[Finset.univ]{fullShare} f) ∗ semVal ((c : Thread nD τ), SemLoc.dma cc0_scratch2.sem) 0 ∗ semVal ((c : Thread nD τ), SemLoc.dma cc0_scratch3.sem) 0 ∗ Owe (F := F) c ∗ Tiles c tp tq (slot (i 0).val) 1024 V0)) ?_) $$ [HW HT HH HZ Hs2 Hs3 HO HTl]
  swap
  · isplitl [HW]; · iexact HW
    isplitl [HT]; · iexact HT
    isplitl [HH]; · iexact HH
    isplitl [HZ]; · iexact HZ
    isplitl [Hs2]; · iexact Hs2
    isplitl [Hs3]; · iexact Hs3
    isplitl [HO]; · iexact HO
    iexact HTl
  iintro ⟨HW, HT, HH, HZ, Hs2, Hs3, HO, HTl⟩
  ihave HH := Scr_start c (blockV i X M G) f $$ HH
  iapply (part32 c win0 hwin0 win1 hwin1 win2 hwin2 i _ (blockV i X M G) (R := iprop(Wins c win0 win1 win2 X M G ∗ Tabs (F := F) c tp tq ∗ (∃ f, zM.view.loc (c : Thread nD τ) ↦[Finset.univ]{fullShare} f) ∗ semVal ((c : Thread nD τ), SemLoc.dma cc0_scratch2.sem) 0 ∗ semVal ((c : Thread nD τ), SemLoc.dma cc0_scratch3.sem) 0 ∗ Owe (F := F) c ∗ Tiles c tp tq (slot (i 0).val) 1024 V0)) ?_) $$ [HH HW HT HZ Hs2 Hs3 HO HTl]
  swap
  · isplitl [HH]; · iexact HH
    isplitl [HW]; · iexact HW
    isplitl [HT]; · iexact HT
    isplitl [HZ]; · iexact HZ
    isplitl [Hs2]; · iexact Hs2
    isplitl [Hs3]; · iexact Hs3
    isplitl [HO]; · iexact HO
    iexact HTl
  iintro ⟨HH, HW, HT, HZ, Hs2, Hs3, HO, HTl⟩
  ihave HH := Scr_full c (blockV i X M G) $$ HH
  imod (open_batch c tp tq (ℓ := hM.view.loc (c : Thread nD τ)) (sm := cc0_scratch2.sem) OUT V0 (slot (i 0).val) (fun t => htile (tok t)) (Hbuf (blockV i X M G)) 1024) $$ [HH HTl Hs2] with ⟨HPh, HBh, HRh⟩
  · isplitl [HH]; · iexact HH
    isplitl [HTl]; · iexact HTl
    iexact Hs2
  iapply (loop2 c tp tq win0 hwin0 win1 hwin1 win2 hwin2 hin i _ OUT V0 (Hbuf (blockV i X M G)) hvH (X := iprop(Rest (ℓ := hM.view.loc (c : Thread nD τ)) (fun t => htile (tok t)) (Hbuf (blockV i X M G)) 1024 ∗ (∃ f, zM.view.loc (c : Thread nD τ) ↦[Finset.univ]{fullShare} f) ∗ semVal ((c : Thread nD τ), SemLoc.dma cc0_scratch3.sem) 0 ∗ Wins c win0 win1 win2 X M G ∗ Owe (F := F) c)) ?_) $$ [HT HPh HBh HRh HZ Hs3 HW HO]
  swap
  · isplitl [HT]; · iexact HT
    isplitl [HPh]; · iexact HPh
    isplitl [HBh]; · iexact HBh
    isplitl [HRh]; · iexact HRh
    isplitl [HZ]; · iexact HZ
    isplitl [Hs3]; · iexact Hs3
    isplitl [HW]; · iexact HW
    iexact HO
  iintro ⟨HT, HPh, HBh, HRh, HZ, Hs3, HW, HO⟩
  iapply (loop3 c tp tq win0 hwin0 win1 hwin1 win2 hwin2 hin i _ OUT V0 (Hbuf (blockV i X M G)) hvH (X := iprop(Rest (ℓ := hM.view.loc (c : Thread nD τ)) (fun t => htile (tok t)) (Hbuf (blockV i X M G)) 1024 ∗ (∃ f, zM.view.loc (c : Thread nD τ) ↦[Finset.univ]{fullShare} f) ∗ semVal ((c : Thread nD τ), SemLoc.dma cc0_scratch3.sem) 0 ∗ Wins c win0 win1 win2 X M G ∗ Owe (F := F) c)) ?_) $$ [HT HPh HBh HRh HZ Hs3 HW HO]
  swap
  · isplitl [HT]; · iexact HT
    isplitl [HPh]; · iexact HPh
    isplitl [HBh]; · iexact HBh
    isplitl [HRh]; · iexact HRh
    isplitl [HZ]; · iexact HZ
    isplitl [Hs3]; · iexact Hs3
    isplitl [HW]; · iexact HW
    iexact HO
  iintro ⟨HT, -, HBh, HRh, HZ, Hs3, HW, HO⟩
  iapply (loop5 c tp tq win0 hwin0 win1 hwin1 win2 hwin2 hin i _ OUT (Hbuf (blockV i X M G)) (X := iprop(Rest (ℓ := hM.view.loc (c : Thread nD τ)) (fun t => htile (tok t)) (Hbuf (blockV i X M G)) 1024 ∗ (∃ f, zM.view.loc (c : Thread nD τ) ↦[Finset.univ]{fullShare} f) ∗ semVal ((c : Thread nD τ), SemLoc.dma cc0_scratch3.sem) 0 ∗ Wins c win0 win1 win2 X M G)) ?_) $$ [HT HBh HO HRh HZ Hs3 HW]
  swap
  · isplitl [HT]; · iexact HT
    isplitl [HBh]; · iexact HBh
    isplitl [HO]; · iexact HO
    isplitl [HRh]; · iexact HRh
    isplitl [HZ]; · iexact HZ
    isplitl [Hs3]; · iexact Hs3
    iexact HW
  iintro ⟨HT, HBh, HO, HRh, HZ, Hs3, HW⟩
  iapply (loop6 c tp tq win0 hwin0 win1 hwin1 win2 hwin2 hin i _ OUT (Hbuf (blockV i X M G)) (X := iprop(Rest (ℓ := hM.view.loc (c : Thread nD τ)) (fun t => htile (tok t)) (Hbuf (blockV i X M G)) 1024 ∗ (∃ f, zM.view.loc (c : Thread nD τ) ↦[Finset.univ]{fullShare} f) ∗ semVal ((c : Thread nD τ), SemLoc.dma cc0_scratch3.sem) 0 ∗ Wins c win0 win1 win2 X M G)) ?_) $$ [HT HBh HO HRh HZ Hs3 HW]
  swap
  · isplitl [HT]; · iexact HT
    isplitl [HBh]; · iexact HBh
    isplitl [HO]; · iexact HO
    isplitl [HRh]; · iexact HRh
    isplitl [HZ]; · iexact HZ
    isplitl [Hs3]; · iexact Hs3
    iexact HW
  iintro ⟨HT, HBh, HO, HRh, HZ, Hs3, HW⟩
  imod (close_batch c tp tq (ℓ := hM.view.loc (c : Thread nD τ)) (sm := cc0_scratch2.sem) OUT (slot (i 0).val) (fun t => htile (tok t)) (Hbuf (blockV i X M G)) 1024) $$ [HBh HRh] with ⟨HH, HTl, Hs2⟩
  · isplitl [HBh]; · iexact HBh
    iexact HRh
  iapply (wp_done c _)
  isplitl [HT HW HH HZ Hs2 Hs3 HO]
  · isplitl [HT]; · iexact HT
    isplitl [HW]; · iexact HW
    isplitl [HH]; · (iexists _; iexact HH)
    isplitl [HZ]; · iexact HZ
    isplitl [Hs2]; · iexact Hs2
    isplitl [Hs3]; · iexact Hs3
    iexact HO
  iexact HTl

end Cert.KernelIdeal.Hand

end
-- ==== Proof.Run.lean ====
/-
  Hand-written. The run: the invariant between grid points (the blocks done hold the final contents, the others what the
  result held at the start), the body at a point, and the launch: every argument unchanged, the result at its final contents,
  every semaphore at zero. For any float values.
-/
module

public import proofs.«01_k».proof.Proof.Point
public import proofs.«01_k».proof.Proof.Slots
public import proofs.«01_k».proof.Proof.Gen.KernelIdeal.Launch
public import Idealize.ShloMosaic.Lib.Pipeline.FrameBody
public import Idealize.ShloMosaic.Lib.Pipeline.Quiescent

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run starts from -/

abbrev V (c : Dev nD) (b : Ref sig .tc) : Buf (Elt F) ((c : Thread nD τ).loc b) := m ((c : Thread nD τ).loc b)

/-- The first table's words. -/
abbrev tabP (c : Dev nD) : S32768.Idx → BitVec 32 := V m c main_arg0
/-- The second table's words. -/
abbrev tabQ (c : Dev nD) : S4096.Idx → BitVec 32 := V m c main_arg1

/-- The tables as the region reads them. -/
def adm : (p : Fin 1) → (pcfgs (F := F) p).Adm := fun _ => ⟨fun k => m (((0 : Dev nD) : Thread nD τ).loc (pre0.ref k)), trivial⟩

/-- Grid point `b`. -/
def pt (b : ℕ) : Fin grid0.N := ⟨b % 32, by rw [N_0]; omega⟩

theorem t_lt (t : Fin grid0.N) : t.val < 32 := lt_of_lt_of_eq t.isLt N_0

theorem pt_val (t : Fin grid0.N) : pt t.val = t := by
  have := t_lt t
  exact Fin.ext (Nat.mod_eq_of_lt this)

/-- A grid point's only coordinate is its number. -/
theorem coord (t : Fin grid0.N) : (grid0.coords t 0).val = t.val := by
  rw [Pipeline.Grid.coords_val (G := grid0) t 0 (S := 1) (B := 32) (by decide) rfl]
  have := t_lt t
  omega

theorem cond_iff (i : grid0.Coords) (hi : (i 0).val < 32) : k0_cond1 i = 1#1 ↔ (i 0).val = 0 := by
  have key : ∀ n : Fin 32, (Scalar.cmpi .ne (Scalar.extui (Scalar.cmpi .eq (BitVec.ofNat 32 n.val) 0#32) : BitVec 32) 0#32 = 1#1 ↔ n.val = 0) := by decide
  exact key ⟨(i 0).val, hi⟩

theorem cond_iff' (i : grid0.Coords) (hi : (i 0).val < 32) : k0_cond2 i = 1#1 ↔ (i 0).val = 0 := cond_iff i hi

/-! ## The windows' contents -/

/-- What window `w` holds at point `t`: its block of the array. -/
def blkAt (c : Dev nD) (w : Fin 3) (t : Fin grid0.N) : (((cfg0 (adm m 0)).win w).xblock (grid0.coords t)).Idx → Elt F ((cfg0 (adm m 0)).win w).elt :=
  (((cfg0 (adm m 0)).win w).blk t).view.read (Elt F) (V m c (Pipeline.arrRef spec0 w))

abbrev Xw (c : Dev nD) (t : Fin grid0.N) : S512x1024.Idx → Elt F .f32 := blkAt m c 0 t
abbrev Mw (c : Dev nD) (t : Fin grid0.N) : S8x6144.Idx → Elt F .f32 := blkAt m c 1 t
abbrev Gw (c : Dev nD) (t : Fin grid0.N) : S1x1024.Idx → Elt F .f32 := blkAt m c 2 t

/-- Block `b`'s rows, as the scratch holds them. -/
def Hof (c : Dev nD) (b : ℕ) : S4096x128.Idx → Elt F .f32 :=
  Hbuf (blockV (grid0.coords (pt b)) (Xw m c (pt b)) (Mw m c (pt b)) (Gw m c (pt b)))

/-- The number the padding tiles hold. -/
def zeroE : Elt F .f32 := Scalar.ofBits .f32 0x00000000#32

/-- What the result holds at the end. -/
def OUT (c : Dev nD) : S294912x128.Idx → Elt F .f32 := outOf (tabP m c) (tabQ m c) (Hof m c) zeroE

/-! ## Between grid points -/

/-- Before point `n`: the tables, the scratches, the semaphores at zero; the tiles of the blocks done at their final contents. -/
def Phi (c : Dev nD) (n : ℕ) : sProp 𝕄 :=
  iprop(Tabs (F := F) c (tabP m c) (tabQ m c)
    ∗ (∃ f, hM.view.loc (c : Thread nD τ) ↦[Finset.univ]{fullShare} f) ∗ (∃ f, zM.view.loc (c : Thread nD τ) ↦[Finset.univ]{fullShare} f)
    ∗ semVal ((c : Thread nD τ), SemLoc.dma cc0_scratch2.sem) 0 ∗ semVal ((c : Thread nD τ), SemLoc.dma cc0_scratch3.sem) 0
    ∗ (bigSep (Finset.range 32) fun b => Tiles c (tabP m c) (tabQ m c) (slot b) 1024 (if b < n then OUT m c else V m c main_v0))
    ∗ Tiles c (tabP m c) (tabQ m c) padSlot 4096 (if 0 < n then OUT m c else V m c main_v0))

/-- The proof data of the one pipeline. -/
def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => Xw m c t
    | ⟨1, _⟩ => Mw m c t
    | ⟨2, _⟩ => Gw m c t
    | ⟨_ + 3, h⟩ => absurd h (Nat.not_lt.2 (Nat.le_add_left _ _))
  Φ t := Phi m c t.val
  q _ := fullShare
  owed _ := 0

abbrev cfgm : Cfg sig Λ₀ := cfg0 (F := F) (adm m 0)

theorem before_0 (c : Dev nD) (t : Fin grid0.N) (d) : (dats m 0 c).before (0 : Fin 3) t d = Xw m c t :=
  (Dat.before_in_eq_fetched (dats m 0 c) (0 : Fin 3) rfl (fun _ => rfl) (fun _ _ _ => rfl) (fun _ => rfl) t d).trans rfl
theorem before_1 (c : Dev nD) (t : Fin grid0.N) (d) : (dats m 0 c).before (1 : Fin 3) t d = Mw m c t :=
  (Dat.before_in_eq_fetched (dats m 0 c) (1 : Fin 3) rfl (fun _ => rfl) (fun _ _ _ => rfl) (fun _ => rfl) t d).trans rfl
theorem before_2 (c : Dev nD) (t : Fin grid0.N) (d) : (dats m 0 c).before (2 : Fin 3) t d = Gw m c t :=
  (Dat.before_in_eq_fetched (dats m 0 c) (2 : Fin 3) rfl (fun _ => rfl) (fun _ _ _ => rfl) (fun _ => rfl) t d).trans rfl

/-! ## The body at a point -/

abbrev ms0_0 (t : Fin grid0.N) : Memref sig .tc .vmem S512x1024 .f32 := spec0_0.stage ((cfgm m).slots t (0 : Fin 3))
abbrev ms0_1 (t : Fin grid0.N) : Memref sig .tc .vmem S8x6144 .f32 := spec0_1.stage ((cfgm m).slots t (1 : Fin 3))
abbrev ms0_2 (t : Fin grid0.N) : Memref sig .tc .vmem S1x1024 .f32 := spec0_2.stage ((cfgm m).slots t (2 : Fin 3))

def bodyAt (t : Fin grid0.N) : Prog (TpuEff nD τ sig (Elt F) Λ₀ .tc) PUnit :=
  cc0_dispatch (F := F) (grid0.coords t) posM (Memref.isWhole_whole _) padM (Memref.isWhole_whole _)
    (ms0_0 m t) (hstage0_0 (((cfgm m).slots t (0 : Fin 3)).cast nbuf0_0)) (ms0_1 m t) (hstage0_1 (((cfgm m).slots t (1 : Fin 3)).cast nbuf0_1))
    (ms0_2 m t) (hstage0_2 (((cfgm m).slots t (2 : Fin 3)).cast nbuf0_2)) xsM (Memref.isWhole_whole _)
    hM (Memref.isWhole_whole _) zM (Memref.isWhole_whole _) cc0_scratch2 cc0_scratch3

theorem defs₀_row (t : Fin grid0.N) :
    defs₀ (F := F) .tc (cfgm m).body ((cfgm m).bodyArgs t ((cfgm m).slots t)) = bodyAt m t := by
  unfold defs₀; rw [Defs.onTc_tc]; rfl

/-- What is held of block `t`'s tiles apart from the other blocks'. -/
theorem peel (c : Dev nD) (n : ℕ) (hn : n < 32) (f : ℕ → S294912x128.Idx → Elt F .f32) :
    (bigSep (Finset.range 32) fun b => Tiles c (tabP m c) (tabQ m c) (slot b) 1024 (f b) : sProp 𝕄)
      = iprop(Tiles c (tabP m c) (tabQ m c) (slot n) 1024 (f n)
          ∗ bigSep ((Finset.range 32).erase n) fun b => Tiles c (tabP m c) (tabQ m c) (slot b) 1024 (f b)) :=
  bigSep_erase (Finset.mem_range.mpr hn)

theorem rest_same (c : Dev nD) (n : ℕ) :
    (bigSep ((Finset.range 32).erase n) fun b => Tiles c (tabP m c) (tabQ m c) (slot b) 1024 (if b < n then OUT m c else V m c main_v0) : sProp 𝕄)
      = bigSep ((Finset.range 32).erase n) fun b => Tiles c (tabP m c) (tabQ m c) (slot b) 1024 (if b < n + 1 then OUT m c else V m c main_v0) := by
  refine bigSep_congr fun b hb => ?_
  have hne : b ≠ n := Finset.ne_of_mem_erase hb
  have e : (b < n) = (b < n + 1) := propext (by omega)
  simp only [e]

def bodyPre (c : Dev nD) (t : Fin grid0.N) : sProp 𝕄 :=
  iprop((dats m 0 c).Φ t.castSucc ∗ (dats m 0 c).owesAt () t.castSucc
    ∗ (∃ d, owns (c : Thread nD τ) (ms0_0 m t) fullShare ((dats m 0 c).before (0 : Fin 3) t d))
    ∗ (∃ d, owns (c : Thread nD τ) (ms0_1 m t) fullShare ((dats m 0 c).before (1 : Fin 3) t d))
    ∗ (∃ d, owns (c : Thread nD τ) (ms0_2 m t) fullShare ((dats m 0 c).before (2 : Fin 3) t d)))
def bodyPost (c : Dev nD) (t : Fin grid0.N) : sProp 𝕄 :=
  iprop((dats m 0 c).Φ t.succ ∗ (dats m 0 c).owesAt () t.succ
    ∗ owns (c : Thread nD τ) (ms0_0 m t) fullShare ((dats m 0 c).after (0 : Fin 3) t)
    ∗ owns (c : Thread nD τ) (ms0_1 m t) fullShare ((dats m 0 c).after (1 : Fin 3) t)
    ∗ owns (c : Thread nD τ) (ms0_2 m t) fullShare ((dats m 0 c).after (2 : Fin 3) t))

/-- The tiles a block copies to get the final contents. -/
theorem lands_point (c : Dev nD) (h : Perm (tabP m c) (tabQ m c)) (t : Fin grid0.N) (n : ℕ) (hn : n < 1024) :
    LandsH (tabP m c) (tabQ m c) (OUT m c) (Hbuf (blockV (grid0.coords t) (Xw m c t) (Mw m c t) (Gw m c t))) (slot (grid0.coords t 0).val n) (tok n) := by
  have ht : t.val < 32 := t_lt t
  have := lands_h h (Hof m c) zeroE ht hn
  unfold Hof at this
  rw [pt_val] at this
  rw [coord]
  exact this

theorem lands_pad (c : Dev nD) (h : Perm (tabP m c) (tabQ m c)) (n : ℕ) (hn : n < 4096) :
    LandsZ (tabP m c) (tabQ m c) (OUT m c) (k0_pay1 (F := F)) (padSlot n) :=
  lands_z h (Hof m c) zeroE (k0_pay1 (F := F)) (fun _ => rfl) hn

theorem sound_body (c : Dev nD) (h : Perm (tabP m c) (tabQ m c)) (t : Fin grid0.N) :
    bodyPre m c t ⊢ wp frame (wpE (defs₀ (F := F)) Variants.none c none) Set.univ (bodyAt m t) (fun _ => bodyPost m c t) := by
  have ht : t.val < 32 := t_lt t
  unfold bodyPre bodyPost
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  rw [show (dats m 0 c).after (0 : Fin 3) t = Xw m c t from rfl, show (dats m 0 c).after (1 : Fin 3) t = Mw m c t from rfl, show (dats m 0 c).after (2 : Fin 3) t = Gw m c t from rfl]
  simp only [before_0, before_1, before_2]
  unfold Phi
  rw [peel m c t.val ht, peel m c t.val ht (fun b => if b < t.val + 1 then OUT m c else V m c main_v0), ← rest_same m c t.val]
  simp only [if_neg (lt_irrefl t.val), if_pos (Nat.lt_succ_self t.val), if_pos (Nat.succ_pos t.val)]
  by_cases h0 : t.val = 0
  · rw [if_neg (by omega)]
    have hp := point_first c (tabP m c) (tabQ m c) (ms0_0 m t) (hstage0_0 (((cfgm m).slots t (0 : Fin 3)).cast nbuf0_0)) (ms0_1 m t) (hstage0_1 (((cfgm m).slots t (1 : Fin 3)).cast nbuf0_1))
      (ms0_2 m t) (hstage0_2 (((cfgm m).slots t (2 : Fin 3)).cast nbuf0_2)) h.inb (grid0.coords t) (by rw [coord]; exact h0)
      ((cond_iff _ (by rw [coord]; exact ht)).mpr (by rw [coord]; exact h0)) ((cond_iff' _ (by rw [coord]; exact ht)).mpr (by rw [coord]; exact h0))
      (Xw m c t) (Mw m c t) (Gw m c t) (OUT m c) (V m c main_v0) (fun n hn => lands_point m c h t n hn) (fun n hn => lands_pad m c h n hn)
    rw [coord] at hp
    iintro ⟨⟨HT, HH, HZ, Hs2, Hs3, ⟨HTl, HTr⟩, HTz⟩, ⟨%W, -, HW⟩, ⟨%d0, Hw0⟩, ⟨%d1, Hw1⟩, ⟨%d2, Hw2⟩⟩
    iapply (wp_wand_r frame (wpE (defs₀ (F := F)) Variants.none (c : Thread nD τ) none) Set.univ)
    isplitl [HT HH HZ Hs2 Hs3 HTl HTz HW Hw0 Hw1 Hw2]
    · iapply hp
      unfold Held Wins Owe
      isplitl [HT HH HZ Hs2 Hs3 HW Hw0 Hw1 Hw2]
      · isplitl [HT]; · iexact HT
        isplitl [Hw0 Hw1 Hw2]
        · isplitl [Hw0]; · iexact Hw0
          isplitl [Hw1]; · iexact Hw1
          iexact Hw2
        isplitl [HH]; · iexact HH
        isplitl [HZ]; · iexact HZ
        isplitl [Hs2]; · iexact Hs2
        isplitl [Hs3]; · iexact Hs3
        iexists W; iexact HW
      isplitl [HTl]; · iexact HTl
      iexact HTz
    · unfold Held Wins Owe
      iintro %u ⟨⟨HT, ⟨Hw0, Hw1, Hw2⟩, HH, HZ, Hs2, Hs3, ⟨%W', HW⟩⟩, HTl, HTz⟩
      isplitl [HT HH HZ Hs2 Hs3 HTl HTz HTr]
      · isplitl [HT]; · iexact HT
        isplitl [HH]; · iexact HH
        isplitl [HZ]; · iexact HZ
        isplitl [Hs2]; · iexact Hs2
        isplitl [Hs3]; · iexact Hs3
        isplitl [HTl HTr]
        · isplitl [HTl]; · iexact HTl
          iexact HTr
        iexact HTz
      isplitl [HW]
      · iexists W'; isplitr; · ipureintro; exact fun _ _ => Or.inl trivial
        iexact HW
      isplitl [Hw0]; · iexact Hw0
      isplitl [Hw1]; · iexact Hw1
      iexact Hw2
  · rw [if_pos (by omega)]
    have hp := point_later c (tabP m c) (tabQ m c) (ms0_0 m t) (hstage0_0 (((cfgm m).slots t (0 : Fin 3)).cast nbuf0_0)) (ms0_1 m t) (hstage0_1 (((cfgm m).slots t (1 : Fin 3)).cast nbuf0_1))
      (ms0_2 m t) (hstage0_2 (((cfgm m).slots t (2 : Fin 3)).cast nbuf0_2)) h.inb (grid0.coords t) (by rw [coord]; exact h0)
      (fun e => h0 (by rw [← coord]; exact (cond_iff _ (by rw [coord]; exact ht)).mp e)) (fun e => h0 (by rw [← coord]; exact (cond_iff' _ (by rw [coord]; exact ht)).mp e))
      (Xw m c t) (Mw m c t) (Gw m c t) (OUT m c) (V m c main_v0) (fun n hn => lands_point m c h t n hn)
    rw [coord] at hp
    iintro ⟨⟨HT, HH, HZ, Hs2, Hs3, ⟨HTl, HTr⟩, HTz⟩, ⟨%W, -, HW⟩, ⟨%d0, Hw0⟩, ⟨%d1, Hw1⟩, ⟨%d2, Hw2⟩⟩
    iapply (wp_wand_r frame (wpE (defs₀ (F := F)) Variants.none (c : Thread nD τ) none) Set.univ)
    isplitl [HT HH HZ Hs2 Hs3 HTl HW Hw0 Hw1 Hw2]
    · iapply hp
      unfold Held Wins Owe
      isplitl [HT HH HZ Hs2 Hs3 HW Hw0 Hw1 Hw2]
      · isplitl [HT]; · iexact HT
        isplitl [Hw0 Hw1 Hw2]
        · isplitl [Hw0]; · iexact Hw0
          isplitl [Hw1]; · iexact Hw1
          iexact Hw2
        isplitl [HH]; · iexact HH
        isplitl [HZ]; · iexact HZ
        isplitl [Hs2]; · iexact Hs2
        isplitl [Hs3]; · iexact Hs3
        iexists W; iexact HW
      iexact HTl
    · unfold Held Wins Owe
      iintro %u ⟨⟨HT, ⟨Hw0, Hw1, Hw2⟩, HH, HZ, Hs2, Hs3, ⟨%W', HW⟩⟩, HTl⟩
      isplitl [HT HH HZ Hs2 Hs3 HTl HTz HTr]
      · isplitl [HT]; · iexact HT
        isplitl [HH]; · iexact HH
        isplitl [HZ]; · iexact HZ
        isplitl [Hs2]; · iexact Hs2
        isplitl [Hs3]; · iexact Hs3
        isplitl [HTl HTr]
        · isplitl [HTl]; · iexact HTl
          iexact HTr
        iexact HTz
      isplitl [HW]
      · iexists W'; isplitr; · ipureintro; exact fun _ _ => Or.inl trivial
        iexact HW
      isplitl [Hw0]; · iexact Hw0
      isplitl [Hw1]; · iexact Hw1
      iexact Hw2

theorem body_obligation (c : Dev nD) (h : Perm (tabP m c) (tabQ m c)) : BodyObligation (dats (F := F) m 0 c) (defs₀ (F := F)) Variants.none () Set.univ := fun t => by
  rw [bigSep_W0, bigSep_W0, defs₀_row]
  exact triple_restated (sound_body m c h t) rfl .rfl fun _ => .rfl

/-! ## The launch -/

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

abbrev osem0 : Fin 2 → SemLoc sig := fun j => (![SemLoc.dma cc0_scratch2.sem, SemLoc.dma cc0_scratch3.sem] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch2.sem) 0 ∗ semVal ((c : Thread nD τ), SemLoc.dma cc0_scratch3.sem) 0) := by
  rw [Pipeline.ownSems0_eq_of_list c osem0 [0, 1] (by decide) (by decide)]; rfl

theorem prefHeld_eq (c : Dev nD) (q : PosShare TreeShare) (W : pre0.Contents (Elt F)) :
    (Pipeline.prefHeld (Ix := Unit) (Name := ℕ) (U := Pipeline.UD sig nD τ) (Lvl := ℕ) (Val := Elt F) pre0 c (fun _ => q) W : sProp 𝕄)
      = iprop((((c : Thread nD τ).loc main_arg0) ↦{q} W (0 : Fin 2)) ∗ (((c : Thread nD τ).loc main_arg1) ↦{q} W (1 : Fin 2))) := by
  unfold Pipeline.prefHeld
  rw [bigSep_univ_eq_bigSepL [(0 : Fin 2), (1 : Fin 2)] (by decide) (by decide)]; rfl

/-- Before the first point the result is as the run found it; -/
theorem Phi_start (c : Dev nD) (h : Perm (tabP m c) (tabQ m c)) :
    iprop((((c : Thread nD τ).loc main_arg0) ↦{fullShare.right} tabP m c) ∗ (((c : Thread nD τ).loc main_arg1) ↦{fullShare.right} tabQ m c)
      ∗ (∃ f, ((c : Thread nD τ).loc cc0_scratch0) ↦{fullShare} f) ∗ (∃ f, ((c : Thread nD τ).loc cc0_scratch1) ↦{fullShare} f)
      ∗ semVal ((c : Thread nD τ), SemLoc.dma cc0_scratch2.sem) 0 ∗ semVal ((c : Thread nD τ), SemLoc.dma cc0_scratch3.sem) 0
      ∗ (((c : Thread nD τ).loc main_v0) ↦{fullShare} V m c main_v0)) ⊢ Phi m c 0 := by
  unfold Phi Tabs
  simp only [if_neg (Nat.not_lt_zero _)]
  rw [← result_tiles c h (V m c main_v0)]
  iintro ⟨H1, H2, H3, H4, H5, H6, H7⟩
  isplitl [H1 H2]; · isplitl [H1]; · iexact H1
                     iexact H2
  isplitl [H3]; · iexact H3
  isplitl [H4]; · iexact H4
  isplitl [H5]; · iexact H5
  isplitl [H6]; · iexact H6
  iexact H7

/-- and after the last one it holds the final contents. -/
theorem Phi_end (c : Dev nD) (h : Perm (tabP m c) (tabQ m c)) :
    Phi m c 32 ⊢ iprop((((c : Thread nD τ).loc main_v0) ↦{fullShare} OUT m c)
      ∗ (semVal ((c : Thread nD τ), SemLoc.dma cc0_scratch2.sem) 0 ∗ semVal ((c : Thread nD τ), SemLoc.dma cc0_scratch3.sem) 0)
      ∗ ((∃ f, ((c : Thread nD τ).loc cc0_scratch0) ↦{fullShare} f) ∗ (∃ f, ((c : Thread nD τ).loc cc0_scratch1) ↦{fullShare} f))) := by
  unfold Phi
  have e : (bigSep (Finset.range 32) fun b => Tiles c (tabP m c) (tabQ m c) (slot b) 1024 (if b < 32 then OUT m c else V m c main_v0) : sProp 𝕄)
      = bigSep (Finset.range 32) fun b => Tiles c (tabP m c) (tabQ m c) (slot b) 1024 (OUT m c) :=
    bigSep_congr fun b hb => by rw [if_pos (Finset.mem_range.mp hb)]
  rw [e, if_pos (by decide), ← result_tiles c h (OUT m c)]
  iintro ⟨-, H3, H4, H5, H6, H7⟩
  isplitl [H7]; · iexact H7
  isplitl [H5 H6]; · isplitl [H5]; · iexact H5
                     iexact H6
  isplitl [H3]; · iexact H3
  iexact H4

set_option backward.isDefEq.respectTransparency.types false in
/-- THE RUN: the result at its final contents, the arguments as they were, every semaphore at zero. -/
theorem run_main (h : ∀ c, Perm (tabP m c) (tabQ m c)) :
    θ_run defs (onTc (τ := τ) (main (F := F))) ⟨m, fun _ => 0, ρ⟩ (fun r => (∀ c : Dev nD,
      r.2.mem ((c.tc : Thread nD τ).loc main_v0) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_region_pf_quiescent pcfgs (adm m) (dats m) () (launch0.cellOf_inj (adm m)) (0 : Fin 1) (launch0 (F := F)).win.to₀ ownSemFacts0 (launch0 (F := F)).pre embL defs₀ Variants.none m ρ main
    (hbody := fun c => (body_obligation m c (h c)).loose)
    (hne := block_pos0) (harr := arr_whole0) (hstage := stage_whole0) (howed := fun _ _ => rfl)
    (G := fun _ => iprop(emp))
    (u₀ := (initOf (Pipeline.cells (Pipeline.pin pcfgs (adm m)) (launch0.cellOf_inj (adm m))) (Pipeline.launchToks (Pipeline.pin pcfgs (adm m)) (launch0.cellOf_inj (adm m))), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Pipeline.Dat.arrays_split_shared (dats m 0 c) (launch0 (F := F)).to₀.sharedIn arr_whole0
      (fun w hw => Pipeline.Dat.q_eq_shareOf_of_share_full (dats m 0 c) winFacts0.arr_inj ((dats m 0 c).share_full fun _ => rfl) w hw) (V m c) _ (fun _ => rfl))
    (hpf := fun c k => by rw [Subsingleton.elim c 0]; rfl)
    (X := fun c => iprop((((c : Thread nD τ).loc main_v0) ↦{fullShare} V m c main_v0)
      ∗ semVal ((c : Thread nD τ), SemLoc.dma cc0_scratch2.sem) 0 ∗ semVal ((c : Thread nD τ), SemLoc.dma cc0_scratch3.sem) 0))
    (Y := fun c => iprop(((c : Thread nD τ).loc main_v0) ↦{fullShare} OUT m c))
    (Z := fun _ => iprop(emp))
    (hX := fun c => by
      rw [show (Pipeline.pin pcfgs (adm m) 0).spec = spec0 from rfl, unscopedRestP0_eq, ownSems00_eq]
      iintro ⟨HU, ⟨Ho1, Ho2⟩, -, -, -⟩; imodintro
      isplitl [HU Ho1 Ho2]
      · isplitl [HU]; · iexact HU
        isplitl [Ho1]; · iexact Ho1
        iexact Ho2
      iempintro)
    (hin := fun c => by
      rw [show (Pipeline.pin pcfgs (adm m) 0).spec = spec0 from rfl, scopedRest0_eq, prefHeld_eq]
      rw [show (dats m 0 c).Φ 0 = Phi m c 0 from rfl]
      refine BIBase.Entails.trans ?_ (Phi_start m c (h c))
      rw [Subsingleton.elim c 0]
      iintro ⟨⟨H7, H5, H6⟩, ⟨H1, H2⟩, H3, H4⟩
      isplitl [H1]; · iexact H1
      isplitl [H2]; · iexact H2
      isplitl [H3]; · iexact H3
      isplitl [H4]; · iexact H4
      isplitl [H5]; · iexact H5
      isplitl [H6]; · iexact H6
      iexact H7)
    (hout := fun c => by
      rw [show (Pipeline.pin pcfgs (adm m) 0).spec = spec0 from rfl, scopedRest0_eq, ownSems00_eq]
      rw [show (dats m 0 c).Φ (Fin.last _) = Phi m c 32 from congrArg (Phi m c) N_0]
      exact Phi_end m c (h c))
    (QY := fun c s => s.mem ((c : Thread nD τ).loc main_v0) = OUT m c)
    (hY := fun c s' => by
      iintro ⟨HY, -, HSI⟩
      ihave HH := (pointsTo_read_all {()} (fun _ => (c : Thread nD τ).loc main_v0) (fun _ => OUT m c) s') $$ [HY HSI]
      · rw [bigSep_singleton]
        isplitl [HY] <;> iassumption
      icases HH with ⟨%hH, HSI⟩
      imodintro
      isplitr
      · ipureintro
        exact hH () (Finset.mem_singleton_self _)
      · iexact HSI)
    (hQ := fun s hs hz => ⟨fun c => by
      obtain ⟨hw, ht, hv⟩ := hs c
      refine ⟨hv, ?_, ?_, ?_, ?_, ?_⟩
      · have := ht (0 : Fin 2)
        rw [Subsingleton.elim c 0] at this ⊢
        exact this
      · have := ht (1 : Fin 2)
        rw [Subsingleton.elim c 0] at this ⊢
        exact this
      · exact (hw (0 : Fin 3)).trans ((dats m 0 c).arrAt_in (0 : Fin 3) rfl _)
      · exact (hw (1 : Fin 3)).trans ((dats m 0 c).arrAt_in (1 : Fin 3) rfl _)
      · exact (hw (2 : Fin 3)).trans ((dats m 0 c).arrAt_in (2 : Fin 3) rfl _), hz⟩)

end Cert.KernelIdeal.Hand

end
-- ==== Proof.Spec.lean ====
/-
  Hand-written. The number every copied row holds at a column, written over the arrays alone: the row divided by its root mean
  square, times the gain, modulated by its half of the batch's scale and shift.
-/
module

public import Idealize.ShloMosaic.Lib.IdealHost
public import Idealize.ShloMosaic.Lib.Pointwise

@[expose] public section

noncomputable section

namespace Cert.Hand

open Idealize.ShloMosaic

/-- Token `r`'s row of the dispatched activations at column `a`. -/
def want (x2 : (⟨2, ![16384, 1024]⟩ : Shape).Idx → EReal) (md : (⟨2, ![8, 6144]⟩ : Shape).Idx → EReal) (g : (⟨2, ![1, 1024]⟩ : Shape).Idx → EReal)
    (r : Fin 16384) (a : Fin 1024) : EReal :=
  x2 (ix2 r a) * Ideal.rsqrt ((∑ k : Fin 1024, x2 (ix2 r k) * x2 (ix2 r k)) * (((1 / 1024 : ℝ)) : EReal) + Ideal.ofBits .f32 0x358637BD#32) * g (ix2 0 a)
    * (1 + md (ix2 ⟨r.val / 8192, by omega⟩ ⟨4096 + a.val, by omega⟩)) + md (ix2 ⟨r.val / 8192, by omega⟩ ⟨3072 + a.val, by omega⟩)

/-- The reciprocal the kernel multiplies by. -/
theorem inv_1024 : Ideal.ofBits .f32 0x3A800000#32 = (((1 / 1024 : ℝ)) : EReal) := by
  simp [Ideal.ofBits, Ideal.ieee, -EReal.coe_mul]; norm_num

/-- The count the reference divides by. -/
theorem c_1024 : Ideal.ofBits .f32 0x44800000#32 = ((1024 : ℝ) : EReal) := by
  simp [Ideal.ofBits, Ideal.ieee, -EReal.coe_mul]; norm_num

/-- Dividing by the count is multiplying by its reciprocal. -/
theorem div_1024 (x : EReal) : Ideal.div x ((1024 : ℝ) : EReal) = x * (((1 / 1024 : ℝ)) : EReal) := Ideal.div_coe (by norm_num) x

end Cert.Hand
-- ==== Proof.KerRows.lean ====
/-
  Hand-written. A block of the kernel's arithmetic: the row and column it holds of the rows the result is made of.
-/
module

public import proofs.«01_k».proof.Proof.Run
public import proofs.«01_k».proof.Proof.Spec

@[expose] public section

noncomputable section

namespace Cert.KernelIdeal.Hand

open Cert.KernelIdeal Cert.KernelIdeal.Gen
open Idealize.ShloMosaic Idealize.ShloMosaic.TcCoe Idealize.ShloMosaic.Tactic

theorem pay_apply (v18 v20 : FVec Ideal S1x1024 .f32) (v21 : FVec Ideal S512x1024 .f32) (v22 : FVec Ideal S1x1024 .f32) (r : Fin 512) (a : Fin 1024) :
    k0_pay2 v18 v20 v21 v22 (ix2 r a) = v21 (ix2 r a) * Ideal.rsqrt ((∑ k : Fin 1024, v21 (ix2 r k) * v21 (ix2 r k)) * (((1 / 1024 : ℝ)) : EReal) + Ideal.ofBits .f32 0x358637BD#32) * v22 (ix2 0 a)
      * (1 + v20 (ix2 0 a)) + v18 (ix2 0 a) := by
  unfold k0_pay2
  pointwise
  rw [Cert.Hand.inv_1024]

/-- The batch half a block lies in, as the offsets of its scale and shift. -/
theorem off1_eq (i : grid0.Coords) : k0_off1 i = ![(i 0).val / 16, 3072] := by
  have key : ∀ n : Fin 32, (Scalar.indexCast (Scalar.select (Scalar.andi (Scalar.cmpi .ne
      (Scalar.subi (Scalar.extui (Scalar.cmpi .sgt (BitVec.ofNat 32 n.val) 0#32)) (Scalar.extui (Scalar.cmpi .slt (BitVec.ofNat 32 n.val) 0#32)) : BitVec 32)
      (Scalar.subi (Scalar.extui (Scalar.cmpi .sgt 16#32 0#32)) (Scalar.extui (Scalar.cmpi .slt 16#32 0#32)) : BitVec 32))
      (Scalar.cmpi .ne (Scalar.remsi (BitVec.ofNat 32 n.val) 16#32) 0#32))
      (Scalar.subi (Scalar.divsi (BitVec.ofNat 32 n.val) 16#32) 1#32) (Scalar.divsi (BitVec.ofNat 32 n.val) 16#32))).toNat = n.val / 16 := by decide
  have := key ⟨(i 0).val, (i 0).isLt⟩
  exact congrArg (fun w => (![w, 3072] : Fin 2 → ℕ)) this
theorem off2_eq (i : grid0.Coords) : k0_off2 i = ![(i 0).val / 16, 4096] := by
  have h := congrFun (off1_eq i) 0
  have h0 : k0_off2 i 0 = (i 0).val / 16 := h
  exact congrArg (fun w => (![w, 4096] : Fin 2 → ℕ)) h0

theorem Xw_apply (m : (ℓ : Loc nD τ sig) → Buf (Elt Ideal) ℓ) (c : Dev nD) (t : Fin grid0.N) (y : S512x1024.Idx) :
    Xw m c t y = V m c main_arg2 (ix2 (⟨512 * t.val + (y 0).val, by have := t_lt t; have := (y 0).isLt; simp at this; omega⟩ : Fin 16384) (y 1)) := by
  unfold Xw blkAt
  refine congrArg (V m c main_arg2) ?_
  funext a
  refine Fin.ext ?_
  fin_cases a
  · have h : cc0_transform_0 (grid0.coords t) 0 = t.val := by
      show (BitVec.ofNat 32 (grid0.coords t 0).val).toNat = t.val
      rw [coord, BitVec.toNat_ofNat]
      have := t_lt t
      omega
    show cc0_transform_0 (grid0.coords t) 0 * 512 + 1 * (y 0).val = 512 * t.val + (y 0).val
    rw [h]; omega
  · show cc0_transform_0 (grid0.coords t) 1 * 1024 + 1 * (y 1).val = (y 1).val
    have h : cc0_transform_0 (grid0.coords t) 1 = 0 := rfl
    rw [h]; omega

theorem Mw_apply (m : (ℓ : Loc nD τ sig) → Buf (Elt Ideal) ℓ) (c : Dev nD) (t : Fin grid0.N) (y : S8x6144.Idx) :
    Mw m c t y = V m c main_arg3 y := by
  unfold Mw blkAt
  refine congrArg (V m c main_arg3) ?_
  funext a
  refine Fin.ext ?_
  fin_cases a
  · show cc0_transform_1 (grid0.coords t) 0 * 8 + 1 * (y 0).val = (y 0).val
    have h : cc0_transform_1 (grid0.coords t) 0 = 0 := rfl
    rw [h]; omega
  · show cc0_transform_1 (grid0.coords t) 1 * 6144 + 1 * (y 1).val = (y 1).val
    have h : cc0_transform_1 (grid0.coords t) 1 = 0 := rfl
    rw [h]; omega

theorem Gw_apply (m : (ℓ : Loc nD τ sig) → Buf (Elt Ideal) ℓ) (c : Dev nD) (t : Fin grid0.N) (y : S1x1024.Idx) :
    Gw m c t y = V m c main_arg4 y := by
  unfold Gw blkAt
  refine congrArg (V m c main_arg4) ?_
  funext a
  refine Fin.ext ?_
  fin_cases a
  · show cc0_transform_2 (grid0.coords t) 0 * 1 + 1 * (y 0).val = (y 0).val
    have h : cc0_transform_2 (grid0.coords t) 0 = 0 := rfl
    rw [h]; omega
  · show cc0_transform_2 (grid0.coords t) 1 * 1024 + 1 * (y 1).val = (y 1).val
    have h : cc0_transform_2 (grid0.coords t) 1 = 0 := rfl
    rw [h]; omega

/-- Row `r` of block `t` at column `a`. -/
theorem block_apply (m : (ℓ : Loc nD τ sig) → Buf (Elt Ideal) ℓ) (c : Dev nD) (t : Fin grid0.N) (r : Fin 512) (a : Fin 1024) :
    blockV (grid0.coords t) (Xw m c t) (Mw m c t) (Gw m c t) (ix2 r a)
      = Cert.Hand.want (V m c main_arg2) (V m c main_arg3) (V m c main_arg4) ⟨512 * t.val + r.val, by have := t_lt t; omega⟩ a := by
  unfold blockV Cert.Hand.want
  rw [pay_apply]
  have hx : ∀ k : Fin 1024, Xw m c t ((Rect.unit (s := S512x1024) ![0, 0] S512x1024.size inb_S512x1024_S512x1024_0_0).emb (ix2 r k))
      = V m c main_arg2 (ix2 (⟨512 * t.val + r.val, by have := t_lt t; omega⟩ : Fin 16384) k) := fun k => by
    rw [Xw_apply]
    refine congrArg (V m c main_arg2) ?_
    funext b
    refine Fin.ext ?_
    fin_cases b
    · show 512 * t.val + (0 + 1 * r.val) = 512 * t.val + r.val
      omega
    · show 0 + 1 * k.val = k.val
      omega
  have hg : Gw m c t ((Rect.unit (s := S1x1024) ![0, 0] S1x1024.size inb_S1x1024_S1x1024_0_0).emb (ix2 0 a)) = V m c main_arg4 (ix2 0 a) := by
    rw [Gw_apply]
    refine congrArg (V m c main_arg4) ?_
    funext b
    refine Fin.ext ?_
    fin_cases b
    · rfl
    · show 0 + 1 * a.val = a.val
      omega
  have hs : Mw m c t ((Rect.unit (s := S8x6144) (k0_off2 (grid0.coords t)) S1x1024.size (k0_off2_inb (grid0.coords t))).emb (ix2 0 a))
      = V m c main_arg3 (ix2 (⟨(512 * t.val + r.val) / 8192, by have := t_lt t; omega⟩ : Fin 8) (⟨4096 + a.val, by omega⟩ : Fin 6144)) := by
    rw [Mw_apply]
    refine congrArg (V m c main_arg3) ?_
    funext b
    refine Fin.ext ?_
    fin_cases b
    · show k0_off2 (grid0.coords t) 0 + 1 * 0 = (512 * t.val + r.val) / 8192
      rw [off2_eq, coord]
      show t.val / 16 + 1 * 0 = (512 * t.val + r.val) / 8192
      omega
    · show 4096 + 1 * a.val = 4096 + a.val
      omega
  have hf : Mw m c t ((Rect.unit (s := S8x6144) (k0_off1 (grid0.coords t)) S1x1024.size (k0_off1_inb (grid0.coords t))).emb (ix2 0 a))
      = V m c main_arg3 (ix2 (⟨(512 * t.val + r.val) / 8192, by have := t_lt t; omega⟩ : Fin 8) (⟨3072 + a.val, by omega⟩ : Fin 6144)) := by
    rw [Mw_apply]
    refine congrArg (V m c main_arg3) ?_
    funext b
    refine Fin.ext ?_
    fin_cases b
    · show k0_off1 (grid0.coords t) 0 + 1 * 0 = (512 * t.val + r.val) / 8192
      rw [off1_eq, coord]
      show t.val / 16 + 1 * 0 = (512 * t.val + r.val) / 8192
      omega
    · show 3072 + 1 * a.val = 3072 + a.val
      omega
  rw [hg, hs, hf]
  simp only [hx]

end Cert.KernelIdeal.Hand
-- ==== Proof.RefRows.lean ====
/-
  Hand-written. The reference's text: the rows it computes, the words it scatters them by, and what its result holds.
-/
module

public import proofs.«01_k».proof.Proof.Gen.ReferenceIdeal.Run
public import proofs.«01_k».proof.Proof.Spec
public import Idealize.ShloMosaic.Lib.Routing.OpsSet
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

/-- The rows the reference computes. -/
def rows (x2 : FVec Ideal S16384x1024 .f32) (md : FVec Ideal S8x6144 .f32) (g : FVec Ideal S1x1024 .f32) : FVec Ideal S16384x1024 .f32 :=
  (shapeCast _ (addf (mulf (mulf (mulf (shapeCast _ x2 shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ x2 shapeCasts_S16384x1024_S2x8192x1024) (shapeCast _ x2 shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] (extractStridedSlice S2x6144 ![0, 0] md slices_S8x6144_S2x6144_0_0) slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] (extractStridedSlice S2x6144 ![0, 0] md slices_S8x6144_S2x6144_0_0) slices_S2x6144_S2x1024_0_3072)))) shapeCasts_S2x8192x1024_S16384x1024)

/-- The words it scatters them by: the destinations, a negative one counted from the end. -/
def words (tp : IVec S32768 32) : IVec S32768x1 32 :=
  (broadcastInDim S32768x1 ![0] bcast_S32768_S32768x1_0 (select (cmpi .slt tp (broadcastInDim S32768 ![] bcast_S_S32768 (constantI S_ 32 0#32))) (addi tp (broadcastInDim S32768 ![] bcast_S_S32768 (constantI S_ 32 36864#32))) tp))

theorem rows_apply (x2 : FVec Ideal S16384x1024 .f32) (md : FVec Ideal S8x6144 .f32) (g : FVec Ideal S1x1024 .f32) (r : Fin 16384) (a : Fin 1024) :
    rows x2 md g (ix2 r a) = Cert.Hand.want x2 md g r a := by
  unfold rows Cert.Hand.want
  pointwise
  rw [Cert.Hand.c_1024]
  simp only [Cert.Hand.div_1024]

/-- The two copies of the rows, one under the other. -/
def twice (u : FVec Ideal S16384x1024 .f32) : FVec Ideal S32768x1024 .f32 :=
  concatenate S32768x1024 0 [⟨S16384x1024, u⟩, ⟨S16384x1024, u⟩] concatenates_S16384x1024_S16384x1024_S32768x1024_d0

theorem twice_apply (u : FVec Ideal S16384x1024 .f32) (p : Fin 32768) (a : Fin 1024) :
    twice u (ix2 p a) = u (ix2 ⟨p.val % 16384, by omega⟩ a) := by
  unfold twice
  by_cases h : p.val < 16384
  · refine concatenate_pair_apply_left (0 : Fin 2) u u _ (ix2 p a) rfl (ix2 ⟨p.val % 16384, by omega⟩ a) ?_
    intro b
    fin_cases b
    · show p.val % 16384 = p.val
      omega
    · rfl
  · refine concatenate_pair_apply_right (0 : Fin 2) u u _ (ix2 p a) rfl rfl (ix2 ⟨p.val % 16384, by omega⟩ a) ?_ ?_
    · intro b hb
      fin_cases b
      · exact absurd rfl hb
      · rfl
    · show p.val % 16384 + 16384 = p.val
      omega

theorem words_apply (tp : IVec S32768 32) (p : Fin 32768) (h : (tp (ix1 p)).toNat < 36864) : words tp (ix2 p 0) = tp (ix1 p) := by
  unfold words
  pointwise
  exact Routing.wrap_of_lt _ _ (by omega)

/-- The rows scattered, as a matrix. -/
def placed (tp : IVec S32768 32) (u : FVec Ideal S16384x1024 .f32) : FVec Ideal S36864x1024 .f32 :=
  Host.scatter scatter_S36864x1024_S32768x1_S32768x1024_1_0_0_1 (fun _ b => b) (broadcastInDim S36864x1024 ![] bcast_S_S36864x1024 (constant S_ .f32 0x00000000#32))
    (words tp) (twice u)

theorem res_eq (m : (ℓ : Loc nD τ sig) → Buf (Elt Ideal) ℓ) (c : Dev nD) :
    Cert.ReferenceIdeal.Value.res_main_v40 m c = shapeCast S294912x128 (placed (m ((c.tc : Thread nD τ).loc main_arg0))
      (rows (m ((c.tc : Thread nD τ).loc main_arg2)) (m ((c.tc : Thread nD τ).loc main_arg3)) (m ((c.tc : Thread nD τ).loc main_arg4)))) shapeCasts_S36864x1024_S294912x128 := rfl

/-- Update `(p, b)` lands at `(r, a)` exactly when word `p` is `r` and `b` is `a`. -/
theorem lands (tp : IVec S32768 32) (ht : ∀ p : Fin 32768, (tp (ix1 p)).toNat < 36864) (p : Fin 32768) (b : Fin 1024) (r : Fin 36864) (a : Fin 1024) :
    scatter_S36864x1024_S32768x1_S32768x1024_1_0_0_1.resultIdx? (ix2 p b) (words tp) = some (ix2 r a) ↔ (tp (ix1 p)).toNat = r.val ∧ b = a := by
  have hm : (0 : Fin 2) ∈ scatter_S36864x1024_S32768x1_S32768x1024_1_0_0_1.scatterDimsToOperandDims := List.mem_singleton.2 rfl
  have hwin0 : scatter_S36864x1024_S32768x1_S32768x1024_1_0_0_1.window (ix2 p b) 0 = 0 := by
    unfold ScatterDims.window
    rw [dif_neg fun h => (of_decide_eq_true (List.mem_filter.1 h).2) (List.mem_singleton.2 rfl)]
  have hwin1 : scatter_S36864x1024_S32768x1_S32768x1024_1_0_0_1.window (ix2 p b) 1 = b.val := by
    unfold ScatterDims.window
    rw [dif_pos (by decide)]
    rfl
  have hs1 : scatter_S36864x1024_S32768x1_S32768x1024_1_0_0_1.start (ix2 p b) (words tp) 1 = 0 := by
    unfold ScatterDims.start
    exact dif_neg fun h => absurd (List.mem_singleton.1 h) (by decide : (1 : Fin 2) ≠ 0)
  have hs0 : scatter_S36864x1024_S32768x1_S32768x1024_1_0_0_1.start (ix2 p b) (words tp) 0 = ((tp (ix1 p)).toNat : Int) := by
    unfold ScatterDims.start
    rw [dif_pos hm]
    have hsi : scatter_S36864x1024_S32768x1_S32768x1024_1_0_0_1.siIdx (ix2 p b)
        ⟨scatter_S36864x1024_S32768x1_S32768x1024_1_0_0_1.scatterDimsToOperandDims.idxOf 0, List.idxOf_lt_length_iff.2 hm⟩ = ix2 p 0 := by
      funext b'
      fin_cases b'
      · rfl
      · exact Subsingleton.elim (α := Fin 1) _ _
    rw [hsi, words_apply tp p (ht p), BitVec.toInt_eq_toNat_of_lt (by have := ht p; omega)]
  rw [Routing.resultIdx?_eq_some]
  constructor
  · intro h
    have h0 := h 0
    have h1 := h 1
    rw [hs0, hwin0] at h0
    rw [hs1, hwin1] at h1
    have h0' : ((tp (ix1 p)).toNat : Int) + (0 : ℕ) = (r.val : Int) := h0
    have h1' : (0 : Int) + (b.val : Int) = (a.val : Int) := h1
    exact ⟨by omega, Fin.ext (by omega)⟩
  · rintro ⟨h0, h1⟩ q
    subst h1
    fin_cases q
    · show scatter_S36864x1024_S32768x1_S32768x1024_1_0_0_1.start (ix2 p b) (words tp) 0
        + (scatter_S36864x1024_S32768x1_S32768x1024_1_0_0_1.window (ix2 p b) 0 : Int) = (r.val : Int)
      rw [hs0, hwin0]; omega
    · show scatter_S36864x1024_S32768x1_S32768x1024_1_0_0_1.start (ix2 p b) (words tp) 1
        + (scatter_S36864x1024_S32768x1_S32768x1024_1_0_0_1.window (ix2 p b) 1 : Int) = (b.val : Int)
      rw [hs1, hwin1]; omega

variable (tp : IVec S32768 32) (ht : ∀ p : Fin 32768, (tp (ix1 p)).toNat < 36864) (u : FVec Ideal S16384x1024 .f32)

include ht in
/-- A row some word names holds that word's token. -/
theorem placed_hit (hinj : ∀ p q : Fin 32768, (tp (ix1 p)).toNat = (tp (ix1 q)).toNat → p = q) (p : Fin 32768) (r : Fin 36864) (a : Fin 1024)
    (h : (tp (ix1 p)).toNat = r.val) : placed tp u (ix2 r a) = u (ix2 ⟨p.val % 16384, by omega⟩ a) := by
  unfold placed
  refine Routing.scatter_set_hit _ _ _ _ _ _ (fun k hk => ?_) (ix2 p a) ((lands tp ht p a r a).mpr ⟨h, rfl⟩)
  obtain ⟨q, b, rfl⟩ : ∃ (q : Fin 32768) (b : Fin 1024), k = ix2 q b := ⟨k 0, k 1, eq_ix2 k⟩
  obtain ⟨h0, rfl⟩ := (lands tp ht q b r a).mp hk
  rw [hinj q p (h0.trans h.symm), twice_apply]

include ht in
/-- A row no word names holds zeros. -/
theorem placed_miss (r : Fin 36864) (a : Fin 1024) (h : ∀ p : Fin 32768, (tp (ix1 p)).toNat ≠ r.val) : placed tp u (ix2 r a) = (0 : EReal) := by
  unfold placed
  rw [Routing.scatter_set_miss]
  · pointwise
  · intro k hk
    obtain ⟨q, b, rfl⟩ : ∃ (q : Fin 32768) (b : Fin 1024), k = ix2 q b := ⟨k 0, k 1, eq_ix2 k⟩
    exact h q ((lands tp ht q b r a).mp hk).1

/-- The result is that matrix, eight rows of 128 to a row. -/
theorem tiles_apply (v : FVec Ideal S36864x1024 .f32) (y : Fin 294912) (z : Fin 128) :
    shapeCast S294912x128 v shapeCasts_S36864x1024_S294912x128 (ix2 y z) = v (ix2 ⟨y.val / 8, by omega⟩ ⟨128 * (y.val % 8) + z.val, by omega⟩) := by
  have h : Shape.reshapeEquiv shapeCasts_S36864x1024_S294912x128 (ix2 y z) = ix2 ⟨y.val / 8, by omega⟩ ⟨128 * (y.val % 8) + z.val, by omega⟩ := by
    refine Shape.reshapeEquiv_eq_of_rowMajor _ ?_
    refine (rowMajor_val2 (d := ![36864, 1024]) _ 1024 rfl).trans (Eq.trans ?_ (rowMajor_val2 (d := ![294912, 128]) _ 128 rfl).symm)
    show (y.val / 8) * 1024 + (128 * (y.val % 8) + z.val) = y.val * 128 + z.val
    omega
  exact congrArg v h

end Cert.ReferenceIdeal.Hand
-- ==== Proof.Value.lean ====
/-
  Hand-written. The kernel's result is the reference's: on the tile of a slot both hold its token's row, elsewhere zeros.
-/
module

public import proofs.«01_k».proof.Proof.KerRows
public import proofs.«01_k».proof.Proof.RefRows

@[expose] public section

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- What the run leaves of token `q` in its tile's row `u` at number `z`. -/
theorem Hof_apply (q : ℕ) (hq : q < 16384) (u z : ℕ) (hu : u < 8) (hz : z < 128) :
    Hof m c (q / 512) (ixH (8 * (q % 512) + u) z (by omega) hz)
      = Cert.Hand.want (V m c main_arg2) (V m c main_arg3) (V m c main_arg4) ⟨q, hq⟩ ⟨128 * u + z, by omega⟩ := by
  have hb : (pt (q / 512)).val = q / 512 := by
    show q / 512 % 32 = q / 512
    omega
  have e := block_apply m c (pt (q / 512)) ⟨q % 512, by omega⟩ ⟨128 * u + z, by omega⟩
  have er : (⟨512 * (pt (q / 512)).val + q % 512, by rw [hb]; omega⟩ : Fin 16384) = ⟨q, hq⟩ := Fin.ext (by
    show 512 * (pt (q / 512)).val + q % 512 = q
    rw [hb]; omega)
  have e' := e.trans (congrArg (fun r => Cert.Hand.want (V m c main_arg2) (V m c main_arg3) (V m c main_arg4) r ⟨128 * u + z, by omega⟩) er)
  refine Eq.trans ?_ e'
  unfold Hof Hbuf
  refine congrArg (blockV _ _ _ _) ?_
  funext b
  refine Fin.ext ?_
  fin_cases b
  · show (8 * (q % 512) + u) / 8 = q % 512
    omega
  · show 128 * ((8 * (q % 512) + u) % 8) + z = 128 * u + z
    omega

/-- The word of a slot below the padding is the first table's. -/
theorem row_word (p : Fin 32768) : row (tabP m c) (tabQ m c) p.val = (tabP m c (ix1 p)).toNat := by
  unfold row
  rw [word_pos _ p.isLt]
  refine congrArg (fun i => (tabP m c i).toNat) ?_
  funext b
  fin_cases b
  rfl

theorem OUT_eq (h : Perm (tabP m c) (tabQ m c)) :
    OUT m c = shapeCast Cert.ReferenceIdeal.S294912x128 (Cert.ReferenceIdeal.Hand.placed (V m c main_arg0)
      (Cert.ReferenceIdeal.Hand.rows (V m c main_arg2) (V m c main_arg3) (V m c main_arg4))) Cert.ReferenceIdeal.Gen.shapeCasts_S36864x1024_S294912x128 := by
  funext x
  obtain ⟨y, z, rfl⟩ : ∃ (y : Fin 294912) (z : Fin 128), x = ix2 y z := ⟨x 0, x 1, eq_ix2 x⟩
  refine Eq.trans ?_ (Cert.ReferenceIdeal.Hand.tiles_apply _ y z).symm
  have hy : y.val / 8 ∈ (Finset.range 36864).image (row (tabP m c) (tabQ m c)) := by
    rw [h.image, Finset.mem_range]; omega
  obtain ⟨p, hp, hrow⟩ := Finset.mem_image.mp hy
  rw [Finset.mem_range] at hp
  have hslot : slotOf (tabP m c) (tabQ m c) (y.val / 8) = p := by rw [← hrow]; exact slotOf_row h hp
  have ht : ∀ p : Fin 32768, (V m c main_arg0 (ix1 p)).toNat < 36864 := fun p => by
    have := h.inb p.val (by omega)
    rwa [row_word] at this
  have e : ∀ s : ℕ, slotOf (tabP m c) (tabQ m c) (y.val / 8) = s → OUT m c (ix2 y z) = if s < 32768 then
      Hof m c (s % 16384 / 512) (ixH (8 * (s % 512) + y.val % 8) z.val (by omega) z.isLt) else zeroE := fun s hs => by
    subst hs
    rfl
  rw [e p hslot]
  by_cases hlt : p < 32768
  · rw [if_pos hlt]
    have e2 := Cert.ReferenceIdeal.Hand.placed_hit (V m c main_arg0) ht (Cert.ReferenceIdeal.Hand.rows (V m c main_arg2) (V m c main_arg3) (V m c main_arg4))
      (fun a b hab => Fin.ext (h.inj a.val b.val (by omega) (by omega) (by rw [row_word, row_word]; exact hab)))
      ⟨p, hlt⟩ ⟨y.val / 8, by omega⟩ ⟨128 * (y.val % 8) + z.val, by omega⟩ (by rw [← row_word m c ⟨p, hlt⟩]; exact hrow)
    refine Eq.trans ?_ e2.symm
    refine Eq.trans ?_ (Cert.ReferenceIdeal.Hand.rows_apply _ _ _ _ _).symm
    refine Eq.trans ?_ (Hof_apply m c (p % 16384) (by omega) (y.val % 8) z.val (by omega) z.isLt)
    refine congrArg (Hof m c (p % 16384 / 512)) ?_
    funext b
    refine Fin.ext ?_
    fin_cases b
    · show 8 * (p % 512) + y.val % 8 = 8 * (p % 16384 % 512) + y.val % 8
      omega
    · rfl
  · rw [if_neg hlt]
    refine Eq.trans ?_ (Cert.ReferenceIdeal.Hand.placed_miss (V m c main_arg0) ht _ _ _ (fun q hq => ?_)).symm
    · show Ideal.ofBits .f32 0x00000000#32 = 0
      exact Ideal.ofBits_zero_f32
    · refine absurd (h.inj q.val p (by omega) hp ?_) (by omega)
      rw [row_word, hrow]
      exact hq

end Cert.KernelIdeal.Hand
-- ==== Proof.FfnSame.lean ====
/-
  Hand-written. The printed experts' call and the idealized one have one text, so their body tables are the same at any float instance.
-/
module

public import proofs.«01_k».proof.Proof.Gen.Kernel2
public import proofs.«01_k».proof.Proof.Gen.Kernel2Ideal

@[expose] public section

noncomputable section

namespace Cert.Hand

open Idealize.ShloMosaic

variable {F : FTy → Type} [FloatOps F]

set_option maxHeartbeats 4000000 in
/-- The kernel's body. -/
theorem body2_same : (Cert.Kernel2.cc0_ffn_grouped (F := F)) = (Cert.Kernel2Ideal.cc0_ffn_grouped (F := F)) := rfl

set_option maxHeartbeats 4000000 in
/-- The kernels' body tables. -/
theorem table2_same : (Cert.Kernel2.defs₀ (F := F)) = (Cert.Kernel2Ideal.defs₀ (F := F)) := by
  unfold Cert.Kernel2.defs₀ Cert.Kernel2Ideal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun body2_same _) _) _) _) _) _) _) _) _) _) _) _) _) _) _
  | ⟨_ + 1, h⟩, _ => exact absurd h (Nat.not_lt.2 (Nat.le_add_left _ _))

set_option maxHeartbeats 4000000 in
/-- The body tables with the pipelines. -/
theorem defs2_same : (Cert.Kernel2.defs (F := F)) = (Cert.Kernel2Ideal.defs (F := F)) := by
  unfold Cert.Kernel2.defs Cert.Kernel2Ideal.defs
  exact congrArg (Pipeline.defs Cert.Kernel2Ideal.pcfgs) table2_same

end Cert.Hand

end
-- ==== Proof.FfnStep.lean ====
/-
  Hand-written. The body of the experts' call at one grid point. When the point's tile is in use its 512 rows are read, put
  through the expert's gated layer eleven slices of 256 hidden numbers at a time, and the sum is stored eight rows of 128
  numbers to a token; otherwise the block is filled with zeros. For any float values.
-/
module

public import proofs.«01_k».proof.Proof.Gen.Kernel2Ideal.Skeleton
public import Idealize.ShloMosaic.Lib.Pipeline.FrameBody
public import Idealize.ShloMosaic.Lib.Pipeline.Value
public import Idealize.ShloMosaic.Lib.Pointwise
public import Idealize.ShloMosaic.Lib.Tactic

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the loads read -/

/-- Row `8 r + k` of a tile, for every token `r`. -/
def strip (X : S4096x128.Idx → Elt F .f32) (k : ℕ) (hk : k < 8) : Vec F S512x128 .f32 := fun y =>
  X (ix2 ⟨8 * (y 0).val + k, by have h : (y 0).val < 512 := (y 0).isLt; omega⟩ ⟨(y 1).val, (y 1).isLt⟩)

/-- Columns `256 n …` of the expert's first or second matrix. -/
def cols (G : S1x1024x2816.Idx → Elt F .bf16) (n : ℕ) : Vec F S1x1024x256 .bf16 := fun y =>
  G (ix3 0 ⟨(y 1).val, (y 1).isLt⟩ ⟨(256 * n + (y 2).val) % 2816, Nat.mod_lt _ (by decide)⟩)

/-- Rows `256 n …` of the expert's third matrix. -/
def lines (D : S1x2816x1024.Idx → Elt F .bf16) (n : ℕ) : Vec F S1x256x1024 .bf16 := fun y =>
  D (ix3 0 ⟨(256 * n + (y 1).val) % 2816, Nat.mod_lt _ (by decide)⟩ ⟨(y 2).val, (y 2).isLt⟩)

/-! ## What the arithmetic makes of them -/

/-- The gated product of a slice. -/
def gated (x : FVec F S512x1024 .bf16) (g u : Vec F S1x1024x256 .bf16) : FVec F S512x256 .f32 :=
  mulf (k0_pay12 x g) (k0_pay11 x u)

/-- What one slice adds. -/
def chunk (x : FVec F S512x1024 .bf16) (g u : Vec F S1x1024x256 .bf16) (d : Vec F S1x256x1024 .bf16) : FVec F S512x1024 .f32 :=
  matmul dot_S512x256_S256x1024_S512x1024_1_0_0_1_n_n none (truncf .bf16 (gated x g u) bitsLt_bf16_f32)
    (shapeCast S256x1024 d shapeCasts_S1x256x1024_S256x1024) (constant S512x1024 .f32 0x00000000#32)

/-- A tile's 512 rows of 1024 numbers. -/
def tokens (X : S4096x128.Idx → Elt F .f32) : FVec F S512x1024 .bf16 :=
  k0_pay8 (strip X 0 (by decide)) (strip X 1 (by decide)) (strip X 2 (by decide)) (strip X 3 (by decide))
    (strip X 4 (by decide)) (strip X 5 (by decide)) (strip X 6 (by decide)) (strip X 7 (by decide))

/-- The first `n + 1` slices' sum. -/
def acc (x : FVec F S512x1024 .bf16) (G U : S1x1024x2816.Idx → Elt F .bf16) (D : S1x2816x1024.Idx → Elt F .bf16) : ℕ → FVec F S512x1024 .f32
  | 0 => chunk x (cols G 0) (cols U 0) (lines D 0)
  | n + 1 => addf (acc x G U D n) (chunk x (cols G (n + 1)) (cols U (n + 1)) (lines D (n + 1)))

/-- The tile's rows through the expert's layer. -/
def layer (X : S4096x128.Idx → Elt F .f32) (G U : S1x1024x2816.Idx → Elt F .bf16) (D : S1x2816x1024.Idx → Elt F .bf16) : FVec F S512x1024 .f32 :=
  acc (tokens X) G U D 10

/-- 512 rows of 1024 numbers laid out eight rows of 128 to a token. -/
def laid (v : FVec F S512x1024 .f32) : S4096x128.Idx → Elt F .f32 := fun x =>
  v (ix2 ⟨(x 0).val / 8, by have h0 : (x 0).val < 4096 := (x 0).isLt; omega⟩
    ⟨128 * ((x 0).val % 8) + (x 1).val, by have h1 : (x 1).val < 128 := (x 1).isLt; omega⟩)

/-- What the body leaves in the output block. -/
def outB (i : grid0.Coords) (nu : BitVec 32) (X : S4096x128.Idx → Elt F .f32) (G U : S1x1024x2816.Idx → Elt F .bf16)
    (D : S1x2816x1024.Idx → Elt F .bf16) : S4096x128.Idx → Elt F .f32 :=
  if k0_cond1 i nu = 1#1 then laid (layer X G U D) else k0_pay7

theorem pay9_eq (a b c d e f g h : Vec F S512x128 .f32) (wg wu : Vec F S1x1024x256 .bf16) (wd : Vec F S1x256x1024 .bf16) :
    k0_pay9 a b c d e f g h wg wu wd = chunk (k0_pay8 a b c d e f g h) wg wu wd := rfl
theorem pay10_eq (x : FVec F S512x1024 .bf16) (a : FVec F S512x1024 .f32) (g u : Vec F S1x1024x256 .bf16) (d : Vec F S1x256x1024 .bf16) :
    k0_pay10 x a g u d = addf a (chunk x g u d) := rfl
theorem pay13_eq (x : FVec F S512x1024 .bf16) (a : FVec F S512x1024 .f32) (g u g' u' : Vec F S1x1024x256 .bf16) (d d' : Vec F S1x256x1024 .bf16) :
    k0_pay13 x a (k0_pay11 x u) (k0_pay12 x g) d g' u' d' = addf (addf a (chunk x g u d)) (chunk x g' u' d') := rfl
theorem pay16_eq (x : FVec F S512x1024 .bf16) (a : FVec F S512x1024 .f32) (g u g' u' : Vec F S1x1024x256 .bf16) (d d' : Vec F S1x256x1024 .bf16) :
    k0_pay16 x a (k0_pay14 x g) (k0_pay15 x u) (Scalar.ofBits .f32 0x00000000#32) d g' u' d' = addf (addf a (chunk x g u d)) (chunk x g' u' d') := rfl
theorem pay18_eq (x : FVec F S512x1024 .bf16) (a : FVec F S512x1024 .f32) (g u : Vec F S1x1024x256 .bf16) (d : Vec F S1x256x1024 .bf16) :
    k0_pay18 x a (k0_pay17 g) u d = addf a (chunk x g u d) := rfl
theorem pay20_eq (x : FVec F S512x1024 .bf16) (a : FVec F S512x1024 .f32) (g u g' u' : Vec F S1x1024x256 .bf16) (d d' : Vec F S1x256x1024 .bf16) :
    k0_pay20 x a (k0_pay19 x g u) d g' u' d' = addf (addf a (chunk x g u d)) (chunk x g' u' d') := rfl
theorem pay25_eq (x : FVec F S512x1024 .bf16) (a : FVec F S512x1024 .f32) (g u g' u' : Vec F S1x1024x256 .bf16) (d d' : Vec F S1x256x1024 .bf16) :
    k0_pay25 x a (k0_pay21 x g) (k0_pay22 x u) (k0_pay23 x g) (k0_pay24 (F := F)) d g' u' d' = addf (addf a (chunk x g u d)) (chunk x g' u' d') := rfl

/-! ## Loads and stores -/

variable (c : Dev nD)

/-- What it is for a piece of the body to run from here to `Q`. -/
abbrev Wp {α : Type} (p : Prog (TpuEff nD τ sig (Elt F) Λ₀ .tc) α) (Q : α → sProp 𝕄) : sProp 𝕄 :=
  wp frame (wpE (defs₀ (F := F)) Variants.none (c : Thread nD τ) none) Set.univ p Q

/-- A load of elements of a block held. -/
theorem load_own {α : Type} {Q : α → sProp 𝕄} {s : Shape} {e : EltTy} {m : Memref sig .tc .vmem s e} {r : LoadRect s} {hl} (q : PosShare TreeShare)
    (X : s.Idx → Elt F e) {k : (r.shape.Idx → Elt F e) → Prog (TpuEff nD τ sig (Elt F) Λ₀ .tc) α} {R : sProp 𝕄}
    (hk : iprop(owns (c : Thread nD τ) m q X ∗ R) ⊢ Wp c (k (fun y => X (r.idx y))) Q) :
    iprop(owns (c : Thread nD τ) m q X ∗ R) ⊢ Wp c (Prog.lift (.load m r hl) >>= k) Q := by
  unfold owns at hk ⊢
  iintro ⟨⟨%f, %hf, HM⟩, HR⟩
  iapply (wp_load Variants.none (c : Thread nD τ) none Set.univ (m := m) (r := r) (View.setOn_subset_set _ _)) $$ HM
  iintro HM
  subst hf
  iapply hk
  isplitl [HM]
  · iexists f
    isplitr
    · ipureintro; rfl
    · iexact HM
  · iexact HR

/-- The blocks a grid point reads. -/
def Wins (a3 : Memref sig .tc .vmem S4096x128 .f32) (a4 a5 : Memref sig .tc .vmem S1x1024x2816 .bf16) (a6 : Memref sig .tc .vmem S1x2816x1024 .bf16)
    (X : S4096x128.Idx → Elt F .f32) (G U : S1x1024x2816.Idx → Elt F .bf16) (D : S1x2816x1024.Idx → Elt F .bf16) : sProp 𝕄 :=
  iprop(owns (c : Thread nD τ) a3 fullShare X ∗ owns (c : Thread nD τ) a4 fullShare G ∗ owns (c : Thread nD τ) a5 fullShare U
    ∗ owns (c : Thread nD τ) a6 fullShare D)

variable {a3 : Memref sig .tc .vmem S4096x128 .f32} {a4 a5 : Memref sig .tc .vmem S1x1024x2816 .bf16} {a6 : Memref sig .tc .vmem S1x2816x1024 .bf16}
  {X : S4096x128.Idx → Elt F .f32} {G U : S1x1024x2816.Idx → Elt F .bf16} {D : S1x2816x1024.Idx → Elt F .bf16}

theorem load_x {α : Type} {Q : α → sProp 𝕄} (j : ℕ) (hj : j < 8) {off : Fin 2 → ℕ} {inb} {hl} (ho : off = ![j, 0])
    {k : (S512x128.Idx → Elt F .f32) → Prog (TpuEff nD τ sig (Elt F) Λ₀ .tc) α} {R : sProp 𝕄}
    (hk : iprop(Wins c a3 a4 a5 a6 X G U D ∗ R) ⊢ Wp c (k (strip X j hj)) Q) :
    iprop(Wins c a3 a4 a5 a6 X G U D ∗ R)
      ⊢ Wp c (Prog.lift (.load a3 (⟨off, S512x128.size, ![8, 1], inb⟩ : LoadRect S4096x128) hl) >>= k) Q := by
  subst ho
  have e : (fun y => X ((⟨![j, 0], S512x128.size, ![8, 1], inb⟩ : LoadRect S4096x128).idx y)) = strip X j hj := by
    funext y
    unfold strip
    refine congrArg X (funext fun a => Fin.ext ?_)
    fin_cases a
    · show j + 8 * (y 0).val = 8 * (y 0).val + j
      omega
    · show 0 + 1 * (y 1).val = (y 1).val
      omega
  unfold Wins at hk ⊢
  iintro ⟨⟨H3, H4, H5, H6⟩, HR⟩
  iapply (load_own c fullShare X (R := iprop(owns (c : Thread nD τ) a4 fullShare G ∗ owns (c : Thread nD τ) a5 fullShare U
    ∗ owns (c : Thread nD τ) a6 fullShare D ∗ R)) ?_) $$ [H3 H4 H5 H6 HR]
  · rw [e]
    iintro ⟨H3, H4, H5, H6, HR⟩
    iapply hk
    isplitr [HR]
    · isplitl [H3]; · iexact H3
      isplitl [H4]; · iexact H4
      isplitl [H5]; · iexact H5
      iexact H6
    iexact HR
  · isplitl [H3]; · iexact H3
    isplitl [H4]; · iexact H4
    isplitl [H5]; · iexact H5
    isplitl [H6]; · iexact H6
    iexact HR

theorem load_g {α : Type} {Q : α → sProp 𝕄} (n : ℕ) (hn : n < 11) {off : Fin 3 → ℕ} {inb} {hl} (ho : off = ![0, 0, 256 * n])
    {k : (S1x1024x256.Idx → Elt F .bf16) → Prog (TpuEff nD τ sig (Elt F) Λ₀ .tc) α} {R : sProp 𝕄}
    (hk : iprop(Wins c a3 a4 a5 a6 X G U D ∗ R) ⊢ Wp c (k (cols G n)) Q) :
    iprop(Wins c a3 a4 a5 a6 X G U D ∗ R)
      ⊢ Wp c (Prog.lift (.load a4 (Rect.unit (s := S1x1024x2816) off S1x1024x256.size inb).toLoadRect hl) >>= k) Q := by
  subst ho
  have e : (fun y => G ((Rect.unit (s := S1x1024x2816) ![0, 0, 256 * n] S1x1024x256.size inb).toLoadRect.idx y)) = cols G n := by
    funext y
    unfold cols
    refine congrArg G (funext fun a => Fin.ext ?_)
    have h2 : (y 2).val < 256 := (y 2).isLt
    have h0 : (y 0).val < 1 := (y 0).isLt
    fin_cases a
    · show 0 + 1 * (y 0).val = 0
      omega
    · show 0 + 1 * (y 1).val = (y 1).val
      omega
    · show 256 * n + 1 * (y 2).val = (256 * n + (y 2).val) % 2816
      rw [Nat.mod_eq_of_lt (by omega)]; omega
  unfold Wins at hk ⊢
  iintro ⟨⟨H3, H4, H5, H6⟩, HR⟩
  iapply (load_own c fullShare G (R := iprop(owns (c : Thread nD τ) a3 fullShare X ∗ owns (c : Thread nD τ) a5 fullShare U ∗ owns (c : Thread nD τ) a6 fullShare D ∗ R)) ?_) $$ [H3 H4 H5 H6 HR]
  · rw [e]
    iintro ⟨H4, H3, H5, H6, HR⟩
    iapply hk
    isplitr [HR]
    · isplitl [H3]; · iexact H3
      isplitl [H4]; · iexact H4
      isplitl [H5]; · iexact H5
      iexact H6
    iexact HR
  · isplitl [H4]; · iexact H4
    isplitl [H3]; · iexact H3
    isplitl [H5]; · iexact H5
    isplitl [H6]; · iexact H6
    iexact HR

theorem load_u {α : Type} {Q : α → sProp 𝕄} (n : ℕ) (hn : n < 11) {off : Fin 3 → ℕ} {inb} {hl} (ho : off = ![0, 0, 256 * n])
    {k : (S1x1024x256.Idx → Elt F .bf16) → Prog (TpuEff nD τ sig (Elt F) Λ₀ .tc) α} {R : sProp 𝕄}
    (hk : iprop(Wins c a3 a4 a5 a6 X G U D ∗ R) ⊢ Wp c (k (cols U n)) Q) :
    iprop(Wins c a3 a4 a5 a6 X G U D ∗ R)
      ⊢ Wp c (Prog.lift (.load a5 (Rect.unit (s := S1x1024x2816) off S1x1024x256.size inb).toLoadRect hl) >>= k) Q := by
  subst ho
  have e : (fun y => U ((Rect.unit (s := S1x1024x2816) ![0, 0, 256 * n] S1x1024x256.size inb).toLoadRect.idx y)) = cols U n := by
    funext y
    unfold cols
    refine congrArg U (funext fun a => Fin.ext ?_)
    have h2 : (y 2).val < 256 := (y 2).isLt
    have h0 : (y 0).val < 1 := (y 0).isLt
    fin_cases a
    · show 0 + 1 * (y 0).val = 0
      omega
    · show 0 + 1 * (y 1).val = (y 1).val
      omega
    · show 256 * n + 1 * (y 2).val = (256 * n + (y 2).val) % 2816
      rw [Nat.mod_eq_of_lt (by omega)]; omega
  unfold Wins at hk ⊢
  iintro ⟨⟨H3, H4, H5, H6⟩, HR⟩
  iapply (load_own c fullShare U (R := iprop(owns (c : Thread nD τ) a3 fullShare X ∗ owns (c : Thread nD τ) a4 fullShare G ∗ owns (c : Thread nD τ) a6 fullShare D ∗ R)) ?_) $$ [H3 H4 H5 H6 HR]
  · rw [e]
    iintro ⟨H5, H3, H4, H6, HR⟩
    iapply hk
    isplitr [HR]
    · isplitl [H3]; · iexact H3
      isplitl [H4]; · iexact H4
      isplitl [H5]; · iexact H5
      iexact H6
    iexact HR
  · isplitl [H5]; · iexact H5
    isplitl [H3]; · iexact H3
    isplitl [H4]; · iexact H4
    isplitl [H6]; · iexact H6
    iexact HR

theorem load_d {α : Type} {Q : α → sProp 𝕄} (n : ℕ) (hn : n < 11) {off : Fin 3 → ℕ} {inb} {hl} (ho : off = ![0, 256 * n, 0])
    {k : (S1x256x1024.Idx → Elt F .bf16) → Prog (TpuEff nD τ sig (Elt F) Λ₀ .tc) α} {R : sProp 𝕄}
    (hk : iprop(Wins c a3 a4 a5 a6 X G U D ∗ R) ⊢ Wp c (k (lines D n)) Q) :
    iprop(Wins c a3 a4 a5 a6 X G U D ∗ R)
      ⊢ Wp c (Prog.lift (.load a6 (Rect.unit (s := S1x2816x1024) off S1x256x1024.size inb).toLoadRect hl) >>= k) Q := by
  subst ho
  have e : (fun y => D ((Rect.unit (s := S1x2816x1024) ![0, 256 * n, 0] S1x256x1024.size inb).toLoadRect.idx y)) = lines D n := by
    funext y
    unfold lines
    refine congrArg D (funext fun a => Fin.ext ?_)
    have h1 : (y 1).val < 256 := (y 1).isLt
    have h0 : (y 0).val < 1 := (y 0).isLt
    fin_cases a
    · show 0 + 1 * (y 0).val = 0
      omega
    · show 256 * n + 1 * (y 1).val = (256 * n + (y 1).val) % 2816
      rw [Nat.mod_eq_of_lt (by omega)]; omega
    · show 0 + 1 * (y 2).val = (y 2).val
      omega
  unfold Wins at hk ⊢
  iintro ⟨⟨H3, H4, H5, H6⟩, HR⟩
  iapply (load_own c fullShare D (R := iprop(owns (c : Thread nD τ) a3 fullShare X ∗ owns (c : Thread nD τ) a4 fullShare G ∗ owns (c : Thread nD τ) a5 fullShare U ∗ R)) ?_) $$ [H3 H4 H5 H6 HR]
  · rw [e]
    iintro ⟨H6, H3, H4, H5, HR⟩
    iapply hk
    isplitr [HR]
    · isplitl [H3]; · iexact H3
      isplitl [H4]; · iexact H4
      isplitl [H5]; · iexact H5
      iexact H6
    iexact HR
  · isplitl [H6]; · iexact H6
    isplitl [H3]; · iexact H3
    isplitl [H4]; · iexact H4
    isplitl [H5]; · iexact H5
    iexact HR

/-- The first `k` of every token's eight rows hold the block. -/
def Stored (v : FVec F S512x1024 .f32) (k : ℕ) (f : S4096x128.Idx → Elt F .f32) : Prop :=
  ∀ x, (x 0).val % 8 < k → f x = laid v x

/-- The output block with the first `k` rows of every token stored. -/
def Scr (m : Memref sig .tc .vmem S4096x128 .f32) (v : FVec F S512x1024 .f32) (k : ℕ) : sProp 𝕄 :=
  iprop(∃ Y, ⌜Stored v k Y⌝ ∗ owns (c : Thread nD τ) m fullShare Y)

theorem Scr_full (m : Memref sig .tc .vmem S4096x128 .f32) (v : FVec F S512x1024 .f32) :
    Scr c m v 8 ⊢ (owns (c : Thread nD τ) m fullShare (laid v) : sProp 𝕄) := by
  unfold Scr
  iintro ⟨%f, %hf, H⟩
  rw [show f = laid v from funext fun x => hf x (Nat.mod_lt _ (by decide))]
  iexact H

theorem Scr_start (m : Memref sig .tc .vmem S4096x128 .f32) (v : FVec F S512x1024 .f32) (Y : S4096x128.Idx → Elt F .f32) :
    (owns (c : Thread nD τ) m fullShare Y : sProp 𝕄) ⊢ Scr c m v 0 := by
  unfold Scr
  iintro H
  iexists Y
  isplitr
  · ipureintro; exact fun x h => absurd h (Nat.not_lt_zero _)
  · iexact H

/-- A load of the output block whose value is not used. -/
theorem load_o {α : Type} {Q : α → sProp 𝕄} {m : Memref sig .tc .vmem S4096x128 .f32} (v : FVec F S512x1024 .f32) (j : ℕ) {r : LoadRect S4096x128} {hl}
    {k : (r.shape.Idx → Elt F .f32) → Prog (TpuEff nD τ sig (Elt F) Λ₀ .tc) α} {R : sProp 𝕄}
    (hk : ∀ w, iprop(Scr c m v j ∗ R) ⊢ Wp c (k w) Q) :
    iprop(Scr c m v j ∗ R) ⊢ Wp c (Prog.lift (.load m r hl) >>= k) Q := by
  iintro ⟨HS, HR⟩
  unfold Scr
  icases HS with ⟨%f, %hf, HM⟩
  iapply (load_own c fullShare f (R := R) ?_) $$ [HM HR]
  · iintro ⟨HM, HR⟩
    iapply (hk _)
    isplitl [HM]
    · unfold Scr
      iexists f
      isplitr
      · ipureintro; exact hf
      · iexact HM
    · iexact HR
  · isplitl [HM]; · iexact HM
    iexact HR

/-- The store of the rows' numbers `128 j …` to every token's row `j`. -/
theorem store_o {α : Type} {Q : α → sProp 𝕄} {m : Memref sig .tc .vmem S4096x128 .f32} (v : FVec F S512x1024 .f32) (j : ℕ) (hj : j < 8)
    {off : Fin 2 → ℕ} {inb} {pos} {hx hm} (ho : off = ![j, 0]) (w : S512x128.Idx → Elt F .f32)
    (hw : ∀ y : S512x128.Idx, w y = v (ix2 ⟨(y 0).val, (y 0).isLt⟩ ⟨128 * j + (y 1).val, by have h1 : (y 1).val < 128 := (y 1).isLt; omega⟩))
    {k : PUnit → Prog (TpuEff nD τ sig (Elt F) Λ₀ .tc) α} {R : sProp 𝕄}
    (hk : iprop(Scr c m v (j + 1) ∗ R) ⊢ Wp c (k ⟨⟩) Q) :
    iprop(Scr c m v j ∗ R) ⊢ Wp c (Prog.lift (.store m (⟨(⟨off, S512x128.size, ![8, 1], inb⟩ : LoadRect S4096x128), pos⟩ : Rect S4096x128)
      w Finset.univ hx hm) >>= k) Q := by
  subst ho
  unfold Scr owns at hk ⊢
  iintro ⟨⟨%Y, %hf, ⟨%f, %hY, HM⟩⟩, HR⟩
  iapply (wp_store Variants.none (c : Thread nD τ) none Set.univ (m := m)
    (r := (⟨(⟨![j, 0], S512x128.size, ![8, 1], inb⟩ : LoadRect S4096x128), pos⟩ : Rect S4096x128)) (Mk := Finset.univ) (View.set_slice_subset _ _)) $$ HM
  iintro HM
  iapply hk
  isplitl [HM]
  · iexists _
    isplitr
    swap
    · iexists _
      isplitr
      swap
      · iexact HM
      · ipureintro; rfl
    · ipureintro
      intro x hx'
      have h0 : (x 0).val < 4096 := (x 0).isLt
      have h1 : (x 1).val < 128 := (x 1).isLt
      by_cases e : (x 0).val % 8 = j
      · let y : S512x128.Idx := ix2 ⟨(x 0).val / 8, by omega⟩ ⟨(x 1).val, h1⟩
        have ey : (⟨(⟨![j, 0], S512x128.size, ![8, 1], inb⟩ : LoadRect S4096x128), pos⟩ : Rect S4096x128).emb y = x := by
          funext a
          apply Fin.ext
          rw [Rect.emb_apply]
          fin_cases a
          · show j + 8 * ((x 0).val / 8) = (x 0).val
            omega
          · show 0 + 1 * (x 1).val = (x 1).val
            omega
        have h := View.read_slice_write_emb (v := m.view) (Val := Elt F) (⟨(⟨![j, 0], S512x128.size, ![8, 1], inb⟩ : LoadRect S4096x128), pos⟩ : Rect S4096x128)
          f w (M := Finset.univ) (Finset.mem_univ y)
        rw [ey] at h
        refine h.trans ?_
        rw [hw y]
        unfold laid
        refine congrArg v (funext fun a => Fin.ext ?_)
        fin_cases a
        · rfl
        · show 128 * j + (x 1).val = 128 * ((x 0).val % 8) + (x 1).val
          rw [e]
      · have hn : x ∉ (Finset.univ : Finset S512x128.Idx).map (⟨(⟨![j, 0], S512x128.size, ![8, 1], inb⟩ : LoadRect S4096x128), pos⟩ : Rect S4096x128).emb := by
          intro hmem
          obtain ⟨y, -, ey⟩ := Finset.mem_map.mp hmem
          have e0 : ((⟨(⟨![j, 0], S512x128.size, ![8, 1], inb⟩ : LoadRect S4096x128), pos⟩ : Rect S4096x128).emb y 0).val = j + 8 * (y 0).val :=
            Rect.emb_apply _ y 0
          have : (x 0).val = j + 8 * (y 0).val := by rw [← e0]; exact congrArg (fun z : S4096x128.Idx => (z 0).val) ey.symm
          omega
        have h := View.read_slice_write_of_not_mem (v := m.view) (Val := Elt F)
          (⟨(⟨![j, 0], S512x128.size, ![8, 1], inb⟩ : LoadRect S4096x128), pos⟩ : Rect S4096x128) f w Finset.univ hn
        refine Eq.trans h ?_
        rw [hY]
        exact hf x (by omega)
  · iexact HR

theorem slice_cols (v : FVec F S512x1024 .f32) (j : ℕ) (hj : j < 8) {off : Fin 2 → ℕ} (ho : off = ![0, 128 * j]) (h) (y : S512x128.Idx) :
    extractStridedSlice S512x128 off v h y = v (ix2 ⟨(y 0).val, (y 0).isLt⟩ ⟨128 * j + (y 1).val, by have h1 : (y 1).val < 128 := (y 1).isLt; omega⟩) := by
  subst ho
  refine extractStridedSlice_apply _ _ _ _ _ fun a => ?_
  fin_cases a
  · show (y 0).val = 0 + (y 0).val
    omega
  · rfl

/-- The store that fills the whole output block. -/
theorem store_all {α : Type} {Q : α → sProp 𝕄} {m : Memref sig .tc .vmem S4096x128 .f32} (Y w : S4096x128.Idx → Elt F .f32) {inb} {hx hm}
    {k : PUnit → Prog (TpuEff nD τ sig (Elt F) Λ₀ .tc) α} {R : sProp 𝕄}
    (hk : iprop(owns (c : Thread nD τ) m fullShare w ∗ R) ⊢ Wp c (k ⟨⟩) Q) :
    iprop(owns (c : Thread nD τ) m fullShare Y ∗ R) ⊢ Wp c (Prog.lift (.store m (Rect.unit (s := S4096x128) ![0, 0] S4096x128.size inb)
      w Finset.univ hx hm) >>= k) Q := by
  unfold owns at hk ⊢
  iintro ⟨⟨%f, %hY, HM⟩, HR⟩
  iapply (wp_store Variants.none (c : Thread nD τ) none Set.univ (m := m)
    (r := Rect.unit (s := S4096x128) ![0, 0] S4096x128.size inb) (Mk := Finset.univ) (View.set_slice_subset _ _)) $$ HM
  iintro HM
  iapply hk
  isplitl [HM]
  · iexists _
    isplitr
    swap
    · iexact HM
    · ipureintro
      funext x
      have ey : (Rect.unit (s := S4096x128) ![0, 0] S4096x128.size inb).emb x = x := by
        funext a
        apply Fin.ext
        rw [Rect.emb_apply]
        fin_cases a
        · show 0 + 1 * (x 0).val = (x 0).val
          omega
        · show 0 + 1 * (x 1).val = (x 1).val
          omega
      have h := View.read_slice_write_emb (v := m.view) (Val := Elt F) (Rect.unit (s := S4096x128) ![0, 0] S4096x128.size inb)
          f w (M := Finset.univ) (Finset.mem_univ x)
      rw [ey] at h
      exact h
  · iexact HR

/-- The table of one entry, held for reading. -/
def Tab (nu : S1.Idx → BitVec 32) : sProp 𝕄 :=
  iprop((Memref.whole main_arg1 : Memref sig .tc .smem S1 .i32).view.loc (c : Thread nD τ) ↦[Finset.univ]{fullShare.right} nu)

/-- The word the table of one entry holds. -/
theorem load_nu {α : Type} {Q : α → sProp 𝕄} (nu : S1.Idx → BitVec 32) {inb}
    {k : Elt F .i32 → Prog (TpuEff nD τ sig (Elt F) Λ₀ .tc) α} {R : sProp 𝕄}
    (hk : iprop(Tab c nu ∗ R) ⊢ Wp c (k (nu (ix1 0))) Q) :
    iprop(Tab c nu ∗ R)
      ⊢ Wp c (smemLoad (Memref.whole main_arg1 : Memref sig .tc .smem S1 .i32) (Rect.unit (s := S1) ![0] S1.size inb) numel1_S1 rfl >>= k) Q := by
  show _ ⊢ Wp c (smemLoadElt (Memref.whole main_arg1 : Memref sig .tc .smem S1 .i32) (Rect.unit (s := S1) ![0] S1.size inb) (View.loads_smem_one rfl numel1_S1)
    (Shape.Idx.first (numel1_S1 ▸ Nat.one_pos)) k) Q
  unfold Tab at hk ⊢
  iintro ⟨HP, HR⟩
  iapply (wp_smemLoadElt_named Variants.none (c : Thread nD τ) none Set.univ (S := Finset.univ)) $$ HP
  iintro HP %w %hw
  have e : w = nu (ix1 0) := by
    rw [hw]
    exact congrArg nu (funext fun a => Fin.ext (by fin_cases a; rfl))
  subst e
  iapply hk
  isplitl [HP]; · iexact HP
  iexact HR

end Cert.Kernel2Ideal.Hand

end
-- ==== Proof.FfnBody.lean ====
/-
  Hand-written. The body of the experts' call run through: its seven stretches of loads, the eight stores, the branch that fills
  the block with zeros, and so what one grid point leaves in the output block.
-/
module

public import proofs.«01_k».proof.Proof.FfnStep

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) {a1 : Memref sig .tc .smem S72 .i32} {h1 : a1.IsWhole} {a2 : Memref sig .tc .smem S1 .i32} {h2 : a2.IsWhole}
  {a3 : Memref sig .tc .vmem S4096x128 .f32} {h3 : a3.IsWhole} {a4 a5 : Memref sig .tc .vmem S1x1024x2816 .bf16} {h4 : a4.IsWhole} {h5 : a5.IsWhole}
  {a6 : Memref sig .tc .vmem S1x2816x1024 .bf16} {h6 : a6.IsWhole} {a7 : Memref sig .tc .vmem S4096x128 .f32} {h7 : a7.IsWhole}
  {X : S4096x128.Idx → Elt F .f32} {G U : S1x1024x2816.Idx → Elt F .bf16} {D : S1x2816x1024.Idx → Elt F .bf16} (i : grid0.Coords)

theorem part1 {α : Type} {Q : α → sProp 𝕄} {R : sProp 𝕄}
    {k : (Σ' (v17 : FVec F S512x1024 .bf16), FVec F S512x1024 .f32) → Prog (TpuEff nD τ sig (Elt F) Λ₀ .tc) α}
    (hk : iprop(Wins c a3 a4 a5 a6 X G U D ∗ R) ⊢ Wp c (k ⟨tokens X, chunk (tokens X) (cols G 0) (cols U 0) (lines D 0)⟩) Q) :
    iprop(Wins c a3 a4 a5 a6 X G U D ∗ R) ⊢ Wp c (k0_part1 i a1 h1 a2 h2 a3 h3 a4 h4 a5 h5 a6 h6 a7 h7  >>= k) Q := by
  rw [k0_part1_eq_skeleton]
  unfold k0_part1_skel
  simp only [Prog.bind_assoc, Prog.pure_eq_ret, Prog.bind_ret]
  refine load_x c 0 (by decide) rfl ?_
  refine load_x c 1 (by decide) rfl ?_
  refine load_x c 2 (by decide) rfl ?_
  refine load_x c 3 (by decide) rfl ?_
  refine load_x c 4 (by decide) rfl ?_
  refine load_x c 5 (by decide) rfl ?_
  refine load_x c 6 (by decide) rfl ?_
  refine load_x c 7 (by decide) rfl ?_
  refine load_g c 0 (by decide) rfl ?_
  refine load_u c 0 (by decide) rfl ?_
  refine load_d c 0 (by decide) rfl ?_
  rw [pay9_eq]
  exact hk

theorem part2 {α : Type} {Q : α → sProp 𝕄} {R : sProp 𝕄} (x : FVec F S512x1024 .bf16) (v : FVec F S512x1024 .f32)
    {k : (Σ' (v56 : FVec F S512x1024 .f32) (v62 : FVec F S512x256 .f32), FVec F S512x256 .f32) → Prog (TpuEff nD τ sig (Elt F) Λ₀ .tc) α}
    (hk : iprop(Wins c a3 a4 a5 a6 X G U D ∗ R) ⊢ Wp c (k ⟨(addf v (chunk x (cols G 1) (cols U 1) (lines D 1))), k0_pay11 x (cols U 2), k0_pay12 x (cols G 2)⟩) Q) :
    iprop(Wins c a3 a4 a5 a6 X G U D ∗ R) ⊢ Wp c (k0_part2 i a1 h1 a2 h2 a3 h3 a4 h4 a5 h5 a6 h6 a7 h7 x v >>= k) Q := by
  rw [k0_part2_eq_skeleton]
  unfold k0_part2_skel
  simp only [Prog.bind_assoc, Prog.pure_eq_ret, Prog.bind_ret]
  refine load_g c 1 (by decide) rfl ?_
  refine load_u c 1 (by decide) rfl ?_
  refine load_d c 1 (by decide) rfl ?_
  refine load_g c 2 (by decide) rfl ?_
  refine load_u c 2 (by decide) rfl ?_
  rw [pay10_eq]
  exact hk

theorem part3 {α : Type} {Q : α → sProp 𝕄} {R : sProp 𝕄} (x : FVec F S512x1024 .bf16) (v : FVec F S512x1024 .f32)
    {k : (Σ' (v96 : FVec F S512x1024 .f32) (v99 : FVec F S512x256 .f32) (v102 : FVec F S512x256 .f32), F .f32) → Prog (TpuEff nD τ sig (Elt F) Λ₀ .tc) α}
    (hk : iprop(Wins c a3 a4 a5 a6 X G U D ∗ R) ⊢ Wp c (k ⟨(addf (addf v (chunk x (cols G 2) (cols U 2) (lines D 2))) (chunk x (cols G 3) (cols U 3) (lines D 3))), k0_pay14 x (cols G 4), k0_pay15 x (cols U 4), Scalar.ofBits .f32 0x00000000#32⟩) Q) :
    iprop(Wins c a3 a4 a5 a6 X G U D ∗ R) ⊢ Wp c (k0_part3 i a1 h1 a2 h2 a3 h3 a4 h4 a5 h5 a6 h6 a7 h7 x v (k0_pay11 x (cols U 2)) (k0_pay12 x (cols G 2)) >>= k) Q := by
  rw [k0_part3_eq_skeleton]
  unfold k0_part3_skel
  simp only [Prog.bind_assoc, Prog.pure_eq_ret, Prog.bind_ret]
  refine load_d c 2 (by decide) rfl ?_
  refine load_g c 3 (by decide) rfl ?_
  refine load_u c 3 (by decide) rfl ?_
  refine load_d c 3 (by decide) rfl ?_
  refine load_g c 4 (by decide) rfl ?_
  refine load_u c 4 (by decide) rfl ?_
  rw [pay13_eq]
  exact hk

theorem part4 {α : Type} {Q : α → sProp 𝕄} {R : sProp 𝕄} (x : FVec F S512x1024 .bf16) (v : FVec F S512x1024 .f32)
    {k : (Σ' (v136 : FVec F S512x1024 .f32), FVec F S1024x256 .bf16) → Prog (TpuEff nD τ sig (Elt F) Λ₀ .tc) α}
    (hk : iprop(Wins c a3 a4 a5 a6 X G U D ∗ R) ⊢ Wp c (k ⟨(addf (addf v (chunk x (cols G 4) (cols U 4) (lines D 4))) (chunk x (cols G 5) (cols U 5) (lines D 5))), k0_pay17 (cols G 6)⟩) Q) :
    iprop(Wins c a3 a4 a5 a6 X G U D ∗ R) ⊢ Wp c (k0_part4 i a1 h1 a2 h2 a3 h3 a4 h4 a5 h5 a6 h6 a7 h7 x v (k0_pay14 x (cols G 4)) (k0_pay15 x (cols U 4)) (Scalar.ofBits .f32 0x00000000#32) >>= k) Q := by
  rw [k0_part4_eq_skeleton]
  unfold k0_part4_skel
  simp only [Prog.bind_assoc, Prog.pure_eq_ret, Prog.bind_ret]
  refine load_d c 4 (by decide) rfl ?_
  refine load_g c 5 (by decide) rfl ?_
  refine load_u c 5 (by decide) rfl ?_
  refine load_d c 5 (by decide) rfl ?_
  refine load_g c 6 (by decide) rfl ?_
  rw [pay16_eq]
  exact hk

theorem part5 {α : Type} {Q : α → sProp 𝕄} {R : sProp 𝕄} (x : FVec F S512x1024 .bf16) (v : FVec F S512x1024 .f32)
    {k : (Σ' (v156 : FVec F S512x1024 .f32), FVec F S512x256 .bf16) → Prog (TpuEff nD τ sig (Elt F) Λ₀ .tc) α}
    (hk : iprop(Wins c a3 a4 a5 a6 X G U D ∗ R) ⊢ Wp c (k ⟨(addf v (chunk x (cols G 6) (cols U 6) (lines D 6))), k0_pay19 x (cols G 7) (cols U 7)⟩) Q) :
    iprop(Wins c a3 a4 a5 a6 X G U D ∗ R) ⊢ Wp c (k0_part5 i a1 h1 a2 h2 a3 h3 a4 h4 a5 h5 a6 h6 a7 h7 x v (k0_pay17 (cols G 6)) >>= k) Q := by
  rw [k0_part5_eq_skeleton]
  unfold k0_part5_skel
  simp only [Prog.bind_assoc, Prog.pure_eq_ret, Prog.bind_ret]
  refine load_u c 6 (by decide) rfl ?_
  refine load_d c 6 (by decide) rfl ?_
  refine load_g c 7 (by decide) rfl ?_
  refine load_u c 7 (by decide) rfl ?_
  rw [pay18_eq]
  exact hk

theorem part6 {α : Type} {Q : α → sProp 𝕄} {R : sProp 𝕄} (x : FVec F S512x1024 .bf16) (v : FVec F S512x1024 .f32)
    {k : (Σ' (v196 : FVec F S512x1024 .f32) (v199 : FVec F S512x256 .f32) (v202 : FVec F S512x256 .f32) (v205 : FVec F S512x256 .f32), FVec F S512x256 .f32) → Prog (TpuEff nD τ sig (Elt F) Λ₀ .tc) α}
    (hk : iprop(Wins c a3 a4 a5 a6 X G U D ∗ R) ⊢ Wp c (k ⟨(addf (addf v (chunk x (cols G 7) (cols U 7) (lines D 7))) (chunk x (cols G 8) (cols U 8) (lines D 8))), k0_pay21 x (cols G 9), k0_pay22 x (cols U 9), k0_pay23 x (cols G 9), k0_pay24 (F := F)⟩) Q) :
    iprop(Wins c a3 a4 a5 a6 X G U D ∗ R) ⊢ Wp c (k0_part6 i a1 h1 a2 h2 a3 h3 a4 h4 a5 h5 a6 h6 a7 h7 x v (k0_pay19 x (cols G 7) (cols U 7)) >>= k) Q := by
  rw [k0_part6_eq_skeleton]
  unfold k0_part6_skel
  simp only [Prog.bind_assoc, Prog.pure_eq_ret, Prog.bind_ret]
  refine load_d c 7 (by decide) rfl ?_
  refine load_g c 8 (by decide) rfl ?_
  refine load_u c 8 (by decide) rfl ?_
  refine load_d c 8 (by decide) rfl ?_
  refine load_g c 9 (by decide) rfl ?_
  refine load_u c 9 (by decide) rfl ?_
  rw [pay20_eq]
  exact hk

/-- The last loads and the first two stores. -/
theorem part7 {α : Type} {Q : α → sProp 𝕄} {R : sProp 𝕄} (x : FVec F S512x1024 .bf16) (v : FVec F S512x1024 .f32)
    {k : FVec F S512x1024 .f32 → Prog (TpuEff nD τ sig (Elt F) Λ₀ .tc) α}
    (hk : iprop(Scr c a7 (addf (addf v (chunk x (cols G 9) (cols U 9) (lines D 9))) (chunk x (cols G 10) (cols U 10) (lines D 10))) 2 ∗ (Wins c a3 a4 a5 a6 X G U D ∗ R)) ⊢ Wp c (k (addf (addf v (chunk x (cols G 9) (cols U 9) (lines D 9))) (chunk x (cols G 10) (cols U 10) (lines D 10)))) Q) :
    iprop(Wins c a3 a4 a5 a6 X G U D ∗ (Scr c a7 (addf (addf v (chunk x (cols G 9) (cols U 9) (lines D 9))) (chunk x (cols G 10) (cols U 10) (lines D 10))) 0 ∗ R)) ⊢ Wp c (k0_part7 i a1 h1 a2 h2 a3 h3 a4 h4 a5 h5 a6 h6 a7 h7 x v (k0_pay21 x (cols G 9)) (k0_pay22 x (cols U 9)) (k0_pay23 x (cols G 9)) (k0_pay24 (F := F)) >>= k) Q := by
  rw [k0_part7_eq_skeleton]
  unfold k0_part7_skel
  simp only [Prog.bind_assoc, Prog.pure_eq_ret, Prog.bind_ret]
  refine load_d c 9 (by decide) rfl ?_
  refine load_g c 10 (by decide) rfl ?_
  refine load_u c 10 (by decide) rfl ?_
  refine load_d c 10 (by decide) rfl ?_
  unfold k0_pay26 k0_pay27
  rw [pay25_eq]
  refine BIBase.Entails.trans (show iprop(Wins c a3 a4 a5 a6 X G U D ∗ (Scr c a7 (addf (addf v (chunk x (cols G 9) (cols U 9) (lines D 9))) (chunk x (cols G 10) (cols U 10) (lines D 10))) 0 ∗ R)) ⊢ iprop(Scr c a7 (addf (addf v (chunk x (cols G 9) (cols U 9) (lines D 9))) (chunk x (cols G 10) (cols U 10) (lines D 10))) 0 ∗ (Wins c a3 a4 a5 a6 X G U D ∗ R)) from ?_) ?_
  · iintro ⟨HW, HS, HR⟩
    isplitl [HS]; · iexact HS
    isplitl [HW]; · iexact HW
    iexact HR
  refine load_o c _ 0 fun _ => ?_
  refine store_o c _ 0 (by decide) rfl _ (fun y => slice_cols _ 0 (by decide) rfl _ y) ?_
  refine load_o c _ 1 fun _ => ?_
  refine store_o c _ 1 (by decide) rfl _ (fun y => slice_cols _ 1 (by decide) rfl _ y) ?_
  exact hk

theorem layer_eq : layer X G U D = (addf (addf (addf (addf (addf (addf (addf (addf (addf (addf (chunk (tokens X) (cols G 0) (cols U 0) (lines D 0)) (chunk (tokens X) (cols G 1) (cols U 1) (lines D 1))) (chunk (tokens X) (cols G 2) (cols U 2) (lines D 2))) (chunk (tokens X) (cols G 3) (cols U 3) (lines D 3))) (chunk (tokens X) (cols G 4) (cols U 4) (lines D 4))) (chunk (tokens X) (cols G 5) (cols U 5) (lines D 5))) (chunk (tokens X) (cols G 6) (cols U 6) (lines D 6))) (chunk (tokens X) (cols G 7) (cols U 7) (lines D 7))) (chunk (tokens X) (cols G 8) (cols U 8) (lines D 8))) (chunk (tokens X) (cols G 9) (cols U 9) (lines D 9))) (chunk (tokens X) (cols G 10) (cols U 10) (lines D 10))) := rfl

/-- The output block after one grid point. -/
theorem point {Q : PUnit → sProp 𝕄} {R : sProp 𝕄} (nu : S1.Idx → BitVec 32) (hc : ¬ k0_cond1 i (nu (ix1 0)) = 1#1 ↔ k0_cond2 i (nu (ix1 0)) = 1#1)
    (Y : S4096x128.Idx → Elt F .f32) {ha2 : (Memref.whole main_arg1 : Memref sig .tc .smem S1 .i32).IsWhole}
    (hk : iprop(Tab c nu
      ∗ (owns (c : Thread nD τ) a7 fullShare (outB i (nu (ix1 0)) X G U D) ∗ (Wins c a3 a4 a5 a6 X G U D ∗ R))) ⊢ Q ⟨⟩) :
    iprop(Tab c nu
      ∗ (Wins c a3 a4 a5 a6 X G U D ∗ (owns (c : Thread nD τ) a7 fullShare Y ∗ R)))
      ⊢ Wp c (cc0_ffn_grouped i a1 h1 (Memref.whole main_arg1) ha2 a3 h3 a4 h4 a5 h5 a6 h6 a7 h7) Q := by
  rw [cc0_ffn_grouped_eq_skeleton]
  unfold cc0_ffn_grouped_skel outB at *
  simp only [Prog.bind_assoc, Prog.pure_eq_ret, Prog.bind_ret]
  refine load_nu c nu ?_
  by_cases hu : k0_cond1 i (nu (ix1 0)) = 1#1
  · have hz : ¬ k0_cond2 i (nu (ix1 0)) = 1#1 := fun h => hc.mpr h hu
    rw [if_pos hu] at hk
    rw [dif_pos hu]
    refine BIBase.Entails.trans (show iprop(Tab c nu ∗ (Wins c a3 a4 a5 a6 X G U D ∗ (owns (c : Thread nD τ) a7 fullShare Y ∗ R))) ⊢ iprop(Wins c a3 a4 a5 a6 X G U D ∗ (Scr c a7 (layer X G U D) 0
      ∗ (Tab c nu ∗ R))) from ?_) ?_
    · iintro ⟨HT, HW, HO, HR⟩
      isplitl [HW]; · iexact HW
      isplitl [HO]; · iapply (Scr_start c a7 (layer X G U D) Y) $$ HO
      isplitl [HT]; · iexact HT
      iexact HR
    rw [layer_eq]
    refine part1 c i ?_
    refine part2 c i _ _ ?_
    refine part3 c i _ _ ?_
    refine part4 c i _ _ ?_
    refine part5 c i _ _ ?_
    refine part6 c i _ _ ?_
    refine part7 c i _ _ ?_
    refine load_o c _ 2 fun _ => ?_
    refine store_o c _ 2 (by decide) rfl (k0_pay1 _) (fun y => slice_cols _ 2 (by decide) rfl slices_S512x1024_o0_256_S512x128 y) ?_
    refine load_o c _ 3 fun _ => ?_
    refine store_o c _ 3 (by decide) rfl (k0_pay2 _) (fun y => slice_cols _ 3 (by decide) rfl slices_S512x1024_o0_384_S512x128 y) ?_
    refine load_o c _ 4 fun _ => ?_
    refine store_o c _ 4 (by decide) rfl (k0_pay3 _) (fun y => slice_cols _ 4 (by decide) rfl slices_S512x1024_o0_512_S512x128 y) ?_
    refine load_o c _ 5 fun _ => ?_
    refine store_o c _ 5 (by decide) rfl (k0_pay4 _) (fun y => slice_cols _ 5 (by decide) rfl slices_S512x1024_o0_640_S512x128 y) ?_
    refine load_o c _ 6 fun _ => ?_
    refine store_o c _ 6 (by decide) rfl (k0_pay5 _) (fun y => slice_cols _ 6 (by decide) rfl slices_S512x1024_o0_768_S512x128 y) ?_
    refine load_o c _ 7 fun _ => ?_
    refine store_o c _ 7 (by decide) rfl (k0_pay6 _) (fun y => slice_cols _ 7 (by decide) rfl slices_S512x1024_o0_896_S512x128 y) ?_
    rw [← layer_eq]
    refine BIBase.Entails.trans (show iprop(Scr c a7 (layer X G U D) 8 ∗ (Wins c a3 a4 a5 a6 X G U D ∗ (Tab c nu ∗ R))) ⊢ iprop(Tab c nu
      ∗ (owns (c : Thread nD τ) a7 fullShare (laid (layer X G U D)) ∗ (Wins c a3 a4 a5 a6 X G U D ∗ R))) from ?_) ?_
    · iintro ⟨HO, HW, HT, HR⟩
      isplitl [HT]; · iexact HT
      isplitl [HO]; · iapply (Scr_full c a7 (layer X G U D)) $$ HO
      isplitl [HW]; · iexact HW
      iexact HR
    refine load_nu c nu ?_
    rw [dif_neg hz]
    refine hk.trans ?_
    exact Idealize.SL.BI.fupd_intro
  · have hz : k0_cond2 i (nu (ix1 0)) = 1#1 := hc.mp hu
    rw [if_neg hu] at hk
    rw [dif_neg hu]
    refine load_nu c nu ?_
    rw [dif_pos hz]
    refine BIBase.Entails.trans (show iprop(Tab c nu ∗ (Wins c a3 a4 a5 a6 X G U D ∗ (owns (c : Thread nD τ) a7 fullShare Y ∗ R))) ⊢ iprop(owns (c : Thread nD τ) a7 fullShare Y
      ∗ (Tab c nu ∗ (Wins c a3 a4 a5 a6 X G U D ∗ R))) from ?_) ?_
    · iintro ⟨HT, HW, HO, HR⟩
      isplitl [HO]; · iexact HO
      isplitl [HT]; · iexact HT
      isplitl [HW]; · iexact HW
      iexact HR
    refine load_own c fullShare Y ?_
    refine store_all c Y _ ?_
    refine BIBase.Entails.trans (show iprop(owns (c : Thread nD τ) a7 fullShare k0_pay7 ∗ (Tab c nu ∗ (Wins c a3 a4 a5 a6 X G U D ∗ R))) ⊢ iprop(Tab c nu ∗ (owns (c : Thread nD τ) a7 fullShare k0_pay7 ∗ (Wins c a3 a4 a5 a6 X G U D ∗ R))) from ?_) (hk.trans ?_)
    · iintro ⟨HO, HT, HW, HR⟩
      isplitl [HT]; · iexact HT
      isplitl [HO]; · iexact HO
      isplitl [HW]; · iexact HW
      iexact HR
    · exact Idealize.SL.BI.fupd_intro

end Cert.Kernel2Ideal.Hand

end
-- ==== Proof.FfnPre.lean ====
/-
  Hand-written. The experts' call: the precondition read, and what it gives the launch: every expert named is one of the
  eight, so that every weight block lies inside its array.
-/
module

public import proofs.«01_k».proof.Proof.FfnStep
public import proofs.«01_k».proof.Proof.Gen.Pre_experts_exist
public import Idealize.ShloMosaic.Lib.ReduceAll

@[expose] public section

noncomputable section

namespace Cert.Kernel2Ideal.Hand

open Cert.Kernel2Ideal Cert.Kernel2Ideal.Gen
open Idealize.ShloMosaic Idealize.ShloMosaic.TcCoe

/-- A word between 0 and 7, as the comparisons say it. -/
theorem small_word (a : BitVec 32) (h : IntOp.andi (IntOp.cmpi .sge a 0#32) (IntOp.cmpi .slt a 8#32) = 1#1) : a.toNat < 8 := by
  have h' : BitVec.ofBool (BitVec.sle 0#32 a) &&& BitVec.ofBool (BitVec.slt a 8#32) = 1#1 := h
  have h1 : BitVec.sle 0#32 a = true := by
    cases e : BitVec.sle 0#32 a
    · rw [e] at h'; simp at h'
    · rfl
  have h2 : BitVec.slt a 8#32 = true := by
    cases e : BitVec.slt a 8#32
    · rw [e] at h'; simp at h'
    · rfl
  simp only [BitVec.sle, BitVec.slt, decide_eq_true_eq, BitVec.toInt_eq_toNat_cond] at h1 h2
  have e0 : (0#32).toNat = 0 := rfl
  have e8 : (8#32).toNat = 8 := rfl
  rw [e0] at h1; rw [e8] at h2
  have := a.isLt
  split at h1 <;> split at h2 <;> omega

/-- The precondition says that every tile's expert is one of the eight. -/
theorem te_lt {F : FTy → Type} [FloatOps F] (te : S72.Idx → BitVec 32) (nu : S1.Idx → BitVec 32) (hs : FVec F S294912x128 .f32)
    (wg wu : FVec F S1x8x1024x2816 .f32) (wd : FVec F S1x8x2816x1024 .f32)
    (h : Cert.Pre_experts_exist.fn te nu hs wg wu wd = fun _ => 1#1) (j : S72.Idx) : (te j).toNat < 8 := by
  haveI : Subsingleton Cert.Pre_experts_exist.S_.Idx := ⟨fun a b => funext fun x => x.elim0⟩
  have e := congrFun h (Shape.Idx.first Cert.Pre_experts_exist.Gen.h_S_)
  exact small_word (te j) (Host.reduce_andi_all _ _ _ _ _ e j)

variable {F : FTy → Type} [FloatOps F]

set_option maxRecDepth 20000 in
/-- With such experts every weight block is a whole slab inside its array. -/
theorem ok_of_lt (pf : pre0.Contents (Elt F)) (h : ∀ j : S72.Idx, ((pf 0 : S72.Idx → BitVec 32) j).toNat < 8) : ok0 (F := F) pf := by
  refine ⟨fun i => ⟨fun a => ?_, Or.inr (Or.inr ⟨by decide, rfl, rfl, rfl⟩)⟩, fun i => ⟨fun a => ?_, Or.inr (Or.inr ⟨by decide, rfl, rfl, rfl⟩)⟩, fun i => ⟨fun a => ?_, Or.inr (Or.inr ⟨by decide, rfl, rfl, rfl⟩)⟩⟩
  all_goals
    fin_cases a
    · show ((pf 0 : S72.Idx → BitVec 32) _).toNat.succ * 1 ≤ 8
      rw [Nat.mul_one]
      exact h _
    · exact Nat.le_of_eq (by show (0 + 1) * _ = _; rw [Nat.zero_add, Nat.one_mul]; rfl)
    · exact Nat.le_of_eq (by show (0 + 1) * _ = _; rw [Nat.zero_add, Nat.one_mul]; rfl)

end Cert.Kernel2Ideal.Hand

end
-- ==== Proof.FfnRun.lean ====
/-
  Hand-written. The experts' call: its run. The weights are laid out and rounded, then tile by tile the body leaves the
  layer of the tile's expert; every argument ends unchanged, every semaphore at zero. For any float values.
-/
module

public import proofs.«01_k».proof.Proof.FfnBody
public import proofs.«01_k».proof.Proof.FfnPre
public import proofs.«01_k».proof.Proof.Gen.Kernel2Ideal.Launch
public import Idealize.ShloMosaic.Lib.Pipeline.Frame
public import Idealize.ShloMosaic.Lib.Pipeline.FrameBody
public import Idealize.ShloMosaic.Lib.Pipeline.Quiescent
public import Idealize.ShloMosaic.Lib.Pipeline.ValueKit
public import Idealize.ShloMosaic.Lib.StableHlo.RunRead

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run starts from -/

/-- The buffers' contents once the weights are laid out. -/
abbrev V (c : Dev nD) (b : Ref sig .tc) : Buf (Elt F) ((c : Thread nD τ).loc b) :=
  StableHlo.after hostOps0 (fun b => m (c, b)) b

/-- What the host lines write. -/
theorem hostWrites : (hostOps0 : List (HloOp τ sig (Elt F))).map HloOp.writes
    = ([main_v0, main_v1, main_v2, main_v3, main_v4, main_v5] : List (Ref sig .tc)).map fun w => {Proc.devRef (τ := τ) .tc w} := rfl

/-- Every other buffer is as the run found it. -/
theorem V_same (c : Dev nD) (b : Ref sig .tc) (h : b ∉ ([main_v0, main_v1, main_v2, main_v3, main_v4, main_v5] : List (Ref sig .tc))) :
    V m c b = m ((c : Thread nD τ).loc b) :=
  StableHlo.after_unwritten _ hostWrites h _

/-- The tables' words. -/
def tbl : pre0.Contents (Elt F) := fun k => m (((0 : Dev nD) : Thread nD τ).loc (pre0.ref k))
/-- The number of tiles used. -/
abbrev used : S1.Idx → BitVec 32 := tbl m 1

variable (hok : ok0 (F := F) (tbl m))

/-- The tables as the region reads them. -/
def adm : (p : Fin 1) → (pcfgs (F := F) p).Adm := fun _ => ⟨tbl m, hok⟩

theorem t_lt (t : Fin grid0.N) : t.val < 72 := lt_of_lt_of_eq t.isLt N_0

/-- A grid point's only coordinate is its number. -/
theorem coord (t : Fin grid0.N) : (grid0.coords t 0).val = t.val := by
  rw [Pipeline.Grid.coords_val (G := grid0) t 0 (S := 1) (B := 72) (by decide) rfl]
  have := t_lt t
  omega

/-- Exactly one of the two branches is taken. -/
theorem branches (i : grid0.Coords) (v : BitVec 32) : ¬ k0_cond1 i v = 1#1 ↔ k0_cond2 i v = 1#1 := by
  have h : ∀ b : Bool, (¬ Scalar.cmpi .ne (Scalar.extui (BitVec.ofBool b) : BitVec 32) 0#32 = 1#1
      ↔ Scalar.cmpi .ne (Scalar.extui (BitVec.ofBool (!b)) : BitVec 32) 0#32 = 1#1) := by decide
  have e : BitVec.sle v (BitVec.ofNat 32 (i 0).val) = !BitVec.slt (BitVec.ofNat 32 (i 0).val) v := by
    simp only [BitVec.sle, BitVec.slt]
    by_cases h : (BitVec.ofNat 32 (i 0).val).toInt < v.toInt
    · rw [decide_eq_true h, decide_eq_false (by omega)]; rfl
    · rw [decide_eq_false h, decide_eq_true (by omega)]; rfl
  have := h (BitVec.slt (BitVec.ofNat 32 (i 0).val) v)
  rw [← e] at this
  exact this

/-! ## The windows' contents -/

/-- What window `w` holds at point `t`: its block of the array. -/
def blkAt (c : Dev nD) (w : Fin 5) (t : Fin grid0.N) : (((cfg0 (adm m hok 0)).win w).xblock (grid0.coords t)).Idx → Elt F ((cfg0 (adm m hok 0)).win w).elt :=
  (((cfg0 (adm m hok 0)).win w).blk t).view.read (Elt F) (V m c (Pipeline.arrRef spec0 w))

abbrev Xw (c : Dev nD) (t : Fin grid0.N) : S4096x128.Idx → Elt F .f32 := blkAt m hok c 0 t
abbrev Gw (c : Dev nD) (t : Fin grid0.N) : S1x1024x2816.Idx → Elt F .bf16 := blkAt m hok c 1 t
abbrev Uw (c : Dev nD) (t : Fin grid0.N) : S1x1024x2816.Idx → Elt F .bf16 := blkAt m hok c 2 t
abbrev Dw (c : Dev nD) (t : Fin grid0.N) : S1x2816x1024.Idx → Elt F .bf16 := blkAt m hok c 3 t

/-- What the body leaves of tile `t`. -/
def Ow (c : Dev nD) (t : Fin grid0.N) : S4096x128.Idx → Elt F .f32 :=
  outB (grid0.coords t) (used m (ix1 0)) (Xw m hok c t) (Gw m hok c t) (Uw m hok c t) (Dw m hok c t)

/-- Grid point `b`. -/
def pt (b : ℕ) : Fin grid0.N := ⟨b % 72, by rw [N_0]; omega⟩

theorem pt_val (t : Fin grid0.N) : pt t.val = t := by
  have := t_lt t
  exact Fin.ext (Nat.mod_eq_of_lt this)

/-- What the result holds at the end. -/
def OUT (c : Dev nD) : S294912x128.Idx → Elt F .f32 := fun x =>
  Ow m hok c (pt ((x 0).val / 4096)) (ix2 ⟨(x 0).val % 4096, Nat.mod_lt _ (by decide)⟩ ⟨(x 1).val, (x 1).isLt⟩)

/-- The proof data of the one pipeline. -/
def dats (p : Fin 1) (c : Dev nD) : Dat τ (Elt F) Unit ℕ (UR sig nD τ) ℕ (Pipeline.pin (pcfgs (F := F)) (adm m hok) p) c where
  A w := V m c (Pipeline.arrRef spec0 w)
  after w t := match w with
    | ⟨0, _⟩ => Xw m hok c t
    | ⟨1, _⟩ => Gw m hok c t
    | ⟨2, _⟩ => Uw m hok c t
    | ⟨3, _⟩ => Dw m hok c t
    | ⟨4, _⟩ => Ow m hok c t
    | ⟨_ + 5, h⟩ => absurd h (Nat.not_lt.2 (Nat.le_add_left _ _))
  Φ _ := iprop(Pipeline.ΦA spec0 c ∗ Pipeline.ΦT pre0 (tbl m) c)
  q _ := fullShare
  owed _ := 0

abbrev cfgm : Cfg sig Λ₀ := cfg0 (F := F) (adm m hok 0)

theorem before_0 (c : Dev nD) (t : Fin grid0.N) (d) : (dats m hok 0 c).before (0 : Fin 5) t d = Xw m hok c t :=
  (Dat.before_in_eq_fetched (dats m hok 0 c) (0 : Fin 5) rfl (fun _ => rfl) (fun _ _ _ => rfl) (fun _ => rfl) t d).trans rfl
theorem before_1 (c : Dev nD) (t : Fin grid0.N) (d) : (dats m hok 0 c).before (1 : Fin 5) t d = Gw m hok c t :=
  (Dat.before_in_eq_fetched (dats m hok 0 c) (1 : Fin 5) rfl (fun _ => rfl) (fun _ _ _ => rfl) (fun _ => rfl) t d).trans rfl
theorem before_2 (c : Dev nD) (t : Fin grid0.N) (d) : (dats m hok 0 c).before (2 : Fin 5) t d = Uw m hok c t :=
  (Dat.before_in_eq_fetched (dats m hok 0 c) (2 : Fin 5) rfl (fun _ => rfl) (fun _ _ _ => rfl) (fun _ => rfl) t d).trans rfl
theorem before_3 (c : Dev nD) (t : Fin grid0.N) (d) : (dats m hok 0 c).before (3 : Fin 5) t d = Dw m hok c t :=
  (Dat.before_in_eq_fetched (dats m hok 0 c) (3 : Fin 5) rfl (fun _ => rfl) (fun _ _ _ => rfl) (fun _ => rfl) t d).trans rfl

/-! ## The body at a point -/

abbrev ms0_0 (t : Fin grid0.N) : Memref sig .tc .vmem S4096x128 .f32 := spec0_0.stage ((cfgm m hok).slots t (0 : Fin 5))
abbrev ms0_1 (t : Fin grid0.N) : Memref sig .tc .vmem S1x1024x2816 .bf16 := spec0_1.stage ((cfgm m hok).slots t (1 : Fin 5))
abbrev ms0_2 (t : Fin grid0.N) : Memref sig .tc .vmem S1x1024x2816 .bf16 := spec0_2.stage ((cfgm m hok).slots t (2 : Fin 5))
abbrev ms0_3 (t : Fin grid0.N) : Memref sig .tc .vmem S1x2816x1024 .bf16 := spec0_3.stage ((cfgm m hok).slots t (3 : Fin 5))
abbrev ms0_4 (t : Fin grid0.N) : Memref sig .tc .vmem S4096x128 .f32 := spec0_4.stage ((cfgm m hok).slots t (4 : Fin 5))

def bodyAt (t : Fin grid0.N) : Prog (TpuEff nD τ sig (Elt F) Λ₀ .tc) PUnit :=
  cc0_ffn_grouped (F := F) (grid0.coords t) (Memref.whole main_arg0) (Memref.isWhole_whole _) (Memref.whole main_arg1) (Memref.isWhole_whole _)
    (ms0_0 m hok t) (hstage0_0 (((cfgm m hok).slots t (0 : Fin 5)).cast nbuf0_0)) (ms0_1 m hok t) (hstage0_1 (((cfgm m hok).slots t (1 : Fin 5)).cast nbuf0_1))
    (ms0_2 m hok t) (hstage0_2 (((cfgm m hok).slots t (2 : Fin 5)).cast nbuf0_2)) (ms0_3 m hok t) (hstage0_3 (((cfgm m hok).slots t (3 : Fin 5)).cast nbuf0_3))
    (ms0_4 m hok t) (hstage0_4 (((cfgm m hok).slots t (4 : Fin 5)).cast nbuf0_4))

theorem defs₀_row (t : Fin grid0.N) :
    defs₀ (F := F) .tc (cfgm m hok).body ((cfgm m hok).bodyArgs t ((cfgm m hok).slots t)) = bodyAt m hok t := by
  unfold defs₀; rw [Defs.onTc_tc]; rfl

theorem prefHeld_eq (c : Dev nD) (W : pre0.Contents (Elt F)) :
    (Pipeline.ΦT pre0 W c : sProp 𝕄)
      = iprop((((c : Thread nD τ).loc main_arg0) ↦{fullShare.right} W (0 : Fin 2)) ∗ (((c : Thread nD τ).loc main_arg1) ↦{fullShare.right} W (1 : Fin 2))) := by
  unfold Pipeline.ΦT Pipeline.prefHeld
  rw [bigSep_univ_eq_bigSepL [(0 : Fin 2), (1 : Fin 2)] (by decide) (by decide)]; rfl

def bodyPre (c : Dev nD) (t : Fin grid0.N) : sProp 𝕄 :=
  iprop((dats m hok 0 c).Φ t.castSucc ∗ (dats m hok 0 c).owesAt () t.castSucc
    ∗ (∃ d, owns (c : Thread nD τ) (ms0_0 m hok t) fullShare ((dats m hok 0 c).before (0 : Fin 5) t d))
    ∗ (∃ d, owns (c : Thread nD τ) (ms0_1 m hok t) fullShare ((dats m hok 0 c).before (1 : Fin 5) t d))
    ∗ (∃ d, owns (c : Thread nD τ) (ms0_2 m hok t) fullShare ((dats m hok 0 c).before (2 : Fin 5) t d))
    ∗ (∃ d, owns (c : Thread nD τ) (ms0_3 m hok t) fullShare ((dats m hok 0 c).before (3 : Fin 5) t d))
    ∗ (∃ d, owns (c : Thread nD τ) (ms0_4 m hok t) fullShare ((dats m hok 0 c).before (4 : Fin 5) t d)))
def bodyPost (c : Dev nD) (t : Fin grid0.N) : sProp 𝕄 :=
  iprop((dats m hok 0 c).Φ t.succ ∗ (dats m hok 0 c).owesAt () t.succ
    ∗ owns (c : Thread nD τ) (ms0_0 m hok t) fullShare ((dats m hok 0 c).after (0 : Fin 5) t)
    ∗ owns (c : Thread nD τ) (ms0_1 m hok t) fullShare ((dats m hok 0 c).after (1 : Fin 5) t)
    ∗ owns (c : Thread nD τ) (ms0_2 m hok t) fullShare ((dats m hok 0 c).after (2 : Fin 5) t)
    ∗ owns (c : Thread nD τ) (ms0_3 m hok t) fullShare ((dats m hok 0 c).after (3 : Fin 5) t)
    ∗ owns (c : Thread nD τ) (ms0_4 m hok t) fullShare ((dats m hok 0 c).after (4 : Fin 5) t))

theorem sound_body (c : Dev nD) (t : Fin grid0.N) :
    bodyPre m hok c t ⊢ wp frame (wpE (defs₀ (F := F)) Variants.none c none) Set.univ (bodyAt m hok t) (fun _ => bodyPost m hok c t) := by
  unfold bodyPre bodyPost
  rw [show (dats m hok 0 c).Φ t.castSucc = iprop(Pipeline.ΦA spec0 c ∗ Pipeline.ΦT pre0 (tbl m) c) from rfl,
    show (dats m hok 0 c).Φ t.succ = iprop(Pipeline.ΦA spec0 c ∗ Pipeline.ΦT pre0 (tbl m) c) from rfl]
  unfold Dat.owesAt Pipeline.owesWithin
  rw [show (dats m hok 0 c).owed t.castSucc = 0 from rfl, show (dats m hok 0 c).owed t.succ = 0 from rfl]
  rw [show (dats m hok 0 c).after (0 : Fin 5) t = Xw m hok c t from rfl, show (dats m hok 0 c).after (1 : Fin 5) t = Gw m hok c t from rfl,
    show (dats m hok 0 c).after (2 : Fin 5) t = Uw m hok c t from rfl, show (dats m hok 0 c).after (3 : Fin 5) t = Dw m hok c t from rfl,
    show (dats m hok 0 c).after (4 : Fin 5) t = Ow m hok c t from rfl]
  simp only [before_0, before_1, before_2, before_3]
  rw [prefHeld_eq]
  iintro ⟨⟨HA, HT0, HT1⟩, ⟨%W, -, HW⟩, ⟨%d0, Hw0⟩, ⟨%d1, Hw1⟩, ⟨%d2, Hw2⟩, ⟨%d3, Hw3⟩, ⟨%d4, Hw4⟩⟩
  iapply (point (F := F) c (grid0.coords t) (R := iprop(Pipeline.ΦA spec0 c ∗ (((c : Thread nD τ).loc main_arg0) ↦{fullShare.right} tbl m (0 : Fin 2)) ∗ owes (c : Thread nD τ) (0 : CellTallies nD τ sig Unit) W))
    (X := Xw m hok c t) (G := Gw m hok c t) (U := Uw m hok c t) (D := Dw m hok c t)
    (used m) (branches _ _) ((dats m hok 0 c).before (4 : Fin 5) t d4) ?_)
  · unfold Tab Wins
    iintro ⟨HT1, Hw4, ⟨Hw0, Hw1, Hw2, Hw3⟩, HA, HT0, HW⟩
    isplitl [HA HT0 HT1]
    · isplitl [HA]; · iexact HA
      isplitl [HT0]; · iexact HT0
      iexact HT1
    isplitl [HW]
    · iexists W; isplitr; · ipureintro; exact fun _ _ => Or.inl trivial
      iexact HW
    isplitl [Hw0]; · iexact Hw0
    isplitl [Hw1]; · iexact Hw1
    isplitl [Hw2]; · iexact Hw2
    isplitl [Hw3]; · iexact Hw3
    iexact Hw4
  · unfold Tab Wins
    isplitl [HT1]; · iexact HT1
    isplitl [Hw0 Hw1 Hw2 Hw3]
    · isplitl [Hw0]; · iexact Hw0
      isplitl [Hw1]; · iexact Hw1
      isplitl [Hw2]; · iexact Hw2
      iexact Hw3
    isplitl [Hw4]; · iexact Hw4
    isplitl [HA]; · iexact HA
    isplitl [HT0]; · iexact HT0
    iexact HW

theorem busy (t : Fin grid0.N) : (cfgm m hok).idle (4 : Fin 5) (grid0.coords t) = false := by
  have h := branches (grid0.coords t) ((tbl m).atD 1 ![0])
  show (!(k0_cond1 (grid0.coords t) ((tbl m).atD 1 ![0]) == 1#1) && !(k0_cond2 (grid0.coords t) ((tbl m).atD 1 ![0]) == 1#1)) = false
  by_cases h1 : k0_cond1 (grid0.coords t) ((tbl m).atD 1 ![0]) = 1#1
  · rw [h1]; rfl
  · rw [h.mp h1, Bool.and_comm]; rfl

theorem body_obligation (c : Dev nD) : BodyObligation (dats (F := F) m hok 0 c) (defs₀ (F := F)) Variants.none () Set.univ := fun t => by
  rw [bigSep_W0, bigSep_W0, defs₀_row]
  refine triple_restated (sound_body m hok c t) rfl .rfl fun _ => ?_
  have e : (Pipeline.pin (pcfgs (F := F)) (adm m hok) 0).idle (4 : Fin 5) ((Pipeline.pin (pcfgs (F := F)) (adm m hok) 0).grid.coords t) = false := busy m hok t
  rw [e]
  exact (.rfl : bodyPost m hok c t ⊢ bodyPost m hok c t)

/-! ## The launch -/

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ⟨rfl, rfl, rfl, rfl, rfl, rfl⟩ main_chain

/-- The result's block at a tile is the tile's. -/
theorem index_4 (t : Fin grid0.N) : ((cfgm m hok).win (4 : Fin 5)).index t = ![t.val, 0] := by
  have e : ((cfgm m hok).win (4 : Fin 5)).index t = cc0_transform_4 (grid0.coords t) := rfl
  rw [e]
  have ht := t_lt t
  funext a
  fin_cases a
  · show (BitVec.ofNat 32 (grid0.coords t 0).val).toNat = t.val
    rw [coord, BitVec.toNat_ofNat]
    omega
  · rfl

/-- Every tile is written back. -/
theorem flush_4 (t : Fin grid0.N) : ((cfgm m hok).win (4 : Fin 5)).flush t = true := by
  have ht := t_lt t
  unfold Window.flush
  rw [show ((cfgm m hok).win (4 : Fin 5)).isOut = true from rfl, Bool.true_and]
  by_cases h : t.val + 1 = grid0.N
  · rw [decide_eq_true h, Bool.true_or]
  · have h' : t.val + 1 < grid0.N := by have := t.isLt; omega
    rw [decide_eq_true (p := ∃ h : t.val + 1 < grid0.N, ((cfgm m hok).win (4 : Fin 5)).index ⟨t.val + 1, h⟩ ≠ ((cfgm m hok).win (4 : Fin 5)).index t), Bool.or_true]
    refine ⟨h', fun e => ?_⟩
    rw [index_4, index_4] at e
    have e0 : t.val + 1 = t.val := congrFun e (0 : Fin 2)
    exact absurd e0 (Nat.succ_ne_self _)

/-- The result's array after the last tile. -/
theorem out_eq (c : Dev nD) : (dats m hok 0 c).arrAt (4 : Fin 5) grid0.N = OUT m hok c := by
  refine (dats m hok 0 c).arrAt_eq_of_emb (4 : Fin 5) (OUT m hok c) (fun t hf y => ?_) (fun i => ⟨pt ((i 0).val / 4096), flush_4 m hok _, ?_⟩)
  · blk_simp
    have h0 := t_lt t
    have hy0 : (y 0).val < 4096 := (y 0).isLt
    have e0 : ((((cfgm m hok).win (4 : Fin 5)).blk t).view.emb y (0 : Fin 2)).val = t.val * 4096 + (y 0).val := by
      have := congrFun (index_4 m hok t) (0 : Fin 2)
      blk_simp
      rw [this]
      rfl
    have e1 : ((((cfgm m hok).win (4 : Fin 5)).blk t).view.emb y (1 : Fin 2)).val = (y 1).val := by
      have := congrFun (index_4 m hok t) (1 : Fin 2)
      blk_simp
      rw [this]
      show 0 * 128 + (y 1).val = (y 1).val
      omega
    have key : ∀ (x : S294912x128.Idx), (x 0).val = t.val * 4096 + (y 0).val → (x 1).val = (y 1).val → OUT m hok c x = Ow m hok c t y := by
      intro x hx0 hx1
      unfold OUT
      rw [show pt ((x 0).val / 4096) = t from by rw [hx0, show (t.val * 4096 + (y 0).val) / 4096 = t.val by omega]; exact pt_val t]
      refine congrArg (Ow m hok c t) ?_
      funext a
      refine Fin.ext ?_
      fin_cases a
      · show (x 0).val % 4096 = (y 0).val
        omega
      · exact hx1
    exact (key _ e0 e1).symm
  · mem_blk
    have hi : (i 0).val < 294912 := (i 0).isLt
    have hi1 : (i 1).val < 128 := (i 1).isLt
    have e := index_4 m hok (pt ((i 0).val / 4096))
    have ep : (pt ((i 0).val / 4096)).val = (i 0).val / 4096 := by show (i 0).val / 4096 % 72 = _; omega
    have e0 := congrFun e (0 : Fin 2)
    have e1 := congrFun e (1 : Fin 2)
    rw [ep] at e0
    rw [e0, e1]
    show (((i 0).val / 4096) * 4096 ≤ (i 0).val ∧ (i 0).val < ((i 0).val / 4096) * 4096 + 4096) ∧ 0 * 128 ≤ (i 1).val ∧ (i 1).val < 0 * 128 + 128
    omega

set_option backward.isDefEq.respectTransparency.types false in
/-- The run: the result at its final contents, the arguments as they were, every semaphore at zero. -/
theorem run_main :
    θ_run defs (onTc (τ := τ) (main (F := F))) ⟨m, fun _ => 0, ρ⟩ (fun r => (∀ c : Dev nD,
      r.2.mem ((c.tc : Thread nD τ).loc main_v6) = OUT m hok c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frameP pcfgs (adm m hok) (dats m hok) 0 launch0 defs₀ Variants.none m ρ main
    (hbody := fun c => (body_obligation m hok c).loose)
    (hshare := fun c => (dats m hok 0 c).share_full fun _ => rfl) (howed := fun _ _ => rfl)
    (V := V m) (hmain := hmain m Variants.none) (hA := fun _ _ => rfl)
    (hpf := fun c k => by
      rw [Subsingleton.elim c 0]
      fin_cases k
      · exact V_same m 0 main_arg0 (by decide)
      · exact V_same m 0 main_arg1 (by decide))
    (hΦ := fun _ _ => rfl)
    (Q' := fun r => _)
    (hQ' := fun r h => ⟨fun c => by
      obtain ⟨hw, hr⟩ := h.1 c
      refine ⟨(hw (4 : Fin 5)).trans (out_eq m hok c), ?_, ?_, ?_, ?_, ?_, ?_⟩
      · exact (hr main_arg0 (Pipeline.mem_restRefs_of (win := spec0) _ rfl (by decide))).trans (V_same m c main_arg0 (by decide))
      · exact (hr main_arg1 (Pipeline.mem_restRefs_of (win := spec0) _ rfl (by decide))).trans (V_same m c main_arg1 (by decide))
      · exact ((hw (0 : Fin 5)).trans ((dats m hok 0 c).arrAt_in (0 : Fin 5) rfl _)).trans (V_same m c main_arg2 (by decide))
      · exact (hr main_arg3 (Pipeline.mem_restRefs_of (win := spec0) _ rfl (by decide))).trans (V_same m c main_arg3 (by decide))
      · exact (hr main_arg4 (Pipeline.mem_restRefs_of (win := spec0) _ rfl (by decide))).trans (V_same m c main_arg4 (by decide))
      · exact (hr main_arg5 (Pipeline.mem_restRefs_of (win := spec0) _ rfl (by decide))).trans (V_same m c main_arg5 (by decide)), h.2⟩)

end Cert.Kernel2Ideal.Hand

end
-- ==== Proof.FfnSpec.lean ====
/-
  Hand-written. One token's row put through one expert: the two products with the gate and up matrices, the gate
  `z / (1 + exp (-z))`, and the product with the down matrix, over the extended reals.
-/
module

public import Idealize.ShloMosaic.Lib.Pointwise
public import Idealize.ShloMosaic.Lib.Pipeline.Value

@[expose] public section

noncomputable section

namespace Cert.Hand

open Idealize.ShloMosaic

/-- The gate: `z` times the logistic function of `z`. -/
def swish (z : EReal) : EReal := z * Ideal.div 1 (1 + Ideal.exp (-z))

/-- Hidden number `f` of a row `x`. -/
def hidden (x : Fin 1024 → EReal) (wg wu : Fin 1024 → Fin 2816 → EReal) (f : Fin 2816) : EReal :=
  swish (∑ k : Fin 1024, x k * wg k f) * ∑ k : Fin 1024, x k * wu k f

/-- Entry `a` of the row's image. -/
def image (x : Fin 1024 → EReal) (wg wu : Fin 1024 → Fin 2816 → EReal) (wd : Fin 2816 → Fin 1024 → EReal) (a : Fin 1024) : EReal :=
  ∑ f : Fin 2816, hidden x wg wu f * wd f a

/-- The grouped layer at a place of the packed rows, eight rows of 128 numbers to a token and 512 tokens to a tile: a token of a
    tile in use is put through the tile's expert; the other tiles are zero. -/
def tiled (te : (⟨1, ![72]⟩ : Shape).Idx → BitVec 32) (nu : (⟨1, ![1]⟩ : Shape).Idx → BitVec 32) (hs : (⟨2, ![294912, 128]⟩ : Shape).Idx → EReal)
    (wg wu : (⟨4, ![1, 8, 1024, 2816]⟩ : Shape).Idx → EReal) (wd : (⟨4, ![1, 8, 2816, 1024]⟩ : Shape).Idx → EReal)
    (R : Fin 294912) (z : Fin 128) : EReal :=
  if BitVec.slt (BitVec.ofNat 32 (R.val / 4096)) (nu (ix1 0)) = true then
    image (fun k => hs (ix2 ⟨8 * (R.val / 8) + k.val / 128, by omega⟩ ⟨k.val % 128, Nat.mod_lt _ (by decide)⟩))
      (fun k f => wg (ix4 0 ⟨(te (ix1 ⟨R.val / 4096, by omega⟩)).toNat % 8, Nat.mod_lt _ (by decide)⟩ k f))
      (fun k f => wu (ix4 0 ⟨(te (ix1 ⟨R.val / 4096, by omega⟩)).toNat % 8, Nat.mod_lt _ (by decide)⟩ k f))
      (fun f a => wd (ix4 0 ⟨(te (ix1 ⟨R.val / 4096, by omega⟩)).toNat % 8, Nat.mod_lt _ (by decide)⟩ f a))
      ⟨128 * (R.val % 8) + z.val, by omega⟩
  else 0

theorem one_f32 : Ideal.ofBits .f32 0x3F800000#32 = 1 := by
  simp [Ideal.ofBits, Ideal.ieee, -EReal.coe_mul]; norm_num

/-- A sum over `n` numbers of which the first `p` are summed, extended by the next `q`. -/
theorem range_step (g : ℕ → EReal) (p q : ℕ) :
    ∑ i ∈ Finset.range (p + q), g i = ∑ i ∈ Finset.range p, g i + ∑ j : Fin q, g (p + j.val) := by
  rw [Finset.sum_range_add, Finset.sum_range fun j => g (p + j)]

end Cert.Hand

end
-- ==== Proof.FfnKer.lean ====
/-
  Hand-written. The experts' tile over the extended reals: entry `(r, a)` of a tile in use is entry `a` of the image of row `r`.
-/
module

public import proofs.«01_k».proof.Proof.FfnStep
public import proofs.«01_k».proof.Proof.FfnSpec

@[expose] public section

noncomputable section

namespace Cert.Kernel2Ideal.Hand

open Cert.Kernel2Ideal Cert.Kernel2Ideal.Gen
open Idealize.ShloMosaic Idealize.ShloMosaic.TcCoe

variable (x : FVec Ideal S512x1024 .bf16)

theorem up_apply (u : Vec Ideal S1x1024x256 .bf16) (r : Fin 512) (j : Fin 256) :
    k0_pay11 x u (ix2 r j) = ∑ k : Fin 1024, x (ix2 r k) * u (ix3 0 k j) := by
  unfold k0_pay11
  pointwise

theorem gate_apply (g : Vec Ideal S1x1024x256 .bf16) (r : Fin 512) (j : Fin 256) :
    k0_pay12 x g (ix2 r j) = Cert.Hand.swish (∑ k : Fin 1024, x (ix2 r k) * g (ix3 0 k j)) := by
  unfold k0_pay12 Cert.Hand.swish
  pointwise
  rw [zero_sub]

theorem chunk_apply (g u : Vec Ideal S1x1024x256 .bf16) (d : Vec Ideal S1x256x1024 .bf16) (r : Fin 512) (a : Fin 1024) :
    chunk x g u d (ix2 r a) = ∑ j : Fin 256, gated x g u (ix2 r j) * d (ix3 0 j a) := by
  unfold chunk
  pointwise

theorem gated_apply (g u : Vec Ideal S1x1024x256 .bf16) (r : Fin 512) (j : Fin 256) :
    gated x g u (ix2 r j) = Cert.Hand.swish (∑ k : Fin 1024, x (ix2 r k) * g (ix3 0 k j)) * ∑ k : Fin 1024, x (ix2 r k) * u (ix3 0 k j) := by
  rw [← gate_apply x g r j, ← up_apply x u r j]
  rfl

/-- What hidden number `i` adds to entry `a` of row `r`. -/
def addend (G U : S1x1024x2816.Idx → EReal) (D : S1x2816x1024.Idx → EReal) (r : Fin 512) (a : Fin 1024) (i : ℕ) : EReal :=
  Cert.Hand.swish (∑ k : Fin 1024, x (ix2 r k) * G (ix3 0 k ⟨i % 2816, Nat.mod_lt _ (by decide)⟩))
    * (∑ k : Fin 1024, x (ix2 r k) * U (ix3 0 k ⟨i % 2816, Nat.mod_lt _ (by decide)⟩)) * D (ix3 0 ⟨i % 2816, Nat.mod_lt _ (by decide)⟩ a)

theorem slice_apply (G U : S1x1024x2816.Idx → EReal) (D : S1x2816x1024.Idx → EReal) (n : ℕ) (r : Fin 512) (a : Fin 1024) :
    chunk x (cols (F := Ideal) G n) (cols (F := Ideal) U n) (lines (F := Ideal) D n) (ix2 r a)
      = ∑ j : Fin 256, addend x G U D r a (256 * n + j.val) := by
  rw [chunk_apply]
  refine Finset.sum_congr rfl fun j _ => ?_
  rw [gated_apply]
  rfl

/-- The first `n + 1` slices sum the first `256 (n + 1)` hidden numbers. -/
theorem acc_apply (G U : S1x1024x2816.Idx → EReal) (D : S1x2816x1024.Idx → EReal) (r : Fin 512) (a : Fin 1024) : ∀ n : ℕ,
    acc (F := Ideal) x G U D n (ix2 r a) = ∑ i ∈ Finset.range (256 * n + 256), addend x G U D r a i
  | 0 => by
    rw [Cert.Hand.range_step]
    show chunk x (cols (F := Ideal) G 0) (cols (F := Ideal) U 0) (lines (F := Ideal) D 0) (ix2 r a) = _
    rw [slice_apply, Nat.mul_zero, Finset.range_zero, Finset.sum_empty, zero_add]
  | n + 1 => by
    rw [Cert.Hand.range_step]
    show acc (F := Ideal) x G U D n (ix2 r a)
      + chunk x (cols (F := Ideal) G (n + 1)) (cols (F := Ideal) U (n + 1)) (lines (F := Ideal) D (n + 1)) (ix2 r a) = _
    rw [slice_apply, acc_apply G U D r a n, Nat.mul_succ]

theorem tokens_apply (X : S4096x128.Idx → EReal) (r : Fin 512) (k : Fin 1024) :
    tokens (F := Ideal) X (ix2 r k) = X (ix2 ⟨8 * r.val + k.val / 128, by omega⟩ ⟨k.val % 128, Nat.mod_lt _ (by decide)⟩) := by
  have key := concatenate_ofFn_apply (t := S512x1024) (s₁ := S512x128) (1 : Fin 2) (fun n : Fin 8 => strip (F := Ideal) X n.val n.isLt)
    concatenates_S512x128_S512x128_S512x128_S512x128_S512x128_S512x128_S512x128_S512x128_S512x1024_d1 rfl 128 rfl (ix2 r k)
    ⟨k.val / 128, by omega⟩ rfl (ix2 r ⟨k.val % 128, Nat.mod_lt _ (by decide)⟩) rfl
    (fun b hb => by
      fin_cases b
      · rfl
      · exact absurd rfl hb)
  exact key

/-- A tile in use: entry `a` of the image of row `r`. -/
theorem layer_apply (X : S4096x128.Idx → EReal) (G U : S1x1024x2816.Idx → EReal) (D : S1x2816x1024.Idx → EReal) (r : Fin 512) (a : Fin 1024) :
    layer (F := Ideal) X G U D (ix2 r a)
      = Cert.Hand.image (fun k => X (ix2 ⟨8 * r.val + k.val / 128, by omega⟩ ⟨k.val % 128, Nat.mod_lt _ (by decide)⟩))
          (fun k f => G (ix3 0 k f)) (fun k f => U (ix3 0 k f)) (fun f b => D (ix3 0 f b)) a := by
  unfold layer
  rw [acc_apply (tokens (F := Ideal) X) G U D r a 10, show 256 * 10 + 256 = 2816 from rfl, Finset.sum_range]
  unfold Cert.Hand.image Cert.Hand.hidden addend
  refine Finset.sum_congr rfl fun f _ => ?_
  have hf : (⟨f.val % 2816, Nat.mod_lt _ (by decide)⟩ : Fin 2816) = f := Fin.ext (Nat.mod_eq_of_lt f.isLt)
  rw [hf]
  simp only [tokens_apply]

/-- What the body leaves at a place of the output block. -/
theorem outB_apply (i : grid0.Coords) (nu : BitVec 32) (X : S4096x128.Idx → EReal) (G U : S1x1024x2816.Idx → EReal) (D : S1x2816x1024.Idx → EReal)
    (y : Fin 4096) (z : Fin 128) :
    outB (F := Ideal) i nu X G U D (ix2 y z)
      = if k0_cond1 i nu = 1#1 then
          Cert.Hand.image (fun k => X (ix2 ⟨8 * (y.val / 8) + k.val / 128, by omega⟩ ⟨k.val % 128, Nat.mod_lt _ (by decide)⟩))
            (fun k f => G (ix3 0 k f)) (fun k f => U (ix3 0 k f)) (fun f b => D (ix3 0 f b)) ⟨128 * (y.val % 8) + z.val, by omega⟩
        else 0 := by
  unfold outB
  by_cases h : k0_cond1 i nu = 1#1
  · rw [if_pos h, if_pos h, ← layer_apply X G U D ⟨y.val / 8, by omega⟩]
    rfl
  · rw [if_neg h, if_neg h]
    unfold k0_pay7
    pointwise

end Cert.Kernel2Ideal.Hand

end
-- ==== Proof.FfnWin.lean ====
/-
  Hand-written. What each grid point reads of the arrays, over the extended reals: its own 4096 rows of the packed tokens, and
  the three matrices of the expert its table entry names.
-/
module

public import proofs.«01_k».proof.Proof.FfnRun
public import proofs.«01_k».proof.Proof.FfnPre
public import proofs.«01_k».proof.Proof.FfnKer
public import Idealize.ShloMosaic.Lib.Pipeline.ValueKit
public import Idealize.ShloMosaic.Lib.Claim

@[expose] public section

noncomputable section

namespace Cert.Kernel2Ideal.Hand

open Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ) (ρ : Dev nD → PrngReg)
variable (hok : ok0 (F := Ideal) (tbl m))

/-- The expert of tile `t`. -/
def ex (t : Fin grid0.N) : BitVec 32 := (tbl m 0 : S72.Idx → BitVec 32) (ix1 ⟨t.val, t_lt t⟩)

theorem V_v1 (c : Dev nD) (e : Fin 8) (k : Fin 1024) (f : Fin 2816) :
    (V m c main_v1 : S8x1024x2816.Idx → EReal) (ix3 e k f) = (m (c.tc.loc main_arg3) : S1x8x1024x2816.Idx → EReal) (ix4 0 e k f) := by
  unfold V
  entry_read
  pointwise

theorem V_v3 (c : Dev nD) (e : Fin 8) (k : Fin 1024) (f : Fin 2816) :
    (V m c main_v3 : S8x1024x2816.Idx → EReal) (ix3 e k f) = (m (c.tc.loc main_arg4) : S1x8x1024x2816.Idx → EReal) (ix4 0 e k f) := by
  unfold V
  entry_read
  pointwise

theorem V_v5 (c : Dev nD) (e : Fin 8) (f : Fin 2816) (a : Fin 1024) :
    (V m c main_v5 : S8x2816x1024.Idx → EReal) (ix3 e f a) = (m (c.tc.loc main_arg5) : S1x8x2816x1024.Idx → EReal) (ix4 0 e f a) := by
  unfold V
  entry_read
  pointwise

theorem index_0 (t : Fin grid0.N) : ((cfgm m hok).win (0 : Fin 5)).index t = ![t.val, 0] := by
  have e : ((cfgm m hok).win (0 : Fin 5)).index t = cc0_transform_0 (grid0.coords t) := rfl
  rw [e]
  have ht := t_lt t
  funext a
  fin_cases a
  · show (BitVec.ofNat 32 (grid0.coords t 0).val).toNat = t.val
    rw [coord, BitVec.toNat_ofNat]
    omega
  · rfl

/-- The table's entry a grid point reads. -/
theorem ex_at (t : Fin grid0.N) :
    (tbl m).at 0 (Rect.unit (s := S72) ![(Scalar.indexCast (BitVec.ofNat 32 (grid0.coords t 0).val)).toNat] S1.size (k0_off1_inb (grid0.coords t))) numel1_S1 = ex m t := by
  unfold ex
  show (tbl m 0 : S72.Idx → BitVec 32) _ = _
  refine congrArg (tbl m 0 : S72.Idx → BitVec 32) (funext fun a => Fin.ext ?_)
  have ht := t_lt t
  match a with
  | ⟨0, _⟩ =>
    refine (ValueKit.rect_emb_unit_val _ _ _ _ _).trans ?_
    show (BitVec.ofNat 32 (grid0.coords t 0).val).toNat + 0 = t.val
    rw [coord, BitVec.toNat_ofNat]
    omega

theorem index_1 (t : Fin grid0.N) : ((cfgm m hok).win (1 : Fin 5)).index t = ![(ex m t).toNat, 0, 0] := by
  rw [← ex_at]; rfl
theorem index_2 (t : Fin grid0.N) : ((cfgm m hok).win (2 : Fin 5)).index t = ![(ex m t).toNat, 0, 0] := by
  rw [← ex_at]; rfl
theorem index_3 (t : Fin grid0.N) : ((cfgm m hok).win (3 : Fin 5)).index t = ![(ex m t).toNat, 0, 0] := by
  rw [← ex_at]; rfl

/-- The rows of a tile. -/
theorem Xw_apply (c : Dev nD) (t : Fin grid0.N) (y : Fin 4096) (z : Fin 128) :
    Xw m hok c t (ix2 y z) = (m (c.tc.loc main_arg2) : S294912x128.Idx → EReal) (ix2 ⟨4096 * t.val + y.val, by have := t_lt t; omega⟩ z) := by
  have hV : V m c (Pipeline.arrRef spec0 (0 : Fin 5)) = m (c.tc.loc main_arg2) := V_same m c main_arg2 (by decide)
  show (V m c (Pipeline.arrRef spec0 (0 : Fin 5)) : S294912x128.Idx → EReal) ((((cfgm m hok).win (0 : Fin 5)).blk t).view.emb (ix2 y z)) = _
  rw [hV]
  have i0 := congrFun (index_0 m hok t) (0 : Fin 2)
  have i1 := congrFun (index_0 m hok t) (1 : Fin 2)
  refine congrArg (m (c.tc.loc main_arg2) : S294912x128.Idx → EReal) (funext fun a => Fin.ext ?_)
  match a with
  | ⟨0, _⟩ =>
    blk_simp
    rw [i0]
    show t.val * 4096 + y.val = 4096 * t.val + y.val
    omega
  | ⟨1, _⟩ =>
    blk_simp
    rw [i1]
    show 0 * 128 + z.val = z.val
    omega

/-- The gate matrix of the tile's expert. -/
theorem Gw_apply (c : Dev nD) (t : Fin grid0.N) (he : (ex m t).toNat < 8) (k : Fin 1024) (f : Fin 2816) :
    Gw m hok c t (ix3 0 k f) = (m (c.tc.loc main_arg3) : S1x8x1024x2816.Idx → EReal) (ix4 0 ⟨(ex m t).toNat, he⟩ k f) := by
  refine Eq.trans ?_ (V_v1 m c ⟨(ex m t).toNat, he⟩ k f)
  show (V m c (Pipeline.arrRef spec0 (1 : Fin 5)) : S8x1024x2816.Idx → EReal) ((((cfgm m hok).win (1 : Fin 5)).blk t).view.emb (ix3 0 k f)) = _
  have i0 := congrFun (index_1 m hok t) (0 : Fin 3)
  have i1 := congrFun (index_1 m hok t) (1 : Fin 3)
  have i2 := congrFun (index_1 m hok t) (2 : Fin 3)
  refine congrArg (V m c main_v1 : S8x1024x2816.Idx → EReal) (funext fun a => Fin.ext ?_)
  match a with
  | ⟨0, _⟩ =>
    blk_simp
    rw [i0]
    show (ex m t).toNat + 0 = (ex m t).toNat
    omega
  | ⟨1, _⟩ =>
    blk_simp
    rw [i1]
    show 0 * 1024 + k.val = k.val
    omega
  | ⟨2, _⟩ =>
    blk_simp
    rw [i2]
    show 0 * 2816 + f.val = f.val
    omega

/-- The up matrix of the tile's expert. -/
theorem Uw_apply (c : Dev nD) (t : Fin grid0.N) (he : (ex m t).toNat < 8) (k : Fin 1024) (f : Fin 2816) :
    Uw m hok c t (ix3 0 k f) = (m (c.tc.loc main_arg4) : S1x8x1024x2816.Idx → EReal) (ix4 0 ⟨(ex m t).toNat, he⟩ k f) := by
  refine Eq.trans ?_ (V_v3 m c ⟨(ex m t).toNat, he⟩ k f)
  show (V m c (Pipeline.arrRef spec0 (2 : Fin 5)) : S8x1024x2816.Idx → EReal) ((((cfgm m hok).win (2 : Fin 5)).blk t).view.emb (ix3 0 k f)) = _
  have i0 := congrFun (index_2 m hok t) (0 : Fin 3)
  have i1 := congrFun (index_2 m hok t) (1 : Fin 3)
  have i2 := congrFun (index_2 m hok t) (2 : Fin 3)
  refine congrArg (V m c main_v3 : S8x1024x2816.Idx → EReal) (funext fun a => Fin.ext ?_)
  match a with
  | ⟨0, _⟩ =>
    blk_simp
    rw [i0]
    show (ex m t).toNat + 0 = (ex m t).toNat
    omega
  | ⟨1, _⟩ =>
    blk_simp
    rw [i1]
    show 0 * 1024 + k.val = k.val
    omega
  | ⟨2, _⟩ =>
    blk_simp
    rw [i2]
    show 0 * 2816 + f.val = f.val
    omega

/-- The down matrix of the tile's expert. -/
theorem Dw_apply (c : Dev nD) (t : Fin grid0.N) (he : (ex m t).toNat < 8) (f : Fin 2816) (a : Fin 1024) :
    Dw m hok c t (ix3 0 f a) = (m (c.tc.loc main_arg5) : S1x8x2816x1024.Idx → EReal) (ix4 0 ⟨(ex m t).toNat, he⟩ f a) := by
  refine Eq.trans ?_ (V_v5 m c ⟨(ex m t).toNat, he⟩ f a)
  show (V m c (Pipeline.arrRef spec0 (3 : Fin 5)) : S8x2816x1024.Idx → EReal) ((((cfgm m hok).win (3 : Fin 5)).blk t).view.emb (ix3 0 f a)) = _
  have i0 := congrFun (index_3 m hok t) (0 : Fin 3)
  have i1 := congrFun (index_3 m hok t) (1 : Fin 3)
  have i2 := congrFun (index_3 m hok t) (2 : Fin 3)
  refine congrArg (V m c main_v5 : S8x2816x1024.Idx → EReal) (funext fun b => Fin.ext ?_)
  match b with
  | ⟨0, _⟩ =>
    blk_simp
    rw [i0]
    show (ex m t).toNat + 0 = (ex m t).toNat
    omega
  | ⟨1, _⟩ =>
    blk_simp
    rw [i1]
    show 0 * 2816 + f.val = f.val
    omega
  | ⟨2, _⟩ =>
    blk_simp
    rw [i2]
    show 0 * 1024 + a.val = a.val
    omega

/-- The branch a grid point takes: its tile is in use when its number is below the count. -/
theorem cond_iff (t : Fin grid0.N) (v : BitVec 32) : k0_cond1 (grid0.coords t) v = 1#1 ↔ BitVec.slt (BitVec.ofNat 32 t.val) v = true := by
  rw [← coord t]
  have h : ∀ b : Bool, (Scalar.cmpi .ne (Scalar.extui (BitVec.ofBool b) : BitVec 32) 0#32 = 1#1 ↔ b = true) := by decide
  exact h (BitVec.slt (BitVec.ofNat 32 (grid0.coords t 0).val) v)

/-- The result at a place: the tiles' specification. -/
theorem OUT_apply (c : Dev nD) (hlt : ∀ j : S72.Idx, ((tbl m 0 : S72.Idx → BitVec 32) j).toNat < 8) (R : Fin 294912) (z : Fin 128) :
    OUT m hok c (ix2 R z) = Cert.Hand.tiled (tbl m 0) (tbl m 1) (m (c.tc.loc main_arg2)) (m (c.tc.loc main_arg3)) (m (c.tc.loc main_arg4))
      (m (c.tc.loc main_arg5)) R z := by
  have hp : (pt (R.val / 4096)).val = R.val / 4096 := by show R.val / 4096 % 72 = _; omega
  have he : (ex m (pt (R.val / 4096))).toNat < 8 := hlt _
  have hex : ex m (pt (R.val / 4096)) = (tbl m 0 : S72.Idx → BitVec 32) (ix1 ⟨R.val / 4096, by omega⟩) :=
    congrArg (fun j => (tbl m 0 : S72.Idx → BitVec 32) (ix1 j)) (Fin.ext hp)
  show outB (F := Ideal) (grid0.coords (pt (R.val / 4096))) (used m (ix1 0)) (Xw m hok c (pt (R.val / 4096))) (Gw m hok c (pt (R.val / 4096)))
    (Uw m hok c (pt (R.val / 4096))) (Dw m hok c (pt (R.val / 4096))) (ix2 ⟨R.val % 4096, Nat.mod_lt _ (by decide)⟩ z) = _
  rw [outB_apply]
  unfold Cert.Hand.tiled
  simp only [cond_iff, hp]
  refine if_congr Iff.rfl ?_ rfl
  have e1 : (fun k : Fin 1024 => Xw m hok c (pt (R.val / 4096)) (ix2 ⟨8 * (R.val % 4096 / 8) + k.val / 128, by omega⟩ ⟨k.val % 128, Nat.mod_lt _ (by decide)⟩))
      = fun k : Fin 1024 => (m (c.tc.loc main_arg2) : S294912x128.Idx → EReal) (ix2 ⟨8 * (R.val / 8) + k.val / 128, by omega⟩ ⟨k.val % 128, Nat.mod_lt _ (by decide)⟩) := by
    funext k
    rw [Xw_apply]
    refine congrArg (m (c.tc.loc main_arg2) : S294912x128.Idx → EReal) ?_
    refine congrArg (fun i => ix2 i _) (Fin.ext ?_)
    show 4096 * (pt (R.val / 4096)).val + (8 * (R.val % 4096 / 8) + k.val / 128) = 8 * (R.val / 8) + k.val / 128
    rw [hp]
    omega
  have hi : (⟨(ex m (pt (R.val / 4096))).toNat, he⟩ : Fin 8)
      = ⟨((tbl m 0 : S72.Idx → BitVec 32) (ix1 ⟨R.val / 4096, by omega⟩)).toNat % 8, Nat.mod_lt _ (by decide)⟩ := by
    refine Fin.ext ?_
    rw [← hex]
    exact (Nat.mod_eq_of_lt he).symm
  have e2 : (fun (k : Fin 1024) (f : Fin 2816) => Gw m hok c (pt (R.val / 4096)) (ix3 0 k f))
      = fun k f => (m (c.tc.loc main_arg3) : S1x8x1024x2816.Idx → EReal) (ix4 0 ⟨((tbl m 0 : S72.Idx → BitVec 32) (ix1 ⟨R.val / 4096, by omega⟩)).toNat % 8, Nat.mod_lt _ (by decide)⟩ k f) := by
    funext k f
    rw [← hi]
    exact Gw_apply m hok c _ he k f
  have e3 : (fun (k : Fin 1024) (f : Fin 2816) => Uw m hok c (pt (R.val / 4096)) (ix3 0 k f))
      = fun k f => (m (c.tc.loc main_arg4) : S1x8x1024x2816.Idx → EReal) (ix4 0 ⟨((tbl m 0 : S72.Idx → BitVec 32) (ix1 ⟨R.val / 4096, by omega⟩)).toNat % 8, Nat.mod_lt _ (by decide)⟩ k f) := by
    funext k f
    rw [← hi]
    exact Uw_apply m hok c _ he k f
  have e4 : (fun (f : Fin 2816) (a : Fin 1024) => Dw m hok c (pt (R.val / 4096)) (ix3 0 f a))
      = fun f a => (m (c.tc.loc main_arg5) : S1x8x2816x1024.Idx → EReal) (ix4 0 ⟨((tbl m 0 : S72.Idx → BitVec 32) (ix1 ⟨R.val / 4096, by omega⟩)).toNat % 8, Nat.mod_lt _ (by decide)⟩ f a) := by
    funext f a
    rw [← hi]
    exact Dw_apply m hok c _ he f a
  have e5 : (⟨128 * (R.val % 4096 % 8) + z.val, by omega⟩ : Fin 1024) = ⟨128 * (R.val % 8) + z.val, by omega⟩ := Fin.ext (by show 128 * (R.val % 4096 % 8) + z.val = 128 * (R.val % 8) + z.val; omega)
  exact congr (congr (congr (congr (congrArg Cert.Hand.image e1) e2) e3) e4) e5

end Cert.Kernel2Ideal.Hand

end
-- ==== Proof.FfnRef.lean ====
/-
  Hand-written. The experts' reference text, over the extended reals: its gates, each expert's term, and their sum.
-/
module

public import proofs.«01_k».proof.Proof.Gen.Reference2Ideal.Run
public import proofs.«01_k».proof.Proof.FfnSpec
public import Idealize.ShloMosaic.Lib.Routing.OpsSet
public import Idealize.ShloMosaic.Lib.Routing.OpsPair
public import Idealize.ShloMosaic.Lib.Routing.Words
public import Idealize.ShloMosaic.Lib.Pipeline.Value

@[expose] public section

noncomputable section

namespace Cert.Reference2Ideal.Hand

open Cert.Reference2Ideal Cert.Reference2Ideal.Gen Cert.Reference2Ideal.Value Idealize.ShloMosaic Idealize.ShloMosaic.TcCoe Idealize.SL.Sem Idealize.ShloMosaic.StableHlo

/-- The number of each token's tile, as a floor division by 512 is printed. -/
def tileOf : IVec S36864 32 :=
  let n : IVec S36864 32 := iotaInDim S36864 32 0
  let b : IVec S36864 32 := broadcastInDim S36864 ![] bcast_S_S36864 (id (constantI S_ 32 512#32))
  let q : IVec S36864 32 := Host.divsi n b
  select (andi (cmpi .ne (signi n) (broadcastInDim S36864 ![] bcast_S_S36864 (signi (id (constantI S_ 32 512#32)))))
      (cmpi .ne (Host.remsi n b) (broadcastInDim S36864 ![] bcast_S_S36864 (constantI S_ 32 0#32))))
    (subi q (broadcastInDim S36864 ![] bcast_S_S36864 (constantI S_ 32 1#32))) q

theorem tileOf_apply (p : Fin 36864) : tileOf (ix1 p) = BitVec.ofNat 32 (p.val / 512) := by
  unfold tileOf
  pointwise
  have hb : (id (constantI S_ 32 512#32) : IVec S_ 32) ix0 = BitVec.ofNat 32 512 := rfl
  simp only [hb]
  rw [Routing.divsi_word _ (by omega) (by decide) (by decide), Routing.remsi_word _ (by omega) (by decide) (by decide)]
  have hs : IntOp.andi (IntOp.cmpi .ne (if BitVec.ofNat 32 p.val = 0 then (0 : BitVec 32) else if (BitVec.ofNat 32 p.val).msb = true then -1 else 1)
        (if BitVec.ofNat 32 512 = 0 then (0 : BitVec 32) else if (BitVec.ofNat 32 512).msb = true then -1 else 1))
      (IntOp.cmpi .ne (BitVec.ofNat 32 (p.val % 512)) 0#32) = 0#1 := by
    have h1 : (if BitVec.ofNat 32 512 = 0 then (0 : BitVec 32) else if (BitVec.ofNat 32 512).msb = true then -1 else 1) = 1 := by decide
    rw [h1]
    by_cases hp : p.val = 0
    · rw [hp]; decide
    · have h2 : BitVec.ofNat 32 p.val ≠ 0 := by
        intro h
        have := congrArg BitVec.toNat h
        rw [BitVec.toNat_ofNat] at this
        have h0 : (0 : BitVec 32).toNat = 0 := rfl
        omega
      have h3 : (BitVec.ofNat 32 p.val).msb = false := by
        rw [BitVec.msb_eq_decide, decide_eq_false_iff_not, BitVec.toNat_ofNat]
        omega
      rw [if_neg h2, h3]
      have : ∀ x : BitVec 1, IntOp.andi (IntOp.cmpi .ne (if false = true then (-1 : BitVec 32) else 1) 1) x = 0#1 := by decide
      exact this _
  refine Eq.trans (congrArg (fun b => Scalar.select b (IntOp.subi (BitVec.ofNat 32 (p.val / 512)) 1#32) (BitVec.ofNat 32 (p.val / 512))) hs) ?_
  rfl

/-- One expert's term before its gate. -/
def term (x : FVec Ideal S36864x1024 .f32) (wg wu : FVec Ideal S1024x2816 .f32) (wd : FVec Ideal S2816x1024 .f32) : FVec Ideal S36864x1024 .f32 :=
  let z : FVec Ideal S36864x2816 .f32 := Host.dotGeneral dot_S36864x1024_S1024x2816_S36864x2816_1_0_0_1_n_n none x wg
  Host.dotGeneral dot_S36864x2816_S2816x1024_S36864x1024_1_0_0_1_n_n none
    (mulf (mulf z (Host.divf (broadcastInDim S36864x2816 ![] bcast_S_S36864x2816 (constant S_ .f32 0x3F800000#32))
        (addf (broadcastInDim S36864x2816 ![] bcast_S_S36864x2816 (constant S_ .f32 0x3F800000#32)) (Host.exp (Host.negf z)))))
      (Host.dotGeneral dot_S36864x1024_S1024x2816_S36864x2816_1_0_0_1_n_n none x wu)) wd

theorem term_apply (x : FVec Ideal S36864x1024 .f32) (wg wu : FVec Ideal S1024x2816 .f32) (wd : FVec Ideal S2816x1024 .f32) (p : Fin 36864) (a : Fin 1024) :
    term x wg wu wd (ix2 p a) = Cert.Hand.image (fun k => x (ix2 p k)) (fun k f => wg (ix2 k f)) (fun k f => wu (ix2 k f)) (fun f b => wd (ix2 f b)) a := by
  unfold term Cert.Hand.image Cert.Hand.hidden Cert.Hand.swish
  pointwise

/-- Each token's eight gates: of a token in a tile in use 1 at its tile's expert, and 0 elsewhere. -/
def gates (te : IVec S72 32) (nu : IVec S1 32) : FVec Ideal S36864x8 .f32 :=
  select (broadcastInDim S36864x8 ![0, 1] bcast_S36864x1_S36864x8_0_1 (broadcastInDim S36864x1 ![0] bcast_S36864_S36864x1_0
      (cmpi .slt tileOf (broadcastInDim S36864 ![] bcast_S_S36864 (shapeCast _ nu shapeCasts_S1_S_)))))
    (uitofp .f32 (cmpi .eq (broadcastInDim S36864x8 ![0, 1] bcast_S36864x1_S36864x8_0_1 (broadcastInDim S36864x1 ![0] bcast_S36864_S36864x1_0
        (Host.gather gather_S72_S36864x1_S36864_n_0_n_n_0_1_1 te (broadcastInDim S36864x1 ![0] bcast_S36864_S36864x1_0
          (select (cmpi .slt tileOf (broadcastInDim S36864 ![] bcast_S_S36864 (constantI S_ 32 0#32)))
            (addi tileOf (broadcastInDim S36864 ![] bcast_S_S36864 (constantI S_ 32 72#32))) tileOf)))))
      (broadcastInDim S36864x8 ![0, 1] bcast_S1x8_S36864x8_0_1 (iotaInDim S1x8 32 1))))
    (broadcastInDim S36864x8 ![] bcast_S_S36864x8 (id (constant S_ .f32 0x00000000#32)))

theorem gates_apply (te : IVec S72 32) (nu : IVec S1 32) (hlt : ∀ j : S72.Idx, (te j).toNat < 8) (p : Fin 36864) (e : Fin 8) :
    gates te nu (ix2 p e) = if BitVec.slt (BitVec.ofNat 32 (p.val / 512)) (nu (ix1 0)) = true then
      (if (te (ix1 ⟨p.val / 512, by omega⟩)).toNat = e.val then 1 else 0) else 0 := by
  have hidx : (broadcastInDim S36864x1 ![0] bcast_S36864_S36864x1_0
      (select (cmpi .slt tileOf (broadcastInDim S36864 ![] bcast_S_S36864 (constantI S_ 32 0#32)))
        (addi tileOf (broadcastInDim S36864 ![] bcast_S_S36864 (constantI S_ 32 72#32))) tileOf) : IVec S36864x1 32) (ix2 p 0) = BitVec.ofNat 32 (p.val / 512) := by
    pointwise
    rw [tileOf_apply]
    exact Routing.wrap_of_lt _ _ (by rw [BitVec.toNat_ofNat]; omega)
  have hg := (Routing.gather_take1 gather_S72_S36864x1_S36864_n_0_n_n_0_1_1 rfl rfl rfl rfl te _ p ⟨p.val / 512, by omega⟩ hidx (by decide)).trans
    (show _ = te (ix1 ⟨p.val / 512, by omega⟩) from rfl)
  unfold gates
  pointwise
  refine Eq.trans (congrArg (fun w => Scalar.select (IntOp.cmpi .slt (tileOf (ix1 p)) (nu (ix1 0))) (FloatOps.uitofp (F := Ideal) FTy.f32 (IntOp.cmpi .eq w (BitVec.ofNat 32 e.val)))
    ((id (constant S_ FTy.f32 0#32) : FVec Ideal S_ .f32) ix0)) hg) ?_
  have h0 : (id (constant S_ FTy.f32 0#32) : FVec Ideal S_ .f32) ix0 = 0 := Ideal.ofBits_zero_f32
  rw [h0, tileOf_apply]
  have hsel : ∀ (b : Bool) (x y : EReal), Scalar.select (BitVec.ofBool b) x y = if b = true then x else y := by
    intro b x y
    cases b <;> rfl
  refine (hsel (BitVec.slt (BitVec.ofNat 32 (p.val / 512)) (nu (ix1 0))) _ _).trans ?_
  refine if_congr Iff.rfl ?_ rfl
  have ht := hlt (ix1 ⟨p.val / 512, by omega⟩)
  generalize te (ix1 ⟨p.val / 512, by omega⟩) = w at ht
  have hw : (w == BitVec.ofNat 32 e.val) = decide (w.toNat = e.val) := by
    have := e.isLt
    rw [Bool.eq_iff_iff, beq_iff_eq, decide_eq_true_iff, ← BitVec.toNat_inj, BitVec.toNat_ofNat, Nat.mod_eq_of_lt (by omega)]
  show ((((BitVec.ofBool (w == BitVec.ofNat 32 e.val)).toNat : ℝ)) : EReal) = _
  rw [hw]
  by_cases h : w.toNat = e.val
  · rw [if_pos h, decide_eq_true h]; simp
  · rw [if_neg h, decide_eq_false h]; simp

theorem gates_same (L : Valuation τ sig (Elt Ideal)) : res_main_v15 (F := Ideal) L = gates (L (Proc.devRef .tc main_arg0)) (L (Proc.devRef .tc main_arg1)) := rfl

theorem up_slab (W : FVec Ideal S1x8x1024x2816 .f32) (e : Fin 8) (h : S1x8x1024x2816.Slices ![0, e.val, 0, 0] S1x1x1024x2816) (k : Fin 1024) (f : Fin 2816) :
    shapeCast S1024x2816 (extractStridedSlice S1x1x1024x2816 ![0, e.val, 0, 0] W h) shapeCasts_S1x1x1024x2816_S1024x2816 (ix2 k f) = W (ix4 0 e k f) := by
  pointwise

theorem down_slab (W : FVec Ideal S1x8x2816x1024 .f32) (e : Fin 8) (h : S1x8x2816x1024.Slices ![0, e.val, 0, 0] S1x1x2816x1024) (f : Fin 2816) (a : Fin 1024) :
    shapeCast S2816x1024 (extractStridedSlice S1x1x2816x1024 ![0, e.val, 0, 0] W h) shapeCasts_S1x1x2816x1024_S2816x1024 (ix2 f a) = W (ix4 0 e f a) := by
  pointwise

/-- One expert's term with its gate. -/
def part (x : FVec Ideal S36864x1024 .f32) (g : FVec Ideal S36864x8 .f32) (wg wu : FVec Ideal S1x8x1024x2816 .f32) (wd : FVec Ideal S1x8x2816x1024 .f32) (e : ℕ)
    (h1 : S36864x8.Slices ![0, e] S36864x1) (h2 : S1x8x1024x2816.Slices ![0, e, 0, 0] S1x1x1024x2816) (h3 : S1x8x2816x1024.Slices ![0, e, 0, 0] S1x1x2816x1024) :
    FVec Ideal S36864x1024 .f32 :=
  mulf (broadcastInDim S36864x1024 ![0, 1] bcast_S36864x1_S36864x1024_0_1 (extractStridedSlice S36864x1 ![0, e] g h1))
    (term x (shapeCast _ (extractStridedSlice S1x1x1024x2816 ![0, e, 0, 0] wg h2) shapeCasts_S1x1x1024x2816_S1024x2816)
      (shapeCast _ (extractStridedSlice S1x1x1024x2816 ![0, e, 0, 0] wu h2) shapeCasts_S1x1x1024x2816_S1024x2816)
      (shapeCast _ (extractStridedSlice S1x1x2816x1024 ![0, e, 0, 0] wd h3) shapeCasts_S1x1x2816x1024_S2816x1024))

theorem part_apply (x : FVec Ideal S36864x1024 .f32) (g : FVec Ideal S36864x8 .f32) (wg wu : FVec Ideal S1x8x1024x2816 .f32) (wd : FVec Ideal S1x8x2816x1024 .f32)
    (e : Fin 8) (h1 : S36864x8.Slices ![0, e.val] S36864x1) (h2 : S1x8x1024x2816.Slices ![0, e.val, 0, 0] S1x1x1024x2816)
    (h3 : S1x8x2816x1024.Slices ![0, e.val, 0, 0] S1x1x2816x1024) (p : Fin 36864) (a : Fin 1024) :
    part x g wg wu wd e.val h1 h2 h3 (ix2 p a)
      = g (ix2 p e) * Cert.Hand.image (fun k => x (ix2 p k)) (fun k f => wg (ix4 0 e k f)) (fun k f => wu (ix4 0 e k f)) (fun f b => wd (ix4 0 e f b)) a := by
  unfold part
  have hg : (broadcastInDim S36864x1024 ![0, 1] bcast_S36864x1_S36864x1024_0_1 (extractStridedSlice S36864x1 ![0, e.val] g h1) : FVec Ideal S36864x1024 .f32) (ix2 p a)
      = g (ix2 p e) := by
    pointwise
  refine Eq.trans (congrArg₂ (· * ·) hg (term_apply x _ _ _ p a)) ?_
  simp only [up_slab, down_slab]

/-- The sum of the eight experts' terms, in the packed rows. -/
def whole (te : IVec S72 32) (nu : IVec S1 32) (hs : FVec Ideal S294912x128 .f32) (wg wu : FVec Ideal S1x8x1024x2816 .f32) (wd : FVec Ideal S1x8x2816x1024 .f32) :
    FVec Ideal S294912x128 .f32 :=
  let x : FVec Ideal S36864x1024 .f32 := shapeCast _ hs shapeCasts_S294912x128_S36864x1024
  let g := gates te nu
  shapeCast _ (addf (addf (addf (addf (addf (addf (addf (addf (broadcastInDim S36864x1024 ![] bcast_S_S36864x1024 (constant S_ .f32 0x00000000#32))
    (part x g wg wu wd 0 slices_S36864x8_S36864x1_0_0 slices_S1x8x1024x2816_S1x1x1024x2816_0_0_0_0 slices_S1x8x2816x1024_S1x1x2816x1024_0_0_0_0))
    (part x g wg wu wd 1 slices_S36864x8_S36864x1_0_1 slices_S1x8x1024x2816_S1x1x1024x2816_0_1_0_0 slices_S1x8x2816x1024_S1x1x2816x1024_0_1_0_0))
    (part x g wg wu wd 2 slices_S36864x8_S36864x1_0_2 slices_S1x8x1024x2816_S1x1x1024x2816_0_2_0_0 slices_S1x8x2816x1024_S1x1x2816x1024_0_2_0_0))
    (part x g wg wu wd 3 slices_S36864x8_S36864x1_0_3 slices_S1x8x1024x2816_S1x1x1024x2816_0_3_0_0 slices_S1x8x2816x1024_S1x1x2816x1024_0_3_0_0))
    (part x g wg wu wd 4 slices_S36864x8_S36864x1_0_4 slices_S1x8x1024x2816_S1x1x1024x2816_0_4_0_0 slices_S1x8x2816x1024_S1x1x2816x1024_0_4_0_0))
    (part x g wg wu wd 5 slices_S36864x8_S36864x1_0_5 slices_S1x8x1024x2816_S1x1x1024x2816_0_5_0_0 slices_S1x8x2816x1024_S1x1x2816x1024_0_5_0_0))
    (part x g wg wu wd 6 slices_S36864x8_S36864x1_0_6 slices_S1x8x1024x2816_S1x1x1024x2816_0_6_0_0 slices_S1x8x2816x1024_S1x1x2816x1024_0_6_0_0))
    (part x g wg wu wd 7 slices_S36864x8_S36864x1_0_7 slices_S1x8x1024x2816_S1x1x1024x2816_0_7_0_0 slices_S1x8x2816x1024_S1x1x2816x1024_0_7_0_0))
    shapeCasts_S36864x1024_S294912x128

theorem gates_at (te : IVec S72 32) (nu : IVec S1 32) (hlt : ∀ j : S72.Idx, (te j).toNat < 8) (p : Fin 36864) (e : ℕ) (he : e < 8)
    (h : BitVec.slt (BitVec.ofNat 32 (p.val / 512)) (nu (ix1 0)) = true) :
    gates te nu (ix2 p ⟨e, he⟩) = if (te (ix1 ⟨p.val / 512, by omega⟩)).toNat = e then 1 else 0 := by
  rw [gates_apply te nu hlt, if_pos h]

/-- Eight terms of which only one's gate is open. -/
theorem pick (w : ℕ) (hw : w < 8) (T : Fin 8 → EReal) :
    0 + (if w = 0 then 1 else 0) * T 0 + (if w = 1 then 1 else 0) * T 1 + (if w = 2 then 1 else 0) * T 2 + (if w = 3 then 1 else 0) * T 3
      + (if w = 4 then 1 else 0) * T 4 + (if w = 5 then 1 else 0) * T 5 + (if w = 6 then 1 else 0) * T 6 + (if w = 7 then 1 else 0) * T 7
      = T ⟨w % 8, Nat.mod_lt _ (by decide)⟩ := by
  interval_cases w <;> simp <;> rfl

/-- The sum at a place: the tiles' specification. -/
theorem whole_apply (te : IVec S72 32) (nu : IVec S1 32) (hs : FVec Ideal S294912x128 .f32) (wg wu : FVec Ideal S1x8x1024x2816 .f32)
    (wd : FVec Ideal S1x8x2816x1024 .f32) (hlt : ∀ j : S72.Idx, (te j).toNat < 8) (R : Fin 294912) (z : Fin 128) :
    whole te nu hs wg wu wd (ix2 R z) = Cert.Hand.tiled te nu hs wg wu wd R z := by
  have hp : R.val / 8 < 36864 := by omega
  have ha : 128 * (R.val % 8) + z.val < 1024 := by omega
  have hx : ∀ k : Fin 1024, (shapeCast S36864x1024 hs shapeCasts_S294912x128_S36864x1024) (ix2 ⟨R.val / 8, hp⟩ k)
      = hs (ix2 ⟨8 * (R.val / 8) + k.val / 128, by omega⟩ ⟨k.val % 128, Nat.mod_lt _ (by decide)⟩) := by
    intro k
    unfold shapeCast
    refine congrArg hs (Shape.reshapeEquiv_eq_of_rowMajor _ ?_)
    refine (rowMajor_val2 (d := ![294912, 128]) _ 128 rfl).trans (Eq.trans ?_ (rowMajor_val2 (d := ![36864, 1024]) _ 1024 rfl).symm)
    show (8 * (R.val / 8) + k.val / 128) * 128 + k.val % 128 = R.val / 8 * 1024 + k.val
    omega
  have hz : ∀ u : FVec Ideal S36864x1024 .f32, (shapeCast S294912x128 u shapeCasts_S36864x1024_S294912x128) (ix2 R z)
      = u (ix2 ⟨R.val / 8, hp⟩ ⟨128 * (R.val % 8) + z.val, ha⟩) := by
    intro u
    unfold shapeCast
    refine congrArg u (Shape.reshapeEquiv_eq_of_rowMajor _ ?_)
    refine (rowMajor_val2 (d := ![36864, 1024]) _ 1024 rfl).trans (Eq.trans ?_ (rowMajor_val2 (d := ![294912, 128]) _ 128 rfl).symm)
    show R.val / 8 * 1024 + (128 * (R.val % 8) + z.val) = R.val * 128 + z.val
    omega
  unfold whole
  refine (hz _).trans ?_
  have h0 : (broadcastInDim S36864x1024 ![] bcast_S_S36864x1024 (constant S_ .f32 0x00000000#32) : FVec Ideal S36864x1024 .f32)
      (ix2 ⟨R.val / 8, hp⟩ ⟨128 * (R.val % 8) + z.val, ha⟩) = 0 := by
    pointwise
  have hP := fun (e : Fin 8) h1 h2 h3 => part_apply (shapeCast S36864x1024 hs shapeCasts_S294912x128_S36864x1024) (gates te nu) wg wu wd e h1 h2 h3
    ⟨R.val / 8, hp⟩ ⟨128 * (R.val % 8) + z.val, ha⟩
  refine Eq.trans (congrArg₂ (· + ·) (congrArg₂ (· + ·) (congrArg₂ (· + ·) (congrArg₂ (· + ·) (congrArg₂ (· + ·) (congrArg₂ (· + ·) (congrArg₂ (· + ·) (congrArg₂ (· + ·) h0
    (hP 0 _ _ _)) (hP 1 _ _ _)) (hP 2 _ _ _)) (hP 3 _ _ _)) (hP 4 _ _ _)) (hP 5 _ _ _)) (hP 6 _ _ _)) (hP 7 _ _ _)) ?_
  have hq : (R.val / 8) / 512 = R.val / 4096 := by omega
  unfold Cert.Hand.tiled
  by_cases hu : BitVec.slt (BitVec.ofNat 32 (R.val / 4096)) (nu (ix1 0)) = true
  · rw [if_pos hu]
    have hg : ∀ e : Fin 8, gates te nu (ix2 ⟨R.val / 8, hp⟩ e) = if (te (ix1 ⟨R.val / 4096, by omega⟩)).toNat = e.val then 1 else 0 := by
      intro e
      rw [gates_apply te nu hlt, if_pos (by rw [hq]; exact hu)]
      simp only [hq]
    simp only [hg, hx]
    exact pick _ (hlt (ix1 ⟨R.val / 4096, by omega⟩)) (fun e => Cert.Hand.image
      (fun k => hs (ix2 ⟨8 * (R.val / 8) + k.val / 128, by omega⟩ ⟨k.val % 128, Nat.mod_lt _ (by decide)⟩))
      (fun k f => wg (ix4 0 e k f)) (fun k f => wu (ix4 0 e k f)) (fun f b => wd (ix4 0 e f b)) ⟨128 * (R.val % 8) + z.val, ha⟩)
  · rw [if_neg hu]
    have hg : ∀ e : Fin 8, gates te nu (ix2 ⟨R.val / 8, hp⟩ e) = 0 := by
      intro e
      rw [gates_apply te nu hlt, if_neg (by rw [hq]; exact hu)]
    simp only [hg, zero_mul, add_zero]

/-- The reference's result is that sum. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v137) = whole (m (c.tc.loc main_arg0)) (m (c.tc.loc main_arg1)) (m (c.tc.loc main_arg2))
          (m (c.tc.loc main_arg3)) (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.Reference2Ideal.Value.run (F := Ideal) m ρ)

end Cert.Reference2Ideal.Hand

end
-- ==== Proof.FfnValue.lean ====
/-
  Hand-written. The experts' call: the precondition makes its tables admissible, and the kernel's result is the reference's, both
  being the tiles' specification at every place.
-/
module

public import proofs.«01_k».proof.Proof.FfnWin
public import proofs.«01_k».proof.Proof.FfnRef

@[expose] public section

noncomputable section

namespace Cert.Kernel2Ideal.Hand

open Idealize.ShloMosaic Idealize.ShloMosaic.TcCoe

/-- Equal at every place of a matrix is equal. -/
theorem ext_294912 (u v : (⟨2, ![294912, 128]⟩ : Shape).Idx → EReal) (h : ∀ (R : Fin 294912) (z : Fin 128), u (ix2 R z) = v (ix2 R z)) : u = v := by
  funext i
  rw [eq_ix2 i]
  exact h _ _

/-- The kernel's result is the reference's sum of the same arrays. -/
theorem OUT_eq (m : (ℓ : Loc Cert.Kernel2Ideal.nD Cert.Kernel2Ideal.τ Cert.Kernel2Ideal.sig) → Buf (Elt Ideal) ℓ) (hok : Cert.Kernel2Ideal.ok0 (F := Ideal) (tbl m))
    (c : Dev Cert.Kernel2Ideal.nD) (hlt : ∀ j : Cert.Kernel2Ideal.S72.Idx, ((tbl m 0 : Cert.Kernel2Ideal.S72.Idx → BitVec 32) j).toNat < 8) :
    OUT m hok c = Cert.Reference2Ideal.Hand.whole (tbl m 0) (tbl m 1) (m (c.tc.loc Cert.Kernel2Ideal.main_arg2)) (m (c.tc.loc Cert.Kernel2Ideal.main_arg3))
      (m (c.tc.loc Cert.Kernel2Ideal.main_arg4)) (m (c.tc.loc Cert.Kernel2Ideal.main_arg5)) := by
  refine ext_294912 _ _ fun R z => ?_
  rw [OUT_apply m hok c hlt R z]
  exact (Cert.Reference2Ideal.Hand.whole_apply _ _ _ _ _ _ hlt R z).symm

end Cert.Kernel2Ideal.Hand

end
-- ==== Proof.CombSame.lean ====
/-
  Hand-written. The printed combining call and the idealized one have one text, so their body tables are the same at any float instance.
-/
module

public import proofs.«01_k».proof.Proof.Gen.Kernel3
public import proofs.«01_k».proof.Proof.Gen.Kernel3Ideal

@[expose] public section

noncomputable section

namespace Cert.Hand

open Idealize.ShloMosaic

variable {F : FTy → Type} [FloatOps F]

set_option maxHeartbeats 4000000 in
/-- The kernel's body. -/
theorem body3_same : (Cert.Kernel3.cc0_combine (F := F)) = (Cert.Kernel3Ideal.cc0_combine (F := F)) := rfl

set_option maxHeartbeats 4000000 in
/-- The kernels' body tables. -/
theorem table3_same : (Cert.Kernel3.defs₀ (F := F)) = (Cert.Kernel3Ideal.defs₀ (F := F)) := by
  unfold Cert.Kernel3.defs₀ Cert.Kernel3Ideal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun body3_same _) _) _) _) _) _) _) _) _) _) _) _) _) _) _) _
  | ⟨_ + 1, h⟩, _ => exact absurd h (Nat.not_lt.2 (Nat.le_add_left _ _))

set_option maxHeartbeats 4000000 in
/-- The body tables with the pipelines. -/
theorem defs3_same : (Cert.Kernel3.defs (F := F)) = (Cert.Kernel3Ideal.defs (F := F)) := by
  unfold Cert.Kernel3.defs Cert.Kernel3Ideal.defs
  exact congrArg (Pipeline.defs Cert.Kernel3Ideal.pcfgs) table3_same

end Cert.Hand

end
-- ==== Proof.CombBase.lean ====
/-
  Hand-written. What the proof of the combining call names throughout: the buffers its body uses, the words of the table,
  the row tiles of the experts' outputs they name and the places in the scratch these are copied to, and the arithmetic of
  the offsets the body computes.
-/
module

public import proofs.«01_k».proof.Proof.Gen.Kernel3Ideal.Skeleton
public import Idealize.ShloMosaic.Lib.Pipeline.FrameBody
public import Idealize.ShloMosaic.Lib.ValueLayout
public import Idealize.ShloMosaic.Lib.Pointwise
public import Idealize.ShloMosaic.Lib.Batch
public import Idealize.ShloMosaic.Lib.Ring
public import Idealize.SL.BI.BigOpNat
public import Idealize.ShloMosaic.Lib.Tactic

@[expose] public section

noncomputable section

namespace Cert.Kernel3Ideal.Hand

open Cert.Kernel3Ideal Cert.Kernel3Ideal.Gen
open Idealize.ShloMosaic Idealize.ShloMosaic.TcCoe Idealize.ShloMosaic.Tactic

/-! ## The buffers -/

/-- The table: the row of every (token, choice) pair. -/
abbrev posM : Memref sig .tc .smem S32768 .i32 := Memref.whole main_arg0
/-- The experts' outputs, in HBM, eight rows of 128 numbers to a row. -/
abbrev ysM : Memref sig .tc .hbm S294912x128 .f32 := Memref.whole main_arg1
/-- The scratch: two slots, of two choices' 512 rows each. -/
abbrev sM : Memref sig .tc .vmem S2x2x4096x128 .f32 := Memref.whole cc0_scratch0

/-- The semaphore of slot `s`. -/
def semOf (s : ℕ) : DmaSem sig := if s = 0 then ⟨7, by decide⟩ else ⟨8, by decide⟩

theorem sem_eq (s : ℕ) (hs : s < 2) (inb : ∀ a, (![s] : Fin 1 → ℕ) a + S1.size a ≤ S2.size a) :
    ((cc0_scratch1.slice (Rect.unit (s := S2) ![s] S1.size inb)).squeeze S_ squeezes_S1_S_).sem = semOf s := by
  have key : ∀ z : S1.Idx, (S2.rowMajor ((Rect.unit (s := S2) ![s] S1.size inb).emb z)).val = s := by
    intro z
    rw [Shape.rowMajor_val_one]
    have hz : (z 0).val < 1 := (z 0).isLt
    have e : ((Rect.unit (s := S2) ![s] S1.size inb).emb z 0).val = s + 1 * (z 0).val := by rw [Rect.emb_apply]; rfl
    rw [e]; omega
  have hv : (((cc0_scratch1.slice (Rect.unit (s := S2) ![s] S1.size inb)).squeeze S_ squeezes_S1_S_).sem).val = 7 + s :=
    congrArg (7 + ·) (key _)
  refine Fin.ext (hv.trans ?_)
  unfold semOf
  split
  · show 7 + s = 7; omega
  · show 7 + s = 8; omega

/-! ## The table's words -/

abbrev ixP (p : ℕ) (h : p < 32768) : S32768.Idx := fun a => ⟨p, by fin_cases a; exact h⟩

/-- Word `p` of the table. -/
def word (tp : S32768.Idx → BitVec 32) (p : ℕ) : BitVec 32 := if h : p < 32768 then tp (ixP p h) else 0#32

theorem word_pos {tp} (p : ℕ) (h : p < 32768) : word tp p = tp (ixP p h) := dif_pos h

/-- The row tile word `p` names. -/
def row (tp : S32768.Idx → BitVec 32) (p : ℕ) : ℕ := (word tp p).toNat

/-- What the body needs of the table: every word names a tile of the experts' outputs. -/
def Inb (tp : S32768.Idx → BitVec 32) : Prop := ∀ p, p < 32768 → row tp p < 36864

/-! ## Offsets and checks of a tile at a word -/

theorem off_tile {w : BitVec 32} (h : w.toNat < 36864) : ![(Scalar.muli w 8#32).toNat, 0] = ![8 * w.toNat, 0] := by
  have : (Scalar.muli w 8#32).toNat = 8 * w.toNat := by
    show (w * 8#32).toNat = _
    rw [BitVec.toNat_mul]
    show (w.toNat * 8) % 2 ^ 32 = _
    rw [Nat.mod_eq_of_lt (by omega)]; omega
  rw [this]

theorem mult_tile {w : BitVec 32} (h : w.toNat < 36864) : 8 ∣ (Scalar.muli w 8#32).toNat :=
  ⟨w.toNat, congrFun (off_tile h) 0⟩

theorem inb_tile {w : BitVec 32} (h : w.toNat < 36864) :
    ∀ a, (![(Scalar.muli w 8#32).toNat, 0] : Fin 2 → ℕ) a + S8x128.size a ≤ S294912x128.size a := by
  rw [off_tile h]
  intro a
  fin_cases a
  · show 8 * w.toNat + 8 ≤ 294912; omega
  · show 0 + 128 ≤ 128; omega

/-- The side condition the body assumes of each word it reads. -/
theorem chk_tile {w : BitVec 32} (h : w.toNat < 36864) :
    (8 ∣ (Scalar.muli w 8#32).toNat) ∧
      (∀ a, (![(Scalar.muli w 8#32).toNat, 0] : Fin 2 → ℕ) a + S8x128.size a ≤ S294912x128.size a) :=
  ⟨mult_tile h, inb_tile h⟩

/-- The same, as the loops under a condition state it. -/
theorem chk_tile' {w : BitVec 32} {b : BitVec 1} (h : w.toNat < 36864) :
    (∀ _ : b = 1#1, 8 ∣ (Scalar.muli w 8#32).toNat) ∧
      (∀ _ : b = 1#1, ∀ a, (![(Scalar.muli w 8#32).toNat, 0] : Fin 2 → ℕ) a + S8x128.size a ≤ S294912x128.size a) :=
  ⟨fun _ => mult_tile h, fun _ => inb_tile h⟩

/-! ## Offsets at a trip -/

theorem iv_nat (t : ℕ) : Scf.iv 0#32 1#32 t = BitVec.ofNat 32 t := by
  simp [Scf.iv]

theorem trip_nat (t : ℕ) (ht : t < 32) (u : ℕ) (hu : u < 16) :
    (Scalar.addi (Scalar.muli (Scf.iv 0#32 1#32 t) 16#32) (BitVec.ofNat 32 u)).toNat = 16 * t + u := by
  rw [iv_nat]
  show (BitVec.ofNat 32 t * 16#32 + BitVec.ofNat 32 u).toNat = _
  simp only [BitVec.toNat_add, BitVec.toNat_mul, BitVec.toNat_ofNat]
  omega

/-- The word copy `n` of step `b` reads: the block's 512 tokens' first choices, then their second. -/
def slot (b n : ℕ) : ℕ := if n < 512 then 512 * b + n else 16384 + 512 * b + (n - 512)

theorem slot_lt {b n : ℕ} (hb : b < 32) (hn : n < 1024) : slot b n < 32768 := by
  unfold slot; split <;> omega

theorem off_h0 (t : ℕ) (ht : t < 32) (u : ℕ) (hu : u < 16) :
    ![(Scalar.muli (Scalar.addi (Scalar.muli (Scf.iv 0#32 1#32 t) 16#32) (BitVec.ofNat 32 u)) 8#32).toNat, 0]
      = ![8 * ((16 * t + u) % 512), 0] := by
  have e := trip_nat t ht u hu
  rw [off_tile (by rw [e]; omega), e, Nat.mod_eq_of_lt (by omega)]

theorem off_h1 (t : ℕ) (ht : t < 32) (u : ℕ) (hu : u < 16) :
    ![(Scalar.muli (Scalar.addi (Scalar.muli (Scf.iv 0#32 1#32 t) 16#32) (BitVec.ofNat 32 u)) 8#32).toNat, 0]
      = ![8 * ((512 + 16 * t + u) % 512), 0] := by
  have e := trip_nat t ht u hu
  rw [off_tile (by rw [e]; omega), e, show (512 + 16 * t + u) % 512 = 16 * t + u by omega]

/-- The first step's words. -/
theorem off_first0 (t : ℕ) (ht : t < 32) (u : ℕ) (hu : u < 16) :
    ![(Scalar.indexCast (Scalar.addi (BitVec.ofNat 32 0)
        (Scalar.addi (Scalar.muli (Scf.iv 0#32 1#32 t) 16#32) (BitVec.ofNat 32 u)))).toNat] = ![slot 0 (16 * t + u)] := by
  have e := trip_nat t ht u hu
  have : (BitVec.ofNat 32 0 + Scalar.addi (Scalar.muli (Scf.iv 0#32 1#32 t) 16#32) (BitVec.ofNat 32 u)).toNat = slot 0 (16 * t + u) := by
    rw [BitVec.toNat_add, e]
    unfold slot; rw [if_pos (by omega)]
    simp only [BitVec.toNat_ofNat]
    omega
  exact congrArg (fun n => ![n]) this

theorem off_first1 (t : ℕ) (ht : t < 32) (u : ℕ) (hu : u < 16) :
    ![(Scalar.indexCast (Scalar.addi (BitVec.ofNat 32 16384)
        (Scalar.addi (Scalar.muli (Scf.iv 0#32 1#32 t) 16#32) (BitVec.ofNat 32 u)))).toNat] = ![slot 0 (512 + 16 * t + u)] := by
  have e := trip_nat t ht u hu
  have : (BitVec.ofNat 32 16384 + Scalar.addi (Scalar.muli (Scf.iv 0#32 1#32 t) 16#32) (BitVec.ofNat 32 u)).toNat = slot 0 (512 + 16 * t + u) := by
    rw [BitVec.toNat_add, e]
    unfold slot; rw [if_neg (by omega)]
    simp only [BitVec.toNat_ofNat]
    omega
  exact congrArg (fun n => ![n]) this

/-- The words of the step whose number the word `w` is. -/
theorem off_at0 (w : BitVec 32) (b : ℕ) (hw : w.toNat = b) (hb : b < 32) (t : ℕ) (ht : t < 32) (u : ℕ) (hu : u < 16) :
    ![(Scalar.indexCast (Scalar.addi (Scalar.addi (BitVec.ofNat 32 0) (Scalar.muli w 512#32))
        (Scalar.addi (Scalar.muli (Scf.iv 0#32 1#32 t) 16#32) (BitVec.ofNat 32 u)))).toNat] = ![slot b (16 * t + u)] := by
  have e := trip_nat t ht u hu
  have : (BitVec.ofNat 32 0 + w * 512#32 + Scalar.addi (Scalar.muli (Scf.iv 0#32 1#32 t) 16#32) (BitVec.ofNat 32 u)).toNat = slot b (16 * t + u) := by
    rw [BitVec.toNat_add, e]
    unfold slot; rw [if_pos (by omega)]
    simp only [BitVec.toNat_add, BitVec.toNat_mul, BitVec.toNat_ofNat, hw]
    omega
  exact congrArg (fun n => ![n]) this

theorem off_at1 (w : BitVec 32) (b : ℕ) (hw : w.toNat = b) (hb : b < 32) (t : ℕ) (ht : t < 32) (u : ℕ) (hu : u < 16) :
    ![(Scalar.indexCast (Scalar.addi (Scalar.addi (BitVec.ofNat 32 16384) (Scalar.muli w 512#32))
        (Scalar.addi (Scalar.muli (Scf.iv 0#32 1#32 t) 16#32) (BitVec.ofNat 32 u)))).toNat] = ![slot b (512 + 16 * t + u)] := by
  have e := trip_nat t ht u hu
  have : (BitVec.ofNat 32 16384 + w * 512#32 + Scalar.addi (Scalar.muli (Scf.iv 0#32 1#32 t) 16#32) (BitVec.ofNat 32 u)).toNat = slot b (512 + 16 * t + u) := by
    rw [BitVec.toNat_add, e]
    unfold slot; rw [if_neg (by omega)]
    simp only [BitVec.toNat_add, BitVec.toNat_mul, BitVec.toNat_ofNat, hw]
    omega
  exact congrArg (fun n => ![n]) this

theorem step_here (i : ℕ) (hi : i < 32) : (BitVec.ofNat 32 i).toNat = i := by
  simp only [BitVec.toNat_ofNat]; omega

theorem step_next (i : ℕ) (hi : i + 1 < 32) : (Scalar.addi (BitVec.ofNat 32 i) 1#32).toNat = i + 1 := by
  show (BitVec.ofNat 32 i + 1#32).toNat = _
  simp only [BitVec.toNat_add, BitVec.toNat_ofNat]; omega

/-! ## The slot of a step -/

/-- The number modulo two, as the body computes it. -/
def parity (w : BitVec 32) : BitVec 32 :=
  Scalar.select (Scalar.andi (Scalar.xori (Scalar.cmpi .slt (Scalar.remsi w (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi w (Scalar.select (Scalar.cmpi .eq 2#32 0#32) 1#32 2#32)) 0#32))
    (Scalar.addi (Scalar.remsi w (Scalar.select (Scalar.cmpi .eq 2#32 0#32) 1#32 2#32)) (Scalar.select (Scalar.cmpi .eq 2#32 0#32) 1#32 2#32))
    (Scalar.remsi w (Scalar.select (Scalar.cmpi .eq 2#32 0#32) 1#32 2#32))

theorem parity_nat : ∀ n : Fin 33, (parity (BitVec.ofNat 32 n.val)).toNat = n.val % 2 := by decide

theorem parity_next : ∀ n : Fin 32, (parity (Scalar.addi (BitVec.ofNat 32 n.val) 1#32)).toNat = (n.val + 1) % 2 := by decide

theorem i_lt (i : grid0.Coords) : (i 0).val < 32 := (i 0).isLt

theorem sem_next (i : grid0.Coords) : k0_off103 i = ![((i 0).val + 1) % 2] :=
  (show k0_off103 i = ![(parity (Scalar.addi (BitVec.ofNat 32 (i 0).val) 1#32)).toNat] from rfl).trans
    (congrArg (fun n => ![n]) (parity_next ⟨(i 0).val, i_lt i⟩))

theorem sem_here (i : grid0.Coords) : k0_off258 i = ![(i 0).val % 2] :=
  (show k0_off258 i = ![(parity (BitVec.ofNat 32 (i 0).val)).toNat] from rfl).trans
    (congrArg (fun n => ![n]) (parity_nat ⟨(i 0).val, by have := i_lt i; omega⟩))

theorem buf_next0 (i : grid0.Coords) : k0_off104 i = ![((i 0).val + 1) % 2, 0, 0, 0] :=
  (show k0_off104 i = ![(parity (Scalar.addi (BitVec.ofNat 32 (i 0).val) 1#32)).toNat, 0, 0, 0] from rfl).trans
    (congrArg (fun n => ![n, 0, 0, 0]) (parity_next ⟨(i 0).val, i_lt i⟩))

theorem buf_next1 (i : grid0.Coords) :
    ![(parity (Scalar.addi (BitVec.ofNat 32 (i 0).val) 1#32)).toNat, 1, 0, 0] = ![((i 0).val + 1) % 2, 1, 0, 0] :=
  congrArg (fun n => ![n, 1, 0, 0]) (parity_next ⟨(i 0).val, i_lt i⟩)

theorem buf_here (i : grid0.Coords) (j k : ℕ) :
    ![(parity (BitVec.ofNat 32 (i 0).val)).toNat, j, k, 0] = ![(i 0).val % 2, j, k, 0] :=
  congrArg (fun n => ![n, j, k, 0]) (parity_nat ⟨(i 0).val, by have := i_lt i; omega⟩)

/-! ## Row tiles -/

/-- The elements of row tile `r` of the experts' outputs. -/
def tile (r : ℕ) : Finset S294912x128.Idx := Finset.univ.filter fun x => (x 0).val / 8 = r

theorem mem_tile {r : ℕ} {x : S294912x128.Idx} : x ∈ tile r ↔ (x 0).val / 8 = r := by
  simp [tile]

theorem slice_set (r : ℕ) (inb : ∀ a, (![8 * r, 0] : Fin 2 → ℕ) a + S8x128.size a ≤ S294912x128.size a) :
    (Rect.unit (s := S294912x128) ![8 * r, 0] S8x128.size inb).set = tile r := by
  ext x
  rw [Rect.mem_set_unit, mem_tile]
  constructor
  · intro h
    have h0 := h 0
    change 8 * r ≤ (x 0).val ∧ (x 0).val < 8 * r + 8 at h0
    omega
  · intro h a
    fin_cases a
    · show 8 * r ≤ (x 0).val ∧ (x 0).val < 8 * r + 8
      omega
    · show 0 ≤ (x 1).val ∧ (x 1).val < 0 + 128
      have := (x 1).isLt
      change (x 1).val < 128 at this
      omega

theorem tile_view_set (r : ℕ) (inb : ∀ a, (![8 * r, 0] : Fin 2 → ℕ) a + S8x128.size a ≤ S294912x128.size a) :
    (ysM.slice (Rect.unit (s := S294912x128) ![8 * r, 0] S8x128.size inb) (fun _ => rfl)).view.set = tile r := by
  rw [← slice_set r inb]
  exact View.set_slice_whole main_arg1 _

/-- The place of copy `n` in slot `s` of the scratch. -/
def dtile (s n : ℕ) : Finset S2x2x4096x128.Idx :=
  Finset.univ.filter fun x => (x 0).val = s ∧ (x 1).val = n / 512 ∧ (x 2).val / 8 = n % 512

theorem mem_dtile {s n : ℕ} {x : S2x2x4096x128.Idx} : x ∈ dtile s n ↔ (x 0).val = s ∧ (x 1).val = n / 512 ∧ (x 2).val / 8 = n % 512 := by
  simp [dtile]

/-- Slot `s` of the scratch. -/
def half (s : ℕ) : Finset S2x2x4096x128.Idx := Finset.univ.filter fun x => (x 0).val = s

theorem mem_half {s : ℕ} {x : S2x2x4096x128.Idx} : x ∈ half s ↔ (x 0).val = s := by
  simp [half]

theorem dtile_disjoint {s n m : ℕ} (h : n ≠ m) : Disjoint (dtile s n) (dtile s m) := by
  rw [Finset.disjoint_left]; intro x hx hy
  rw [mem_dtile] at hx hy
  omega

theorem half_tiles (s : ℕ) : (Finset.range 1024).biUnion (dtile s) = half s := by
  ext x
  simp only [Finset.mem_biUnion, Finset.mem_range, mem_half, mem_dtile]
  have h1 : (x 1).val < 2 := (x 1).isLt
  have h2 : (x 2).val < 4096 := (x 2).isLt
  constructor
  · rintro ⟨n, -, h, -⟩; exact h
  · intro h
    exact ⟨512 * (x 1).val + (x 2).val / 8, by omega, h, by omega, by omega⟩

theorem half_disjoint : Disjoint (half 0) (half 1) := by
  rw [Finset.disjoint_left]; intro x hx hy
  rw [mem_half] at hx hy
  omega

theorem half_union : half 0 ∪ half 1 = Finset.univ := by
  ext x
  have h0 : (x 0).val < 2 := (x 0).isLt
  simp only [Finset.mem_union, mem_half, Finset.mem_univ, iff_true]
  omega

/-- The destination of a copy, as the body names it. -/
abbrev dstM (off : Fin 4 → ℕ) (inb : ∀ a, off a + S1x1x4096x128.size a ≤ S2x2x4096x128.size a)
    (off' : Fin 2 → ℕ) (inb' : ∀ a, off' a + S8x128.size a ≤ S4096x128.size a) : Memref sig .tc .vmem S8x128 .f32 :=
  ((sM.slice (Rect.unit (s := S2x2x4096x128) off S1x1x4096x128.size inb) (fun _ => rfl)).squeeze S4096x128 squeezes_S1x1x4096x128_S4096x128).slice
    (Rect.unit (s := S4096x128) off' S8x128.size inb') (fun _ => rfl)

theorem emb_unit_val {s : Shape} {off size : Fin s.rank → ℕ} {inb} (y : (Rect.unit (s := s) off size inb).shape.Idx) (a : Fin s.rank) :
    ((Rect.unit (s := s) off size inb).emb y a).val = off a + (y a).val := by
  rw [Rect.emb_apply]
  exact congrArg (off a + ·) (Nat.one_mul _)

theorem dst_emb (s j t : ℕ) (inb) (inb') (y : S8x128.Idx) :
    (∀ a, ((dstM ![s, j, 0, 0] inb ![8 * t, 0] inb').view.emb y a).val = (![s, j, 8 * t + (y 0).val, (y 1).val] : Fin 4 → ℕ) a) := by
  intro a
  have hz : (Rect.unit (s := S4096x128) ![8 * t, 0] S8x128.size inb').emb y
      = ix2 ⟨8 * t + (y 0).val, by have := inb' 0; change 8 * t + 8 ≤ 4096 at this; have h : (y 0).val < 8 := (y 0).isLt; omega⟩
          ⟨(y 1).val, (y 1).isLt⟩ := by
    funext b
    refine Fin.ext ?_
    rw [emb_unit_val]
    fin_cases b
    · rfl
    · exact Nat.zero_add _
  have e : (dstM ![s, j, 0, 0] inb ![8 * t, 0] inb').view.emb y
      = (Rect.unit (s := S2x2x4096x128) ![s, j, 0, 0] S1x1x4096x128.size inb).emb
          (Shape.reshapeEquiv squeezes_S1x1x4096x128_S4096x128.numel_eq ((Rect.unit (s := S4096x128) ![8 * t, 0] S8x128.size inb').emb y)) := rfl
  rw [e, hz, emb_unit_val]
  have hr := ValueIdx.reshapeEquiv_ix2_11ab (a := 4096) (b := 128) squeezes_S1x1x4096x128_S4096x128.numel_eq
    ⟨8 * t + (y 0).val, by have := inb' 0; change 8 * t + 8 ≤ 4096 at this; have h : (y 0).val < 8 := (y 0).isLt; omega⟩ ⟨(y 1).val, (y 1).isLt⟩
  refine Eq.trans (congrArg (fun z : S1x1x4096x128.Idx => (![s, j, 0, 0] : Fin 4 → ℕ) a + (z a).val) hr) ?_
  fin_cases a
  · exact Nat.add_zero _
  · exact Nat.add_zero _
  · exact Nat.zero_add _
  · exact Nat.zero_add _

theorem dst_view_set (s n : ℕ) (hn : n < 1024) (inb) (inb') :
    (dstM ![s, n / 512, 0, 0] inb ![8 * (n % 512), 0] inb').view.set = dtile s n := by
  ext x
  rw [mem_dtile]
  constructor
  · intro h
    obtain ⟨y, -, rfl⟩ := Finset.mem_map.mp h
    have e := dst_emb s (n / 512) (n % 512) inb inb' y
    have e0 := e 0
    have e1 := e 1
    have e2 := e 2
    change _ = s at e0
    change _ = n / 512 at e1
    change _ = 8 * (n % 512) + (y 0).val at e2
    have hy : (y 0).val < 8 := (y 0).isLt
    exact ⟨e0, e1, by omega⟩
  · rintro ⟨h0, h1, h2⟩
    refine Finset.mem_map.mpr ⟨ix2 ⟨(x 2).val % 8, Nat.mod_lt _ (by decide)⟩ ⟨(x 3).val, (x 3).isLt⟩, Finset.mem_univ _, ?_⟩
    funext a
    refine Fin.ext ?_
    rw [dst_emb s (n / 512) (n % 512) inb inb']
    fin_cases a
    · exact h0.symm
    · exact h1.symm
    · show 8 * (n % 512) + (x 2).val % 8 = (x 2).val
      omega
    · rfl

/-- The units a copy of one tile signals. -/
def amt : ℕ := (dstM ![0, 0, 0, 0] (by intro a; fin_cases a <;> decide) ![0, 0] (by intro a; fin_cases a <;> decide)).view.dmaCredit

theorem amt_pos : 0 < amt := View.dmaCredit_pos _ (by decide)

theorem credit_tile (off : Fin 4 → ℕ) (inb) (off' : Fin 2 → ℕ) (inb') : (dstM off inb off' inb').view.dmaCredit = amt := rfl

/-! ## What the copies of a step leave -/

/-- The rows of step `b`, by the table: choice by choice, eight rows of 128 numbers to a token. -/
def gath (tp : S32768.Idx → BitVec 32) {α : Type} (Y : S294912x128.Idx → α) (b : ℕ) : S2x2x4096x128.Idx → α := fun x =>
  Y (ix2 ⟨(8 * row tp (slot b (512 * (x 1).val + (x 2).val / 8)) + (x 2).val % 8) % 294912, Nat.mod_lt _ (by decide)⟩ ⟨(x 3).val, (x 3).isLt⟩)

end Cert.Kernel3Ideal.Hand

end
-- ==== Proof.CombSteps.lean ====
/-
  Hand-written. The operations the combining body's copy loops are made of — read a word of the table, assume what is
  stated of it, start the copy of one row, wait for one row — each as a step from "the loop's state" to "the loop's state";
  and how the copies of one step of the grid begin and end.
-/
module

public import proofs.«01_k».proof.Proof.CombBase

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch shareTokN shareDrop batch_alloc' batch_collect' pointsTo_toks_range)

variable {F : FTy → Type} [FloatOps F]

/-- The proof's user algebra: the pipeline library's beside the transfers' counters. -/
local notation "𝕄" => MT nD τ sig Unit (Elt F) ℕ (Pipeline.UD sig nD τ) ℕ

variable (F) in
/-- The counters the transfers' batches are kept in. -/
abbrev EC : UEmb Counters 𝕄 := countersEmb (U := Pipeline.UD sig nD τ)

variable (c : Dev nD) (tp : S32768.Idx → BitVec 32) (Y : S294912x128.Idx → Elt F .f32)

/-- The table, at half of the full share (the pipeline keeps the other half). -/
def Tab : sProp 𝕄 := iprop(posM.view.loc (c : Thread nD τ) ↦[Finset.univ]{fullShare.right} tp)

/-- The share of the experts' outputs slot `s`'s copies read at. -/
def half_share (s : ℕ) : PosShare TreeShare := if s = 0 then fullShare.left else fullShare.right

/-- What copy `n` of step `b` into slot `s` delivers: its place, holding the row, and the share of the row back. -/
def Deliv (s b n : ℕ) : sProp 𝕄 :=
  iprop((sM.view.loc (c : Thread nD τ) ↦[dtile s n]{fullShare} gath tp Y b)
    ∗ (ysM.view.loc (c : Thread nD τ) ↦[tile (row tp (slot b n))]{shareTokN (half_share s) n} Y))

instance Deliv_storable (s b n : ℕ) : BI.Storable (upEmb : UEmb _ 𝕄) (Deliv c tp Y s b n) := by
  unfold Deliv; infer_instance

/-- What is still held of the copies `n …`: their places and their shares of their rows. -/
def Pend (V0 : S2x2x4096x128.Idx → Elt F .f32) (s b n : ℕ) : sProp 𝕄 :=
  bigSep (Finset.Ico n 1024) fun t =>
    iprop((sM.view.loc (c : Thread nD τ) ↦[dtile s t]{fullShare} V0)
      ∗ (ysM.view.loc (c : Thread nD τ) ↦[tile (row tp (slot b t))]{shareTokN (half_share s) t} Y))

/-- The copies of step `b` into slot `s`, `n` started and `w` waited for. -/
def Bat (s b n w : ℕ) : sProp 𝕄 :=
  Batch (EC F) (c : Thread nD τ) (.dma (semOf s)) () amt (fun t : Fin 1024 => Deliv c tp Y s b t.val) n (w * amt)

/-- What is kept of the experts' outputs while the copies read them. -/
def Rest (s b : ℕ) : sProp 𝕄 :=
  iprop((ysM.view.loc (c : Thread nD τ) ↦[Finset.univ]{shareDrop (half_share s) 1024} Y)
    ∗ bigSep (Finset.range 1024) fun t => (ysM.view.loc (c : Thread nD τ) ↦[Finset.univ \ tile (row tp (slot b t))]{shareTokN (half_share s) t} Y))

/-- What the core owes: nothing, whatever it has waited on. -/
def Owe : sProp 𝕄 := iprop(∃ W', owes (c : Thread nD τ) (0 : CellTallies nD τ sig Unit) W')

/-- What it is for a piece of the body to run from here to `Q`. -/
abbrev Wp {α : Type} (p : Prog (TpuEff nD τ sig (Elt F) Λ₀ .tc) α) (Q : α → sProp 𝕄) : sProp 𝕄 :=
  wp frame (wpE (defs₀ (F := F)) Variants.none (c : Thread nD τ) none) Set.univ p Q

/-! ## Reading a word -/

theorem load_pos {α : Type} {Q : α → sProp 𝕄} {off : Fin 1 → ℕ} {inb} (p : ℕ) (hp : p < 32768) (ho : off = ![p])
    {k : Elt F .i32 → Prog (TpuEff nD τ sig (Elt F) Λ₀ .tc) α} {X : sProp 𝕄}
    (hk : iprop(Tab (F := F) c tp ∗ X) ⊢ Wp c (k (word tp p)) Q) :
    iprop(Tab (F := F) c tp ∗ X) ⊢ Wp c (smemLoad posM (Rect.unit (s := S32768) off S1.size inb) numel1_S1 rfl >>= k) Q := by
  subst ho
  show iprop(Tab (F := F) c tp ∗ X) ⊢ Wp c (smemLoadElt posM (Rect.unit (s := S32768) ![p] S1.size inb) (View.loads_smem_one rfl numel1_S1) (Shape.Idx.first (numel1_S1 ▸ Nat.one_pos)) k) Q
  unfold Tab
  iintro ⟨HP, HX⟩
  iapply (wp_smemLoadElt_named Variants.none (c : Thread nD τ) none Set.univ (S := Finset.univ)) $$ HP
  iintro HP %w %hw
  have e : w = word tp p := by
    rw [hw, word_pos p hp]
    exact congrArg tp (funext fun a => Fin.ext (by fin_cases a; rfl))
  subst e
  iapply hk
  unfold Tab
  isplitl [HP]
  · iexact HP
  · iexact HX

/-! ## Assuming what is stated of it -/

theorem step_assume {α : Type} {Q : α → sProp 𝕄} {P : Prop} {d : Decidable P} (h : P)
    {k : PLift P → Prog (TpuEff nD τ sig (Elt F) Λ₀ .tc) α} {X : sProp 𝕄}
    (hk : X ⊢ Wp c (k ⟨h⟩) Q) : X ⊢ Wp c (Prog.lift (TpuEff.assume P d) >>= k) Q :=
  hk.trans (wp_assume Variants.none (c : Thread nD τ) none Set.univ (k := k) h)

/-! ## Starting a copy -/

variable {tp} in
/-- The copy of the row the word of copy `n` names, the next of step `b`'s. -/
theorem issue {α : Type} {Q : α → sProp 𝕄} {off : Fin 2 → ℕ} {inb} {offs : Fin 4 → ℕ} {inbs} {off' : Fin 2 → ℕ} {inb'} {offm : Fin 1 → ℕ}
    {inbm : ∀ a, offm a + S1.size a ≤ S2.size a} {hs hd ht}
    (hin : Inb tp) (V0 : S2x2x4096x128.Idx → Elt F .f32) (s b n j : ℕ) (hs2 : s < 2) (hb : b < 32) (hn : n < 1024) (hj : n / 512 = j)
    (ho : off = ![8 * row tp (slot b n), 0]) (hos : offs = ![s, j, 0, 0]) (ho' : off' = ![8 * (n % 512), 0]) (hom : offm = ![s])
    {k : PUnit → Prog (TpuEff nD τ sig (Elt F) Λ₀ .tc) α} {T X : sProp 𝕄}
    (hk : iprop(T ∗ Pend c tp Y V0 s b (n + 1) ∗ Bat c tp Y s b (n + 1) 0 ∗ X) ⊢ Wp c (k ⟨⟩) Q) :
    iprop(T ∗ Pend c tp Y V0 s b n ∗ Bat c tp Y s b n 0 ∗ X)
      ⊢ Wp c (Prog.lift (.enqueueDma (ysM.slice (Rect.unit (s := S294912x128) off S8x128.size inb) (fun _ => rfl))
          (.here (dstM offs inbs off' inb'))
          (.dma ((cc0_scratch1.slice (Rect.unit (s := S2) offm S1.size inbm)).squeeze S_ squeezes_S1_S_).sem) hs hd ht) >>= k) Q := by
  subst hj ho hos ho' hom
  have hsm := sem_eq s hs2 inbm
  generalize ((cc0_scratch1.slice (Rect.unit (s := S2) ![s] S1.size inbm)).squeeze S_ squeezes_S1_S_).sem = sg at ht hsm ⊢
  subst hsm
  iintro ⟨HT, HP, HB, HX⟩
  ihave HP' := (show Pend c tp Y V0 s b n
      ⊢ iprop(((sM.view.loc (c : Thread nD τ) ↦[dtile s n]{fullShare} V0)
          ∗ (ysM.view.loc (c : Thread nD τ) ↦[tile (row tp (slot b n))]{shareTokN (half_share s) n} Y))
        ∗ Pend c tp Y V0 s b (n + 1))
    from Entails.of_eq (by unfold Pend; rw [bigSep_Ico_succ_bot hn])) $$ HP
  icases HP' with ⟨⟨Hd, Hs⟩, HP⟩
  unfold Bat
  have hset := dst_view_set s n hn inbs inb'
  have hset' := tile_view_set (row tp (slot b n)) inb
  iapply (Transfers.wp_dmaBatch (EC F) Variants.none (c : Thread nD τ) none (via := _)
    (src := ysM.slice (Rect.unit (s := S294912x128) ![8 * row tp (slot b n), 0] S8x128.size inb) (fun _ => rfl))
    (dst := dstM ![s, n / 512, 0, 0] inbs ![8 * (n % 512), 0] inb')
    (sm := .dma (semOf s)) (q := shareTokN (half_share s) n) (fs := Y) (Sd := dtile s n) (fd := V0)
    (D := fun t : Fin 1024 => Deliv c tp Y s b t.val) (j := n) (u := 0 * amt)
    () amt (credit_tile _ _ _ _) hset.le hn (Nat.mul_le_mul_right _ (Nat.zero_le _)) ?_) $$ [Hs Hd HB]
  · unfold Deliv
    rw [hset']
    refine sep_mono (Entails.of_eq (pointsTo_congr fun x hx => ?_)) .rfl
    rw [← hset] at hx
    obtain ⟨y, -, rfl⟩ := Finset.mem_map.mp hx
    rw [View.write_emb_of_mem _ _ (Finset.mem_univ _)]
    have e := dst_emb s (n / 512) (n % 512) inbs inb' y
    have e1 := e 1
    have e2 := e 2
    have e3 := e 3
    change _ = n / 512 at e1
    change _ = 8 * (n % 512) + (y 0).val at e2
    change _ = (y 1).val at e3
    have hy : (y 0).val < 8 := (y 0).isLt
    have hr : row tp (slot b n) < 36864 := hin _ (slot_lt hb hn)
    have e0' := emb_unit_val (s := S294912x128) (inb := inb) y 0
    have e1' := emb_unit_val (s := S294912x128) (inb := inb) y 1
    change _ = 8 * row tp (slot b n) + (y 0).val at e0'
    change _ = 0 + (y 1).val at e1'
    have key : ∀ (x : S2x2x4096x128.Idx) (x' : S294912x128.Idx), (x 1).val = n / 512 → (x 2).val = 8 * (n % 512) + (y 0).val → (x 3).val = (y 1).val →
        (x' 0).val = 8 * row tp (slot b n) + (y 0).val → (x' 1).val = (y 1).val → gath tp Y b x = Y x' := by
      intro x x' h1 h2 h3 h0' h1'
      unfold gath
      refine congrArg Y (funext fun a => Fin.ext ?_)
      fin_cases a
      · show (8 * row tp (slot b (512 * (x 1).val + (x 2).val / 8)) + (x 2).val % 8) % 294912 = (x' 0).val
        rw [h1, h2, show 512 * (n / 512) + (8 * (n % 512) + (y 0).val) / 8 = n by omega, h0']
        omega
      · exact h3.trans h1'.symm
    exact (key _ ((Rect.unit (s := S294912x128) ![8 * row tp (slot b n), 0] S8x128.size inb).emb y) e1 e2 e3 e0' (by omega)).symm
  · rw [hset']
    isplitl [Hs]; · iexact Hs
    isplitl [Hd]; · iexact Hd
    iexact HB
  · iintro HB
    iapply hk
    unfold Bat
    isplitl [HT]; · iexact HT
    isplitl [HP]; · iexact HP
    isplitl [HB]; · iexact HB
    iexact HX

/-! ## Waiting for a copy -/

/-- A wait for one row, of copies that have all been started. -/
theorem wait_tile {α : Type} {Q : α → sProp 𝕄} {offs : Fin 4 → ℕ} {inbs} {off' : Fin 2 → ℕ} {inb'} {offm : Fin 1 → ℕ}
    {inbm : ∀ a, offm a + S1.size a ≤ S2.size a} {sp' : Space} {s' : Shape} {e' : EltTy}
    {srcw : Memref sig .tc sp' s' e'} {hs hd}
    (s b w : ℕ) (hs2 : s < 2) (hw : w < 1024) (hom : offm = ![s])
    {k : PUnit → Prog (TpuEff nD τ sig (Elt F) Λ₀ .tc) α} {T X : sProp 𝕄}
    (hk : iprop(T ∗ Bat c tp Y s b 1024 (w + 1) ∗ Owe (F := F) c ∗ X) ⊢ Wp c (k ⟨⟩) Q) :
    iprop(T ∗ Bat c tp Y s b 1024 w ∗ Owe (F := F) c ∗ X)
      ⊢ Wp c (Prog.lift (.waitDma2 ((cc0_scratch1.slice (Rect.unit (s := S2) offm S1.size inbm)).squeeze S_ squeezes_S1_S_).sem
          srcw (dstM offs inbs off' inb') hs hd) >>= k) Q := by
  subst hom
  have hsm := sem_eq s hs2 inbm
  generalize ((cc0_scratch1.slice (Rect.unit (s := S2) ![s] S1.size inbm)).squeeze S_ squeezes_S1_S_).sem = sg at hsm ⊢
  subst hsm
  unfold Owe
  iintro ⟨HT, HB, ⟨%W, HO⟩, HX⟩
  unfold Bat
  iapply (Transfers.wp_waitBatchMul (EC F) Variants.none (c : Thread nD τ) none (sem := semOf s) (srcw := srcw)
    (dstw := dstM offs inbs off' inb') (j := 1024) (u := w * amt) (W := W)
    (D := fun t : Fin 1024 => Deliv c tp Y s b t.val)
    () (N := amt) 1 ((credit_tile _ _ _ _).trans (Nat.one_mul _).symm) (by rw [Nat.one_mul, ← Nat.succ_mul, Nat.mul_comm]; exact Nat.mul_le_mul_left _ hw)) $$ [HB HO]
  · isplitl [HB]; · iexact HB
    iexact HO
  iintro ⟨HB, HO⟩
  iapply hk
  unfold Bat Owe
  isplitl [HT]; · iexact HT
  isplitl [HB]
  · rw [Nat.one_mul, ← Nat.succ_mul]; iexact HB
  isplitl [HO]
  · iexists _; iexact HO
  iexact HX

/-! ## The start and the end of a step's copies -/

/-- A slot no copy is under way into. -/
def Idle (s : ℕ) (f : S2x2x4096x128.Idx → Elt F .f32) : sProp 𝕄 :=
  iprop((sM.view.loc (c : Thread nD τ) ↦[half s]{fullShare} f) ∗ (ysM.view.loc (c : Thread nD τ) ↦[Finset.univ]{half_share s} Y)
    ∗ semVal ((c : Thread nD τ), SemLoc.dma (semOf s)) 0)

theorem sep_swap_le (P R : sProp 𝕄) : iprop(P ∗ R) ⊢ iprop(R ∗ P) := by
  iintro ⟨H, H'⟩
  isplitl [H'] <;> iassumption

theorem sep_regroup_le (P R S : sProp 𝕄) : iprop(P ∗ (R ∗ S)) ⊢ iprop((P ∗ R) ∗ S) := by
  iintro ⟨H, H', H''⟩
  isplitl [H H']
  · isplitl [H] <;> iassumption
  · iassumption

theorem sep_regroup_ge (P R S : sProp 𝕄) : iprop((P ∗ R) ∗ S) ⊢ iprop(P ∗ (R ∗ S)) := by
  iintro ⟨⟨H, H'⟩, H''⟩
  isplitl [H]
  · iassumption
  · isplitl [H'] <;> iassumption

/-- The share of the experts' outputs a slot reads at, as the shares of the copies' rows and what is kept. -/
theorem split_source (s b : ℕ) :
    (ysM.view.loc (c : Thread nD τ) ↦[Finset.univ]{half_share s} Y : sProp 𝕄)
      = iprop(Rest c tp Y s b ∗ bigSep (Finset.range 1024) fun t => (ysM.view.loc (c : Thread nD τ) ↦[tile (row tp (slot b t))]{shareTokN (half_share s) t} Y)) := by
  have h := pointsTo_toks_range (Ix := Unit) (Val := Elt F) (Name := ℕ) (U := Pipeline.UD sig nD τ) (Lvl := ℕ)
    (ℓ := ysM.view.loc (c : Thread nD τ)) (S := Finset.univ) (f := Y) (half_share s) 1024
  have h' : bigSep (Finset.range 1024) (fun t => (ysM.view.loc (c : Thread nD τ) ↦[Finset.univ]{shareTokN (half_share s) t} Y : sProp 𝕄))
      = iprop((bigSep (Finset.range 1024) fun t => (ysM.view.loc (c : Thread nD τ) ↦[Finset.univ \ tile (row tp (slot b t))]{shareTokN (half_share s) t} Y))
        ∗ bigSep (Finset.range 1024) fun t => (ysM.view.loc (c : Thread nD τ) ↦[tile (row tp (slot b t))]{shareTokN (half_share s) t} Y)) := by
    rw [← bigSep_sep']
    refine bigSep_congr fun t _ => ?_
    have e := pointsTo_split_subset (Ix := Unit) (Val := Elt F) (Name := ℕ) (U := Pipeline.UD sig nD τ) (Lvl := ℕ)
      (ℓ := ysM.view.loc (c : Thread nD τ)) (q := shareTokN (half_share s) t) (f := Y) (Finset.subset_univ (tile (row tp (slot b t))))
    exact (BI.Entails.antisymm e.1 e.2).trans (BI.Entails.antisymm (sep_swap_le _ _) (sep_swap_le _ _))
  unfold Rest
  rw [BI.Entails.antisymm h.1 h.2, h']
  exact BI.Entails.antisymm (sep_regroup_le _ _ _) (sep_regroup_ge _ _ _)

/-- A slot's contents as its places'. -/
theorem split_half (s : ℕ) (f : S2x2x4096x128.Idx → Elt F .f32) :
    (sM.view.loc (c : Thread nD τ) ↦[half s]{fullShare} f : sProp 𝕄)
      = bigSep (Finset.range 1024) fun n => (sM.view.loc (c : Thread nD τ) ↦[dtile s n]{fullShare} f) := by
  rw [← half_tiles s]
  exact pointsTo_biUnion (ℓ := sM.view.loc (c : Thread nD τ)) (Finset.range 1024) (dtile s) fun _ _ _ _ hne => dtile_disjoint hne

/-- The start of a step's copies. -/
theorem open_batch (s b : ℕ) (f : S2x2x4096x128.Idx → Elt F .f32) :
    Idle c Y s f ⊢ (|={Set.univ}=> iprop(Pend c tp Y f s b 0 ∗ Bat c tp Y s b 0 0 ∗ Rest c tp Y s b) : sProp 𝕄) := by
  unfold Idle
  rw [split_source c tp Y s b, split_half c s f]
  iintro ⟨HT, ⟨HR, HS⟩, Hv⟩
  imod (batch_alloc' (EC F) (c := (c : Thread nD τ)) (sm := SemLoc.dma (semOf s)) () amt (fun t : Fin 1024 => Deliv c tp Y s b t.val) (E := Set.univ)) $$ Hv with HB
  imodintro
  isplitl [HT HS]
  · unfold Pend
    rw [← Finset.range_eq_Ico, bigSep_sep']
    isplitl [HT]; · iexact HT
    iexact HS
  isplitl [HB]
  · unfold Bat
    rw [Nat.zero_mul]
    iexact HB
  iexact HR

/-- The end of a step's copies. -/
theorem close_batch (s b : ℕ) :
    iprop(Bat c tp Y s b 1024 1024 ∗ Rest c tp Y s b) ⊢ (|={Set.univ}=> Idle c Y s (gath tp Y b) : sProp 𝕄) := by
  unfold Idle
  rw [split_source c tp Y s b, split_half c s (gath tp Y b)]
  unfold Bat
  rw [Nat.mul_comm 1024 amt]
  iintro ⟨HB, HR⟩
  imod (batch_collect' (EC F) (c : Thread nD τ) amt_pos) $$ HB with ⟨HD, Hv⟩
  imodintro
  ihave HD' := (show bigSep Finset.univ (fun t : Fin 1024 => Deliv c tp Y s b t.val)
      ⊢ (iprop((bigSep (Finset.range 1024) fun n => (sM.view.loc (c : Thread nD τ) ↦[dtile s n]{fullShare} gath tp Y b))
          ∗ bigSep (Finset.range 1024) fun t => (ysM.view.loc (c : Thread nD τ) ↦[tile (row tp (slot b t))]{shareTokN (half_share s) t} Y)) : sProp 𝕄)
    from Entails.of_eq (by
      rw [Ring.bigSep_fin_eq_range 1024 _ (fun t => Deliv c tp Y s b t) (fun t h => rfl)]
      unfold Deliv
      rw [bigSep_sep'])) $$ HD
  icases HD' with ⟨HT, HS⟩
  isplitl [HT]; · iexact HT
  isplitl [HR HS]
  · isplitl [HR]; · iexact HR
    iexact HS
  iexact Hv

end Cert.Kernel3Ideal.Hand

end
-- ==== Proof.CombTripsA.lean ====
/-
  Hand-written. One trip of each of the two loops that start the first step's copies: sixteen words read, checked, and the copy of the row
  each names started.
-/
module

public import proofs.«01_k».proof.Proof.CombSteps

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (Y : S294912x128.Idx → Elt F .f32)

theorem trip1 (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (h1 : k0_cond1 i = 1#1) (V0 : S2x2x4096x128.Idx → Elt F .f32) (t : Fin k0_t1_loop.trips) (u : Unit) (X : sProp 𝕄) :
    iprop(Tab (F := F) c tp ∗ Pend c tp Y V0 0 0 (16 * t.val)
        ∗ Bat c tp Y 0 0 (16 * t.val) 0 ∗ X)
      ⊢ Wp c (k0_t1_body i posM (Memref.isWhole_whole _) ysM (Memref.isWhole_whole _) win0 hwin0 win1 hwin1 win2 hwin2 win3 hwin3
        sM (Memref.isWhole_whole _) cc0_scratch1 h1 t u)
        (fun _ => iprop(Tab (F := F) c tp ∗ Pend c tp Y V0 0 0 (16 * t.val + 16)
        ∗ Bat c tp Y 0 0 (16 * t.val + 16) 0 ∗ X)) := by
  have ht : t.val < 32 := t.isLt
  have hi : (i 0).val < 32 := (i 0).isLt
  unfold k0_t1_body
  simp only [k0_part1_eq_skeleton, k0_part2_eq_skeleton, k0_part3_eq_skeleton, k0_part4_eq_skeleton, k0_part5_eq_skeleton, k0_part6_eq_skeleton, k0_part7_eq_skeleton,
    k0_part1_skel, k0_part2_skel, k0_part3_skel, k0_part4_skel, k0_part5_skel, k0_part6_skel, k0_part7_skel,
    Prog.bind_assoc, Prog.pure_eq_ret, Prog.bind_ret]
  refine load_pos c tp (slot 0 (16 * t.val + 0)) (slot_lt (b := 0) (n := 16 * t.val + 0) (by omega) (by omega)) (off_first0 t.val ht 0 (by omega)) ?_
  refine step_assume c (chk_tile' (hin _ (slot_lt (b := 0) (n := 16 * t.val + 0) (by omega) (by omega)))) ?_
  refine issue c Y hin V0 0 0 (16 * t.val + 0) 0 (by omega) (by omega) (by omega) (by omega)
    (off_tile (hin _ (slot_lt (b := 0) (n := 16 * t.val + 0) (by omega) (by omega)))) rfl (off_h0 t.val ht 0 (by omega)) rfl ?_
  refine load_pos c tp (slot 0 (16 * t.val + 1)) (slot_lt (b := 0) (n := 16 * t.val + 1) (by omega) (by omega)) (off_first0 t.val ht 1 (by omega)) ?_
  refine step_assume c (chk_tile' (hin _ (slot_lt (b := 0) (n := 16 * t.val + 1) (by omega) (by omega)))) ?_
  refine issue c Y hin V0 0 0 (16 * t.val + 1) 0 (by omega) (by omega) (by omega) (by omega)
    (off_tile (hin _ (slot_lt (b := 0) (n := 16 * t.val + 1) (by omega) (by omega)))) rfl (off_h0 t.val ht 1 (by omega)) rfl ?_
  refine load_pos c tp (slot 0 (16 * t.val + 2)) (slot_lt (b := 0) (n := 16 * t.val + 2) (by omega) (by omega)) (off_first0 t.val ht 2 (by omega)) ?_
  refine step_assume c (chk_tile' (hin _ (slot_lt (b := 0) (n := 16 * t.val + 2) (by omega) (by omega)))) ?_
  refine issue c Y hin V0 0 0 (16 * t.val + 2) 0 (by omega) (by omega) (by omega) (by omega)
    (off_tile (hin _ (slot_lt (b := 0) (n := 16 * t.val + 2) (by omega) (by omega)))) rfl (off_h0 t.val ht 2 (by omega)) rfl ?_
  refine load_pos c tp (slot 0 (16 * t.val + 3)) (slot_lt (b := 0) (n := 16 * t.val + 3) (by omega) (by omega)) (off_first0 t.val ht 3 (by omega)) ?_
  refine step_assume c (chk_tile' (hin _ (slot_lt (b := 0) (n := 16 * t.val + 3) (by omega) (by omega)))) ?_
  refine issue c Y hin V0 0 0 (16 * t.val + 3) 0 (by omega) (by omega) (by omega) (by omega)
    (off_tile (hin _ (slot_lt (b := 0) (n := 16 * t.val + 3) (by omega) (by omega)))) rfl (off_h0 t.val ht 3 (by omega)) rfl ?_
  refine load_pos c tp (slot 0 (16 * t.val + 4)) (slot_lt (b := 0) (n := 16 * t.val + 4) (by omega) (by omega)) (off_first0 t.val ht 4 (by omega)) ?_
  refine step_assume c (chk_tile' (hin _ (slot_lt (b := 0) (n := 16 * t.val + 4) (by omega) (by omega)))) ?_
  refine issue c Y hin V0 0 0 (16 * t.val + 4) 0 (by omega) (by omega) (by omega) (by omega)
    (off_tile (hin _ (slot_lt (b := 0) (n := 16 * t.val + 4) (by omega) (by omega)))) rfl (off_h0 t.val ht 4 (by omega)) rfl ?_
  refine load_pos c tp (slot 0 (16 * t.val + 5)) (slot_lt (b := 0) (n := 16 * t.val + 5) (by omega) (by omega)) (off_first0 t.val ht 5 (by omega)) ?_
  refine step_assume c (chk_tile' (hin _ (slot_lt (b := 0) (n := 16 * t.val + 5) (by omega) (by omega)))) ?_
  refine issue c Y hin V0 0 0 (16 * t.val + 5) 0 (by omega) (by omega) (by omega) (by omega)
    (off_tile (hin _ (slot_lt (b := 0) (n := 16 * t.val + 5) (by omega) (by omega)))) rfl (off_h0 t.val ht 5 (by omega)) rfl ?_
  refine load_pos c tp (slot 0 (16 * t.val + 6)) (slot_lt (b := 0) (n := 16 * t.val + 6) (by omega) (by omega)) (off_first0 t.val ht 6 (by omega)) ?_
  refine step_assume c (chk_tile' (hin _ (slot_lt (b := 0) (n := 16 * t.val + 6) (by omega) (by omega)))) ?_
  refine issue c Y hin V0 0 0 (16 * t.val + 6) 0 (by omega) (by omega) (by omega) (by omega)
    (off_tile (hin _ (slot_lt (b := 0) (n := 16 * t.val + 6) (by omega) (by omega)))) rfl (off_h0 t.val ht 6 (by omega)) rfl ?_
  refine load_pos c tp (slot 0 (16 * t.val + 7)) (slot_lt (b := 0) (n := 16 * t.val + 7) (by omega) (by omega)) (off_first0 t.val ht 7 (by omega)) ?_
  refine step_assume c (chk_tile' (hin _ (slot_lt (b := 0) (n := 16 * t.val + 7) (by omega) (by omega)))) ?_
  refine issue c Y hin V0 0 0 (16 * t.val + 7) 0 (by omega) (by omega) (by omega) (by omega)
    (off_tile (hin _ (slot_lt (b := 0) (n := 16 * t.val + 7) (by omega) (by omega)))) rfl (off_h0 t.val ht 7 (by omega)) rfl ?_
  refine load_pos c tp (slot 0 (16 * t.val + 8)) (slot_lt (b := 0) (n := 16 * t.val + 8) (by omega) (by omega)) (off_first0 t.val ht 8 (by omega)) ?_
  refine step_assume c (chk_tile' (hin _ (slot_lt (b := 0) (n := 16 * t.val + 8) (by omega) (by omega)))) ?_
  refine issue c Y hin V0 0 0 (16 * t.val + 8) 0 (by omega) (by omega) (by omega) (by omega)
    (off_tile (hin _ (slot_lt (b := 0) (n := 16 * t.val + 8) (by omega) (by omega)))) rfl (off_h0 t.val ht 8 (by omega)) rfl ?_
  refine load_pos c tp (slot 0 (16 * t.val + 9)) (slot_lt (b := 0) (n := 16 * t.val + 9) (by omega) (by omega)) (off_first0 t.val ht 9 (by omega)) ?_
  refine step_assume c (chk_tile' (hin _ (slot_lt (b := 0) (n := 16 * t.val + 9) (by omega) (by omega)))) ?_
  refine issue c Y hin V0 0 0 (16 * t.val + 9) 0 (by omega) (by omega) (by omega) (by omega)
    (off_tile (hin _ (slot_lt (b := 0) (n := 16 * t.val + 9) (by omega) (by omega)))) rfl (off_h0 t.val ht 9 (by omega)) rfl ?_
  refine load_pos c tp (slot 0 (16 * t.val + 10)) (slot_lt (b := 0) (n := 16 * t.val + 10) (by omega) (by omega)) (off_first0 t.val ht 10 (by omega)) ?_
  refine step_assume c (chk_tile' (hin _ (slot_lt (b := 0) (n := 16 * t.val + 10) (by omega) (by omega)))) ?_
  refine issue c Y hin V0 0 0 (16 * t.val + 10) 0 (by omega) (by omega) (by omega) (by omega)
    (off_tile (hin _ (slot_lt (b := 0) (n := 16 * t.val + 10) (by omega) (by omega)))) rfl (off_h0 t.val ht 10 (by omega)) rfl ?_
  refine load_pos c tp (slot 0 (16 * t.val + 11)) (slot_lt (b := 0) (n := 16 * t.val + 11) (by omega) (by omega)) (off_first0 t.val ht 11 (by omega)) ?_
  refine step_assume c (chk_tile' (hin _ (slot_lt (b := 0) (n := 16 * t.val + 11) (by omega) (by omega)))) ?_
  refine issue c Y hin V0 0 0 (16 * t.val + 11) 0 (by omega) (by omega) (by omega) (by omega)
    (off_tile (hin _ (slot_lt (b := 0) (n := 16 * t.val + 11) (by omega) (by omega)))) rfl (off_h0 t.val ht 11 (by omega)) rfl ?_
  refine load_pos c tp (slot 0 (16 * t.val + 12)) (slot_lt (b := 0) (n := 16 * t.val + 12) (by omega) (by omega)) (off_first0 t.val ht 12 (by omega)) ?_
  refine step_assume c (chk_tile' (hin _ (slot_lt (b := 0) (n := 16 * t.val + 12) (by omega) (by omega)))) ?_
  refine issue c Y hin V0 0 0 (16 * t.val + 12) 0 (by omega) (by omega) (by omega) (by omega)
    (off_tile (hin _ (slot_lt (b := 0) (n := 16 * t.val + 12) (by omega) (by omega)))) rfl (off_h0 t.val ht 12 (by omega)) rfl ?_
  refine load_pos c tp (slot 0 (16 * t.val + 13)) (slot_lt (b := 0) (n := 16 * t.val + 13) (by omega) (by omega)) (off_first0 t.val ht 13 (by omega)) ?_
  refine step_assume c (chk_tile' (hin _ (slot_lt (b := 0) (n := 16 * t.val + 13) (by omega) (by omega)))) ?_
  refine issue c Y hin V0 0 0 (16 * t.val + 13) 0 (by omega) (by omega) (by omega) (by omega)
    (off_tile (hin _ (slot_lt (b := 0) (n := 16 * t.val + 13) (by omega) (by omega)))) rfl (off_h0 t.val ht 13 (by omega)) rfl ?_
  refine load_pos c tp (slot 0 (16 * t.val + 14)) (slot_lt (b := 0) (n := 16 * t.val + 14) (by omega) (by omega)) (off_first0 t.val ht 14 (by omega)) ?_
  refine step_assume c (chk_tile' (hin _ (slot_lt (b := 0) (n := 16 * t.val + 14) (by omega) (by omega)))) ?_
  refine issue c Y hin V0 0 0 (16 * t.val + 14) 0 (by omega) (by omega) (by omega) (by omega)
    (off_tile (hin _ (slot_lt (b := 0) (n := 16 * t.val + 14) (by omega) (by omega)))) rfl (off_h0 t.val ht 14 (by omega)) rfl ?_
  refine load_pos c tp (slot 0 (16 * t.val + 15)) (slot_lt (b := 0) (n := 16 * t.val + 15) (by omega) (by omega)) (off_first0 t.val ht 15 (by omega)) ?_
  refine step_assume c (chk_tile' (hin _ (slot_lt (b := 0) (n := 16 * t.val + 15) (by omega) (by omega)))) ?_
  refine issue c Y hin V0 0 0 (16 * t.val + 15) 0 (by omega) (by omega) (by omega) (by omega)
    (off_tile (hin _ (slot_lt (b := 0) (n := 16 * t.val + 15) (by omega) (by omega)))) rfl (off_h0 t.val ht 15 (by omega)) rfl ?_
  exact Idealize.SL.BI.fupd_intro

theorem trip2 (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (h1 : k0_cond1 i = 1#1) (V0 : S2x2x4096x128.Idx → Elt F .f32) (t : Fin k0_t2_loop.trips) (u : Unit) (X : sProp 𝕄) :
    iprop(Tab (F := F) c tp ∗ Pend c tp Y V0 0 0 (512 + 16 * t.val)
        ∗ Bat c tp Y 0 0 (512 + 16 * t.val) 0 ∗ X)
      ⊢ Wp c (k0_t2_body i posM (Memref.isWhole_whole _) ysM (Memref.isWhole_whole _) win0 hwin0 win1 hwin1 win2 hwin2 win3 hwin3
        sM (Memref.isWhole_whole _) cc0_scratch1 h1 t u)
        (fun _ => iprop(Tab (F := F) c tp ∗ Pend c tp Y V0 0 0 (512 + 16 * t.val + 16)
        ∗ Bat c tp Y 0 0 (512 + 16 * t.val + 16) 0 ∗ X)) := by
  have ht : t.val < 32 := t.isLt
  have hi : (i 0).val < 32 := (i 0).isLt
  unfold k0_t2_body
  simp only [k0_part8_eq_skeleton, k0_part9_eq_skeleton, k0_part10_eq_skeleton, k0_part11_eq_skeleton, k0_part12_eq_skeleton, k0_part13_eq_skeleton, k0_part14_eq_skeleton,
    k0_part8_skel, k0_part9_skel, k0_part10_skel, k0_part11_skel, k0_part12_skel, k0_part13_skel, k0_part14_skel,
    Prog.bind_assoc, Prog.pure_eq_ret, Prog.bind_ret]
  refine load_pos c tp (slot 0 (512 + 16 * t.val + 0)) (slot_lt (b := 0) (n := 512 + 16 * t.val + 0) (by omega) (by omega)) (off_first1 t.val ht 0 (by omega)) ?_
  refine step_assume c (chk_tile' (hin _ (slot_lt (b := 0) (n := 512 + 16 * t.val + 0) (by omega) (by omega)))) ?_
  refine issue c Y hin V0 0 0 (512 + 16 * t.val + 0) 1 (by omega) (by omega) (by omega) (by omega)
    (off_tile (hin _ (slot_lt (b := 0) (n := 512 + 16 * t.val + 0) (by omega) (by omega)))) rfl (off_h1 t.val ht 0 (by omega)) rfl ?_
  refine load_pos c tp (slot 0 (512 + 16 * t.val + 1)) (slot_lt (b := 0) (n := 512 + 16 * t.val + 1) (by omega) (by omega)) (off_first1 t.val ht 1 (by omega)) ?_
  refine step_assume c (chk_tile' (hin _ (slot_lt (b := 0) (n := 512 + 16 * t.val + 1) (by omega) (by omega)))) ?_
  refine issue c Y hin V0 0 0 (512 + 16 * t.val + 1) 1 (by omega) (by omega) (by omega) (by omega)
    (off_tile (hin _ (slot_lt (b := 0) (n := 512 + 16 * t.val + 1) (by omega) (by omega)))) rfl (off_h1 t.val ht 1 (by omega)) rfl ?_
  refine load_pos c tp (slot 0 (512 + 16 * t.val + 2)) (slot_lt (b := 0) (n := 512 + 16 * t.val + 2) (by omega) (by omega)) (off_first1 t.val ht 2 (by omega)) ?_
  refine step_assume c (chk_tile' (hin _ (slot_lt (b := 0) (n := 512 + 16 * t.val + 2) (by omega) (by omega)))) ?_
  refine issue c Y hin V0 0 0 (512 + 16 * t.val + 2) 1 (by omega) (by omega) (by omega) (by omega)
    (off_tile (hin _ (slot_lt (b := 0) (n := 512 + 16 * t.val + 2) (by omega) (by omega)))) rfl (off_h1 t.val ht 2 (by omega)) rfl ?_
  refine load_pos c tp (slot 0 (512 + 16 * t.val + 3)) (slot_lt (b := 0) (n := 512 + 16 * t.val + 3) (by omega) (by omega)) (off_first1 t.val ht 3 (by omega)) ?_
  refine step_assume c (chk_tile' (hin _ (slot_lt (b := 0) (n := 512 + 16 * t.val + 3) (by omega) (by omega)))) ?_
  refine issue c Y hin V0 0 0 (512 + 16 * t.val + 3) 1 (by omega) (by omega) (by omega) (by omega)
    (off_tile (hin _ (slot_lt (b := 0) (n := 512 + 16 * t.val + 3) (by omega) (by omega)))) rfl (off_h1 t.val ht 3 (by omega)) rfl ?_
  refine load_pos c tp (slot 0 (512 + 16 * t.val + 4)) (slot_lt (b := 0) (n := 512 + 16 * t.val + 4) (by omega) (by omega)) (off_first1 t.val ht 4 (by omega)) ?_
  refine step_assume c (chk_tile' (hin _ (slot_lt (b := 0) (n := 512 + 16 * t.val + 4) (by omega) (by omega)))) ?_
  refine issue c Y hin V0 0 0 (512 + 16 * t.val + 4) 1 (by omega) (by omega) (by omega) (by omega)
    (off_tile (hin _ (slot_lt (b := 0) (n := 512 + 16 * t.val + 4) (by omega) (by omega)))) rfl (off_h1 t.val ht 4 (by omega)) rfl ?_
  refine load_pos c tp (slot 0 (512 + 16 * t.val + 5)) (slot_lt (b := 0) (n := 512 + 16 * t.val + 5) (by omega) (by omega)) (off_first1 t.val ht 5 (by omega)) ?_
  refine step_assume c (chk_tile' (hin _ (slot_lt (b := 0) (n := 512 + 16 * t.val + 5) (by omega) (by omega)))) ?_
  refine issue c Y hin V0 0 0 (512 + 16 * t.val + 5) 1 (by omega) (by omega) (by omega) (by omega)
    (off_tile (hin _ (slot_lt (b := 0) (n := 512 + 16 * t.val + 5) (by omega) (by omega)))) rfl (off_h1 t.val ht 5 (by omega)) rfl ?_
  refine load_pos c tp (slot 0 (512 + 16 * t.val + 6)) (slot_lt (b := 0) (n := 512 + 16 * t.val + 6) (by omega) (by omega)) (off_first1 t.val ht 6 (by omega)) ?_
  refine step_assume c (chk_tile' (hin _ (slot_lt (b := 0) (n := 512 + 16 * t.val + 6) (by omega) (by omega)))) ?_
  refine issue c Y hin V0 0 0 (512 + 16 * t.val + 6) 1 (by omega) (by omega) (by omega) (by omega)
    (off_tile (hin _ (slot_lt (b := 0) (n := 512 + 16 * t.val + 6) (by omega) (by omega)))) rfl (off_h1 t.val ht 6 (by omega)) rfl ?_
  refine load_pos c tp (slot 0 (512 + 16 * t.val + 7)) (slot_lt (b := 0) (n := 512 + 16 * t.val + 7) (by omega) (by omega)) (off_first1 t.val ht 7 (by omega)) ?_
  refine step_assume c (chk_tile' (hin _ (slot_lt (b := 0) (n := 512 + 16 * t.val + 7) (by omega) (by omega)))) ?_
  refine issue c Y hin V0 0 0 (512 + 16 * t.val + 7) 1 (by omega) (by omega) (by omega) (by omega)
    (off_tile (hin _ (slot_lt (b := 0) (n := 512 + 16 * t.val + 7) (by omega) (by omega)))) rfl (off_h1 t.val ht 7 (by omega)) rfl ?_
  refine load_pos c tp (slot 0 (512 + 16 * t.val + 8)) (slot_lt (b := 0) (n := 512 + 16 * t.val + 8) (by omega) (by omega)) (off_first1 t.val ht 8 (by omega)) ?_
  refine step_assume c (chk_tile' (hin _ (slot_lt (b := 0) (n := 512 + 16 * t.val + 8) (by omega) (by omega)))) ?_
  refine issue c Y hin V0 0 0 (512 + 16 * t.val + 8) 1 (by omega) (by omega) (by omega) (by omega)
    (off_tile (hin _ (slot_lt (b := 0) (n := 512 + 16 * t.val + 8) (by omega) (by omega)))) rfl (off_h1 t.val ht 8 (by omega)) rfl ?_
  refine load_pos c tp (slot 0 (512 + 16 * t.val + 9)) (slot_lt (b := 0) (n := 512 + 16 * t.val + 9) (by omega) (by omega)) (off_first1 t.val ht 9 (by omega)) ?_
  refine step_assume c (chk_tile' (hin _ (slot_lt (b := 0) (n := 512 + 16 * t.val + 9) (by omega) (by omega)))) ?_
  refine issue c Y hin V0 0 0 (512 + 16 * t.val + 9) 1 (by omega) (by omega) (by omega) (by omega)
    (off_tile (hin _ (slot_lt (b := 0) (n := 512 + 16 * t.val + 9) (by omega) (by omega)))) rfl (off_h1 t.val ht 9 (by omega)) rfl ?_
  refine load_pos c tp (slot 0 (512 + 16 * t.val + 10)) (slot_lt (b := 0) (n := 512 + 16 * t.val + 10) (by omega) (by omega)) (off_first1 t.val ht 10 (by omega)) ?_
  refine step_assume c (chk_tile' (hin _ (slot_lt (b := 0) (n := 512 + 16 * t.val + 10) (by omega) (by omega)))) ?_
  refine issue c Y hin V0 0 0 (512 + 16 * t.val + 10) 1 (by omega) (by omega) (by omega) (by omega)
    (off_tile (hin _ (slot_lt (b := 0) (n := 512 + 16 * t.val + 10) (by omega) (by omega)))) rfl (off_h1 t.val ht 10 (by omega)) rfl ?_
  refine load_pos c tp (slot 0 (512 + 16 * t.val + 11)) (slot_lt (b := 0) (n := 512 + 16 * t.val + 11) (by omega) (by omega)) (off_first1 t.val ht 11 (by omega)) ?_
  refine step_assume c (chk_tile' (hin _ (slot_lt (b := 0) (n := 512 + 16 * t.val + 11) (by omega) (by omega)))) ?_
  refine issue c Y hin V0 0 0 (512 + 16 * t.val + 11) 1 (by omega) (by omega) (by omega) (by omega)
    (off_tile (hin _ (slot_lt (b := 0) (n := 512 + 16 * t.val + 11) (by omega) (by omega)))) rfl (off_h1 t.val ht 11 (by omega)) rfl ?_
  refine load_pos c tp (slot 0 (512 + 16 * t.val + 12)) (slot_lt (b := 0) (n := 512 + 16 * t.val + 12) (by omega) (by omega)) (off_first1 t.val ht 12 (by omega)) ?_
  refine step_assume c (chk_tile' (hin _ (slot_lt (b := 0) (n := 512 + 16 * t.val + 12) (by omega) (by omega)))) ?_
  refine issue c Y hin V0 0 0 (512 + 16 * t.val + 12) 1 (by omega) (by omega) (by omega) (by omega)
    (off_tile (hin _ (slot_lt (b := 0) (n := 512 + 16 * t.val + 12) (by omega) (by omega)))) rfl (off_h1 t.val ht 12 (by omega)) rfl ?_
  refine load_pos c tp (slot 0 (512 + 16 * t.val + 13)) (slot_lt (b := 0) (n := 512 + 16 * t.val + 13) (by omega) (by omega)) (off_first1 t.val ht 13 (by omega)) ?_
  refine step_assume c (chk_tile' (hin _ (slot_lt (b := 0) (n := 512 + 16 * t.val + 13) (by omega) (by omega)))) ?_
  refine issue c Y hin V0 0 0 (512 + 16 * t.val + 13) 1 (by omega) (by omega) (by omega) (by omega)
    (off_tile (hin _ (slot_lt (b := 0) (n := 512 + 16 * t.val + 13) (by omega) (by omega)))) rfl (off_h1 t.val ht 13 (by omega)) rfl ?_
  refine load_pos c tp (slot 0 (512 + 16 * t.val + 14)) (slot_lt (b := 0) (n := 512 + 16 * t.val + 14) (by omega) (by omega)) (off_first1 t.val ht 14 (by omega)) ?_
  refine step_assume c (chk_tile' (hin _ (slot_lt (b := 0) (n := 512 + 16 * t.val + 14) (by omega) (by omega)))) ?_
  refine issue c Y hin V0 0 0 (512 + 16 * t.val + 14) 1 (by omega) (by omega) (by omega) (by omega)
    (off_tile (hin _ (slot_lt (b := 0) (n := 512 + 16 * t.val + 14) (by omega) (by omega)))) rfl (off_h1 t.val ht 14 (by omega)) rfl ?_
  refine load_pos c tp (slot 0 (512 + 16 * t.val + 15)) (slot_lt (b := 0) (n := 512 + 16 * t.val + 15) (by omega) (by omega)) (off_first1 t.val ht 15 (by omega)) ?_
  refine step_assume c (chk_tile' (hin _ (slot_lt (b := 0) (n := 512 + 16 * t.val + 15) (by omega) (by omega)))) ?_
  refine issue c Y hin V0 0 0 (512 + 16 * t.val + 15) 1 (by omega) (by omega) (by omega) (by omega)
    (off_tile (hin _ (slot_lt (b := 0) (n := 512 + 16 * t.val + 15) (by omega) (by omega)))) rfl (off_h1 t.val ht 15 (by omega)) rfl ?_
  exact Idealize.SL.BI.fupd_intro

end Cert.Kernel3Ideal.Hand

end
-- ==== Proof.CombTripsB.lean ====
/-
  Hand-written. One trip of each of the two loops that start the next step's copies: sixteen words read, checked, and the copy of the row
  each names started.
-/
module

public import proofs.«01_k».proof.Proof.CombSteps

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (Y : S294912x128.Idx → Elt F .f32)

theorem trip3 (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (h2 : k0_cond2 i = 1#1) (hi1 : (i 0).val + 1 < 32) (w : BitVec 32) (V0 : S2x2x4096x128.Idx → Elt F .f32) (t : Fin k0_t3_loop.trips) (u : Unit) (X : sProp 𝕄) :
    iprop(Tab (F := F) c tp ∗ Pend c tp Y V0 (((i 0).val + 1) % 2) ((i 0).val + 1) (16 * t.val)
        ∗ Bat c tp Y (((i 0).val + 1) % 2) ((i 0).val + 1) (16 * t.val) 0 ∗ X)
      ⊢ Wp c (k0_t3_body i posM (Memref.isWhole_whole _) ysM (Memref.isWhole_whole _) win0 hwin0 win1 hwin1 win2 hwin2 win3 hwin3
        sM (Memref.isWhole_whole _) cc0_scratch1 h2 w t u)
        (fun _ => iprop(Tab (F := F) c tp ∗ Pend c tp Y V0 (((i 0).val + 1) % 2) ((i 0).val + 1) (16 * t.val + 16)
        ∗ Bat c tp Y (((i 0).val + 1) % 2) ((i 0).val + 1) (16 * t.val + 16) 0 ∗ X)) := by
  have ht : t.val < 32 := t.isLt
  have hi : (i 0).val < 32 := (i 0).isLt
  unfold k0_t3_body
  simp only [k0_part15_eq_skeleton, k0_part16_eq_skeleton, k0_part17_eq_skeleton, k0_part18_eq_skeleton, k0_part19_eq_skeleton, k0_part20_eq_skeleton, k0_part21_eq_skeleton, k0_part22_eq_skeleton,
    k0_part15_skel, k0_part16_skel, k0_part17_skel, k0_part18_skel, k0_part19_skel, k0_part20_skel, k0_part21_skel, k0_part22_skel,
    Prog.bind_assoc, Prog.pure_eq_ret, Prog.bind_ret]
  refine load_pos c tp (slot ((i 0).val + 1) (16 * t.val + 0)) (slot_lt (b := ((i 0).val + 1)) (n := 16 * t.val + 0) hi1 (by omega)) (off_at0 _ _ (step_next (i 0).val hi1) hi1 t.val ht 0 (by omega)) ?_
  refine step_assume c (chk_tile' (hin _ (slot_lt (b := ((i 0).val + 1)) (n := 16 * t.val + 0) hi1 (by omega)))) ?_
  refine issue c Y hin V0 (((i 0).val + 1) % 2) ((i 0).val + 1) (16 * t.val + 0) 0 (by omega) hi1 (by omega) (by omega)
    (off_tile (hin _ (slot_lt (b := ((i 0).val + 1)) (n := 16 * t.val + 0) hi1 (by omega)))) (buf_next0 i) (off_h0 t.val ht 0 (by omega)) (sem_next i) ?_
  refine load_pos c tp (slot ((i 0).val + 1) (16 * t.val + 1)) (slot_lt (b := ((i 0).val + 1)) (n := 16 * t.val + 1) hi1 (by omega)) (off_at0 _ _ (step_next (i 0).val hi1) hi1 t.val ht 1 (by omega)) ?_
  refine step_assume c (chk_tile' (hin _ (slot_lt (b := ((i 0).val + 1)) (n := 16 * t.val + 1) hi1 (by omega)))) ?_
  refine issue c Y hin V0 (((i 0).val + 1) % 2) ((i 0).val + 1) (16 * t.val + 1) 0 (by omega) hi1 (by omega) (by omega)
    (off_tile (hin _ (slot_lt (b := ((i 0).val + 1)) (n := 16 * t.val + 1) hi1 (by omega)))) (buf_next0 i) (off_h0 t.val ht 1 (by omega)) (sem_next i) ?_
  refine load_pos c tp (slot ((i 0).val + 1) (16 * t.val + 2)) (slot_lt (b := ((i 0).val + 1)) (n := 16 * t.val + 2) hi1 (by omega)) (off_at0 _ _ (step_next (i 0).val hi1) hi1 t.val ht 2 (by omega)) ?_
  refine step_assume c (chk_tile' (hin _ (slot_lt (b := ((i 0).val + 1)) (n := 16 * t.val + 2) hi1 (by omega)))) ?_
  refine issue c Y hin V0 (((i 0).val + 1) % 2) ((i 0).val + 1) (16 * t.val + 2) 0 (by omega) hi1 (by omega) (by omega)
    (off_tile (hin _ (slot_lt (b := ((i 0).val + 1)) (n := 16 * t.val + 2) hi1 (by omega)))) (buf_next0 i) (off_h0 t.val ht 2 (by omega)) (sem_next i) ?_
  refine load_pos c tp (slot ((i 0).val + 1) (16 * t.val + 3)) (slot_lt (b := ((i 0).val + 1)) (n := 16 * t.val + 3) hi1 (by omega)) (off_at0 _ _ (step_next (i 0).val hi1) hi1 t.val ht 3 (by omega)) ?_
  refine step_assume c (chk_tile' (hin _ (slot_lt (b := ((i 0).val + 1)) (n := 16 * t.val + 3) hi1 (by omega)))) ?_
  refine issue c Y hin V0 (((i 0).val + 1) % 2) ((i 0).val + 1) (16 * t.val + 3) 0 (by omega) hi1 (by omega) (by omega)
    (off_tile (hin _ (slot_lt (b := ((i 0).val + 1)) (n := 16 * t.val + 3) hi1 (by omega)))) (buf_next0 i) (off_h0 t.val ht 3 (by omega)) (sem_next i) ?_
  refine load_pos c tp (slot ((i 0).val + 1) (16 * t.val + 4)) (slot_lt (b := ((i 0).val + 1)) (n := 16 * t.val + 4) hi1 (by omega)) (off_at0 _ _ (step_next (i 0).val hi1) hi1 t.val ht 4 (by omega)) ?_
  refine step_assume c (chk_tile' (hin _ (slot_lt (b := ((i 0).val + 1)) (n := 16 * t.val + 4) hi1 (by omega)))) ?_
  refine issue c Y hin V0 (((i 0).val + 1) % 2) ((i 0).val + 1) (16 * t.val + 4) 0 (by omega) hi1 (by omega) (by omega)
    (off_tile (hin _ (slot_lt (b := ((i 0).val + 1)) (n := 16 * t.val + 4) hi1 (by omega)))) (buf_next0 i) (off_h0 t.val ht 4 (by omega)) (sem_next i) ?_
  refine load_pos c tp (slot ((i 0).val + 1) (16 * t.val + 5)) (slot_lt (b := ((i 0).val + 1)) (n := 16 * t.val + 5) hi1 (by omega)) (off_at0 _ _ (step_next (i 0).val hi1) hi1 t.val ht 5 (by omega)) ?_
  refine step_assume c (chk_tile' (hin _ (slot_lt (b := ((i 0).val + 1)) (n := 16 * t.val + 5) hi1 (by omega)))) ?_
  refine issue c Y hin V0 (((i 0).val + 1) % 2) ((i 0).val + 1) (16 * t.val + 5) 0 (by omega) hi1 (by omega) (by omega)
    (off_tile (hin _ (slot_lt (b := ((i 0).val + 1)) (n := 16 * t.val + 5) hi1 (by omega)))) (buf_next0 i) (off_h0 t.val ht 5 (by omega)) (sem_next i) ?_
  refine load_pos c tp (slot ((i 0).val + 1) (16 * t.val + 6)) (slot_lt (b := ((i 0).val + 1)) (n := 16 * t.val + 6) hi1 (by omega)) (off_at0 _ _ (step_next (i 0).val hi1) hi1 t.val ht 6 (by omega)) ?_
  refine step_assume c (chk_tile' (hin _ (slot_lt (b := ((i 0).val + 1)) (n := 16 * t.val + 6) hi1 (by omega)))) ?_
  refine issue c Y hin V0 (((i 0).val + 1) % 2) ((i 0).val + 1) (16 * t.val + 6) 0 (by omega) hi1 (by omega) (by omega)
    (off_tile (hin _ (slot_lt (b := ((i 0).val + 1)) (n := 16 * t.val + 6) hi1 (by omega)))) (buf_next0 i) (off_h0 t.val ht 6 (by omega)) (sem_next i) ?_
  refine load_pos c tp (slot ((i 0).val + 1) (16 * t.val + 7)) (slot_lt (b := ((i 0).val + 1)) (n := 16 * t.val + 7) hi1 (by omega)) (off_at0 _ _ (step_next (i 0).val hi1) hi1 t.val ht 7 (by omega)) ?_
  refine step_assume c (chk_tile' (hin _ (slot_lt (b := ((i 0).val + 1)) (n := 16 * t.val + 7) hi1 (by omega)))) ?_
  refine issue c Y hin V0 (((i 0).val + 1) % 2) ((i 0).val + 1) (16 * t.val + 7) 0 (by omega) hi1 (by omega) (by omega)
    (off_tile (hin _ (slot_lt (b := ((i 0).val + 1)) (n := 16 * t.val + 7) hi1 (by omega)))) (buf_next0 i) (off_h0 t.val ht 7 (by omega)) (sem_next i) ?_
  refine load_pos c tp (slot ((i 0).val + 1) (16 * t.val + 8)) (slot_lt (b := ((i 0).val + 1)) (n := 16 * t.val + 8) hi1 (by omega)) (off_at0 _ _ (step_next (i 0).val hi1) hi1 t.val ht 8 (by omega)) ?_
  refine step_assume c (chk_tile' (hin _ (slot_lt (b := ((i 0).val + 1)) (n := 16 * t.val + 8) hi1 (by omega)))) ?_
  refine issue c Y hin V0 (((i 0).val + 1) % 2) ((i 0).val + 1) (16 * t.val + 8) 0 (by omega) hi1 (by omega) (by omega)
    (off_tile (hin _ (slot_lt (b := ((i 0).val + 1)) (n := 16 * t.val + 8) hi1 (by omega)))) (buf_next0 i) (off_h0 t.val ht 8 (by omega)) (sem_next i) ?_
  refine load_pos c tp (slot ((i 0).val + 1) (16 * t.val + 9)) (slot_lt (b := ((i 0).val + 1)) (n := 16 * t.val + 9) hi1 (by omega)) (off_at0 _ _ (step_next (i 0).val hi1) hi1 t.val ht 9 (by omega)) ?_
  refine step_assume c (chk_tile' (hin _ (slot_lt (b := ((i 0).val + 1)) (n := 16 * t.val + 9) hi1 (by omega)))) ?_
  refine issue c Y hin V0 (((i 0).val + 1) % 2) ((i 0).val + 1) (16 * t.val + 9) 0 (by omega) hi1 (by omega) (by omega)
    (off_tile (hin _ (slot_lt (b := ((i 0).val + 1)) (n := 16 * t.val + 9) hi1 (by omega)))) (buf_next0 i) (off_h0 t.val ht 9 (by omega)) (sem_next i) ?_
  refine load_pos c tp (slot ((i 0).val + 1) (16 * t.val + 10)) (slot_lt (b := ((i 0).val + 1)) (n := 16 * t.val + 10) hi1 (by omega)) (off_at0 _ _ (step_next (i 0).val hi1) hi1 t.val ht 10 (by omega)) ?_
  refine step_assume c (chk_tile' (hin _ (slot_lt (b := ((i 0).val + 1)) (n := 16 * t.val + 10) hi1 (by omega)))) ?_
  refine issue c Y hin V0 (((i 0).val + 1) % 2) ((i 0).val + 1) (16 * t.val + 10) 0 (by omega) hi1 (by omega) (by omega)
    (off_tile (hin _ (slot_lt (b := ((i 0).val + 1)) (n := 16 * t.val + 10) hi1 (by omega)))) (buf_next0 i) (off_h0 t.val ht 10 (by omega)) (sem_next i) ?_
  refine load_pos c tp (slot ((i 0).val + 1) (16 * t.val + 11)) (slot_lt (b := ((i 0).val + 1)) (n := 16 * t.val + 11) hi1 (by omega)) (off_at0 _ _ (step_next (i 0).val hi1) hi1 t.val ht 11 (by omega)) ?_
  refine step_assume c (chk_tile' (hin _ (slot_lt (b := ((i 0).val + 1)) (n := 16 * t.val + 11) hi1 (by omega)))) ?_
  refine issue c Y hin V0 (((i 0).val + 1) % 2) ((i 0).val + 1) (16 * t.val + 11) 0 (by omega) hi1 (by omega) (by omega)
    (off_tile (hin _ (slot_lt (b := ((i 0).val + 1)) (n := 16 * t.val + 11) hi1 (by omega)))) (buf_next0 i) (off_h0 t.val ht 11 (by omega)) (sem_next i) ?_
  refine load_pos c tp (slot ((i 0).val + 1) (16 * t.val + 12)) (slot_lt (b := ((i 0).val + 1)) (n := 16 * t.val + 12) hi1 (by omega)) (off_at0 _ _ (step_next (i 0).val hi1) hi1 t.val ht 12 (by omega)) ?_
  refine step_assume c (chk_tile' (hin _ (slot_lt (b := ((i 0).val + 1)) (n := 16 * t.val + 12) hi1 (by omega)))) ?_
  refine issue c Y hin V0 (((i 0).val + 1) % 2) ((i 0).val + 1) (16 * t.val + 12) 0 (by omega) hi1 (by omega) (by omega)
    (off_tile (hin _ (slot_lt (b := ((i 0).val + 1)) (n := 16 * t.val + 12) hi1 (by omega)))) (buf_next0 i) (off_h0 t.val ht 12 (by omega)) (sem_next i) ?_
  refine load_pos c tp (slot ((i 0).val + 1) (16 * t.val + 13)) (slot_lt (b := ((i 0).val + 1)) (n := 16 * t.val + 13) hi1 (by omega)) (off_at0 _ _ (step_next (i 0).val hi1) hi1 t.val ht 13 (by omega)) ?_
  refine step_assume c (chk_tile' (hin _ (slot_lt (b := ((i 0).val + 1)) (n := 16 * t.val + 13) hi1 (by omega)))) ?_
  refine issue c Y hin V0 (((i 0).val + 1) % 2) ((i 0).val + 1) (16 * t.val + 13) 0 (by omega) hi1 (by omega) (by omega)
    (off_tile (hin _ (slot_lt (b := ((i 0).val + 1)) (n := 16 * t.val + 13) hi1 (by omega)))) (buf_next0 i) (off_h0 t.val ht 13 (by omega)) (sem_next i) ?_
  refine load_pos c tp (slot ((i 0).val + 1) (16 * t.val + 14)) (slot_lt (b := ((i 0).val + 1)) (n := 16 * t.val + 14) hi1 (by omega)) (off_at0 _ _ (step_next (i 0).val hi1) hi1 t.val ht 14 (by omega)) ?_
  refine step_assume c (chk_tile' (hin _ (slot_lt (b := ((i 0).val + 1)) (n := 16 * t.val + 14) hi1 (by omega)))) ?_
  refine issue c Y hin V0 (((i 0).val + 1) % 2) ((i 0).val + 1) (16 * t.val + 14) 0 (by omega) hi1 (by omega) (by omega)
    (off_tile (hin _ (slot_lt (b := ((i 0).val + 1)) (n := 16 * t.val + 14) hi1 (by omega)))) (buf_next0 i) (off_h0 t.val ht 14 (by omega)) (sem_next i) ?_
  refine load_pos c tp (slot ((i 0).val + 1) (16 * t.val + 15)) (slot_lt (b := ((i 0).val + 1)) (n := 16 * t.val + 15) hi1 (by omega)) (off_at0 _ _ (step_next (i 0).val hi1) hi1 t.val ht 15 (by omega)) ?_
  refine step_assume c (chk_tile' (hin _ (slot_lt (b := ((i 0).val + 1)) (n := 16 * t.val + 15) hi1 (by omega)))) ?_
  refine issue c Y hin V0 (((i 0).val + 1) % 2) ((i 0).val + 1) (16 * t.val + 15) 0 (by omega) hi1 (by omega) (by omega)
    (off_tile (hin _ (slot_lt (b := ((i 0).val + 1)) (n := 16 * t.val + 15) hi1 (by omega)))) (buf_next0 i) (off_h0 t.val ht 15 (by omega)) (sem_next i) ?_
  exact Idealize.SL.BI.fupd_intro

theorem trip4 (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (h2 : k0_cond2 i = 1#1) (hi1 : (i 0).val + 1 < 32) (w : BitVec 32) (V0 : S2x2x4096x128.Idx → Elt F .f32) (t : Fin k0_t4_loop.trips) (u : Unit) (X : sProp 𝕄) :
    iprop(Tab (F := F) c tp ∗ Pend c tp Y V0 (((i 0).val + 1) % 2) ((i 0).val + 1) (512 + 16 * t.val)
        ∗ Bat c tp Y (((i 0).val + 1) % 2) ((i 0).val + 1) (512 + 16 * t.val) 0 ∗ X)
      ⊢ Wp c (k0_t4_body i posM (Memref.isWhole_whole _) ysM (Memref.isWhole_whole _) win0 hwin0 win1 hwin1 win2 hwin2 win3 hwin3
        sM (Memref.isWhole_whole _) cc0_scratch1 h2 w t u)
        (fun _ => iprop(Tab (F := F) c tp ∗ Pend c tp Y V0 (((i 0).val + 1) % 2) ((i 0).val + 1) (512 + 16 * t.val + 16)
        ∗ Bat c tp Y (((i 0).val + 1) % 2) ((i 0).val + 1) (512 + 16 * t.val + 16) 0 ∗ X)) := by
  have ht : t.val < 32 := t.isLt
  have hi : (i 0).val < 32 := (i 0).isLt
  unfold k0_t4_body
  simp only [k0_part23_eq_skeleton, k0_part24_eq_skeleton, k0_part25_eq_skeleton, k0_part26_eq_skeleton, k0_part27_eq_skeleton, k0_part28_eq_skeleton, k0_part29_eq_skeleton, k0_part30_eq_skeleton,
    k0_part23_skel, k0_part24_skel, k0_part25_skel, k0_part26_skel, k0_part27_skel, k0_part28_skel, k0_part29_skel, k0_part30_skel,
    Prog.bind_assoc, Prog.pure_eq_ret, Prog.bind_ret]
  refine load_pos c tp (slot ((i 0).val + 1) (512 + 16 * t.val + 0)) (slot_lt (b := ((i 0).val + 1)) (n := 512 + 16 * t.val + 0) hi1 (by omega)) (off_at1 _ _ (step_next (i 0).val hi1) hi1 t.val ht 0 (by omega)) ?_
  refine step_assume c (chk_tile' (hin _ (slot_lt (b := ((i 0).val + 1)) (n := 512 + 16 * t.val + 0) hi1 (by omega)))) ?_
  refine issue c Y hin V0 (((i 0).val + 1) % 2) ((i 0).val + 1) (512 + 16 * t.val + 0) 1 (by omega) hi1 (by omega) (by omega)
    (off_tile (hin _ (slot_lt (b := ((i 0).val + 1)) (n := 512 + 16 * t.val + 0) hi1 (by omega)))) (buf_next1 i) (off_h1 t.val ht 0 (by omega)) (sem_next i) ?_
  refine load_pos c tp (slot ((i 0).val + 1) (512 + 16 * t.val + 1)) (slot_lt (b := ((i 0).val + 1)) (n := 512 + 16 * t.val + 1) hi1 (by omega)) (off_at1 _ _ (step_next (i 0).val hi1) hi1 t.val ht 1 (by omega)) ?_
  refine step_assume c (chk_tile' (hin _ (slot_lt (b := ((i 0).val + 1)) (n := 512 + 16 * t.val + 1) hi1 (by omega)))) ?_
  refine issue c Y hin V0 (((i 0).val + 1) % 2) ((i 0).val + 1) (512 + 16 * t.val + 1) 1 (by omega) hi1 (by omega) (by omega)
    (off_tile (hin _ (slot_lt (b := ((i 0).val + 1)) (n := 512 + 16 * t.val + 1) hi1 (by omega)))) (buf_next1 i) (off_h1 t.val ht 1 (by omega)) (sem_next i) ?_
  refine load_pos c tp (slot ((i 0).val + 1) (512 + 16 * t.val + 2)) (slot_lt (b := ((i 0).val + 1)) (n := 512 + 16 * t.val + 2) hi1 (by omega)) (off_at1 _ _ (step_next (i 0).val hi1) hi1 t.val ht 2 (by omega)) ?_
  refine step_assume c (chk_tile' (hin _ (slot_lt (b := ((i 0).val + 1)) (n := 512 + 16 * t.val + 2) hi1 (by omega)))) ?_
  refine issue c Y hin V0 (((i 0).val + 1) % 2) ((i 0).val + 1) (512 + 16 * t.val + 2) 1 (by omega) hi1 (by omega) (by omega)
    (off_tile (hin _ (slot_lt (b := ((i 0).val + 1)) (n := 512 + 16 * t.val + 2) hi1 (by omega)))) (buf_next1 i) (off_h1 t.val ht 2 (by omega)) (sem_next i) ?_
  refine load_pos c tp (slot ((i 0).val + 1) (512 + 16 * t.val + 3)) (slot_lt (b := ((i 0).val + 1)) (n := 512 + 16 * t.val + 3) hi1 (by omega)) (off_at1 _ _ (step_next (i 0).val hi1) hi1 t.val ht 3 (by omega)) ?_
  refine step_assume c (chk_tile' (hin _ (slot_lt (b := ((i 0).val + 1)) (n := 512 + 16 * t.val + 3) hi1 (by omega)))) ?_
  refine issue c Y hin V0 (((i 0).val + 1) % 2) ((i 0).val + 1) (512 + 16 * t.val + 3) 1 (by omega) hi1 (by omega) (by omega)
    (off_tile (hin _ (slot_lt (b := ((i 0).val + 1)) (n := 512 + 16 * t.val + 3) hi1 (by omega)))) (buf_next1 i) (off_h1 t.val ht 3 (by omega)) (sem_next i) ?_
  refine load_pos c tp (slot ((i 0).val + 1) (512 + 16 * t.val + 4)) (slot_lt (b := ((i 0).val + 1)) (n := 512 + 16 * t.val + 4) hi1 (by omega)) (off_at1 _ _ (step_next (i 0).val hi1) hi1 t.val ht 4 (by omega)) ?_
  refine step_assume c (chk_tile' (hin _ (slot_lt (b := ((i 0).val + 1)) (n := 512 + 16 * t.val + 4) hi1 (by omega)))) ?_
  refine issue c Y hin V0 (((i 0).val + 1) % 2) ((i 0).val + 1) (512 + 16 * t.val + 4) 1 (by omega) hi1 (by omega) (by omega)
    (off_tile (hin _ (slot_lt (b := ((i 0).val + 1)) (n := 512 + 16 * t.val + 4) hi1 (by omega)))) (buf_next1 i) (off_h1 t.val ht 4 (by omega)) (sem_next i) ?_
  refine load_pos c tp (slot ((i 0).val + 1) (512 + 16 * t.val + 5)) (slot_lt (b := ((i 0).val + 1)) (n := 512 + 16 * t.val + 5) hi1 (by omega)) (off_at1 _ _ (step_next (i 0).val hi1) hi1 t.val ht 5 (by omega)) ?_
  refine step_assume c (chk_tile' (hin _ (slot_lt (b := ((i 0).val + 1)) (n := 512 + 16 * t.val + 5) hi1 (by omega)))) ?_
  refine issue c Y hin V0 (((i 0).val + 1) % 2) ((i 0).val + 1) (512 + 16 * t.val + 5) 1 (by omega) hi1 (by omega) (by omega)
    (off_tile (hin _ (slot_lt (b := ((i 0).val + 1)) (n := 512 + 16 * t.val + 5) hi1 (by omega)))) (buf_next1 i) (off_h1 t.val ht 5 (by omega)) (sem_next i) ?_
  refine load_pos c tp (slot ((i 0).val + 1) (512 + 16 * t.val + 6)) (slot_lt (b := ((i 0).val + 1)) (n := 512 + 16 * t.val + 6) hi1 (by omega)) (off_at1 _ _ (step_next (i 0).val hi1) hi1 t.val ht 6 (by omega)) ?_
  refine step_assume c (chk_tile' (hin _ (slot_lt (b := ((i 0).val + 1)) (n := 512 + 16 * t.val + 6) hi1 (by omega)))) ?_
  refine issue c Y hin V0 (((i 0).val + 1) % 2) ((i 0).val + 1) (512 + 16 * t.val + 6) 1 (by omega) hi1 (by omega) (by omega)
    (off_tile (hin _ (slot_lt (b := ((i 0).val + 1)) (n := 512 + 16 * t.val + 6) hi1 (by omega)))) (buf_next1 i) (off_h1 t.val ht 6 (by omega)) (sem_next i) ?_
  refine load_pos c tp (slot ((i 0).val + 1) (512 + 16 * t.val + 7)) (slot_lt (b := ((i 0).val + 1)) (n := 512 + 16 * t.val + 7) hi1 (by omega)) (off_at1 _ _ (step_next (i 0).val hi1) hi1 t.val ht 7 (by omega)) ?_
  refine step_assume c (chk_tile' (hin _ (slot_lt (b := ((i 0).val + 1)) (n := 512 + 16 * t.val + 7) hi1 (by omega)))) ?_
  refine issue c Y hin V0 (((i 0).val + 1) % 2) ((i 0).val + 1) (512 + 16 * t.val + 7) 1 (by omega) hi1 (by omega) (by omega)
    (off_tile (hin _ (slot_lt (b := ((i 0).val + 1)) (n := 512 + 16 * t.val + 7) hi1 (by omega)))) (buf_next1 i) (off_h1 t.val ht 7 (by omega)) (sem_next i) ?_
  refine load_pos c tp (slot ((i 0).val + 1) (512 + 16 * t.val + 8)) (slot_lt (b := ((i 0).val + 1)) (n := 512 + 16 * t.val + 8) hi1 (by omega)) (off_at1 _ _ (step_next (i 0).val hi1) hi1 t.val ht 8 (by omega)) ?_
  refine step_assume c (chk_tile' (hin _ (slot_lt (b := ((i 0).val + 1)) (n := 512 + 16 * t.val + 8) hi1 (by omega)))) ?_
  refine issue c Y hin V0 (((i 0).val + 1) % 2) ((i 0).val + 1) (512 + 16 * t.val + 8) 1 (by omega) hi1 (by omega) (by omega)
    (off_tile (hin _ (slot_lt (b := ((i 0).val + 1)) (n := 512 + 16 * t.val + 8) hi1 (by omega)))) (buf_next1 i) (off_h1 t.val ht 8 (by omega)) (sem_next i) ?_
  refine load_pos c tp (slot ((i 0).val + 1) (512 + 16 * t.val + 9)) (slot_lt (b := ((i 0).val + 1)) (n := 512 + 16 * t.val + 9) hi1 (by omega)) (off_at1 _ _ (step_next (i 0).val hi1) hi1 t.val ht 9 (by omega)) ?_
  refine step_assume c (chk_tile' (hin _ (slot_lt (b := ((i 0).val + 1)) (n := 512 + 16 * t.val + 9) hi1 (by omega)))) ?_
  refine issue c Y hin V0 (((i 0).val + 1) % 2) ((i 0).val + 1) (512 + 16 * t.val + 9) 1 (by omega) hi1 (by omega) (by omega)
    (off_tile (hin _ (slot_lt (b := ((i 0).val + 1)) (n := 512 + 16 * t.val + 9) hi1 (by omega)))) (buf_next1 i) (off_h1 t.val ht 9 (by omega)) (sem_next i) ?_
  refine load_pos c tp (slot ((i 0).val + 1) (512 + 16 * t.val + 10)) (slot_lt (b := ((i 0).val + 1)) (n := 512 + 16 * t.val + 10) hi1 (by omega)) (off_at1 _ _ (step_next (i 0).val hi1) hi1 t.val ht 10 (by omega)) ?_
  refine step_assume c (chk_tile' (hin _ (slot_lt (b := ((i 0).val + 1)) (n := 512 + 16 * t.val + 10) hi1 (by omega)))) ?_
  refine issue c Y hin V0 (((i 0).val + 1) % 2) ((i 0).val + 1) (512 + 16 * t.val + 10) 1 (by omega) hi1 (by omega) (by omega)
    (off_tile (hin _ (slot_lt (b := ((i 0).val + 1)) (n := 512 + 16 * t.val + 10) hi1 (by omega)))) (buf_next1 i) (off_h1 t.val ht 10 (by omega)) (sem_next i) ?_
  refine load_pos c tp (slot ((i 0).val + 1) (512 + 16 * t.val + 11)) (slot_lt (b := ((i 0).val + 1)) (n := 512 + 16 * t.val + 11) hi1 (by omega)) (off_at1 _ _ (step_next (i 0).val hi1) hi1 t.val ht 11 (by omega)) ?_
  refine step_assume c (chk_tile' (hin _ (slot_lt (b := ((i 0).val + 1)) (n := 512 + 16 * t.val + 11) hi1 (by omega)))) ?_
  refine issue c Y hin V0 (((i 0).val + 1) % 2) ((i 0).val + 1) (512 + 16 * t.val + 11) 1 (by omega) hi1 (by omega) (by omega)
    (off_tile (hin _ (slot_lt (b := ((i 0).val + 1)) (n := 512 + 16 * t.val + 11) hi1 (by omega)))) (buf_next1 i) (off_h1 t.val ht 11 (by omega)) (sem_next i) ?_
  refine load_pos c tp (slot ((i 0).val + 1) (512 + 16 * t.val + 12)) (slot_lt (b := ((i 0).val + 1)) (n := 512 + 16 * t.val + 12) hi1 (by omega)) (off_at1 _ _ (step_next (i 0).val hi1) hi1 t.val ht 12 (by omega)) ?_
  refine step_assume c (chk_tile' (hin _ (slot_lt (b := ((i 0).val + 1)) (n := 512 + 16 * t.val + 12) hi1 (by omega)))) ?_
  refine issue c Y hin V0 (((i 0).val + 1) % 2) ((i 0).val + 1) (512 + 16 * t.val + 12) 1 (by omega) hi1 (by omega) (by omega)
    (off_tile (hin _ (slot_lt (b := ((i 0).val + 1)) (n := 512 + 16 * t.val + 12) hi1 (by omega)))) (buf_next1 i) (off_h1 t.val ht 12 (by omega)) (sem_next i) ?_
  refine load_pos c tp (slot ((i 0).val + 1) (512 + 16 * t.val + 13)) (slot_lt (b := ((i 0).val + 1)) (n := 512 + 16 * t.val + 13) hi1 (by omega)) (off_at1 _ _ (step_next (i 0).val hi1) hi1 t.val ht 13 (by omega)) ?_
  refine step_assume c (chk_tile' (hin _ (slot_lt (b := ((i 0).val + 1)) (n := 512 + 16 * t.val + 13) hi1 (by omega)))) ?_
  refine issue c Y hin V0 (((i 0).val + 1) % 2) ((i 0).val + 1) (512 + 16 * t.val + 13) 1 (by omega) hi1 (by omega) (by omega)
    (off_tile (hin _ (slot_lt (b := ((i 0).val + 1)) (n := 512 + 16 * t.val + 13) hi1 (by omega)))) (buf_next1 i) (off_h1 t.val ht 13 (by omega)) (sem_next i) ?_
  refine load_pos c tp (slot ((i 0).val + 1) (512 + 16 * t.val + 14)) (slot_lt (b := ((i 0).val + 1)) (n := 512 + 16 * t.val + 14) hi1 (by omega)) (off_at1 _ _ (step_next (i 0).val hi1) hi1 t.val ht 14 (by omega)) ?_
  refine step_assume c (chk_tile' (hin _ (slot_lt (b := ((i 0).val + 1)) (n := 512 + 16 * t.val + 14) hi1 (by omega)))) ?_
  refine issue c Y hin V0 (((i 0).val + 1) % 2) ((i 0).val + 1) (512 + 16 * t.val + 14) 1 (by omega) hi1 (by omega) (by omega)
    (off_tile (hin _ (slot_lt (b := ((i 0).val + 1)) (n := 512 + 16 * t.val + 14) hi1 (by omega)))) (buf_next1 i) (off_h1 t.val ht 14 (by omega)) (sem_next i) ?_
  refine load_pos c tp (slot ((i 0).val + 1) (512 + 16 * t.val + 15)) (slot_lt (b := ((i 0).val + 1)) (n := 512 + 16 * t.val + 15) hi1 (by omega)) (off_at1 _ _ (step_next (i 0).val hi1) hi1 t.val ht 15 (by omega)) ?_
  refine step_assume c (chk_tile' (hin _ (slot_lt (b := ((i 0).val + 1)) (n := 512 + 16 * t.val + 15) hi1 (by omega)))) ?_
  refine issue c Y hin V0 (((i 0).val + 1) % 2) ((i 0).val + 1) (512 + 16 * t.val + 15) 1 (by omega) hi1 (by omega) (by omega)
    (off_tile (hin _ (slot_lt (b := ((i 0).val + 1)) (n := 512 + 16 * t.val + 15) hi1 (by omega)))) (buf_next1 i) (off_h1 t.val ht 15 (by omega)) (sem_next i) ?_
  exact Idealize.SL.BI.fupd_intro

end Cert.Kernel3Ideal.Hand

end
-- ==== Proof.CombTripsC.lean ====
/-
  Hand-written. One trip of each of the two loops that wait for a step's copies: sixteen words read, checked, and sixteen waits.
-/
module

public import proofs.«01_k».proof.Proof.CombSteps

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (Y : S294912x128.Idx → Elt F .f32)

theorem trip5 (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (w : BitVec 32) (t : Fin k0_t5_loop.trips) (u : Unit) (X : sProp 𝕄) :
    iprop(Tab (F := F) c tp ∗ Bat c tp Y ((i 0).val % 2) (i 0).val 1024 (16 * t.val)
        ∗ Owe (F := F) c ∗ X)
      ⊢ Wp c (k0_t5_body i posM (Memref.isWhole_whole _) ysM (Memref.isWhole_whole _) win0 hwin0 win1 hwin1 win2 hwin2 win3 hwin3
        sM (Memref.isWhole_whole _) cc0_scratch1 w t u)
        (fun _ => iprop(Tab (F := F) c tp ∗ Bat c tp Y ((i 0).val % 2) (i 0).val 1024 (16 * t.val + 16)
        ∗ Owe (F := F) c ∗ X)) := by
  have ht : t.val < 32 := t.isLt
  have hi : (i 0).val < 32 := (i 0).isLt
  unfold k0_t5_body
  simp only [k0_part31_eq_skeleton, k0_part32_eq_skeleton, k0_part33_eq_skeleton, k0_part34_eq_skeleton, k0_part35_eq_skeleton, k0_part36_eq_skeleton, k0_part37_eq_skeleton, k0_part38_eq_skeleton,
    k0_part31_skel, k0_part32_skel, k0_part33_skel, k0_part34_skel, k0_part35_skel, k0_part36_skel, k0_part37_skel, k0_part38_skel,
    Prog.bind_assoc, Prog.pure_eq_ret, Prog.bind_ret]
  refine load_pos c tp (slot (i 0).val (16 * t.val + 0)) (slot_lt (b := (i 0).val) (n := 16 * t.val + 0) hi (by omega)) (off_at0 _ _ (step_here (i 0).val hi) hi t.val ht 0 (by omega)) ?_
  refine step_assume c (chk_tile (hin _ (slot_lt (b := (i 0).val) (n := 16 * t.val + 0) hi (by omega)))) ?_
  refine wait_tile c tp Y ((i 0).val % 2) (i 0).val (16 * t.val + 0) (by omega) (by omega) (sem_here i) ?_
  refine load_pos c tp (slot (i 0).val (16 * t.val + 1)) (slot_lt (b := (i 0).val) (n := 16 * t.val + 1) hi (by omega)) (off_at0 _ _ (step_here (i 0).val hi) hi t.val ht 1 (by omega)) ?_
  refine step_assume c (chk_tile (hin _ (slot_lt (b := (i 0).val) (n := 16 * t.val + 1) hi (by omega)))) ?_
  refine wait_tile c tp Y ((i 0).val % 2) (i 0).val (16 * t.val + 1) (by omega) (by omega) (sem_here i) ?_
  refine load_pos c tp (slot (i 0).val (16 * t.val + 2)) (slot_lt (b := (i 0).val) (n := 16 * t.val + 2) hi (by omega)) (off_at0 _ _ (step_here (i 0).val hi) hi t.val ht 2 (by omega)) ?_
  refine step_assume c (chk_tile (hin _ (slot_lt (b := (i 0).val) (n := 16 * t.val + 2) hi (by omega)))) ?_
  refine wait_tile c tp Y ((i 0).val % 2) (i 0).val (16 * t.val + 2) (by omega) (by omega) (sem_here i) ?_
  refine load_pos c tp (slot (i 0).val (16 * t.val + 3)) (slot_lt (b := (i 0).val) (n := 16 * t.val + 3) hi (by omega)) (off_at0 _ _ (step_here (i 0).val hi) hi t.val ht 3 (by omega)) ?_
  refine step_assume c (chk_tile (hin _ (slot_lt (b := (i 0).val) (n := 16 * t.val + 3) hi (by omega)))) ?_
  refine wait_tile c tp Y ((i 0).val % 2) (i 0).val (16 * t.val + 3) (by omega) (by omega) (sem_here i) ?_
  refine load_pos c tp (slot (i 0).val (16 * t.val + 4)) (slot_lt (b := (i 0).val) (n := 16 * t.val + 4) hi (by omega)) (off_at0 _ _ (step_here (i 0).val hi) hi t.val ht 4 (by omega)) ?_
  refine step_assume c (chk_tile (hin _ (slot_lt (b := (i 0).val) (n := 16 * t.val + 4) hi (by omega)))) ?_
  refine wait_tile c tp Y ((i 0).val % 2) (i 0).val (16 * t.val + 4) (by omega) (by omega) (sem_here i) ?_
  refine load_pos c tp (slot (i 0).val (16 * t.val + 5)) (slot_lt (b := (i 0).val) (n := 16 * t.val + 5) hi (by omega)) (off_at0 _ _ (step_here (i 0).val hi) hi t.val ht 5 (by omega)) ?_
  refine step_assume c (chk_tile (hin _ (slot_lt (b := (i 0).val) (n := 16 * t.val + 5) hi (by omega)))) ?_
  refine wait_tile c tp Y ((i 0).val % 2) (i 0).val (16 * t.val + 5) (by omega) (by omega) (sem_here i) ?_
  refine load_pos c tp (slot (i 0).val (16 * t.val + 6)) (slot_lt (b := (i 0).val) (n := 16 * t.val + 6) hi (by omega)) (off_at0 _ _ (step_here (i 0).val hi) hi t.val ht 6 (by omega)) ?_
  refine step_assume c (chk_tile (hin _ (slot_lt (b := (i 0).val) (n := 16 * t.val + 6) hi (by omega)))) ?_
  refine wait_tile c tp Y ((i 0).val % 2) (i 0).val (16 * t.val + 6) (by omega) (by omega) (sem_here i) ?_
  refine load_pos c tp (slot (i 0).val (16 * t.val + 7)) (slot_lt (b := (i 0).val) (n := 16 * t.val + 7) hi (by omega)) (off_at0 _ _ (step_here (i 0).val hi) hi t.val ht 7 (by omega)) ?_
  refine step_assume c (chk_tile (hin _ (slot_lt (b := (i 0).val) (n := 16 * t.val + 7) hi (by omega)))) ?_
  refine wait_tile c tp Y ((i 0).val % 2) (i 0).val (16 * t.val + 7) (by omega) (by omega) (sem_here i) ?_
  refine load_pos c tp (slot (i 0).val (16 * t.val + 8)) (slot_lt (b := (i 0).val) (n := 16 * t.val + 8) hi (by omega)) (off_at0 _ _ (step_here (i 0).val hi) hi t.val ht 8 (by omega)) ?_
  refine step_assume c (chk_tile (hin _ (slot_lt (b := (i 0).val) (n := 16 * t.val + 8) hi (by omega)))) ?_
  refine wait_tile c tp Y ((i 0).val % 2) (i 0).val (16 * t.val + 8) (by omega) (by omega) (sem_here i) ?_
  refine load_pos c tp (slot (i 0).val (16 * t.val + 9)) (slot_lt (b := (i 0).val) (n := 16 * t.val + 9) hi (by omega)) (off_at0 _ _ (step_here (i 0).val hi) hi t.val ht 9 (by omega)) ?_
  refine step_assume c (chk_tile (hin _ (slot_lt (b := (i 0).val) (n := 16 * t.val + 9) hi (by omega)))) ?_
  refine wait_tile c tp Y ((i 0).val % 2) (i 0).val (16 * t.val + 9) (by omega) (by omega) (sem_here i) ?_
  refine load_pos c tp (slot (i 0).val (16 * t.val + 10)) (slot_lt (b := (i 0).val) (n := 16 * t.val + 10) hi (by omega)) (off_at0 _ _ (step_here (i 0).val hi) hi t.val ht 10 (by omega)) ?_
  refine step_assume c (chk_tile (hin _ (slot_lt (b := (i 0).val) (n := 16 * t.val + 10) hi (by omega)))) ?_
  refine wait_tile c tp Y ((i 0).val % 2) (i 0).val (16 * t.val + 10) (by omega) (by omega) (sem_here i) ?_
  refine load_pos c tp (slot (i 0).val (16 * t.val + 11)) (slot_lt (b := (i 0).val) (n := 16 * t.val + 11) hi (by omega)) (off_at0 _ _ (step_here (i 0).val hi) hi t.val ht 11 (by omega)) ?_
  refine step_assume c (chk_tile (hin _ (slot_lt (b := (i 0).val) (n := 16 * t.val + 11) hi (by omega)))) ?_
  refine wait_tile c tp Y ((i 0).val % 2) (i 0).val (16 * t.val + 11) (by omega) (by omega) (sem_here i) ?_
  refine load_pos c tp (slot (i 0).val (16 * t.val + 12)) (slot_lt (b := (i 0).val) (n := 16 * t.val + 12) hi (by omega)) (off_at0 _ _ (step_here (i 0).val hi) hi t.val ht 12 (by omega)) ?_
  refine step_assume c (chk_tile (hin _ (slot_lt (b := (i 0).val) (n := 16 * t.val + 12) hi (by omega)))) ?_
  refine wait_tile c tp Y ((i 0).val % 2) (i 0).val (16 * t.val + 12) (by omega) (by omega) (sem_here i) ?_
  refine load_pos c tp (slot (i 0).val (16 * t.val + 13)) (slot_lt (b := (i 0).val) (n := 16 * t.val + 13) hi (by omega)) (off_at0 _ _ (step_here (i 0).val hi) hi t.val ht 13 (by omega)) ?_
  refine step_assume c (chk_tile (hin _ (slot_lt (b := (i 0).val) (n := 16 * t.val + 13) hi (by omega)))) ?_
  refine wait_tile c tp Y ((i 0).val % 2) (i 0).val (16 * t.val + 13) (by omega) (by omega) (sem_here i) ?_
  refine load_pos c tp (slot (i 0).val (16 * t.val + 14)) (slot_lt (b := (i 0).val) (n := 16 * t.val + 14) hi (by omega)) (off_at0 _ _ (step_here (i 0).val hi) hi t.val ht 14 (by omega)) ?_
  refine step_assume c (chk_tile (hin _ (slot_lt (b := (i 0).val) (n := 16 * t.val + 14) hi (by omega)))) ?_
  refine wait_tile c tp Y ((i 0).val % 2) (i 0).val (16 * t.val + 14) (by omega) (by omega) (sem_here i) ?_
  refine load_pos c tp (slot (i 0).val (16 * t.val + 15)) (slot_lt (b := (i 0).val) (n := 16 * t.val + 15) hi (by omega)) (off_at0 _ _ (step_here (i 0).val hi) hi t.val ht 15 (by omega)) ?_
  refine step_assume c (chk_tile (hin _ (slot_lt (b := (i 0).val) (n := 16 * t.val + 15) hi (by omega)))) ?_
  refine wait_tile c tp Y ((i 0).val % 2) (i 0).val (16 * t.val + 15) (by omega) (by omega) (sem_here i) ?_
  exact Idealize.SL.BI.fupd_intro

theorem trip6 (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (w : BitVec 32) (t : Fin k0_t6_loop.trips) (u : Unit) (X : sProp 𝕄) :
    iprop(Tab (F := F) c tp ∗ Bat c tp Y ((i 0).val % 2) (i 0).val 1024 (512 + 16 * t.val)
        ∗ Owe (F := F) c ∗ X)
      ⊢ Wp c (k0_t6_body i posM (Memref.isWhole_whole _) ysM (Memref.isWhole_whole _) win0 hwin0 win1 hwin1 win2 hwin2 win3 hwin3
        sM (Memref.isWhole_whole _) cc0_scratch1 w t u)
        (fun _ => iprop(Tab (F := F) c tp ∗ Bat c tp Y ((i 0).val % 2) (i 0).val 1024 (512 + 16 * t.val + 16)
        ∗ Owe (F := F) c ∗ X)) := by
  have ht : t.val < 32 := t.isLt
  have hi : (i 0).val < 32 := (i 0).isLt
  unfold k0_t6_body
  simp only [k0_part39_eq_skeleton, k0_part40_eq_skeleton, k0_part41_eq_skeleton, k0_part42_eq_skeleton, k0_part43_eq_skeleton, k0_part44_eq_skeleton, k0_part45_eq_skeleton, k0_part46_eq_skeleton,
    k0_part39_skel, k0_part40_skel, k0_part41_skel, k0_part42_skel, k0_part43_skel, k0_part44_skel, k0_part45_skel, k0_part46_skel,
    Prog.bind_assoc, Prog.pure_eq_ret, Prog.bind_ret]
  refine load_pos c tp (slot (i 0).val (512 + 16 * t.val + 0)) (slot_lt (b := (i 0).val) (n := 512 + 16 * t.val + 0) hi (by omega)) (off_at1 _ _ (step_here (i 0).val hi) hi t.val ht 0 (by omega)) ?_
  refine step_assume c (chk_tile (hin _ (slot_lt (b := (i 0).val) (n := 512 + 16 * t.val + 0) hi (by omega)))) ?_
  refine wait_tile c tp Y ((i 0).val % 2) (i 0).val (512 + 16 * t.val + 0) (by omega) (by omega) (sem_here i) ?_
  refine load_pos c tp (slot (i 0).val (512 + 16 * t.val + 1)) (slot_lt (b := (i 0).val) (n := 512 + 16 * t.val + 1) hi (by omega)) (off_at1 _ _ (step_here (i 0).val hi) hi t.val ht 1 (by omega)) ?_
  refine step_assume c (chk_tile (hin _ (slot_lt (b := (i 0).val) (n := 512 + 16 * t.val + 1) hi (by omega)))) ?_
  refine wait_tile c tp Y ((i 0).val % 2) (i 0).val (512 + 16 * t.val + 1) (by omega) (by omega) (sem_here i) ?_
  refine load_pos c tp (slot (i 0).val (512 + 16 * t.val + 2)) (slot_lt (b := (i 0).val) (n := 512 + 16 * t.val + 2) hi (by omega)) (off_at1 _ _ (step_here (i 0).val hi) hi t.val ht 2 (by omega)) ?_
  refine step_assume c (chk_tile (hin _ (slot_lt (b := (i 0).val) (n := 512 + 16 * t.val + 2) hi (by omega)))) ?_
  refine wait_tile c tp Y ((i 0).val % 2) (i 0).val (512 + 16 * t.val + 2) (by omega) (by omega) (sem_here i) ?_
  refine load_pos c tp (slot (i 0).val (512 + 16 * t.val + 3)) (slot_lt (b := (i 0).val) (n := 512 + 16 * t.val + 3) hi (by omega)) (off_at1 _ _ (step_here (i 0).val hi) hi t.val ht 3 (by omega)) ?_
  refine step_assume c (chk_tile (hin _ (slot_lt (b := (i 0).val) (n := 512 + 16 * t.val + 3) hi (by omega)))) ?_
  refine wait_tile c tp Y ((i 0).val % 2) (i 0).val (512 + 16 * t.val + 3) (by omega) (by omega) (sem_here i) ?_
  refine load_pos c tp (slot (i 0).val (512 + 16 * t.val + 4)) (slot_lt (b := (i 0).val) (n := 512 + 16 * t.val + 4) hi (by omega)) (off_at1 _ _ (step_here (i 0).val hi) hi t.val ht 4 (by omega)) ?_
  refine step_assume c (chk_tile (hin _ (slot_lt (b := (i 0).val) (n := 512 + 16 * t.val + 4) hi (by omega)))) ?_
  refine wait_tile c tp Y ((i 0).val % 2) (i 0).val (512 + 16 * t.val + 4) (by omega) (by omega) (sem_here i) ?_
  refine load_pos c tp (slot (i 0).val (512 + 16 * t.val + 5)) (slot_lt (b := (i 0).val) (n := 512 + 16 * t.val + 5) hi (by omega)) (off_at1 _ _ (step_here (i 0).val hi) hi t.val ht 5 (by omega)) ?_
  refine step_assume c (chk_tile (hin _ (slot_lt (b := (i 0).val) (n := 512 + 16 * t.val + 5) hi (by omega)))) ?_
  refine wait_tile c tp Y ((i 0).val % 2) (i 0).val (512 + 16 * t.val + 5) (by omega) (by omega) (sem_here i) ?_
  refine load_pos c tp (slot (i 0).val (512 + 16 * t.val + 6)) (slot_lt (b := (i 0).val) (n := 512 + 16 * t.val + 6) hi (by omega)) (off_at1 _ _ (step_here (i 0).val hi) hi t.val ht 6 (by omega)) ?_
  refine step_assume c (chk_tile (hin _ (slot_lt (b := (i 0).val) (n := 512 + 16 * t.val + 6) hi (by omega)))) ?_
  refine wait_tile c tp Y ((i 0).val % 2) (i 0).val (512 + 16 * t.val + 6) (by omega) (by omega) (sem_here i) ?_
  refine load_pos c tp (slot (i 0).val (512 + 16 * t.val + 7)) (slot_lt (b := (i 0).val) (n := 512 + 16 * t.val + 7) hi (by omega)) (off_at1 _ _ (step_here (i 0).val hi) hi t.val ht 7 (by omega)) ?_
  refine step_assume c (chk_tile (hin _ (slot_lt (b := (i 0).val) (n := 512 + 16 * t.val + 7) hi (by omega)))) ?_
  refine wait_tile c tp Y ((i 0).val % 2) (i 0).val (512 + 16 * t.val + 7) (by omega) (by omega) (sem_here i) ?_
  refine load_pos c tp (slot (i 0).val (512 + 16 * t.val + 8)) (slot_lt (b := (i 0).val) (n := 512 + 16 * t.val + 8) hi (by omega)) (off_at1 _ _ (step_here (i 0).val hi) hi t.val ht 8 (by omega)) ?_
  refine step_assume c (chk_tile (hin _ (slot_lt (b := (i 0).val) (n := 512 + 16 * t.val + 8) hi (by omega)))) ?_
  refine wait_tile c tp Y ((i 0).val % 2) (i 0).val (512 + 16 * t.val + 8) (by omega) (by omega) (sem_here i) ?_
  refine load_pos c tp (slot (i 0).val (512 + 16 * t.val + 9)) (slot_lt (b := (i 0).val) (n := 512 + 16 * t.val + 9) hi (by omega)) (off_at1 _ _ (step_here (i 0).val hi) hi t.val ht 9 (by omega)) ?_
  refine step_assume c (chk_tile (hin _ (slot_lt (b := (i 0).val) (n := 512 + 16 * t.val + 9) hi (by omega)))) ?_
  refine wait_tile c tp Y ((i 0).val % 2) (i 0).val (512 + 16 * t.val + 9) (by omega) (by omega) (sem_here i) ?_
  refine load_pos c tp (slot (i 0).val (512 + 16 * t.val + 10)) (slot_lt (b := (i 0).val) (n := 512 + 16 * t.val + 10) hi (by omega)) (off_at1 _ _ (step_here (i 0).val hi) hi t.val ht 10 (by omega)) ?_
  refine step_assume c (chk_tile (hin _ (slot_lt (b := (i 0).val) (n := 512 + 16 * t.val + 10) hi (by omega)))) ?_
  refine wait_tile c tp Y ((i 0).val % 2) (i 0).val (512 + 16 * t.val + 10) (by omega) (by omega) (sem_here i) ?_
  refine load_pos c tp (slot (i 0).val (512 + 16 * t.val + 11)) (slot_lt (b := (i 0).val) (n := 512 + 16 * t.val + 11) hi (by omega)) (off_at1 _ _ (step_here (i 0).val hi) hi t.val ht 11 (by omega)) ?_
  refine step_assume c (chk_tile (hin _ (slot_lt (b := (i 0).val) (n := 512 + 16 * t.val + 11) hi (by omega)))) ?_
  refine wait_tile c tp Y ((i 0).val % 2) (i 0).val (512 + 16 * t.val + 11) (by omega) (by omega) (sem_here i) ?_
  refine load_pos c tp (slot (i 0).val (512 + 16 * t.val + 12)) (slot_lt (b := (i 0).val) (n := 512 + 16 * t.val + 12) hi (by omega)) (off_at1 _ _ (step_here (i 0).val hi) hi t.val ht 12 (by omega)) ?_
  refine step_assume c (chk_tile (hin _ (slot_lt (b := (i 0).val) (n := 512 + 16 * t.val + 12) hi (by omega)))) ?_
  refine wait_tile c tp Y ((i 0).val % 2) (i 0).val (512 + 16 * t.val + 12) (by omega) (by omega) (sem_here i) ?_
  refine load_pos c tp (slot (i 0).val (512 + 16 * t.val + 13)) (slot_lt (b := (i 0).val) (n := 512 + 16 * t.val + 13) hi (by omega)) (off_at1 _ _ (step_here (i 0).val hi) hi t.val ht 13 (by omega)) ?_
  refine step_assume c (chk_tile (hin _ (slot_lt (b := (i 0).val) (n := 512 + 16 * t.val + 13) hi (by omega)))) ?_
  refine wait_tile c tp Y ((i 0).val % 2) (i 0).val (512 + 16 * t.val + 13) (by omega) (by omega) (sem_here i) ?_
  refine load_pos c tp (slot (i 0).val (512 + 16 * t.val + 14)) (slot_lt (b := (i 0).val) (n := 512 + 16 * t.val + 14) hi (by omega)) (off_at1 _ _ (step_here (i 0).val hi) hi t.val ht 14 (by omega)) ?_
  refine step_assume c (chk_tile (hin _ (slot_lt (b := (i 0).val) (n := 512 + 16 * t.val + 14) hi (by omega)))) ?_
  refine wait_tile c tp Y ((i 0).val % 2) (i 0).val (512 + 16 * t.val + 14) (by omega) (by omega) (sem_here i) ?_
  refine load_pos c tp (slot (i 0).val (512 + 16 * t.val + 15)) (slot_lt (b := (i 0).val) (n := 512 + 16 * t.val + 15) hi (by omega)) (off_at1 _ _ (step_here (i 0).val hi) hi t.val ht 15 (by omega)) ?_
  refine step_assume c (chk_tile (hin _ (slot_lt (b := (i 0).val) (n := 512 + 16 * t.val + 15) hi (by omega)))) ?_
  refine wait_tile c tp Y ((i 0).val % 2) (i 0).val (512 + 16 * t.val + 15) (by omega) (by omega) (sem_here i) ?_
  exact Idealize.SL.BI.fupd_intro

end Cert.Kernel3Ideal.Hand

end
-- ==== Proof.CombLoops.lean ====
/-
  Hand-written. The six loops of the combining body, each from its first trip to what follows it.
-/
module

public import proofs.«01_k».proof.Proof.CombTripsA
public import proofs.«01_k».proof.Proof.CombTripsB
public import proofs.«01_k».proof.Proof.CombTripsC

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (Y : S294912x128.Idx → Elt F .f32)

theorem loop1 {α : Type} {Q : α → sProp 𝕄} (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (h1 : k0_cond1 i = 1#1) (V0 : S2x2x4096x128.Idx → Elt F .f32) {ok} (X : sProp 𝕄) {k : Unit → Prog (TpuEff nD τ sig (Elt F) Λ₀ .tc) α}
    (hk : iprop(Tab (F := F) c tp ∗ Pend c tp Y V0 0 0 (512)
        ∗ Bat c tp Y 0 0 (512) 0 ∗ X) ⊢ Wp c (k ⟨⟩) Q) :
    iprop(Tab (F := F) c tp ∗ Pend c tp Y V0 0 0 (0)
        ∗ Bat c tp Y 0 0 (0) 0 ∗ X)
      ⊢ Wp c (Scf.Loop.for k0_t1_loop ok ⟨⟩ (k0_t1_body i posM (Memref.isWhole_whole _) ysM (Memref.isWhole_whole _) win0 hwin0 win1 hwin1 win2 hwin2 win3 hwin3
        sM (Memref.isWhole_whole _) cc0_scratch1 h1) >>= k) Q := by
  iintro H
  iapply (Scf.wp_for_bind frame (wpE (defs₀ (F := F)) Variants.none (c : Thread nD τ) none) Set.univ _ _ _ ok ⟨⟩
    (k0_t1_body i posM (Memref.isWhole_whole _) ysM (Memref.isWhole_whole _) win0 hwin0 win1 hwin1 win2 hwin2 win3 hwin3
        sM (Memref.isWhole_whole _) cc0_scratch1 h1)
    (fun t _ => iprop(Tab (F := F) c tp ∗ Pend c tp Y V0 0 0 (16 * t)
        ∗ Bat c tp Y 0 0 (16 * t) 0 ∗ X))
    (fun t u => trip1 c tp Y win0 hwin0 win1 hwin1 win2 hwin2 win3 hwin3 hin i h1 V0 t u X)) $$ [H]
  · iexact H
  iintro %u H
  iapply hk
  iexact H

theorem loop2 {α : Type} {Q : α → sProp 𝕄} (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (h1 : k0_cond1 i = 1#1) (V0 : S2x2x4096x128.Idx → Elt F .f32) {ok} (X : sProp 𝕄) {k : Unit → Prog (TpuEff nD τ sig (Elt F) Λ₀ .tc) α}
    (hk : iprop(Tab (F := F) c tp ∗ Pend c tp Y V0 0 0 (1024)
        ∗ Bat c tp Y 0 0 (1024) 0 ∗ X) ⊢ Wp c (k ⟨⟩) Q) :
    iprop(Tab (F := F) c tp ∗ Pend c tp Y V0 0 0 (512)
        ∗ Bat c tp Y 0 0 (512) 0 ∗ X)
      ⊢ Wp c (Scf.Loop.for k0_t2_loop ok ⟨⟩ (k0_t2_body i posM (Memref.isWhole_whole _) ysM (Memref.isWhole_whole _) win0 hwin0 win1 hwin1 win2 hwin2 win3 hwin3
        sM (Memref.isWhole_whole _) cc0_scratch1 h1) >>= k) Q := by
  iintro H
  iapply (Scf.wp_for_bind frame (wpE (defs₀ (F := F)) Variants.none (c : Thread nD τ) none) Set.univ _ _ _ ok ⟨⟩
    (k0_t2_body i posM (Memref.isWhole_whole _) ysM (Memref.isWhole_whole _) win0 hwin0 win1 hwin1 win2 hwin2 win3 hwin3
        sM (Memref.isWhole_whole _) cc0_scratch1 h1)
    (fun t _ => iprop(Tab (F := F) c tp ∗ Pend c tp Y V0 0 0 (512 + 16 * t)
        ∗ Bat c tp Y 0 0 (512 + 16 * t) 0 ∗ X))
    (fun t u => trip2 c tp Y win0 hwin0 win1 hwin1 win2 hwin2 win3 hwin3 hin i h1 V0 t u X)) $$ [H]
  · iexact H
  iintro %u H
  iapply hk
  iexact H

theorem loop3 {α : Type} {Q : α → sProp 𝕄} (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (h2 : k0_cond2 i = 1#1) (hi1 : (i 0).val + 1 < 32) (w : BitVec 32) (V0 : S2x2x4096x128.Idx → Elt F .f32) {ok} (X : sProp 𝕄) {k : Unit → Prog (TpuEff nD τ sig (Elt F) Λ₀ .tc) α}
    (hk : iprop(Tab (F := F) c tp ∗ Pend c tp Y V0 (((i 0).val + 1) % 2) ((i 0).val + 1) (512)
        ∗ Bat c tp Y (((i 0).val + 1) % 2) ((i 0).val + 1) (512) 0 ∗ X) ⊢ Wp c (k ⟨⟩) Q) :
    iprop(Tab (F := F) c tp ∗ Pend c tp Y V0 (((i 0).val + 1) % 2) ((i 0).val + 1) (0)
        ∗ Bat c tp Y (((i 0).val + 1) % 2) ((i 0).val + 1) (0) 0 ∗ X)
      ⊢ Wp c (Scf.Loop.for k0_t3_loop ok ⟨⟩ (k0_t3_body i posM (Memref.isWhole_whole _) ysM (Memref.isWhole_whole _) win0 hwin0 win1 hwin1 win2 hwin2 win3 hwin3
        sM (Memref.isWhole_whole _) cc0_scratch1 h2 w) >>= k) Q := by
  iintro H
  iapply (Scf.wp_for_bind frame (wpE (defs₀ (F := F)) Variants.none (c : Thread nD τ) none) Set.univ _ _ _ ok ⟨⟩
    (k0_t3_body i posM (Memref.isWhole_whole _) ysM (Memref.isWhole_whole _) win0 hwin0 win1 hwin1 win2 hwin2 win3 hwin3
        sM (Memref.isWhole_whole _) cc0_scratch1 h2 w)
    (fun t _ => iprop(Tab (F := F) c tp ∗ Pend c tp Y V0 (((i 0).val + 1) % 2) ((i 0).val + 1) (16 * t)
        ∗ Bat c tp Y (((i 0).val + 1) % 2) ((i 0).val + 1) (16 * t) 0 ∗ X))
    (fun t u => trip3 c tp Y win0 hwin0 win1 hwin1 win2 hwin2 win3 hwin3 hin i h2 hi1 w V0 t u X)) $$ [H]
  · iexact H
  iintro %u H
  iapply hk
  iexact H

theorem loop4 {α : Type} {Q : α → sProp 𝕄} (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (h2 : k0_cond2 i = 1#1) (hi1 : (i 0).val + 1 < 32) (w : BitVec 32) (V0 : S2x2x4096x128.Idx → Elt F .f32) {ok} (X : sProp 𝕄) {k : Unit → Prog (TpuEff nD τ sig (Elt F) Λ₀ .tc) α}
    (hk : iprop(Tab (F := F) c tp ∗ Pend c tp Y V0 (((i 0).val + 1) % 2) ((i 0).val + 1) (1024)
        ∗ Bat c tp Y (((i 0).val + 1) % 2) ((i 0).val + 1) (1024) 0 ∗ X) ⊢ Wp c (k ⟨⟩) Q) :
    iprop(Tab (F := F) c tp ∗ Pend c tp Y V0 (((i 0).val + 1) % 2) ((i 0).val + 1) (512)
        ∗ Bat c tp Y (((i 0).val + 1) % 2) ((i 0).val + 1) (512) 0 ∗ X)
      ⊢ Wp c (Scf.Loop.for k0_t4_loop ok ⟨⟩ (k0_t4_body i posM (Memref.isWhole_whole _) ysM (Memref.isWhole_whole _) win0 hwin0 win1 hwin1 win2 hwin2 win3 hwin3
        sM (Memref.isWhole_whole _) cc0_scratch1 h2 w) >>= k) Q := by
  iintro H
  iapply (Scf.wp_for_bind frame (wpE (defs₀ (F := F)) Variants.none (c : Thread nD τ) none) Set.univ _ _ _ ok ⟨⟩
    (k0_t4_body i posM (Memref.isWhole_whole _) ysM (Memref.isWhole_whole _) win0 hwin0 win1 hwin1 win2 hwin2 win3 hwin3
        sM (Memref.isWhole_whole _) cc0_scratch1 h2 w)
    (fun t _ => iprop(Tab (F := F) c tp ∗ Pend c tp Y V0 (((i 0).val + 1) % 2) ((i 0).val + 1) (512 + 16 * t)
        ∗ Bat c tp Y (((i 0).val + 1) % 2) ((i 0).val + 1) (512 + 16 * t) 0 ∗ X))
    (fun t u => trip4 c tp Y win0 hwin0 win1 hwin1 win2 hwin2 win3 hwin3 hin i h2 hi1 w V0 t u X)) $$ [H]
  · iexact H
  iintro %u H
  iapply hk
  iexact H

theorem loop5 {α : Type} {Q : α → sProp 𝕄} (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (w : BitVec 32) {ok} (X : sProp 𝕄) {k : Unit → Prog (TpuEff nD τ sig (Elt F) Λ₀ .tc) α}
    (hk : iprop(Tab (F := F) c tp ∗ Bat c tp Y ((i 0).val % 2) (i 0).val 1024 (512)
        ∗ Owe (F := F) c ∗ X) ⊢ Wp c (k ⟨⟩) Q) :
    iprop(Tab (F := F) c tp ∗ Bat c tp Y ((i 0).val % 2) (i 0).val 1024 (0)
        ∗ Owe (F := F) c ∗ X)
      ⊢ Wp c (Scf.Loop.for k0_t5_loop ok ⟨⟩ (k0_t5_body i posM (Memref.isWhole_whole _) ysM (Memref.isWhole_whole _) win0 hwin0 win1 hwin1 win2 hwin2 win3 hwin3
        sM (Memref.isWhole_whole _) cc0_scratch1 w) >>= k) Q := by
  iintro H
  iapply (Scf.wp_for_bind frame (wpE (defs₀ (F := F)) Variants.none (c : Thread nD τ) none) Set.univ _ _ _ ok ⟨⟩
    (k0_t5_body i posM (Memref.isWhole_whole _) ysM (Memref.isWhole_whole _) win0 hwin0 win1 hwin1 win2 hwin2 win3 hwin3
        sM (Memref.isWhole_whole _) cc0_scratch1 w)
    (fun t _ => iprop(Tab (F := F) c tp ∗ Bat c tp Y ((i 0).val % 2) (i 0).val 1024 (16 * t)
        ∗ Owe (F := F) c ∗ X))
    (fun t u => trip5 c tp Y win0 hwin0 win1 hwin1 win2 hwin2 win3 hwin3 hin i w t u X)) $$ [H]
  · iexact H
  iintro %u H
  iapply hk
  iexact H

theorem loop6 {α : Type} {Q : α → sProp 𝕄} (win0 : Memref sig .tc .vmem S512x2 .f32) (hwin0 : win0.IsWhole) (win1 : Memref sig .tc .vmem S512x1024 .f32) (hwin1 : win1.IsWhole)
    (win2 : Memref sig .tc .vmem S8x6144 .f32) (hwin2 : win2.IsWhole) (win3 : Memref sig .tc .vmem S512x1024 .f32) (hwin3 : win3.IsWhole)
    (hin : Inb tp) (i : grid0.Coords) (w : BitVec 32) {ok} (X : sProp 𝕄) {k : Unit → Prog (TpuEff nD τ sig (Elt F) Λ₀ .tc) α}
    (hk : iprop(Tab (F := F) c tp ∗ Bat c tp Y ((i 0).val % 2) (i 0).val 1024 (1024)
        ∗ Owe (F := F) c ∗ X) ⊢ Wp c (k ⟨⟩) Q) :
    iprop(Tab (F := F) c tp ∗ Bat c tp Y ((i 0).val % 2) (i 0).val 1024 (512)
        ∗ Owe (F := F) c ∗ X)
      ⊢ Wp c (Scf.Loop.for k0_t6_loop ok ⟨⟩ (k0_t6_body i posM (Memref.isWhole_whole _) ysM (Memref.isWhole_whole _) win0 hwin0 win1 hwin1 win2 hwin2 win3 hwin3
        sM (Memref.isWhole_whole _) cc0_scratch1 w) >>= k) Q := by
  iintro H
  iapply (Scf.wp_for_bind frame (wpE (defs₀ (F := F)) Variants.none (c : Thread nD τ) none) Set.univ _ _ _ ok ⟨⟩
    (k0_t6_body i posM (Memref.isWhole_whole _) ysM (Memref.isWhole_whole _) win0 hwin0 win1 hwin1 win2 hwin2 win3 hwin3
        sM (Memref.isWhole_whole _) cc0_scratch1 w)
    (fun t _ => iprop(Tab (F := F) c tp ∗ Bat c tp Y ((i 0).val % 2) (i 0).val 1024 (512 + 16 * t)
        ∗ Owe (F := F) c ∗ X))
    (fun t u => trip6 c tp Y win0 hwin0 win1 hwin1 win2 hwin2 win3 hwin3 hin i w t u X)) $$ [H]
  · iexact H
  iintro %u H
  iapply hk
  iexact H

end Cert.Kernel3Ideal.Hand

end
-- ==== Proof.CombBody.lean ====
/-
  Hand-written. The combining body run through at one grid point: at the first point the copies of its own step are started,
  at every point but the last those of the next step; its own are waited for, the rows they brought are read and weighed, and
  the sum, scaled and added to the block of the stream, is stored. For any float values.
-/
module

public import proofs.«01_k».proof.Proof.CombLoops
public import Idealize.ShloMosaic.Lib.Pipeline.FrameBody
public import Idealize.ShloMosaic.Lib.Pipeline.Value
public import Idealize.ShloMosaic.Lib.Pointwise

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the body computes -/

/-- Numbers `128 k … 128 k + 127` of the rows that slots `512 j …` of step `b` name. -/
def piece (tp : S32768.Idx → BitVec 32) (Y : S294912x128.Idx → Elt F .f32) (b j k : ℕ) : Vec F S1x1x512x128 .f32 := fun y =>
  Y (ix2 ⟨(8 * row tp (slot b (512 * j + (y 2).val)) + k) % 294912, Nat.mod_lt _ (by decide)⟩ ⟨(y 3).val, (y 3).isLt⟩)

/-- The gate's row of the modulation, for step `i`. -/
def gateRow (i : grid0.Coords) (M : S8x6144.Idx → Elt F .f32) : Vec F S1x1024 .f32 := fun y =>
  M (ix2 ⟨(i 0).val / 16 % 8, Nat.mod_lt _ (by decide)⟩ ⟨(5120 + (y 1).val) % 6144, Nat.mod_lt _ (by decide)⟩)

/-- The rows weighed and added. -/
def weighed (W : S512x2.Idx → Elt F .f32) (P : ℕ → ℕ → Vec F S1x1x512x128 .f32) : FVec F S512x1024 .f32 :=
  k0_pay11 (k0_pay2 W) (k0_pay3 W) (k0_pay4 (P 0 0)) (k0_pay5 (P 0 1)) (k0_pay6 (P 0 2)) (k0_pay7 (P 0 3)) (k0_pay8 (P 0 4))
    (k0_pay9 (P 0 5)) (k0_pay10 (P 0 6)) (P 0 7) (P 1 0) (P 1 1) (P 1 2) (P 1 3) (P 1 4) (P 1 5) (P 1 6) (P 1 7)

/-- What the body leaves in the output block. -/
def combB (i : grid0.Coords) (tp : S32768.Idx → BitVec 32) (Y : S294912x128.Idx → Elt F .f32) (W : S512x2.Idx → Elt F .f32)
    (X : S512x1024.Idx → Elt F .f32) (M : S8x6144.Idx → Elt F .f32) : S512x1024.Idx → Elt F .f32 :=
  k0_pay1 (gateRow i M) (weighed W (piece tp Y (i 0).val)) X

/-! ## Conditions and offsets -/

theorem cond1_iff (i : grid0.Coords) : k0_cond1 i = 1#1 ↔ (i 0).val = 0 := by
  have key : ∀ n : Fin 32, (Scalar.cmpi .ne (Scalar.extui (Scalar.cmpi .eq (BitVec.ofNat 32 n.val) 0#32) : BitVec 32) 0#32 = 1#1 ↔ n.val = 0) := by decide
  exact key ⟨(i 0).val, i_lt i⟩

theorem cond2_iff (i : grid0.Coords) : k0_cond2 i = 1#1 ↔ (i 0).val + 1 < 32 := by
  have key : ∀ n : Fin 32, (Scalar.cmpi .ne (Scalar.extui (Scalar.cmpi .slt (Scalar.addi (BitVec.ofNat 32 n.val) 1#32) 32#32) : BitVec 32) 0#32 = 1#1 ↔ n.val + 1 < 32) := by decide
  exact key ⟨(i 0).val, i_lt i⟩

/-- The half of the batch a step is in, as the body computes it. -/
def halfWord (a : BitVec 32) : BitVec 32 :=
  Scalar.select (Scalar.andi (Scalar.cmpi .ne (Scalar.subi (Scalar.extui (Scalar.cmpi .sgt a 0#32)) (Scalar.extui (Scalar.cmpi .slt a 0#32)) : BitVec 32)
      (Scalar.subi (Scalar.extui (Scalar.cmpi .sgt 16#32 0#32)) (Scalar.extui (Scalar.cmpi .slt 16#32 0#32))))
      (Scalar.cmpi .ne (Scalar.remsi a 16#32) 0#32))
    (Scalar.subi (Scalar.divsi a 16#32) 1#32) (Scalar.divsi a 16#32)

theorem halfWord_nat : ∀ n : Fin 32, (halfWord (BitVec.ofNat 32 n.val)).toNat = n.val / 16 := by decide

theorem gate_off (i : grid0.Coords) : k0_off417 i = ![(i 0).val / 16, 5120] :=
  (show k0_off417 i = ![(halfWord (BitVec.ofNat 32 (i 0).val)).toNat, 5120] from rfl).trans
    (congrArg (fun n => ![n, 5120]) (halfWord_nat ⟨(i 0).val, i_lt i⟩))

variable (c : Dev nD) (tp : S32768.Idx → BitVec 32) (Y : S294912x128.Idx → Elt F .f32)

/-! ## Loads and stores -/

/-- A load of elements of a block held. -/
theorem load_own {α : Type} {Q : α → sProp 𝕄} {s : Shape} {e : EltTy} {m : Memref sig .tc .vmem s e} {r : LoadRect s} {hl} (q : PosShare TreeShare)
    (X : s.Idx → Elt F e) {k : (r.shape.Idx → Elt F e) → Prog (TpuEff nD τ sig (Elt F) Λ₀ .tc) α} {R : sProp 𝕄}
    (hk : iprop(owns (c : Thread nD τ) m q X ∗ R) ⊢ Wp c (k (fun y => X (r.idx y))) Q) :
    iprop(owns (c : Thread nD τ) m q X ∗ R) ⊢ Wp c (Prog.lift (.load m r hl) >>= k) Q := by
  unfold owns at hk ⊢
  iintro ⟨⟨%f, %hf, HM⟩, HR⟩
  iapply (wp_load Variants.none (c : Thread nD τ) none Set.univ (m := m) (r := r) (View.setOn_subset_set _ _)) $$ HM
  iintro HM
  subst hf
  iapply hk
  isplitl [HM]
  · iexists f
    isplitr
    · ipureintro; rfl
    · iexact HM
  · iexact HR

/-- The store of a whole block. -/
theorem store_all {α : Type} {Q : α → sProp 𝕄} {m : Memref sig .tc .vmem S512x1024 .f32} (Z w : S512x1024.Idx → Elt F .f32) {inb} {hx hm}
    {k : PUnit → Prog (TpuEff nD τ sig (Elt F) Λ₀ .tc) α} {R : sProp 𝕄}
    (hk : iprop(owns (c : Thread nD τ) m fullShare w ∗ R) ⊢ Wp c (k ⟨⟩) Q) :
    iprop(owns (c : Thread nD τ) m fullShare Z ∗ R) ⊢ Wp c (Prog.lift (.store m (Rect.unit (s := S512x1024) ![0, 0] S512x1024.size inb)
      w Finset.univ hx hm) >>= k) Q := by
  unfold owns at hk ⊢
  iintro ⟨⟨%f, %hY, HM⟩, HR⟩
  iapply (wp_store Variants.none (c : Thread nD τ) none Set.univ (m := m)
    (r := Rect.unit (s := S512x1024) ![0, 0] S512x1024.size inb) (Mk := Finset.univ) (View.set_slice_subset _ _)) $$ HM
  iintro HM
  iapply hk
  isplitl [HM]
  · iexists _
    isplitr
    swap
    · iexact HM
    · ipureintro
      funext x
      have ey : (Rect.unit (s := S512x1024) ![0, 0] S512x1024.size inb).emb x = x := by
        funext a
        apply Fin.ext
        rw [Rect.emb_apply]
        fin_cases a
        · show 0 + 1 * (x 0).val = (x 0).val
          omega
        · show 0 + 1 * (x 1).val = (x 1).val
          omega
      have h := View.read_slice_write_emb (v := m.view) (Val := Elt F) (Rect.unit (s := S512x1024) ![0, 0] S512x1024.size inb)
          f w (M := Finset.univ) (Finset.mem_univ x)
      rw [ey] at h
      exact h
  · iexact HR

variable {tp Y} in
/-- A load, every eighth row on, of the rows a step's copies brought. -/
theorem load_s {α : Type} {Q : α → sProp 𝕄} {s b : ℕ} (j k' : ℕ) (hk8 : k' < 8) {off : Fin 4 → ℕ} {inb} {hl} (ho : off = ![s, j, k', 0])
    {k : (S1x1x512x128.Idx → Elt F .f32) → Prog (TpuEff nD τ sig (Elt F) Λ₀ .tc) α} {R : sProp 𝕄}
    (hk : iprop((sM.view.loc (c : Thread nD τ) ↦[half s]{fullShare} gath tp Y b) ∗ R) ⊢ Wp c (k (piece tp Y b j k')) Q) :
    iprop((sM.view.loc (c : Thread nD τ) ↦[half s]{fullShare} gath tp Y b) ∗ R)
      ⊢ Wp c (Prog.lift (.load sM (⟨off, S1x1x512x128.size, ![1, 1, 8, 1], inb⟩ : LoadRect S2x2x4096x128) hl) >>= k) Q := by
  subst ho
  have hS : sM.view.setOn (⟨![s, j, k', 0], S1x1x512x128.size, ![1, 1, 8, 1], inb⟩ : LoadRect S2x2x4096x128).set ⊆ half s := by
    intro x hx
    obtain ⟨z, hz, rfl⟩ := Finset.mem_map.mp hx
    rw [mem_half]
    obtain ⟨n, hn, e⟩ := (LoadRect.mem_set _).mp hz 0
    change n < 1 at hn
    have e' : (z 0).val = s + 1 * n := e
    show (z 0).val = s
    omega
  have e : (fun y => gath tp Y b ((⟨![s, j, k', 0], S1x1x512x128.size, ![1, 1, 8, 1], inb⟩ : LoadRect S2x2x4096x128).idx y)) = piece tp Y b j k' := by
    funext y
    have h1 : (y 1).val < 1 := (y 1).isLt
    unfold gath piece
    refine congrArg Y (funext fun a => Fin.ext ?_)
    fin_cases a
    · show (8 * row tp (slot b (512 * (j + 1 * (y 1).val) + (k' + 8 * (y 2).val) / 8)) + (k' + 8 * (y 2).val) % 8) % 294912
        = (8 * row tp (slot b (512 * j + (y 2).val)) + k') % 294912
      have e1 : j + 1 * (y 1).val = j := by omega
      have e2 : (k' + 8 * (y 2).val) / 8 = (y 2).val := by omega
      have e3 : (k' + 8 * (y 2).val) % 8 = k' := by omega
      rw [e1, e2, e3]
    · show 0 + 1 * (y 3).val = (y 3).val
      omega
  iintro ⟨HM, HR⟩
  iapply (wp_load Variants.none (c : Thread nD τ) none Set.univ (m := sM) (r := (⟨![s, j, k', 0], S1x1x512x128.size, ![1, 1, 8, 1], inb⟩ : LoadRect S2x2x4096x128)) hS) $$ HM
  iintro HM
  iapply ((hk.trans (Entails.of_eq (congrArg (fun v => Wp c (k v) Q) e.symm))))
  isplitl [HM]
  · iexact HM
  · iexact HR

end Cert.Kernel3Ideal.Hand

end
-- ==== Proof.CombPoint.lean ====
/-
  Hand-written. One grid point of the combining call as a whole, from what the point before left to what the next one finds.
-/
module

public import proofs.«01_k».proof.Proof.CombBody

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (tp : S32768.Idx → BitVec 32) (Y : S294912x128.Idx → Elt F .f32)

/-- Slot `s` while the copies of step `b` into it, all started, are under way. -/
def Busy (s b : ℕ) : sProp 𝕄 := iprop(Bat c tp Y s b 1024 0 ∗ Rest c tp Y s b)

/-- A slot with nothing under way, whatever it holds. -/
def Free (s : ℕ) : sProp 𝕄 := iprop(∃ f, Idle c Y s f)

/-- What the point's own slot is found in: at the first point nothing has been started. -/
def HereIn (n : ℕ) : sProp 𝕄 := if n = 0 then Free c Y (n % 2) else Busy c tp Y (n % 2) n

/-- What the next point's slot is left in: after the last point nothing is started. -/
def NextOut (n : ℕ) : sProp 𝕄 := if n + 1 < 32 then Busy c tp Y ((n + 1) % 2) (n + 1) else Free c Y ((n + 1) % 2)

/-- A step outside the program. -/
theorem wp_fupd_pre {α : Type} {p : Prog (TpuEff nD τ sig (Elt F) Λ₀ .tc) α} {Q : α → sProp 𝕄} {S S' : sProp 𝕄}
    (h : S ⊢ iprop(|={Set.univ}=> S')) (hk : S' ⊢ Wp c p Q) : S ⊢ Wp c p Q := by
  iintro H
  imod h $$ H with H
  iapply hk $$ H

variable (win0 : Memref sig .tc .vmem S512x2 .f32) (hwin0 : win0.IsWhole) (win1 : Memref sig .tc .vmem S512x1024 .f32) (hwin1 : win1.IsWhole)
  (win2 : Memref sig .tc .vmem S8x6144 .f32) (hwin2 : win2.IsWhole) (win3 : Memref sig .tc .vmem S512x1024 .f32) (hwin3 : win3.IsWhole)

/-- Starting a step's copies: from a slot with nothing under way to the batch. -/
theorem start {b : ℕ} (s : ℕ) (R : sProp 𝕄) :
    iprop(Free c Y s ∗ R) ⊢ iprop(|={Set.univ}=> ∃ f, Pend c tp Y f s b 0 ∗ Bat c tp Y s b 0 0 ∗ Rest c tp Y s b ∗ R) := by
  unfold Free
  iintro ⟨⟨%f, HI⟩, HR⟩
  imod (open_batch c tp Y s b f) $$ HI with ⟨HP, HB, HS⟩
  imodintro
  iexists f
  isplitl [HP]; · iexact HP
  isplitl [HB]; · iexact HB
  isplitl [HS]; · iexact HS
  iexact HR

/-- No more copies to start. -/
theorem pend_end (V0 : S2x2x4096x128.Idx → Elt F .f32) (s b : ℕ) : (Pend c tp Y V0 s b 1024 : sProp 𝕄) = iprop(emp) := by
  unfold Pend
  rw [Finset.Ico_self]
  exact bigSep_empty

/-- The copies of the first step, started by the first point. -/
theorem pair12 (hin : Inb tp) (i : grid0.Coords) (h : k0_cond1 i = 1#1) {α : Type} {Q : α → sProp 𝕄} {R : sProp 𝕄} {ok ok'}
    {k : Unit → Prog (TpuEff nD τ sig (Elt F) Λ₀ .tc) α}
    (hk : iprop(Tab (F := F) c tp ∗ Busy c tp Y ((i 0).val % 2) (i 0).val ∗ R) ⊢ Wp c (k ⟨⟩) Q) :
    iprop(Tab (F := F) c tp ∗ HereIn c tp Y (i 0).val ∗ R)
      ⊢ Wp c (Scf.Loop.for k0_t1_loop ok ⟨⟩ (k0_t1_body i posM (Memref.isWhole_whole _) ysM (Memref.isWhole_whole _) win0 hwin0 win1 hwin1 win2 hwin2 win3 hwin3 sM (Memref.isWhole_whole _) cc0_scratch1 h) >>= fun _ =>
        Scf.Loop.for k0_t2_loop ok' ⟨⟩ (k0_t2_body i posM (Memref.isWhole_whole _) ysM (Memref.isWhole_whole _) win0 hwin0 win1 hwin1 win2 hwin2 win3 hwin3 sM (Memref.isWhole_whole _) cc0_scratch1 h) >>= k) Q := by
  have h0 : (i 0).val = 0 := (cond1_iff i).mp h
  unfold HereIn
  rw [if_pos h0]
  refine BIBase.Entails.trans (show _ ⊢ iprop(Free c Y 0 ∗ Tab (F := F) c tp ∗ R) from ?_)
    (wp_fupd_pre c (start c tp Y (b := 0) 0 _) ?_)
  · rw [h0]
    iintro ⟨HT, HF, HR⟩
    isplitl [HF]; · iexact HF
    isplitl [HT]; · iexact HT
    iexact HR
  iintro ⟨%f, HP, HB, HS, HT, HR⟩
  iapply (loop1 c tp Y win0 hwin0 win1 hwin1 win2 hwin2 win3 hwin3 hin i h f (X := iprop(Rest c tp Y 0 0 ∗ R)) ?_) $$ [HP HB HS HT HR]
  swap
  · isplitl [HT]; · iexact HT
    isplitl [HP]; · iexact HP
    isplitl [HB]; · iexact HB
    isplitl [HS]; · iexact HS
    iexact HR
  refine loop2 c tp Y win0 hwin0 win1 hwin1 win2 hwin2 win3 hwin3 hin i h f (X := iprop(Rest c tp Y 0 0 ∗ R)) ?_
  rw [pend_end]
  refine BIBase.Entails.trans ?_ hk
  unfold Busy
  rw [show (i 0).val % 2 = 0 from by rw [h0]]
  rw [show Bat c tp Y 0 (i 0).val 1024 0 = Bat c tp Y 0 0 1024 0 from by rw [h0], show Rest c tp Y 0 (i 0).val = Rest c tp Y 0 0 from by rw [h0]]
  iintro ⟨HT, -, HB, HS, HR⟩
  isplitl [HT]; · iexact HT
  isplitl [HB HS]; · isplitl [HB]; · iexact HB
                     iexact HS
  iexact HR

/-- The copies of the next step. -/
theorem pair34 (hin : Inb tp) (i : grid0.Coords) (h : k0_cond2 i = 1#1) {w : BitVec 32} {α : Type} {Q : α → sProp 𝕄} {R : sProp 𝕄} {ok ok'}
    {k : Unit → Prog (TpuEff nD τ sig (Elt F) Λ₀ .tc) α}
    (hk : iprop(Tab (F := F) c tp ∗ Busy c tp Y ((i 0).val % 2) (i 0).val ∗ NextOut c tp Y (i 0).val ∗ R) ⊢ Wp c (k ⟨⟩) Q) :
    iprop(Tab (F := F) c tp ∗ Busy c tp Y ((i 0).val % 2) (i 0).val ∗ Free c Y (((i 0).val + 1) % 2) ∗ R)
      ⊢ Wp c (Scf.Loop.for k0_t3_loop ok ⟨⟩ (k0_t3_body i posM (Memref.isWhole_whole _) ysM (Memref.isWhole_whole _) win0 hwin0 win1 hwin1 win2 hwin2 win3 hwin3 sM (Memref.isWhole_whole _) cc0_scratch1 h w) >>= fun _ =>
        Scf.Loop.for k0_t4_loop ok' ⟨⟩ (k0_t4_body i posM (Memref.isWhole_whole _) ysM (Memref.isWhole_whole _) win0 hwin0 win1 hwin1 win2 hwin2 win3 hwin3 sM (Memref.isWhole_whole _) cc0_scratch1 h w) >>= k) Q := by
  have h1 : (i 0).val + 1 < 32 := (cond2_iff i).mp h
  unfold NextOut at hk
  rw [if_pos h1] at hk
  refine BIBase.Entails.trans (show _ ⊢ iprop(Free c Y (((i 0).val + 1) % 2) ∗ Tab (F := F) c tp ∗ Busy c tp Y ((i 0).val % 2) (i 0).val ∗ R) from ?_)
    (wp_fupd_pre c (start c tp Y (b := (i 0).val + 1) (((i 0).val + 1) % 2) _) ?_)
  · iintro ⟨HT, HF, HN, HR⟩
    isplitl [HN]; · iexact HN
    isplitl [HT]; · iexact HT
    isplitl [HF]; · iexact HF
    iexact HR
  iintro ⟨%f, HP, HB, HS, HT, HN, HR⟩
  iapply (loop3 c tp Y win0 hwin0 win1 hwin1 win2 hwin2 win3 hwin3 hin i h h1 _ f
    (X := iprop(Rest c tp Y (((i 0).val + 1) % 2) ((i 0).val + 1) ∗ Busy c tp Y ((i 0).val % 2) (i 0).val ∗ R)) ?_) $$ [HP HB HS HT HN HR]
  swap
  · isplitl [HT]; · iexact HT
    isplitl [HP]; · iexact HP
    isplitl [HB]; · iexact HB
    isplitl [HS]; · iexact HS
    isplitl [HN]; · iexact HN
    iexact HR
  refine loop4 c tp Y win0 hwin0 win1 hwin1 win2 hwin2 win3 hwin3 hin i h h1 _ f
    (X := iprop(Rest c tp Y (((i 0).val + 1) % 2) ((i 0).val + 1) ∗ Busy c tp Y ((i 0).val % 2) (i 0).val ∗ R)) ?_
  rw [pend_end]
  refine BIBase.Entails.trans ?_ hk
  iintro ⟨HT, -, HB, HS, HN, HR⟩
  isplitl [HT]; · iexact HT
  isplitl [HN]; · iexact HN
  isplitl [HB HS]
  · unfold Busy
    isplitl [HB]; · iexact HB
    iexact HS
  iexact HR

/-- The point's own copies, waited for. -/
theorem pair56 (hin : Inb tp) (i : grid0.Coords) {w : BitVec 32} {α : Type} {Q : α → sProp 𝕄} {R : sProp 𝕄} {ok ok'}
    {k : Unit → Prog (TpuEff nD τ sig (Elt F) Λ₀ .tc) α}
    (hk : iprop(Tab (F := F) c tp ∗ Idle c Y ((i 0).val % 2) (gath tp Y (i 0).val) ∗ NextOut c tp Y (i 0).val ∗ Owe (F := F) c ∗ R) ⊢ Wp c (k ⟨⟩) Q) :
    iprop(Tab (F := F) c tp ∗ Busy c tp Y ((i 0).val % 2) (i 0).val ∗ NextOut c tp Y (i 0).val ∗ Owe (F := F) c ∗ R)
      ⊢ Wp c (Scf.Loop.for k0_t5_loop ok ⟨⟩ (k0_t5_body i posM (Memref.isWhole_whole _) ysM (Memref.isWhole_whole _) win0 hwin0 win1 hwin1 win2 hwin2 win3 hwin3 sM (Memref.isWhole_whole _) cc0_scratch1 w) >>= fun _ =>
        Scf.Loop.for k0_t6_loop ok' ⟨⟩ (k0_t6_body i posM (Memref.isWhole_whole _) ysM (Memref.isWhole_whole _) win0 hwin0 win1 hwin1 win2 hwin2 win3 hwin3 sM (Memref.isWhole_whole _) cc0_scratch1 w) >>= k) Q := by
  unfold Busy
  iintro ⟨HT, ⟨HB, HS⟩, HN, HO, HR⟩
  iapply (loop5 c tp Y win0 hwin0 win1 hwin1 win2 hwin2 win3 hwin3 hin i _
    (X := iprop(Rest c tp Y ((i 0).val % 2) (i 0).val ∗ NextOut c tp Y (i 0).val ∗ R)) ?_) $$ [HT HB HS HN HO HR]
  swap
  · isplitl [HT]; · iexact HT
    isplitl [HB]; · iexact HB
    isplitl [HO]; · iexact HO
    isplitl [HS]; · iexact HS
    isplitl [HN]; · iexact HN
    iexact HR
  refine loop6 c tp Y win0 hwin0 win1 hwin1 win2 hwin2 win3 hwin3 hin i _
    (X := iprop(Rest c tp Y ((i 0).val % 2) (i 0).val ∗ NextOut c tp Y (i 0).val ∗ R)) ?_
  refine wp_fupd_pre c (S' := iprop(Tab (F := F) c tp ∗ Idle c Y ((i 0).val % 2) (gath tp Y (i 0).val) ∗ NextOut c tp Y (i 0).val ∗ Owe (F := F) c ∗ R)) ?_ hk
  iintro ⟨HT, HB, HO, HS, HN, HR⟩
  imod (close_batch c tp Y ((i 0).val % 2) (i 0).val) $$ [HB HS] with HI
  · isplitl [HB]; · iexact HB
    iexact HS
  imodintro
  isplitl [HT]; · iexact HT
  isplitl [HI]; · iexact HI
  isplitl [HN]; · iexact HN
  isplitl [HO]; · iexact HO
  iexact HR

/-- The copies: those started here, and the point's own waited for. -/
theorem part47 (hin : Inb tp) (i : grid0.Coords) {α : Type} {Q : α → sProp 𝕄} {R : sProp 𝕄}
    {k : (Σ' (arg0 : BitVec 32) (v16 : BitVec 32) (c16_i32 : BitVec 32) (v19 : BitVec 32), BitVec 1) → Prog (TpuEff nD τ sig (Elt F) Λ₀ .tc) α}
    (hk : ∀ r, iprop(Tab (F := F) c tp ∗ Idle c Y ((i 0).val % 2) (gath tp Y (i 0).val) ∗ NextOut c tp Y (i 0).val ∗ Owe (F := F) c ∗ R) ⊢ Wp c (k r) Q) :
    iprop(Tab (F := F) c tp ∗ HereIn c tp Y (i 0).val ∗ Free c Y (((i 0).val + 1) % 2) ∗ Owe (F := F) c ∗ R)
      ⊢ Wp c (k0_part47 i posM (Memref.isWhole_whole _) ysM (Memref.isWhole_whole _) win0 hwin0 win1 hwin1 win2 hwin2 win3 hwin3 sM (Memref.isWhole_whole _) cc0_scratch1 >>= k) Q := by
  rw [k0_part47_eq_skeleton]
  unfold k0_part47_skel
  have e1 : ¬ k0_cond1 i = 1#1 → HereIn c tp Y (i 0).val = Busy c tp Y ((i 0).val % 2) (i 0).val := fun h =>
    if_neg fun e => h ((cond1_iff i).mpr e)
  have e2 : ¬ k0_cond2 i = 1#1 → NextOut c tp Y (i 0).val = Free c Y (((i 0).val + 1) % 2) := fun h =>
    if_neg fun e => h ((cond2_iff i).mpr e)
  by_cases h1 : k0_cond1 i = 1#1
  · by_cases h2 : k0_cond2 i = 1#1
    · simp only [dif_pos h1, dif_pos h2, Prog.bind_assoc, Prog.pure_eq_ret, Prog.bind_ret]
      refine pair12 c tp Y win0 hwin0 win1 hwin1 win2 hwin2 win3 hwin3 hin i h1 ?_
      refine pair34 c tp Y win0 hwin0 win1 hwin1 win2 hwin2 win3 hwin3 hin i h2 ?_
      refine pair56 c tp Y win0 hwin0 win1 hwin1 win2 hwin2 win3 hwin3 hin i ?_
      exact hk _
    · simp only [dif_pos h1, dif_neg h2, Prog.bind_assoc, Prog.pure_eq_ret, Prog.bind_ret]
      refine pair12 c tp Y win0 hwin0 win1 hwin1 win2 hwin2 win3 hwin3 hin i h1 ?_
      rw [← e2 h2]
      refine pair56 c tp Y win0 hwin0 win1 hwin1 win2 hwin2 win3 hwin3 hin i ?_
      exact hk _
  · rw [e1 h1]
    by_cases h2 : k0_cond2 i = 1#1
    · simp only [dif_neg h1, dif_pos h2, Prog.bind_assoc, Prog.pure_eq_ret, Prog.bind_ret]
      refine pair34 c tp Y win0 hwin0 win1 hwin1 win2 hwin2 win3 hwin3 hin i h2 ?_
      refine pair56 c tp Y win0 hwin0 win1 hwin1 win2 hwin2 win3 hwin3 hin i ?_
      exact hk _
    · simp only [dif_neg h1, dif_neg h2, Prog.bind_assoc, Prog.pure_eq_ret, Prog.bind_ret]
      rw [← e2 h2]
      refine pair56 c tp Y win0 hwin0 win1 hwin1 win2 hwin2 win3 hwin3 hin i ?_
      exact hk _

variable {tp Y}

/-- The rows a step's copies brought. -/
abbrev Rows (i : grid0.Coords) (tp : S32768.Idx → BitVec 32) (Y : S294912x128.Idx → Elt F .f32) : sProp 𝕄 :=
  iprop(sM.view.loc (c : Thread nD τ) ↦[half ((i 0).val % 2)]{fullShare} gath tp Y (i 0).val)

theorem part48 (i : grid0.Coords) {α : Type} {Q : α → sProp 𝕄} {R : sProp 𝕄} (W : S512x2.Idx → Elt F .f32) (M : S8x6144.Idx → Elt F .f32)
    {b0 b1 b2 b3 : BitVec 32} {b4 : BitVec 1}
    {k : (Σ' (v37 : Vec F S1x1024 .f32) (v39 : FVec F S512x2 .f32) (v40 : FVec F S512x1 .f32) (v43 : FVec F S512x128 .f32) (v46 : FVec F S512x128 .f32) (v49 : FVec F S512x128 .f32) (v52 : FVec F S512x128 .f32) (v55 : FVec F S512x128 .f32) (v58 : FVec F S512x128 .f32), FVec F S512x128 .f32) → Prog (TpuEff nD τ sig (Elt F) Λ₀ .tc) α}
    (hk : iprop(Rows c i tp Y ∗ owns (c : Thread nD τ) win2 fullShare M ∗ owns (c : Thread nD τ) win0 fullShare W ∗ R)
      ⊢ Wp c (k ⟨gateRow i M, k0_pay2 W, k0_pay3 W, k0_pay4 (piece tp Y (i 0).val 0 0), k0_pay5 (piece tp Y (i 0).val 0 1), k0_pay6 (piece tp Y (i 0).val 0 2),
        k0_pay7 (piece tp Y (i 0).val 0 3), k0_pay8 (piece tp Y (i 0).val 0 4), k0_pay9 (piece tp Y (i 0).val 0 5), k0_pay10 (piece tp Y (i 0).val 0 6)⟩) Q) :
    iprop(Rows c i tp Y ∗ owns (c : Thread nD τ) win2 fullShare M ∗ owns (c : Thread nD τ) win0 fullShare W ∗ R)
      ⊢ Wp c (k0_part48 i posM (Memref.isWhole_whole _) ysM (Memref.isWhole_whole _) win0 hwin0 win1 hwin1 win2 hwin2 win3 hwin3 sM (Memref.isWhole_whole _) cc0_scratch1 b0 b1 b2 b3 b4 >>= k) Q := by
  rw [k0_part48_eq_skeleton]
  unfold k0_part48_skel
  simp only [Prog.bind_assoc, Prog.pure_eq_ret, Prog.bind_ret]
  refine BIBase.Entails.trans (show _ ⊢ iprop(owns (c : Thread nD τ) win2 fullShare M ∗ (Rows c i tp Y ∗ owns (c : Thread nD τ) win0 fullShare W ∗ R)) from ?_) ?_
  · iintro ⟨HS, H2, H0, HR⟩
    isplitl [H2]; · iexact H2
    isplitl [HS]; · iexact HS
    isplitl [H0]; · iexact H0
    iexact HR
  refine load_own c fullShare M ?_
  have eg : (fun y => M ((Rect.unit (s := S8x6144) (k0_off417 i) S1x1024.size (k0_off417_inb i)).toLoadRect.idx y)) = gateRow i M := by
    funext y
    unfold gateRow
    have hi := i_lt i
    have h0 : (y 0).val < 1 := (y 0).isLt
    have h1 : (y 1).val < 1024 := (y 1).isLt
    refine congrArg M (funext fun a => Fin.ext ?_)
    have ho := congrFun (gate_off i) a
    fin_cases a
    · show k0_off417 i 0 + 1 * (y 0).val = (i 0).val / 16 % 8
      have ho' : k0_off417 i 0 = (i 0).val / 16 := ho
      omega
    · show k0_off417 i 1 + 1 * (y 1).val = (5120 + (y 1).val) % 6144
      have ho' : k0_off417 i 1 = 5120 := ho
      omega
  rw [eg]
  refine BIBase.Entails.trans (show _ ⊢ iprop(owns (c : Thread nD τ) win0 fullShare W ∗ (Rows c i tp Y ∗ owns (c : Thread nD τ) win2 fullShare M ∗ R)) from ?_) ?_
  · iintro ⟨H2, HS, H0, HR⟩
    isplitl [H0]; · iexact H0
    isplitl [HS]; · iexact HS
    isplitl [H2]; · iexact H2
    iexact HR
  refine load_own c fullShare W ?_
  have ew : (fun y => W ((Rect.unit (s := S512x2) ![0, 0] S512x2.size inb_S512x2_S512x2_0_0).toLoadRect.idx y)) = W := by
    funext y
    refine congrArg W (funext fun a => Fin.ext ?_)
    fin_cases a
    · show 0 + 1 * (y 0).val = (y 0).val
      omega
    · show 0 + 1 * (y 1).val = (y 1).val
      omega
  rw [ew]
  refine BIBase.Entails.trans (show _ ⊢ iprop(Rows c i tp Y ∗ (owns (c : Thread nD τ) win2 fullShare M ∗ owns (c : Thread nD τ) win0 fullShare W ∗ R)) from ?_) ?_
  · iintro ⟨H0, HS, H2, HR⟩
    isplitl [HS]; · iexact HS
    isplitl [H2]; · iexact H2
    isplitl [H0]; · iexact H0
    iexact HR
  refine load_s c 0 0 (by decide) (buf_here i 0 0) ?_
  refine load_s c 0 1 (by decide) (buf_here i 0 1) ?_
  refine load_s c 0 2 (by decide) (buf_here i 0 2) ?_
  refine load_s c 0 3 (by decide) (buf_here i 0 3) ?_
  refine load_s c 0 4 (by decide) (buf_here i 0 4) ?_
  refine load_s c 0 5 (by decide) (buf_here i 0 5) ?_
  refine load_s c 0 6 (by decide) (buf_here i 0 6) ?_
  exact hk

theorem part49 (i : grid0.Coords) {α : Type} {Q : α → sProp 𝕄} {R : sProp 𝕄} (W : S512x2.Idx → Elt F .f32) {b0 : BitVec 32}
    {k : FVec F S512x1024 .f32 → Prog (TpuEff nD τ sig (Elt F) Λ₀ .tc) α}
    (hk : iprop(Rows c i tp Y ∗ R) ⊢ Wp c (k (weighed W (piece tp Y (i 0).val))) Q) :
    iprop(Rows c i tp Y ∗ R)
      ⊢ Wp c (k0_part49 i posM (Memref.isWhole_whole _) ysM (Memref.isWhole_whole _) win0 hwin0 win1 hwin1 win2 hwin2 win3 hwin3 sM (Memref.isWhole_whole _) cc0_scratch1 b0
        (k0_pay2 W) (k0_pay3 W) (k0_pay4 (piece tp Y (i 0).val 0 0)) (k0_pay5 (piece tp Y (i 0).val 0 1)) (k0_pay6 (piece tp Y (i 0).val 0 2))
        (k0_pay7 (piece tp Y (i 0).val 0 3)) (k0_pay8 (piece tp Y (i 0).val 0 4)) (k0_pay9 (piece tp Y (i 0).val 0 5)) (k0_pay10 (piece tp Y (i 0).val 0 6)) >>= k) Q := by
  rw [k0_part49_eq_skeleton]
  unfold k0_part49_skel
  simp only [Prog.bind_assoc, Prog.pure_eq_ret, Prog.bind_ret]
  refine load_s c 0 7 (by decide) (buf_here i 0 7) ?_
  refine load_s c 1 0 (by decide) (buf_here i 1 0) ?_
  refine load_s c 1 1 (by decide) (buf_here i 1 1) ?_
  refine load_s c 1 2 (by decide) (buf_here i 1 2) ?_
  refine load_s c 1 3 (by decide) (buf_here i 1 3) ?_
  refine load_s c 1 4 (by decide) (buf_here i 1 4) ?_
  refine load_s c 1 5 (by decide) (buf_here i 1 5) ?_
  refine load_s c 1 6 (by decide) (buf_here i 1 6) ?_
  refine load_s c 1 7 (by decide) (buf_here i 1 7) ?_
  exact hk

theorem wp_done (R : sProp 𝕄) : R ⊢ Wp c (.ret PUnit.unit : Prog (TpuEff nD τ sig (Elt F) Λ₀ .tc) PUnit) (fun _ => R) :=
  Idealize.SL.BI.fupd_intro

/-- One grid point. -/
theorem point (hin : Inb tp) (i : grid0.Coords) (W : S512x2.Idx → Elt F .f32) (X : S512x1024.Idx → Elt F .f32) (M : S8x6144.Idx → Elt F .f32) (Z : S512x1024.Idx → Elt F .f32) :
    iprop(Tab (F := F) c tp ∗ HereIn c tp Y (i 0).val ∗ Free c Y (((i 0).val + 1) % 2) ∗ Owe (F := F) c
        ∗ owns (c : Thread nD τ) win0 fullShare W ∗ owns (c : Thread nD τ) win1 fullShare X ∗ owns (c : Thread nD τ) win2 fullShare M
        ∗ owns (c : Thread nD τ) win3 fullShare Z)
      ⊢ Wp c (cc0_combine (F := F) i posM (Memref.isWhole_whole _) ysM (Memref.isWhole_whole _) win0 hwin0 win1 hwin1 win2 hwin2 win3 hwin3 sM (Memref.isWhole_whole _) cc0_scratch1)
        (fun _ => iprop(Tab (F := F) c tp ∗ Free c Y ((i 0).val % 2) ∗ NextOut c tp Y (i 0).val ∗ Owe (F := F) c
          ∗ owns (c : Thread nD τ) win0 fullShare W ∗ owns (c : Thread nD τ) win1 fullShare X ∗ owns (c : Thread nD τ) win2 fullShare M
          ∗ owns (c : Thread nD τ) win3 fullShare (combB i tp Y W X M))) := by
  rw [cc0_combine_eq_skeleton]
  unfold cc0_combine_skel
  simp only [Prog.bind_assoc, Prog.pure_eq_ret, Prog.bind_ret]
  refine part47 c tp Y win0 hwin0 win1 hwin1 win2 hwin2 win3 hwin3 hin i (fun r => ?_)
  obtain ⟨b0, b1, b2, b3, b4⟩ := r
  unfold Idle
  refine BIBase.Entails.trans (show _ ⊢ iprop(Rows c i tp Y ∗ owns (c : Thread nD τ) win2 fullShare M ∗ owns (c : Thread nD τ) win0 fullShare W
    ∗ (Tab (F := F) c tp ∗ ((ysM.view.loc (c : Thread nD τ) ↦[Finset.univ]{half_share ((i 0).val % 2)} Y)
        ∗ semVal ((c : Thread nD τ), SemLoc.dma (semOf ((i 0).val % 2))) 0) ∗ NextOut c tp Y (i 0).val ∗ Owe (F := F) c
      ∗ owns (c : Thread nD τ) win1 fullShare X ∗ owns (c : Thread nD τ) win3 fullShare Z)) from ?_) ?_
  · iintro ⟨HT, ⟨HS, HY⟩, HN, HO, H0, H1, H2, H3⟩
    isplitl [HS]; · iexact HS
    isplitl [H2]; · iexact H2
    isplitl [H0]; · iexact H0
    isplitl [HT]; · iexact HT
    isplitl [HY]; · iexact HY
    isplitl [HN]; · iexact HN
    isplitl [HO]; · iexact HO
    isplitl [H1]; · iexact H1
    iexact H3
  refine part48 c win0 hwin0 win1 hwin1 win2 hwin2 win3 hwin3 i W M ?_
  refine part49 c win0 hwin0 win1 hwin1 win2 hwin2 win3 hwin3 i W ?_
  refine BIBase.Entails.trans (show _ ⊢ iprop(owns (c : Thread nD τ) win1 fullShare X ∗ (owns (c : Thread nD τ) win3 fullShare Z
    ∗ (Tab (F := F) c tp ∗ Free c Y ((i 0).val % 2) ∗ NextOut c tp Y (i 0).val ∗ Owe (F := F) c
      ∗ owns (c : Thread nD τ) win0 fullShare W ∗ owns (c : Thread nD τ) win2 fullShare M))) from ?_) ?_
  · iintro ⟨HS, H2, H0, HT, HY, HN, HO, H1, H3⟩
    isplitl [H1]; · iexact H1
    isplitl [H3]; · iexact H3
    isplitl [HT]; · iexact HT
    isplitl [HS HY]
    · unfold Free Idle
      iexists (gath tp Y (i 0).val)
      isplitl [HS]; · iexact HS
      iexact HY
    isplitl [HN]; · iexact HN
    isplitl [HO]; · iexact HO
    isplitl [H0]; · iexact H0
    iexact H2
  refine load_own c fullShare X ?_
  have ex : (fun y => X ((Rect.unit (s := S512x1024) ![0, 0] S512x1024.size inb_S512x1024_S512x1024_0_0).toLoadRect.idx y)) = X := by
    funext y
    refine congrArg X (funext fun a => Fin.ext ?_)
    fin_cases a
    · show 0 + 1 * (y 0).val = (y 0).val
      omega
    · show 0 + 1 * (y 1).val = (y 1).val
      omega
  rw [ex]
  refine BIBase.Entails.trans (show _ ⊢ iprop(owns (c : Thread nD τ) win3 fullShare Z ∗ (owns (c : Thread nD τ) win1 fullShare X
    ∗ (Tab (F := F) c tp ∗ Free c Y ((i 0).val % 2) ∗ NextOut c tp Y (i 0).val ∗ Owe (F := F) c
      ∗ owns (c : Thread nD τ) win0 fullShare W ∗ owns (c : Thread nD τ) win2 fullShare M))) from ?_) ?_
  · iintro ⟨H1, H3, HR⟩
    isplitl [H3]; · iexact H3
    isplitl [H1]; · iexact H1
    iexact HR
  refine load_own c fullShare Z ?_
  refine store_all c Z _ ?_
  refine BIBase.Entails.trans (show _ ⊢ iprop(Tab (F := F) c tp ∗ Free c Y ((i 0).val % 2) ∗ NextOut c tp Y (i 0).val ∗ Owe (F := F) c
          ∗ owns (c : Thread nD τ) win0 fullShare W ∗ owns (c : Thread nD τ) win1 fullShare X ∗ owns (c : Thread nD τ) win2 fullShare M
          ∗ owns (c : Thread nD τ) win3 fullShare (combB i tp Y W X M)) from ?_) (wp_done c _)
  iintro ⟨H3, H1, HT, HF, HN, HO, H0, H2⟩
  isplitl [HT]; · iexact HT
  isplitl [HF]; · iexact HF
  isplitl [HN]; · iexact HN
  isplitl [HO]; · iexact HO
  isplitl [H0]; · iexact H0
  isplitl [H1]; · iexact H1
  isplitl [H2]; · iexact H2
  iexact H3

end Cert.Kernel3Ideal.Hand

end
-- ==== Proof.CombRun.lean ====
/-
  Hand-written. The combining call's run: the choices' weights are cut out and transposed, then block by block the body adds
  the weighed rows; every argument ends unchanged, every semaphore at zero. For any float values.
-/
module

public import proofs.«01_k».proof.Proof.CombPoint
public import proofs.«01_k».proof.Proof.Gen.Kernel3Ideal.Launch
public import Idealize.ShloMosaic.Lib.Pipeline.Frame
public import Idealize.ShloMosaic.Lib.Pipeline.FrameBody
public import Idealize.ShloMosaic.Lib.Pipeline.Quiescent
public import Idealize.ShloMosaic.Lib.Pipeline.ValueKit
public import Idealize.ShloMosaic.Lib.StableHlo.RunRead

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run starts from -/

/-- The buffers' contents once the weights are cut out and transposed. -/
abbrev V (c : Dev nD) (b : Ref sig .tc) : Buf (Elt F) ((c : Thread nD τ).loc b) :=
  StableHlo.after hostOps0 (fun b => m (c, b)) b

/-- What the host lines write. -/
theorem hostWrites : (hostOps0 : List (HloOp τ sig (Elt F))).map HloOp.writes
    = ([main_v0, main_v1] : List (Ref sig .tc)).map fun w => {Proc.devRef (τ := τ) .tc w} := rfl

/-- Every other buffer is as the run found it. -/
theorem V_same (c : Dev nD) (b : Ref sig .tc) (h : b ∉ ([main_v0, main_v1] : List (Ref sig .tc))) :
    V m c b = m ((c : Thread nD τ).loc b) :=
  StableHlo.after_unwritten _ hostWrites h _

/-- The table's words. -/
abbrev tabP (c : Dev nD) : S32768.Idx → BitVec 32 := m ((c : Thread nD τ).loc main_arg0)
/-- The experts' outputs. -/
abbrev ysV (c : Dev nD) : S294912x128.Idx → Elt F .f32 := m ((c : Thread nD τ).loc main_arg1)

/-- The table as the region reads it. -/
def adm : (p : Fin 1) → (pcfgs (F := F) p).Adm := fun _ => ⟨fun k => m (((0 : Dev nD) : Thread nD τ).loc (pre0.ref k)), trivial⟩

/-- Grid point `b`. -/
def pt (b : ℕ) : Fin grid0.N := ⟨b % 32, by rw [N_0]; omega⟩

theorem t_lt (t : Fin grid0.N) : t.val < 32 := lt_of_lt_of_eq t.isLt N_0

theorem pt_val (t : Fin grid0.N) : pt t.val = t := by
  have := t_lt t
  exact Fin.ext (Nat.mod_eq_of_lt this)

/-- A grid point's only coordinate is its number. -/
theorem coord (t : Fin grid0.N) : (grid0.coords t 0).val = t.val := by
  rw [Pipeline.Grid.coords_val (G := grid0) t 0 (S := 1) (B := 32) (by decide) rfl]
  have := t_lt t
  omega

/-! ## The windows' contents -/

/-- What window `w` holds at point `t`: its block of the array. -/
def blkAt (c : Dev nD) (w : Fin 4) (t : Fin grid0.N) : (((cfg0 (adm m 0)).win w).xblock (grid0.coords t)).Idx → Elt F ((cfg0 (adm m 0)).win w).elt :=
  (((cfg0 (adm m 0)).win w).blk t).view.read (Elt F) (V m c (Pipeline.arrRef spec0 w))

abbrev Ww (c : Dev nD) (t : Fin grid0.N) : S512x2.Idx → Elt F .f32 := blkAt m c 0 t
abbrev Xw (c : Dev nD) (t : Fin grid0.N) : S512x1024.Idx → Elt F .f32 := blkAt m c 1 t
abbrev Mw (c : Dev nD) (t : Fin grid0.N) : S8x6144.Idx → Elt F .f32 := blkAt m c 2 t

/-- What the body leaves of block `t`. -/
def Ow (c : Dev nD) (t : Fin grid0.N) : S512x1024.Idx → Elt F .f32 :=
  combB (grid0.coords t) (tabP m c) (ysV m c) (Ww m c t) (Xw m c t) (Mw m c t)

/-- What the result holds at the end. -/
def OUT (c : Dev nD) : S16384x1024.Idx → Elt F .f32 := fun x =>
  Ow m c (pt ((x 0).val / 512)) (ix2 ⟨(x 0).val % 512, Nat.mod_lt _ (by decide)⟩ ⟨(x 1).val, (x 1).isLt⟩)

/-! ## Between grid points -/

/-- Before point `n`: the table; the point's own slot with its copies under way, or, at the first point and after the last,
    with nothing under way; the other slot with nothing under way. -/
def Phi (c : Dev nD) (n : ℕ) : sProp 𝕄 :=
  iprop(Tab (F := F) c (tabP m c) ∗ (if n < 32 then HereIn c (tabP m c) (ysV m c) n else Free c (ysV m c) (n % 2)) ∗ Free c (ysV m c) ((n + 1) % 2))

/-- The proof data of the one pipeline. -/
def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => Ww m c t
    | ⟨1, _⟩ => Xw m c t
    | ⟨2, _⟩ => Mw m c t
    | ⟨3, _⟩ => Ow m c t
    | ⟨_ + 4, h⟩ => absurd h (Nat.not_lt.2 (Nat.le_add_left _ _))
  Φ t := Phi m c t.val
  q _ := fullShare
  owed _ := 0

abbrev cfgm : Cfg sig Λ₀ := cfg0 (F := F) (adm m 0)

theorem before_0 (c : Dev nD) (t : Fin grid0.N) (d) : (dats m 0 c).before (0 : Fin 4) t d = Ww m c t :=
  (Dat.before_in_eq_fetched (dats m 0 c) (0 : Fin 4) rfl (fun _ => rfl) (fun _ _ _ => rfl) (fun _ => rfl) t d).trans rfl
theorem before_1 (c : Dev nD) (t : Fin grid0.N) (d) : (dats m 0 c).before (1 : Fin 4) t d = Xw m c t :=
  (Dat.before_in_eq_fetched (dats m 0 c) (1 : Fin 4) rfl (fun _ => rfl) (fun _ _ _ => rfl) (fun _ => rfl) t d).trans rfl
theorem before_2 (c : Dev nD) (t : Fin grid0.N) (d) : (dats m 0 c).before (2 : Fin 4) t d = Mw m c t :=
  (Dat.before_in_eq_fetched (dats m 0 c) (2 : Fin 4) rfl (fun _ => rfl) (fun _ _ _ => rfl) (fun _ => rfl) t d).trans rfl

/-! ## The body at a point -/

abbrev ms0_0 (t : Fin grid0.N) : Memref sig .tc .vmem S512x2 .f32 := spec0_0.stage ((cfgm m).slots t (0 : Fin 4))
abbrev ms0_1 (t : Fin grid0.N) : Memref sig .tc .vmem S512x1024 .f32 := spec0_1.stage ((cfgm m).slots t (1 : Fin 4))
abbrev ms0_2 (t : Fin grid0.N) : Memref sig .tc .vmem S8x6144 .f32 := spec0_2.stage ((cfgm m).slots t (2 : Fin 4))
abbrev ms0_3 (t : Fin grid0.N) : Memref sig .tc .vmem S512x1024 .f32 := spec0_3.stage ((cfgm m).slots t (3 : Fin 4))

def bodyAt (t : Fin grid0.N) : Prog (TpuEff nD τ sig (Elt F) Λ₀ .tc) PUnit :=
  cc0_combine (F := F) (grid0.coords t) posM (Memref.isWhole_whole _) ysM (Memref.isWhole_whole _)
      (ms0_0 m t) (hstage0_0 (((cfgm m).slots t (0 : Fin 4)).cast nbuf0_0))
      (ms0_1 m t) (hstage0_1 (((cfgm m).slots t (1 : Fin 4)).cast nbuf0_1))
      (ms0_2 m t) (hstage0_2 (((cfgm m).slots t (2 : Fin 4)).cast nbuf0_2))
      (ms0_3 m t) (hstage0_3 (((cfgm m).slots t (3 : Fin 4)).cast nbuf0_3))
    sM (Memref.isWhole_whole _) cc0_scratch1

theorem defs₀_row (t : Fin grid0.N) :
    defs₀ (F := F) .tc (cfgm m).body ((cfgm m).bodyArgs t ((cfgm m).slots t)) = bodyAt m t := by
  unfold defs₀; rw [Defs.onTc_tc]; rfl

/-- What a point leaves is what the next one finds: the next point's slot, -/
theorem next_here (c : Dev nD) (n : ℕ) :
    NextOut c (tabP m c) (ysV m c) n = (if n + 1 < 32 then HereIn c (tabP m c) (ysV m c) (n + 1) else Free c (ysV m c) ((n + 1) % 2) : sProp 𝕄) := by
  unfold NextOut HereIn
  rw [if_neg (Nat.succ_ne_zero n)]

/-- and its own. -/
theorem own_other (n : ℕ) : (n + 1 + 1) % 2 = n % 2 := by omega

def bodyPre (c : Dev nD) (t : Fin grid0.N) : sProp 𝕄 :=
  iprop((dats m 0 c).Φ t.castSucc ∗ (dats m 0 c).owesAt () t.castSucc
    ∗ (∃ d, owns (c : Thread nD τ) (ms0_0 m t) fullShare ((dats m 0 c).before (0 : Fin 4) t d))
    ∗ (∃ d, owns (c : Thread nD τ) (ms0_1 m t) fullShare ((dats m 0 c).before (1 : Fin 4) t d))
    ∗ (∃ d, owns (c : Thread nD τ) (ms0_2 m t) fullShare ((dats m 0 c).before (2 : Fin 4) t d))
    ∗ (∃ d, owns (c : Thread nD τ) (ms0_3 m t) fullShare ((dats m 0 c).before (3 : Fin 4) t d)))
def bodyPost (c : Dev nD) (t : Fin grid0.N) : sProp 𝕄 :=
  iprop((dats m 0 c).Φ t.succ ∗ (dats m 0 c).owesAt () t.succ
    ∗ owns (c : Thread nD τ) (ms0_0 m t) fullShare ((dats m 0 c).after (0 : Fin 4) t)
    ∗ owns (c : Thread nD τ) (ms0_1 m t) fullShare ((dats m 0 c).after (1 : Fin 4) t)
    ∗ owns (c : Thread nD τ) (ms0_2 m t) fullShare ((dats m 0 c).after (2 : Fin 4) t)
    ∗ owns (c : Thread nD τ) (ms0_3 m t) fullShare ((dats m 0 c).after (3 : Fin 4) t))

theorem sound_body (c : Dev nD) (h : Inb (tabP m c)) (t : Fin grid0.N) :
    bodyPre m c t ⊢ wp frame (wpE (defs₀ (F := F)) Variants.none c none) Set.univ (bodyAt m t) (fun _ => bodyPost m c t) := by
  have ht : t.val < 32 := t_lt t
  unfold bodyPre bodyPost
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  rw [show (dats m 0 c).after (0 : Fin 4) t = Ww m c t from rfl, show (dats m 0 c).after (1 : Fin 4) t = Xw m c t from rfl,
    show (dats m 0 c).after (2 : Fin 4) t = Mw m c t from rfl, show (dats m 0 c).after (3 : Fin 4) t = Ow m c t from rfl]
  simp only [before_0, before_1, before_2]
  unfold Phi
  rw [if_pos ht, ← next_here, own_other]
  have hp := fun Z => point (F := F) c (ms0_0 m t) (hstage0_0 (((cfgm m).slots t (0 : Fin 4)).cast nbuf0_0)) (ms0_1 m t) (hstage0_1 (((cfgm m).slots t (1 : Fin 4)).cast nbuf0_1)) (ms0_2 m t) (hstage0_2 (((cfgm m).slots t (2 : Fin 4)).cast nbuf0_2)) (ms0_3 m t) (hstage0_3 (((cfgm m).slots t (3 : Fin 4)).cast nbuf0_3)) (Y := ysV m c) h (grid0.coords t)
    (Ww m c t) (Xw m c t) (Mw m c t) Z
  rw [coord] at hp
  iintro ⟨⟨HT, HH, HF⟩, ⟨%W, -, HW⟩, ⟨%d0, Hw0⟩, ⟨%d1, Hw1⟩, ⟨%d2, Hw2⟩, ⟨%d3, Hw3⟩⟩
  iapply (wp_wand_r frame (wpE (defs₀ (F := F)) Variants.none (c : Thread nD τ) none) Set.univ)
  isplitl [HT HH HF HW Hw0 Hw1 Hw2 Hw3]
  · iapply (hp ((dats m 0 c).before (3 : Fin 4) t d3))
    unfold Owe
    isplitl [HT]; · iexact HT
    isplitl [HH]; · iexact HH
    isplitl [HF]; · iexact HF
    isplitl [HW]; · iexists W; iexact HW
    isplitl [Hw0]; · iexact Hw0
    isplitl [Hw1]; · iexact Hw1
    isplitl [Hw2]; · iexact Hw2
    iexact Hw3
  · unfold Owe
    iintro %u ⟨HT, HF, HN, ⟨%W', HW⟩, Hw0, Hw1, Hw2, Hw3⟩
    isplitl [HT HF HN]
    · isplitl [HT]; · iexact HT
      isplitl [HN]; · iexact HN
      iexact HF
    isplitl [HW]
    · iexists W'; isplitr; · ipureintro; exact fun _ _ => Or.inl trivial
      iexact HW
    isplitl [Hw0]; · iexact Hw0
    isplitl [Hw1]; · iexact Hw1
    isplitl [Hw2]; · iexact Hw2
    iexact Hw3

theorem body_obligation (c : Dev nD) (h : Inb (tabP m c)) : BodyObligation (dats (F := F) m 0 c) (defs₀ (F := F)) Variants.none () Set.univ := fun t => by
  rw [bigSep_W0, bigSep_W0, defs₀_row]
  exact triple_restated (sound_body m c h t) rfl .rfl fun _ => .rfl

/-! ## The launch -/

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub ⟨rfl, rfl⟩ main_chain

/-- The semaphores of the two slots. -/
abbrev osem0 : Fin 2 → SemLoc sig := fun j => (![SemLoc.dma (semOf 0), SemLoc.dma (semOf 1)] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semOf 0)) 0 ∗ semVal ((c : Thread nD τ), SemLoc.dma (semOf 1)) 0) := by
  rw [Pipeline.ownSems0_eq_of_list c osem0 [0, 1] (by decide) (by decide)]; rfl

theorem prefHeld_eq (c : Dev nD) (q : PosShare TreeShare) (W : pre0.Contents (Elt F)) :
    (Pipeline.prefHeld (Ix := Unit) (Name := ℕ) (U := Pipeline.UD sig nD τ) (Lvl := ℕ) (Val := Elt F) pre0 c (fun _ => q) W : sProp 𝕄)
      = iprop(((c : Thread nD τ).loc main_arg0) ↦{q} W (0 : Fin 1)) := by
  unfold Pipeline.prefHeld
  rw [bigSep_univ_eq_bigSepL [(0 : Fin 1)] (by decide) (by decide)]; rfl

/-- The scratch is its two slots. -/
theorem slots_split (c : Dev nD) (f : S2x2x4096x128.Idx → Elt F .f32) :
    ((((c : Thread nD τ).loc cc0_scratch0) ↦{fullShare} f) : sProp 𝕄)
      ⊢ iprop((sM.view.loc (c : Thread nD τ) ↦[half 0]{fullShare} f) ∗ sM.view.loc (c : Thread nD τ) ↦[half 1]{fullShare} f) := by
  have e := (pointsTo_union (ℓ := sM.view.loc (c : Thread nD τ)) (q := fullShare) (f := f) half_disjoint
    : (sM.view.loc (c : Thread nD τ) ↦[half 0 ∪ half 1]{fullShare} f : sProp 𝕄) ⊣⊢ _).1
  rw [half_union] at e
  exact e

theorem slots_join (c : Dev nD) (f g : S2x2x4096x128.Idx → Elt F .f32) :
    iprop((sM.view.loc (c : Thread nD τ) ↦[half 0]{fullShare} f) ∗ sM.view.loc (c : Thread nD τ) ↦[half 1]{fullShare} g)
      ⊢ (iprop(∃ f', ((c : Thread nD τ).loc cc0_scratch0) ↦{fullShare} f') : sProp 𝕄) := by
  have e := (pointsTo_join (ℓ := sM.view.loc (c : Thread nD τ)) (q := fullShare) (f := f) (g := g) half_disjoint
    : _ ⊢ (sM.view.loc (c : Thread nD τ) ↦[half 0 ∪ half 1]{fullShare} _ : sProp 𝕄))
  rw [half_union] at e
  iintro H
  iexists _
  iapply e $$ H

/-- Before the first point nothing is under way; -/
theorem Phi_start (c : Dev nD) :
    iprop((((c : Thread nD τ).loc main_arg0) ↦{fullShare.right} tabP m c)
      ∗ (∃ f, ((c : Thread nD τ).loc cc0_scratch0) ↦{fullShare} f) ∗ (((c : Thread nD τ).loc main_arg1) ↦{fullShare} ysV m c)
      ∗ semVal ((c : Thread nD τ), SemLoc.dma (semOf 0)) 0 ∗ semVal ((c : Thread nD τ), SemLoc.dma (semOf 1)) 0) ⊢ Phi m c 0 := by
  unfold Phi HereIn Free Idle Tab
  rw [if_pos (by decide), if_pos rfl]
  iintro ⟨HT, ⟨%f, HS⟩, ⟨Hl, Hr⟩, H0, H1⟩
  ihave HS' := (slots_split c f) $$ HS
  icases HS' with ⟨Hf, Hg⟩
  isplitl [HT]; · iexact HT
  isplitl [Hf Hl H0]
  · iexists f
    isplitl [Hf]; · iexact Hf
    isplitl [Hl]; · iexact Hl
    iexact H0
  · iexists f
    isplitl [Hg]; · iexact Hg
    isplitl [Hr]; · iexact Hr
    iexact H1

/-- nor after the last one. -/
theorem Phi_end (c : Dev nD) :
    Phi m c 32 ⊢ iprop((((c : Thread nD τ).loc main_arg1) ↦{fullShare} ysV m c)
      ∗ (semVal ((c : Thread nD τ), SemLoc.dma (semOf 0)) 0 ∗ semVal ((c : Thread nD τ), SemLoc.dma (semOf 1)) 0)
      ∗ (∃ f, ((c : Thread nD τ).loc cc0_scratch0) ↦{fullShare} f)) := by
  unfold Phi Free Idle
  rw [if_neg (by decide)]
  iintro ⟨-, ⟨%f, Hf, Hl, H0⟩, ⟨%g, Hg, Hr, H1⟩⟩
  isplitl [Hl Hr]
  · isplitl [Hl]; · iexact Hl
    iexact Hr
  isplitl [H0 H1]
  · isplitl [H0]; · iexact H0
    iexact H1
  iapply (slots_join c f g)
  isplitl [Hf]; · iexact Hf
  iexact Hg

/-- The result's block at a point is the point's. -/
theorem index_3 (t : Fin grid0.N) : ((cfgm m).win (3 : Fin 4)).index t = ![t.val, 0] := by
  have e : ((cfgm m).win (3 : Fin 4)).index t = cc0_transform_4 (grid0.coords t) := rfl
  rw [e]
  have ht := t_lt t
  funext a
  fin_cases a
  · show (BitVec.ofNat 32 (grid0.coords t 0).val).toNat = t.val
    rw [coord, BitVec.toNat_ofNat]
    omega
  · rfl

/-- Every block is written back. -/
theorem flush_3 (t : Fin grid0.N) : ((cfgm m).win (3 : Fin 4)).flush t = true := by
  have ht := t_lt t
  unfold Window.flush
  rw [show ((cfgm m).win (3 : Fin 4)).isOut = true from rfl, Bool.true_and]
  by_cases h : t.val + 1 = grid0.N
  · rw [decide_eq_true h, Bool.true_or]
  · have h' : t.val + 1 < grid0.N := by have := t.isLt; omega
    rw [decide_eq_true (p := ∃ h : t.val + 1 < grid0.N, ((cfgm m).win (3 : Fin 4)).index ⟨t.val + 1, h⟩ ≠ ((cfgm m).win (3 : Fin 4)).index t), Bool.or_true]
    refine ⟨h', fun e => ?_⟩
    rw [index_3, index_3] at e
    have e0 : t.val + 1 = t.val := congrFun e (0 : Fin 2)
    exact absurd e0 (Nat.succ_ne_self _)

/-- The result's array after the last point. -/
theorem out_eq (c : Dev nD) : (dats m 0 c).arrAt (3 : Fin 4) grid0.N = OUT m c := by
  refine (dats m 0 c).arrAt_eq_of_emb (3 : Fin 4) (OUT m c) (fun t hf y => ?_) (fun i => ⟨pt ((i 0).val / 512), flush_3 m _, ?_⟩)
  · blk_simp
    have h0 := t_lt t
    have hy0 : (y 0).val < 512 := (y 0).isLt
    have e0 : ((((cfgm m).win (3 : Fin 4)).blk t).view.emb y (0 : Fin 2)).val = t.val * 512 + (y 0).val := by
      have := congrFun (index_3 m t) (0 : Fin 2)
      blk_simp
      rw [this]
      rfl
    have e1 : ((((cfgm m).win (3 : Fin 4)).blk t).view.emb y (1 : Fin 2)).val = (y 1).val := by
      have := congrFun (index_3 m t) (1 : Fin 2)
      blk_simp
      rw [this]
      show 0 * 1024 + (y 1).val = (y 1).val
      omega
    have key : ∀ (x : S16384x1024.Idx), (x 0).val = t.val * 512 + (y 0).val → (x 1).val = (y 1).val → OUT m c x = Ow m c t y := by
      intro x hx0 hx1
      unfold OUT
      rw [show pt ((x 0).val / 512) = t from by rw [hx0, show (t.val * 512 + (y 0).val) / 512 = t.val by omega]; exact pt_val t]
      refine congrArg (Ow m c t) ?_
      funext a
      refine Fin.ext ?_
      fin_cases a
      · show (x 0).val % 512 = (y 0).val
        omega
      · exact hx1
    exact (key _ e0 e1).symm
  · mem_blk
    have hi : (i 0).val < 16384 := (i 0).isLt
    have hi1 : (i 1).val < 1024 := (i 1).isLt
    have e := index_3 m (pt ((i 0).val / 512))
    have ep : (pt ((i 0).val / 512)).val = (i 0).val / 512 := by show (i 0).val / 512 % 32 = _; omega
    have e0 := congrFun e (0 : Fin 2)
    have e1 := congrFun e (1 : Fin 2)
    rw [ep] at e0
    rw [e0, e1]
    show (((i 0).val / 512) * 512 ≤ (i 0).val ∧ (i 0).val < ((i 0).val / 512) * 512 + 512) ∧ 0 * 1024 ≤ (i 1).val ∧ (i 1).val < 0 * 1024 + 1024
    omega

set_option backward.isDefEq.respectTransparency.types false in
/-- The run: the result at its final contents, the arguments as they were, every semaphore at zero. -/
theorem run_main (h : ∀ c, Inb (tabP m c)) :
    θ_run defs (onTc (τ := τ) (main (F := F))) ⟨m, fun _ => 0, ρ⟩ (fun r => (∀ c : Dev nD,
      r.2.mem ((c.tc : Thread nD τ).loc main_v2) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_region_pf_quiescent pcfgs (adm m) (dats m) () (launch0.cellOf_inj (adm m)) (0 : Fin 1) (launch0 (F := F)).win.to₀ ownSemFacts0 (launch0 (F := F)).pre embL defs₀ Variants.none m ρ main
    (hbody := fun c => (body_obligation m c (h c)).loose)
    (hne := block_pos0) (harr := arr_whole0) (hstage := stage_whole0) (howed := fun _ _ => rfl)
    (G := fun _ => iprop(emp))
    (u₀ := (initOf (Pipeline.cells (Pipeline.pin pcfgs (adm m)) (launch0.cellOf_inj (adm m))) (Pipeline.launchToks (Pipeline.pin pcfgs (adm m)) (launch0.cellOf_inj (adm m))), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Pipeline.Dat.arrays_split_shared (dats m 0 c) (launch0 (F := F)).to₀.sharedIn arr_whole0
      (fun w hw => Pipeline.Dat.q_eq_shareOf_of_share_full (dats m 0 c) winFacts0.arr_inj ((dats m 0 c).share_full fun _ => rfl) w hw) (V m c) _ (fun _ => rfl))
    (hpf := fun c k => by
      rw [Subsingleton.elim c 0]
      fin_cases k
      exact V_same m 0 main_arg0 (by decide))
    (X := fun c => iprop((((c : Thread nD τ).loc main_arg1) ↦{fullShare} ysV m c)
      ∗ semVal ((c : Thread nD τ), SemLoc.dma (semOf 0)) 0 ∗ semVal ((c : Thread nD τ), SemLoc.dma (semOf 1)) 0))
    (Y := fun c => iprop(((c : Thread nD τ).loc main_arg1) ↦{fullShare} ysV m c))
    (Z := fun c => iprop(((c : Thread nD τ).loc main_arg2) ↦{fullShare} m ((c : Thread nD τ).loc main_arg2)))
    (hX := fun c => by
      rw [show (Pipeline.pin pcfgs (adm m) 0).spec = spec0 from rfl, unscopedRestP0_eq, ownSems00_eq,
        V_same m c main_arg1 (by decide), V_same m c main_arg2 (by decide)]
      iintro ⟨⟨HU, HZ, -⟩, ⟨Ho1, Ho2⟩, -, -, -⟩; imodintro
      isplitl [HU Ho1 Ho2]
      · isplitl [HU]; · iexact HU
        isplitl [Ho1]; · iexact Ho1
        iexact Ho2
      iexact HZ)
    (hin := fun c => by
      rw [show (Pipeline.pin pcfgs (adm m) 0).spec = spec0 from rfl, scopedRest0_eq, prefHeld_eq]
      rw [show (dats m 0 c).Φ 0 = Phi m c 0 from rfl]
      refine BIBase.Entails.trans ?_ (Phi_start m c)
      rw [Subsingleton.elim c 0]
      iintro ⟨⟨H7, H5, H6⟩, H1, H3⟩
      isplitl [H1]; · iexact H1
      isplitl [H3]; · iexact H3
      isplitl [H7]; · iexact H7
      isplitl [H5]; · iexact H5
      iexact H6)
    (hout := fun c => by
      rw [show (Pipeline.pin pcfgs (adm m) 0).spec = spec0 from rfl, scopedRest0_eq, ownSems00_eq]
      rw [show (dats m 0 c).Φ (Fin.last _) = Phi m c 32 from congrArg (Phi m c) N_0]
      exact Phi_end m c)
    (QY := fun c s => s.mem ((c : Thread nD τ).loc main_arg1) = m ((c : Thread nD τ).loc main_arg1)
      ∧ s.mem ((c : Thread nD τ).loc main_arg2) = m ((c : Thread nD τ).loc main_arg2))
    (hY := fun c s' => by
      iintro ⟨HY, HZ, HSI⟩
      ihave HH := (pointsTo_read_all {()} (fun _ => (c : Thread nD τ).loc main_arg1) (fun _ => m ((c : Thread nD τ).loc main_arg1)) s') $$ [HY HSI]
      · rw [bigSep_singleton]
        isplitl [HY] <;> iassumption
      icases HH with ⟨%hH, HSI⟩
      ihave HK := (pointsTo_read_all {()} (fun _ => (c : Thread nD τ).loc main_arg2) (fun _ => m ((c : Thread nD τ).loc main_arg2)) s') $$ [HZ HSI]
      · rw [bigSep_singleton]
        isplitl [HZ] <;> iassumption
      icases HK with ⟨%hK, HSI⟩
      imodintro
      isplitr
      · ipureintro
        exact ⟨hH () (Finset.mem_singleton_self _), hK () (Finset.mem_singleton_self _)⟩
      · iexact HSI)
    (hQ := fun s hs hz => ⟨fun c => by
      obtain ⟨hw, ht, hv1, hv2⟩ := hs c
      refine ⟨(hw (3 : Fin 4)).trans (out_eq m c), ?_, hv1, hv2, ?_, ?_⟩
      · have := ht (0 : Fin 1)
        rw [Subsingleton.elim c 0] at this ⊢
        exact this
      · exact ((hw (1 : Fin 4)).trans ((dats m 0 c).arrAt_in (1 : Fin 4) rfl _)).trans (V_same m c main_arg3 (by decide))
      · exact ((hw (2 : Fin 4)).trans ((dats m 0 c).arrAt_in (2 : Fin 4) rfl _)).trans (V_same m c main_arg4 (by decide)), hz⟩)

end Cert.Kernel3Ideal.Hand

end
-- ==== Proof.CombPre.lean ====
/-
  Hand-written. The combining call: the precondition read, which says that every word of the table names a row tile of the
  experts' outputs; and what an entry of the result is to hold.
-/
module

public import proofs.«01_k».proof.Proof.CombBase
public import proofs.«01_k».proof.Proof.Gen.Pre_rows_exist
public import Idealize.ShloMosaic.Lib.ReduceAll

@[expose] public section

noncomputable section

namespace Cert.Kernel3Ideal.Hand

open Cert.Kernel3Ideal Cert.Kernel3Ideal.Gen
open Idealize.ShloMosaic Idealize.ShloMosaic.TcCoe

/-- A word between 0 and 36863, as the comparisons say it. -/
theorem tile_word (a : BitVec 32) (h : IntOp.andi (IntOp.cmpi .sge a 0#32) (IntOp.cmpi .slt a 36864#32) = 1#1) : a.toNat < 36864 := by
  have h' : BitVec.ofBool (BitVec.sle 0#32 a) &&& BitVec.ofBool (BitVec.slt a 36864#32) = 1#1 := h
  have h1 : BitVec.sle 0#32 a = true := by
    cases e : BitVec.sle 0#32 a
    · rw [e] at h'; simp at h'
    · rfl
  have h2 : BitVec.slt a 36864#32 = true := by
    cases e : BitVec.slt a 36864#32
    · rw [e] at h'; simp at h'
    · rfl
  simp only [BitVec.sle, BitVec.slt, decide_eq_true_eq, BitVec.toInt_eq_toNat_cond] at h1 h2
  have e0 : (0#32).toNat = 0 := rfl
  have e8 : (36864#32).toNat = 36864 := rfl
  rw [e0] at h1; rw [e8] at h2
  have := a.isLt
  split at h1 <;> split at h2 <;> omega

/-- The precondition says that every word names a row tile that exists. -/
theorem word_lt {F : FTy → Type} [FloatOps F] (tp : S32768.Idx → BitVec 32) (ys : FVec F S294912x128 .f32) (w : FVec F S8x16384 .f32)
    (x : FVec F S16384x1024 .f32) (md : FVec F S8x6144 .f32)
    (h : Cert.Pre_rows_exist.fn tp ys w x md = fun _ => 1#1) (j : S32768.Idx) : (tp j).toNat < 36864 := by
  haveI : Subsingleton Cert.Pre_rows_exist.S_.Idx := ⟨fun a b => funext fun x => x.elim0⟩
  have e := congrFun h (Shape.Idx.first Cert.Pre_rows_exist.Gen.h_S_)
  exact tile_word (tp j) (Host.reduce_andi_all _ _ _ _ _ e j)

theorem inb_of_lt (tp : S32768.Idx → BitVec 32) (h : ∀ j, (tp j).toNat < 36864) : Inb tp := fun p hp => by
  unfold row
  rw [word_pos p hp]
  exact h _

end Cert.Kernel3Ideal.Hand

namespace Cert.Hand

open Idealize.ShloMosaic

/-- Entry `z` of the row that word `p` names, the rows lying as eight rows of 128 numbers each. -/
def named (tp : IVec (⟨1, ![32768]⟩ : Shape) 32) (Y : FVec Ideal (⟨2, ![294912, 128]⟩ : Shape) .f32) (p : Fin 32768) (z : Fin 1024) : EReal :=
  Y (ix2 ⟨(8 * (tp (ix1 p)).toNat + z.val / 128) % 294912, Nat.mod_lt _ (by decide)⟩ ⟨z.val % 128, Nat.mod_lt _ (by decide)⟩)

/-- Entry `z` of token `r`: what it was, and the gate's times the weighed sum of its two choices' rows. -/
def combined (tp : IVec (⟨1, ![32768]⟩ : Shape) 32) (Y : FVec Ideal (⟨2, ![294912, 128]⟩ : Shape) .f32) (W : FVec Ideal (⟨2, ![8, 16384]⟩ : Shape) .f32)
    (X : FVec Ideal (⟨2, ![16384, 1024]⟩ : Shape) .f32) (M : FVec Ideal (⟨2, ![8, 6144]⟩ : Shape) .f32) (r : Fin 16384) (z : Fin 1024) : EReal :=
  X (ix2 r z) + M (ix2 ⟨r.val / 8192, by omega⟩ ⟨5120 + z.val, by omega⟩)
    * (W (ix2 0 r) * named tp Y ⟨r.val, by omega⟩ z + W (ix2 1 r) * named tp Y ⟨16384 + r.val, by omega⟩ z)

end Cert.Hand

end
-- ==== Proof.CombKer.lean ====
/-
  Hand-written. The combining call over the extended reals: what its body leaves in an output block, and what its result
  holds in the end.
-/
module

public import proofs.«01_k».proof.Proof.CombRun
public import proofs.«01_k».proof.Proof.CombPre
public import Idealize.ShloMosaic.Lib.Pipeline.Value

@[expose] public section

noncomputable section

namespace Cert.Kernel3Ideal.Hand

open Cert.Kernel3Ideal Cert.Kernel3Ideal.Gen
open Idealize.ShloMosaic Idealize.ShloMosaic.TcCoe Idealize.ShloMosaic.Tactic

/-- Eight pieces of 128 numbers a row, side by side. -/
def beside (P : ℕ → Vec Ideal S1x1x512x128 .f32) : FVec Ideal S512x1024 .f32 :=
  concatenate S512x1024 1 (List.ofFn fun n : Fin 8 => (⟨S512x128, shapeCast S512x128 (P n.val) shapeCasts_S1x1x512x128_S512x128⟩ : (s : Shape) × (s.Idx → EReal)))
    concatenates_S512x128_S512x128_S512x128_S512x128_S512x128_S512x128_S512x128_S512x128_S512x1024_d1

theorem beside_apply (P : ℕ → Vec Ideal S1x1x512x128 .f32) (r : Fin 512) (z : Fin 1024) :
    beside P (ix2 r z) = P (z.val / 128) (ix4 0 0 r ⟨z.val % 128, Nat.mod_lt _ (by decide)⟩) := by
  refine (concatenate_ofFn_apply (t := S512x1024) (s₁ := S512x128) (1 : Fin 2) (fun n : Fin 8 => shapeCast S512x128 (P n.val) shapeCasts_S1x1x512x128_S512x128)
    concatenates_S512x128_S512x128_S512x128_S512x128_S512x128_S512x128_S512x128_S512x128_S512x1024_d1 rfl 128 rfl (ix2 r z)
    ⟨z.val / 128, by omega⟩ rfl (ix2 r ⟨z.val % 128, Nat.mod_lt _ (by decide)⟩) rfl
    (fun b hb => by
      fin_cases b
      · rfl
      · exact absurd rfl hb)).trans ?_
  pointwise

/-- What the body computes, in two pieces. -/
def sum2 (W : S512x2.Idx → EReal) (A B : FVec Ideal S512x1024 .f32) : FVec Ideal S512x1024 .f32 :=
  addf (mulf (broadcastTo S512x1024 (k0_pay3 (F := Ideal) W) broadcasts_S512x1_S512x1024) A)
    (mulf (broadcastTo S512x1024 (extractStridedSlice S512x1 ![0, 1] (k0_pay2 (F := Ideal) W) slices_S512x2_o0_1_S512x1) broadcasts_S512x1_S512x1024) B)

theorem weighed_eq (W : S512x2.Idx → EReal) (P : ℕ → ℕ → Vec Ideal S1x1x512x128 .f32) :
    weighed (F := Ideal) W P = sum2 W (beside (P 0)) (beside (P 1)) := rfl

theorem sum2_apply (W : S512x2.Idx → EReal) (A B : FVec Ideal S512x1024 .f32) (r : Fin 512) (z : Fin 1024) :
    sum2 W A B (ix2 r z) = W (ix2 r 0) * A (ix2 r z) + W (ix2 r 1) * B (ix2 r z) := by
  unfold sum2 k0_pay3 k0_pay2
  pointwise

theorem body_apply (g : Vec Ideal S1x1024 .f32) (A : FVec Ideal S512x1024 .f32) (X : Vec Ideal S512x1024 .f32) (r : Fin 512) (z : Fin 1024) :
    k0_pay1 g A X (ix2 r z) = X (ix2 r z) + g (ix2 0 z) * A (ix2 r z) := by
  unfold k0_pay1
  pointwise

variable (m : (ℓ : Loc nD τ sig) → Buf (Elt Ideal) ℓ) (c : Dev nD)

/-- The weights, cut out and transposed. -/
theorem V_v1 (r : Fin 16384) (k : Fin 2) :
    (V m c main_v1 : S16384x2.Idx → EReal) (ix2 r k) = (m (c.tc.loc main_arg2) : S8x16384.Idx → EReal) (ix2 ⟨k.val, by omega⟩ r) := by
  unfold V
  entry_read
  pointwise

theorem index_at (t : Fin grid0.N) : (![(BitVec.ofNat 32 (grid0.coords t 0).val).toNat, 0] : Fin 2 → ℕ) = ![t.val, 0] := by
  have ht := t_lt t
  rw [coord, BitVec.toNat_ofNat, Nat.mod_eq_of_lt (by omega)]

theorem index_0 (t : Fin grid0.N) : ((cfgm m).win (0 : Fin 4)).index t = ![t.val, 0] :=
  (show ((cfgm m).win (0 : Fin 4)).index t = ![(BitVec.ofNat 32 (grid0.coords t 0).val).toNat, 0] from rfl).trans (index_at t)
theorem index_1 (t : Fin grid0.N) : ((cfgm m).win (1 : Fin 4)).index t = ![t.val, 0] :=
  (show ((cfgm m).win (1 : Fin 4)).index t = ![(BitVec.ofNat 32 (grid0.coords t 0).val).toNat, 0] from rfl).trans (index_at t)
theorem index_2 (t : Fin grid0.N) : ((cfgm m).win (2 : Fin 4)).index t = ![0, 0] := rfl

/-- The weights of a block's tokens. -/
theorem Ww_apply (t : Fin grid0.N) (r : Fin 512) (k : Fin 2) :
    Ww m c t (ix2 r k) = (m (c.tc.loc main_arg2) : S8x16384.Idx → EReal) (ix2 ⟨k.val, by omega⟩ ⟨512 * t.val + r.val, by have := t_lt t; omega⟩) := by
  refine Eq.trans ?_ (V_v1 m c ⟨512 * t.val + r.val, by have := t_lt t; omega⟩ k)
  show (V m c (Pipeline.arrRef spec0 (0 : Fin 4)) : S16384x2.Idx → EReal) ((((cfgm m).win (0 : Fin 4)).blk t).view.emb (ix2 r k)) = _
  have i0 := congrFun (index_0 m t) (0 : Fin 2)
  have i1 := congrFun (index_0 m t) (1 : Fin 2)
  refine congrArg (V m c main_v1 : S16384x2.Idx → EReal) (funext fun a => Fin.ext ?_)
  match a with
  | ⟨0, _⟩ =>
    blk_simp
    rw [i0]
    show t.val * 512 + r.val = 512 * t.val + r.val
    omega
  | ⟨1, _⟩ =>
    blk_simp
    rw [i1]
    show 0 * 2 + k.val = k.val
    omega

/-- The tokens of a block. -/
theorem Xw_apply (t : Fin grid0.N) (r : Fin 512) (z : Fin 1024) :
    Xw m c t (ix2 r z) = (m (c.tc.loc main_arg3) : S16384x1024.Idx → EReal) (ix2 ⟨512 * t.val + r.val, by have := t_lt t; omega⟩ z) := by
  have hV : V m c (Pipeline.arrRef spec0 (1 : Fin 4)) = m (c.tc.loc main_arg3) := V_same m c main_arg3 (by decide)
  show (V m c (Pipeline.arrRef spec0 (1 : Fin 4)) : S16384x1024.Idx → EReal) ((((cfgm m).win (1 : Fin 4)).blk t).view.emb (ix2 r z)) = _
  rw [hV]
  have i0 := congrFun (index_1 m t) (0 : Fin 2)
  have i1 := congrFun (index_1 m t) (1 : Fin 2)
  refine congrArg (m (c.tc.loc main_arg3) : S16384x1024.Idx → EReal) (funext fun a => Fin.ext ?_)
  match a with
  | ⟨0, _⟩ =>
    blk_simp
    rw [i0]
    show t.val * 512 + r.val = 512 * t.val + r.val
    omega
  | ⟨1, _⟩ =>
    blk_simp
    rw [i1]
    show 0 * 1024 + z.val = z.val
    omega

/-- The modulation, whole at every point. -/
theorem Mw_apply (t : Fin grid0.N) (e : Fin 8) (z : Fin 6144) :
    Mw m c t (ix2 e z) = (m (c.tc.loc main_arg4) : S8x6144.Idx → EReal) (ix2 e z) := by
  have hV : V m c (Pipeline.arrRef spec0 (2 : Fin 4)) = m (c.tc.loc main_arg4) := V_same m c main_arg4 (by decide)
  show (V m c (Pipeline.arrRef spec0 (2 : Fin 4)) : S8x6144.Idx → EReal) ((((cfgm m).win (2 : Fin 4)).blk t).view.emb (ix2 e z)) = _
  rw [hV]
  have i0 := congrFun (index_2 m t) (0 : Fin 2)
  have i1 := congrFun (index_2 m t) (1 : Fin 2)
  refine congrArg (m (c.tc.loc main_arg4) : S8x6144.Idx → EReal) (funext fun a => Fin.ext ?_)
  match a with
  | ⟨0, _⟩ =>
    blk_simp
    rw [i0]
    show 0 * 8 + e.val = e.val
    omega
  | ⟨1, _⟩ =>
    blk_simp
    rw [i1]
    show 0 * 6144 + z.val = z.val
    omega

/-- A piece's entry, by its word. -/
theorem piece_apply (tp : S32768.Idx → BitVec 32) (Y : S294912x128.Idx → EReal) (b j : ℕ) (r : Fin 512) (z : Fin 1024) (p : Fin 32768)
    (hp : slot b (512 * j + r.val) = p.val) :
    piece (F := Ideal) tp Y b j (z.val / 128) (ix4 0 0 r ⟨z.val % 128, Nat.mod_lt _ (by decide)⟩) = Cert.Hand.named tp Y p z := by
  have e : row tp (slot b (512 * j + r.val)) = (tp (ix1 p)).toNat := by
    rw [hp]
    unfold row
    rw [word_pos _ p.isLt]
    refine congrArg (fun i => (tp i).toNat) ?_
    funext a
    fin_cases a
    rfl
  unfold Cert.Hand.named
  refine congrArg Y ?_
  funext a
  refine Fin.ext ?_
  fin_cases a
  · show (8 * row tp (slot b (512 * j + r.val)) + z.val / 128) % 294912 = (8 * (tp (ix1 p)).toNat + z.val / 128) % 294912
    rw [e]
  · rfl

/-- The result at a place. -/
theorem OUT_apply (R : Fin 16384) (z : Fin 1024) :
    OUT m c (ix2 R z) = Cert.Hand.combined (tabP m c) (ysV m c) (m (c.tc.loc main_arg2)) (m (c.tc.loc main_arg3)) (m (c.tc.loc main_arg4)) R z := by
  have hp : (pt (R.val / 512)).val = R.val / 512 := by show R.val / 512 % 32 = _; omega
  show combB (F := Ideal) (grid0.coords (pt (R.val / 512))) (tabP m c) (ysV m c) (Ww m c (pt (R.val / 512))) (Xw m c (pt (R.val / 512))) (Mw m c (pt (R.val / 512)))
    (ix2 ⟨R.val % 512, Nat.mod_lt _ (by decide)⟩ z) = _
  have hR : (⟨512 * (pt (R.val / 512)).val + R.val % 512, by rw [hp]; omega⟩ : Fin 16384) = R := Fin.ext (by
    show 512 * (pt (R.val / 512)).val + R.val % 512 = R.val
    rw [hp]; omega)
  unfold combB
  rw [body_apply, weighed_eq, sum2_apply, beside_apply, beside_apply, Ww_apply, Ww_apply, Xw_apply, coord]
  rw [piece_apply (tabP m c) (ysV m c) _ 0 _ z ⟨R.val, by omega⟩ (by
      unfold slot
      rw [if_pos (by show 512 * 0 + R.val % 512 < 512; omega)]
      show 512 * (pt (R.val / 512)).val + (512 * 0 + R.val % 512) = R.val
      rw [hp]; omega),
    piece_apply (tabP m c) (ysV m c) _ 1 _ z ⟨16384 + R.val, by omega⟩ (by
      unfold slot
      rw [if_neg (by show ¬ 512 * 1 + R.val % 512 < 512; omega)]
      show 16384 + 512 * (pt (R.val / 512)).val + (512 * 1 + R.val % 512 - 512) = 16384 + R.val
      rw [hp]; omega)]
  have hg : gateRow (F := Ideal) (grid0.coords (pt (R.val / 512))) (Mw m c (pt (R.val / 512))) (ix2 0 z)
      = (m (c.tc.loc main_arg4) : S8x6144.Idx → EReal) (ix2 ⟨R.val / 8192, by omega⟩ ⟨5120 + z.val, by omega⟩) := by
    unfold gateRow
    rw [Mw_apply]
    refine congrArg (m (c.tc.loc main_arg4) : S8x6144.Idx → EReal) ?_
    funext a
    refine Fin.ext ?_
    fin_cases a
    · show (grid0.coords (pt (R.val / 512)) 0).val / 16 % 8 = R.val / 8192
      rw [coord, hp]; omega
    · show (5120 + z.val) % 6144 = 5120 + z.val
      omega
  rw [hg]
  unfold Cert.Hand.combined
  simp only [hR]
  rfl

end Cert.Kernel3Ideal.Hand

end
-- ==== Proof.CombRef.lean ====
/-
  Hand-written. The combining call's reference text: what an entry of its result holds.
-/
module

public import proofs.«01_k».proof.Proof.CombPre
public import proofs.«01_k».proof.Proof.Gen.Reference3Ideal.Run
public import Idealize.ShloMosaic.Lib.Routing.Ops
public import Idealize.ShloMosaic.Lib.Routing.OpsSet
public import Idealize.ShloMosaic.Lib.Routing.OpsPair
public import Idealize.ShloMosaic.Lib.Pipeline.Value

@[expose] public section

noncomputable section

namespace Cert.Reference3Ideal.Hand

open Cert.Reference3Ideal Cert.Reference3Ideal.Gen Idealize.ShloMosaic Idealize.ShloMosaic.TcCoe Idealize.SL.Sem Idealize.ShloMosaic.StableHlo

/-- The words of one choice, a negative one counted from the end. -/
def words (w : IVec S16384 32) : IVec S16384x1 32 :=
  broadcastInDim S16384x1 ![0] bcast_S16384_S16384x1_0 (select (cmpi .slt w (broadcastInDim S16384 ![] bcast_S_S16384 (constantI S_ 32 0#32)))
    (addi w (broadcastInDim S16384 ![] bcast_S_S16384 (constantI S_ 32 36864#32))) w)

theorem words_apply (w : IVec S16384 32) (p : Fin 16384) (h : (w (ix1 p)).toNat < 36864) : words w (ix2 p 0) = w (ix1 p) := by
  unfold words
  pointwise
  exact Routing.wrap_of_lt _ _ (by omega)

/-- The experts' outputs as rows. -/
def wide (Y : FVec Ideal S294912x128 .f32) : FVec Ideal S36864x1024 .f32 := shapeCast _ Y shapeCasts_S294912x128_S36864x1024

theorem wide_apply (Y : FVec Ideal S294912x128 .f32) (b : Fin 36864) (z : Fin 1024) :
    wide Y (ix2 b z) = Y (ix2 ⟨8 * b.val + z.val / 128, by omega⟩ ⟨z.val % 128, Nat.mod_lt _ (by decide)⟩) := by
  have h : Shape.reshapeEquiv shapeCasts_S294912x128_S36864x1024 (ix2 b z) = ix2 ⟨8 * b.val + z.val / 128, by omega⟩ ⟨z.val % 128, Nat.mod_lt _ (by decide)⟩ := by
    refine Shape.reshapeEquiv_eq_of_rowMajor _ ?_
    refine (rowMajor_val2 (d := ![294912, 128]) _ 128 rfl).trans (Eq.trans ?_ (rowMajor_val2 (d := ![36864, 1024]) _ 1024 rfl).symm)
    show (8 * b.val + z.val / 128) * 128 + z.val % 128 = b.val * 1024 + z.val
    omega
  exact congrArg Y h

/-- The rows one choice's words name. -/
def taken (Y : FVec Ideal S294912x128 .f32) (w : IVec S16384 32) : FVec Ideal S16384x1024 .f32 :=
  Host.gather gather_S36864x1024_S16384x1_S16384x1024_1_0_n_n_0_1_11024 (wide Y) (words w)

theorem taken_apply (Y : FVec Ideal S294912x128 .f32) (w : IVec S16384 32) (p : Fin 16384) (z : Fin 1024) (h : (w (ix1 p)).toNat < 36864) :
    taken Y w (ix2 p z) = Y (ix2 ⟨8 * (w (ix1 p)).toNat + z.val / 128, by omega⟩ ⟨z.val % 128, Nat.mod_lt _ (by decide)⟩) :=
  (Routing.gather_row gather_S36864x1024_S16384x1_S16384x1024_1_0_n_n_0_1_11024 rfl rfl rfl rfl rfl (wide Y) (words w) p z ⟨(w (ix1 p)).toNat, h⟩
    ((words_apply w p h).trans (BitVec.eq_of_toNat_eq (by
      rw [BitVec.toNat_ofNat]
      exact (Nat.mod_eq_of_lt (by show (w (ix1 p)).toNat < _; omega)).symm))) (by decide)).trans (wide_apply Y _ z)

/-- The first choice's words and the second's. -/
def first (tp : IVec S32768 32) : IVec S16384 32 := extractStridedSlice S16384 ![0] tp slices_S32768_S16384_0
def second (tp : IVec S32768 32) : IVec S16384 32 := extractStridedSlice S16384 ![16384] tp slices_S32768_S16384_16384

theorem first_apply (tp : IVec S32768 32) (p : Fin 16384) : first tp (ix1 p) = tp (ix1 ⟨p.val, by omega⟩) := by
  unfold first
  pointwise

theorem second_apply (tp : IVec S32768 32) (p : Fin 16384) : second tp (ix1 p) = tp (ix1 ⟨16384 + p.val, by omega⟩) := by
  unfold second
  pointwise

/-- The result, the rows taken given. -/
def joined (W : FVec Ideal S8x16384 .f32) (X : FVec Ideal S16384x1024 .f32) (M : FVec Ideal S8x6144 .f32) (A B : FVec Ideal S16384x1024 .f32) : FVec Ideal S16384x1024 .f32 :=
  shapeCast _ (addf (shapeCast _ X shapeCasts_S16384x1024_S2x8192x1024) (mulf (broadcastInDim S2x8192x1024 ![0, 1, 2] bcast_S2x1x1024_S2x8192x1024_0_1_2 (broadcastInDim S2x1x1024 ![0, 2] bcast_S2x1024_S2x1x1024_0_2 (extractStridedSlice S2x1024 ![0, 5120] (extractStridedSlice S2x6144 ![0, 0] M slices_S8x6144_S2x6144_0_0) slices_S2x6144_S2x1024_0_5120))) (shapeCast _ (addf (mulf (broadcastInDim S16384x1024 ![0, 1] bcast_S16384x1_S16384x1024_0_1 (broadcastInDim S16384x1 ![0] bcast_S16384_S16384x1_0 (shapeCast _ (extractStridedSlice S1x16384 ![0, 0] W slices_S8x16384_S1x16384_0_0) shapeCasts_S1x16384_S16384))) A)
    (mulf (broadcastInDim S16384x1024 ![0, 1] bcast_S16384x1_S16384x1024_0_1 (broadcastInDim S16384x1 ![0] bcast_S16384_S16384x1_0 (shapeCast _ (extractStridedSlice S1x16384 ![1, 0] W slices_S8x16384_S1x16384_1_0) shapeCasts_S1x16384_S16384))) B)) shapeCasts_S16384x1024_S2x8192x1024))) shapeCasts_S2x8192x1024_S16384x1024

theorem joined_apply (W : FVec Ideal S8x16384 .f32) (X : FVec Ideal S16384x1024 .f32) (M : FVec Ideal S8x6144 .f32) (A B : FVec Ideal S16384x1024 .f32)
    (r : Fin 16384) (z : Fin 1024) : joined W X M A B (ix2 r z)
      = X (ix2 r z) + M (ix2 ⟨r.val / 8192, by omega⟩ ⟨5120 + z.val, by omega⟩) * (W (ix2 0 r) * A (ix2 r z) + W (ix2 1 r) * B (ix2 r z)) := by
  unfold joined
  pointwise

/-- The reference's result, entry by entry. -/
theorem result_apply (tp : IVec S32768 32) (Y : FVec Ideal S294912x128 .f32) (W : FVec Ideal S8x16384 .f32) (X : FVec Ideal S16384x1024 .f32) (M : FVec Ideal S8x6144 .f32)
    (h : ∀ j, (tp j).toNat < 36864) (r : Fin 16384) (z : Fin 1024) :
    joined W X M (taken Y (first tp)) (taken Y (second tp)) (ix2 r z) = Cert.Hand.combined tp Y W X M r z := by
  have small : ∀ (b : ℕ), b < 36864 → (8 * b + z.val / 128) % 294912 = 8 * b + z.val / 128 := fun b hb => Nat.mod_eq_of_lt (by omega)
  have h1 := first_apply tp r
  have h2 := second_apply tp r
  rw [joined_apply, taken_apply _ _ _ _ (by rw [h1]; exact h _), taken_apply _ _ _ _ (by rw [h2]; exact h _)]
  unfold Cert.Hand.combined Cert.Hand.named
  simp only [h1, h2, small _ (h _)]

end Cert.Reference3Ideal.Hand

end
-- ==== Proof.CombValue.lean ====
/-
  Hand-written. The combining call's result and its reference's are one array.
-/
module

public import proofs.«01_k».proof.Proof.CombKer
public import proofs.«01_k».proof.Proof.CombRef

@[expose] public section

noncomputable section

namespace Cert.Kernel3Ideal.Hand

open Cert.Kernel3Ideal Cert.Kernel3Ideal.Gen
open Idealize.ShloMosaic Idealize.ShloMosaic.TcCoe

/-- The kernel's result is the reference's, every word naming a row tile that exists. -/
theorem OUT_eq (m : (ℓ : Loc nD τ sig) → Buf (Elt Ideal) ℓ) (c : Dev nD) (h : ∀ j, (tabP m c j).toNat < 36864) :
    OUT m c = Cert.Reference3Ideal.Hand.joined (m (c.tc.loc main_arg2)) (m (c.tc.loc main_arg3)) (m (c.tc.loc main_arg4))
      (Cert.Reference3Ideal.Hand.taken (m (c.tc.loc main_arg1)) (Cert.Reference3Ideal.Hand.first (m (c.tc.loc main_arg0))))
      (Cert.Reference3Ideal.Hand.taken (m (c.tc.loc main_arg1)) (Cert.Reference3Ideal.Hand.second (m (c.tc.loc main_arg0)))) := by
  funext y
  rw [eq_ix2 y]
  exact (OUT_apply m c (y 0) (y 1)).trans (Cert.Reference3Ideal.Hand.result_apply _ _ _ _ _ h (y 0) (y 1)).symm

end Cert.Kernel3Ideal.Hand

end
-- ==== Proof.MixStart.lean ====
/-
  Hand-written. What is generated for the dense layer's programs.
-/
module

public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run

@[expose] public section

end
-- ==== Proof.InStart.lean ====
/-
  Hand-written. What is generated for the input projection's programs.
-/
module

public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run

@[expose] public section

end
-- ==== Proof.MixSpec.lean ====
/-
  Hand-written. A token's row through the dense layer: the two heads' outputs put through the output projection, the residual sum
  under its gate, the row divided by its root mean square and modulated, the gated layer, and the second residual sum.
-/
module

public import proofs.«01_k».proof.Proof.Spec
public import proofs.«01_k».proof.Proof.FfnSpec

@[expose] public section

noncomputable section

namespace Cert.Hand

open Idealize.ShloMosaic

/-- A token's row after the output projection: `p` and `q` are its two halves before it, `x` the residual stream, `g` the gate. -/
def mixed (p q : Fin 512 → EReal) (W : Fin 1024 → Fin 1024 → EReal) (x g : Fin 1024 → EReal) (k : Fin 1024) : EReal :=
  x k + g k * ((∑ j : Fin 512, p j * W ⟨j.val, by omega⟩ k) + ∑ j : Fin 512, q j * W ⟨512 + j.val, by omega⟩ k)

/-- A row divided by its root mean square, times the gain `n`, scaled and shifted. -/
def normed (x n sc sh : Fin 1024 → EReal) (k : Fin 1024) : EReal :=
  x k * Ideal.rsqrt ((∑ j : Fin 1024, x j * x j) * (((1 / 1024 : ℝ)) : EReal) + Ideal.ofBits .f32 0x358637BD#32) * n k * (1 + sc k) + sh k

/-- The row after the dense layer. -/
def dense (y n sc sh g : Fin 1024 → EReal) (wg wu : Fin 1024 → Fin 2816 → EReal) (wd : Fin 2816 → Fin 1024 → EReal) (a : Fin 1024) : EReal :=
  y a + g a * image (normed y n sc sh) wg wu wd a

/-- The result at a place. -/
def layer4 (p q : (⟨2, ![16384, 512]⟩ : Shape).Idx → EReal) (W : (⟨3, ![2, 1024, 1024]⟩ : Shape).Idx → EReal) (x : (⟨2, ![16384, 1024]⟩ : Shape).Idx → EReal)
    (md : (⟨2, ![8, 6144]⟩ : Shape).Idx → EReal) (n : (⟨2, ![2, 1024]⟩ : Shape).Idx → EReal) (wg wu : (⟨3, ![1, 1024, 2816]⟩ : Shape).Idx → EReal)
    (wd : (⟨3, ![1, 2816, 1024]⟩ : Shape).Idx → EReal) (r : Fin 16384) (a : Fin 1024) : EReal :=
  dense
    (mixed (fun j => p (ix2 r j)) (fun j => q (ix2 r j)) (fun j k => W (ix3 0 j k)) (fun k => x (ix2 r k)) (fun k => md (ix2 ⟨r.val / 8192, by omega⟩ ⟨2048 + k.val, by omega⟩)))
    (fun k => n (ix2 0 k)) (fun k => md (ix2 ⟨r.val / 8192, by omega⟩ ⟨4096 + k.val, by omega⟩)) (fun k => md (ix2 ⟨r.val / 8192, by omega⟩ ⟨3072 + k.val, by omega⟩))
    (fun k => md (ix2 ⟨r.val / 8192, by omega⟩ ⟨5120 + k.val, by omega⟩)) (fun k f => wg (ix3 0 k f)) (fun k f => wu (ix3 0 k f)) (fun f k => wd (ix3 0 f k)) a

end Cert.Hand

end
-- ==== Proof.InSpec.lean ====
/-
  Hand-written. A token's row through the input projection: the row divided by its root mean square and modulated, the seven groups of
  columns it is multiplied by, and what is made of each: the queries and keys divided by their own root mean square and turned by the
  token's angles, the keys of the two components kept apart, the values followed by a column of ones.
-/
module

public import proofs.«01_k».proof.Proof.MixSpec

@[expose] public section

noncomputable section

namespace Cert.Hand

open Idealize.ShloMosaic

/-- Number `i` of the 64 that column `j` belongs to. -/
def mate (j : Fin 512) (i : Fin 64) : Fin 512 := ⟨64 * (j.val / 64) + i.val, by omega⟩

/-- A column's place among its 64. -/
def lane (j : Fin 512) : Fin 64 := ⟨j.val % 64, Nat.mod_lt _ (by decide)⟩

/-- A row divided, 64 numbers at a time, by their root mean square, times the gain. -/
def unit64 (a : Fin 512 → EReal) (g : Fin 64 → EReal) (j : Fin 512) : EReal :=
  a j * Ideal.rsqrt ((∑ i : Fin 64, a (mate j i) * a (mate j i)) * (((1 / 64 : ℝ)) : EReal) + Ideal.ofBits .f32 0x358637BD#32) * g (lane j)

/-- What turns into column `j`: the number 32 places on with its sign changed, or the number 32 places back. -/
def across (y : Fin 512 → EReal) (j : Fin 512) : EReal :=
  if j.val % 64 < 32 then -y ⟨(j.val + 32) % 512, Nat.mod_lt _ (by decide)⟩ else y ⟨(j.val + 480) % 512, Nat.mod_lt _ (by decide)⟩

/-- A row turned, 64 numbers at a time, by angles of cosines `C` and sines `S`. -/
def turned (y : Fin 512 → EReal) (C S : Fin 64 → EReal) (j : Fin 512) : EReal := y j * C (lane j) + across y j * S (lane j)

section Arrays

variable (x : (⟨2, ![16384, 1024]⟩ : Shape).Idx → EReal) (md : (⟨2, ![8, 6144]⟩ : Shape).Idx → EReal) (n : (⟨2, ![2, 1024]⟩ : Shape).Idx → EReal)
  (W : (⟨3, ![2, 1024, 3584]⟩ : Shape).Idx → EReal) (g : (⟨2, ![2, 64]⟩ : Shape).Idx → EReal) (C S : (⟨2, ![8192, 64]⟩ : Shape).Idx → EReal)

/-- Row `R` normalized and modulated. -/
def entering (R : Fin 16384) (k : Fin 1024) : EReal :=
  normed (fun k => x (ix2 R k)) (fun k => n (ix2 0 k)) (fun k => md (ix2 ⟨R.val / 8192, by omega⟩ ⟨1024 + k.val, by omega⟩))
    (fun k => md (ix2 ⟨R.val / 8192, by omega⟩ ⟨0 + k.val, by omega⟩)) k

/-- Its 512 products from column `o` on. -/
def group (o : ℕ) (ho : o + 512 ≤ 3584) (R : Fin 16384) (j : Fin 512) : EReal :=
  ∑ k : Fin 1024, entering x md n R k * W (ix3 0 k ⟨o + j.val, by omega⟩)

/-- The 512 products from column `o` on, normalized and turned. -/
def roped (o : ℕ) (ho : o + 512 ≤ 3584) (R : Fin 16384) (j : Fin 512) : EReal :=
  turned (unit64 (group x md n W o ho R) (fun d => g (ix2 0 d))) (fun d => C (ix2 ⟨R.val % 8192, Nat.mod_lt _ (by decide)⟩ d))
    (fun d => S (ix2 ⟨R.val % 8192, Nat.mod_lt _ (by decide)⟩ d)) j

/-- The query. -/
def query (R : Fin 16384) (j : Fin 512) : EReal := roped x md n W g C S 2048 (by decide) R j * Ideal.ofBits .f32 0x3E38AA3B#32

/-- The keys of the first component, zeros in the other's place. -/
def key1 (R : Fin 16384) (j : Fin 512) : EReal := if j.val % 128 < 64 then roped x md n W g C S 2560 (by decide) R j else 0

/-- The keys of the second component, zeros in the other's place. -/
def key2 (R : Fin 16384) (j : Fin 512) : EReal := if j.val % 128 < 64 then 0 else roped x md n W g C S 2560 (by decide) R j

/-- The values: a head's 128, a one, and 127 zeros. -/
def worth (R : Fin 16384) (j : Fin 1024) : EReal :=
  if j.val % 256 < 128 then group x md n W 3072 (by decide) R ⟨(j.val / 256 * 128 + j.val % 256) % 512, Nat.mod_lt _ (by decide)⟩
  else if j.val % 256 = 128 then 1 else 0

end Arrays

/-- A sum over 512 numbers in which only the 64 of column `j` count. -/
theorem sum_mates (f : Fin 512 → EReal) (j : Fin 512) :
    (∑ i : Fin 512, f i * (if i.val / 64 = j.val / 64 then (1 : EReal) else 0)) = ∑ i : Fin 64, f (mate j i) := by
  rw [← (finProdFinEquiv (m := 8) (n := 64)).sum_comp (fun i : Fin 512 => f i * (if i.val / 64 = j.val / 64 then (1 : EReal) else 0)), Fintype.sum_prod_type]
  have hj : j.val / 64 < 8 := by omega
  rw [Finset.sum_eq_single (⟨j.val / 64, hj⟩ : Fin 8)]
  · refine Finset.sum_congr rfl fun i _ => ?_
    have h : (finProdFinEquiv ((⟨j.val / 64, hj⟩ : Fin 8), i) : Fin 512) = mate j i := Fin.ext (by show i.val + 64 * (j.val / 64) = 64 * (j.val / 64) + i.val; omega)
    rw [h, if_pos (by show (64 * (j.val / 64) + i.val) / 64 = j.val / 64; omega), mul_one]
  · intro b _ hb
    refine Finset.sum_eq_zero fun i _ => ?_
    have hv : (finProdFinEquiv (b, i) : Fin 512).val = i.val + 64 * b.val := rfl
    have hne : b.val ≠ j.val / 64 := fun h => hb (Fin.ext h)
    rw [if_neg (by rw [hv]; omega), mul_zero]
  · intro h
    exact absurd (Finset.mem_univ _) h

end Cert.Hand

end
-- ==== Proof.InRef.lean ====
/-
  Hand-written. The input projection's reference text over the extended reals: its normalization, its projection, the queries and keys
  normalized and turned, and what its eight results hold.
-/
module

public import proofs.«01_k».proof.Proof.Gen.Reference5Ideal.Run
public import proofs.«01_k».proof.Proof.InSpec
public import Idealize.ShloMosaic.Lib.Pipeline.Value
public import Idealize.ShloMosaic.Lib.Pointwise

@[expose] public section

noncomputable section

namespace Cert.Reference5Ideal.Hand

open Cert.Reference5Ideal Cert.Reference5Ideal.Gen Cert.Reference5Ideal.Value Idealize.ShloMosaic Idealize.ShloMosaic.TcCoe Idealize.SL.Sem Idealize.ShloMosaic.StableHlo

/-! ## The angles -/

/-- The sixteen frequencies. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Tokens' positions along an axis times the frequencies. -/
def spread (p : FVec Ideal S8192 .f32) : FVec Ideal S8192x16 .f32 :=
  mulf (broadcastInDim S8192x16 ![0, 1] bcast_S8192x1_S8192x16_0_1 (broadcastInDim S8192x1 ![0] bcast_S8192_S8192x1_0 p))
    (broadcastInDim S8192x16 ![0, 1] bcast_S1x16_S8192x16_0_1 (broadcastInDim S1x16 ![1] bcast_S16_S1x16_1 freqs))

/-- The tokens' angles: 16 of the row, 16 of the column, and both again. -/
def angles : FVec Ideal S8192x64 .f32 :=
  let a : FVec Ideal S8192x32 .f32 := concatenate S8192x32 1
    [⟨S8192x16, spread (shapeCast _ (broadcastInDim S128x64 ![0] bcast_S128_S128x64_0 (sitofp .f32 (iotaInDim S128 32 0) : FVec Ideal S128 .f32)) shapeCasts_S128x64_S8192)⟩,
     ⟨S8192x16, spread (shapeCast _ (broadcastInDim S128x64 ![0, 1] bcast_S1x64_S128x64_0_1 (shapeCast S1x64 (sitofp .f32 (iotaInDim S64 32 0) : FVec Ideal S64 .f32) shapeCasts_S64_S1x64)) shapeCasts_S128x64_S8192)⟩]
    concatenates_S8192x16_S8192x16_S8192x32_d1
  concatenate S8192x64 1 [⟨S8192x32, a⟩, ⟨S8192x32, a⟩] concatenates_S8192x32_S8192x32_S8192x64_d1

/-- Their cosines. -/
def cosines : FVec Ideal S8192x64 .f32 := Host.cos angles
/-- Their sines. -/
def sines : FVec Ideal S8192x64 .f32 := Host.sin angles

/-! ## The projection -/

/-- The modulation's rows from column `o` on, one of each half of the batch. -/
def part (md : FVec Ideal S8x6144 .f32) (o : ℕ) (h : S2x6144.Slices ![0, o] S2x1024) : FVec Ideal S2x1x1024 .f32 :=
  broadcastInDim S2x1x1024 ![0, 2] bcast_S2x1024_S2x1x1024_0_2
    (extractStridedSlice S2x1024 ![0, o] (extractStridedSlice S2x6144 ![0, 0] md slices_S8x6144_S2x6144_0_0) h)

theorem part0_apply (md : FVec Ideal S8x6144 .f32) (b : Fin 2) (k : Fin 1024) :
    part md 0 slices_S2x6144_S2x1024_0_0 (ix3 b 0 k) = md (ix2 ⟨b.val, by omega⟩ ⟨0 + k.val, by omega⟩) := by
  unfold part
  pointwise
theorem part1_apply (md : FVec Ideal S8x6144 .f32) (b : Fin 2) (k : Fin 1024) :
    part md 1024 slices_S2x6144_S2x1024_0_1024 (ix3 b 0 k) = md (ix2 ⟨b.val, by omega⟩ ⟨1024 + k.val, by omega⟩) := by
  unfold part
  pointwise

/-- The rows normalized and modulated. -/
def norms (y : FVec Ideal S2x8192x1024 .f32) (n : FVec Ideal S2x1024 .f32) (sc sh : FVec Ideal S2x1x1024 .f32) : FVec Ideal S2x8192x1024 .f32 :=
  addf (mulf (mulf (mulf y (broadcastInDim S2x8192x1024 ![0, 1, 2] bcast_S2x8192x1_S2x8192x1024_0_1_2 (Host.rsqrt (addf (Host.divf (broadcastInDim S2x8192x1 ![0, 1] bcast_S2x8192_S2x8192x1_0_1
      (Host.reduceAdd (mulf y y) (constant S_ .f32 0x00000000#32) reducesTo_S2x8192x1024_S2x8192_d2 h_S_)) (broadcastInDim S2x8192x1 ![] bcast_S_S2x8192x1 (constant S_ .f32 0x44800000#32)))
      (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2
        (shapeCast _ (extractStridedSlice S1x1024 ![0, 0] n slices_S2x1024_S1x1024_0_0) shapeCasts_S1x1024_S1024))))
      (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

theorem norms_apply (y : FVec Ideal S2x8192x1024 .f32) (n : FVec Ideal S2x1024 .f32) (sc sh : FVec Ideal S2x1x1024 .f32) (b : Fin 2) (r : Fin 8192) (k : Fin 1024) :
    norms y n sc sh (ix3 b r k) = Cert.Hand.normed (fun j => y (ix3 b r j)) (fun j => n (ix2 0 j)) (fun j => sc (ix3 b 0 j)) (fun j => sh (ix3 b 0 j)) k := by
  unfold norms Cert.Hand.normed
  pointwise
  rw [Cert.Hand.c_1024]
  simp only [Cert.Hand.div_1024]

/-- All 3584 products of every row. -/
def products (y : FVec Ideal S2x8192x1024 .f32) (W : FVec Ideal S2x1024x3584 .f32) : FVec Ideal S2x8192x3584 .f32 :=
  Host.dotGeneral dot_S2x8192x1024_S1024x3584_S2x8192x3584_2_0_01_1_n_n none y
    (shapeCast _ (extractStridedSlice S1x1024x3584 ![0, 0, 0] W slices_S2x1024x3584_S1x1024x3584_0_0_0) shapeCasts_S1x1024x3584_S1024x3584)

theorem products_apply (y : FVec Ideal S2x8192x1024 .f32) (W : FVec Ideal S2x1024x3584 .f32) (b : Fin 2) (r : Fin 8192) (j : Fin 3584) :
    products y W (ix3 b r j) = ∑ k : Fin 1024, y (ix3 b r k) * W (ix3 0 k j) := by
  unfold products
  pointwise

/-! ## What is made of the groups -/

/-- A group's columns as heads, components and their 64 numbers, the tokens next to last. -/
def heads (A : FVec Ideal S2x8192x512 .f32) : FVec Ideal S2x4x2x8192x64 .f32 :=
  transpose S2x4x2x8192x64 [0, 2, 3, 1, 4] (shapeCast _ A shapeCasts_S2x8192x512_S2x8192x4x2x64 : FVec Ideal S2x8192x4x2x64 .f32) transposes_S2x8192x4x2x64_S2x4x2x8192x64_0_2_3_1_4

theorem heads_apply (A : FVec Ideal S2x8192x512 .f32) (b : Fin 2) (h : Fin 4) (u : Fin 2) (k : Fin 8192) (d : Fin 64) :
    heads A (ix5 b h u k d) = A (ix3 b k ⟨h.val * 128 + u.val * 64 + d.val, by omega⟩) := by
  unfold heads
  pointwise

/-- Sixty-four numbers at a time divided by their root mean square, times the gain. -/
def units (Y : FVec Ideal S2x4x2x8192x64 .f32) (g : FVec Ideal S2x64 .f32) : FVec Ideal S2x4x2x8192x64 .f32 :=
  mulf (mulf Y (broadcastInDim S2x4x2x8192x64 ![0, 1, 2, 3, 4] bcast_S2x4x2x8192x1_S2x4x2x8192x64_0_1_2_3_4 (Host.rsqrt (addf (Host.divf (broadcastInDim S2x4x2x8192x1 ![0, 1, 2, 3] bcast_S2x4x2x8192_S2x4x2x8192x1_0_1_2_3
      (Host.reduceAdd (mulf Y Y) (constant S_ .f32 0x00000000#32) reducesTo_S2x4x2x8192x64_S2x4x2x8192_d4 h_S_)) (broadcastInDim S2x4x2x8192x1 ![] bcast_S_S2x4x2x8192x1 (constant S_ .f32 0x42800000#32)))
      (broadcastInDim S2x4x2x8192x1 ![] bcast_S_S2x4x2x8192x1 (constant S_ .f32 0x358637BD#32))))))
    (broadcastInDim S2x4x2x8192x64 ![0, 1, 2, 3, 4] bcast_S1x1x1x1x64_S2x4x2x8192x64_0_1_2_3_4 (broadcastInDim S1x1x1x1x64 ![4] bcast_S64_S1x1x1x1x64_4
      (shapeCast _ (extractStridedSlice S1x64 ![0, 0] g slices_S2x64_S1x64_0_0) shapeCasts_S1x64_S64)))

theorem c_64 : Ideal.ofBits .f32 0x42800000#32 = ((64 : ℝ) : EReal) := by
  simp [Ideal.ofBits, Ideal.ieee, -EReal.coe_mul]; norm_num

theorem div_64 (x : EReal) : Ideal.div x ((64 : ℝ) : EReal) = x * (((1 / 64 : ℝ)) : EReal) := Ideal.div_coe (by norm_num) x

theorem units_apply (Y : FVec Ideal S2x4x2x8192x64 .f32) (g : FVec Ideal S2x64 .f32) (b : Fin 2) (h : Fin 4) (u : Fin 2) (k : Fin 8192) (d : Fin 64) :
    units Y g (ix5 b h u k d)
      = Y (ix5 b h u k d) * Ideal.rsqrt ((∑ i : Fin 64, Y (ix5 b h u k i) * Y (ix5 b h u k i)) * (((1 / 64 : ℝ)) : EReal) + Ideal.ofBits .f32 0x358637BD#32) * g (ix2 0 d) := by
  unfold units
  pointwise
  rw [c_64, div_64]

/-- The two halves of the 64 exchanged, the second with its sign changed. -/
def swapped (Y : FVec Ideal S2x4x2x8192x64 .f32) : FVec Ideal S2x4x2x8192x64 .f32 :=
  concatenate S2x4x2x8192x64 4
    [⟨S2x4x2x8192x32, Host.negf (extractStridedSlice S2x4x2x8192x32 ![0, 0, 0, 0, 32] Y slices_S2x4x2x8192x64_S2x4x2x8192x32_0_0_0_0_32)⟩,
     ⟨S2x4x2x8192x32, extractStridedSlice S2x4x2x8192x32 ![0, 0, 0, 0, 0] Y slices_S2x4x2x8192x64_S2x4x2x8192x32_0_0_0_0_0⟩]
    concatenates_S2x4x2x8192x32_S2x4x2x8192x32_S2x4x2x8192x64_d4

theorem swapped_apply (Y : FVec Ideal S2x4x2x8192x64 .f32) (b : Fin 2) (h : Fin 4) (u : Fin 2) (k : Fin 8192) (d : Fin 64) :
    swapped Y (ix5 b h u k d) = if d.val < 32 then -Y (ix5 b h u k ⟨(d.val + 32) % 64, Nat.mod_lt _ (by decide)⟩) else Y (ix5 b h u k ⟨(d.val + 32) % 64, Nat.mod_lt _ (by decide)⟩) := by
  unfold swapped
  pointwise
  split_ifs with hd
  · exact congrArg (fun i : Fin 64 => -Y (ix5 b h u k i)) (Fin.ext (by show 32 + d.val = (d.val + 32) % 64; omega))
  · exact congrArg (fun i : Fin 64 => Y (ix5 b h u k i)) (Fin.ext (by show d.val - 32 = (d.val + 32) % 64; omega))
  · rename_i hx
    exact absurd rfl hx

/-- Sixty-four numbers at a time turned by the token's angles. -/
def turns (Y : FVec Ideal S2x4x2x8192x64 .f32) (C S : FVec Ideal S8192x64 .f32) : FVec Ideal S2x4x2x8192x64 .f32 :=
  addf (mulf Y (broadcastInDim S2x4x2x8192x64 ![0, 1, 2, 3, 4] bcast_S1x1x1x8192x64_S2x4x2x8192x64_0_1_2_3_4 (broadcastInDim S1x1x1x8192x64 ![3, 4] bcast_S8192x64_S1x1x1x8192x64_3_4 C)))
    (mulf (swapped Y) (broadcastInDim S2x4x2x8192x64 ![0, 1, 2, 3, 4] bcast_S1x1x1x8192x64_S2x4x2x8192x64_0_1_2_3_4 (broadcastInDim S1x1x1x8192x64 ![3, 4] bcast_S8192x64_S1x1x1x8192x64_3_4 S)))

theorem turns_apply (Y : FVec Ideal S2x4x2x8192x64 .f32) (C S : FVec Ideal S8192x64 .f32) (b : Fin 2) (h : Fin 4) (u : Fin 2) (k : Fin 8192) (d : Fin 64) :
    turns Y C S (ix5 b h u k d) = Y (ix5 b h u k d) * C (ix2 k d) + swapped Y (ix5 b h u k d) * S (ix2 k d) := by
  unfold turns
  generalize swapped Y = Z
  pointwise

end Cert.Reference5Ideal.Hand

end
-- ==== Proof.InLay.lean ====
/-
  Hand-written. How the input projection's reference text lays out its eight results.
-/
module

public import proofs.«01_k».proof.Proof.Gen.Reference5Ideal.Run
public import proofs.«01_k».proof.Proof.InRef
public import Idealize.ShloMosaic.Lib.Pipeline.Value
public import Idealize.ShloMosaic.Lib.Pointwise

@[expose] public section

noncomputable section

namespace Cert.Reference5Ideal.Hand

open Cert.Reference5Ideal Cert.Reference5Ideal.Gen Cert.Reference5Ideal.Value Idealize.ShloMosaic Idealize.ShloMosaic.TcCoe Idealize.SL.Sem Idealize.ShloMosaic.StableHlo

/-! ## The results -/

section Results

variable (P : FVec Ideal S2x8192x3584 .f32)

/-- The first group. -/
def out0 : FVec Ideal S16384x512 .bf16 :=
  truncf .bf16 (shapeCast S16384x512 (extractStridedSlice S2x8192x512 ![0, 0, 0] P slices_S2x8192x3584_S2x8192x512_0_0_0) shapeCasts_S2x8192x512_S16384x512 : FVec Ideal S16384x512 .f32) bitsLt_bf16_f32
/-- The second group, scaled. -/
def out1 : FVec Ideal S16384x512 .bf16 :=
  truncf .bf16 (shapeCast S16384x512 (mulf (extractStridedSlice S2x8192x512 ![0, 0, 512] P slices_S2x8192x3584_S2x8192x512_0_0_512) (broadcastInDim S2x8192x512 ![] bcast_S_S2x8192x512 (constant S_ .f32 0x3DB504F3#32))) shapeCasts_S2x8192x512_S16384x512 : FVec Ideal S16384x512 .f32) bitsLt_bf16_f32
/-- The third group. -/
def out2 : FVec Ideal S16384x512 .bf16 :=
  truncf .bf16 (shapeCast S16384x512 (extractStridedSlice S2x8192x512 ![0, 0, 1024] P slices_S2x8192x3584_S2x8192x512_0_0_1024) shapeCasts_S2x8192x512_S16384x512 : FVec Ideal S16384x512 .f32) bitsLt_bf16_f32
/-- The fourth group. -/
def out3 : FVec Ideal S16384x512 .bf16 :=
  truncf .bf16 (shapeCast S16384x512 (extractStridedSlice S2x8192x512 ![0, 0, 1536] P slices_S2x8192x3584_S2x8192x512_0_0_1536) shapeCasts_S2x8192x512_S16384x512 : FVec Ideal S16384x512 .f32) bitsLt_bf16_f32

/-- The queries, laid flat. -/
def out4 (Y : FVec Ideal S2x4x2x8192x64 .f32) : FVec Ideal S16384x512 .bf16 :=
  truncf .bf16 (shapeCast S16384x512 (transpose S2x8192x4x2x64 [0, 3, 1, 2, 4] (mulf Y (broadcastInDim S2x4x2x8192x64 ![] bcast_S_S2x4x2x8192x64 (constant S_ .f32 0x3E38AA3B#32))) transposes_S2x4x2x8192x64_S2x8192x4x2x64_0_3_1_2_4)
    shapeCasts_S2x8192x4x2x64_S16384x512 : FVec Ideal S16384x512 .f32) bitsLt_bf16_f32

/-- Zeros for one component. -/
def none4 : FVec Ideal S2x4x1x8192x64 .f32 := broadcastInDim S2x4x1x8192x64 ![] bcast_S_S2x4x1x8192x64 (constant S_ .f32 0x00000000#32)

/-- Keys laid flat, the tokens last. -/
def lay (Z : FVec Ideal S2x4x2x8192x64 .f32) : FVec Ideal S2x512x8192 .bf16 :=
  truncf .bf16 (shapeCast S2x512x8192 (transpose S2x4x2x64x8192 [0, 1, 2, 4, 3] Z transposes_S2x4x2x8192x64_S2x4x2x64x8192_0_1_2_4_3) shapeCasts_S2x4x2x64x8192_S2x512x8192 : FVec Ideal S2x512x8192 .f32) bitsLt_bf16_f32

/-- The first components, zeros in the second's place. -/
def firsts (Y : FVec Ideal S2x4x2x8192x64 .f32) : FVec Ideal S2x4x2x8192x64 .f32 :=
  concatenate S2x4x2x8192x64 2 [⟨S2x4x1x8192x64, extractStridedSlice S2x4x1x8192x64 ![0, 0, 0, 0, 0] Y slices_S2x4x2x8192x64_S2x4x1x8192x64_0_0_0_0_0⟩, ⟨S2x4x1x8192x64, none4⟩]
    concatenates_S2x4x1x8192x64_S2x4x1x8192x64_S2x4x2x8192x64_d2
/-- The second components, zeros in the first's place. -/
def seconds (Y : FVec Ideal S2x4x2x8192x64 .f32) : FVec Ideal S2x4x2x8192x64 .f32 :=
  concatenate S2x4x2x8192x64 2 [⟨S2x4x1x8192x64, none4⟩, ⟨S2x4x1x8192x64, extractStridedSlice S2x4x1x8192x64 ![0, 0, 1, 0, 0] Y slices_S2x4x2x8192x64_S2x4x1x8192x64_0_0_1_0_0⟩]
    concatenates_S2x4x1x8192x64_S2x4x1x8192x64_S2x4x2x8192x64_d2

/-- The values with their column of ones. -/
def packed : FVec Ideal S2x8192x4x256 .f32 :=
  concatenate S2x8192x4x256 3
    [⟨S2x8192x4x128, shapeCast S2x8192x4x128 (extractStridedSlice S2x8192x512 ![0, 0, 3072] P slices_S2x8192x3584_S2x8192x512_0_0_3072) shapeCasts_S2x8192x512_S2x8192x4x128⟩,
     ⟨S2x8192x4x1, broadcastInDim S2x8192x4x1 ![] bcast_S_S2x8192x4x1 (constant S_ .f32 0x3F800000#32)⟩,
     ⟨S2x8192x4x127, broadcastInDim S2x8192x4x127 ![] bcast_S_S2x8192x4x127 (constant S_ .f32 0x00000000#32)⟩]
    concatenates_S2x8192x4x128_S2x8192x4x1_S2x8192x4x127_S2x8192x4x256_d3

/-- The values laid flat. -/
def out7 (V : FVec Ideal S2x8192x4x256 .f32) : FVec Ideal S2x8192x1024 .bf16 :=
  truncf .bf16 (shapeCast S2x8192x1024 V shapeCasts_S2x8192x4x256_S2x8192x1024 : FVec Ideal S2x8192x1024 .f32) bitsLt_bf16_f32

theorem out0_apply (R : Fin 16384) (j : Fin 512) :
    out0 P (ix2 R j) = P (ix3 ⟨R.val / 8192, by omega⟩ ⟨R.val % 8192, Nat.mod_lt _ (by decide)⟩ ⟨0 + j.val, by omega⟩) := by
  unfold out0
  pointwise
theorem out1_apply (R : Fin 16384) (j : Fin 512) :
    out1 P (ix2 R j) = P (ix3 ⟨R.val / 8192, by omega⟩ ⟨R.val % 8192, Nat.mod_lt _ (by decide)⟩ ⟨512 + j.val, by omega⟩) * Ideal.ofBits .f32 0x3DB504F3#32 := by
  unfold out1
  pointwise
theorem out2_apply (R : Fin 16384) (j : Fin 512) :
    out2 P (ix2 R j) = P (ix3 ⟨R.val / 8192, by omega⟩ ⟨R.val % 8192, Nat.mod_lt _ (by decide)⟩ ⟨1024 + j.val, by omega⟩) := by
  unfold out2
  pointwise
theorem out3_apply (R : Fin 16384) (j : Fin 512) :
    out3 P (ix2 R j) = P (ix3 ⟨R.val / 8192, by omega⟩ ⟨R.val % 8192, Nat.mod_lt _ (by decide)⟩ ⟨1536 + j.val, by omega⟩) := by
  unfold out3
  pointwise

theorem out4_apply (Y : FVec Ideal S2x4x2x8192x64 .f32) (R : Fin 16384) (j : Fin 512) :
    out4 Y (ix2 R j) = Y (ix5 ⟨R.val / 8192, by omega⟩ ⟨j.val / 128, by omega⟩ ⟨j.val / 64 % 2, Nat.mod_lt _ (by decide)⟩ ⟨R.val % 8192, Nat.mod_lt _ (by decide)⟩ (Cert.Hand.lane j)) * Ideal.ofBits .f32 0x3E38AA3B#32 := by
  unfold out4 Cert.Hand.lane
  pointwise

theorem lay_apply (Z : FVec Ideal S2x4x2x8192x64 .f32) (b : Fin 2) (j : Fin 512) (k : Fin 8192) :
    lay Z (ix3 b j k) = Z (ix5 b ⟨j.val / 128, by omega⟩ ⟨j.val / 64 % 2, Nat.mod_lt _ (by decide)⟩ k (Cert.Hand.lane j)) := by
  unfold lay Cert.Hand.lane
  pointwise

theorem firsts_apply (Y : FVec Ideal S2x4x2x8192x64 .f32) (b : Fin 2) (h : Fin 4) (u : Fin 2) (k : Fin 8192) (d : Fin 64) :
    firsts Y (ix5 b h u k d) = if u.val < 1 then Y (ix5 b h u k d) else 0 := by
  unfold firsts none4
  pointwise
  split_ifs <;> rfl

theorem seconds_apply (Y : FVec Ideal S2x4x2x8192x64 .f32) (b : Fin 2) (h : Fin 4) (u : Fin 2) (k : Fin 8192) (d : Fin 64) :
    seconds Y (ix5 b h u k d) = if u.val < 1 then 0 else Y (ix5 b h u k d) := by
  unfold seconds none4
  pointwise
  split_ifs with hu
  · rfl
  · exact congrArg (fun i : Fin 2 => Y (ix5 b h i k d)) (Fin.ext (by show 1 + (u.val - 1) = u.val; omega))
  · rename_i hx
    exact absurd rfl hx

theorem packed_apply (b : Fin 2) (k : Fin 8192) (h : Fin 4) (e : Fin 256) :
    packed P (ix4 b k h e) = if he : e.val < 128 then P (ix3 b k ⟨3072 + (h.val * 128 + e.val), by omega⟩) else if he : e.val - 128 < 1 then 1 else 0 := by
  unfold packed
  pointwise

theorem out7_apply (V : FVec Ideal S2x8192x4x256 .f32) (b : Fin 2) (k : Fin 8192) (j : Fin 1024) :
    out7 V (ix3 b k j) = V (ix4 b k ⟨j.val / 256, by omega⟩ ⟨j.val % 256, Nat.mod_lt _ (by decide)⟩) := by
  unfold out7
  pointwise

end Results

end Cert.Reference5Ideal.Hand

end
-- ==== Proof.InRes.lean ====
/-
  Hand-written. What the eight results of the input projection's reference text hold, place by place.
-/
module

public import proofs.«01_k».proof.Proof.Gen.Reference5Ideal.Run
public import proofs.«01_k».proof.Proof.InLay
public import Idealize.ShloMosaic.Lib.Pipeline.Value
public import Idealize.ShloMosaic.Lib.Pointwise

@[expose] public section

noncomputable section

namespace Cert.Reference5Ideal.Hand

open Cert.Reference5Ideal Cert.Reference5Ideal.Gen Cert.Reference5Ideal.Value Idealize.ShloMosaic Idealize.ShloMosaic.TcCoe Idealize.SL.Sem Idealize.ShloMosaic.StableHlo

/-! ## Normalized and turned -/

theorem units_heads (A : FVec Ideal S2x8192x512 .f32) (g : FVec Ideal S2x64 .f32) (b : Fin 2) (h : Fin 4) (u : Fin 2) (k : Fin 8192) (d : Fin 64) :
    units (heads A) g (ix5 b h u k d)
      = Cert.Hand.unit64 (fun j => A (ix3 b k j)) (fun d => g (ix2 0 d)) ⟨h.val * 128 + u.val * 64 + d.val, by omega⟩ := by
  have hm : ∀ i : Fin 64, Cert.Hand.mate ⟨h.val * 128 + u.val * 64 + d.val, by omega⟩ i = ⟨h.val * 128 + u.val * 64 + i.val, by omega⟩ := fun i =>
    Fin.ext (by show 64 * ((h.val * 128 + u.val * 64 + d.val) / 64) + i.val = h.val * 128 + u.val * 64 + i.val; omega)
  have hl : Cert.Hand.lane ⟨h.val * 128 + u.val * 64 + d.val, by omega⟩ = d :=
    Fin.ext (by show (h.val * 128 + u.val * 64 + d.val) % 64 = d.val; omega)
  rw [units_apply]
  unfold Cert.Hand.unit64
  simp only [heads_apply, hm, hl]

theorem turns_heads (A : FVec Ideal S2x8192x512 .f32) (g : FVec Ideal S2x64 .f32) (C S : FVec Ideal S8192x64 .f32) (b : Fin 2) (h : Fin 4) (u : Fin 2) (k : Fin 8192) (d : Fin 64) :
    turns (units (heads A) g) C S (ix5 b h u k d)
      = Cert.Hand.turned (Cert.Hand.unit64 (fun j => A (ix3 b k j)) (fun d => g (ix2 0 d))) (fun d => C (ix2 k d)) (fun d => S (ix2 k d))
          ⟨h.val * 128 + u.val * 64 + d.val, by omega⟩ := by
  have hl : Cert.Hand.lane ⟨h.val * 128 + u.val * 64 + d.val, by omega⟩ = d :=
    Fin.ext (by show (h.val * 128 + u.val * 64 + d.val) % 64 = d.val; omega)
  rw [turns_apply, swapped_apply]
  simp only [units_heads]
  unfold Cert.Hand.turned
  rw [hl]
  generalize Cert.Hand.unit64 (fun j => A (ix3 b k j)) (fun d => g (ix2 0 d)) = z
  refine congrArg (fun v => z ⟨h.val * 128 + u.val * 64 + d.val, by omega⟩ * C (ix2 k d) + v * S (ix2 k d)) ?_
  unfold Cert.Hand.across
  have hd : (h.val * 128 + u.val * 64 + d.val) % 64 = d.val := by omega
  by_cases hc : d.val < 32
  · rw [if_pos hc, if_pos (by show (h.val * 128 + u.val * 64 + d.val) % 64 < 32; omega)]
    exact congrArg (fun i : Fin 512 => -z i) (Fin.ext (by show h.val * 128 + u.val * 64 + (d.val + 32) % 64 = (h.val * 128 + u.val * 64 + d.val + 32) % 512; omega))
  · rw [if_neg hc, if_neg (by show ¬ (h.val * 128 + u.val * 64 + d.val) % 64 < 32; omega)]
    exact congrArg (fun i : Fin 512 => z i) (Fin.ext (by show h.val * 128 + u.val * 64 + (d.val + 32) % 64 = (h.val * 128 + u.val * 64 + d.val + 480) % 512; omega))

/-! ## The products -/

/-- The rows, half by half. -/
def halves3 (x : FVec Ideal S16384x1024 .f32) : FVec Ideal S2x8192x1024 .f32 := shapeCast _ x shapeCasts_S16384x1024_S2x8192x1024

theorem halves3_apply (x : FVec Ideal S16384x1024 .f32) (b : Fin 2) (r : Fin 8192) (k : Fin 1024) :
    halves3 x (ix3 b r k) = x (ix2 ⟨b.val * 8192 + r.val, by omega⟩ k) := by
  unfold halves3
  pointwise

variable (x : FVec Ideal S16384x1024 .f32) (md : FVec Ideal S8x6144 .f32) (n : FVec Ideal S2x1024 .f32) (W : FVec Ideal S2x1024x3584 .f32) (g : FVec Ideal S2x64 .f32)
  (C S : FVec Ideal S8192x64 .f32)

/-- All the products. -/
def stage : FVec Ideal S2x8192x3584 .f32 :=
  products (norms (halves3 x) n (part md 1024 slices_S2x6144_S2x1024_0_1024) (part md 0 slices_S2x6144_S2x1024_0_0)) W

theorem stage_apply (o : ℕ) (ho : o + 512 ≤ 3584) (R : Fin 16384) (j : Fin 512) :
    stage x md n W (ix3 ⟨R.val / 8192, by omega⟩ ⟨R.val % 8192, Nat.mod_lt _ (by decide)⟩ ⟨o + j.val, by omega⟩) = Cert.Hand.group x md n W o ho R j := by
  have hr : (⟨R.val / 8192 * 8192 + R.val % 8192, by omega⟩ : Fin 16384) = R := Fin.ext (by show R.val / 8192 * 8192 + R.val % 8192 = R.val; omega)
  unfold stage Cert.Hand.group Cert.Hand.entering
  rw [products_apply]
  simp only [norms_apply, part0_apply, part1_apply, halves3_apply, hr]

/-- The queries' group. -/
def groupQ : FVec Ideal S2x8192x512 .f32 := extractStridedSlice S2x8192x512 ![0, 0, 2048] (stage x md n W) slices_S2x8192x3584_S2x8192x512_0_0_2048
/-- The keys' group. -/
def groupK : FVec Ideal S2x8192x512 .f32 := extractStridedSlice S2x8192x512 ![0, 0, 2560] (stage x md n W) slices_S2x8192x3584_S2x8192x512_0_0_2560

theorem sliceQ (P : FVec Ideal S2x8192x3584 .f32) (b : Fin 2) (k : Fin 8192) (j : Fin 512) :
    extractStridedSlice S2x8192x512 ![0, 0, 2048] P slices_S2x8192x3584_S2x8192x512_0_0_2048 (ix3 b k j) = P (ix3 b k ⟨2048 + j.val, by omega⟩) := by
  pointwise
theorem sliceK (P : FVec Ideal S2x8192x3584 .f32) (b : Fin 2) (k : Fin 8192) (j : Fin 512) :
    extractStridedSlice S2x8192x512 ![0, 0, 2560] P slices_S2x8192x3584_S2x8192x512_0_0_2560 (ix3 b k j) = P (ix3 b k ⟨2560 + j.val, by omega⟩) := by
  pointwise

theorem groupQ_row (R : Fin 16384) : (fun j : Fin 512 => groupQ x md n W (ix3 ⟨R.val / 8192, by omega⟩ ⟨R.val % 8192, Nat.mod_lt _ (by decide)⟩ j)) = Cert.Hand.group x md n W 2048 (by decide) R :=
  funext fun j => (sliceQ (stage x md n W) _ _ j).trans (stage_apply x md n W 2048 (by decide) R j)
theorem groupK_row (R : Fin 16384) : (fun j : Fin 512 => groupK x md n W (ix3 ⟨R.val / 8192, by omega⟩ ⟨R.val % 8192, Nat.mod_lt _ (by decide)⟩ j)) = Cert.Hand.group x md n W 2560 (by decide) R :=
  funext fun j => (sliceK (stage x md n W) _ _ j).trans (stage_apply x md n W 2560 (by decide) R j)

theorem ropedQ (R : Fin 16384) (j : Fin 512) :
    turns (units (heads (groupQ x md n W)) g) C S (ix5 ⟨R.val / 8192, by omega⟩ ⟨j.val / 128, by omega⟩ ⟨j.val / 64 % 2, Nat.mod_lt _ (by decide)⟩ ⟨R.val % 8192, Nat.mod_lt _ (by decide)⟩ (Cert.Hand.lane j))
      = Cert.Hand.roped x md n W g C S 2048 (by decide) R j := by
  have hj : (⟨j.val / 128 * 128 + j.val / 64 % 2 * 64 + (Cert.Hand.lane j).val, by have := (Cert.Hand.lane j).isLt; omega⟩ : Fin 512) = j :=
    Fin.ext (by show j.val / 128 * 128 + j.val / 64 % 2 * 64 + j.val % 64 = j.val; omega)
  rw [turns_heads, groupQ_row]
  unfold Cert.Hand.roped
  exact congrArg _ hj
theorem ropedK (R : Fin 16384) (j : Fin 512) :
    turns (units (heads (groupK x md n W)) g) C S (ix5 ⟨R.val / 8192, by omega⟩ ⟨j.val / 128, by omega⟩ ⟨j.val / 64 % 2, Nat.mod_lt _ (by decide)⟩ ⟨R.val % 8192, Nat.mod_lt _ (by decide)⟩ (Cert.Hand.lane j))
      = Cert.Hand.roped x md n W g C S 2560 (by decide) R j := by
  have hj : (⟨j.val / 128 * 128 + j.val / 64 % 2 * 64 + (Cert.Hand.lane j).val, by have := (Cert.Hand.lane j).isLt; omega⟩ : Fin 512) = j :=
    Fin.ext (by show j.val / 128 * 128 + j.val / 64 % 2 * 64 + j.val % 64 = j.val; omega)
  rw [turns_heads, groupK_row]
  unfold Cert.Hand.roped
  exact congrArg _ hj

/-! ## The results' places -/

theorem query_eq (R : Fin 16384) (j : Fin 512) :
    out4 (turns (units (heads (groupQ x md n W)) g) C S) (ix2 R j) = Cert.Hand.query x md n W g C S R j := by
  rw [out4_apply, ropedQ]
  rfl

/-- Half `b`'s token `k`, among all rows. -/
def rowAt (b : Fin 2) (k : Fin 8192) : Fin 16384 := ⟨b.val * 8192 + k.val, by omega⟩

theorem rowAt_half (b : Fin 2) (k : Fin 8192) : (⟨(rowAt b k).val / 8192, by omega⟩ : Fin 2) = b :=
  Fin.ext (by show (b.val * 8192 + k.val) / 8192 = b.val; omega)
theorem rowAt_tok (b : Fin 2) (k : Fin 8192) : (⟨(rowAt b k).val % 8192, Nat.mod_lt _ (by decide)⟩ : Fin 8192) = k :=
  Fin.ext (by show (b.val * 8192 + k.val) % 8192 = k.val; omega)

theorem ropedK_at (b : Fin 2) (k : Fin 8192) (j : Fin 512) :
    turns (units (heads (groupK x md n W)) g) C S (ix5 b ⟨j.val / 128, by omega⟩ ⟨j.val / 64 % 2, Nat.mod_lt _ (by decide)⟩ k (Cert.Hand.lane j))
      = Cert.Hand.roped x md n W g C S 2560 (by decide) (rowAt b k) j := by
  have h := ropedK x md n W g C S (rowAt b k) j
  rw [rowAt_half, rowAt_tok] at h
  exact h

theorem key1_eq (b : Fin 2) (k : Fin 8192) (j : Fin 512) :
    lay (firsts (turns (units (heads (groupK x md n W)) g) C S)) (ix3 b j k) = Cert.Hand.key1 x md n W g C S (rowAt b k) j := by
  rw [lay_apply, firsts_apply, ropedK_at]
  unfold Cert.Hand.key1
  exact if_congr (by show j.val / 64 % 2 < 1 ↔ j.val % 128 < 64; omega) rfl rfl

theorem key2_eq (b : Fin 2) (k : Fin 8192) (j : Fin 512) :
    lay (seconds (turns (units (heads (groupK x md n W)) g) C S)) (ix3 b j k) = Cert.Hand.key2 x md n W g C S (rowAt b k) j := by
  rw [lay_apply, seconds_apply, ropedK_at]
  unfold Cert.Hand.key2
  exact if_congr (by show j.val / 64 % 2 < 1 ↔ j.val % 128 < 64; omega) rfl rfl

theorem stage_at (o : ℕ) (ho : o + 512 ≤ 3584) (b : Fin 2) (k : Fin 8192) (j : Fin 512) :
    stage x md n W (ix3 b k ⟨o + j.val, by omega⟩) = Cert.Hand.group x md n W o ho (rowAt b k) j := by
  have h := stage_apply x md n W o ho (rowAt b k) j
  rw [rowAt_half, rowAt_tok] at h
  exact h

theorem worth_eq (b : Fin 2) (k : Fin 8192) (j : Fin 1024) :
    out7 (packed (stage x md n W)) (ix3 b k j) = Cert.Hand.worth x md n W (rowAt b k) j := by
  rw [out7_apply, packed_apply]
  unfold Cert.Hand.worth
  by_cases h : j.val % 256 < 128
  · rw [dif_pos (show j.val % 256 < 128 from h), if_pos h]
    refine Eq.trans ?_ (stage_at x md n W 3072 (by decide) b k ⟨(j.val / 256 * 128 + j.val % 256) % 512, Nat.mod_lt _ (by decide)⟩)
    exact congrArg (fun i : Fin 3584 => stage x md n W (ix3 b k i))
      (Fin.ext (by show 3072 + (j.val / 256 * 128 + j.val % 256) = 3072 + (j.val / 256 * 128 + j.val % 256) % 512; omega))
  · rw [dif_neg (show ¬ j.val % 256 < 128 from h), if_neg h]
    by_cases h' : j.val % 256 = 128
    · rw [dif_pos (show j.val % 256 - 128 < 1 by omega), if_pos h']
    · rw [dif_neg (show ¬ j.val % 256 - 128 < 1 by omega), if_neg h']

/-! ## The run's results are these -/

section Run

variable (m : (ℓ : Loc nD τ sig) → Buf (Elt Ideal) ℓ) (c : Dev nD)

theorem res157_eq : res_main_v157 m c = out4 (turns (units (heads (groupQ (m (c.tc.loc main_arg0)) (m (c.tc.loc main_arg1)) (m (c.tc.loc main_arg2)) (m (c.tc.loc main_arg3)))) (m (c.tc.loc main_arg4))) cosines sines) := rfl
theorem res135_eq : res_main_v135 m c = lay (firsts (turns (units (heads (groupK (m (c.tc.loc main_arg0)) (m (c.tc.loc main_arg1)) (m (c.tc.loc main_arg2)) (m (c.tc.loc main_arg3)))) (m (c.tc.loc main_arg5))) cosines sines)) := rfl
theorem res140_eq : res_main_v140 m c = lay (seconds (turns (units (heads (groupK (m (c.tc.loc main_arg0)) (m (c.tc.loc main_arg1)) (m (c.tc.loc main_arg2)) (m (c.tc.loc main_arg3)))) (m (c.tc.loc main_arg5))) cosines sines)) := rfl

end Run

end Cert.Reference5Ideal.Hand

end
-- ==== Proof.InPay.lean ====
/-
  Hand-written. The arithmetic of the input projection's body over the extended reals, a place at a time.
-/
module

public import proofs.«01_k».proof.Proof.Gen.Kernel5Ideal.Value
public import proofs.«01_k».proof.Proof.InSpec
public import Idealize.ShloMosaic.Lib.Pipeline.ValueKit
public import Idealize.ShloMosaic.Lib.Pointwise

@[expose] public section

noncomputable section

namespace Cert.Kernel5Ideal.Hand

open Cert.Kernel5Ideal Cert.Kernel5Ideal.Gen
open Idealize.ShloMosaic Idealize.ShloMosaic.TcCoe Idealize.ShloMosaic.Tactic

/-- The row normalized and modulated. -/
theorem pay3_apply (sh sc n : Vec Ideal S1x1024 .f32) (x : Vec Ideal S512x1024 .f32) (r : Fin 512) (k : Fin 1024) :
    k0_pay3 sh (k0_pay2 sc x n) (ix2 r k)
      = Cert.Hand.normed (fun j => x (ix2 r j)) (fun j => n (ix2 0 j)) (fun j => sc (ix2 0 j)) (fun j => sh (ix2 0 j)) k := by
  unfold k0_pay3 k0_pay2 Cert.Hand.normed
  pointwise
  rw [Cert.Hand.inv_1024]

theorem pay4_apply (sh : Vec Ideal S1x1024 .f32) (y : FVec Ideal S512x1024 .f32) (W : Vec Ideal S1024x512 .bf16) (r j : Fin 512) :
    k0_pay4 sh y W (ix2 r j) = ∑ k : Fin 1024, k0_pay3 sh y (ix2 r k) * W (ix2 k j) := by
  unfold k0_pay4
  generalize k0_pay3 sh y = H
  pointwise
theorem pay5_apply (sh : Vec Ideal S1x1024 .f32) (y : FVec Ideal S512x1024 .f32) (W : Vec Ideal S1024x512 .bf16) (r j : Fin 512) :
    k0_pay5 sh y W (ix2 r j) = (∑ k : Fin 1024, k0_pay3 sh y (ix2 r k) * W (ix2 k j)) * Ideal.ofBits .f32 0x3DB504F3#32 := by
  unfold k0_pay5
  generalize k0_pay3 sh y = H
  pointwise
theorem pay6_apply (sh : Vec Ideal S1x1024 .f32) (y : FVec Ideal S512x1024 .f32) (W : Vec Ideal S1024x512 .bf16) (r j : Fin 512) :
    k0_pay6 sh y W (ix2 r j) = ∑ k : Fin 1024, k0_pay3 sh y (ix2 r k) * W (ix2 k j) := by
  unfold k0_pay6
  generalize k0_pay3 sh y = H
  pointwise
theorem pay7_apply (sh : Vec Ideal S1x1024 .f32) (y : FVec Ideal S512x1024 .f32) (W : Vec Ideal S1024x512 .bf16) (r j : Fin 512) :
    k0_pay7 sh y W (ix2 r j) = ∑ k : Fin 1024, k0_pay3 sh y (ix2 r k) * W (ix2 k j) := by
  unfold k0_pay7
  generalize k0_pay3 sh y = H
  pointwise

theorem pay17_apply (h : FVec Ideal S512x1024 .bf16) (M : IVec S512x512 1) (p q : FVec Ideal S512x512 .f32) (W : Vec Ideal S1024x512 .bf16) (r j : Fin 512) :
    k0_pay17 h M p q W (ix2 r j)
      = (∑ k : Fin 1024, h (ix2 r k) * W (ix2 k j)) * Ideal.rsqrt ((∑ i : Fin 512, ((∑ k : Fin 1024, h (ix2 r k) * W (ix2 k i)) * (∑ k : Fin 1024, h (ix2 r k) * W (ix2 k i))) * k0_pay13 M p q (ix2 i j)) * Ideal.ofBits .f32 0x3C800000#32 + Ideal.ofBits .f32 0x358637BD#32) := by
  unfold k0_pay17
  generalize k0_pay13 M p q = E
  pointwise

theorem pay18_apply (g : Vec Ideal S1x512 .f32) (r j : Fin 512) : k0_pay18 g (ix2 r j) = g (ix2 0 j) := by
  unfold k0_pay18
  pointwise

theorem pay15_apply (v : Vec Ideal S512x128 .f32) (r j : Fin 512) :
    k0_pay15 v (ix2 r j) = v (ix2 r (⟨j.val % 128, Nat.mod_lt _ (by decide)⟩ : Fin 128)) := by
  unfold k0_pay15
  pointwise
  split_ifs <;> exact congrArg (fun i : Fin 128 => v (ix2 r i)) (Fin.ext (by first | rfl | omega | (dsimp only; omega)))
theorem pay16_apply (v : Vec Ideal S512x128 .f32) (r j : Fin 512) :
    k0_pay16 v (ix2 r j) = v (ix2 r (⟨j.val % 128, Nat.mod_lt _ (by decide)⟩ : Fin 128)) := by
  unfold k0_pay16
  pointwise
  split_ifs <;> exact congrArg (fun i : Fin 128 => v (ix2 r i)) (Fin.ext (by first | rfl | omega | (dsimp only; omega)))

/-! ## The masks -/

/-- The quotient by 64, rounded down. -/
theorem quot64 : ∀ i : Fin 512, Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32) = BitVec.ofNat 32 (i.val / 64) := by
  decide +kernel

theorem same8 : ∀ a b : Fin 8, IntOp.cmpi .eq (BitVec.ofNat 32 a.val) (BitVec.ofNat 32 b.val) = if a.val = b.val then 1#1 else 0#1 := by
  decide +kernel

theorem seg_apply (i j : Fin 512) :
    k0_pay10 (iota .tc S512x512 32 [0] iota_S512x512_d0_w32) 64#32 k0_pay8 k0_pay9 0#32 (ix2 i j) = if i.val / 64 = j.val / 64 then 1#1 else 0#1 := by
  unfold k0_pay10 k0_pay8 k0_pay9
  pointwise
  rw [quot64 i, quot64 j]
  exact same8 ⟨i.val / 64, by omega⟩ ⟨j.val / 64, by omega⟩

theorem low_apply (r j : Fin 512) :
    k0_pay14 (iota .tc S512x512 32 [1] iota_S512x512_d1_w32) (ix2 r j) = if j.val % 64 < 32 then 1#1 else 0#1 := by
  unfold k0_pay14
  pointwise
  revert j
  decide +kernel

theorem first_apply (i r : Fin 512) :
    k0_pay23 128#32 k0_pay21 k0_pay22 (ix2 i r) = if i.val % 128 < 64 then 1#1 else 0#1 := by
  unfold k0_pay23 k0_pay21 k0_pay22
  pointwise
  revert i
  decide +kernel

/-- The mask of equal groups, as numbers. -/
theorem pay13_apply (M : IVec S512x512 1) (i j : Fin 512) :
    k0_pay13 (F := Ideal) M k0_pay11 k0_pay12 (ix2 i j) = Scalar.select (M (ix2 i j)) 1 0 := by
  unfold k0_pay13 k0_pay11 k0_pay12
  pointwise

theorem segs_apply (i j : Fin 512) :
    k0_pay13 (F := Ideal) (k0_pay10 (iota .tc S512x512 32 [0] iota_S512x512_d0_w32) 64#32 k0_pay8 k0_pay9 0#32) k0_pay11 k0_pay12 (ix2 i j)
      = if i.val / 64 = j.val / 64 then (1 : EReal) else 0 := by
  rw [pay13_apply, seg_apply]
  split_ifs
  · rfl
  · rfl

/-- One over 64, as its word. -/
theorem inv_64 : Ideal.ofBits .f32 0x3C800000#32 = ((1 / 64 : ℝ) : EReal) := by
  simp [Ideal.ofBits, Ideal.ieee, -EReal.coe_mul]; norm_num

/-! ## Queries and keys -/

section Keys

variable (h : FVec Ideal S512x1024 .bf16) (W : Vec Ideal S1024x512 .bf16) (g : Vec Ideal S1x512 .f32) (cs sn : Vec Ideal S512x128 .f32)

/-- Row `r` of the product. -/
def prod (r j : Fin 512) : EReal := ∑ k : Fin 1024, h (ix2 r k) * W (ix2 k j)

/-- The product's row normalized. -/
def unitRow (r j : Fin 512) : EReal :=
  prod h W r j * Ideal.rsqrt ((∑ i : Fin 64, prod h W r (Cert.Hand.mate j i) * prod h W r (Cert.Hand.mate j i)) * (((1 / 64 : ℝ)) : EReal) + Ideal.ofBits .f32 0x358637BD#32) * g (ix2 0 j)

/-- The normalized row turned. -/
def turnedRow (r j : Fin 512) : EReal :=
  unitRow h W g r j * cs (ix2 r (⟨j.val % 128, Nat.mod_lt _ (by decide)⟩ : Fin 128))
    + (if j.val % 64 < 32 then unitRow h W g r ⟨(j.val + 32) % 512, Nat.mod_lt _ (by decide)⟩ else unitRow h W g r ⟨(j.val + 480) % 512, Nat.mod_lt _ (by decide)⟩)
      * sn (ix2 r (⟨j.val % 128, Nat.mod_lt _ (by decide)⟩ : Fin 128))

theorem unitRow_eq (r j : Fin 512) :
    k0_pay17 h (k0_pay10 (iota .tc S512x512 32 [0] iota_S512x512_d0_w32) 64#32 k0_pay8 k0_pay9 0#32) k0_pay11 k0_pay12 W (ix2 r j) * g (ix2 0 j) = unitRow h W g r j := by
  rw [pay17_apply]
  rw [Finset.sum_congr rfl (fun i _ => congrArg (fun z : EReal => ((∑ k : Fin 1024, h (ix2 r k) * W (ix2 k i)) * (∑ k : Fin 1024, h (ix2 r k) * W (ix2 k i))) * z) (segs_apply i j)), inv_64]
  rw [Cert.Hand.sum_mates (fun i => (∑ k : Fin 1024, h (ix2 r k) * W (ix2 k i)) * (∑ k : Fin 1024, h (ix2 r k) * W (ix2 k i))) j]
  rfl

theorem pay19_apply (L : IVec S512x512 1) (C S A G : FVec Ideal S512x512 .f32) (r j : Fin 512) :
    k0_pay19 L C S A G (ix2 r j)
      = (A (ix2 r j) * G (ix2 r j) * C (ix2 r j)
        + Scalar.select (L (ix2 r j)) (A (ix2 r (⟨(j.val + 32) % 512, Nat.mod_lt _ (by decide)⟩ : Fin 512)) * G (ix2 r (⟨(j.val + 32) % 512, Nat.mod_lt _ (by decide)⟩ : Fin 512)))
            (A (ix2 r (⟨(j.val + 480) % 512, Nat.mod_lt _ (by decide)⟩ : Fin 512)) * G (ix2 r (⟨(j.val + 480) % 512, Nat.mod_lt _ (by decide)⟩ : Fin 512)))
          * S (ix2 r j)) * Ideal.ofBits .f32 0x3E38AA3B#32 := by
  unfold k0_pay19
  pointwise
  have e : j.val + 512 - 480 = j.val + 32 := by omega
  have e' : j.val + 512 - 32 = j.val + 480 := by omega
  simp only [e, e']

/-- A turned row from what its parts hold. -/
theorem turn_eq (L : IVec S512x512 1) (C S A G : FVec Ideal S512x512 .f32) (hL : ∀ r j : Fin 512, L (ix2 r j) = if j.val % 64 < 32 then 1#1 else 0#1)
    (hA : ∀ r j : Fin 512, A (ix2 r j) * G (ix2 r j) = unitRow h W g r j)
    (hC : ∀ r j : Fin 512, C (ix2 r j) = cs (ix2 r (⟨j.val % 128, Nat.mod_lt _ (by decide)⟩ : Fin 128)))
    (hS : ∀ r j : Fin 512, S (ix2 r j) = sn (ix2 r (⟨j.val % 128, Nat.mod_lt _ (by decide)⟩ : Fin 128))) (r j : Fin 512) :
    A (ix2 r j) * G (ix2 r j) * C (ix2 r j)
        + Scalar.select (L (ix2 r j)) (A (ix2 r (⟨(j.val + 32) % 512, Nat.mod_lt _ (by decide)⟩ : Fin 512)) * G (ix2 r (⟨(j.val + 32) % 512, Nat.mod_lt _ (by decide)⟩ : Fin 512)))
            (A (ix2 r (⟨(j.val + 480) % 512, Nat.mod_lt _ (by decide)⟩ : Fin 512)) * G (ix2 r (⟨(j.val + 480) % 512, Nat.mod_lt _ (by decide)⟩ : Fin 512)))
          * S (ix2 r j) = turnedRow h W g cs sn r j := by
  rw [hA, hA, hA, hC, hS, hL]
  unfold turnedRow
  split_ifs
  · rfl
  · rfl

theorem gained_eq (r j : Fin 512) :
    k0_pay17 h (k0_pay10 (iota .tc S512x512 32 [0] iota_S512x512_d0_w32) 64#32 k0_pay8 k0_pay9 0#32) k0_pay11 k0_pay12 W (ix2 r j) * k0_pay18 g (ix2 r j) = unitRow h W g r j := by
  rw [pay18_apply]
  exact unitRow_eq h W g r j

/-- The queries' block at a place. -/
theorem query_apply (r j : Fin 512) :
    k0_pay19 (k0_pay14 (iota .tc S512x512 32 [1] iota_S512x512_d1_w32)) (k0_pay15 cs) (k0_pay16 sn)
        (k0_pay17 h (k0_pay10 (iota .tc S512x512 32 [0] iota_S512x512_d0_w32) 64#32 k0_pay8 k0_pay9 0#32) k0_pay11 k0_pay12 W) (k0_pay18 g) (ix2 r j)
      = turnedRow h W g cs sn r j * Ideal.ofBits .f32 0x3E38AA3B#32 := by
  rw [pay19_apply]
  exact congrArg (fun z : EReal => z * Ideal.ofBits .f32 0x3E38AA3B#32)
    (turn_eq h W g cs sn _ _ _ _ _ low_apply (gained_eq h W g) (pay15_apply cs) (pay16_apply sn) r j)

theorem pay20_eq (M : IVec S512x512 1) (p q : FVec Ideal S512x512 .f32) (L : IVec S512x512 1) (C S : FVec Ideal S512x512 .f32) :
    k0_pay20 h (k0_pay13 M p q) L C S W g
      = transpose S512x512 [1, 0] (addf (mulf (mulf (k0_pay17 h M p q W) (k0_pay18 g)) C)
          (mulf (select L (dynamicRotate 1 480#32 none (mulf (k0_pay17 h M p q W) (k0_pay18 g)) rotates_S512x512_d1)
            (dynamicRotate 1 32#32 none (mulf (k0_pay17 h M p q W) (k0_pay18 g)) rotates_S512x512_d1)) S)) transposes_S512x512_p1_0_S512x512 := rfl

theorem turn_apply (L : IVec S512x512 1) (C S A G : FVec Ideal S512x512 .f32) (r j : Fin 512) :
    transpose S512x512 [1, 0] (addf (mulf (mulf A G) C)
          (mulf (select L (dynamicRotate 1 480#32 none (mulf A G) rotates_S512x512_d1)
            (dynamicRotate 1 32#32 none (mulf A G) rotates_S512x512_d1)) S)) transposes_S512x512_p1_0_S512x512 (ix2 j r)
      = A (ix2 r j) * G (ix2 r j) * C (ix2 r j)
        + Scalar.select (L (ix2 r j)) (A (ix2 r (⟨(j.val + 32) % 512, Nat.mod_lt _ (by decide)⟩ : Fin 512)) * G (ix2 r (⟨(j.val + 32) % 512, Nat.mod_lt _ (by decide)⟩ : Fin 512)))
            (A (ix2 r (⟨(j.val + 480) % 512, Nat.mod_lt _ (by decide)⟩ : Fin 512)) * G (ix2 r (⟨(j.val + 480) % 512, Nat.mod_lt _ (by decide)⟩ : Fin 512)))
          * S (ix2 r j) := by
  pointwise
  have e : j.val + 512 - 480 = j.val + 32 := by omega
  have e' : j.val + 512 - 32 = j.val + 480 := by omega
  simp only [e, e']

/-- The keys' block at a place, before the components are kept apart. -/
theorem key_apply (r j : Fin 512) :
    k0_pay20 h (k0_pay13 (k0_pay10 (iota .tc S512x512 32 [0] iota_S512x512_d0_w32) 64#32 k0_pay8 k0_pay9 0#32) k0_pay11 k0_pay12)
        (k0_pay14 (iota .tc S512x512 32 [1] iota_S512x512_d1_w32)) (k0_pay15 cs) (k0_pay16 sn) W g (ix2 j r)
      = turnedRow h W g cs sn r j := by
  rw [pay20_eq, turn_apply]
  exact turn_eq h W g cs sn _ _ _ _ _ low_apply (gained_eq h W g) (pay15_apply cs) (pay16_apply sn) r j

end Keys

theorem pay24_apply (K : FVec Ideal S512x512 .f32) (j r : Fin 512) :
    k0_pay24 K 128#32 k0_pay21 k0_pay22 (ix3 0 j r) = if j.val % 128 < 64 then K (ix2 j r) else 0 := by
  have h : k0_pay24 K 128#32 k0_pay21 k0_pay22 (ix3 0 j r) = Scalar.select (k0_pay23 128#32 k0_pay21 k0_pay22 (ix2 j r)) (K (ix2 j r)) 0 := by
    unfold k0_pay24
    generalize k0_pay23 128#32 k0_pay21 k0_pay22 = M
    pointwise
  rw [h, first_apply]
  split_ifs
  · rfl
  · rfl

theorem pay25_apply (K : FVec Ideal S512x512 .f32) (j r : Fin 512) :
    k0_pay25 K 128#32 k0_pay21 k0_pay22 (ix3 0 j r) = if j.val % 128 < 64 then 0 else K (ix2 j r) := by
  have h : k0_pay25 K 128#32 k0_pay21 k0_pay22 (ix3 0 j r) = Scalar.select (k0_pay23 128#32 k0_pay21 k0_pay22 (ix2 j r)) 0 (K (ix2 j r)) := by
    unfold k0_pay25
    generalize k0_pay23 128#32 k0_pay21 k0_pay22 = M
    pointwise
  rw [h, first_apply]
  split_ifs
  · rfl
  · rfl

/-! ## The values -/

theorem zero_word : ∀ n : Fin 1024, IntOp.cmpi CmpIPredicate.eq (BitVec.ofNat 32 n.val) 0#32 = if n.val = 0 then 1#1 else 0#1 := by
  decide +kernel

theorem one_apply (n : ℕ) (hn : n < 1024) :
    Scalar.select (IntOp.cmpi CmpIPredicate.eq (BitVec.ofNat 32 n) 0#32) (1 : EReal) 0 = if n = 0 then 1 else 0 := by
  rw [zero_word ⟨n, hn⟩]
  show Scalar.select (if n = 0 then 1#1 else 0#1) (1 : EReal) 0 = _
  split_ifs
  · rfl
  · rfl

theorem pay26_apply (h : FVec Ideal S512x1024 .bf16) (W : Vec Ideal S1024x512 .bf16) (r : Fin 512) (j : Fin 1024) :
    k0_pay26 h W (ix2 r j)
      = if h0 : j.val < 128 then prod h W r ⟨j.val, by omega⟩ else
      if h1 : j.val - 128 < 128 then Scalar.select (IntOp.cmpi CmpIPredicate.eq (BitVec.ofNat 32 (j.val - 128)) 0#32) (1 : EReal) 0 else
      if h2 : j.val - 128 - 128 < 128 then prod h W r ⟨128 + (j.val - 128 - 128), by omega⟩ else
      if h3 : j.val - 128 - 128 - 128 < 128 then Scalar.select (IntOp.cmpi CmpIPredicate.eq (BitVec.ofNat 32 (j.val - 128 - 128 - 128)) 0#32) (1 : EReal) 0 else
      if h4 : j.val - 128 - 128 - 128 - 128 < 128 then prod h W r ⟨256 + (j.val - 128 - 128 - 128 - 128), by omega⟩ else
      if h5 : j.val - 128 - 128 - 128 - 128 - 128 < 128 then Scalar.select (IntOp.cmpi CmpIPredicate.eq (BitVec.ofNat 32 (j.val - 128 - 128 - 128 - 128 - 128)) 0#32) (1 : EReal) 0 else
      if h6 : j.val - 128 - 128 - 128 - 128 - 128 - 128 < 128 then prod h W r ⟨384 + (j.val - 128 - 128 - 128 - 128 - 128 - 128), by omega⟩ else
      Scalar.select (IntOp.cmpi CmpIPredicate.eq (BitVec.ofNat 32 (j.val - 128 - 128 - 128 - 128 - 128 - 128 - 128)) 0#32) (1 : EReal) 0 := by
  unfold k0_pay26 prod
  pointwise

/-- The values' block at a place. -/
theorem worth_apply (h : FVec Ideal S512x1024 .bf16) (W : Vec Ideal S1024x512 .bf16) (r : Fin 512) (j : Fin 1024) :
    k0_pay1 (k0_pay26 h W) (ix3 0 r j)
      = if j.val % 256 < 128 then prod h W r ⟨(j.val / 256 * 128 + j.val % 256) % 512, Nat.mod_lt _ (by decide)⟩ else if j.val % 256 = 128 then 1 else 0 := by
  have h1 : k0_pay1 (k0_pay26 h W) (ix3 0 r j) = k0_pay26 h W (ix2 r j) := by
    unfold k0_pay1
    generalize k0_pay26 h W = Z
    pointwise
  rw [h1, pay26_apply]
  have hj := j.isLt
  rw [one_apply (j.val - 128) (by omega), one_apply (j.val - 128 - 128 - 128) (by omega), one_apply (j.val - 128 - 128 - 128 - 128 - 128) (by omega),
    one_apply (j.val - 128 - 128 - 128 - 128 - 128 - 128 - 128) (by omega)]
  generalize prod h W r = P
  split_ifs <;> first
    | omega
    | rfl
    | exact congrArg P (Fin.ext (by first | omega | (dsimp only; omega)))

end Cert.Kernel5Ideal.Hand

end
-- ==== Proof.InOut.lean ====
/-
  Hand-written. The body of the input projection at one grid point: what it leaves in each of its eight output blocks. For any float values.
-/
module

public import proofs.«01_k».proof.Proof.Gen.Kernel5Ideal.Value
public import Idealize.ShloMosaic.Lib.Pipeline.ValueKit

@[expose] public section

noncomputable section

namespace Cert.Kernel5Ideal.Hand

open Cert.Kernel5Ideal Cert.Kernel5Ideal.Gen
open Idealize.ShloMosaic Idealize.ShloMosaic.TcCoe Idealize.ShloMosaic.Tactic

variable {F : FTy → Type} [FloatOps F]

theorem out8_eq (c : Dev nD) (i : grid0.Coords) (arg1 : Memref sig .tc .vmem S512x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x3584 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole)
    (x0 : Vec F S512x1024 .f32) (x1 : Vec F S8x6144 .f32) (x2 : Vec F S1x1024 .f32) (x3 : Vec F S1024x3584 .bf16) (x4 : Vec F S1x512 .f32) (x5 : Vec F S1x512 .f32) (x6 : Vec F S512x128 .f32) (x7 : Vec F S512x128 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay4 (View.ld (Val := Elt F) x1 (Rect.unit (s := S8x6144) (k0_off1 i) S1x1024.size (k0_off1_inb i)))
        (k0_pay2 (View.ld (Val := Elt F) x1 (Rect.unit (s := S8x6144) (k0_off2 i) S1x1024.size (k0_off2_inb i))) x0 x2) (View.ld (Val := Elt F) x3 (e' := .bf16) (Rect.unit (s := S1024x3584) ![0, 0] S1024x512.size inb_S1024x3584_S1024x512_0_0)) := by
  frame_out

theorem out9_eq (c : Dev nD) (i : grid0.Coords) (arg1 : Memref sig .tc .vmem S512x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x3584 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole)
    (x0 : Vec F S512x1024 .f32) (x1 : Vec F S8x6144 .f32) (x2 : Vec F S1x1024 .f32) (x3 : Vec F S1024x3584 .bf16) (x4 : Vec F S1x512 .f32) (x5 : Vec F S1x512 .f32) (x6 : Vec F S512x128 .f32) (x7 : Vec F S512x128 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay5 (View.ld (Val := Elt F) x1 (Rect.unit (s := S8x6144) (k0_off1 i) S1x1024.size (k0_off1_inb i)))
        (k0_pay2 (View.ld (Val := Elt F) x1 (Rect.unit (s := S8x6144) (k0_off2 i) S1x1024.size (k0_off2_inb i))) x0 x2) (View.ld (Val := Elt F) x3 (e' := .bf16) (Rect.unit (s := S1024x3584) ![0, 512] S1024x512.size inb_S1024x3584_S1024x512_0_512)) := by
  frame_out

theorem out10_eq (c : Dev nD) (i : grid0.Coords) (arg1 : Memref sig .tc .vmem S512x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x3584 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole)
    (x0 : Vec F S512x1024 .f32) (x1 : Vec F S8x6144 .f32) (x2 : Vec F S1x1024 .f32) (x3 : Vec F S1024x3584 .bf16) (x4 : Vec F S1x512 .f32) (x5 : Vec F S1x512 .f32) (x6 : Vec F S512x128 .f32) (x7 : Vec F S512x128 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay6 (View.ld (Val := Elt F) x1 (Rect.unit (s := S8x6144) (k0_off1 i) S1x1024.size (k0_off1_inb i)))
        (k0_pay2 (View.ld (Val := Elt F) x1 (Rect.unit (s := S8x6144) (k0_off2 i) S1x1024.size (k0_off2_inb i))) x0 x2) (View.ld (Val := Elt F) x3 (e' := .bf16) (Rect.unit (s := S1024x3584) ![0, 1024] S1024x512.size inb_S1024x3584_S1024x512_0_1024)) := by
  frame_out

theorem out11_eq (c : Dev nD) (i : grid0.Coords) (arg1 : Memref sig .tc .vmem S512x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x3584 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole)
    (x0 : Vec F S512x1024 .f32) (x1 : Vec F S8x6144 .f32) (x2 : Vec F S1x1024 .f32) (x3 : Vec F S1024x3584 .bf16) (x4 : Vec F S1x512 .f32) (x5 : Vec F S1x512 .f32) (x6 : Vec F S512x128 .f32) (x7 : Vec F S512x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay7 (View.ld (Val := Elt F) x1 (Rect.unit (s := S8x6144) (k0_off1 i) S1x1024.size (k0_off1_inb i)))
        (k0_pay2 (View.ld (Val := Elt F) x1 (Rect.unit (s := S8x6144) (k0_off2 i) S1x1024.size (k0_off2_inb i))) x0 x2) (View.ld (Val := Elt F) x3 (e' := .bf16) (Rect.unit (s := S1024x3584) ![0, 1536] S1024x512.size inb_S1024x3584_S1024x512_0_1536)) := by
  frame_out

theorem out12_eq (c : Dev nD) (i : grid0.Coords) (arg1 : Memref sig .tc .vmem S512x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x3584 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole)
    (x0 : Vec F S512x1024 .f32) (x1 : Vec F S8x6144 .f32) (x2 : Vec F S1x1024 .f32) (x3 : Vec F S1024x3584 .bf16) (x4 : Vec F S1x512 .f32) (x5 : Vec F S1x512 .f32) (x6 : Vec F S512x128 .f32) (x7 : Vec F S512x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay19 (k0_pay14 (iota .tc S512x512 32 [1] iota_S512x512_d1_w32)) (k0_pay15 x6) (k0_pay16 x7)
        (k0_pay17 (k0_pay3 (View.ld (Val := Elt F) x1 (Rect.unit (s := S8x6144) (k0_off1 i) S1x1024.size (k0_off1_inb i)))
          (k0_pay2 (View.ld (Val := Elt F) x1 (Rect.unit (s := S8x6144) (k0_off2 i) S1x1024.size (k0_off2_inb i))) x0 x2))
          (k0_pay10 (iota .tc S512x512 32 [0] iota_S512x512_d0_w32) 64#32 k0_pay8 k0_pay9 0#32) k0_pay11 k0_pay12
          (View.ld (Val := Elt F) x3 (e' := .bf16) (Rect.unit (s := S1024x3584) ![0, 2048] S1024x512.size inb_S1024x3584_S1024x512_0_2048))) (k0_pay18 x4) := by
  frame_out

theorem out13_eq (c : Dev nD) (i : grid0.Coords) (arg1 : Memref sig .tc .vmem S512x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x3584 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole)
    (x0 : Vec F S512x1024 .f32) (x1 : Vec F S8x6144 .f32) (x2 : Vec F S1x1024 .f32) (x3 : Vec F S1024x3584 .bf16) (x4 : Vec F S1x512 .f32) (x5 : Vec F S1x512 .f32) (x6 : Vec F S512x128 .f32) (x7 : Vec F S512x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay24 (k0_pay20
        (k0_pay3 (View.ld (Val := Elt F) x1 (Rect.unit (s := S8x6144) (k0_off1 i) S1x1024.size (k0_off1_inb i)))
          (k0_pay2 (View.ld (Val := Elt F) x1 (Rect.unit (s := S8x6144) (k0_off2 i) S1x1024.size (k0_off2_inb i))) x0 x2))
        (k0_pay13 (k0_pay10 (iota .tc S512x512 32 [0] iota_S512x512_d0_w32) 64#32 k0_pay8 k0_pay9 0#32) k0_pay11 k0_pay12)
        (k0_pay14 (iota .tc S512x512 32 [1] iota_S512x512_d1_w32)) (k0_pay15 x6) (k0_pay16 x7)
        (View.ld (Val := Elt F) x3 (e' := .bf16) (Rect.unit (s := S1024x3584) ![0, 2560] S1024x512.size inb_S1024x3584_S1024x512_0_2560)) x5) 128#32 k0_pay21 k0_pay22 := by
  frame_out

theorem out14_eq (c : Dev nD) (i : grid0.Coords) (arg1 : Memref sig .tc .vmem S512x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x3584 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole)
    (x0 : Vec F S512x1024 .f32) (x1 : Vec F S8x6144 .f32) (x2 : Vec F S1x1024 .f32) (x3 : Vec F S1024x3584 .bf16) (x4 : Vec F S1x512 .f32) (x5 : Vec F S1x512 .f32) (x6 : Vec F S512x128 .f32) (x7 : Vec F S512x128 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay25 (k0_pay20
        (k0_pay3 (View.ld (Val := Elt F) x1 (Rect.unit (s := S8x6144) (k0_off1 i) S1x1024.size (k0_off1_inb i)))
          (k0_pay2 (View.ld (Val := Elt F) x1 (Rect.unit (s := S8x6144) (k0_off2 i) S1x1024.size (k0_off2_inb i))) x0 x2))
        (k0_pay13 (k0_pay10 (iota .tc S512x512 32 [0] iota_S512x512_d0_w32) 64#32 k0_pay8 k0_pay9 0#32) k0_pay11 k0_pay12)
        (k0_pay14 (iota .tc S512x512 32 [1] iota_S512x512_d1_w32)) (k0_pay15 x6) (k0_pay16 x7)
        (View.ld (Val := Elt F) x3 (e' := .bf16) (Rect.unit (s := S1024x3584) ![0, 2560] S1024x512.size inb_S1024x3584_S1024x512_0_2560)) x5) 128#32 k0_pay21 k0_pay22 := by
  frame_out

theorem out15_eq (c : Dev nD) (i : grid0.Coords) (arg1 : Memref sig .tc .vmem S512x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x3584 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x1024 .bf16) (harg16 : arg16.IsWhole)
    (x0 : Vec F S512x1024 .f32) (x1 : Vec F S8x6144 .f32) (x2 : Vec F S1x1024 .f32) (x3 : Vec F S1024x3584 .bf16) (x4 : Vec F S1x512 .f32) (x5 : Vec F S1x512 .f32) (x6 : Vec F S512x128 .f32) (x7 : Vec F S512x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
      = k0_pay1 (k0_pay26
        (k0_pay3 (View.ld (Val := Elt F) x1 (Rect.unit (s := S8x6144) (k0_off1 i) S1x1024.size (k0_off1_inb i)))
          (k0_pay2 (View.ld (Val := Elt F) x1 (Rect.unit (s := S8x6144) (k0_off2 i) S1x1024.size (k0_off2_inb i))) x0 x2))
        (View.ld (Val := Elt F) x3 (e' := .bf16) (Rect.unit (s := S1024x3584) ![0, 3072] S1024x512.size inb_S1024x3584_S1024x512_0_3072))) := by
  frame_out

end Cert.Kernel5Ideal.Hand

end
-- ==== Proof.InKer.lean ====
/-
  Hand-written. The input projection's call over the extended reals: what each grid point reads of the arrays, the angles' tables among
  them, what its body leaves in the eight output blocks, and what the eight results hold in the end.
-/
module

public import proofs.«01_k».proof.Proof.InPay
public import proofs.«01_k».proof.Proof.InOut

@[expose] public section

noncomputable section

namespace Cert.Kernel5Ideal.Hand

open Cert.Kernel5Ideal Cert.Kernel5Ideal.Gen
open Idealize.ShloMosaic Idealize.ShloMosaic.TcCoe Idealize.ShloMosaic.Tactic

/-! ## The tables -/

/-- The sixteen frequencies. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Tokens' positions along an axis times the frequencies. -/
def spread (p : FVec Ideal S8192 .f32) : FVec Ideal S8192x16 .f32 :=
  mulf (broadcastInDim S8192x16 ![0, 1] bcast_S8192x1_S8192x16_0_1 (broadcastInDim S8192x1 ![0] bcast_S8192_S8192x1_0 p))
    (broadcastInDim S8192x16 ![0, 1] bcast_S1x16_S8192x16_0_1 (broadcastInDim S1x16 ![1] bcast_S16_S1x16_1 freqs))

/-- The tokens' angles: 16 of the row, 16 of the column, and both again. -/
def angles : FVec Ideal S8192x64 .f32 :=
  let a : FVec Ideal S8192x32 .f32 := concatenate S8192x32 1
    [⟨S8192x16, spread (shapeCast _ (broadcastInDim S128x64 ![0] bcast_S128_S128x64_0 (sitofp .f32 (iotaInDim S128 32 0) : FVec Ideal S128 .f32)) shapeCasts_S128x64_S8192)⟩,
     ⟨S8192x16, spread (shapeCast _ (broadcastInDim S128x64 ![0, 1] bcast_S1x64_S128x64_0_1 (shapeCast S1x64 (sitofp .f32 (iotaInDim S64 32 0) : FVec Ideal S64 .f32) shapeCasts_S64_S1x64)) shapeCasts_S128x64_S8192)⟩]
    concatenates_S8192x16_S8192x16_S8192x32_d1
  concatenate S8192x64 1 [⟨S8192x32, a⟩, ⟨S8192x32, a⟩] concatenates_S8192x32_S8192x32_S8192x64_d1

/-- Their cosines. -/
def cosines : FVec Ideal S8192x64 .f32 := Host.cos angles
/-- Their sines. -/
def sines : FVec Ideal S8192x64 .f32 := Host.sin angles

variable (m : (ℓ : Loc nD τ sig) → Buf (Elt Ideal) ℓ) (c : Dev nD)

theorem V_v33_eq : (V m c main_v33 : S8192x128.Idx → EReal)
    = shapeCast S8192x128 (broadcastInDim S1x8192x2x64 ![0, 1, 2, 3] bcast_S1x8192x1x64_S1x8192x2x64_0_1_2_3 (shapeCast S1x8192x1x64 cosines shapeCasts_S8192x64_S1x8192x1x64)) shapeCasts_S1x8192x2x64_S8192x128 := by
  unfold V
  entry_read
  rfl

/-- Which of the turned numbers change sign. -/
def signs : FVec Ideal S64 .f32 :=
  select (cmpi .slt (iotaInDim S64 32 0) (broadcastInDim S64 ![] bcast_S_S64 (constantI S_ 32 32#32)))
    (broadcastInDim S64 ![] bcast_S_S64 (constant S_ .f32 0xBF800000#32)) (broadcastInDim S64 ![] bcast_S_S64 (constant S_ .f32 0x3F800000#32))

theorem V_v40_eq : (V m c main_v40 : S8192x128.Idx → EReal)
    = shapeCast S8192x128 (broadcastInDim S1x8192x2x64 ![0, 1, 2, 3] bcast_S1x8192x1x64_S1x8192x2x64_0_1_2_3 (shapeCast S1x8192x1x64
        (mulf sines (broadcastInDim S8192x64 ![0, 1] bcast_S1x64_S8192x64_0_1 (broadcastInDim S1x64 ![1] bcast_S64_S1x64_1 signs))) shapeCasts_S8192x64_S1x8192x1x64)) shapeCasts_S1x8192x2x64_S8192x128 := by
  unfold V
  entry_read
  rfl

theorem signs_apply (d : Fin 64) : signs (ix1 d) = if d.val < 32 then -1 else 1 := by
  have h : ∀ d : Fin 64, IntOp.cmpi CmpIPredicate.slt (BitVec.ofNat 32 d.val) 32#32 = if d.val < 32 then 1#1 else 0#1 := by decide +kernel
  have h1 : Ideal.ofBits FTy.f32 0xBF800000#32 = -1 := by
    simp [Ideal.ofBits, Ideal.ieee, -EReal.coe_mul]; norm_num
  unfold signs
  pointwise
  rw [h d, h1]
  split_ifs
  · rfl
  · rfl

theorem V_v33 (k : Fin 8192) (j : Fin 128) :
    (V m c main_v33 : S8192x128.Idx → EReal) (ix2 k j) = cosines (ix2 k ⟨j.val % 64, Nat.mod_lt _ (by decide)⟩) := by
  rw [V_v33_eq]
  generalize cosines = C
  pointwise

theorem V_v40 (k : Fin 8192) (j : Fin 128) :
    (V m c main_v40 : S8192x128.Idx → EReal) (ix2 k j) = sines (ix2 k ⟨j.val % 64, Nat.mod_lt _ (by decide)⟩) * if j.val % 64 < 32 then -1 else 1 := by
  rw [V_v40_eq]
  generalize sines = C
  pointwise
  rw [signs_apply]

theorem V_v43_eq : (V m c main_v43 : S1x1024.Idx → EReal)
    = shapeCast S1x1024 (shapeCast S1024 (extractStridedSlice S1x1024 ![0, 0] (m (c.tc.loc main_arg2) : S2x1024.Idx → EReal) slices_S2x1024_S1x1024_0_0) shapeCasts_S1x1024_S1024) shapeCasts_S1024_S1x1024 := by
  unfold V
  entry_read
  rfl
theorem V_v43 (k : Fin 1024) :
    (V m c main_v43 : S1x1024.Idx → EReal) (ix2 0 k) = (m (c.tc.loc main_arg2) : S2x1024.Idx → EReal) (ix2 0 k) := by
  rw [V_v43_eq]
  pointwise

theorem V_v46_eq : (V m c main_v46 : S1024x3584.Idx → EReal)
    = truncf (F := Ideal) .bf16 (shapeCast S1024x3584 (extractStridedSlice S1x1024x3584 ![0, 0, 0] (m (c.tc.loc main_arg3) : S2x1024x3584.Idx → EReal) slices_S2x1024x3584_S1x1024x3584_0_0_0) shapeCasts_S1x1024x3584_S1024x3584 : FVec Ideal S1024x3584 .f32) bitsLt_bf16_f32 := by
  unfold V
  entry_read
  rfl
theorem V_v46 (k : Fin 1024) (j : Fin 3584) :
    (V m c main_v46 : S1024x3584.Idx → EReal) (ix2 k j) = (m (c.tc.loc main_arg3) : S2x1024x3584.Idx → EReal) (ix3 0 k j) := by
  rw [V_v46_eq]
  pointwise

/-- A gain of 64 numbers, eight times over. -/
def tiled (g : FVec Ideal S2x64 .f32) : FVec Ideal S1x512 .f32 :=
  shapeCast S1x512 (shapeCast S512 (broadcastInDim S8x64 ![0, 1] bcast_S1x64_S8x64_0_1 (shapeCast S1x64 (shapeCast S64 (extractStridedSlice S1x64 ![0, 0] g slices_S2x64_S1x64_0_0) shapeCasts_S1x64_S64) shapeCasts_S64_S1x64))
    shapeCasts_S8x64_S512) shapeCasts_S512_S1x512

theorem tiled_apply (g : FVec Ideal S2x64 .f32) (j : Fin 512) : tiled g (ix2 0 j) = g (ix2 0 (Cert.Hand.lane j)) := by
  unfold tiled Cert.Hand.lane
  pointwise

theorem V_v52 : (V m c main_v52 : S1x512.Idx → EReal) = tiled (m (c.tc.loc main_arg4)) := by
  unfold V
  entry_read
  rfl
theorem V_v58 : (V m c main_v58 : S1x512.Idx → EReal) = tiled (m (c.tc.loc main_arg5)) := by
  unfold V
  entry_read
  rfl

/-! ## What a grid point reads -/

theorem t_lt (t : Fin cfg0.N) : t.val < 32 := t.isLt

theorem index_facts : ∀ t : Fin cfg0.N, win0_0.index t (0 : Fin 2) = t.val ∧ win0_0.index t (1 : Fin 2) = 0 ∧ win0_6.index t (0 : Fin 2) = t.val % 16 ∧ win0_6.index t (1 : Fin 2) = 0
    ∧ win0_7.index t (0 : Fin 2) = t.val % 16 ∧ win0_7.index t (1 : Fin 2) = 0 :=
  (by decide +kernel : ∀ t : Fin grid0.N, _)

theorem out_facts : ∀ t : Fin cfg0.N, (win0_8.index t (0 : Fin 2) = t.val ∧ win0_8.index t (1 : Fin 2) = 0) ∧ (win0_9.index t (0 : Fin 2) = t.val ∧ win0_9.index t (1 : Fin 2) = 0)
    ∧ (win0_10.index t (0 : Fin 2) = t.val ∧ win0_10.index t (1 : Fin 2) = 0) ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem out_facts3 : ∀ t : Fin cfg0.N, (win0_13.index t (0 : Fin 3) = t.val / 16 ∧ win0_13.index t (1 : Fin 3) = 0 ∧ win0_13.index t (2 : Fin 3) = t.val % 16)
    ∧ (win0_14.index t (0 : Fin 3) = t.val / 16 ∧ win0_14.index t (1 : Fin 3) = 0 ∧ win0_14.index t (2 : Fin 3) = t.val % 16)
    ∧ (win0_15.index t (0 : Fin 3) = t.val / 16 ∧ win0_15.index t (1 : Fin 3) = t.val % 16 ∧ win0_15.index t (2 : Fin 3) = 0) :=
  (by decide +kernel : ∀ t : Fin grid0.N, _)

/-- The half of the batch a block lies in, as the offset of its rows of the modulation. -/
theorem off_facts : ∀ t : Fin cfg0.N, k0_off1 (grid0.coords t) = ![t.val / 16, 0] ∧ k0_off2 (grid0.coords t) = ![t.val / 16, 1024] :=
  (by decide +kernel : ∀ t : Fin grid0.N, _)

/-- Row `r` of block `t`. -/
def rowOf (t : Fin cfg0.N) (r : Fin 512) : Fin 16384 := ⟨512 * t.val + r.val, by have := t_lt t; omega⟩

theorem Xw_apply (t : Fin cfg0.N) (r : Fin 512) (k : Fin 1024) :
    (iblk m c 0 t : S512x1024.Idx → EReal) (ix2 r k) = (m (c.tc.loc main_arg0) : S16384x1024.Idx → EReal) (ix2 (rowOf t r) k) := by
  show (V m c (Pipeline.arrRef spec0 (0 : Fin 16)) : S16384x1024.Idx → EReal) (((cfg0.win (0 : Fin 16)).blk t).view.emb (ix2 r k)) = _
  refine Eq.trans (congrFun (V_main_arg0 m c) _) ?_
  obtain ⟨e0, e1, e2, e3, e4, e5⟩ := index_facts t
  refine congrArg (m (c.tc.loc main_arg0) : S16384x1024.Idx → EReal) (funext fun a => Fin.ext ?_)
  match a with
  | ⟨0, _⟩ =>
    show win0_0.index t (0 : Fin 2) * 512 + 1 * r.val = 512 * t.val + r.val
    omega
  | ⟨1, _⟩ =>
    show win0_0.index t (1 : Fin 2) * 1024 + 1 * k.val = k.val
    omega

theorem Mw_apply (t : Fin cfg0.N) (e : Fin 8) (k : Fin 6144) :
    (iblk m c 1 t : S8x6144.Idx → EReal) (ix2 e k) = (m (c.tc.loc main_arg1) : S8x6144.Idx → EReal) (ix2 e k) := by
  show (V m c (Pipeline.arrRef spec0 (1 : Fin 16)) : S8x6144.Idx → EReal) (((cfg0.win (1 : Fin 16)).blk t).view.emb (ix2 e k)) = _
  refine Eq.trans (congrFun (V_main_arg1 m c) _) ?_
  refine congrArg (m (c.tc.loc main_arg1) : S8x6144.Idx → EReal) (funext fun a => Fin.ext ?_)
  match a with
  | ⟨0, _⟩ =>
    show 0 * 8 + 1 * e.val = e.val
    omega
  | ⟨1, _⟩ =>
    show 0 * 6144 + 1 * k.val = k.val
    omega

theorem Nw_apply (t : Fin cfg0.N) (k : Fin 1024) :
    (iblk m c 2 t : S1x1024.Idx → EReal) (ix2 0 k) = (m (c.tc.loc main_arg2) : S2x1024.Idx → EReal) (ix2 0 k) := by
  refine Eq.trans ?_ (V_v43 m c k)
  show (V m c (Pipeline.arrRef spec0 (2 : Fin 16)) : S1x1024.Idx → EReal) (((cfg0.win (2 : Fin 16)).blk t).view.emb (ix2 0 k)) = _
  refine congrArg (V m c main_v43 : S1x1024.Idx → EReal) (funext fun a => Fin.ext ?_)
  match a with
  | ⟨0, _⟩ =>
    show 0 * 1 + 1 * 0 = 0
    omega
  | ⟨1, _⟩ =>
    show 0 * 1024 + 1 * k.val = k.val
    omega

theorem Ww_apply (t : Fin cfg0.N) (k : Fin 1024) (j : Fin 3584) :
    (iblk m c 3 t : S1024x3584.Idx → EReal) (ix2 k j) = (m (c.tc.loc main_arg3) : S2x1024x3584.Idx → EReal) (ix3 0 k j) := by
  refine Eq.trans ?_ (V_v46 m c k j)
  show (V m c (Pipeline.arrRef spec0 (3 : Fin 16)) : S1024x3584.Idx → EReal) (((cfg0.win (3 : Fin 16)).blk t).view.emb (ix2 k j)) = _
  refine congrArg (V m c main_v46 : S1024x3584.Idx → EReal) (funext fun a => Fin.ext ?_)
  match a with
  | ⟨0, _⟩ =>
    show 0 * 1024 + 1 * k.val = k.val
    omega
  | ⟨1, _⟩ =>
    show 0 * 3584 + 1 * j.val = j.val
    omega

theorem Qw_apply (t : Fin cfg0.N) (j : Fin 512) :
    (iblk m c 4 t : S1x512.Idx → EReal) (ix2 0 j) = (m (c.tc.loc main_arg4) : S2x64.Idx → EReal) (ix2 0 (Cert.Hand.lane j)) := by
  refine Eq.trans ?_ ((congrFun (V_v52 m c) _).trans (tiled_apply _ j))
  show (V m c (Pipeline.arrRef spec0 (4 : Fin 16)) : S1x512.Idx → EReal) (((cfg0.win (4 : Fin 16)).blk t).view.emb (ix2 0 j)) = _
  refine congrArg (V m c main_v52 : S1x512.Idx → EReal) (funext fun a => Fin.ext ?_)
  match a with
  | ⟨0, _⟩ =>
    show 0 * 1 + 1 * 0 = 0
    omega
  | ⟨1, _⟩ =>
    show 0 * 512 + 1 * j.val = j.val
    omega

theorem Kw_apply (t : Fin cfg0.N) (j : Fin 512) :
    (iblk m c 5 t : S1x512.Idx → EReal) (ix2 0 j) = (m (c.tc.loc main_arg5) : S2x64.Idx → EReal) (ix2 0 (Cert.Hand.lane j)) := by
  refine Eq.trans ?_ ((congrFun (V_v58 m c) _).trans (tiled_apply _ j))
  show (V m c (Pipeline.arrRef spec0 (5 : Fin 16)) : S1x512.Idx → EReal) (((cfg0.win (5 : Fin 16)).blk t).view.emb (ix2 0 j)) = _
  refine congrArg (V m c main_v58 : S1x512.Idx → EReal) (funext fun a => Fin.ext ?_)
  match a with
  | ⟨0, _⟩ =>
    show 0 * 1 + 1 * 0 = 0
    omega
  | ⟨1, _⟩ =>
    show 0 * 512 + 1 * j.val = j.val
    omega

/-- The token's place in its half of the batch. -/
def tok (R : Fin 16384) : Fin 8192 := ⟨R.val % 8192, Nat.mod_lt _ (by decide)⟩

theorem Cw_apply (t : Fin cfg0.N) (r : Fin 512) (j : Fin 128) :
    (iblk m c 6 t : S512x128.Idx → EReal) (ix2 r j) = cosines (ix2 (tok (rowOf t r)) ⟨j.val % 64, Nat.mod_lt _ (by decide)⟩) := by
  refine Eq.trans ?_ (V_v33 m c (tok (rowOf t r)) j)
  show (V m c (Pipeline.arrRef spec0 (6 : Fin 16)) : S8192x128.Idx → EReal) (((cfg0.win (6 : Fin 16)).blk t).view.emb (ix2 r j)) = _
  obtain ⟨e0, e1, e2, e3, e4, e5⟩ := index_facts t
  refine congrArg (V m c main_v33 : S8192x128.Idx → EReal) (funext fun a => Fin.ext ?_)
  match a with
  | ⟨0, _⟩ =>
    show win0_6.index t (0 : Fin 2) * 512 + 1 * r.val = (512 * t.val + r.val) % 8192
    omega
  | ⟨1, _⟩ =>
    show win0_6.index t (1 : Fin 2) * 128 + 1 * j.val = j.val
    omega

theorem Sw_apply (t : Fin cfg0.N) (r : Fin 512) (j : Fin 128) :
    (iblk m c 7 t : S512x128.Idx → EReal) (ix2 r j)
      = sines (ix2 (tok (rowOf t r)) ⟨j.val % 64, Nat.mod_lt _ (by decide)⟩) * if j.val % 64 < 32 then -1 else 1 := by
  refine Eq.trans ?_ (V_v40 m c (tok (rowOf t r)) j)
  show (V m c (Pipeline.arrRef spec0 (7 : Fin 16)) : S8192x128.Idx → EReal) (((cfg0.win (7 : Fin 16)).blk t).view.emb (ix2 r j)) = _
  obtain ⟨e0, e1, e2, e3, e4, e5⟩ := index_facts t
  refine congrArg (V m c main_v40 : S8192x128.Idx → EReal) (funext fun a => Fin.ext ?_)
  match a with
  | ⟨0, _⟩ =>
    show win0_7.index t (0 : Fin 2) * 512 + 1 * r.val = (512 * t.val + r.val) % 8192
    omega
  | ⟨1, _⟩ =>
    show win0_7.index t (1 : Fin 2) * 128 + 1 * j.val = j.val
    omega

/-- A row of the modulation, by its offset. -/
theorem row_apply (t : Fin cfg0.N) (r : Fin 512) (off : Fin 2 → ℕ) (o : ℕ) (ho : off = ![t.val / 16, o]) (hk : o + 1024 ≤ 6144) (inb : ∀ a, off a + S1x1024.size a ≤ S8x6144.size a) (k : Fin 1024) :
    View.ld (Val := Elt Ideal) (iblk m c 1 t : S8x6144.Idx → EReal) (Rect.unit (s := S8x6144) off S1x1024.size inb) (ix2 0 k)
      = (m (c.tc.loc main_arg1) : S8x6144.Idx → EReal) (ix2 ⟨(rowOf t r).val / 8192, by have := (rowOf t r).isLt; omega⟩ ⟨o + k.val, by omega⟩) := by
  subst ho
  refine Eq.trans ?_ (Mw_apply m c t ⟨(rowOf t r).val / 8192, by have := (rowOf t r).isLt; omega⟩ ⟨o + k.val, by omega⟩)
  refine congrArg (iblk m c 1 t : S8x6144.Idx → EReal) (funext fun a => Fin.ext ?_)
  match a with
  | ⟨0, _⟩ =>
    show t.val / 16 + 1 * 0 = (512 * t.val + r.val) / 8192
    omega
  | ⟨1, _⟩ =>
    show o + 1 * k.val = o + k.val
    omega

/-- 512 columns of the projection's matrix, from column `o` on. -/
theorem col_apply (t : Fin cfg0.N) (o : ℕ) (ho : o + 512 ≤ 3584) (inb : ∀ a, ![0, o] a + S1024x512.size a ≤ S1024x3584.size a) (k : Fin 1024) (j : Fin 512) :
    View.ld (Val := Elt Ideal) (iblk m c 3 t : S1024x3584.Idx → EReal) (e' := .bf16) (Rect.unit (s := S1024x3584) ![0, o] S1024x512.size inb) (ix2 k j)
      = (m (c.tc.loc main_arg3) : S2x1024x3584.Idx → EReal) (ix3 0 k ⟨o + j.val, by omega⟩) := by
  refine Eq.trans ?_ (Ww_apply m c t k ⟨o + j.val, by omega⟩)
  refine congrArg (iblk m c 3 t : S1024x3584.Idx → EReal) (funext fun a => Fin.ext ?_)
  match a with
  | ⟨0, _⟩ =>
    show 0 + 1 * k.val = k.val
    omega
  | ⟨1, _⟩ =>
    show o + 1 * j.val = o + j.val
    omega

/-! ## What the body makes of it -/

/-- A block's rows normalized and modulated. -/
def rows (t : Fin cfg0.N) : FVec Ideal S512x1024 .bf16 :=
  k0_pay3 (View.ld (Val := Elt Ideal) (iblk m c 1 t : S8x6144.Idx → EReal) (Rect.unit (s := S8x6144) (k0_off1 (grid0.coords t)) S1x1024.size (k0_off1_inb (grid0.coords t))))
    (k0_pay2 (View.ld (Val := Elt Ideal) (iblk m c 1 t : S8x6144.Idx → EReal) (Rect.unit (s := S8x6144) (k0_off2 (grid0.coords t)) S1x1024.size (k0_off2_inb (grid0.coords t)))) (iblk m c 0 t) (iblk m c 2 t))

theorem rows_apply (t : Fin cfg0.N) (r : Fin 512) (k : Fin 1024) :
    rows m c t (ix2 r k) = Cert.Hand.entering (m (c.tc.loc main_arg0)) (m (c.tc.loc main_arg1)) (m (c.tc.loc main_arg2)) (rowOf t r) k := by
  obtain ⟨o1, o2⟩ := off_facts t
  unfold rows Cert.Hand.entering
  refine (pay3_apply _ _ _ _ r k).trans ?_
  simp only [Xw_apply, Nw_apply, row_apply m c t r _ 0 o1 (by decide), row_apply m c t r _ 1024 o2 (by decide)]

/-- A block's products with 512 columns. -/
theorem prod_eq (t : Fin cfg0.N) (o : ℕ) (ho : o + 512 ≤ 3584) (inb : ∀ a, ![0, o] a + S1024x512.size a ≤ S1024x3584.size a) (r j : Fin 512) :
    prod (rows m c t) (View.ld (Val := Elt Ideal) (iblk m c 3 t : S1024x3584.Idx → EReal) (e' := .bf16) (Rect.unit (s := S1024x3584) ![0, o] S1024x512.size inb)) r j
      = Cert.Hand.group (m (c.tc.loc main_arg0)) (m (c.tc.loc main_arg1)) (m (c.tc.loc main_arg2)) (m (c.tc.loc main_arg3)) o ho (rowOf t r) j := by
  unfold prod Cert.Hand.group
  refine Finset.sum_congr rfl fun k _ => ?_
  exact congrArg₂ (fun u v : EReal => u * v) (rows_apply m c t r k) (col_apply m c t o ho inb k j)

/-- A block's products normalized. -/
theorem unit_eq (t : Fin cfg0.N) (o : ℕ) (ho : o + 512 ≤ 3584) (inb : ∀ a, ![0, o] a + S1024x512.size a ≤ S1024x3584.size a) (w : Vec Ideal S1x512 .f32) (g : S2x64.Idx → EReal)
    (hw : ∀ j : Fin 512, w (ix2 0 j) = g (ix2 0 (Cert.Hand.lane j))) (r j : Fin 512) :
    unitRow (rows m c t) (View.ld (Val := Elt Ideal) (iblk m c 3 t : S1024x3584.Idx → EReal) (e' := .bf16) (Rect.unit (s := S1024x3584) ![0, o] S1024x512.size inb)) w r j
      = Cert.Hand.unit64 (Cert.Hand.group (m (c.tc.loc main_arg0)) (m (c.tc.loc main_arg1)) (m (c.tc.loc main_arg2)) (m (c.tc.loc main_arg3)) o ho (rowOf t r)) (fun d => g (ix2 0 d)) j := by
  unfold unitRow Cert.Hand.unit64
  rw [hw]
  simp only [prod_eq m c t o ho inb]

/-- A sign moves from a factor to the other. -/
theorem sign_move (p : Prop) [Decidable p] (a b s : EReal) : (if p then a else b) * (s * if p then -1 else 1) = (if p then -a else b) * s := by
  split_ifs
  · rw [mul_neg, mul_one, mul_neg, neg_mul]
  · rw [mul_one]

/-- A block's products normalized and turned. -/
theorem turned_eq (t : Fin cfg0.N) (o : ℕ) (ho : o + 512 ≤ 3584) (inb : ∀ a, ![0, o] a + S1024x512.size a ≤ S1024x3584.size a) (w : Vec Ideal S1x512 .f32) (g : S2x64.Idx → EReal)
    (hw : ∀ j : Fin 512, w (ix2 0 j) = g (ix2 0 (Cert.Hand.lane j))) (r j : Fin 512) :
    turnedRow (rows m c t) (View.ld (Val := Elt Ideal) (iblk m c 3 t : S1024x3584.Idx → EReal) (e' := .bf16) (Rect.unit (s := S1024x3584) ![0, o] S1024x512.size inb)) w (iblk m c 6 t) (iblk m c 7 t) r j
      = Cert.Hand.roped (m (c.tc.loc main_arg0)) (m (c.tc.loc main_arg1)) (m (c.tc.loc main_arg2)) (m (c.tc.loc main_arg3)) g cosines sines o ho (rowOf t r) j := by
  have hl : (⟨j.val % 128 % 64, Nat.mod_lt _ (by decide)⟩ : Fin 64) = Cert.Hand.lane j := Fin.ext (by show j.val % 128 % 64 = j.val % 64; omega)
  have hm : j.val % 128 % 64 = j.val % 64 := by omega
  unfold turnedRow Cert.Hand.roped Cert.Hand.turned Cert.Hand.across
  simp only [unit_eq m c t o ho inb w g hw]
  rw [Cw_apply, Sw_apply]
  simp only [hl, hm]
  rw [sign_move]
  rfl

end Cert.Kernel5Ideal.Hand

end
-- ==== Proof.InFin.lean ====
/-
  Hand-written. What the input projection's eight results hold in the end: each block's share, its place, and the whole.
-/
module

public import proofs.«01_k».proof.Proof.InKer

@[expose] public section

noncomputable section

namespace Cert.Kernel5Ideal.Hand

open Cert.Kernel5Ideal Cert.Kernel5Ideal.Gen
open Idealize.ShloMosaic Idealize.ShloMosaic.TcCoe Idealize.ShloMosaic.Tactic

variable (m : (ℓ : Loc nD τ sig) → Buf (Elt Ideal) ℓ) (c : Dev nD)

/-- The block that holds row `R`, and the row's place in it. -/
def pt (R : Fin 16384) : Fin cfg0.N := ⟨R.val / 512, by have := R.isLt; show _ < 32; omega⟩
def rm (R : Fin 16384) : Fin 512 := ⟨R.val % 512, Nat.mod_lt _ (by decide)⟩

theorem rowOf_pt (R : Fin 16384) : rowOf (pt R) (rm R) = R := Fin.ext (by show 512 * (R.val / 512) + R.val % 512 = R.val; omega)

/-- Token `k` of half `b`, as a row. -/
def rowAt (b : Fin 2) (k : Fin 8192) : Fin 16384 := ⟨b.val * 8192 + k.val, by omega⟩

theorem block8 (t : Fin cfg0.N) (r : Fin 512) (j : Fin 512) :
    (outsAt0 m c t).1 (ix2 r j) = Cert.Hand.group (m (c.tc.loc main_arg0)) (m (c.tc.loc main_arg1)) (m (c.tc.loc main_arg2)) (m (c.tc.loc main_arg3)) 0 (by decide) (rowOf t r) j := by
  unfold outsAt0
  dsimp only
  rw [out8_eq]
  exact (pay4_apply _ _ _ r j).trans (prod_eq m c t 0 (by decide) _ r j)

theorem block9 (t : Fin cfg0.N) (r : Fin 512) (j : Fin 512) :
    (outsAt0 m c t).2.1 (ix2 r j) = Cert.Hand.group (m (c.tc.loc main_arg0)) (m (c.tc.loc main_arg1)) (m (c.tc.loc main_arg2)) (m (c.tc.loc main_arg3)) 512 (by decide) (rowOf t r) j * Ideal.ofBits .f32 0x3DB504F3#32 := by
  unfold outsAt0
  dsimp only
  rw [out9_eq]
  exact (pay5_apply _ _ _ r j).trans (congrArg (fun z : EReal => z * Ideal.ofBits .f32 0x3DB504F3#32) (prod_eq m c t 512 (by decide) _ r j))

theorem block10 (t : Fin cfg0.N) (r : Fin 512) (j : Fin 512) :
    (outsAt0 m c t).2.2.1 (ix2 r j) = Cert.Hand.group (m (c.tc.loc main_arg0)) (m (c.tc.loc main_arg1)) (m (c.tc.loc main_arg2)) (m (c.tc.loc main_arg3)) 1024 (by decide) (rowOf t r) j := by
  unfold outsAt0
  dsimp only
  rw [out10_eq]
  exact (pay6_apply _ _ _ r j).trans (prod_eq m c t 1024 (by decide) _ r j)

theorem block11 (t : Fin cfg0.N) (r : Fin 512) (j : Fin 512) :
    (outsAt0 m c t).2.2.2.1 (ix2 r j) = Cert.Hand.group (m (c.tc.loc main_arg0)) (m (c.tc.loc main_arg1)) (m (c.tc.loc main_arg2)) (m (c.tc.loc main_arg3)) 1536 (by decide) (rowOf t r) j := by
  unfold outsAt0
  dsimp only
  rw [out11_eq]
  exact (pay7_apply _ _ _ r j).trans (prod_eq m c t 1536 (by decide) _ r j)

theorem block12 (t : Fin cfg0.N) (r : Fin 512) (j : Fin 512) :
    (outsAt0 m c t).2.2.2.2.1 (ix2 r j) = Cert.Hand.query (m (c.tc.loc main_arg0)) (m (c.tc.loc main_arg1)) (m (c.tc.loc main_arg2)) (m (c.tc.loc main_arg3)) (m (c.tc.loc main_arg4)) cosines sines (rowOf t r) j := by
  unfold outsAt0
  dsimp only
  rw [out12_eq]
  unfold Cert.Hand.query
  exact (query_apply (rows m c t) _ _ _ _ r j).trans (congrArg (fun z : EReal => z * Ideal.ofBits .f32 0x3E38AA3B#32)
    (turned_eq m c t 2048 (by decide) _ _ _ (Qw_apply m c t) r j))

theorem block13 (t : Fin cfg0.N) (r : Fin 512) (j : Fin 512) :
    (outsAt0 m c t).2.2.2.2.2.1 (ix3 0 j r) = Cert.Hand.key1 (m (c.tc.loc main_arg0)) (m (c.tc.loc main_arg1)) (m (c.tc.loc main_arg2)) (m (c.tc.loc main_arg3)) (m (c.tc.loc main_arg5)) cosines sines (rowOf t r) j := by
  unfold outsAt0
  dsimp only
  rw [out13_eq]
  unfold Cert.Hand.key1
  exact (pay24_apply _ j r).trans (congrArg (fun z : EReal => if j.val % 128 < 64 then z else 0)
    ((key_apply (rows m c t) _ _ _ _ r j).trans (turned_eq m c t 2560 (by decide) _ _ _ (Kw_apply m c t) r j)))

theorem block14 (t : Fin cfg0.N) (r : Fin 512) (j : Fin 512) :
    (outsAt0 m c t).2.2.2.2.2.2.1 (ix3 0 j r) = Cert.Hand.key2 (m (c.tc.loc main_arg0)) (m (c.tc.loc main_arg1)) (m (c.tc.loc main_arg2)) (m (c.tc.loc main_arg3)) (m (c.tc.loc main_arg5)) cosines sines (rowOf t r) j := by
  unfold outsAt0
  dsimp only
  rw [out14_eq]
  unfold Cert.Hand.key2
  exact (pay25_apply _ j r).trans (congrArg (fun z : EReal => if j.val % 128 < 64 then 0 else z)
    ((key_apply (rows m c t) _ _ _ _ r j).trans (turned_eq m c t 2560 (by decide) _ _ _ (Kw_apply m c t) r j)))

theorem block15 (t : Fin cfg0.N) (r : Fin 512) (j : Fin 1024) :
    (outsAt0 m c t).2.2.2.2.2.2.2 (ix3 0 r j) = Cert.Hand.worth (m (c.tc.loc main_arg0)) (m (c.tc.loc main_arg1)) (m (c.tc.loc main_arg2)) (m (c.tc.loc main_arg3)) (rowOf t r) j := by
  unfold outsAt0
  dsimp only
  rw [out15_eq]
  unfold Cert.Hand.worth
  refine (worth_apply (rows m c t) _ r j).trans ?_
  rw [prod_eq m c t 3072 (by decide)]

theorem place8 (t : Fin cfg0.N) (r : Fin 512) (j : Fin 512) :
    ((cfg0.win (8 : Fin 16)).blk t).view.emb (ix2 r j) = (ix2 (rowOf t r) j : S16384x512.Idx) := by
  obtain ⟨⟨e8, f8⟩, ⟨e9, f9⟩, ⟨e10, f10⟩, ⟨e11, f11⟩, e12, f12⟩ := out_facts t
  funext b
  refine Fin.ext ?_
  match b with
  | ⟨0, _⟩ =>
    show win0_8.index t (0 : Fin 2) * 512 + 1 * r.val = 512 * t.val + r.val
    omega
  | ⟨1, _⟩ =>
    show win0_8.index t (1 : Fin 2) * 512 + 1 * j.val = j.val
    omega

theorem final8 (R : Fin 16384) (j : Fin 512) :
    ((dats m 0 c).arrAt 8 cfg0.N : S16384x512.Idx → EReal) (ix2 R j) = Cert.Hand.group (m (c.tc.loc main_arg0)) (m (c.tc.loc main_arg1)) (m (c.tc.loc main_arg2)) (m (c.tc.loc main_arg3)) 0 (by decide) R j := by
  have hb := congrFun (Cert.Kernel5Ideal.Value.blocks8 m c (pt R) (flush0_8 _)) (ix2 (rm R) j)
  rw [Cert.Kernel5Ideal.Value.flushed8] at hb
  have he := place8 (pt R) (rm R) j
  have hp : (ix2 R j : S16384x512.Idx) = ix2 (rowOf (pt R) (rm R)) j := congrArg (fun i : Fin 16384 => (ix2 i j : S16384x512.Idx)) (rowOf_pt R).symm
  refine (congrArg ((dats m 0 c).arrAt 8 cfg0.N : S16384x512.Idx → EReal) (hp.trans he.symm)).trans (hb.trans ?_)
  refine (block8 m c (pt R) (rm R) j).trans ?_
  rw [rowOf_pt]

theorem place9 (t : Fin cfg0.N) (r : Fin 512) (j : Fin 512) :
    ((cfg0.win (9 : Fin 16)).blk t).view.emb (ix2 r j) = (ix2 (rowOf t r) j : S16384x512.Idx) := by
  obtain ⟨⟨e8, f8⟩, ⟨e9, f9⟩, ⟨e10, f10⟩, ⟨e11, f11⟩, e12, f12⟩ := out_facts t
  funext b
  refine Fin.ext ?_
  match b with
  | ⟨0, _⟩ =>
    show win0_9.index t (0 : Fin 2) * 512 + 1 * r.val = 512 * t.val + r.val
    omega
  | ⟨1, _⟩ =>
    show win0_9.index t (1 : Fin 2) * 512 + 1 * j.val = j.val
    omega

theorem final9 (R : Fin 16384) (j : Fin 512) :
    ((dats m 0 c).arrAt 9 cfg0.N : S16384x512.Idx → EReal) (ix2 R j) = Cert.Hand.group (m (c.tc.loc main_arg0)) (m (c.tc.loc main_arg1)) (m (c.tc.loc main_arg2)) (m (c.tc.loc main_arg3)) 512 (by decide) R j * Ideal.ofBits .f32 0x3DB504F3#32 := by
  have hb := congrFun (Cert.Kernel5Ideal.Value.blocks9 m c (pt R) (flush0_9 _)) (ix2 (rm R) j)
  rw [Cert.Kernel5Ideal.Value.flushed9] at hb
  have he := place9 (pt R) (rm R) j
  have hp : (ix2 R j : S16384x512.Idx) = ix2 (rowOf (pt R) (rm R)) j := congrArg (fun i : Fin 16384 => (ix2 i j : S16384x512.Idx)) (rowOf_pt R).symm
  refine (congrArg ((dats m 0 c).arrAt 9 cfg0.N : S16384x512.Idx → EReal) (hp.trans he.symm)).trans (hb.trans ?_)
  refine (block9 m c (pt R) (rm R) j).trans ?_
  rw [rowOf_pt]

theorem place10 (t : Fin cfg0.N) (r : Fin 512) (j : Fin 512) :
    ((cfg0.win (10 : Fin 16)).blk t).view.emb (ix2 r j) = (ix2 (rowOf t r) j : S16384x512.Idx) := by
  obtain ⟨⟨e8, f8⟩, ⟨e9, f9⟩, ⟨e10, f10⟩, ⟨e11, f11⟩, e12, f12⟩ := out_facts t
  funext b
  refine Fin.ext ?_
  match b with
  | ⟨0, _⟩ =>
    show win0_10.index t (0 : Fin 2) * 512 + 1 * r.val = 512 * t.val + r.val
    omega
  | ⟨1, _⟩ =>
    show win0_10.index t (1 : Fin 2) * 512 + 1 * j.val = j.val
    omega

theorem final10 (R : Fin 16384) (j : Fin 512) :
    ((dats m 0 c).arrAt 10 cfg0.N : S16384x512.Idx → EReal) (ix2 R j) = Cert.Hand.group (m (c.tc.loc main_arg0)) (m (c.tc.loc main_arg1)) (m (c.tc.loc main_arg2)) (m (c.tc.loc main_arg3)) 1024 (by decide) R j := by
  have hb := congrFun (Cert.Kernel5Ideal.Value.blocks10 m c (pt R) (flush0_10 _)) (ix2 (rm R) j)
  rw [Cert.Kernel5Ideal.Value.flushed10] at hb
  have he := place10 (pt R) (rm R) j
  have hp : (ix2 R j : S16384x512.Idx) = ix2 (rowOf (pt R) (rm R)) j := congrArg (fun i : Fin 16384 => (ix2 i j : S16384x512.Idx)) (rowOf_pt R).symm
  refine (congrArg ((dats m 0 c).arrAt 10 cfg0.N : S16384x512.Idx → EReal) (hp.trans he.symm)).trans (hb.trans ?_)
  refine (block10 m c (pt R) (rm R) j).trans ?_
  rw [rowOf_pt]

theorem place11 (t : Fin cfg0.N) (r : Fin 512) (j : Fin 512) :
    ((cfg0.win (11 : Fin 16)).blk t).view.emb (ix2 r j) = (ix2 (rowOf t r) j : S16384x512.Idx) := by
  obtain ⟨⟨e8, f8⟩, ⟨e9, f9⟩, ⟨e10, f10⟩, ⟨e11, f11⟩, e12, f12⟩ := out_facts t
  funext b
  refine Fin.ext ?_
  match b with
  | ⟨0, _⟩ =>
    show win0_11.index t (0 : Fin 2) * 512 + 1 * r.val = 512 * t.val + r.val
    omega
  | ⟨1, _⟩ =>
    show win0_11.index t (1 : Fin 2) * 512 + 1 * j.val = j.val
    omega

theorem final11 (R : Fin 16384) (j : Fin 512) :
    ((dats m 0 c).arrAt 11 cfg0.N : S16384x512.Idx → EReal) (ix2 R j) = Cert.Hand.group (m (c.tc.loc main_arg0)) (m (c.tc.loc main_arg1)) (m (c.tc.loc main_arg2)) (m (c.tc.loc main_arg3)) 1536 (by decide) R j := by
  have hb := congrFun (Cert.Kernel5Ideal.Value.blocks11 m c (pt R) (flush0_11 _)) (ix2 (rm R) j)
  rw [Cert.Kernel5Ideal.Value.flushed11] at hb
  have he := place11 (pt R) (rm R) j
  have hp : (ix2 R j : S16384x512.Idx) = ix2 (rowOf (pt R) (rm R)) j := congrArg (fun i : Fin 16384 => (ix2 i j : S16384x512.Idx)) (rowOf_pt R).symm
  refine (congrArg ((dats m 0 c).arrAt 11 cfg0.N : S16384x512.Idx → EReal) (hp.trans he.symm)).trans (hb.trans ?_)
  refine (block11 m c (pt R) (rm R) j).trans ?_
  rw [rowOf_pt]

theorem place12 (t : Fin cfg0.N) (r : Fin 512) (j : Fin 512) :
    ((cfg0.win (12 : Fin 16)).blk t).view.emb (ix2 r j) = (ix2 (rowOf t r) j : S16384x512.Idx) := by
  obtain ⟨⟨e8, f8⟩, ⟨e9, f9⟩, ⟨e10, f10⟩, ⟨e11, f11⟩, e12, f12⟩ := out_facts t
  funext b
  refine Fin.ext ?_
  match b with
  | ⟨0, _⟩ =>
    show win0_12.index t (0 : Fin 2) * 512 + 1 * r.val = 512 * t.val + r.val
    omega
  | ⟨1, _⟩ =>
    show win0_12.index t (1 : Fin 2) * 512 + 1 * j.val = j.val
    omega

theorem final12 (R : Fin 16384) (j : Fin 512) :
    ((dats m 0 c).arrAt 12 cfg0.N : S16384x512.Idx → EReal) (ix2 R j) = Cert.Hand.query (m (c.tc.loc main_arg0)) (m (c.tc.loc main_arg1)) (m (c.tc.loc main_arg2)) (m (c.tc.loc main_arg3)) (m (c.tc.loc main_arg4)) cosines sines R j := by
  have hb := congrFun (Cert.Kernel5Ideal.Value.blocks12 m c (pt R) (flush0_12 _)) (ix2 (rm R) j)
  rw [Cert.Kernel5Ideal.Value.flushed12] at hb
  have he := place12 (pt R) (rm R) j
  have hp : (ix2 R j : S16384x512.Idx) = ix2 (rowOf (pt R) (rm R)) j := congrArg (fun i : Fin 16384 => (ix2 i j : S16384x512.Idx)) (rowOf_pt R).symm
  refine (congrArg ((dats m 0 c).arrAt 12 cfg0.N : S16384x512.Idx → EReal) (hp.trans he.symm)).trans (hb.trans ?_)
  refine (block12 m c (pt R) (rm R) j).trans ?_
  rw [rowOf_pt]

theorem place13 (t : Fin cfg0.N) (r : Fin 512) (j : Fin 512) :
    ((cfg0.win (13 : Fin 16)).blk t).view.emb (ix3 0 j r) = (ix3 (⟨t.val / 16, by have := t_lt t; omega⟩ : Fin 2) j (⟨512 * (t.val % 16) + r.val, by omega⟩ : Fin 8192) : S2x512x8192.Idx) := by
  obtain ⟨⟨e13, f13, g13⟩, ⟨e14, f14, g14⟩, e15, f15, g15⟩ := out_facts3 t
  funext b
  refine Fin.ext ?_
  match b with
  | ⟨0, _⟩ =>
    show win0_13.index t (0 : Fin 3) * 1 + 1 * 0 = t.val / 16
    omega
  | ⟨1, _⟩ =>
    show win0_13.index t (1 : Fin 3) * 512 + 1 * j.val = j.val
    omega
  | ⟨2, _⟩ =>
    show win0_13.index t (2 : Fin 3) * 512 + 1 * r.val = 512 * (t.val % 16) + r.val
    omega

theorem final13 (b : Fin 2) (k : Fin 8192) (j : Fin 512) :
    ((dats m 0 c).arrAt 13 cfg0.N : S2x512x8192.Idx → EReal) (ix3 b j k) = Cert.Hand.key1 (m (c.tc.loc main_arg0)) (m (c.tc.loc main_arg1)) (m (c.tc.loc main_arg2)) (m (c.tc.loc main_arg3)) (m (c.tc.loc main_arg5)) cosines sines (rowAt b k) j := by
  have hb := congrFun (Cert.Kernel5Ideal.Value.blocks13 m c (pt (rowAt b k)) (flush0_13 _)) (ix3 (0 : Fin 1) j (rm (rowAt b k)))
  rw [Cert.Kernel5Ideal.Value.flushed13] at hb
  have he := place13 (pt (rowAt b k)) (rm (rowAt b k)) j
  have h1 : (⟨(pt (rowAt b k)).val / 16, by have := t_lt (pt (rowAt b k)); omega⟩ : Fin 2) = b := Fin.ext (by show (b.val * 8192 + k.val) / 512 / 16 = b.val; omega)
  have h2 : (⟨512 * ((pt (rowAt b k)).val % 16) + (rm (rowAt b k)).val, by omega⟩ : Fin 8192) = k :=
    Fin.ext (by show 512 * ((b.val * 8192 + k.val) / 512 % 16) + (b.val * 8192 + k.val) % 512 = k.val; omega)
  rw [h1, h2] at he
  refine (congrArg ((dats m 0 c).arrAt 13 cfg0.N : S2x512x8192.Idx → EReal) he.symm).trans (hb.trans ?_)
  refine (block13 m c (pt (rowAt b k)) (rm (rowAt b k)) j).trans ?_
  rw [rowOf_pt]

theorem place14 (t : Fin cfg0.N) (r : Fin 512) (j : Fin 512) :
    ((cfg0.win (14 : Fin 16)).blk t).view.emb (ix3 0 j r) = (ix3 (⟨t.val / 16, by have := t_lt t; omega⟩ : Fin 2) j (⟨512 * (t.val % 16) + r.val, by omega⟩ : Fin 8192) : S2x512x8192.Idx) := by
  obtain ⟨⟨e13, f13, g13⟩, ⟨e14, f14, g14⟩, e15, f15, g15⟩ := out_facts3 t
  funext b
  refine Fin.ext ?_
  match b with
  | ⟨0, _⟩ =>
    show win0_14.index t (0 : Fin 3) * 1 + 1 * 0 = t.val / 16
    omega
  | ⟨1, _⟩ =>
    show win0_14.index t (1 : Fin 3) * 512 + 1 * j.val = j.val
    omega
  | ⟨2, _⟩ =>
    show win0_14.index t (2 : Fin 3) * 512 + 1 * r.val = 512 * (t.val % 16) + r.val
    omega

theorem final14 (b : Fin 2) (k : Fin 8192) (j : Fin 512) :
    ((dats m 0 c).arrAt 14 cfg0.N : S2x512x8192.Idx → EReal) (ix3 b j k) = Cert.Hand.key2 (m (c.tc.loc main_arg0)) (m (c.tc.loc main_arg1)) (m (c.tc.loc main_arg2)) (m (c.tc.loc main_arg3)) (m (c.tc.loc main_arg5)) cosines sines (rowAt b k) j := by
  have hb := congrFun (Cert.Kernel5Ideal.Value.blocks14 m c (pt (rowAt b k)) (flush0_14 _)) (ix3 (0 : Fin 1) j (rm (rowAt b k)))
  rw [Cert.Kernel5Ideal.Value.flushed14] at hb
  have he := place14 (pt (rowAt b k)) (rm (rowAt b k)) j
  have h1 : (⟨(pt (rowAt b k)).val / 16, by have := t_lt (pt (rowAt b k)); omega⟩ : Fin 2) = b := Fin.ext (by show (b.val * 8192 + k.val) / 512 / 16 = b.val; omega)
  have h2 : (⟨512 * ((pt (rowAt b k)).val % 16) + (rm (rowAt b k)).val, by omega⟩ : Fin 8192) = k :=
    Fin.ext (by show 512 * ((b.val * 8192 + k.val) / 512 % 16) + (b.val * 8192 + k.val) % 512 = k.val; omega)
  rw [h1, h2] at he
  refine (congrArg ((dats m 0 c).arrAt 14 cfg0.N : S2x512x8192.Idx → EReal) he.symm).trans (hb.trans ?_)
  refine (block14 m c (pt (rowAt b k)) (rm (rowAt b k)) j).trans ?_
  rw [rowOf_pt]

theorem place15 (t : Fin cfg0.N) (r : Fin 512) (j : Fin 1024) :
    ((cfg0.win (15 : Fin 16)).blk t).view.emb (ix3 0 r j) = (ix3 (⟨t.val / 16, by have := t_lt t; omega⟩ : Fin 2) (⟨512 * (t.val % 16) + r.val, by omega⟩ : Fin 8192) j : S2x8192x1024.Idx) := by
  obtain ⟨⟨e13, f13, g13⟩, ⟨e14, f14, g14⟩, e15, f15, g15⟩ := out_facts3 t
  funext b
  refine Fin.ext ?_
  match b with
  | ⟨0, _⟩ =>
    show win0_15.index t (0 : Fin 3) * 1 + 1 * 0 = t.val / 16
    omega
  | ⟨1, _⟩ =>
    show win0_15.index t (1 : Fin 3) * 512 + 1 * r.val = 512 * (t.val % 16) + r.val
    omega
  | ⟨2, _⟩ =>
    show win0_15.index t (2 : Fin 3) * 1024 + 1 * j.val = j.val
    omega

theorem final15 (b : Fin 2) (k : Fin 8192) (j : Fin 1024) :
    ((dats m 0 c).arrAt 15 cfg0.N : S2x8192x1024.Idx → EReal) (ix3 b k j) = Cert.Hand.worth (m (c.tc.loc main_arg0)) (m (c.tc.loc main_arg1)) (m (c.tc.loc main_arg2)) (m (c.tc.loc main_arg3)) (rowAt b k) j := by
  have hb := congrFun (Cert.Kernel5Ideal.Value.blocks15 m c (pt (rowAt b k)) (flush0_15 _)) (ix3 (0 : Fin 1) (rm (rowAt b k)) j)
  rw [Cert.Kernel5Ideal.Value.flushed15] at hb
  have he := place15 (pt (rowAt b k)) (rm (rowAt b k)) j
  have h1 : (⟨(pt (rowAt b k)).val / 16, by have := t_lt (pt (rowAt b k)); omega⟩ : Fin 2) = b := Fin.ext (by show (b.val * 8192 + k.val) / 512 / 16 = b.val; omega)
  have h2 : (⟨512 * ((pt (rowAt b k)).val % 16) + (rm (rowAt b k)).val, by omega⟩ : Fin 8192) = k :=
    Fin.ext (by show 512 * ((b.val * 8192 + k.val) / 512 % 16) + (b.val * 8192 + k.val) % 512 = k.val; omega)
  rw [h1, h2] at he
  refine (congrArg ((dats m 0 c).arrAt 15 cfg0.N : S2x8192x1024.Idx → EReal) he.symm).trans (hb.trans ?_)
  refine (block15 m c (pt (rowAt b k)) (rm (rowAt b k)) j).trans ?_
  rw [rowOf_pt]

end Cert.Kernel5Ideal.Hand

end
-- ==== Proof.InValue.lean ====
/-
  Hand-written. The input projection's eight arrays are its reference's eight results.
-/
module

public import proofs.«01_k».proof.Proof.Gen.Reference5Ideal.Run
public import proofs.«01_k».proof.Proof.InRes
public import proofs.«01_k».proof.Proof.InFin
public import Idealize.ShloMosaic.Lib.Pipeline.Value
public import Idealize.ShloMosaic.Lib.Pointwise

@[expose] public section

noncomputable section

namespace Cert.Hand

open Cert.Reference5Ideal Cert.Reference5Ideal.Gen Cert.Reference5Ideal.Hand Idealize.ShloMosaic Idealize.ShloMosaic.TcCoe Idealize.SL.Sem

/-- Both texts make the same cosines. -/
theorem cosines_eq : Cert.Kernel5Ideal.Hand.cosines = Cert.Reference5Ideal.Hand.cosines := rfl
/-- And the same sines. -/
theorem sines_eq : Cert.Kernel5Ideal.Hand.sines = Cert.Reference5Ideal.Hand.sines := rfl

variable (m : (ℓ : Loc Cert.Kernel5Ideal.nD Cert.Kernel5Ideal.τ Cert.Kernel5Ideal.sig) → Buf (Elt Ideal) ℓ) (c : Dev Cert.Kernel5Ideal.nD)
  (x : FVec Ideal S16384x1024 .f32) (md : FVec Ideal S8x6144 .f32) (n : FVec Ideal S2x1024 .f32) (W : FVec Ideal S2x1024x3584 .f32) (g : FVec Ideal S2x64 .f32)

theorem same0 (h0 : x = m (c.tc.loc Cert.Kernel5Ideal.main_arg0)) (h1 : md = m (c.tc.loc Cert.Kernel5Ideal.main_arg1)) (h2 : n = m (c.tc.loc Cert.Kernel5Ideal.main_arg2))
    (h3 : W = m (c.tc.loc Cert.Kernel5Ideal.main_arg3)) :
    (out0 (stage x md n W) : S16384x512.Idx → EReal) = (Cert.Kernel5Ideal.Gen.dats m 0 c).arrAt 8 Cert.Kernel5Ideal.cfg0.N := by
  subst h0 h1 h2 h3
  funext y
  rw [eq_ix2 y]
  refine Eq.trans ?_ (Cert.Kernel5Ideal.Hand.final8 m c (y 0) (y 1)).symm
  refine (out0_apply _ (y 0) (y 1)).trans ?_
  exact stage_apply _ _ _ _ 0 (by decide) (y 0) (y 1)

theorem same1 (h0 : x = m (c.tc.loc Cert.Kernel5Ideal.main_arg0)) (h1 : md = m (c.tc.loc Cert.Kernel5Ideal.main_arg1)) (h2 : n = m (c.tc.loc Cert.Kernel5Ideal.main_arg2))
    (h3 : W = m (c.tc.loc Cert.Kernel5Ideal.main_arg3)) :
    (out1 (stage x md n W) : S16384x512.Idx → EReal) = (Cert.Kernel5Ideal.Gen.dats m 0 c).arrAt 9 Cert.Kernel5Ideal.cfg0.N := by
  subst h0 h1 h2 h3
  funext y
  rw [eq_ix2 y]
  refine Eq.trans ?_ (Cert.Kernel5Ideal.Hand.final9 m c (y 0) (y 1)).symm
  refine (out1_apply _ (y 0) (y 1)).trans ?_
  exact congrArg (fun v => v * Ideal.ofBits .f32 0x3DB504F3#32) (stage_apply _ _ _ _ 512 (by decide) (y 0) (y 1))

theorem same2 (h0 : x = m (c.tc.loc Cert.Kernel5Ideal.main_arg0)) (h1 : md = m (c.tc.loc Cert.Kernel5Ideal.main_arg1)) (h2 : n = m (c.tc.loc Cert.Kernel5Ideal.main_arg2))
    (h3 : W = m (c.tc.loc Cert.Kernel5Ideal.main_arg3)) :
    (out2 (stage x md n W) : S16384x512.Idx → EReal) = (Cert.Kernel5Ideal.Gen.dats m 0 c).arrAt 10 Cert.Kernel5Ideal.cfg0.N := by
  subst h0 h1 h2 h3
  funext y
  rw [eq_ix2 y]
  refine Eq.trans ?_ (Cert.Kernel5Ideal.Hand.final10 m c (y 0) (y 1)).symm
  refine (out2_apply _ (y 0) (y 1)).trans ?_
  exact stage_apply _ _ _ _ 1024 (by decide) (y 0) (y 1)

theorem same3 (h0 : x = m (c.tc.loc Cert.Kernel5Ideal.main_arg0)) (h1 : md = m (c.tc.loc Cert.Kernel5Ideal.main_arg1)) (h2 : n = m (c.tc.loc Cert.Kernel5Ideal.main_arg2))
    (h3 : W = m (c.tc.loc Cert.Kernel5Ideal.main_arg3)) :
    (out3 (stage x md n W) : S16384x512.Idx → EReal) = (Cert.Kernel5Ideal.Gen.dats m 0 c).arrAt 11 Cert.Kernel5Ideal.cfg0.N := by
  subst h0 h1 h2 h3
  funext y
  rw [eq_ix2 y]
  refine Eq.trans ?_ (Cert.Kernel5Ideal.Hand.final11 m c (y 0) (y 1)).symm
  refine (out3_apply _ (y 0) (y 1)).trans ?_
  exact stage_apply _ _ _ _ 1536 (by decide) (y 0) (y 1)

theorem same4 (h0 : x = m (c.tc.loc Cert.Kernel5Ideal.main_arg0)) (h1 : md = m (c.tc.loc Cert.Kernel5Ideal.main_arg1)) (h2 : n = m (c.tc.loc Cert.Kernel5Ideal.main_arg2))
    (h3 : W = m (c.tc.loc Cert.Kernel5Ideal.main_arg3)) (h4 : g = m (c.tc.loc Cert.Kernel5Ideal.main_arg4)) :
    (out4 (turns (units (heads (groupQ x md n W)) g) Cert.Reference5Ideal.Hand.cosines Cert.Reference5Ideal.Hand.sines) : S16384x512.Idx → EReal) = (Cert.Kernel5Ideal.Gen.dats m 0 c).arrAt 12 Cert.Kernel5Ideal.cfg0.N := by
  subst h0 h1 h2 h3 h4
  funext y
  rw [eq_ix2 y]
  refine Eq.trans ?_ (Cert.Kernel5Ideal.Hand.final12 m c (y 0) (y 1)).symm
  exact query_eq _ _ _ _ _ _ _ (y 0) (y 1)

theorem same5 (h0 : x = m (c.tc.loc Cert.Kernel5Ideal.main_arg0)) (h1 : md = m (c.tc.loc Cert.Kernel5Ideal.main_arg1)) (h2 : n = m (c.tc.loc Cert.Kernel5Ideal.main_arg2))
    (h3 : W = m (c.tc.loc Cert.Kernel5Ideal.main_arg3)) (h5 : g = m (c.tc.loc Cert.Kernel5Ideal.main_arg5)) :
    (lay (firsts (turns (units (heads (groupK x md n W)) g) Cert.Reference5Ideal.Hand.cosines Cert.Reference5Ideal.Hand.sines)) : S2x512x8192.Idx → EReal) = (Cert.Kernel5Ideal.Gen.dats m 0 c).arrAt 13 Cert.Kernel5Ideal.cfg0.N := by
  subst h0 h1 h2 h3 h5
  funext y
  rw [eq_ix3 y]
  refine Eq.trans ?_ (Cert.Kernel5Ideal.Hand.final13 m c (y 0) (y 2) (y 1)).symm
  exact key1_eq _ _ _ _ _ _ _ (y 0) (y 2) (y 1)

theorem same6 (h0 : x = m (c.tc.loc Cert.Kernel5Ideal.main_arg0)) (h1 : md = m (c.tc.loc Cert.Kernel5Ideal.main_arg1)) (h2 : n = m (c.tc.loc Cert.Kernel5Ideal.main_arg2))
    (h3 : W = m (c.tc.loc Cert.Kernel5Ideal.main_arg3)) (h5 : g = m (c.tc.loc Cert.Kernel5Ideal.main_arg5)) :
    (lay (seconds (turns (units (heads (groupK x md n W)) g) Cert.Reference5Ideal.Hand.cosines Cert.Reference5Ideal.Hand.sines)) : S2x512x8192.Idx → EReal) = (Cert.Kernel5Ideal.Gen.dats m 0 c).arrAt 14 Cert.Kernel5Ideal.cfg0.N := by
  subst h0 h1 h2 h3 h5
  funext y
  rw [eq_ix3 y]
  refine Eq.trans ?_ (Cert.Kernel5Ideal.Hand.final14 m c (y 0) (y 2) (y 1)).symm
  exact key2_eq _ _ _ _ _ _ _ (y 0) (y 2) (y 1)

theorem same7 (h0 : x = m (c.tc.loc Cert.Kernel5Ideal.main_arg0)) (h1 : md = m (c.tc.loc Cert.Kernel5Ideal.main_arg1)) (h2 : n = m (c.tc.loc Cert.Kernel5Ideal.main_arg2))
    (h3 : W = m (c.tc.loc Cert.Kernel5Ideal.main_arg3)) :
    (out7 (packed (stage x md n W)) : S2x8192x1024.Idx → EReal) = (Cert.Kernel5Ideal.Gen.dats m 0 c).arrAt 15 Cert.Kernel5Ideal.cfg0.N := by
  subst h0 h1 h2 h3
  funext y
  rw [eq_ix3 y]
  refine Eq.trans ?_ (Cert.Kernel5Ideal.Hand.final15 m c (y 0) (y 1) (y 2)).symm
  exact worth_eq _ _ _ _ (y 0) (y 1) (y 2)

end Cert.Hand

end
-- ==== Proof.MixStep.lean ====
/-
  Hand-written. The body of the dense layer's call at one grid point: its 512 rows are put through the output projection, summed with
  the residual stream, normalized, and put through the gated layer eleven slices of 256 hidden numbers at a time. For any float values.
-/
module

public import proofs.«01_k».proof.Proof.Gen.Kernel4Ideal.Value
public import proofs.«01_k».proof.Proof.MixSpec
public import Idealize.ShloMosaic.Lib.Pipeline.ValueKit
public import Idealize.ShloMosaic.Lib.Pointwise

@[expose] public section

noncomputable section

namespace Cert.Kernel4Ideal.Hand

open Cert.Kernel4Ideal Cert.Kernel4Ideal.Gen
open Idealize.ShloMosaic Idealize.ShloMosaic.TcCoe Idealize.ShloMosaic.Tactic

variable {F : FTy → Type} [FloatOps F]

/-! ## What the loads read -/

/-- Columns `256 n …` of the gate's or the up product's matrix. -/
def cols (G : S1x1024x2816.Idx → Elt F .f32) (n : ℕ) : Vec F S1x1024x256 .f32 := fun y =>
  G (ix3 0 ⟨(y 1).val, (y 1).isLt⟩ ⟨(256 * n + (y 2).val) % 2816, Nat.mod_lt _ (by decide)⟩)

/-- Rows `256 n …` of the third matrix. -/
def lines (D : S1x2816x1024.Idx → Elt F .f32) (n : ℕ) : Vec F S1x256x1024 .f32 := fun y =>
  D (ix3 0 ⟨(256 * n + (y 1).val) % 2816, Nat.mod_lt _ (by decide)⟩ ⟨(y 2).val, (y 2).isLt⟩)

theorem ld_cols (G : Vec F S1x1024x2816 .f32) (n o : ℕ) (ho : o = 256 * n) (hn : n < 11) (inb : ∀ a, ![0, 0, o] a + S1x1024x256.size a ≤ S1x1024x2816.size a) :
    View.ld (Val := Elt F) G (Rect.unit (s := S1x1024x2816) ![0, 0, o] S1x1024x256.size inb) = cols (F := F) G n := by
  subst ho
  funext y
  unfold cols
  refine congrArg G (funext fun a => Fin.ext ?_)
  have h0 : (y 0).val < 1 := (y 0).isLt
  have h2 : (y 2).val < 256 := (y 2).isLt
  fin_cases a
  · show 0 + 1 * (y 0).val = 0
    omega
  · show 0 + 1 * (y 1).val = (y 1).val
    omega
  · show 256 * n + 1 * (y 2).val = (256 * n + (y 2).val) % 2816
    omega

theorem ld_lines (D : Vec F S1x2816x1024 .f32) (n o : ℕ) (ho : o = 256 * n) (hn : n < 11) (inb : ∀ a, ![0, o, 0] a + S1x256x1024.size a ≤ S1x2816x1024.size a) :
    View.ld (Val := Elt F) D (Rect.unit (s := S1x2816x1024) ![0, o, 0] S1x256x1024.size inb) = lines (F := F) D n := by
  subst ho
  funext y
  unfold lines
  refine congrArg D (funext fun a => Fin.ext ?_)
  have h0 : (y 0).val < 1 := (y 0).isLt
  have h1 : (y 1).val < 256 := (y 1).isLt
  fin_cases a
  · show 0 + 1 * (y 0).val = 0
    omega
  · show 256 * n + 1 * (y 1).val = (256 * n + (y 1).val) % 2816
    omega
  · show 0 + 1 * (y 2).val = (y 2).val
    omega

/-! ## What the arithmetic makes of them -/

/-- The gated product of a slice. -/
def gated (x : FVec F S512x1024 .bf16) (g u : Vec F S1x1024x256 .f32) : FVec F S512x256 .f32 :=
  mulf (mulf (k0_pay7 x g) (divf (broadcast S512x256 (Scalar.ofBits .f32 0x3F800000#32)) (addf (broadcast S512x256 (Scalar.ofBits .f32 0x3F800000#32))
    (exp (subf (broadcast S512x256 (Scalar.ofBits .f32 0x00000000#32)) (k0_pay7 x g)))))) (k0_pay7 x u)

/-- What one slice adds. -/
def chunk (x : FVec F S512x1024 .bf16) (g u : Vec F S1x1024x256 .f32) (d : Vec F S1x256x1024 .f32) : FVec F S512x1024 .f32 :=
  matmul dot_S512x256_S256x1024_S512x1024_1_0_0_1_n_n none (truncf .bf16 (gated x g u) bitsLt_bf16_f32)
    (truncf .bf16 (shapeCast S256x1024 d shapeCasts_S1x256x1024_S256x1024) bitsLt_bf16_f32) (constant S512x1024 .f32 0x00000000#32)

/-- The first `n + 1` slices' sum. -/
def acc (x : FVec F S512x1024 .bf16) (G U : S1x1024x2816.Idx → Elt F .f32) (D : S1x2816x1024.Idx → Elt F .f32) : ℕ → FVec F S512x1024 .f32
  | 0 => chunk x (cols G 0) (cols U 0) (lines D 0)
  | n + 1 => addf (acc x G U D n) (chunk x (cols G (n + 1)) (cols U (n + 1)) (lines D (n + 1)))

theorem pay6_eq (s t w : Vec F S1x1024 .f32) (b : FVec F S512x1024 .f32) (e : Vec F S512x1024 .f32) (k : Vec F S1x1024 .f32) (g u g' u' : Vec F S1x1024x256 .f32)
    (d d' : Vec F S1x256x1024 .f32) : k0_pay6 (k0_pay4 s t w b e k) (k0_pay5 s t w b e k g u) d g' u' d'
      = addf (chunk (k0_pay4 s t w b e k) g u d) (chunk (k0_pay4 s t w b e k) g' u' d') := rfl
theorem pay9_eq (x : FVec F S512x1024 .bf16) (a : FVec F S512x1024 .f32) (g u : Vec F S1x1024x256 .f32) (d : Vec F S1x256x1024 .f32) :
    k0_pay9 x a (k0_pay7 x g) (k0_pay8 u) d = addf a (chunk x g u d) := rfl
theorem pay12_eq (x : FVec F S512x1024 .bf16) (a : FVec F S512x1024 .f32) (g u g' u' : Vec F S1x1024x256 .f32) (d d' : Vec F S1x256x1024 .f32) :
    k0_pay12 x a (k0_pay10 x g u) (k0_pay11 d) (constant S512x1024 .f32 0x00000000#32) g' u' d' = addf (addf a (chunk x g u d)) (chunk x g' u' d') := rfl
theorem pay16_eq (x : FVec F S512x1024 .bf16) (a : FVec F S512x1024 .f32) (g u g' u' : Vec F S1x1024x256 .f32) (d d' : Vec F S1x256x1024 .f32) :
    k0_pay16 x a (k0_pay13 x g) (k0_pay14 x u) (k0_pay15 x g) d g' u' d' = addf (addf a (chunk x g u d)) (chunk x g' u' d') := rfl
theorem pay17_eq (x : FVec F S512x1024 .bf16) (a : FVec F S512x1024 .f32) (g u : Vec F S1x1024x256 .f32) (d : Vec F S1x256x1024 .f32) :
    k0_pay17 x a g u d = addf a (chunk x g u d) := rfl
theorem pay21_eq (x : FVec F S512x1024 .bf16) (a : FVec F S512x1024 .f32) (g u g' u' : Vec F S1x1024x256 .f32) (d d' : Vec F S1x256x1024 .f32) :
    k0_pay21 x a (k0_pay18 x g) (k0_pay19 x u) (k0_pay20 x g) d g' u' d' = addf (addf a (chunk x g u d)) (chunk x g' u' d') := rfl
theorem pay1_eq (s : Vec F S1x1024 .f32) (y : FVec F S512x1024 .f32) (x : FVec F S512x1024 .bf16) (a : FVec F S512x1024 .f32) (g u : Vec F S1x1024x256 .f32)
    (d : Vec F S1x256x1024 .f32) : k0_pay1 s y x a (k0_pay22 x g) u d
      = addf y (mulf (broadcastTo S512x1024 s broadcasts_S1x1024_S512x1024) (addf a (chunk x g u d))) := rfl

/-- What the body computes of the four rows of the modulation, the projection's sum and the other blocks. -/
def body (s t w v : Vec F S1x1024 .f32) (b : FVec F S512x1024 .f32) (e : Vec F S512x1024 .f32) (k : Vec F S1x1024 .f32)
    (G U : S1x1024x2816.Idx → Elt F .f32) (D : S1x2816x1024.Idx → Elt F .f32) : FVec F S512x1024 .f32 :=
  addf (k0_pay3 s b e) (mulf (broadcastTo S512x1024 v broadcasts_S1x1024_S512x1024) (acc (k0_pay4 s t w b e k) G U D 10))

/-- What the body leaves in the output block. -/
theorem out_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S1024x1024 .bf16) (harg3 : arg3.IsWhole) (arg4 : Memref sig .tc .vmem S512x1024 .f32) (harg4 : arg4.IsWhole)
    (arg5 : Memref sig .tc .vmem S8x6144 .f32) (harg5 : arg5.IsWhole) (arg6 : Memref sig .tc .vmem S1x1024 .f32) (harg6 : arg6.IsWhole) (arg7 : Memref sig .tc .vmem S1x1024x2816 .f32) (harg7 : arg7.IsWhole) (arg8 : Memref sig .tc .vmem S1x1024x2816 .f32) (harg8 : arg8.IsWhole)
    (arg9 : Memref sig .tc .vmem S1x2816x1024 .f32) (harg9 : arg9.IsWhole) (arg10 : Memref sig .tc .vmem S512x1024 .f32) (harg10 : arg10.IsWhole)
    (x0 : Vec F S512x512 .bf16) (x1 : Vec F S512x512 .bf16) (x2 : Vec F S1024x1024 .bf16) (x3 : Vec F S512x1024 .f32) (x4 : Vec F S8x6144 .f32) (x5 : Vec F S1x1024 .f32) (x6 : Vec F S1x1024x2816 .f32) (x7 : Vec F S1x1024x2816 .f32) (x8 : Vec F S1x2816x1024 .f32) :
    out0_A_9 c i arg1 harg1 arg2 harg2 arg3 harg3 arg4 harg4 arg5 harg5 arg6 harg6 arg7 harg7 arg8 harg8 arg9 harg9 arg10 harg10 x0 x1 x2 x3 x4 x5 x6 x7 x8
      = body (View.ld (Val := Elt F) x4 (Rect.unit (s := S8x6144) (k0_off1 i) S1x1024.size (k0_off1_inb i))) (View.ld (Val := Elt F) x4 (Rect.unit (s := S8x6144) (k0_off2 i) S1x1024.size (k0_off2_inb i)))
          (View.ld (Val := Elt F) x4 (Rect.unit (s := S8x6144) (k0_off3 i) S1x1024.size (k0_off3_inb i))) (View.ld (Val := Elt F) x4 (Rect.unit (s := S8x6144) (k0_off4 i) S1x1024.size (k0_off4_inb i)))
          (k0_pay2 x0 (View.ld (Val := Elt F) x2 (Rect.unit (s := S1024x1024) ![0, 0] S512x1024.size inb_S1024x1024_S512x1024_0_0)) x1
            (View.ld (Val := Elt F) x2 (Rect.unit (s := S1024x1024) ![512, 0] S512x1024.size inb_S1024x1024_S512x1024_512_0)))
          x3 x5 x6 x7 x8 := by
  frame_out
  rw [ld_cols x6 0 0 rfl (by decide), ld_cols x7 0 0 rfl (by decide), ld_lines x8 0 0 rfl (by decide),
    ld_cols x6 1 256 rfl (by decide), ld_cols x7 1 256 rfl (by decide), ld_lines x8 1 256 rfl (by decide),
    ld_cols x6 2 512 rfl (by decide), ld_cols x7 2 512 rfl (by decide), ld_lines x8 2 512 rfl (by decide),
    ld_cols x6 3 768 rfl (by decide), ld_cols x7 3 768 rfl (by decide), ld_lines x8 3 768 rfl (by decide),
    ld_cols x6 4 1024 rfl (by decide), ld_cols x7 4 1024 rfl (by decide), ld_lines x8 4 1024 rfl (by decide),
    ld_cols x6 5 1280 rfl (by decide), ld_cols x7 5 1280 rfl (by decide), ld_lines x8 5 1280 rfl (by decide),
    ld_cols x6 6 1536 rfl (by decide), ld_cols x7 6 1536 rfl (by decide), ld_lines x8 6 1536 rfl (by decide),
    ld_cols x6 7 1792 rfl (by decide), ld_cols x7 7 1792 rfl (by decide), ld_lines x8 7 1792 rfl (by decide),
    ld_cols x6 8 2048 rfl (by decide), ld_cols x7 8 2048 rfl (by decide), ld_lines x8 8 2048 rfl (by decide),
    ld_cols x6 9 2304 rfl (by decide), ld_cols x7 9 2304 rfl (by decide), ld_lines x8 9 2304 rfl (by decide),
    ld_cols x6 10 2560 rfl (by decide), ld_cols x7 10 2560 rfl (by decide), ld_lines x8 10 2560 rfl (by decide)]
  rw [pay1_eq, pay21_eq, pay17_eq, pay16_eq, pay12_eq, pay9_eq, pay6_eq]
  rfl

end Cert.Kernel4Ideal.Hand

end
-- ==== Proof.MixKer.lean ====
/-
  Hand-written. The dense layer's call over the extended reals: what its body leaves in an output block, what each grid point reads of
  the arrays, and what the result holds in the end.
-/
module

public import proofs.«01_k».proof.Proof.MixStep

@[expose] public section

noncomputable section

namespace Cert.Kernel4Ideal.Hand

open Cert.Kernel4Ideal Cert.Kernel4Ideal.Gen
open Idealize.ShloMosaic Idealize.ShloMosaic.TcCoe Idealize.ShloMosaic.Tactic

/-! ## The arithmetic -/

section Arithmetic

variable (x : FVec Ideal S512x1024 .bf16)

theorem up_apply (u : Vec Ideal S1x1024x256 .f32) (r : Fin 512) (j : Fin 256) :
    k0_pay7 x u (ix2 r j) = ∑ k : Fin 1024, x (ix2 r k) * u (ix3 0 k j) := by
  unfold k0_pay7
  pointwise

theorem gated_apply (g u : Vec Ideal S1x1024x256 .f32) (r : Fin 512) (j : Fin 256) :
    gated x g u (ix2 r j) = Cert.Hand.swish (∑ k : Fin 1024, x (ix2 r k) * g (ix3 0 k j)) * ∑ k : Fin 1024, x (ix2 r k) * u (ix3 0 k j) := by
  rw [← up_apply x g r j, ← up_apply x u r j]
  unfold gated Cert.Hand.swish
  generalize k0_pay7 x g = A
  generalize k0_pay7 x u = B
  pointwise
  rw [zero_sub]

theorem chunk_apply (g u : Vec Ideal S1x1024x256 .f32) (d : Vec Ideal S1x256x1024 .f32) (r : Fin 512) (a : Fin 1024) :
    chunk x g u d (ix2 r a) = ∑ j : Fin 256, gated x g u (ix2 r j) * d (ix3 0 j a) := by
  unfold chunk
  generalize gated x g u = A
  pointwise

/-- What hidden number `i` adds to entry `a` of row `r`. -/
def addend (G U : S1x1024x2816.Idx → EReal) (D : S1x2816x1024.Idx → EReal) (r : Fin 512) (a : Fin 1024) (i : ℕ) : EReal :=
  Cert.Hand.swish (∑ k : Fin 1024, x (ix2 r k) * G (ix3 0 k ⟨i % 2816, Nat.mod_lt _ (by decide)⟩))
    * (∑ k : Fin 1024, x (ix2 r k) * U (ix3 0 k ⟨i % 2816, Nat.mod_lt _ (by decide)⟩)) * D (ix3 0 ⟨i % 2816, Nat.mod_lt _ (by decide)⟩ a)

theorem slice_apply (G U : S1x1024x2816.Idx → EReal) (D : S1x2816x1024.Idx → EReal) (n : ℕ) (r : Fin 512) (a : Fin 1024) :
    chunk x (cols (F := Ideal) G n) (cols (F := Ideal) U n) (lines (F := Ideal) D n) (ix2 r a)
      = ∑ j : Fin 256, addend x G U D r a (256 * n + j.val) := by
  rw [chunk_apply]
  refine Finset.sum_congr rfl fun j _ => ?_
  rw [gated_apply]
  rfl

/-- The first `n + 1` slices sum the first `256 (n + 1)` hidden numbers. -/
theorem acc_range (G U : S1x1024x2816.Idx → EReal) (D : S1x2816x1024.Idx → EReal) (r : Fin 512) (a : Fin 1024) : ∀ n : ℕ,
    acc (F := Ideal) x G U D n (ix2 r a) = ∑ i ∈ Finset.range (256 * n + 256), addend x G U D r a i
  | 0 => by
    rw [Cert.Hand.range_step]
    show chunk x (cols (F := Ideal) G 0) (cols (F := Ideal) U 0) (lines (F := Ideal) D 0) (ix2 r a) = _
    rw [slice_apply, Nat.mul_zero, Finset.range_zero, Finset.sum_empty, zero_add]
  | n + 1 => by
    rw [Cert.Hand.range_step]
    show acc (F := Ideal) x G U D n (ix2 r a)
      + chunk x (cols (F := Ideal) G (n + 1)) (cols (F := Ideal) U (n + 1)) (lines (F := Ideal) D (n + 1)) (ix2 r a) = _
    rw [slice_apply, acc_range G U D r a n, Nat.mul_succ]

/-- All eleven slices: entry `a` of the image of row `r`. -/
theorem acc_apply (G U : S1x1024x2816.Idx → EReal) (D : S1x2816x1024.Idx → EReal) (r : Fin 512) (a : Fin 1024) :
    acc (F := Ideal) x G U D 10 (ix2 r a)
      = Cert.Hand.image (fun k => x (ix2 r k)) (fun k f => G (ix3 0 k f)) (fun k f => U (ix3 0 k f)) (fun f b => D (ix3 0 f b)) a := by
  rw [acc_range x G U D r a 10, show 256 * 10 + 256 = 2816 from rfl, Finset.sum_range]
  unfold Cert.Hand.image Cert.Hand.hidden addend
  refine Finset.sum_congr rfl fun f _ => ?_
  have hf : (⟨f.val % 2816, Nat.mod_lt _ (by decide)⟩ : Fin 2816) = f := Fin.ext (Nat.mod_eq_of_lt f.isLt)
  rw [hf]

end Arithmetic

/-- The projection's sum of a block. -/
theorem pay2_apply (p q : Vec Ideal S512x512 .bf16) (A B : Vec Ideal S512x1024 .bf16) (r : Fin 512) (k : Fin 1024) :
    k0_pay2 p A q B (ix2 r k) = (∑ j : Fin 512, p (ix2 r j) * A (ix2 j k)) + ∑ j : Fin 512, q (ix2 r j) * B (ix2 j k) := by
  unfold k0_pay2
  pointwise

theorem pay3_apply (s : Vec Ideal S1x1024 .f32) (b e : FVec Ideal S512x1024 .f32) (r : Fin 512) (k : Fin 1024) :
    k0_pay3 s b e (ix2 r k) = e (ix2 r k) + s (ix2 0 k) * b (ix2 r k) := by
  unfold k0_pay3
  pointwise

theorem pay4_apply (s t w : Vec Ideal S1x1024 .f32) (b e : FVec Ideal S512x1024 .f32) (n : Vec Ideal S1x1024 .f32) (r : Fin 512) (k : Fin 1024) :
    k0_pay4 s t w b e n (ix2 r k)
      = Cert.Hand.normed (fun j => k0_pay3 s b e (ix2 r j)) (fun j => n (ix2 0 j)) (fun j => w (ix2 0 j)) (fun j => t (ix2 0 j)) k := by
  unfold k0_pay4 Cert.Hand.normed
  generalize k0_pay3 s b e = Y
  pointwise
  rw [Cert.Hand.inv_1024]

/-- What the body computes at a place. -/
theorem body_apply (s t w v : Vec Ideal S1x1024 .f32) (p q : Vec Ideal S512x512 .bf16) (A B : Vec Ideal S512x1024 .bf16) (e : FVec Ideal S512x1024 .f32)
    (n : Vec Ideal S1x1024 .f32) (G U : S1x1024x2816.Idx → EReal) (D : S1x2816x1024.Idx → EReal) (r : Fin 512) (a : Fin 1024) :
    body (F := Ideal) s t w v (k0_pay2 p A q B) e n G U D (ix2 r a)
      = Cert.Hand.dense (fun k => e (ix2 r k) + s (ix2 0 k) * ((∑ j : Fin 512, p (ix2 r j) * A (ix2 j k)) + ∑ j : Fin 512, q (ix2 r j) * B (ix2 j k)))
          (fun k => n (ix2 0 k)) (fun k => w (ix2 0 k)) (fun k => t (ix2 0 k)) (fun k => v (ix2 0 k)) (fun k f => G (ix3 0 k f)) (fun k f => U (ix3 0 k f))
          (fun f k => D (ix3 0 f k)) a := by
  have h : ∀ k, e (ix2 r k) + s (ix2 0 k) * ((∑ j : Fin 512, p (ix2 r j) * A (ix2 j k)) + ∑ j : Fin 512, q (ix2 r j) * B (ix2 j k))
      = k0_pay3 s (k0_pay2 p A q B) e (ix2 r k) := fun k => by rw [pay3_apply, pay2_apply]
  simp only [h]
  unfold Cert.Hand.dense
  have h4 : Cert.Hand.normed (fun j => k0_pay3 s (k0_pay2 p A q B) e (ix2 r j)) (fun j => n (ix2 0 j)) (fun j => w (ix2 0 j)) (fun j => t (ix2 0 j))
      = fun k => k0_pay4 s t w (k0_pay2 p A q B) e n (ix2 r k) := funext fun k => (pay4_apply s t w _ e n r k).symm
  rw [h4, ← acc_apply]
  unfold body
  generalize k0_pay3 s (k0_pay2 p A q B) e = Y
  generalize acc (F := Ideal) (k0_pay4 s t w (k0_pay2 p A q B) e n) G U D 10 = Z
  pointwise

/-! ## What a grid point reads -/

variable (m : (ℓ : Loc nD τ sig) → Buf (Elt Ideal) ℓ) (c : Dev nD)

theorem t_lt (t : Fin cfg0.N) : t.val < 32 := t.isLt

theorem index_facts : ∀ t : Fin cfg0.N, win0_0.index t (0 : Fin 2) = t.val ∧ win0_0.index t (1 : Fin 2) = 0 ∧ win0_1.index t (0 : Fin 2) = t.val ∧ win0_1.index t (1 : Fin 2) = 0 ∧ win0_3.index t (0 : Fin 2) = t.val ∧ win0_3.index t (1 : Fin 2) = 0 ∧ win0_9.index t (0 : Fin 2) = t.val ∧ win0_9.index t (1 : Fin 2) = 0 :=
  (by decide +kernel : ∀ t : Fin grid0.N, _)

/-- The half of the batch a block lies in, as the offset of its rows of the modulation. -/
theorem off_facts : ∀ t : Fin cfg0.N, k0_off1 (grid0.coords t) = ![t.val / 16, 2048] ∧ k0_off2 (grid0.coords t) = ![t.val / 16, 3072]
    ∧ k0_off3 (grid0.coords t) = ![t.val / 16, 4096] ∧ k0_off4 (grid0.coords t) = ![t.val / 16, 5120] :=
  (by decide +kernel : ∀ t : Fin grid0.N, _)

/-- The projection's matrix, cut out. -/
theorem V_v2 (j k : Fin 1024) :
    (V m c main_v2 : S1024x1024.Idx → EReal) (ix2 j k) = (m (c.tc.loc main_arg2) : S2x1024x1024.Idx → EReal) (ix3 0 j k) := by
  unfold V
  entry_read
  pointwise

/-- The gain, cut out. -/
theorem V_v5 (k : Fin 1024) :
    (V m c main_v5 : S1x1024.Idx → EReal) (ix2 0 k) = (m (c.tc.loc main_arg5) : S2x1024.Idx → EReal) (ix2 0 k) := by
  unfold V
  entry_read
  pointwise

theorem Pw_apply (t : Fin cfg0.N) (r : Fin 512) (k : Fin 512) :
    (iblk m c 0 t : S512x512.Idx → EReal) (ix2 r k) = (m (c.tc.loc main_arg0) : S16384x512.Idx → EReal) (ix2 ⟨512 * t.val + r.val, by have := t_lt t; omega⟩ k) := by
  show (V m c (Pipeline.arrRef spec0 (0 : Fin 10)) : S16384x512.Idx → EReal) (((cfg0.win (0 : Fin 10)).blk t).view.emb (ix2 r k)) = _
  refine Eq.trans (congrFun (V_main_arg0 m c) _) ?_
  obtain ⟨e0, e1, e2, e3, e4, e5, e6, e7⟩ := index_facts t
  refine congrArg (m (c.tc.loc main_arg0) : S16384x512.Idx → EReal) (funext fun a => Fin.ext ?_)
  match a with
  | ⟨0, _⟩ =>
    show win0_0.index t (0 : Fin 2) * 512 + 1 * r.val = 512 * t.val + r.val
    omega
  | ⟨1, _⟩ =>
    show win0_0.index t (1 : Fin 2) * 512 + 1 * k.val = k.val
    omega

theorem Qw_apply (t : Fin cfg0.N) (r : Fin 512) (k : Fin 512) :
    (iblk m c 1 t : S512x512.Idx → EReal) (ix2 r k) = (m (c.tc.loc main_arg1) : S16384x512.Idx → EReal) (ix2 ⟨512 * t.val + r.val, by have := t_lt t; omega⟩ k) := by
  show (V m c (Pipeline.arrRef spec0 (1 : Fin 10)) : S16384x512.Idx → EReal) (((cfg0.win (1 : Fin 10)).blk t).view.emb (ix2 r k)) = _
  refine Eq.trans (congrFun (V_main_arg1 m c) _) ?_
  obtain ⟨e0, e1, e2, e3, e4, e5, e6, e7⟩ := index_facts t
  refine congrArg (m (c.tc.loc main_arg1) : S16384x512.Idx → EReal) (funext fun a => Fin.ext ?_)
  match a with
  | ⟨0, _⟩ =>
    show win0_1.index t (0 : Fin 2) * 512 + 1 * r.val = 512 * t.val + r.val
    omega
  | ⟨1, _⟩ =>
    show win0_1.index t (1 : Fin 2) * 512 + 1 * k.val = k.val
    omega

theorem Xw_apply (t : Fin cfg0.N) (r : Fin 512) (k : Fin 1024) :
    (iblk m c 3 t : S512x1024.Idx → EReal) (ix2 r k) = (m (c.tc.loc main_arg3) : S16384x1024.Idx → EReal) (ix2 ⟨512 * t.val + r.val, by have := t_lt t; omega⟩ k) := by
  show (V m c (Pipeline.arrRef spec0 (3 : Fin 10)) : S16384x1024.Idx → EReal) (((cfg0.win (3 : Fin 10)).blk t).view.emb (ix2 r k)) = _
  refine Eq.trans (congrFun (V_main_arg3 m c) _) ?_
  obtain ⟨e0, e1, e2, e3, e4, e5, e6, e7⟩ := index_facts t
  refine congrArg (m (c.tc.loc main_arg3) : S16384x1024.Idx → EReal) (funext fun a => Fin.ext ?_)
  match a with
  | ⟨0, _⟩ =>
    show win0_3.index t (0 : Fin 2) * 512 + 1 * r.val = 512 * t.val + r.val
    omega
  | ⟨1, _⟩ =>
    show win0_3.index t (1 : Fin 2) * 1024 + 1 * k.val = k.val
    omega

theorem Ww_apply (t : Fin cfg0.N) (j : Fin 1024) (k : Fin 1024) :
    (iblk m c 2 t : S1024x1024.Idx → EReal) (ix2 j k) = (V m c main_v2 : S1024x1024.Idx → EReal) (ix2 j k) := by
  show (V m c (Pipeline.arrRef spec0 (2 : Fin 10)) : S1024x1024.Idx → EReal) (((cfg0.win (2 : Fin 10)).blk t).view.emb (ix2 j k)) = _
  refine congrArg (V m c main_v2 : S1024x1024.Idx → EReal) (funext fun a => Fin.ext ?_)
  match a with
  | ⟨0, _⟩ =>
    show 0 * 1024 + 1 * j.val = j.val
    omega
  | ⟨1, _⟩ =>
    show 0 * 1024 + 1 * k.val = k.val
    omega

theorem Mw_apply (t : Fin cfg0.N) (e : Fin 8) (k : Fin 6144) :
    (iblk m c 4 t : S8x6144.Idx → EReal) (ix2 e k) = (m (c.tc.loc main_arg4) : S8x6144.Idx → EReal) (ix2 e k) := by
  show (V m c (Pipeline.arrRef spec0 (4 : Fin 10)) : S8x6144.Idx → EReal) (((cfg0.win (4 : Fin 10)).blk t).view.emb (ix2 e k)) = _
  refine Eq.trans (congrFun (V_main_arg4 m c) _) ?_
  refine congrArg (m (c.tc.loc main_arg4) : S8x6144.Idx → EReal) (funext fun a => Fin.ext ?_)
  match a with
  | ⟨0, _⟩ =>
    show 0 * 8 + 1 * e.val = e.val
    omega
  | ⟨1, _⟩ =>
    show 0 * 6144 + 1 * k.val = k.val
    omega

theorem Nw_apply (t : Fin cfg0.N) (e : Fin 1) (k : Fin 1024) :
    (iblk m c 5 t : S1x1024.Idx → EReal) (ix2 e k) = (V m c main_v5 : S1x1024.Idx → EReal) (ix2 e k) := by
  show (V m c (Pipeline.arrRef spec0 (5 : Fin 10)) : S1x1024.Idx → EReal) (((cfg0.win (5 : Fin 10)).blk t).view.emb (ix2 e k)) = _
  refine congrArg (V m c main_v5 : S1x1024.Idx → EReal) (funext fun a => Fin.ext ?_)
  match a with
  | ⟨0, _⟩ =>
    show 0 * 1 + 1 * e.val = e.val
    omega
  | ⟨1, _⟩ =>
    show 0 * 1024 + 1 * k.val = k.val
    omega

theorem Gw_apply (t : Fin cfg0.N) (e : Fin 1) (k : Fin 1024) (f : Fin 2816) :
    (iblk m c 6 t : S1x1024x2816.Idx → EReal) (ix3 e k f) = (m (c.tc.loc main_arg6) : S1x1024x2816.Idx → EReal) (ix3 e k f) := by
  show (V m c (Pipeline.arrRef spec0 (6 : Fin 10)) : S1x1024x2816.Idx → EReal) (((cfg0.win (6 : Fin 10)).blk t).view.emb (ix3 e k f)) = _
  refine Eq.trans (congrFun (V_main_arg6 m c) _) ?_
  refine congrArg (m (c.tc.loc main_arg6) : S1x1024x2816.Idx → EReal) (funext fun a => Fin.ext ?_)
  match a with
  | ⟨0, _⟩ =>
    show 0 * 1 + 1 * e.val = e.val
    omega
  | ⟨1, _⟩ =>
    show 0 * 1024 + 1 * k.val = k.val
    omega
  | ⟨2, _⟩ =>
    show 0 * 2816 + 1 * f.val = f.val
    omega

theorem Uw_apply (t : Fin cfg0.N) (e : Fin 1) (k : Fin 1024) (f : Fin 2816) :
    (iblk m c 7 t : S1x1024x2816.Idx → EReal) (ix3 e k f) = (m (c.tc.loc main_arg7) : S1x1024x2816.Idx → EReal) (ix3 e k f) := by
  show (V m c (Pipeline.arrRef spec0 (7 : Fin 10)) : S1x1024x2816.Idx → EReal) (((cfg0.win (7 : Fin 10)).blk t).view.emb (ix3 e k f)) = _
  refine Eq.trans (congrFun (V_main_arg7 m c) _) ?_
  refine congrArg (m (c.tc.loc main_arg7) : S1x1024x2816.Idx → EReal) (funext fun a => Fin.ext ?_)
  match a with
  | ⟨0, _⟩ =>
    show 0 * 1 + 1 * e.val = e.val
    omega
  | ⟨1, _⟩ =>
    show 0 * 1024 + 1 * k.val = k.val
    omega
  | ⟨2, _⟩ =>
    show 0 * 2816 + 1 * f.val = f.val
    omega

theorem Dw_apply (t : Fin cfg0.N) (e : Fin 1) (f : Fin 2816) (k : Fin 1024) :
    (iblk m c 8 t : S1x2816x1024.Idx → EReal) (ix3 e f k) = (m (c.tc.loc main_arg8) : S1x2816x1024.Idx → EReal) (ix3 e f k) := by
  show (V m c (Pipeline.arrRef spec0 (8 : Fin 10)) : S1x2816x1024.Idx → EReal) (((cfg0.win (8 : Fin 10)).blk t).view.emb (ix3 e f k)) = _
  refine Eq.trans (congrFun (V_main_arg8 m c) _) ?_
  refine congrArg (m (c.tc.loc main_arg8) : S1x2816x1024.Idx → EReal) (funext fun a => Fin.ext ?_)
  match a with
  | ⟨0, _⟩ =>
    show 0 * 1 + 1 * e.val = e.val
    omega
  | ⟨1, _⟩ =>
    show 0 * 2816 + 1 * f.val = f.val
    omega
  | ⟨2, _⟩ =>
    show 0 * 1024 + 1 * k.val = k.val
    omega

theorem Ng_apply (t : Fin cfg0.N) (k : Fin 1024) :
    (iblk m c 5 t : S1x1024.Idx → EReal) (ix2 0 k) = (m (c.tc.loc main_arg5) : S2x1024.Idx → EReal) (ix2 0 k) :=
  (Nw_apply m c t 0 k).trans (V_v5 m c k)

/-- A row of the modulation, by its offset. -/
theorem row_apply (t : Fin cfg0.N) (off : Fin 2 → ℕ) (o : ℕ) (ho : off = ![t.val / 16, o]) (hk : o + 1024 ≤ 6144) (inb : ∀ a, off a + S1x1024.size a ≤ S8x6144.size a) (k : Fin 1024) :
    View.ld (Val := Elt Ideal) (iblk m c 4 t : S8x6144.Idx → EReal) (Rect.unit (s := S8x6144) off S1x1024.size inb) (ix2 0 k)
      = (m (c.tc.loc main_arg4) : S8x6144.Idx → EReal) (ix2 ⟨t.val / 16, by have := t_lt t; omega⟩ ⟨o + k.val, by omega⟩) := by
  subst ho
  refine Eq.trans ?_ (Mw_apply m c t ⟨t.val / 16, by have := t_lt t; omega⟩ ⟨o + k.val, by omega⟩)
  refine congrArg (iblk m c 4 t : S8x6144.Idx → EReal) (funext fun a => Fin.ext ?_)
  match a with
  | ⟨0, _⟩ =>
    show t.val / 16 + 1 * 0 = t.val / 16
    omega
  | ⟨1, _⟩ =>
    show o + 1 * k.val = o + k.val
    omega

/-- The first 512 rows of the projection's matrix. -/
theorem top_apply (t : Fin cfg0.N) (j : Fin 512) (k : Fin 1024) :
    View.ld (Val := Elt Ideal) (iblk m c 2 t : S1024x1024.Idx → EReal) (e' := .bf16) (Rect.unit (s := S1024x1024) ![0, 0] S512x1024.size inb_S1024x1024_S512x1024_0_0) (ix2 j k)
      = (m (c.tc.loc main_arg2) : S2x1024x1024.Idx → EReal) (ix3 0 ⟨j.val, by omega⟩ k) := by
  refine Eq.trans ?_ ((Ww_apply m c t ⟨j.val, by omega⟩ k).trans (V_v2 m c _ k))
  refine congrArg (iblk m c 2 t : S1024x1024.Idx → EReal) (funext fun a => Fin.ext ?_)
  match a with
  | ⟨0, _⟩ =>
    show 0 + 1 * j.val = j.val
    omega
  | ⟨1, _⟩ =>
    show 0 + 1 * k.val = k.val
    omega

/-- The last 512 rows of the projection's matrix. -/
theorem low_apply (t : Fin cfg0.N) (j : Fin 512) (k : Fin 1024) :
    View.ld (Val := Elt Ideal) (iblk m c 2 t : S1024x1024.Idx → EReal) (e' := .bf16) (Rect.unit (s := S1024x1024) ![512, 0] S512x1024.size inb_S1024x1024_S512x1024_512_0) (ix2 j k)
      = (m (c.tc.loc main_arg2) : S2x1024x1024.Idx → EReal) (ix3 0 ⟨512 + j.val, by omega⟩ k) := by
  refine Eq.trans ?_ ((Ww_apply m c t ⟨512 + j.val, by omega⟩ k).trans (V_v2 m c _ k))
  refine congrArg (iblk m c 2 t : S1024x1024.Idx → EReal) (funext fun a => Fin.ext ?_)
  match a with
  | ⟨0, _⟩ =>
    show 512 + 1 * j.val = 512 + j.val
    omega
  | ⟨1, _⟩ =>
    show 0 + 1 * k.val = k.val
    omega

/-- What the body leaves at row `r` and column `a` of block `t`. -/
theorem block_apply (t : Fin cfg0.N) (r : Fin 512) (a : Fin 1024) :
    outsAt0 m c t (ix2 r a) = Cert.Hand.layer4 (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) ⟨512 * t.val + r.val, by have := t_lt t; omega⟩ a := by
  have hd : (⟨(512 * t.val + r.val) / 8192, by have := t_lt t; omega⟩ : Fin 8) = ⟨t.val / 16, by have := t_lt t; omega⟩ := Fin.ext (by show (512 * t.val + r.val) / 8192 = t.val / 16; omega)
  obtain ⟨o1, o2, o3, o4⟩ := off_facts t
  unfold outsAt0
  rw [out_eq]
  refine (body_apply _ _ _ _ _ _ _ _ _ _ _ _ _ r a).trans ?_
  unfold Cert.Hand.layer4 Cert.Hand.mixed
  simp only [hd, Pw_apply, Qw_apply, Xw_apply, Ng_apply, Gw_apply, Uw_apply, Dw_apply, row_apply m c t _ 2048 o1 (by decide),
    row_apply m c t _ 3072 o2 (by decide), row_apply m c t _ 4096 o3 (by decide), row_apply m c t _ 5120 o4 (by decide)]
  refine congrArg (fun y => Cert.Hand.dense y _ _ _ _ _ _ _ a) (funext fun k => ?_)
  refine congrArg₂ (fun u v : EReal => u + v) rfl (congrArg₂ (fun u v : EReal => u * v) rfl
    (congrArg₂ (fun u v : EReal => u + v) (Finset.sum_congr rfl fun j _ => ?_) (Finset.sum_congr rfl fun j _ => ?_)))
  · exact congrArg₂ (fun u v : EReal => u * v) rfl (top_apply m c t j k)
  · exact congrArg₂ (fun u v : EReal => u * v) rfl (low_apply m c t j k)

/-- The block that holds row `R`. -/
def pt (R : Fin 16384) : Fin cfg0.N := ⟨R.val / 512, by have := R.isLt; show _ < 32; omega⟩

/-- Where block `t`'s element lies in the result. -/
theorem place (t : Fin cfg0.N) (r : Fin 512) (a : Fin 1024) :
    ((cfg0.win (9 : Fin 10)).blk t).view.emb (ix2 r a) = (ix2 (⟨512 * t.val + r.val, by have := t_lt t; omega⟩ : Fin 16384) a : S16384x1024.Idx) := by
  obtain ⟨e0, e1, e2, e3, e4, e5, e6, e7⟩ := index_facts t
  funext b
  refine Fin.ext ?_
  match b with
  | ⟨0, _⟩ =>
    show win0_9.index t (0 : Fin 2) * 512 + 1 * r.val = 512 * t.val + r.val
    omega
  | ⟨1, _⟩ =>
    show win0_9.index t (1 : Fin 2) * 1024 + 1 * a.val = a.val
    omega

/-- The result at a place. -/
theorem final_apply (R : Fin 16384) (a : Fin 1024) :
    ((dats m 0 c).arrAt 9 cfg0.N : S16384x1024.Idx → EReal) (ix2 R a) = Cert.Hand.layer4 (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) R a := by
  have hb := congrFun (Cert.Kernel4Ideal.Value.blocks9 m c (pt R) (flush0_9 _)) (ix2 (⟨R.val % 512, Nat.mod_lt _ (by decide)⟩ : Fin 512) a)
  rw [Cert.Kernel4Ideal.Value.flushed9_A] at hb
  have he := place (pt R) ⟨R.val % 512, Nat.mod_lt _ (by decide)⟩ a
  have hR : (⟨512 * (pt R).val + R.val % 512, by show 512 * (R.val / 512) + R.val % 512 < 16384; omega⟩ : Fin 16384) = R :=
    Fin.ext (by show 512 * (R.val / 512) + R.val % 512 = R.val; omega)
  have hp : (ix2 R a : S16384x1024.Idx) = ix2 (⟨512 * (pt R).val + R.val % 512, by show 512 * (R.val / 512) + R.val % 512 < 16384; omega⟩ : Fin 16384) a :=
    congrArg (fun i : Fin 16384 => (ix2 i a : S16384x1024.Idx)) hR.symm
  refine (congrArg ((dats m 0 c).arrAt 9 cfg0.N : S16384x1024.Idx → EReal) (hp.trans he.symm)).trans (hb.trans ?_)
  refine (block_apply m c (pt R) ⟨R.val % 512, Nat.mod_lt _ (by decide)⟩ a).trans ?_
  exact congrArg (fun i => Cert.Hand.layer4 _ _ _ _ _ _ _ _ _ i a) hR

end Cert.Kernel4Ideal.Hand

end
-- ==== Proof.MixRef.lean ====
/-
  Hand-written. The dense layer's reference text over the extended reals: its projection, its normalization, its gated layer, and
  what its result holds.
-/
module

public import proofs.«01_k».proof.Proof.Gen.Reference4Ideal.Run
public import proofs.«01_k».proof.Proof.MixSpec
public import Idealize.ShloMosaic.Lib.Pipeline.Value

@[expose] public section

noncomputable section

namespace Cert.Reference4Ideal.Hand

open Cert.Reference4Ideal Cert.Reference4Ideal.Gen Cert.Reference4Ideal.Value Idealize.ShloMosaic Idealize.ShloMosaic.TcCoe Idealize.SL.Sem Idealize.ShloMosaic.StableHlo

/-- The two halves side by side. -/
def halves (p q : FVec Ideal S16384x512 .bf16) : FVec Ideal S16384x1024 .bf16 :=
  concatenate S16384x1024 1 [⟨S16384x512, p⟩, ⟨S16384x512, q⟩] concatenates_S16384x512_S16384x512_S16384x1024_d1

theorem halves_left (p q : FVec Ideal S16384x512 .bf16) (r : Fin 16384) (j : Fin 512) : halves p q (ix2 r (⟨j.val, by omega⟩ : Fin 1024)) = p (ix2 r j) := by
  unfold halves
  refine concatenate_pair_apply_left (1 : Fin 2) p q _ (ix2 r (⟨j.val, by omega⟩ : Fin 1024)) rfl (ix2 r j) ?_
  intro b
  fin_cases b
  · rfl
  · rfl

theorem halves_right (p q : FVec Ideal S16384x512 .bf16) (r : Fin 16384) (j : Fin 512) : halves p q (ix2 r (⟨512 + j.val, by omega⟩ : Fin 1024)) = q (ix2 r j) := by
  unfold halves
  refine concatenate_pair_apply_right (1 : Fin 2) p q _ (ix2 r (⟨512 + j.val, by omega⟩ : Fin 1024)) rfl rfl (ix2 r j) ?_ ?_
  · intro b hb
    fin_cases b
    · rfl
    · exact absurd rfl hb
  · show j.val + 512 = 512 + j.val
    omega

/-- The output projection. -/
def projected (u : FVec Ideal S16384x1024 .bf16) (W : FVec Ideal S2x1024x1024 .f32) : FVec Ideal S16384x1024 .f32 :=
  Host.dotGeneral dot_S16384x1024_S1024x1024_S16384x1024_1_0_0_1_n_n none (extf .f32 u bitsLt_bf16_f32)
    (shapeCast _ (extractStridedSlice S1x1024x1024 ![0, 0, 0] W slices_S2x1024x1024_S1x1024x1024_0_0_0) shapeCasts_S1x1024x1024_S1024x1024)

theorem projected_apply (u : FVec Ideal S16384x1024 .bf16) (W : FVec Ideal S2x1024x1024 .f32) (r : Fin 16384) (k : Fin 1024) :
    projected u W (ix2 r k) = ∑ j : Fin 1024, u (ix2 r j) * W (ix3 0 j k) := by
  unfold projected
  pointwise

/-- A sum over 1024 numbers is the sum over the first 512 and the sum over the others. -/
theorem sum_halves (f : Fin 1024 → EReal) : ∑ j : Fin 1024, f j = (∑ j : Fin 512, f ⟨j.val, by omega⟩) + ∑ j : Fin 512, f ⟨512 + j.val, by omega⟩ :=
  Fin.sum_univ_add (a := 512) (b := 512) f

theorem projected_halves (p q : FVec Ideal S16384x512 .bf16) (W : FVec Ideal S2x1024x1024 .f32) (r : Fin 16384) (k : Fin 1024) :
    projected (halves p q) W (ix2 r k)
      = (∑ j : Fin 512, p (ix2 r j) * W (ix3 0 ⟨j.val, by omega⟩ k)) + ∑ j : Fin 512, q (ix2 r j) * W (ix3 0 ⟨512 + j.val, by omega⟩ k) := by
  rw [projected_apply, sum_halves]
  simp only [halves_left, halves_right]

/-- The modulation's rows from column `o` on, one of each half of the batch. -/
def part (md : FVec Ideal S8x6144 .f32) (o : ℕ) (h : S2x6144.Slices ![0, o] S2x1024) : FVec Ideal S2x1x1024 .f32 :=
  broadcastInDim S2x1x1024 ![0, 2] bcast_S2x1024_S2x1x1024_0_2
    (extractStridedSlice S2x1024 ![0, o] (extractStridedSlice S2x6144 ![0, 0] md slices_S8x6144_S2x6144_0_0) h)

/-- The residual sum after the projection. -/
def mids (x : FVec Ideal S16384x1024 .f32) (g : FVec Ideal S2x1x1024 .f32) (u : FVec Ideal S16384x1024 .f32) : FVec Ideal S2x8192x1024 .f32 :=
  addf (shapeCast _ x shapeCasts_S16384x1024_S2x8192x1024)
    (mulf (broadcastInDim S2x8192x1024 ![0, 1, 2] bcast_S2x1x1024_S2x8192x1024_0_1_2 g) (shapeCast _ u shapeCasts_S16384x1024_S2x8192x1024))

theorem mids_apply (x : FVec Ideal S16384x1024 .f32) (g : FVec Ideal S2x1x1024 .f32) (u : FVec Ideal S16384x1024 .f32) (b : Fin 2) (r : Fin 8192) (k : Fin 1024) :
    mids x g u (ix3 b r k) = x (ix2 ⟨b.val * 8192 + r.val, by omega⟩ k) + g (ix3 b 0 k) * u (ix2 ⟨b.val * 8192 + r.val, by omega⟩ k) := by
  unfold mids
  pointwise

/-- The rows normalized and modulated. -/
def norms (y : FVec Ideal S2x8192x1024 .f32) (n : FVec Ideal S2x1024 .f32) (sc sh : FVec Ideal S2x1x1024 .f32) : FVec Ideal S2x8192x1024 .f32 :=
  addf (mulf (mulf (mulf y (broadcastInDim S2x8192x1024 ![0, 1, 2] bcast_S2x8192x1_S2x8192x1024_0_1_2 (Host.rsqrt (addf (Host.divf (broadcastInDim S2x8192x1 ![0, 1] bcast_S2x8192_S2x8192x1_0_1
      (Host.reduceAdd (mulf y y) (constant S_ .f32 0x00000000#32) reducesTo_S2x8192x1024_S2x8192_d2 h_S_)) (broadcastInDim S2x8192x1 ![] bcast_S_S2x8192x1 (constant S_ .f32 0x44800000#32)))
      (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2
        (shapeCast _ (extractStridedSlice S1x1024 ![0, 0] n slices_S2x1024_S1x1024_0_0) shapeCasts_S1x1024_S1024))))
      (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

theorem norms_apply (y : FVec Ideal S2x8192x1024 .f32) (n : FVec Ideal S2x1024 .f32) (sc sh : FVec Ideal S2x1x1024 .f32) (b : Fin 2) (r : Fin 8192) (k : Fin 1024) :
    norms y n sc sh (ix3 b r k) = Cert.Hand.normed (fun j => y (ix3 b r j)) (fun j => n (ix2 0 j)) (fun j => sc (ix3 b 0 j)) (fun j => sh (ix3 b 0 j)) k := by
  unfold norms Cert.Hand.normed
  pointwise
  rw [Cert.Hand.c_1024]
  simp only [Cert.Hand.div_1024]

/-- The gated layer. -/
def gatedLayer (y : FVec Ideal S2x8192x1024 .f32) (wg wu : FVec Ideal S1x1024x2816 .f32) (wd : FVec Ideal S1x2816x1024 .f32) : FVec Ideal S2x8192x1024 .f32 :=
  let z : FVec Ideal S2x8192x2816 .f32 := Host.dotGeneral dot_S2x8192x1024_S1024x2816_S2x8192x2816_2_0_01_1_n_n none y (shapeCast _ wg shapeCasts_S1x1024x2816_S1024x2816)
  Host.dotGeneral dot_S2x8192x2816_S2816x1024_S2x8192x1024_2_0_01_1_n_n none
    (mulf (mulf z (Host.divf (broadcastInDim S2x8192x2816 ![] bcast_S_S2x8192x2816 (constant S_ .f32 0x3F800000#32))
        (addf (broadcastInDim S2x8192x2816 ![] bcast_S_S2x8192x2816 (constant S_ .f32 0x3F800000#32)) (Host.exp (Host.negf z)))))
      (Host.dotGeneral dot_S2x8192x1024_S1024x2816_S2x8192x2816_2_0_01_1_n_n none y (shapeCast _ wu shapeCasts_S1x1024x2816_S1024x2816)))
    (shapeCast _ wd shapeCasts_S1x2816x1024_S2816x1024)

theorem gatedLayer_apply (y : FVec Ideal S2x8192x1024 .f32) (wg wu : FVec Ideal S1x1024x2816 .f32) (wd : FVec Ideal S1x2816x1024 .f32) (b : Fin 2) (r : Fin 8192) (a : Fin 1024) :
    gatedLayer y wg wu wd (ix3 b r a)
      = Cert.Hand.image (fun k => y (ix3 b r k)) (fun k f => wg (ix3 0 k f)) (fun k f => wu (ix3 0 k f)) (fun f k => wd (ix3 0 f k)) a := by
  unfold gatedLayer Cert.Hand.image Cert.Hand.hidden Cert.Hand.swish
  pointwise

/-- The second residual sum. -/
def summed (y : FVec Ideal S2x8192x1024 .f32) (g : FVec Ideal S2x1x1024 .f32) (z : FVec Ideal S2x8192x1024 .f32) : FVec Ideal S16384x1024 .f32 :=
  shapeCast _ (addf y (mulf (broadcastInDim S2x8192x1024 ![0, 1, 2] bcast_S2x1x1024_S2x8192x1024_0_1_2 g) z)) shapeCasts_S2x8192x1024_S16384x1024

theorem summed_apply (y : FVec Ideal S2x8192x1024 .f32) (g : FVec Ideal S2x1x1024 .f32) (z : FVec Ideal S2x8192x1024 .f32) (r : Fin 16384) (a : Fin 1024) :
    summed y g z (ix2 r a) = y (ix3 ⟨r.val / 8192, by omega⟩ ⟨r.val % 8192, Nat.mod_lt _ (by decide)⟩ a)
      + g (ix3 ⟨r.val / 8192, by omega⟩ 0 a) * z (ix3 ⟨r.val / 8192, by omega⟩ ⟨r.val % 8192, Nat.mod_lt _ (by decide)⟩ a) := by
  unfold summed
  pointwise

theorem part2_apply (md : FVec Ideal S8x6144 .f32) (b : Fin 2) (k : Fin 1024) :
    part md 2048 slices_S2x6144_S2x1024_0_2048 (ix3 b 0 k) = md (ix2 ⟨b.val, by omega⟩ ⟨2048 + k.val, by omega⟩) := by
  unfold part
  pointwise
theorem part3_apply (md : FVec Ideal S8x6144 .f32) (b : Fin 2) (k : Fin 1024) :
    part md 3072 slices_S2x6144_S2x1024_0_3072 (ix3 b 0 k) = md (ix2 ⟨b.val, by omega⟩ ⟨3072 + k.val, by omega⟩) := by
  unfold part
  pointwise
theorem part4_apply (md : FVec Ideal S8x6144 .f32) (b : Fin 2) (k : Fin 1024) :
    part md 4096 slices_S2x6144_S2x1024_0_4096 (ix3 b 0 k) = md (ix2 ⟨b.val, by omega⟩ ⟨4096 + k.val, by omega⟩) := by
  unfold part
  pointwise
theorem part5_apply (md : FVec Ideal S8x6144 .f32) (b : Fin 2) (k : Fin 1024) :
    part md 5120 slices_S2x6144_S2x1024_0_5120 (ix3 b 0 k) = md (ix2 ⟨b.val, by omega⟩ ⟨5120 + k.val, by omega⟩) := by
  unfold part
  pointwise

/-- The result. -/
def result (p q : FVec Ideal S16384x512 .bf16) (W : FVec Ideal S2x1024x1024 .f32) (x : FVec Ideal S16384x1024 .f32) (md : FVec Ideal S8x6144 .f32)
    (n : FVec Ideal S2x1024 .f32) (wg wu : FVec Ideal S1x1024x2816 .f32) (wd : FVec Ideal S1x2816x1024 .f32) : FVec Ideal S16384x1024 .f32 :=
  summed (mids x (part md 2048 slices_S2x6144_S2x1024_0_2048) (projected (halves p q) W)) (part md 5120 slices_S2x6144_S2x1024_0_5120)
    (gatedLayer (norms (mids x (part md 2048 slices_S2x6144_S2x1024_0_2048) (projected (halves p q) W)) n (part md 4096 slices_S2x6144_S2x1024_0_4096)
      (part md 3072 slices_S2x6144_S2x1024_0_3072)) wg wu wd)

theorem res_eq (m : (ℓ : Loc nD τ sig) → Buf (Elt Ideal) ℓ) (c : Dev nD) :
    res_main_v55 m c = result (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) := rfl

variable (p q : FVec Ideal S16384x512 .bf16) (W : FVec Ideal S2x1024x1024 .f32) (x : FVec Ideal S16384x1024 .f32) (md : FVec Ideal S8x6144 .f32)
    (n : FVec Ideal S2x1024 .f32) (wg wu : FVec Ideal S1x1024x2816 .f32) (wd : FVec Ideal S1x2816x1024 .f32)

theorem mids_row (r : Fin 16384) (k : Fin 1024) :
    mids x (part md 2048 slices_S2x6144_S2x1024_0_2048) (projected (halves p q) W) (ix3 ⟨r.val / 8192, by omega⟩ ⟨r.val % 8192, Nat.mod_lt _ (by decide)⟩ k)
      = Cert.Hand.mixed (fun j => p (ix2 r j)) (fun j => q (ix2 r j)) (fun j k => W (ix3 0 j k)) (fun k => x (ix2 r k))
          (fun k => md (ix2 ⟨r.val / 8192, by omega⟩ ⟨2048 + k.val, by omega⟩)) k := by
  have hr : (⟨r.val / 8192 * 8192 + r.val % 8192, by omega⟩ : Fin 16384) = r := Fin.ext (by show r.val / 8192 * 8192 + r.val % 8192 = r.val; omega)
  rw [mids_apply, part2_apply]
  unfold Cert.Hand.mixed
  simp only [hr, projected_halves]

/-- The result at a place. -/
theorem result_apply (r : Fin 16384) (a : Fin 1024) : result p q W x md n wg wu wd (ix2 r a) = Cert.Hand.layer4 p q W x md n wg wu wd r a := by
  unfold result Cert.Hand.layer4 Cert.Hand.dense
  rw [summed_apply, gatedLayer_apply, part5_apply]
  simp only [norms_apply, mids_row, part3_apply, part4_apply]

end Cert.Reference4Ideal.Hand

end
-- ==== Proof.lean ====
/-
  Hand-written. The certificate: of each of the five calls both frames, its reference's frame, and the equality of
  the two results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_permuted
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_experts_exist
public import proofs.«01_k».proof.Proof.Pre
public import proofs.«01_k».proof.Proof.Same
public import proofs.«01_k».proof.Proof.Run
public import proofs.«01_k».proof.Proof.Value
public import proofs.«01_k».proof.Proof.FfnSame
public import proofs.«01_k».proof.Proof.FfnValue
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_rows_exist
public import proofs.«01_k».proof.Proof.CombSame
public import proofs.«01_k».proof.Proof.CombValue
public import proofs.«01_k».proof.Proof.MixStart
public import proofs.«01_k».proof.Proof.InStart
public import proofs.«01_k».proof.Proof.InValue
public import proofs.«01_k».proof.Proof.MixKer
public import proofs.«01_k».proof.Proof.MixRef
public import Idealize.ShloMosaic.Lib.Quiescent

@[expose] public section

noncomputable section

namespace Cert.Proof

open Idealize.ShloMosaic Idealize.ShloMosaic.TcCoe Idealize.SL.Sem

set_option maxHeartbeats 4000000 in
/-- The printed kernel runs and leaves its arguments and the counters as they were: its text is the idealized one's, read at the bits. -/
theorem frame_kernel : Cert.quiescent_Kernel := fun m g hpre => by
  have hp : ∀ c, Cert.KernelIdeal.Hand.Perm (Cert.KernelIdeal.Hand.tabP (F := Bits) m c) (Cert.KernelIdeal.Hand.tabQ (F := Bits) m c) :=
    fun c => Cert.KernelIdeal.Hand.perm_of_pre _ _ _ _ _ (hpre c)
  have h := (θ_run (Cert.KernelIdeal.defs (F := Bits)) _ _).mono (fun r h => And.intro (fun c => (h.1 c).2) h.2)
    (Cert.KernelIdeal.Hand.run_main (F := Bits) m g hp)
  rw [Cert.Hand.defs_same]
  exact h

theorem frame_kernelIdeal : Cert.quiescent_KernelIdeal := fun m g hpre =>
  (θ_run (Cert.KernelIdeal.defs (F := Ideal)) _ _).mono (fun _ h => ⟨fun c => (h.1 c).2, h.2⟩)
    (Cert.KernelIdeal.Hand.run_main (F := Ideal) m g fun c => Cert.KernelIdeal.Hand.perm_of_pre _ _ _ _ _ (hpre c))

/-- The reference is host operations only: it has no counter. -/
theorem frame_referenceIdeal : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem frame_referenceIdeal_pre : Cert.quiescent_ReferenceIdeal_pre_rows_permuted := fun m g _ => frame_referenceIdeal m g trivial

/-- From equal arguments the kernel and the reference end with equal results. -/
theorem value : Cert.algebraic_KernelIdeal_ReferenceIdeal := fun m g m' g' hpre hag => by
  have hp : ∀ c, Cert.KernelIdeal.Hand.Perm (Cert.KernelIdeal.Hand.tabP m c) (Cert.KernelIdeal.Hand.tabQ m c) :=
    fun c => Cert.KernelIdeal.Hand.perm_of_pre _ _ _ _ _ (hpre c)
  refine ⟨fun c => Cert.KernelIdeal.Hand.OUT m c, ?_, ?_⟩
  · exact (θ_run (Cert.KernelIdeal.defs (F := Ideal)) _ _).mono (fun _ h c => h.1 c) (Cert.KernelIdeal.Hand.run_main (F := Ideal) m g hp)
  · refine (θ_run (Cert.ReferenceIdeal.defs (F := Ideal)) _ _).mono (fun _ h c => ⟨(h c).1.trans ?_, (h c).2⟩) (Cert.ReferenceIdeal.Value.run (F := Ideal) m' g')
    obtain ⟨h0, _, h2, h3, h4⟩ := hag c
    refine (Cert.ReferenceIdeal.Hand.res_eq m' c).trans (Eq.trans ?_ (Cert.KernelIdeal.Hand.OUT_eq m c (hp c)).symm)
    rw [h0, h2, h3, h4]

/-! ## The experts' call -/

/-- The precondition says that every tile's expert exists. -/
theorem small2 {F : FTy → Type} [FloatOps F] (m : (ℓ : Loc Cert.Kernel2Ideal.nD Cert.Kernel2Ideal.τ Cert.Kernel2Ideal.sig) → Buf (Elt F) ℓ)
    (h : ∀ c : Dev Cert.Kernel2Ideal.nD, Cert.Pre_experts_exist.fn (F := F) (m (c.tc.loc Cert.Kernel2Ideal.main_arg0)) (m (c.tc.loc Cert.Kernel2Ideal.main_arg1))
      (m (c.tc.loc Cert.Kernel2Ideal.main_arg2)) (m (c.tc.loc Cert.Kernel2Ideal.main_arg3)) (m (c.tc.loc Cert.Kernel2Ideal.main_arg4))
      (m (c.tc.loc Cert.Kernel2Ideal.main_arg5)) = fun _ => 1#1) (j : Cert.Kernel2Ideal.S72.Idx) :
    ((Cert.Kernel2Ideal.Hand.tbl m 0 : Cert.Kernel2Ideal.S72.Idx → BitVec 32) j).toNat < 8 :=
  Cert.Kernel2Ideal.Hand.te_lt _ _ _ _ _ _ (h 0) j

set_option maxHeartbeats 4000000 in
theorem frame_kernel2 : Cert.quiescent_Kernel2 := fun m g hpre => by
  have h := (θ_run (Cert.Kernel2Ideal.defs (F := Bits)) _ _).mono (fun r h => And.intro (fun c => (h.1 c).2) h.2)
    (Cert.Kernel2Ideal.Hand.run_main (F := Bits) m g (Cert.Kernel2Ideal.Hand.ok_of_lt _ (small2 (F := Bits) m hpre)))
  rw [Cert.Hand.defs2_same]
  exact h

theorem frame_kernel2Ideal : Cert.quiescent_Kernel2Ideal := fun m g hpre =>
  (θ_run (Cert.Kernel2Ideal.defs (F := Ideal)) _ _).mono (fun _ h => ⟨fun c => (h.1 c).2, h.2⟩)
    (Cert.Kernel2Ideal.Hand.run_main (F := Ideal) m g (Cert.Kernel2Ideal.Hand.ok_of_lt _ (small2 (F := Ideal) m hpre)))

theorem frame_reference2Ideal : Cert.quiescent_Reference2Ideal := fun m g _ =>
  (θ_run (Cert.Reference2Ideal.defs (F := Ideal)) _ _).mono (fun r h => ⟨fun c => (h c).2, sem_eq_zero_of_no_sems (by decide) r.2⟩)
    (Cert.Reference2Ideal.Hand.run_whole m g)

theorem frame_reference2Ideal_pre : Cert.quiescent_Reference2Ideal_pre_experts_exist := fun m g _ => frame_reference2Ideal m g trivial

/-- From equal arguments the experts' call and its reference end with equal results. -/
theorem value2 : Cert.algebraic_Kernel2Ideal_Reference2Ideal := fun m g m' g' hpre hag => by
  have hlt := small2 (F := Ideal) m hpre
  have hok := Cert.Kernel2Ideal.Hand.ok_of_lt (F := Ideal) _ hlt
  refine ⟨fun c => Cert.Kernel2Ideal.Hand.OUT m hok c, ?_, ?_⟩
  · exact (θ_run (Cert.Kernel2Ideal.defs (F := Ideal)) _ _).mono (fun _ h c => h.1 c) (Cert.Kernel2Ideal.Hand.run_main (F := Ideal) m g hok)
  · refine (θ_run (Cert.Reference2Ideal.defs (F := Ideal)) _ _).mono (fun _ h c => ⟨(h c).1.trans ?_, (h c).2⟩) (Cert.Reference2Ideal.Hand.run_whole m' g')
    obtain ⟨h0, h1, h2, h3, h4, h5⟩ := hag c
    refine Eq.trans ?_ (Cert.Kernel2Ideal.Hand.OUT_eq m hok c hlt).symm
    rw [h0, h1, h2, h3, h4, h5]
    obtain rfl : c = 0 := Subsingleton.elim (α := Fin 1) c 0
    rfl

/-! ## The combining call -/

/-- The precondition says that every word names a row tile that exists. -/
theorem small3 {F : FTy → Type} [FloatOps F] (m : (ℓ : Loc Cert.Kernel3Ideal.nD Cert.Kernel3Ideal.τ Cert.Kernel3Ideal.sig) → Buf (Elt F) ℓ)
    (h : ∀ c : Dev Cert.Kernel3Ideal.nD, Cert.Pre_rows_exist.fn (F := F) (m (c.tc.loc Cert.Kernel3Ideal.main_arg0)) (m (c.tc.loc Cert.Kernel3Ideal.main_arg1))
      (m (c.tc.loc Cert.Kernel3Ideal.main_arg2)) (m (c.tc.loc Cert.Kernel3Ideal.main_arg3)) (m (c.tc.loc Cert.Kernel3Ideal.main_arg4)) = fun _ => 1#1)
    (c : Dev Cert.Kernel3Ideal.nD) (j : Cert.Kernel3Ideal.S32768.Idx) : (Cert.Kernel3Ideal.Hand.tabP m c j).toNat < 36864 :=
  Cert.Kernel3Ideal.Hand.word_lt _ _ _ _ _ (h c) j

set_option maxHeartbeats 4000000 in
theorem frame_kernel3 : Cert.quiescent_Kernel3 := fun m g hpre => by
  have h := (θ_run (Cert.Kernel3Ideal.defs (F := Bits)) _ _).mono (fun r h => And.intro (fun c => (h.1 c).2) h.2)
    (Cert.Kernel3Ideal.Hand.run_main (F := Bits) m g fun c => Cert.Kernel3Ideal.Hand.inb_of_lt _ (small3 (F := Bits) m hpre c))
  rw [Cert.Hand.defs3_same]
  exact h

theorem frame_kernel3Ideal : Cert.quiescent_Kernel3Ideal := fun m g hpre =>
  (θ_run (Cert.Kernel3Ideal.defs (F := Ideal)) _ _).mono (fun _ h => ⟨fun c => (h.1 c).2, h.2⟩)
    (Cert.Kernel3Ideal.Hand.run_main (F := Ideal) m g fun c => Cert.Kernel3Ideal.Hand.inb_of_lt _ (small3 (F := Ideal) m hpre c))

theorem frame_reference3Ideal : Cert.quiescent_Reference3Ideal := fun m g _ =>
  (θ_run (Cert.Reference3Ideal.defs (F := Ideal)) _ _).mono (fun r h => ⟨fun c => (h c).2, sem_eq_zero_of_no_sems (by decide) r.2⟩)
    (Cert.Reference3Ideal.Value.run (F := Ideal) m g)

theorem frame_reference3Ideal_pre : Cert.quiescent_Reference3Ideal_pre_rows_exist := fun m g _ => frame_reference3Ideal m g trivial

/-- From equal arguments the combining call and its reference end with equal results. -/
theorem value3 : Cert.algebraic_Kernel3Ideal_Reference3Ideal := fun m g m' g' hpre hag => by
  have hlt := small3 (F := Ideal) m hpre
  refine ⟨fun c => Cert.Kernel3Ideal.Hand.OUT m c, ?_, ?_⟩
  · exact (θ_run (Cert.Kernel3Ideal.defs (F := Ideal)) _ _).mono (fun _ h c => h.1 c)
      (Cert.Kernel3Ideal.Hand.run_main (F := Ideal) m g fun c => Cert.Kernel3Ideal.Hand.inb_of_lt _ (hlt c))
  · refine (θ_run (Cert.Reference3Ideal.defs (F := Ideal)) _ _).mono (fun _ h c => ⟨(h c).1.trans ?_, (h c).2⟩) (Cert.Reference3Ideal.Value.run (F := Ideal) m' g')
    obtain ⟨h0, h1, h2, h3, h4⟩ := hag c
    refine Eq.trans ?_ (Cert.Kernel3Ideal.Hand.OUT_eq m c (hlt c)).symm
    rw [h0, h1, h2, h3, h4]
    rfl

/-- The dense call runs and leaves its arguments and counters as it must. -/
theorem frame_kernel4 : Cert.quiescent_Kernel4 := fun m g _ => Cert.Kernel4.Gen.frame m g

/-- The idealized dense call runs, too. -/
theorem frame_kernel4Ideal : Cert.quiescent_Kernel4Ideal := fun m g _ => Cert.Kernel4Ideal.Gen.frame m g

/-- The dense call's reference runs. -/
theorem frame_reference4Ideal : Cert.quiescent_Reference4Ideal := fun m g _ =>
  (θ_run (Cert.Reference4Ideal.defs (F := Ideal)) _ _).mono (fun r h => ⟨fun c => (h c).2, sem_eq_zero_of_no_sems (by decide) r.2⟩)
    (Cert.Reference4Ideal.Value.run (F := Ideal) m g)

/-- From equal arguments the dense call and its reference end with equal results. -/
theorem value4 : Cert.algebraic_Kernel4Ideal_Reference4Ideal := fun m g m' g' _ hag => by
  refine ⟨fun c => (Cert.Kernel4Ideal.Gen.dats m 0 c).arrAt 9 Cert.Kernel4Ideal.cfg0.N, ?_, ?_⟩
  · exact Cert.Kernel4Ideal.Value.run_blocks m g
  · refine (θ_run (Cert.Reference4Ideal.defs (F := Ideal)) _ _).mono (fun _ h c => ⟨(h c).1.trans ?_, (h c).2⟩) (Cert.Reference4Ideal.Value.run (F := Ideal) m' g')
    obtain ⟨h0, h1, h2, h3, h4, h5, h6, h7, h8⟩ := hag c
    refine (Cert.Reference4Ideal.Hand.res_eq m' c).trans ?_
    rw [h0, h1, h2, h3, h4, h5, h6, h7, h8]
    funext y
    rw [eq_ix2 y]
    exact (Cert.Reference4Ideal.Hand.result_apply _ _ _ _ _ _ _ _ _ (y 0) (y 1)).trans (Cert.Kernel4Ideal.Hand.final_apply m c (y 0) (y 1)).symm

/-- The input projection's call runs and leaves its arguments and counters as it must. -/
theorem frame_kernel5 : Cert.quiescent_Kernel5 := fun m g _ => Cert.Kernel5.Gen.frame m g

/-- The idealized input projection runs, too. -/
theorem frame_kernel5Ideal : Cert.quiescent_Kernel5Ideal := fun m g _ => Cert.Kernel5Ideal.Gen.frame m g

/-- The input projection's reference runs. -/
theorem frame_reference5Ideal : Cert.quiescent_Reference5Ideal := fun m g _ =>
  (θ_run (Cert.Reference5Ideal.defs (F := Ideal)) _ _).mono (fun r h => ⟨fun c => (h c).2.2.2.2.2.2.2.2, sem_eq_zero_of_no_sems (by decide) r.2⟩)
    (Cert.Reference5Ideal.Value.run (F := Ideal) m g)

set_option maxHeartbeats 4000000 in
/-- From equal arguments the input projection and its reference end with equal results, all eight. -/
theorem value5 : Cert.algebraic_Kernel5Ideal_Reference5Ideal := fun m g m' g' _ hag => by
  refine ⟨fun c => (Cert.Kernel5Ideal.Gen.dats m 0 c).arrAt 8 Cert.Kernel5Ideal.cfg0.N, fun c => (Cert.Kernel5Ideal.Gen.dats m 0 c).arrAt 9 Cert.Kernel5Ideal.cfg0.N,
    fun c => (Cert.Kernel5Ideal.Gen.dats m 0 c).arrAt 10 Cert.Kernel5Ideal.cfg0.N, fun c => (Cert.Kernel5Ideal.Gen.dats m 0 c).arrAt 11 Cert.Kernel5Ideal.cfg0.N,
    fun c => (Cert.Kernel5Ideal.Gen.dats m 0 c).arrAt 12 Cert.Kernel5Ideal.cfg0.N, fun c => (Cert.Kernel5Ideal.Gen.dats m 0 c).arrAt 13 Cert.Kernel5Ideal.cfg0.N,
    fun c => (Cert.Kernel5Ideal.Gen.dats m 0 c).arrAt 14 Cert.Kernel5Ideal.cfg0.N, fun c => (Cert.Kernel5Ideal.Gen.dats m 0 c).arrAt 15 Cert.Kernel5Ideal.cfg0.N, ?_, ?_⟩
  · exact Cert.Kernel5Ideal.Value.run_blocks m g
  · refine (θ_run (Cert.Reference5Ideal.defs (F := Ideal)) _ _).mono (fun _ h c => ?_) (Cert.Reference5Ideal.Value.run (F := Ideal) m' g')
    obtain ⟨r0, r1, r2, r3, r4, r5, r6, r7, hargs⟩ := h c
    obtain ⟨h0, h1, h2, h3, h4, h5⟩ := hag c
    refine ⟨r0.trans ?_, r1.trans ?_, r2.trans ?_, r3.trans ?_, r4.trans ?_, r5.trans ?_, r6.trans ?_, r7.trans ?_, hargs⟩
    · exact Cert.Hand.same0 m c _ _ _ _ h0 h1 h2 h3
    · exact Cert.Hand.same1 m c _ _ _ _ h0 h1 h2 h3
    · exact Cert.Hand.same2 m c _ _ _ _ h0 h1 h2 h3
    · exact Cert.Hand.same3 m c _ _ _ _ h0 h1 h2 h3
    · exact (Cert.Reference5Ideal.Hand.res157_eq m' c).trans (Cert.Hand.same4 m c _ _ _ _ _ h0 h1 h2 h3 h4)
    · exact (Cert.Reference5Ideal.Hand.res135_eq m' c).trans (Cert.Hand.same5 m c _ _ _ _ _ h0 h1 h2 h3 h5)
    · exact (Cert.Reference5Ideal.Hand.res140_eq m' c).trans (Cert.Hand.same6 m c _ _ _ _ _ h0 h1 h2 h3 h5)
    · exact Cert.Hand.same7 m c _ _ _ _ h0 h1 h2 h3

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_rows_permuted.Gen.facts, Cert.Pre_experts_exist.Gen.facts, Cert.Pre_rows_exist.Gen.facts,
    frame_kernel, frame_kernelIdeal, frame_referenceIdeal, frame_referenceIdeal_pre, frame_kernel2, frame_kernel2Ideal, frame_reference2Ideal,
    frame_reference2Ideal_pre, frame_kernel3, frame_kernel3Ideal, frame_reference3Ideal, frame_reference3Ideal_pre,
    frame_kernel4, frame_kernel4Ideal, frame_reference4Ideal, frame_kernel5, frame_kernel5Ideal, frame_reference5Ideal,
    trivial, value, trivial, value2, trivial, value3, trivial, value4, trivial, value5⟩

end Cert.Proof

end
